-- ==== Defs.lean ====
def Pre_Kernel [hPre_groups_fit : Cert.Pre_groups_fit.Facts] (m : (ℓ : Loc Cert.Kernel.nD Cert.Kernel.τ Cert.Kernel.sig) → Buf (Elt Bits) ℓ) : Prop :=
  ∀ c : Dev Cert.Kernel.nD,
    (Cert.Pre_groups_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_groups_fit : Cert.Pre_groups_fit.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_valid_problem [hPre_valid_problem : Cert.Pre_valid_problem.Facts] (m : (ℓ : Loc Cert.KernelIdeal.nD Cert.KernelIdeal.τ Cert.KernelIdeal.sig) → Buf (Elt Ideal) ℓ) : Prop :=
  ∀ c : Dev Cert.KernelIdeal.nD,
    (Cert.Pre_valid_problem.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_problem [hPre_valid_problem : Cert.Pre_valid_problem.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_problem.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_groups_fit : Cert.Pre_groups_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_groups_fit : Cert.Pre_groups_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_valid_problem [hKernelIdeal : Cert.KernelIdeal.Facts] [hPre_valid_problem : Cert.Pre_valid_problem.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid_problem m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_valid_problem [hReferenceIdeal : Cert.ReferenceIdeal.Facts] [hPre_valid_problem : Cert.Pre_valid_problem.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_problem m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_valid_problem [hKernelIdeal : Cert.KernelIdeal.Facts] [hReferenceIdeal : Cert.ReferenceIdeal.Facts] [hPre_valid_problem : Cert.Pre_valid_problem.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid_problem m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_groups_fit : Cert.Pre_groups_fit.Facts) (hPre_valid_problem : Cert.Pre_valid_problem.Facts),
    quiescent_Kernel (hKernel := hKernel) (hPre_groups_fit := hPre_groups_fit)
    ∧ quiescent_KernelIdeal (hKernelIdeal := hKernelIdeal) (hPre_groups_fit := hPre_groups_fit)
    ∧ quiescent_KernelIdeal_pre_valid_problem (hKernelIdeal := hKernelIdeal) (hPre_valid_problem := hPre_valid_problem)
    ∧ quiescent_ReferenceIdeal (hReferenceIdeal := hReferenceIdeal)
    ∧ quiescent_ReferenceIdeal_pre_valid_problem (hReferenceIdeal := hReferenceIdeal) (hPre_valid_problem := hPre_valid_problem)
    ∧ preserves_Kernel_KernelIdeal
    ∧ algebraic_KernelIdeal_ReferenceIdeal_pre_valid_problem (hKernelIdeal := hKernelIdeal) (hReferenceIdeal := hReferenceIdeal) (hPre_valid_problem := hPre_valid_problem)
-- ==== Pre_groups_fit.lean ====
abbrev S256x5120 : Shape := ⟨2, ![256, 5120]⟩
abbrev S256 : Shape := ⟨1, ![256]⟩
abbrev S21 : Shape := ⟨1, ![21]⟩
abbrev S21x2560x3072 : Shape := ⟨3, ![21, 2560, 3072]⟩
abbrev S21x160x3072 : Shape := ⟨3, ![21, 160, 3072]⟩
abbrev S21x3072 : Shape := ⟨2, ![21, 3072]⟩
abbrev S_ : Shape := ⟨0, ![]⟩

class Facts : Prop where
  bcast_S_S21 : S_.BroadcastsInDim S21 (![] : Fin 0 → Fin S21.rank)
  reducesTo_S21_S_d0 : S21.ReducesTo [0] S_
  h_S_ : 0 < S_.numel

variable [Facts]

def fn {F : FTy → Type} [FloatOps F] (main_arg0 : FVec F S256x5120 .fp8e4m3) (main_arg1 : FVec F S256 .f32) (main_arg2 : IVec S21 32) (main_arg3 : FVec F S21x2560x3072 .fp8e4m3) (main_arg4 : IVec S21x160x3072 32) (main_arg5 : FVec F S21x3072 .f32) : IVec S_ 1 :=
  let main_c : IVec S_ 32 := constantI S_ 32 0#32
  let main_v0 : IVec S21 32 := broadcastInDim S21 ![] bcast_S_S21 main_c
  let main_v1 : IVec S21 1 := cmpi .sge main_arg2 main_v0
  let main_c_0 : IVec S_ 32 := constantI S_ 32 256#32
  let main_v2 : IVec S21 32 := broadcastInDim S21 ![] bcast_S_S21 main_c_0
  let main_v3 : IVec S21 1 := cmpi .sle main_arg2 main_v2
  let main_v4 : IVec S21 1 := andi main_v1 main_v3
  let main_c_1 : IVec S_ 1 := constantI S_ 1 1#1
  let main_v5 : IVec S_ 1 := (fun x v => Host.reduce IntOp.andi x v reducesTo_S21_S_d0 h_S_) main_v4 main_c_1
  let main_c_2 : IVec S_ 32 := constantI S_ 32 0#32
  let main_v6 : IVec S_ 32 := (fun x v => Host.reduce IntOp.addi x v reducesTo_S21_S_d0 h_S_) main_arg2 main_c_2
  let main_c_3 : IVec S_ 32 := constantI S_ 32 256#32
  let main_v7 : IVec S_ 1 := cmpi .sle main_v6 main_c_3
  let main_v8 : IVec S_ 1 := andi main_v5 main_v7
  main_v8
-- ==== Pre_valid_problem.lean ====
abbrev S256x5120 : Shape := ⟨2, ![256, 5120]⟩
abbrev S256 : Shape := ⟨1, ![256]⟩
abbrev S21 : Shape := ⟨1, ![21]⟩
abbrev S21x2560x3072 : Shape := ⟨3, ![21, 2560, 3072]⟩
abbrev S21x160x3072 : Shape := ⟨3, ![21, 160, 3072]⟩
abbrev S21x3072 : Shape := ⟨2, ![21, 3072]⟩
abbrev S_ : Shape := ⟨0, ![]⟩
abbrev S16 : Shape := ⟨1, ![16]⟩
abbrev S1x1x16x1 : Shape := ⟨4, ![1, 1, 16, 1]⟩
abbrev S21x160x1x3072 : Shape := ⟨4, ![21, 160, 1, 3072]⟩
abbrev S21x160x16x3072 : Shape := ⟨4, ![21, 160, 16, 3072]⟩
abbrev S21x160x8x3072 : Shape := ⟨4, ![21, 160, 8, 3072]⟩

class Facts : Prop where
  bcast_S_S21 : S_.BroadcastsInDim S21 (![] : Fin 0 → Fin S21.rank)
  reducesTo_S21_S_d0 : S21.ReducesTo [0] S_
  h_S_ : 0 < S_.numel
  bcast_S_S16 : S_.BroadcastsInDim S16 (![] : Fin 0 → Fin S16.rank)
  bcast_S16_S1x1x16x1_2 : S16.BroadcastsInDim S1x1x16x1 (![2] : Fin 1 → Fin S1x1x16x1.rank)
  bcast_S21x160x3072_S21x160x1x3072_0_1_3 : S21x160x3072.BroadcastsInDim S21x160x1x3072 (![0, 1, 3] : Fin 3 → Fin S21x160x1x3072.rank)
  bcast_S21x160x1x3072_S21x160x16x3072_0_1_2_3 : S21x160x1x3072.BroadcastsInDim S21x160x16x3072 (![0, 1, 2, 3] : Fin 4 → Fin S21x160x16x3072.rank)
  bcast_S1x1x16x1_S21x160x16x3072_0_1_2_3 : S1x1x16x1.BroadcastsInDim S21x160x16x3072 (![0, 1, 2, 3] : Fin 4 → Fin S21x160x16x3072.rank)
  bcast_S_S21x160x16x3072 : S_.BroadcastsInDim S21x160x16x3072 (![] : Fin 0 → Fin S21x160x16x3072.rank)
  slicesBy_S21x160x16x3072_S21x160x8x3072_0s1_0s1_0s2_0s1 : S21x160x16x3072.SlicesBy (![0, 0, 0, 0] : Fin 4 → Nat) ![1, 1, 2, 1] S21x160x8x3072
  slicesBy_S21x160x16x3072_S21x160x8x3072_0s1_0s1_1s2_0s1 : S21x160x16x3072.SlicesBy (![0, 0, 1, 0] : Fin 4 → Nat) ![1, 1, 2, 1] S21x160x8x3072
  reducesTo_S21x160x8x3072_S_d0_1_2_3 : S21x160x8x3072.ReducesTo [0, 1, 2, 3] S_

variable [Facts]

def fn_part1 {F : FTy → Type} [FloatOps F] (main_v5 : IVec S_ 1) (main_v7 : IVec S_ 1) (main_v15 : IVec S21x160x16x3072 32) (main_v16 : IVec S21x160x16x3072 32) : IVec S_ 1 :=
  let main_v17 : IVec S21x160x16x3072 32 := andi main_v15 main_v16
  let main_v18 : IVec S_ 1 := andi main_v5 main_v7
  let main_v19 : IVec S21x160x8x3072 32 := (Host.slice S21x160x8x3072 ![0, 0, 0, 0] ![1, 1, 2, 1] · slicesBy_S21x160x16x3072_S21x160x8x3072_0s1_0s1_0s2_0s1) main_v17
  let main_v20 : IVec S21x160x8x3072 32 := (Host.slice S21x160x8x3072 ![0, 0, 1, 0] ![1, 1, 2, 1] · slicesBy_S21x160x16x3072_S21x160x8x3072_0s1_0s1_1s2_0s1) main_v17
  let main_v21 : IVec S21x160x8x3072 1 := cmpi .slt main_v19 main_v20
  let main_c_6 : IVec S_ 1 := constantI S_ 1 1#1
  let main_v22 : IVec S_ 1 := (fun x v => Host.reduce IntOp.andi x v reducesTo_S21x160x8x3072_S_d0_1_2_3 h_S_) main_v21 main_c_6
  let main_v23 : IVec S_ 1 := andi main_v18 main_v22
  main_v23

def fn {F : FTy → Type} [FloatOps F] (main_arg0 : FVec F S256x5120 .fp8e4m3) (main_arg1 : FVec F S256 .f32) (main_arg2 : IVec S21 32) (main_arg3 : FVec F S21x2560x3072 .fp8e4m3) (main_arg4 : IVec S21x160x3072 32) (main_arg5 : FVec F S21x3072 .f32) : IVec S_ 1 :=
  let main_c : IVec S_ 32 := constantI S_ 32 0#32
  let main_v0 : IVec S21 32 := broadcastInDim S21 ![] bcast_S_S21 main_c
  let main_v1 : IVec S21 1 := cmpi .sge main_arg2 main_v0
  let main_c_0 : IVec S_ 32 := constantI S_ 32 256#32
  let main_v2 : IVec S21 32 := broadcastInDim S21 ![] bcast_S_S21 main_c_0
  let main_v3 : IVec S21 1 := cmpi .sle main_arg2 main_v2
  let main_v4 : IVec S21 1 := andi main_v1 main_v3
  let main_c_1 : IVec S_ 1 := constantI S_ 1 1#1
  let main_v5 : IVec S_ 1 := (fun x v => Host.reduce IntOp.andi x v reducesTo_S21_S_d0 h_S_) main_v4 main_c_1
  let main_c_2 : IVec S_ 32 := constantI S_ 32 0#32
  let main_v6 : IVec S_ 32 := (fun x v => Host.reduce IntOp.addi x v reducesTo_S21_S_d0 h_S_) main_arg2 main_c_2
  let main_c_3 : IVec S_ 32 := constantI S_ 32 256#32
  let main_v7 : IVec S_ 1 := cmpi .eq main_v6 main_c_3
  let main_v8 : IVec S16 32 := iotaInDim S16 32 0
  let main_c_4 : IVec S_ 32 := constantI S_ 32 2#32
  let main_v9 : IVec S16 32 := broadcastInDim S16 ![] bcast_S_S16 main_c_4
  let main_v10 : IVec S16 32 := muli main_v9 main_v8
  let main_v11 : IVec S1x1x16x1 32 := broadcastInDim S1x1x16x1 ![2] bcast_S16_S1x1x16x1_2 main_v10
  let main_v12 : IVec S21x160x1x3072 32 := broadcastInDim S21x160x1x3072 ![0, 1, 3] bcast_S21x160x3072_S21x160x1x3072_0_1_3 main_arg4
  let main_v13 : IVec S21x160x16x3072 32 := broadcastInDim S21x160x16x3072 ![0, 1, 2, 3] bcast_S21x160x1x3072_S21x160x16x3072_0_1_2_3 main_v12
  let main_v14 : IVec S21x160x16x3072 32 := broadcastInDim S21x160x16x3072 ![0, 1, 2, 3] bcast_S1x1x16x1_S21x160x16x3072_0_1_2_3 main_v11
  let main_v15 : IVec S21x160x16x3072 32 := Host.shrsi main_v13 main_v14
  let main_c_5 : IVec S_ 32 := constantI S_ 32 3#32
  let main_v16 : IVec S21x160x16x3072 32 := broadcastInDim S21x160x16x3072 ![] bcast_S_S21x160x16x3072 main_c_5
  fn_part1 (F := F) main_v5 main_v7 main_v15 main_v16
-- ==== Kernel.lean ====
abbrev S256x5120 : Shape := ⟨2, ![256, 5120]⟩
abbrev S256 : Shape := ⟨1, ![256]⟩
abbrev S21 : Shape := ⟨1, ![21]⟩
abbrev S21x2560x3072 : Shape := ⟨3, ![21, 2560, 3072]⟩
abbrev S21x160x3072 : Shape := ⟨3, ![21, 160, 3072]⟩
abbrev S21x3072 : Shape := ⟨2, ![21, 3072]⟩
abbrev S1x256 : Shape := ⟨2, ![1, 256]⟩
abbrev S256x3072 : Shape := ⟨2, ![256, 3072]⟩
abbrev S256x2560 : Shape := ⟨2, ![256, 2560]⟩
abbrev S256x128 : Shape := ⟨2, ![256, 128]⟩
abbrev S4x64 : Shape := ⟨2, ![4, 64]⟩
abbrev S6x2560x512 : Shape := ⟨3, ![6, 2560, 512]⟩
abbrev S6x160x512 : Shape := ⟨3, ![6, 160, 512]⟩
abbrev S6 : Shape := ⟨1, ![6]⟩
abbrev S1 : Shape := ⟨1, ![1]⟩
abbrev S1x1 : Shape := ⟨2, ![1, 1]⟩
abbrev S_ : Shape := ⟨0, ![]⟩
abbrev S1x2560x512 : Shape := ⟨3, ![1, 2560, 512]⟩
abbrev S2560x512 : Shape := ⟨2, ![2560, 512]⟩
abbrev S1x160x512 : Shape := ⟨3, ![1, 160, 512]⟩
abbrev S160x512 : Shape := ⟨2, ![160, 512]⟩
abbrev S256x256 : Shape := ⟨2, ![256, 256]⟩
abbrev S1x128 : Shape := ⟨2, ![1, 128]⟩
abbrev S128x128 : Shape := ⟨2, ![128, 128]⟩
abbrev S128x256 : Shape := ⟨2, ![128, 256]⟩
abbrev S1x256x256 : Shape := ⟨3, ![1, 256, 256]⟩
abbrev S1x16x256 : Shape := ⟨3, ![1, 16, 256]⟩
abbrev S16x256 : Shape := ⟨2, ![16, 256]⟩
abbrev S16x1x256 : Shape := ⟨3, ![16, 1, 256]⟩
abbrev S16x16x256 : Shape := ⟨3, ![16, 16, 256]⟩
abbrev S255x256 : Shape := ⟨2, ![255, 256]⟩

abbrev nBuf : Space → Nat
  | .hbm => 8
  | .vmem => 10
  | .smem => 2
  | _ => 0

abbrev bufTy : (tb : Table) → Fin (tcTables nBuf tb) → BufTy
  | .hbm, ⟨0, _⟩ => ⟨S256x5120, .fp8e4m3⟩
  | .hbm, ⟨1, _⟩ => ⟨S256, .f32⟩
  | .hbm, ⟨2, _⟩ => ⟨S21, .i32⟩
  | .hbm, ⟨3, _⟩ => ⟨S21x2560x3072, .fp8e4m3⟩
  | .hbm, ⟨4, _⟩ => ⟨S21x160x3072, .i32⟩
  | .hbm, ⟨5, _⟩ => ⟨S21x3072, .f32⟩
  | .hbm, ⟨6, _⟩ => ⟨S1x256, .f32⟩
  | .hbm, ⟨7, _⟩ => ⟨S256x3072, .bf16⟩
  | .local _ .vmem, ⟨0, _⟩ => ⟨S1x256, .f32⟩
  | .local _ .vmem, ⟨1, _⟩ => ⟨S21x3072, .f32⟩
  | .local _ .vmem, ⟨2, _⟩ => ⟨S256x5120, .fp8e4m3⟩
  | .local _ .vmem, ⟨3, _⟩ => ⟨S256x3072, .bf16⟩
  | .local _ .vmem, ⟨4, _⟩ => ⟨S256x2560, .fp8e4m3⟩
  | .local _ .vmem, ⟨5, _⟩ => ⟨S256x2560, .fp8e4m3⟩
  | .local _ .vmem, ⟨6, _⟩ => ⟨S256x2560, .fp8e4m3⟩
  | .local _ .vmem, ⟨7, _⟩ => ⟨S256x128, .f32⟩
  | .local _ .vmem, ⟨8, _⟩ => ⟨S6x2560x512, .fp8e4m3⟩
  | .local _ .vmem, ⟨9, _⟩ => ⟨S6x160x512, .i32⟩
  | .local _ .smem, ⟨0, _⟩ => ⟨S21, .i32⟩
  | .local _ .smem, ⟨1, _⟩ => ⟨S4x64, .i32⟩
  | _, _ => ⟨S256x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch5 : Ref sig .tc := ⟨.vmem, 8, rfl⟩
abbrev cc0_scratch6 : Ref sig .tc := ⟨.vmem, 9, rfl⟩
abbrev cc0_stg0_0 : Ref sig .tc := ⟨.smem, 0, rfl⟩
abbrev cc0_scratch4 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c21_i32 : BitVec 32 := 21#32
  let v0 : BitVec 32 := Scalar.addi c0_i32_1 c21_i32
  let c1_i32 : BitVec 32 := 1#32
  ⟨c0_i32_1, v0, c1_i32⟩
def k0_off1 (k0_t1 : Fin k0_t1_loop.trips) : Fin 1 → Nat :=
  let c0_i32_1 : BitVec 32 := 0#32
  let c1_i32 : BitVec 32 := 1#32
  let arg16 : BitVec 32 := Scf.iv c0_i32_1 c1_i32 k0_t1
  let v395 : Index := Scalar.indexCast arg16
  ![v395.toNat]
def k0_off2 (arg19 : BitVec 32) : Fin 2 → Nat :=
  let c0_226 : Index := 0#32
  let v402 : Index := Scalar.indexCast arg19
  ![0, v402.toNat]

def k0_off3 (arg19 : BitVec 32) : Fin 2 → Nat :=
  let c1 : Index := 1#32
  let v405 : Index := Scalar.indexCast arg19
  ![1, v405.toNat]
def k0_off4 (arg19 : BitVec 32) : Fin 2 → Nat :=
  let c2 : Index := 2#32
  let v408 : Index := Scalar.indexCast arg19
  ![2, v408.toNat]
def k0_off5 (arg19 : BitVec 32) : Fin 2 → Nat :=
  let c3 : Index := 3#32
  let v412 : Index := Scalar.indexCast arg19
  ![3, v412.toNat]

def k0_chk1 (arg19 : BitVec 32) : Prop :=
  (∀ a, (k0_off2 arg19) a + S1x1.size a ≤ S4x64.size a) ∧
  (∀ a, (k0_off3 arg19) a + S1x1.size a ≤ S4x64.size a) ∧
  (∀ a, (k0_off4 arg19) a + S1x1.size a ≤ S4x64.size a) ∧
  (∀ a, (k0_off5 arg19) a + S1x1.size a ≤ S4x64.size a)
theorem k0_off2_inb : ∀ (arg19 : BitVec 32) (k0_hw1 : k0_chk1 arg19), ∀ a, (k0_off2 arg19) a + S1x1.size a ≤ S4x64.size a := fun arg19 k0_hw1 => k0_hw1.1
theorem k0_off3_inb : ∀ (arg19 : BitVec 32) (k0_hw1 : k0_chk1 arg19), ∀ a, (k0_off3 arg19) a + S1x1.size a ≤ S4x64.size a := fun arg19 k0_hw1 => k0_hw1.2.1
theorem k0_off4_inb : ∀ (arg19 : BitVec 32) (k0_hw1 : k0_chk1 arg19), ∀ a, (k0_off4 arg19) a + S1x1.size a ≤ S4x64.size a := fun arg19 k0_hw1 => k0_hw1.2.2.1
theorem k0_off5_inb : ∀ (arg19 : BitVec 32) (k0_hw1 : k0_chk1 arg19), ∀ a, (k0_off5 arg19) a + S1x1.size a ≤ S4x64.size a := fun arg19 k0_hw1 => k0_hw1.2.2.2

def k0_off6 (v1_0 : BitVec 32) : Fin 2 → Nat :=
  let c0_227 : Index := 0#32
  let c0_i32_226 : BitVec 32 := 0#32
  let c0_i32_225 : BitVec 32 := 0#32
  let v395 : BitVec 32 := Scalar.divsi c0_i32_225 v1_0
  let v396 : BitVec 32 := Scalar.muli v395 v1_0
  let v397 : BitVec 32 := Scalar.subi c0_i32_226 v396
  let v398 : Index := Scalar.indexCast v397
  ![0, v398.toNat]
def k0_cond1 (v1_0 : BitVec 32) : BitVec 1 :=
  let c6_i32 : BitVec 32 := 6#32
  let v2 : BitVec 32 := Scalar.muli v1_0 c6_i32
  let c0_i32_3 : BitVec 32 := 0#32
  let v3 : BitVec 1 := Scalar.cmpi .sgt v2 c0_i32_3
  let v4 : BitVec 32 := Scalar.extui v3
  let c0_i32_4 : BitVec 32 := 0#32
  let v5 : BitVec 1 := Scalar.cmpi .ne v4 c0_i32_4
  v5

def k0_mult1 (v1_0 : BitVec 32) : BitVec 32 :=
  let c0_i32_225 : BitVec 32 := 0#32
  let v395 : BitVec 32 := Scalar.divsi c0_i32_225 v1_0
  let c512_i32 : BitVec 32 := 512#32
  let v401 : BitVec 32 := Scalar.muli v395 c512_i32
  v401
def k0_off7 : Fin 1 → Nat :=
  let c0_i32_228 : BitVec 32 := 0#32
  let c6_i32_229 : BitVec 32 := 6#32
  let v400 : BitVec 32 := Scalar.remsi c0_i32_228 c6_i32_229
  ![v400.toNat]
def k0_off8 : Fin 3 → Nat :=
  let c0_i32_228 : BitVec 32 := 0#32
  let c6_i32_229 : BitVec 32 := 6#32
  let v400 : BitVec 32 := Scalar.remsi c0_i32_228 c6_i32_229
  let c0_i32_230 : BitVec 32 := 0#32
  let c0_i32_231 : BitVec 32 := 0#32
  ![v400.toNat, 0, 0]
def k0_off9 (v1_0 : BitVec 32) (v399 : BitVec 32) : Fin 3 → Nat :=
  let c0_i32_232 : BitVec 32 := 0#32
  let c0_i32_225 : BitVec 32 := 0#32
  let v395 : BitVec 32 := Scalar.divsi c0_i32_225 v1_0
  let c512_i32 : BitVec 32 := 512#32
  let v401 : BitVec 32 := Scalar.muli v395 c512_i32
  let v402 : BitVec 32 := v401
  ![v399.toNat, 0, v402.toNat]

def k0_off10 : Fin 1 → Nat :=
  let c0_i32_228 : BitVec 32 := 0#32
  let c6_i32_229 : BitVec 32 := 6#32
  let v400 : BitVec 32 := Scalar.remsi c0_i32_228 c6_i32_229
  ![v400.toNat]
def k0_off11 : Fin 3 → Nat :=
  let c0_i32_228 : BitVec 32 := 0#32
  let c6_i32_229 : BitVec 32 := 6#32
  let v400 : BitVec 32 := Scalar.remsi c0_i32_228 c6_i32_229
  let c0_i32_233 : BitVec 32 := 0#32
  let c0_i32_234 : BitVec 32 := 0#32
  ![v400.toNat, 0, 0]
def k0_off12 (v1_0 : BitVec 32) (v399 : BitVec 32) : Fin 3 → Nat :=
  let c0_i32_235 : BitVec 32 := 0#32
  let c0_i32_225 : BitVec 32 := 0#32
  let v395 : BitVec 32 := Scalar.divsi c0_i32_225 v1_0
  let c512_i32 : BitVec 32 := 512#32
  let v401 : BitVec 32 := Scalar.muli v395 c512_i32
  let v402 : BitVec 32 := v401
  ![v399.toNat, 0, v402.toNat]

def k0_chk3 (v1_0 : BitVec 32) (v399 : BitVec 32) : Prop :=
  (∀ (k0_h1 : k0_cond1 v1_0 = 1#1), ∀ a, (k0_off9 v1_0 v399) a + S1x2560x512.size a ≤ S21x2560x3072.size a) ∧
  (∀ (k0_h1 : k0_cond1 v1_0 = 1#1), ∀ (hinb : ∀ a, (k0_off9 v1_0 v399) a + S1x2560x512.size a ≤ S21x2560x3072.size a), (Rect.unit (s := S21x2560x3072) (k0_off9 v1_0 v399) S1x2560x512.size hinb).WholeWords (EltTy.packing .fp8e4m3)) ∧
  (∀ (k0_h1 : k0_cond1 v1_0 = 1#1), ∀ a, (k0_off12 v1_0 v399) a + S1x160x512.size a ≤ S21x160x3072.size a)
theorem k0_off9_inb : ∀ (v1_0 : BitVec 32) (v399 : BitVec 32) (k0_hw3 : k0_chk3 v1_0 v399), ∀ (k0_h1 : k0_cond1 v1_0 = 1#1), ∀ a, (k0_off9 v1_0 v399) a + S1x2560x512.size a ≤ S21x2560x3072.size a := fun v1_0 v399 k0_hw3 k0_h1 => k0_hw3.1 k0_h1
theorem k0_off9_wordsfp8e4m3 : ∀ (v1_0 : BitVec 32) (v399 : BitVec 32) (k0_hw3 : k0_chk3 v1_0 v399), ∀ (k0_h1 : k0_cond1 v1_0 = 1#1), (Rect.unit (s := S21x2560x3072) (k0_off9 v1_0 v399) S1x2560x512.size (k0_off9_inb v1_0 v399 k0_hw3 k0_h1)).WholeWords (EltTy.packing .fp8e4m3) := fun v1_0 v399 k0_hw3 k0_h1 => k0_hw3.2.1 k0_h1 (k0_off9_inb v1_0 v399 k0_hw3 k0_h1)
theorem k0_off12_inb : ∀ (v1_0 : BitVec 32) (v399 : BitVec 32) (k0_hw3 : k0_chk3 v1_0 v399), ∀ (k0_h1 : k0_cond1 v1_0 = 1#1), ∀ a, (k0_off12 v1_0 v399) a + S1x160x512.size a ≤ S21x160x3072.size a := fun v1_0 v399 k0_hw3 k0_h1 => k0_hw3.2.2 k0_h1

def k0_off13 (v1_0 : BitVec 32) : Fin 2 → Nat :=
  let c0_227 : Index := 0#32
  let c1_i32_226 : BitVec 32 := 1#32
  let c1_i32_225 : BitVec 32 := 1#32
  let v395 : BitVec 32 := Scalar.divsi c1_i32_225 v1_0
  let v396 : BitVec 32 := Scalar.muli v395 v1_0
  let v397 : BitVec 32 := Scalar.subi c1_i32_226 v396
  let v398 : Index := Scalar.indexCast v397
  ![0, v398.toNat]
def k0_cond2 (v1_0 : BitVec 32) : BitVec 1 :=
  let c6_i32 : BitVec 32 := 6#32
  let v2 : BitVec 32 := Scalar.muli v1_0 c6_i32
  let c1_i32_5 : BitVec 32 := 1#32
  let v6 : BitVec 1 := Scalar.cmpi .sgt v2 c1_i32_5
  let v7 : BitVec 32 := Scalar.extui v6
  let c0_i32_6 : BitVec 32 := 0#32
  let v8 : BitVec 1 := Scalar.cmpi .ne v7 c0_i32_6
  v8

def k0_mult2 (v1_0 : BitVec 32) : BitVec 32 :=
  let c1_i32_225 : BitVec 32 := 1#32
  let v395 : BitVec 32 := Scalar.divsi c1_i32_225 v1_0
  let c512_i32 : BitVec 32 := 512#32
  let v401 : BitVec 32 := Scalar.muli v395 c512_i32
  v401
def k0_off14 : Fin 1 → Nat :=
  let c1_i32_228 : BitVec 32 := 1#32
  let c6_i32_229 : BitVec 32 := 6#32
  let v400 : BitVec 32 := Scalar.remsi c1_i32_228 c6_i32_229
  ![v400.toNat]
def k0_off15 : Fin 3 → Nat :=
  let c1_i32_228 : BitVec 32 := 1#32
  let c6_i32_229 : BitVec 32 := 6#32
  let v400 : BitVec 32 := Scalar.remsi c1_i32_228 c6_i32_229
  let c0_i32_230 : BitVec 32 := 0#32
  let c0_i32_231 : BitVec 32 := 0#32
  ![v400.toNat, 0, 0]
def k0_off16 (v1_0 : BitVec 32) (v399 : BitVec 32) : Fin 3 → Nat :=
  let c0_i32_232 : BitVec 32 := 0#32
  let c1_i32_225 : BitVec 32 := 1#32
  let v395 : BitVec 32 := Scalar.divsi c1_i32_225 v1_0
  let c512_i32 : BitVec 32 := 512#32
  let v401 : BitVec 32 := Scalar.muli v395 c512_i32
  let v402 : BitVec 32 := v401
  ![v399.toNat, 0, v402.toNat]

def k0_off17 : Fin 1 → Nat :=
  let c1_i32_228 : BitVec 32 := 1#32
  let c6_i32_229 : BitVec 32 := 6#32
  let v400 : BitVec 32 := Scalar.remsi c1_i32_228 c6_i32_229
  ![v400.toNat]
def k0_off18 : Fin 3 → Nat :=
  let c1_i32_228 : BitVec 32 := 1#32
  let c6_i32_229 : BitVec 32 := 6#32
  let v400 : BitVec 32 := Scalar.remsi c1_i32_228 c6_i32_229
  let c0_i32_233 : BitVec 32 := 0#32
  let c0_i32_234 : BitVec 32 := 0#32
  ![v400.toNat, 0, 0]
def k0_off19 (v1_0 : BitVec 32) (v399 : BitVec 32) : Fin 3 → Nat :=
  let c0_i32_235 : BitVec 32 := 0#32
  let c1_i32_225 : BitVec 32 := 1#32
  let v395 : BitVec 32 := Scalar.divsi c1_i32_225 v1_0
  let c512_i32 : BitVec 32 := 512#32
  let v401 : BitVec 32 := Scalar.muli v395 c512_i32
  let v402 : BitVec 32 := v401
  ![v399.toNat, 0, v402.toNat]

def k0_chk4 (v1_0 : BitVec 32) (v399 : BitVec 32) : Prop :=
  (∀ (k0_h2 : k0_cond2 v1_0 = 1#1), ∀ a, (k0_off16 v1_0 v399) a + S1x2560x512.size a ≤ S21x2560x3072.size a) ∧
  (∀ (k0_h2 : k0_cond2 v1_0 = 1#1), ∀ (hinb : ∀ a, (k0_off16 v1_0 v399) a + S1x2560x512.size a ≤ S21x2560x3072.size a), (Rect.unit (s := S21x2560x3072) (k0_off16 v1_0 v399) S1x2560x512.size hinb).WholeWords (EltTy.packing .fp8e4m3)) ∧
  (∀ (k0_h2 : k0_cond2 v1_0 = 1#1), ∀ a, (k0_off19 v1_0 v399) a + S1x160x512.size a ≤ S21x160x3072.size a)
theorem k0_off16_inb : ∀ (v1_0 : BitVec 32) (v399 : BitVec 32) (k0_hw4 : k0_chk4 v1_0 v399), ∀ (k0_h2 : k0_cond2 v1_0 = 1#1), ∀ a, (k0_off16 v1_0 v399) a + S1x2560x512.size a ≤ S21x2560x3072.size a := fun v1_0 v399 k0_hw4 k0_h2 => k0_hw4.1 k0_h2
theorem k0_off16_wordsfp8e4m3 : ∀ (v1_0 : BitVec 32) (v399 : BitVec 32) (k0_hw4 : k0_chk4 v1_0 v399), ∀ (k0_h2 : k0_cond2 v1_0 = 1#1), (Rect.unit (s := S21x2560x3072) (k0_off16 v1_0 v399) S1x2560x512.size (k0_off16_inb v1_0 v399 k0_hw4 k0_h2)).WholeWords (EltTy.packing .fp8e4m3) := fun v1_0 v399 k0_hw4 k0_h2 => k0_hw4.2.1 k0_h2 (k0_off16_inb v1_0 v399 k0_hw4 k0_h2)
theorem k0_off19_inb : ∀ (v1_0 : BitVec 32) (v399 : BitVec 32) (k0_hw4 : k0_chk4 v1_0 v399), ∀ (k0_h2 : k0_cond2 v1_0 = 1#1), ∀ a, (k0_off19 v1_0 v399) a + S1x160x512.size a ≤ S21x160x3072.size a := fun v1_0 v399 k0_hw4 k0_h2 => k0_hw4.2.2 k0_h2

def k0_off20 (v1_0 : BitVec 32) : Fin 2 → Nat :=
  let c0_227 : Index := 0#32
  let c2_i32_226 : BitVec 32 := 2#32
  let c2_i32_225 : BitVec 32 := 2#32
  let v395 : BitVec 32 := Scalar.divsi c2_i32_225 v1_0
  let v396 : BitVec 32 := Scalar.muli v395 v1_0
  let v397 : BitVec 32 := Scalar.subi c2_i32_226 v396
  let v398 : Index := Scalar.indexCast v397
  ![0, v398.toNat]
def k0_cond3 (v1_0 : BitVec 32) : BitVec 1 :=
  let c6_i32 : BitVec 32 := 6#32
  let v2 : BitVec 32 := Scalar.muli v1_0 c6_i32
  let c2_i32 : BitVec 32 := 2#32
  let v9 : BitVec 1 := Scalar.cmpi .sgt v2 c2_i32
  let v10 : BitVec 32 := Scalar.extui v9
  let c0_i32_7 : BitVec 32 := 0#32
  let v11 : BitVec 1 := Scalar.cmpi .ne v10 c0_i32_7
  v11

def k0_mult3 (v1_0 : BitVec 32) : BitVec 32 :=
  let c2_i32_225 : BitVec 32 := 2#32
  let v395 : BitVec 32 := Scalar.divsi c2_i32_225 v1_0
  let c512_i32 : BitVec 32 := 512#32
  let v401 : BitVec 32 := Scalar.muli v395 c512_i32
  v401
def k0_off21 : Fin 1 → Nat :=
  let c2_i32_228 : BitVec 32 := 2#32
  let c6_i32_229 : BitVec 32 := 6#32
  let v400 : BitVec 32 := Scalar.remsi c2_i32_228 c6_i32_229
  ![v400.toNat]
def k0_off22 : Fin 3 → Nat :=
  let c2_i32_228 : BitVec 32 := 2#32
  let c6_i32_229 : BitVec 32 := 6#32
  let v400 : BitVec 32 := Scalar.remsi c2_i32_228 c6_i32_229
  let c0_i32_230 : BitVec 32 := 0#32
  let c0_i32_231 : BitVec 32 := 0#32
  ![v400.toNat, 0, 0]
def k0_off23 (v1_0 : BitVec 32) (v399 : BitVec 32) : Fin 3 → Nat :=
  let c0_i32_232 : BitVec 32 := 0#32
  let c2_i32_225 : BitVec 32 := 2#32
  let v395 : BitVec 32 := Scalar.divsi c2_i32_225 v1_0
  let c512_i32 : BitVec 32 := 512#32
  let v401 : BitVec 32 := Scalar.muli v395 c512_i32
  let v402 : BitVec 32 := v401
  ![v399.toNat, 0, v402.toNat]

def k0_off24 : Fin 1 → Nat :=
  let c2_i32_228 : BitVec 32 := 2#32
  let c6_i32_229 : BitVec 32 := 6#32
  let v400 : BitVec 32 := Scalar.remsi c2_i32_228 c6_i32_229
  ![v400.toNat]
def k0_off25 : Fin 3 → Nat :=
  let c2_i32_228 : BitVec 32 := 2#32
  let c6_i32_229 : BitVec 32 := 6#32
  let v400 : BitVec 32 := Scalar.remsi c2_i32_228 c6_i32_229
  let c0_i32_233 : BitVec 32 := 0#32
  let c0_i32_234 : BitVec 32 := 0#32
  ![v400.toNat, 0, 0]
def k0_off26 (v1_0 : BitVec 32) (v399 : BitVec 32) : Fin 3 → Nat :=
  let c0_i32_235 : BitVec 32 := 0#32
  let c2_i32_225 : BitVec 32 := 2#32
  let v395 : BitVec 32 := Scalar.divsi c2_i32_225 v1_0
  let c512_i32 : BitVec 32 := 512#32
  let v401 : BitVec 32 := Scalar.muli v395 c512_i32
  let v402 : BitVec 32 := v401
  ![v399.toNat, 0, v402.toNat]

def k0_chk5 (v1_0 : BitVec 32) (v399 : BitVec 32) : Prop :=
  (∀ (k0_h3 : k0_cond3 v1_0 = 1#1), ∀ a, (k0_off23 v1_0 v399) a + S1x2560x512.size a ≤ S21x2560x3072.size a) ∧
  (∀ (k0_h3 : k0_cond3 v1_0 = 1#1), ∀ (hinb : ∀ a, (k0_off23 v1_0 v399) a + S1x2560x512.size a ≤ S21x2560x3072.size a), (Rect.unit (s := S21x2560x3072) (k0_off23 v1_0 v399) S1x2560x512.size hinb).WholeWords (EltTy.packing .fp8e4m3)) ∧
  (∀ (k0_h3 : k0_cond3 v1_0 = 1#1), ∀ a, (k0_off26 v1_0 v399) a + S1x160x512.size a ≤ S21x160x3072.size a)
theorem k0_off23_inb : ∀ (v1_0 : BitVec 32) (v399 : BitVec 32) (k0_hw5 : k0_chk5 v1_0 v399), ∀ (k0_h3 : k0_cond3 v1_0 = 1#1), ∀ a, (k0_off23 v1_0 v399) a + S1x2560x512.size a ≤ S21x2560x3072.size a := fun v1_0 v399 k0_hw5 k0_h3 => k0_hw5.1 k0_h3
theorem k0_off23_wordsfp8e4m3 : ∀ (v1_0 : BitVec 32) (v399 : BitVec 32) (k0_hw5 : k0_chk5 v1_0 v399), ∀ (k0_h3 : k0_cond3 v1_0 = 1#1), (Rect.unit (s := S21x2560x3072) (k0_off23 v1_0 v399) S1x2560x512.size (k0_off23_inb v1_0 v399 k0_hw5 k0_h3)).WholeWords (EltTy.packing .fp8e4m3) := fun v1_0 v399 k0_hw5 k0_h3 => k0_hw5.2.1 k0_h3 (k0_off23_inb v1_0 v399 k0_hw5 k0_h3)
theorem k0_off26_inb : ∀ (v1_0 : BitVec 32) (v399 : BitVec 32) (k0_hw5 : k0_chk5 v1_0 v399), ∀ (k0_h3 : k0_cond3 v1_0 = 1#1), ∀ a, (k0_off26 v1_0 v399) a + S1x160x512.size a ≤ S21x160x3072.size a := fun v1_0 v399 k0_hw5 k0_h3 => k0_hw5.2.2 k0_h3

def k0_off27 (v1_0 : BitVec 32) : Fin 2 → Nat :=
  let c0_227 : Index := 0#32
  let c3_i32_226 : BitVec 32 := 3#32
  let c3_i32_225 : BitVec 32 := 3#32
  let v395 : BitVec 32 := Scalar.divsi c3_i32_225 v1_0
  let v396 : BitVec 32 := Scalar.muli v395 v1_0
  let v397 : BitVec 32 := Scalar.subi c3_i32_226 v396
  let v398 : Index := Scalar.indexCast v397
  ![0, v398.toNat]
def k0_cond4 (v1_0 : BitVec 32) : BitVec 1 :=
  let c6_i32 : BitVec 32 := 6#32
  let v2 : BitVec 32 := Scalar.muli v1_0 c6_i32
  let c3_i32 : BitVec 32 := 3#32
  let v12 : BitVec 1 := Scalar.cmpi .sgt v2 c3_i32
  let v13 : BitVec 32 := Scalar.extui v12
  let c0_i32_8 : BitVec 32 := 0#32
  let v14 : BitVec 1 := Scalar.cmpi .ne v13 c0_i32_8
  v14

def k0_mult4 (v1_0 : BitVec 32) : BitVec 32 :=
  let c3_i32_225 : BitVec 32 := 3#32
  let v395 : BitVec 32 := Scalar.divsi c3_i32_225 v1_0
  let c512_i32 : BitVec 32 := 512#32
  let v401 : BitVec 32 := Scalar.muli v395 c512_i32
  v401
def k0_off28 : Fin 1 → Nat :=
  let c3_i32_228 : BitVec 32 := 3#32
  let c6_i32_229 : BitVec 32 := 6#32
  let v400 : BitVec 32 := Scalar.remsi c3_i32_228 c6_i32_229
  ![v400.toNat]
def k0_off29 : Fin 3 → Nat :=
  let c3_i32_228 : BitVec 32 := 3#32
  let c6_i32_229 : BitVec 32 := 6#32
  let v400 : BitVec 32 := Scalar.remsi c3_i32_228 c6_i32_229
  let c0_i32_230 : BitVec 32 := 0#32
  let c0_i32_231 : BitVec 32 := 0#32
  ![v400.toNat, 0, 0]
def k0_off30 (v1_0 : BitVec 32) (v399 : BitVec 32) : Fin 3 → Nat :=
  let c0_i32_232 : BitVec 32 := 0#32
  let c3_i32_225 : BitVec 32 := 3#32
  let v395 : BitVec 32 := Scalar.divsi c3_i32_225 v1_0
  let c512_i32 : BitVec 32 := 512#32
  let v401 : BitVec 32 := Scalar.muli v395 c512_i32
  let v402 : BitVec 32 := v401
  ![v399.toNat, 0, v402.toNat]

def k0_off31 : Fin 1 → Nat :=
  let c3_i32_228 : BitVec 32 := 3#32
  let c6_i32_229 : BitVec 32 := 6#32
  let v400 : BitVec 32 := Scalar.remsi c3_i32_228 c6_i32_229
  ![v400.toNat]
def k0_off32 : Fin 3 → Nat :=
  let c3_i32_228 : BitVec 32 := 3#32
  let c6_i32_229 : BitVec 32 := 6#32
  let v400 : BitVec 32 := Scalar.remsi c3_i32_228 c6_i32_229
  let c0_i32_233 : BitVec 32 := 0#32
  let c0_i32_234 : BitVec 32 := 0#32
  ![v400.toNat, 0, 0]
def k0_off33 (v1_0 : BitVec 32) (v399 : BitVec 32) : Fin 3 → Nat :=
  let c0_i32_235 : BitVec 32 := 0#32
  let c3_i32_225 : BitVec 32 := 3#32
  let v395 : BitVec 32 := Scalar.divsi c3_i32_225 v1_0
  let c512_i32 : BitVec 32 := 512#32
  let v401 : BitVec 32 := Scalar.muli v395 c512_i32
  let v402 : BitVec 32 := v401
  ![v399.toNat, 0, v402.toNat]

def k0_chk6 (v1_0 : BitVec 32) (v399 : BitVec 32) : Prop :=
  (∀ (k0_h4 : k0_cond4 v1_0 = 1#1), ∀ a, (k0_off30 v1_0 v399) a + S1x2560x512.size a ≤ S21x2560x3072.size a) ∧
  (∀ (k0_h4 : k0_cond4 v1_0 = 1#1), ∀ (hinb : ∀ a, (k0_off30 v1_0 v399) a + S1x2560x512.size a ≤ S21x2560x3072.size a), (Rect.unit (s := S21x2560x3072) (k0_off30 v1_0 v399) S1x2560x512.size hinb).WholeWords (EltTy.packing .fp8e4m3)) ∧
  (∀ (k0_h4 : k0_cond4 v1_0 = 1#1), ∀ a, (k0_off33 v1_0 v399) a + S1x160x512.size a ≤ S21x160x3072.size a)
theorem k0_off30_inb : ∀ (v1_0 : BitVec 32) (v399 : BitVec 32) (k0_hw6 : k0_chk6 v1_0 v399), ∀ (k0_h4 : k0_cond4 v1_0 = 1#1), ∀ a, (k0_off30 v1_0 v399) a + S1x2560x512.size a ≤ S21x2560x3072.size a := fun v1_0 v399 k0_hw6 k0_h4 => k0_hw6.1 k0_h4
theorem k0_off30_wordsfp8e4m3 : ∀ (v1_0 : BitVec 32) (v399 : BitVec 32) (k0_hw6 : k0_chk6 v1_0 v399), ∀ (k0_h4 : k0_cond4 v1_0 = 1#1), (Rect.unit (s := S21x2560x3072) (k0_off30 v1_0 v399) S1x2560x512.size (k0_off30_inb v1_0 v399 k0_hw6 k0_h4)).WholeWords (EltTy.packing .fp8e4m3) := fun v1_0 v399 k0_hw6 k0_h4 => k0_hw6.2.1 k0_h4 (k0_off30_inb v1_0 v399 k0_hw6 k0_h4)
theorem k0_off33_inb : ∀ (v1_0 : BitVec 32) (v399 : BitVec 32) (k0_hw6 : k0_chk6 v1_0 v399), ∀ (k0_h4 : k0_cond4 v1_0 = 1#1), ∀ a, (k0_off33 v1_0 v399) a + S1x160x512.size a ≤ S21x160x3072.size a := fun v1_0 v399 k0_hw6 k0_h4 => k0_hw6.2.2 k0_h4

def k0_off34 (v1_0 : BitVec 32) : Fin 2 → Nat :=
  let c0_227 : Index := 0#32
  let c4_i32_226 : BitVec 32 := 4#32
  let c4_i32_225 : BitVec 32 := 4#32
  let v395 : BitVec 32 := Scalar.divsi c4_i32_225 v1_0
  let v396 : BitVec 32 := Scalar.muli v395 v1_0
  let v397 : BitVec 32 := Scalar.subi c4_i32_226 v396
  let v398 : Index := Scalar.indexCast v397
  ![0, v398.toNat]
def k0_cond5 (v1_0 : BitVec 32) : BitVec 1 :=
  let c6_i32 : BitVec 32 := 6#32
  let v2 : BitVec 32 := Scalar.muli v1_0 c6_i32
  let c4_i32 : BitVec 32 := 4#32
  let v15 : BitVec 1 := Scalar.cmpi .sgt v2 c4_i32
  let v16 : BitVec 32 := Scalar.extui v15
  let c0_i32_9 : BitVec 32 := 0#32
  let v17 : BitVec 1 := Scalar.cmpi .ne v16 c0_i32_9
  v17

def k0_mult5 (v1_0 : BitVec 32) : BitVec 32 :=
  let c4_i32_225 : BitVec 32 := 4#32
  let v395 : BitVec 32 := Scalar.divsi c4_i32_225 v1_0
  let c512_i32 : BitVec 32 := 512#32
  let v401 : BitVec 32 := Scalar.muli v395 c512_i32
  v401
def k0_off35 : Fin 1 → Nat :=
  let c4_i32_228 : BitVec 32 := 4#32
  let c6_i32_229 : BitVec 32 := 6#32
  let v400 : BitVec 32 := Scalar.remsi c4_i32_228 c6_i32_229
  ![v400.toNat]
def k0_off36 : Fin 3 → Nat :=
  let c4_i32_228 : BitVec 32 := 4#32
  let c6_i32_229 : BitVec 32 := 6#32
  let v400 : BitVec 32 := Scalar.remsi c4_i32_228 c6_i32_229
  let c0_i32_230 : BitVec 32 := 0#32
  let c0_i32_231 : BitVec 32 := 0#32
  ![v400.toNat, 0, 0]
def k0_off37 (v1_0 : BitVec 32) (v399 : BitVec 32) : Fin 3 → Nat :=
  let c0_i32_232 : BitVec 32 := 0#32
  let c4_i32_225 : BitVec 32 := 4#32
  let v395 : BitVec 32 := Scalar.divsi c4_i32_225 v1_0
  let c512_i32 : BitVec 32 := 512#32
  let v401 : BitVec 32 := Scalar.muli v395 c512_i32
  let v402 : BitVec 32 := v401
  ![v399.toNat, 0, v402.toNat]

def k0_off38 : Fin 1 → Nat :=
  let c4_i32_228 : BitVec 32 := 4#32
  let c6_i32_229 : BitVec 32 := 6#32
  let v400 : BitVec 32 := Scalar.remsi c4_i32_228 c6_i32_229
  ![v400.toNat]
def k0_off39 : Fin 3 → Nat :=
  let c4_i32_228 : BitVec 32 := 4#32
  let c6_i32_229 : BitVec 32 := 6#32
  let v400 : BitVec 32 := Scalar.remsi c4_i32_228 c6_i32_229
  let c0_i32_233 : BitVec 32 := 0#32
  let c0_i32_234 : BitVec 32 := 0#32
  ![v400.toNat, 0, 0]
def k0_off40 (v1_0 : BitVec 32) (v399 : BitVec 32) : Fin 3 → Nat :=
  let c0_i32_235 : BitVec 32 := 0#32
  let c4_i32_225 : BitVec 32 := 4#32
  let v395 : BitVec 32 := Scalar.divsi c4_i32_225 v1_0
  let c512_i32 : BitVec 32 := 512#32
  let v401 : BitVec 32 := Scalar.muli v395 c512_i32
  let v402 : BitVec 32 := v401
  ![v399.toNat, 0, v402.toNat]

def k0_chk7 (v1_0 : BitVec 32) (v399 : BitVec 32) : Prop :=
  (∀ (k0_h5 : k0_cond5 v1_0 = 1#1), ∀ a, (k0_off37 v1_0 v399) a + S1x2560x512.size a ≤ S21x2560x3072.size a) ∧
  (∀ (k0_h5 : k0_cond5 v1_0 = 1#1), ∀ (hinb : ∀ a, (k0_off37 v1_0 v399) a + S1x2560x512.size a ≤ S21x2560x3072.size a), (Rect.unit (s := S21x2560x3072) (k0_off37 v1_0 v399) S1x2560x512.size hinb).WholeWords (EltTy.packing .fp8e4m3)) ∧
  (∀ (k0_h5 : k0_cond5 v1_0 = 1#1), ∀ a, (k0_off40 v1_0 v399) a + S1x160x512.size a ≤ S21x160x3072.size a)
theorem k0_off37_inb : ∀ (v1_0 : BitVec 32) (v399 : BitVec 32) (k0_hw7 : k0_chk7 v1_0 v399), ∀ (k0_h5 : k0_cond5 v1_0 = 1#1), ∀ a, (k0_off37 v1_0 v399) a + S1x2560x512.size a ≤ S21x2560x3072.size a := fun v1_0 v399 k0_hw7 k0_h5 => k0_hw7.1 k0_h5
theorem k0_off37_wordsfp8e4m3 : ∀ (v1_0 : BitVec 32) (v399 : BitVec 32) (k0_hw7 : k0_chk7 v1_0 v399), ∀ (k0_h5 : k0_cond5 v1_0 = 1#1), (Rect.unit (s := S21x2560x3072) (k0_off37 v1_0 v399) S1x2560x512.size (k0_off37_inb v1_0 v399 k0_hw7 k0_h5)).WholeWords (EltTy.packing .fp8e4m3) := fun v1_0 v399 k0_hw7 k0_h5 => k0_hw7.2.1 k0_h5 (k0_off37_inb v1_0 v399 k0_hw7 k0_h5)
theorem k0_off40_inb : ∀ (v1_0 : BitVec 32) (v399 : BitVec 32) (k0_hw7 : k0_chk7 v1_0 v399), ∀ (k0_h5 : k0_cond5 v1_0 = 1#1), ∀ a, (k0_off40 v1_0 v399) a + S1x160x512.size a ≤ S21x160x3072.size a := fun v1_0 v399 k0_hw7 k0_h5 => k0_hw7.2.2 k0_h5

@[reducible] def k0_t2_loop (v1_0 : BitVec 32) : Scf.Loop 32 :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_223 : BitVec 32 := 1#32
  ⟨c0_i32_220, v392, c1_i32_223⟩
def k0_off41 (v1_0 : BitVec 32) (k0_t2 : Fin (k0_t2_loop v1_0).trips) : Fin 2 → Nat :=
  let c0_225 : Index := 0#32
  let c0_i32_220 : BitVec 32 := 0#32
  let c1_i32_223 : BitVec 32 := 1#32
  let arg16 : BitVec 32 := Scf.iv c0_i32_220 c1_i32_223 k0_t2
  let v395 : BitVec 32 := Scalar.divsi arg16 v1_0
  let v396 : BitVec 32 := Scalar.muli v395 v1_0
  let v397 : BitVec 32 := Scalar.subi arg16 v396
  let v398 : Index := Scalar.indexCast v397
  ![0, v398.toNat]
def k0_off42 (v1_0 : BitVec 32) (k0_t2 : Fin (k0_t2_loop v1_0).trips) : Fin 2 → Nat :=
  let c1 : Index := 1#32
  let c0_i32_220 : BitVec 32 := 0#32
  let c1_i32_223 : BitVec 32 := 1#32
  let arg16 : BitVec 32 := Scf.iv c0_i32_220 c1_i32_223 k0_t2
  let v395 : BitVec 32 := Scalar.divsi arg16 v1_0
  let v396 : BitVec 32 := Scalar.muli v395 v1_0
  let v397 : BitVec 32 := Scalar.subi arg16 v396
  let v400 : Index := Scalar.indexCast v397
  ![1, v400.toNat]
def k0_mult6 (v401 : BitVec 32) : BitVec 32 :=
  v401

def k0_off43 (v1_0 : BitVec 32) (k0_t2 : Fin (k0_t2_loop v1_0).trips) : Fin 2 → Nat :=
  let c2 : Index := 2#32
  let c0_i32_220 : BitVec 32 := 0#32
  let c1_i32_223 : BitVec 32 := 1#32
  let arg16 : BitVec 32 := Scf.iv c0_i32_220 c1_i32_223 k0_t2
  let v395 : BitVec 32 := Scalar.divsi arg16 v1_0
  let v396 : BitVec 32 := Scalar.muli v395 v1_0
  let v397 : BitVec 32 := Scalar.subi arg16 v396
  let v403 : Index := Scalar.indexCast v397
  ![2, v403.toNat]
def k0_off44 (v1_0 : BitVec 32) (k0_t2 : Fin (k0_t2_loop v1_0).trips) : Fin 2 → Nat :=
  let c3 : Index := 3#32
  let c0_i32_220 : BitVec 32 := 0#32
  let c1_i32_223 : BitVec 32 := 1#32
  let arg16 : BitVec 32 := Scf.iv c0_i32_220 c1_i32_223 k0_t2
  let v395 : BitVec 32 := Scalar.divsi arg16 v1_0
  let v396 : BitVec 32 := Scalar.muli v395 v1_0
  let v397 : BitVec 32 := Scalar.subi arg16 v396
  let v405 : Index := Scalar.indexCast v397
  ![3, v405.toNat]
def k0_off45 (v1_0 : BitVec 32) (k0_t2 : Fin (k0_t2_loop v1_0).trips) : Fin 2 → Nat :=
  let c0_734 : Index := 0#32
  let c0_i32_220 : BitVec 32 := 0#32
  let c1_i32_223 : BitVec 32 := 1#32
  let arg16 : BitVec 32 := Scf.iv c0_i32_220 c1_i32_223 k0_t2
  let c6_i32_227 : BitVec 32 := 6#32
  let v408 : BitVec 32 := Scalar.addi arg16 c6_i32_227
  let c1_i32_228 : BitVec 32 := 1#32
  let v409 : BitVec 32 := Scalar.subi v408 c1_i32_228
  let v1832 : BitVec 32 := Scalar.divsi v409 v1_0
  let v1833 : BitVec 32 := Scalar.muli v1832 v1_0
  let v1834 : BitVec 32 := Scalar.subi v409 v1833
  let v1835 : Index := Scalar.indexCast v1834
  ![0, v1835.toNat]
def k0_cond6 (v1_0 : BitVec 32) (k0_t2 : Fin (k0_t2_loop v1_0).trips) : BitVec 1 :=
  let c0_i32_220 : BitVec 32 := 0#32
  let c1_i32_223 : BitVec 32 := 1#32
  let arg16 : BitVec 32 := Scf.iv c0_i32_220 c1_i32_223 k0_t2
  let c6_i32_227 : BitVec 32 := 6#32
  let v408 : BitVec 32 := Scalar.addi arg16 c6_i32_227
  let c1_i32_228 : BitVec 32 := 1#32
  let v409 : BitVec 32 := Scalar.subi v408 c1_i32_228
  let c6_i32 : BitVec 32 := 6#32
  let v2 : BitVec 32 := Scalar.muli v1_0 c6_i32
  let v410 : BitVec 1 := Scalar.cmpi .slt v409 v2
  let v411 : BitVec 32 := Scalar.extui v410
  let c0_i32_229 : BitVec 32 := 0#32
  let v412 : BitVec 1 := Scalar.cmpi .ne v411 c0_i32_229
  v412

def k0_mult7 (v1_0 : BitVec 32) (k0_t2 : Fin (k0_t2_loop v1_0).trips) : BitVec 32 :=
  let c0_i32_220 : BitVec 32 := 0#32
  let c1_i32_223 : BitVec 32 := 1#32
  let arg16 : BitVec 32 := Scf.iv c0_i32_220 c1_i32_223 k0_t2
  let c6_i32_227 : BitVec 32 := 6#32
  let v408 : BitVec 32 := Scalar.addi arg16 c6_i32_227
  let c1_i32_228 : BitVec 32 := 1#32
  let v409 : BitVec 32 := Scalar.subi v408 c1_i32_228
  let v1832 : BitVec 32 := Scalar.divsi v409 v1_0
  let c512_i32_736 : BitVec 32 := 512#32
  let v1838 : BitVec 32 := Scalar.muli v1832 c512_i32_736
  v1838
def k0_off46 (v1_0 : BitVec 32) (k0_t2 : Fin (k0_t2_loop v1_0).trips) : Fin 1 → Nat :=
  let c0_i32_220 : BitVec 32 := 0#32
  let c1_i32_223 : BitVec 32 := 1#32
  let arg16 : BitVec 32 := Scf.iv c0_i32_220 c1_i32_223 k0_t2
  let c6_i32_227 : BitVec 32 := 6#32
  let v408 : BitVec 32 := Scalar.addi arg16 c6_i32_227
  let c1_i32_228 : BitVec 32 := 1#32
  let v409 : BitVec 32 := Scalar.subi v408 c1_i32_228
  let c6_i32_735 : BitVec 32 := 6#32
  let v1837 : BitVec 32 := Scalar.remsi v409 c6_i32_735
  ![v1837.toNat]
def k0_off47 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_227 : BitVec 32 := 6#32
  let v408 : BitVec 32 := Scalar.addi arg16 c6_i32_227
  let c1_i32_228 : BitVec 32 := 1#32
  let v409 : BitVec 32 := Scalar.subi v408 c1_i32_228
  let c6_i32_735 : BitVec 32 := 6#32
  let v1837 : BitVec 32 := Scalar.remsi v409 c6_i32_735
  let c0_i32_737 : BitVec 32 := 0#32
  let c0_i32_738 : BitVec 32 := 0#32
  ![v1837.toNat, 0, 0]
def k0_off48 (v1_0 : BitVec 32) (k0_t2 : Fin (k0_t2_loop v1_0).trips) (v1836 : BitVec 32) : Fin 3 → Nat :=
  let c0_i32_739 : BitVec 32 := 0#32
  let c0_i32_220 : BitVec 32 := 0#32
  let c1_i32_223 : BitVec 32 := 1#32
  let arg16 : BitVec 32 := Scf.iv c0_i32_220 c1_i32_223 k0_t2
  let c6_i32_227 : BitVec 32 := 6#32
  let v408 : BitVec 32 := Scalar.addi arg16 c6_i32_227
  let c1_i32_228 : BitVec 32 := 1#32
  let v409 : BitVec 32 := Scalar.subi v408 c1_i32_228
  let v1832 : BitVec 32 := Scalar.divsi v409 v1_0
  let c512_i32_736 : BitVec 32 := 512#32
  let v1838 : BitVec 32 := Scalar.muli v1832 c512_i32_736
  let v1839 : BitVec 32 := v1838
  ![v1836.toNat, 0, v1839.toNat]

def k0_off49 (v1_0 : BitVec 32) (k0_t2 : Fin (k0_t2_loop v1_0).trips) : Fin 1 → Nat :=
  let c0_i32_220 : BitVec 32 := 0#32
  let c1_i32_223 : BitVec 32 := 1#32
  let arg16 : BitVec 32 := Scf.iv c0_i32_220 c1_i32_223 k0_t2
  let c6_i32_227 : BitVec 32 := 6#32
  let v408 : BitVec 32 := Scalar.addi arg16 c6_i32_227
  let c1_i32_228 : BitVec 32 := 1#32
  let v409 : BitVec 32 := Scalar.subi v408 c1_i32_228
  let c6_i32_735 : BitVec 32 := 6#32
  let v1837 : BitVec 32 := Scalar.remsi v409 c6_i32_735
  ![v1837.toNat]
def k0_off50 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_227 : BitVec 32 := 6#32
  let v408 : BitVec 32 := Scalar.addi arg16 c6_i32_227
  let c1_i32_228 : BitVec 32 := 1#32
  let v409 : BitVec 32 := Scalar.subi v408 c1_i32_228
  let c6_i32_735 : BitVec 32 := 6#32
  let v1837 : BitVec 32 := Scalar.remsi v409 c6_i32_735
  let c0_i32_740 : BitVec 32 := 0#32
  let c0_i32_741 : BitVec 32 := 0#32
  ![v1837.toNat, 0, 0]
def k0_off51 (v1_0 : BitVec 32) (k0_t2 : Fin (k0_t2_loop v1_0).trips) (v1836 : BitVec 32) : Fin 3 → Nat :=
  let c0_i32_742 : BitVec 32 := 0#32
  let c0_i32_220 : BitVec 32 := 0#32
  let c1_i32_223 : BitVec 32 := 1#32
  let arg16 : BitVec 32 := Scf.iv c0_i32_220 c1_i32_223 k0_t2
  let c6_i32_227 : BitVec 32 := 6#32
  let v408 : BitVec 32 := Scalar.addi arg16 c6_i32_227
  let c1_i32_228 : BitVec 32 := 1#32
  let v409 : BitVec 32 := Scalar.subi v408 c1_i32_228
  let v1832 : BitVec 32 := Scalar.divsi v409 v1_0
  let c512_i32_736 : BitVec 32 := 512#32
  let v1838 : BitVec 32 := Scalar.muli v1832 c512_i32_736
  let v1839 : BitVec 32 := v1838
  ![v1836.toNat, 0, v1839.toNat]

def k0_chk9 (v1_0 : BitVec 32) (k0_t2 : Fin (k0_t2_loop v1_0).trips) (v1836 : BitVec 32) : Prop :=
  (∀ (k0_h6 : k0_cond6 v1_0 k0_t2 = 1#1), ∀ a, (k0_off48 v1_0 k0_t2 v1836) a + S1x2560x512.size a ≤ S21x2560x3072.size a) ∧
  (∀ (k0_h6 : k0_cond6 v1_0 k0_t2 = 1#1), ∀ (hinb : ∀ a, (k0_off48 v1_0 k0_t2 v1836) a + S1x2560x512.size a ≤ S21x2560x3072.size a), (Rect.unit (s := S21x2560x3072) (k0_off48 v1_0 k0_t2 v1836) S1x2560x512.size hinb).WholeWords (EltTy.packing .fp8e4m3)) ∧
  (∀ (k0_h6 : k0_cond6 v1_0 k0_t2 = 1#1), ∀ a, (k0_off51 v1_0 k0_t2 v1836) a + S1x160x512.size a ≤ S21x160x3072.size a)
theorem k0_off48_inb : ∀ (v1_0 : BitVec 32) (k0_t2 : Fin (k0_t2_loop v1_0).trips) (v1836 : BitVec 32) (k0_hw9 : k0_chk9 v1_0 k0_t2 v1836), ∀ (k0_h6 : k0_cond6 v1_0 k0_t2 = 1#1), ∀ a, (k0_off48 v1_0 k0_t2 v1836) a + S1x2560x512.size a ≤ S21x2560x3072.size a := fun v1_0 k0_t2 v1836 k0_hw9 k0_h6 => k0_hw9.1 k0_h6
theorem k0_off48_wordsfp8e4m3 : ∀ (v1_0 : BitVec 32) (k0_t2 : Fin (k0_t2_loop v1_0).trips) (v1836 : BitVec 32) (k0_hw9 : k0_chk9 v1_0 k0_t2 v1836), ∀ (k0_h6 : k0_cond6 v1_0 k0_t2 = 1#1), (Rect.unit (s := S21x2560x3072) (k0_off48 v1_0 k0_t2 v1836) S1x2560x512.size (k0_off48_inb v1_0 k0_t2 v1836 k0_hw9 k0_h6)).WholeWords (EltTy.packing .fp8e4m3) := fun v1_0 k0_t2 v1836 k0_hw9 k0_h6 => k0_hw9.2.1 k0_h6 (k0_off48_inb v1_0 k0_t2 v1836 k0_hw9 k0_h6)
theorem k0_off51_inb : ∀ (v1_0 : BitVec 32) (k0_t2 : Fin (k0_t2_loop v1_0).trips) (v1836 : BitVec 32) (k0_hw9 : k0_chk9 v1_0 k0_t2 v1836), ∀ (k0_h6 : k0_cond6 v1_0 k0_t2 = 1#1), ∀ a, (k0_off51 v1_0 k0_t2 v1836) a + S1x160x512.size a ≤ S21x160x3072.size a := fun v1_0 k0_t2 v1836 k0_hw9 k0_h6 => k0_hw9.2.2 k0_h6

def k0_off52 (v1_0 : BitVec 32) (k0_t2 : Fin (k0_t2_loop v1_0).trips) : Fin 2 → Nat :=
  let c0_230 : Index := 0#32
  let c0_i32_220 : BitVec 32 := 0#32
  let c1_i32_223 : BitVec 32 := 1#32
  let arg16 : BitVec 32 := Scf.iv c0_i32_220 c1_i32_223 k0_t2
  let v413 : BitVec 32 := Scalar.divsi arg16 v1_0
  let v414 : BitVec 32 := Scalar.muli v413 v1_0
  let v415 : BitVec 32 := Scalar.subi arg16 v414
  let v416 : Index := Scalar.indexCast v415
  ![0, v416.toNat]
def k0_mult8 (v1_0 : BitVec 32) (k0_t2 : Fin (k0_t2_loop v1_0).trips) : BitVec 32 :=
  let c0_i32_220 : BitVec 32 := 0#32
  let c1_i32_223 : BitVec 32 := 1#32
  let arg16 : BitVec 32 := Scf.iv c0_i32_220 c1_i32_223 k0_t2
  let v413 : BitVec 32 := Scalar.divsi arg16 v1_0
  let c512_i32 : BitVec 32 := 512#32
  let v419 : BitVec 32 := Scalar.muli v413 c512_i32
  v419
def k0_off53 (v1_0 : BitVec 32) (k0_t2 : Fin (k0_t2_loop v1_0).trips) : Fin 1 → Nat :=
  let c0_i32_220 : BitVec 32 := 0#32
  let c1_i32_223 : BitVec 32 := 1#32
  let arg16 : BitVec 32 := Scf.iv c0_i32_220 c1_i32_223 k0_t2
  let c6_i32_231 : BitVec 32 := 6#32
  let v418 : BitVec 32 := Scalar.remsi arg16 c6_i32_231
  ![v418.toNat]
def k0_off54 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_231 : BitVec 32 := 6#32
  let v418 : BitVec 32 := Scalar.remsi arg16 c6_i32_231
  let c0_i32_232 : BitVec 32 := 0#32
  let c0_i32_233 : BitVec 32 := 0#32
  ![v418.toNat, 0, 0]
def k0_off55 (v1_0 : BitVec 32) (k0_t2 : Fin (k0_t2_loop v1_0).trips) (v417 : BitVec 32) : Fin 3 → Nat :=
  let c0_i32_234 : BitVec 32 := 0#32
  let c0_i32_220 : BitVec 32 := 0#32
  let c1_i32_223 : BitVec 32 := 1#32
  let arg16 : BitVec 32 := Scf.iv c0_i32_220 c1_i32_223 k0_t2
  let v413 : BitVec 32 := Scalar.divsi arg16 v1_0
  let c512_i32 : BitVec 32 := 512#32
  let v419 : BitVec 32 := Scalar.muli v413 c512_i32
  let v420 : BitVec 32 := v419
  ![v417.toNat, 0, v420.toNat]

def k0_off56 (v1_0 : BitVec 32) (k0_t2 : Fin (k0_t2_loop v1_0).trips) : Fin 1 → Nat :=
  let c0_i32_220 : BitVec 32 := 0#32
  let c1_i32_223 : BitVec 32 := 1#32
  let arg16 : BitVec 32 := Scf.iv c0_i32_220 c1_i32_223 k0_t2
  let c6_i32_231 : BitVec 32 := 6#32
  let v418 : BitVec 32 := Scalar.remsi arg16 c6_i32_231
  ![v418.toNat]
def k0_off57 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_231 : BitVec 32 := 6#32
  let v418 : BitVec 32 := Scalar.remsi arg16 c6_i32_231
  let c0_i32_235 : BitVec 32 := 0#32
  let c0_i32_236 : BitVec 32 := 0#32
  ![v418.toNat, 0, 0]
def k0_off58 (v1_0 : BitVec 32) (k0_t2 : Fin (k0_t2_loop v1_0).trips) (v417 : BitVec 32) : Fin 3 → Nat :=
  let c0_i32_237 : BitVec 32 := 0#32
  let c0_i32_220 : BitVec 32 := 0#32
  let c1_i32_223 : BitVec 32 := 1#32
  let arg16 : BitVec 32 := Scf.iv c0_i32_220 c1_i32_223 k0_t2
  let v413 : BitVec 32 := Scalar.divsi arg16 v1_0
  let c512_i32 : BitVec 32 := 512#32
  let v419 : BitVec 32 := Scalar.muli v413 c512_i32
  let v420 : BitVec 32 := v419
  ![v417.toNat, 0, v420.toNat]

def k0_chk10 (v1_0 : BitVec 32) (k0_t2 : Fin (k0_t2_loop v1_0).trips) (v417 : BitVec 32) : Prop :=
  (∀ a, (k0_off55 v1_0 k0_t2 v417) a + S1x2560x512.size a ≤ S21x2560x3072.size a) ∧
  (∀ (hinb : ∀ a, (k0_off55 v1_0 k0_t2 v417) a + S1x2560x512.size a ≤ S21x2560x3072.size a), (Rect.unit (s := S21x2560x3072) (k0_off55 v1_0 k0_t2 v417) S1x2560x512.size hinb).WholeWords (EltTy.packing .fp8e4m3)) ∧
  (∀ a, (k0_off58 v1_0 k0_t2 v417) a + S1x160x512.size a ≤ S21x160x3072.size a)
theorem k0_off55_inb : ∀ (v1_0 : BitVec 32) (k0_t2 : Fin (k0_t2_loop v1_0).trips) (v417 : BitVec 32) (k0_hw10 : k0_chk10 v1_0 k0_t2 v417), ∀ a, (k0_off55 v1_0 k0_t2 v417) a + S1x2560x512.size a ≤ S21x2560x3072.size a := fun v1_0 k0_t2 v417 k0_hw10 => k0_hw10.1
theorem k0_off55_wordsfp8e4m3 : ∀ (v1_0 : BitVec 32) (k0_t2 : Fin (k0_t2_loop v1_0).trips) (v417 : BitVec 32) (k0_hw10 : k0_chk10 v1_0 k0_t2 v417), (Rect.unit (s := S21x2560x3072) (k0_off55 v1_0 k0_t2 v417) S1x2560x512.size (k0_off55_inb v1_0 k0_t2 v417 k0_hw10)).WholeWords (EltTy.packing .fp8e4m3) := fun v1_0 k0_t2 v417 k0_hw10 => k0_hw10.2.1 (k0_off55_inb v1_0 k0_t2 v417 k0_hw10)
theorem k0_off58_inb : ∀ (v1_0 : BitVec 32) (k0_t2 : Fin (k0_t2_loop v1_0).trips) (v417 : BitVec 32) (k0_hw10 : k0_chk10 v1_0 k0_t2 v417), ∀ a, (k0_off58 v1_0 k0_t2 v417) a + S1x160x512.size a ≤ S21x160x3072.size a := fun v1_0 k0_t2 v417 k0_hw10 => k0_hw10.2.2

def k0_off59 (v401 : BitVec 32) : Fin 2 → Nat :=
  let v402 : BitVec 32 := v401
  let v441 : Index := Scalar.indexCast v402
  let c0_238 : Index := 0#32
  ![v441.toNat, 0]
def k0_off60 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v445 : Index := Scalar.indexCast v407
  let c0_240 : Index := 0#32
  let c0_241 : Index := 0#32
  ![v445.toNat, 0, 0]
def k0_off61 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v449 : Index := Scalar.indexCast v407
  let c0_243 : Index := 0#32
  let c0_244 : Index := 0#32
  ![v449.toNat, 0, 0]
def k0_off62 (v401 : BitVec 32) : Fin 2 → Nat :=
  let v402 : BitVec 32 := v401
  let v496 : Index := Scalar.indexCast v402
  let c0_256 : Index := 0#32
  ![v496.toNat, 0]
def k0_off63 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v517 : Index := Scalar.indexCast v407
  let c256_262 : Index := 256#32
  let c0_263 : Index := 0#32
  ![v517.toNat, 256, 0]
def k0_off64 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v521 : Index := Scalar.indexCast v407
  let c16 : Index := 16#32
  let c0_265 : Index := 0#32
  ![v521.toNat, 16, 0]
def k0_off65 (v401 : BitVec 32) : Fin 2 → Nat :=
  let v402 : BitVec 32 := v401
  let v568 : Index := Scalar.indexCast v402
  let c256_280 : Index := 256#32
  ![v568.toNat, 256]
def k0_off66 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v580 : Index := Scalar.indexCast v407
  let c512_286 : Index := 512#32
  let c0_287 : Index := 0#32
  ![v580.toNat, 512, 0]
def k0_off67 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v584 : Index := Scalar.indexCast v407
  let c32 : Index := 32#32
  let c0_289 : Index := 0#32
  ![v584.toNat, 32, 0]
def k0_off68 (v401 : BitVec 32) : Fin 2 → Nat :=
  let v402 : BitVec 32 := v401
  let v631 : Index := Scalar.indexCast v402
  let c512_304 : Index := 512#32
  ![v631.toNat, 512]
def k0_off69 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v652 : Index := Scalar.indexCast v407
  let c768_310 : Index := 768#32
  let c0_311 : Index := 0#32
  ![v652.toNat, 768, 0]
def k0_off70 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v656 : Index := Scalar.indexCast v407
  let c48 : Index := 48#32
  let c0_313 : Index := 0#32
  ![v656.toNat, 48, 0]
def k0_off71 (v401 : BitVec 32) : Fin 2 → Nat :=
  let v402 : BitVec 32 := v401
  let v703 : Index := Scalar.indexCast v402
  let c768_328 : Index := 768#32
  ![v703.toNat, 768]
def k0_off72 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v715 : Index := Scalar.indexCast v407
  let c1024_334 : Index := 1024#32
  let c0_335 : Index := 0#32
  ![v715.toNat, 1024, 0]
def k0_off73 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v719 : Index := Scalar.indexCast v407
  let c64 : Index := 64#32
  let c0_337 : Index := 0#32
  ![v719.toNat, 64, 0]
def k0_off74 (v401 : BitVec 32) : Fin 2 → Nat :=
  let v402 : BitVec 32 := v401
  let v766 : Index := Scalar.indexCast v402
  let c1024_352 : Index := 1024#32
  ![v766.toNat, 1024]
def k0_off75 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v787 : Index := Scalar.indexCast v407
  let c1280_358 : Index := 1280#32
  let c0_359 : Index := 0#32
  ![v787.toNat, 1280, 0]
def k0_off76 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v791 : Index := Scalar.indexCast v407
  let c80 : Index := 80#32
  let c0_361 : Index := 0#32
  ![v791.toNat, 80, 0]
def k0_off77 (v401 : BitVec 32) : Fin 2 → Nat :=
  let v402 : BitVec 32 := v401
  let v838 : Index := Scalar.indexCast v402
  let c1280_376 : Index := 1280#32
  ![v838.toNat, 1280]
def k0_off78 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v850 : Index := Scalar.indexCast v407
  let c1536_382 : Index := 1536#32
  let c0_383 : Index := 0#32
  ![v850.toNat, 1536, 0]
def k0_off79 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v854 : Index := Scalar.indexCast v407
  let c96 : Index := 96#32
  let c0_385 : Index := 0#32
  ![v854.toNat, 96, 0]
def k0_off80 (v401 : BitVec 32) : Fin 2 → Nat :=
  let v402 : BitVec 32 := v401
  let v901 : Index := Scalar.indexCast v402
  let c1536_400 : Index := 1536#32
  ![v901.toNat, 1536]
def k0_off81 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v922 : Index := Scalar.indexCast v407
  let c1792_406 : Index := 1792#32
  let c0_407 : Index := 0#32
  ![v922.toNat, 1792, 0]
def k0_off82 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v926 : Index := Scalar.indexCast v407
  let c112 : Index := 112#32
  let c0_409 : Index := 0#32
  ![v926.toNat, 112, 0]
def k0_off83 (v401 : BitVec 32) : Fin 2 → Nat :=
  let v402 : BitVec 32 := v401
  let v973 : Index := Scalar.indexCast v402
  let c1792_424 : Index := 1792#32
  ![v973.toNat, 1792]
def k0_off84 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v985 : Index := Scalar.indexCast v407
  let c2048_430 : Index := 2048#32
  let c0_431 : Index := 0#32
  ![v985.toNat, 2048, 0]
def k0_off85 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v989 : Index := Scalar.indexCast v407
  let c128_433 : Index := 128#32
  let c0_434 : Index := 0#32
  ![v989.toNat, 128, 0]
def k0_off86 (v401 : BitVec 32) : Fin 2 → Nat :=
  let v402 : BitVec 32 := v401
  let v1036 : Index := Scalar.indexCast v402
  let c2048_449 : Index := 2048#32
  ![v1036.toNat, 2048]
def k0_off87 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1057 : Index := Scalar.indexCast v407
  let c2304_455 : Index := 2304#32
  let c0_456 : Index := 0#32
  ![v1057.toNat, 2304, 0]
def k0_off88 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1061 : Index := Scalar.indexCast v407
  let c144 : Index := 144#32
  let c0_458 : Index := 0#32
  ![v1061.toNat, 144, 0]
def k0_off89 (v401 : BitVec 32) : Fin 2 → Nat :=
  let v402 : BitVec 32 := v401
  let v1108 : Index := Scalar.indexCast v402
  let c2304_473 : Index := 2304#32
  ![v1108.toNat, 2304]
def k0_mult9 (v1_0 : BitVec 32) (k0_t2 : Fin (k0_t2_loop v1_0).trips) : BitVec 32 :=
  let c0_i32_220 : BitVec 32 := 0#32
  let c1_i32_223 : BitVec 32 := 1#32
  let arg16 : BitVec 32 := Scf.iv c0_i32_220 c1_i32_223 k0_t2
  let v395 : BitVec 32 := Scalar.divsi arg16 v1_0
  let c512_i32_479 : BitVec 32 := 512#32
  let v1120 : BitVec 32 := Scalar.muli v395 c512_i32_479
  let c0_i32_480 : BitVec 32 := 0#32
  let v1121 : BitVec 32 := Scalar.addi v1120 c0_i32_480
  v1121
def k0_off90 (v1_0 : BitVec 32) (k0_t2 : Fin (k0_t2_loop v1_0).trips) (v399 : BitVec 32) (c0_i32_480 : BitVec 32) : Fin 2 → Nat :=
  let v1124 : Index := Scalar.indexCast v399
  let c0_i32_220 : BitVec 32 := 0#32
  let c1_i32_223 : BitVec 32 := 1#32
  let arg16 : BitVec 32 := Scf.iv c0_i32_220 c1_i32_223 k0_t2
  let v395 : BitVec 32 := Scalar.divsi arg16 v1_0
  let c512_i32_479 : BitVec 32 := 512#32
  let v1120 : BitVec 32 := Scalar.muli v395 c512_i32_479
  let v1121 : BitVec 32 := Scalar.addi v1120 c0_i32_480
  let v1122 : BitVec 32 := v1121
  let v1125 : Index := Scalar.indexCast v1122
  ![v1124.toNat, v1125.toNat]

def k0_chk11 (v1_0 : BitVec 32) (k0_t2 : Fin (k0_t2_loop v1_0).trips) (v399 : BitVec 32) : Prop :=
  (∀ (r : Fin 2), ∀ a, (k0_off90 v1_0 k0_t2 v399 (BitVec.ofNat 32 (256 * r.val))) a + S1x256.size a ≤ S21x3072.size a)
theorem k0_off90_inb : ∀ (v1_0 : BitVec 32) (k0_t2 : Fin (k0_t2_loop v1_0).trips) (v399 : BitVec 32) (k0_hw11 : k0_chk11 v1_0 k0_t2 v399), ∀ (r : Fin 2), ∀ a, (k0_off90 v1_0 k0_t2 v399 (BitVec.ofNat 32 (256 * r.val))) a + S1x256.size a ≤ S21x3072.size a := fun v1_0 k0_t2 v399 k0_hw11 r => k0_hw11 r

def k0_off91 (v1_0 : BitVec 32) (k0_t2 : Fin (k0_t2_loop v1_0).trips) (v401 : BitVec 32) (c0_i32_480 : BitVec 32) : Fin 2 → Nat :=
  let v402 : BitVec 32 := v401
  let v1130 : Index := Scalar.indexCast v402
  let c0_i32_220 : BitVec 32 := 0#32
  let c1_i32_223 : BitVec 32 := 1#32
  let arg16 : BitVec 32 := Scf.iv c0_i32_220 c1_i32_223 k0_t2
  let v395 : BitVec 32 := Scalar.divsi arg16 v1_0
  let c512_i32_479 : BitVec 32 := 512#32
  let v1120 : BitVec 32 := Scalar.muli v395 c512_i32_479
  let v1121 : BitVec 32 := Scalar.addi v1120 c0_i32_480
  let v1122 : BitVec 32 := v1121
  let v1131 : Index := Scalar.indexCast v1122
  ![v1130.toNat, v1131.toNat]
def k0_off92 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1139 : Index := Scalar.indexCast v407
  let c0_482 : Index := 0#32
  let c256_483 : Index := 256#32
  ![v1139.toNat, 0, 256]
def k0_off93 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1143 : Index := Scalar.indexCast v407
  let c0_485 : Index := 0#32
  let c256_486 : Index := 256#32
  ![v1143.toNat, 0, 256]
def k0_off94 (v401 : BitVec 32) : Fin 2 → Nat :=
  let v402 : BitVec 32 := v401
  let v1190 : Index := Scalar.indexCast v402
  let c0_501 : Index := 0#32
  ![v1190.toNat, 0]
def k0_off95 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1211 : Index := Scalar.indexCast v407
  let c256_507 : Index := 256#32
  let c256_508 : Index := 256#32
  ![v1211.toNat, 256, 256]
def k0_off96 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1215 : Index := Scalar.indexCast v407
  let c16_510 : Index := 16#32
  let c256_511 : Index := 256#32
  ![v1215.toNat, 16, 256]
def k0_off97 (v401 : BitVec 32) : Fin 2 → Nat :=
  let v402 : BitVec 32 := v401
  let v1262 : Index := Scalar.indexCast v402
  let c256_526 : Index := 256#32
  ![v1262.toNat, 256]
def k0_off98 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1274 : Index := Scalar.indexCast v407
  let c512_532 : Index := 512#32
  let c256_533 : Index := 256#32
  ![v1274.toNat, 512, 256]
def k0_off99 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1278 : Index := Scalar.indexCast v407
  let c32_535 : Index := 32#32
  let c256_536 : Index := 256#32
  ![v1278.toNat, 32, 256]
def k0_off100 (v401 : BitVec 32) : Fin 2 → Nat :=
  let v402 : BitVec 32 := v401
  let v1325 : Index := Scalar.indexCast v402
  let c512_551 : Index := 512#32
  ![v1325.toNat, 512]
def k0_off101 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1346 : Index := Scalar.indexCast v407
  let c768_557 : Index := 768#32
  let c256_558 : Index := 256#32
  ![v1346.toNat, 768, 256]
def k0_off102 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1350 : Index := Scalar.indexCast v407
  let c48_560 : Index := 48#32
  let c256_561 : Index := 256#32
  ![v1350.toNat, 48, 256]
def k0_off103 (v401 : BitVec 32) : Fin 2 → Nat :=
  let v402 : BitVec 32 := v401
  let v1397 : Index := Scalar.indexCast v402
  let c768_576 : Index := 768#32
  ![v1397.toNat, 768]
def k0_off104 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1409 : Index := Scalar.indexCast v407
  let c1024_582 : Index := 1024#32
  let c256_583 : Index := 256#32
  ![v1409.toNat, 1024, 256]
def k0_off105 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1413 : Index := Scalar.indexCast v407
  let c64_585 : Index := 64#32
  let c256_586 : Index := 256#32
  ![v1413.toNat, 64, 256]
def k0_off106 (v401 : BitVec 32) : Fin 2 → Nat :=
  let v402 : BitVec 32 := v401
  let v1460 : Index := Scalar.indexCast v402
  let c1024_601 : Index := 1024#32
  ![v1460.toNat, 1024]
def k0_off107 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1481 : Index := Scalar.indexCast v407
  let c1280_607 : Index := 1280#32
  let c256_608 : Index := 256#32
  ![v1481.toNat, 1280, 256]
def k0_off108 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1485 : Index := Scalar.indexCast v407
  let c80_610 : Index := 80#32
  let c256_611 : Index := 256#32
  ![v1485.toNat, 80, 256]
def k0_off109 (v401 : BitVec 32) : Fin 2 → Nat :=
  let v402 : BitVec 32 := v401
  let v1532 : Index := Scalar.indexCast v402
  let c1280_626 : Index := 1280#32
  ![v1532.toNat, 1280]
def k0_off110 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1544 : Index := Scalar.indexCast v407
  let c1536_632 : Index := 1536#32
  let c256_633 : Index := 256#32
  ![v1544.toNat, 1536, 256]
def k0_off111 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1548 : Index := Scalar.indexCast v407
  let c96_635 : Index := 96#32
  let c256_636 : Index := 256#32
  ![v1548.toNat, 96, 256]
def k0_off112 (v401 : BitVec 32) : Fin 2 → Nat :=
  let v402 : BitVec 32 := v401
  let v1595 : Index := Scalar.indexCast v402
  let c1536_651 : Index := 1536#32
  ![v1595.toNat, 1536]
def k0_off113 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1616 : Index := Scalar.indexCast v407
  let c1792_657 : Index := 1792#32
  let c256_658 : Index := 256#32
  ![v1616.toNat, 1792, 256]
def k0_off114 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1620 : Index := Scalar.indexCast v407
  let c112_660 : Index := 112#32
  let c256_661 : Index := 256#32
  ![v1620.toNat, 112, 256]
def k0_off115 (v401 : BitVec 32) : Fin 2 → Nat :=
  let v402 : BitVec 32 := v401
  let v1667 : Index := Scalar.indexCast v402
  let c1792_676 : Index := 1792#32
  ![v1667.toNat, 1792]
def k0_off116 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1679 : Index := Scalar.indexCast v407
  let c2048_682 : Index := 2048#32
  let c256_683 : Index := 256#32
  ![v1679.toNat, 2048, 256]
def k0_off117 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1683 : Index := Scalar.indexCast v407
  let c128_685 : Index := 128#32
  let c256_686 : Index := 256#32
  ![v1683.toNat, 128, 256]
def k0_off118 (v401 : BitVec 32) : Fin 2 → Nat :=
  let v402 : BitVec 32 := v401
  let v1730 : Index := Scalar.indexCast v402
  let c2048_701 : Index := 2048#32
  ![v1730.toNat, 2048]
def k0_off119 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1751 : Index := Scalar.indexCast v407
  let c2304_707 : Index := 2304#32
  let c256_708 : Index := 256#32
  ![v1751.toNat, 2304, 256]
def k0_off120 (v1_0 : BitVec 32) (k0_t2 : Fin (k0_t2_loop v1_0).trips) : Fin 3 → Nat :=
  let c0_i32_220 : BitVec 32 := 0#32
  let c1_i32_223 : BitVec 32 := 1#32
  let arg16 : BitVec 32 := Scf.iv c0_i32_220 c1_i32_223 k0_t2
  let c6_i32_226 : BitVec 32 := 6#32
  let v407 : BitVec 32 := Scalar.remsi arg16 c6_i32_226
  let v1755 : Index := Scalar.indexCast v407
  let c144_710 : Index := 144#32
  let c256_711 : Index := 256#32
  ![v1755.toNat, 144, 256]
def k0_off121 (v401 : BitVec 32) : Fin 2 → Nat :=
  let v402 : BitVec 32 := v401
  let v1802 : Index := Scalar.indexCast v402
  let c2304_726 : Index := 2304#32
  ![v1802.toNat, 2304]

def k0_chk8 (v1_0 : BitVec 32) (k0_t2 : Fin (k0_t2_loop v1_0).trips) (v401 : BitVec 32) : Prop :=
  (32 ∣ (k0_mult6 v401).toNat) ∧
  (∀ a, (k0_off59 v401) a + S128x128.size a ≤ S256x128.size a) ∧
  (∀ a, (k0_off62 v401) a + S128x256.size a ≤ S256x2560.size a) ∧
  (∀ a, (k0_off65 v401) a + S128x256.size a ≤ S256x2560.size a) ∧
  (∀ a, (k0_off68 v401) a + S128x256.size a ≤ S256x2560.size a) ∧
  (∀ a, (k0_off71 v401) a + S128x256.size a ≤ S256x2560.size a) ∧
  (∀ a, (k0_off74 v401) a + S128x256.size a ≤ S256x2560.size a) ∧
  (∀ a, (k0_off77 v401) a + S128x256.size a ≤ S256x2560.size a) ∧
  (∀ a, (k0_off80 v401) a + S128x256.size a ≤ S256x2560.size a) ∧
  (∀ a, (k0_off83 v401) a + S128x256.size a ≤ S256x2560.size a) ∧
  (∀ a, (k0_off86 v401) a + S128x256.size a ≤ S256x2560.size a) ∧
  (∀ a, (k0_off89 v401) a + S128x256.size a ≤ S256x2560.size a) ∧
  (∀ (r : Fin 2), ∀ a, (k0_off91 v1_0 k0_t2 v401 (BitVec.ofNat 32 (256 * r.val))) a + S128x256.size a ≤ S256x3072.size a) ∧
  (∀ (r : Fin 2), ∀ (hinb : ∀ a, (k0_off91 v1_0 k0_t2 v401 (BitVec.ofNat 32 (256 * r.val))) a + S128x256.size a ≤ S256x3072.size a), (Rect.unit (s := S256x3072) (k0_off91 v1_0 k0_t2 v401 (BitVec.ofNat 32 (256 * r.val))) S128x256.size hinb).PackedRows (EltTy.packing .bf16)) ∧
  (∀ a, (k0_off94 v401) a + S128x256.size a ≤ S256x2560.size a) ∧
  (∀ a, (k0_off97 v401) a + S128x256.size a ≤ S256x2560.size a) ∧
  (∀ a, (k0_off100 v401) a + S128x256.size a ≤ S256x2560.size a) ∧
  (∀ a, (k0_off103 v401) a + S128x256.size a ≤ S256x2560.size a) ∧
  (∀ a, (k0_off106 v401) a + S128x256.size a ≤ S256x2560.size a) ∧
  (∀ a, (k0_off109 v401) a + S128x256.size a ≤ S256x2560.size a) ∧
  (∀ a, (k0_off112 v401) a + S128x256.size a ≤ S256x2560.size a) ∧
  (∀ a, (k0_off115 v401) a + S128x256.size a ≤ S256x2560.size a) ∧
  (∀ a, (k0_off118 v401) a + S128x256.size a ≤ S256x2560.size a) ∧
  (∀ a, (k0_off121 v401) a + S128x256.size a ≤ S256x2560.size a)
theorem k0_mult6_dvd : ∀ (v1_0 : BitVec 32) (k0_t2 : Fin (k0_t2_loop v1_0).trips) (v401 : BitVec 32) (k0_hw8 : k0_chk8 v1_0 k0_t2 v401), 32 ∣ (k0_mult6 v401).toNat := fun v1_0 k0_t2 v401 k0_hw8 => k0_hw8.1
theorem k0_off59_inb : ∀ (v1_0 : BitVec 32) (k0_t2 : Fin (k0_t2_loop v1_0).trips) (v401 : BitVec 32) (k0_hw8 : k0_chk8 v1_0 k0_t2 v401), ∀ a, (k0_off59 v401) a + S128x128.size a ≤ S256x128.size a := fun v1_0 k0_t2 v401 k0_hw8 => k0_hw8.2.1
theorem k0_off62_inb : ∀ (v1_0 : BitVec 32) (k0_t2 : Fin (k0_t2_loop v1_0).trips) (v401 : BitVec 32) (k0_hw8 : k0_chk8 v1_0 k0_t2 v401), ∀ a, (k0_off62 v401) a + S128x256.size a ≤ S256x2560.size a := fun v1_0 k0_t2 v401 k0_hw8 => k0_hw8.2.2.1
theorem k0_off65_inb : ∀ (v1_0 : BitVec 32) (k0_t2 : Fin (k0_t2_loop v1_0).trips) (v401 : BitVec 32) (k0_hw8 : k0_chk8 v1_0 k0_t2 v401), ∀ a, (k0_off65 v401) a + S128x256.size a ≤ S256x2560.size a := fun v1_0 k0_t2 v401 k0_hw8 => k0_hw8.2.2.2.1
theorem k0_off68_inb : ∀ (v1_0 : BitVec 32) (k0_t2 : Fin (k0_t2_loop v1_0).trips) (v401 : BitVec 32) (k0_hw8 : k0_chk8 v1_0 k0_t2 v401), ∀ a, (k0_off68 v401) a + S128x256.size a ≤ S256x2560.size a := fun v1_0 k0_t2 v401 k0_hw8 => k0_hw8.2.2.2.2.1
theorem k0_off71_inb : ∀ (v1_0 : BitVec 32) (k0_t2 : Fin (k0_t2_loop v1_0).trips) (v401 : BitVec 32) (k0_hw8 : k0_chk8 v1_0 k0_t2 v401), ∀ a, (k0_off71 v401) a + S128x256.size a ≤ S256x2560.size a := fun v1_0 k0_t2 v401 k0_hw8 => k0_hw8.2.2.2.2.2.1
theorem k0_off74_inb : ∀ (v1_0 : BitVec 32) (k0_t2 : Fin (k0_t2_loop v1_0).trips) (v401 : BitVec 32) (k0_hw8 : k0_chk8 v1_0 k0_t2 v401), ∀ a, (k0_off74 v401) a + S128x256.size a ≤ S256x2560.size a := fun v1_0 k0_t2 v401 k0_hw8 => k0_hw8.2.2.2.2.2.2.1
theorem k0_off77_inb : ∀ (v1_0 : BitVec 32) (k0_t2 : Fin (k0_t2_loop v1_0).trips) (v401 : BitVec 32) (k0_hw8 : k0_chk8 v1_0 k0_t2 v401), ∀ a, (k0_off77 v401) a + S128x256.size a ≤ S256x2560.size a := fun v1_0 k0_t2 v401 k0_hw8 => k0_hw8.2.2.2.2.2.2.2.1
theorem k0_off80_inb : ∀ (v1_0 : BitVec 32) (k0_t2 : Fin (k0_t2_loop v1_0).trips) (v401 : BitVec 32) (k0_hw8 : k0_chk8 v1_0 k0_t2 v401), ∀ a, (k0_off80 v401) a + S128x256.size a ≤ S256x2560.size a := fun v1_0 k0_t2 v401 k0_hw8 => k0_hw8.2.2.2.2.2.2.2.2.1
theorem k0_off83_inb : ∀ (v1_0 : BitVec 32) (k0_t2 : Fin (k0_t2_loop v1_0).trips) (v401 : BitVec 32) (k0_hw8 : k0_chk8 v1_0 k0_t2 v401), ∀ a, (k0_off83 v401) a + S128x256.size a ≤ S256x2560.size a := fun v1_0 k0_t2 v401 k0_hw8 => k0_hw8.2.2.2.2.2.2.2.2.2.1
theorem k0_off86_inb : ∀ (v1_0 : BitVec 32) (k0_t2 : Fin (k0_t2_loop v1_0).trips) (v401 : BitVec 32) (k0_hw8 : k0_chk8 v1_0 k0_t2 v401), ∀ a, (k0_off86 v401) a + S128x256.size a ≤ S256x2560.size a := fun v1_0 k0_t2 v401 k0_hw8 => k0_hw8.2.2.2.2.2.2.2.2.2.2.1
theorem k0_off89_inb : ∀ (v1_0 : BitVec 32) (k0_t2 : Fin (k0_t2_loop v1_0).trips) (v401 : BitVec 32) (k0_hw8 : k0_chk8 v1_0 k0_t2 v401), ∀ a, (k0_off89 v401) a + S128x256.size a ≤ S256x2560.size a := fun v1_0 k0_t2 v401 k0_hw8 => k0_hw8.2.2.2.2.2.2.2.2.2.2.2.1
theorem k0_off91_inb : ∀ (v1_0 : BitVec 32) (k0_t2 : Fin (k0_t2_loop v1_0).trips) (v401 : BitVec 32) (k0_hw8 : k0_chk8 v1_0 k0_t2 v401), ∀ (r : Fin 2), ∀ a, (k0_off91 v1_0 k0_t2 v401 (BitVec.ofNat 32 (256 * r.val))) a + S128x256.size a ≤ S256x3072.size a := fun v1_0 k0_t2 v401 k0_hw8 r => k0_hw8.2.2.2.2.2.2.2.2.2.2.2.2.1 r
theorem k0_off91_packedbf16 : ∀ (v1_0 : BitVec 32) (k0_t2 : Fin (k0_t2_loop v1_0).trips) (v401 : BitVec 32) (k0_hw8 : k0_chk8 v1_0 k0_t2 v401), ∀ (r : Fin 2), (Rect.unit (s := S256x3072) (k0_off91 v1_0 k0_t2 v401 (BitVec.ofNat 32 (256 * r.val))) S128x256.size (k0_off91_inb v1_0 k0_t2 v401 k0_hw8 r)).PackedRows (EltTy.packing .bf16) := fun v1_0 k0_t2 v401 k0_hw8 r => k0_hw8.2.2.2.2.2.2.2.2.2.2.2.2.2.1 r (k0_off91_inb v1_0 k0_t2 v401 k0_hw8 r)
theorem k0_off94_inb : ∀ (v1_0 : BitVec 32) (k0_t2 : Fin (k0_t2_loop v1_0).trips) (v401 : BitVec 32) (k0_hw8 : k0_chk8 v1_0 k0_t2 v401), ∀ a, (k0_off94 v401) a + S128x256.size a ≤ S256x2560.size a := fun v1_0 k0_t2 v401 k0_hw8 => k0_hw8.2.2.2.2.2.2.2.2.2.2.2.2.2.2.1
theorem k0_off97_inb : ∀ (v1_0 : BitVec 32) (k0_t2 : Fin (k0_t2_loop v1_0).trips) (v401 : BitVec 32) (k0_hw8 : k0_chk8 v1_0 k0_t2 v401), ∀ a, (k0_off97 v401) a + S128x256.size a ≤ S256x2560.size a := fun v1_0 k0_t2 v401 k0_hw8 => k0_hw8.2.2.2.2.2.2.2.2.2.2.2.2.2.2.2.1
theorem k0_off100_inb : ∀ (v1_0 : BitVec 32) (k0_t2 : Fin (k0_t2_loop v1_0).trips) (v401 : BitVec 32) (k0_hw8 : k0_chk8 v1_0 k0_t2 v401), ∀ a, (k0_off100 v401) a + S128x256.size a ≤ S256x2560.size a := fun v1_0 k0_t2 v401 k0_hw8 => k0_hw8.2.2.2.2.2.2.2.2.2.2.2.2.2.2.2.2.1
theorem k0_off103_inb : ∀ (v1_0 : BitVec 32) (k0_t2 : Fin (k0_t2_loop v1_0).trips) (v401 : BitVec 32) (k0_hw8 : k0_chk8 v1_0 k0_t2 v401), ∀ a, (k0_off103 v401) a + S128x256.size a ≤ S256x2560.size a := fun v1_0 k0_t2 v401 k0_hw8 => k0_hw8.2.2.2.2.2.2.2.2.2.2.2.2.2.2.2.2.2.1
theorem k0_off106_inb : ∀ (v1_0 : BitVec 32) (k0_t2 : Fin (k0_t2_loop v1_0).trips) (v401 : BitVec 32) (k0_hw8 : k0_chk8 v1_0 k0_t2 v401), ∀ a, (k0_off106 v401) a + S128x256.size a ≤ S256x2560.size a := fun v1_0 k0_t2 v401 k0_hw8 => k0_hw8.2.2.2.2.2.2.2.2.2.2.2.2.2.2.2.2.2.2.1
theorem k0_off109_inb : ∀ (v1_0 : BitVec 32) (k0_t2 : Fin (k0_t2_loop v1_0).trips) (v401 : BitVec 32) (k0_hw8 : k0_chk8 v1_0 k0_t2 v401), ∀ a, (k0_off109 v401) a + S128x256.size a ≤ S256x2560.size a := fun v1_0 k0_t2 v401 k0_hw8 => k0_hw8.2.2.2.2.2.2.2.2.2.2.2.2.2.2.2.2.2.2.2.1
theorem k0_off112_inb : ∀ (v1_0 : BitVec 32) (k0_t2 : Fin (k0_t2_loop v1_0).trips) (v401 : BitVec 32) (k0_hw8 : k0_chk8 v1_0 k0_t2 v401), ∀ a, (k0_off112 v401) a + S128x256.size a ≤ S256x2560.size a := fun v1_0 k0_t2 v401 k0_hw8 => k0_hw8.2.2.2.2.2.2.2.2.2.2.2.2.2.2.2.2.2.2.2.2.1
theorem k0_off115_inb : ∀ (v1_0 : BitVec 32) (k0_t2 : Fin (k0_t2_loop v1_0).trips) (v401 : BitVec 32) (k0_hw8 : k0_chk8 v1_0 k0_t2 v401), ∀ a, (k0_off115 v401) a + S128x256.size a ≤ S256x2560.size a := fun v1_0 k0_t2 v401 k0_hw8 => k0_hw8.2.2.2.2.2.2.2.2.2.2.2.2.2.2.2.2.2.2.2.2.2.1
theorem k0_off118_inb : ∀ (v1_0 : BitVec 32) (k0_t2 : Fin (k0_t2_loop v1_0).trips) (v401 : BitVec 32) (k0_hw8 : k0_chk8 v1_0 k0_t2 v401), ∀ a, (k0_off118 v401) a + S128x256.size a ≤ S256x2560.size a := fun v1_0 k0_t2 v401 k0_hw8 => k0_hw8.2.2.2.2.2.2.2.2.2.2.2.2.2.2.2.2.2.2.2.2.2.2.1
theorem k0_off121_inb : ∀ (v1_0 : BitVec 32) (k0_t2 : Fin (k0_t2_loop v1_0).trips) (v401 : BitVec 32) (k0_hw8 : k0_chk8 v1_0 k0_t2 v401), ∀ a, (k0_off121 v401) a + S128x256.size a ≤ S256x2560.size a := fun v1_0 k0_t2 v401 k0_hw8 => k0_hw8.2.2.2.2.2.2.2.2.2.2.2.2.2.2.2.2.2.2.2.2.2.2.2

def k0_mult10 (v1_0 : BitVec 32) (k0_t2 : Fin (k0_t2_loop v1_0).trips) : BitVec 32 :=
  let c0_i32_220 : BitVec 32 := 0#32
  let c1_i32_223 : BitVec 32 := 1#32
  let arg16 : BitVec 32 := Scf.iv c0_i32_220 c1_i32_223 k0_t2
  let v395 : BitVec 32 := Scalar.divsi arg16 v1_0
  let c512_i32_732 : BitVec 32 := 512#32
  let v1814 : BitVec 32 := Scalar.muli v395 c512_i32_732
  let c256_i32 : BitVec 32 := 256#32
  let v1815 : BitVec 32 := Scalar.addi v1814 c256_i32
  v1815
@[reducible] def k0_t3_loop (v1_0 : BitVec 32) : Scf.Loop 32 :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let v389 : BitVec 32 := Scalar.addi c0_i32_220 v388
  let c1_i32_224 : BitVec 32 := 1#32
  ⟨v392, v389, c1_i32_224⟩
def k0_off122 (v1_0 : BitVec 32) (k0_t3 : Fin (k0_t3_loop v1_0).trips) : Fin 2 → Nat :=
  let c0_225 : Index := 0#32
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let v395 : BitVec 32 := Scalar.divsi arg16 v1_0
  let v396 : BitVec 32 := Scalar.muli v395 v1_0
  let v397 : BitVec 32 := Scalar.subi arg16 v396
  let v398 : Index := Scalar.indexCast v397
  ![0, v398.toNat]
def k0_off123 (v1_0 : BitVec 32) (k0_t3 : Fin (k0_t3_loop v1_0).trips) : Fin 2 → Nat :=
  let c1 : Index := 1#32
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let v395 : BitVec 32 := Scalar.divsi arg16 v1_0
  let v396 : BitVec 32 := Scalar.muli v395 v1_0
  let v397 : BitVec 32 := Scalar.subi arg16 v396
  let v400 : Index := Scalar.indexCast v397
  ![1, v400.toNat]
def k0_mult11 (v401 : BitVec 32) : BitVec 32 :=
  v401

def k0_off124 (v1_0 : BitVec 32) (k0_t3 : Fin (k0_t3_loop v1_0).trips) : Fin 2 → Nat :=
  let c2 : Index := 2#32
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let v395 : BitVec 32 := Scalar.divsi arg16 v1_0
  let v396 : BitVec 32 := Scalar.muli v395 v1_0
  let v397 : BitVec 32 := Scalar.subi arg16 v396
  let v403 : Index := Scalar.indexCast v397
  ![2, v403.toNat]
def k0_off125 (v1_0 : BitVec 32) (k0_t3 : Fin (k0_t3_loop v1_0).trips) : Fin 2 → Nat :=
  let c3 : Index := 3#32
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let v395 : BitVec 32 := Scalar.divsi arg16 v1_0
  let v396 : BitVec 32 := Scalar.muli v395 v1_0
  let v397 : BitVec 32 := Scalar.subi arg16 v396
  let v405 : Index := Scalar.indexCast v397
  ![3, v405.toNat]
def k0_off126 (v1_0 : BitVec 32) (k0_t3 : Fin (k0_t3_loop v1_0).trips) : Fin 2 → Nat :=
  let c0_734 : Index := 0#32
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_227 : BitVec 32 := 6#32
  let v408 : BitVec 32 := Scalar.addi arg16 c6_i32_227
  let c1_i32_228 : BitVec 32 := 1#32
  let v409 : BitVec 32 := Scalar.subi v408 c1_i32_228
  let v1832 : BitVec 32 := Scalar.divsi v409 v1_0
  let v1833 : BitVec 32 := Scalar.muli v1832 v1_0
  let v1834 : BitVec 32 := Scalar.subi v409 v1833
  let v1835 : Index := Scalar.indexCast v1834
  ![0, v1835.toNat]
def k0_cond7 (v1_0 : BitVec 32) (k0_t3 : Fin (k0_t3_loop v1_0).trips) : BitVec 1 :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_227 : BitVec 32 := 6#32
  let v408 : BitVec 32 := Scalar.addi arg16 c6_i32_227
  let c1_i32_228 : BitVec 32 := 1#32
  let v409 : BitVec 32 := Scalar.subi v408 c1_i32_228
  let v410 : BitVec 1 := Scalar.cmpi .slt v409 v2
  let v411 : BitVec 32 := Scalar.extui v410
  let c0_i32_229 : BitVec 32 := 0#32
  let v412 : BitVec 1 := Scalar.cmpi .ne v411 c0_i32_229
  v412

def k0_mult12 (v1_0 : BitVec 32) (k0_t3 : Fin (k0_t3_loop v1_0).trips) : BitVec 32 :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_227 : BitVec 32 := 6#32
  let v408 : BitVec 32 := Scalar.addi arg16 c6_i32_227
  let c1_i32_228 : BitVec 32 := 1#32
  let v409 : BitVec 32 := Scalar.subi v408 c1_i32_228
  let v1832 : BitVec 32 := Scalar.divsi v409 v1_0
  let c512_i32_736 : BitVec 32 := 512#32
  let v1838 : BitVec 32 := Scalar.muli v1832 c512_i32_736
  v1838
def k0_off127 (v1_0 : BitVec 32) (k0_t3 : Fin (k0_t3_loop v1_0).trips) : Fin 1 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_227 : BitVec 32 := 6#32
  let v408 : BitVec 32 := Scalar.addi arg16 c6_i32_227
  let c1_i32_228 : BitVec 32 := 1#32
  let v409 : BitVec 32 := Scalar.subi v408 c1_i32_228
  let c6_i32_735 : BitVec 32 := 6#32
  let v1837 : BitVec 32 := Scalar.remsi v409 c6_i32_735
  ![v1837.toNat]
def k0_off128 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_227 : BitVec 32 := 6#32
  let v408 : BitVec 32 := Scalar.addi arg16 c6_i32_227
  let c1_i32_228 : BitVec 32 := 1#32
  let v409 : BitVec 32 := Scalar.subi v408 c1_i32_228
  let c6_i32_735 : BitVec 32 := 6#32
  let v1837 : BitVec 32 := Scalar.remsi v409 c6_i32_735
  let c0_i32_737 : BitVec 32 := 0#32
  let c0_i32_738 : BitVec 32 := 0#32
  ![v1837.toNat, 0, 0]
def k0_off129 (v1_0 : BitVec 32) (k0_t3 : Fin (k0_t3_loop v1_0).trips) (v1836 : BitVec 32) : Fin 3 → Nat :=
  let c0_i32_739 : BitVec 32 := 0#32
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_227 : BitVec 32 := 6#32
  let v408 : BitVec 32 := Scalar.addi arg16 c6_i32_227
  let c1_i32_228 : BitVec 32 := 1#32
  let v409 : BitVec 32 := Scalar.subi v408 c1_i32_228
  let v1832 : BitVec 32 := Scalar.divsi v409 v1_0
  let c512_i32_736 : BitVec 32 := 512#32
  let v1838 : BitVec 32 := Scalar.muli v1832 c512_i32_736
  let v1839 : BitVec 32 := v1838
  ![v1836.toNat, 0, v1839.toNat]

def k0_off130 (v1_0 : BitVec 32) (k0_t3 : Fin (k0_t3_loop v1_0).trips) : Fin 1 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_227 : BitVec 32 := 6#32
  let v408 : BitVec 32 := Scalar.addi arg16 c6_i32_227
  let c1_i32_228 : BitVec 32 := 1#32
  let v409 : BitVec 32 := Scalar.subi v408 c1_i32_228
  let c6_i32_735 : BitVec 32 := 6#32
  let v1837 : BitVec 32 := Scalar.remsi v409 c6_i32_735
  ![v1837.toNat]
def k0_off131 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_227 : BitVec 32 := 6#32
  let v408 : BitVec 32 := Scalar.addi arg16 c6_i32_227
  let c1_i32_228 : BitVec 32 := 1#32
  let v409 : BitVec 32 := Scalar.subi v408 c1_i32_228
  let c6_i32_735 : BitVec 32 := 6#32
  let v1837 : BitVec 32 := Scalar.remsi v409 c6_i32_735
  let c0_i32_740 : BitVec 32 := 0#32
  let c0_i32_741 : BitVec 32 := 0#32
  ![v1837.toNat, 0, 0]
def k0_off132 (v1_0 : BitVec 32) (k0_t3 : Fin (k0_t3_loop v1_0).trips) (v1836 : BitVec 32) : Fin 3 → Nat :=
  let c0_i32_742 : BitVec 32 := 0#32
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_227 : BitVec 32 := 6#32
  let v408 : BitVec 32 := Scalar.addi arg16 c6_i32_227
  let c1_i32_228 : BitVec 32 := 1#32
  let v409 : BitVec 32 := Scalar.subi v408 c1_i32_228
  let v1832 : BitVec 32 := Scalar.divsi v409 v1_0
  let c512_i32_736 : BitVec 32 := 512#32
  let v1838 : BitVec 32 := Scalar.muli v1832 c512_i32_736
  let v1839 : BitVec 32 := v1838
  ![v1836.toNat, 0, v1839.toNat]

def k0_chk13 (v1_0 : BitVec 32) (k0_t3 : Fin (k0_t3_loop v1_0).trips) (v1836 : BitVec 32) : Prop :=
  (∀ (k0_h7 : k0_cond7 v1_0 k0_t3 = 1#1), ∀ a, (k0_off129 v1_0 k0_t3 v1836) a + S1x2560x512.size a ≤ S21x2560x3072.size a) ∧
  (∀ (k0_h7 : k0_cond7 v1_0 k0_t3 = 1#1), ∀ (hinb : ∀ a, (k0_off129 v1_0 k0_t3 v1836) a + S1x2560x512.size a ≤ S21x2560x3072.size a), (Rect.unit (s := S21x2560x3072) (k0_off129 v1_0 k0_t3 v1836) S1x2560x512.size hinb).WholeWords (EltTy.packing .fp8e4m3)) ∧
  (∀ (k0_h7 : k0_cond7 v1_0 k0_t3 = 1#1), ∀ a, (k0_off132 v1_0 k0_t3 v1836) a + S1x160x512.size a ≤ S21x160x3072.size a)
theorem k0_off129_inb : ∀ (v1_0 : BitVec 32) (k0_t3 : Fin (k0_t3_loop v1_0).trips) (v1836 : BitVec 32) (k0_hw13 : k0_chk13 v1_0 k0_t3 v1836), ∀ (k0_h7 : k0_cond7 v1_0 k0_t3 = 1#1), ∀ a, (k0_off129 v1_0 k0_t3 v1836) a + S1x2560x512.size a ≤ S21x2560x3072.size a := fun v1_0 k0_t3 v1836 k0_hw13 k0_h7 => k0_hw13.1 k0_h7
theorem k0_off129_wordsfp8e4m3 : ∀ (v1_0 : BitVec 32) (k0_t3 : Fin (k0_t3_loop v1_0).trips) (v1836 : BitVec 32) (k0_hw13 : k0_chk13 v1_0 k0_t3 v1836), ∀ (k0_h7 : k0_cond7 v1_0 k0_t3 = 1#1), (Rect.unit (s := S21x2560x3072) (k0_off129 v1_0 k0_t3 v1836) S1x2560x512.size (k0_off129_inb v1_0 k0_t3 v1836 k0_hw13 k0_h7)).WholeWords (EltTy.packing .fp8e4m3) := fun v1_0 k0_t3 v1836 k0_hw13 k0_h7 => k0_hw13.2.1 k0_h7 (k0_off129_inb v1_0 k0_t3 v1836 k0_hw13 k0_h7)
theorem k0_off132_inb : ∀ (v1_0 : BitVec 32) (k0_t3 : Fin (k0_t3_loop v1_0).trips) (v1836 : BitVec 32) (k0_hw13 : k0_chk13 v1_0 k0_t3 v1836), ∀ (k0_h7 : k0_cond7 v1_0 k0_t3 = 1#1), ∀ a, (k0_off132 v1_0 k0_t3 v1836) a + S1x160x512.size a ≤ S21x160x3072.size a := fun v1_0 k0_t3 v1836 k0_hw13 k0_h7 => k0_hw13.2.2 k0_h7

def k0_off133 (v1_0 : BitVec 32) (k0_t3 : Fin (k0_t3_loop v1_0).trips) : Fin 2 → Nat :=
  let c0_230 : Index := 0#32
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let v413 : BitVec 32 := Scalar.divsi arg16 v1_0
  let v414 : BitVec 32 := Scalar.muli v413 v1_0
  let v415 : BitVec 32 := Scalar.subi arg16 v414
  let v416 : Index := Scalar.indexCast v415
  ![0, v416.toNat]
def k0_mult13 (v1_0 : BitVec 32) (k0_t3 : Fin (k0_t3_loop v1_0).trips) : BitVec 32 :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let v413 : BitVec 32 := Scalar.divsi arg16 v1_0
  let c512_i32 : BitVec 32 := 512#32
  let v419 : BitVec 32 := Scalar.muli v413 c512_i32
  v419
def k0_off134 (v1_0 : BitVec 32) (k0_t3 : Fin (k0_t3_loop v1_0).trips) : Fin 1 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_231 : BitVec 32 := 6#32
  let v418 : BitVec 32 := Scalar.remsi arg16 c6_i32_231
  ![v418.toNat]
def k0_off135 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_231 : BitVec 32 := 6#32
  let v418 : BitVec 32 := Scalar.remsi arg16 c6_i32_231
  let c0_i32_232 : BitVec 32 := 0#32
  let c0_i32_233 : BitVec 32 := 0#32
  ![v418.toNat, 0, 0]
def k0_off136 (v1_0 : BitVec 32) (k0_t3 : Fin (k0_t3_loop v1_0).trips) (v417 : BitVec 32) : Fin 3 → Nat :=
  let c0_i32_234 : BitVec 32 := 0#32
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let v413 : BitVec 32 := Scalar.divsi arg16 v1_0
  let c512_i32 : BitVec 32 := 512#32
  let v419 : BitVec 32 := Scalar.muli v413 c512_i32
  let v420 : BitVec 32 := v419
  ![v417.toNat, 0, v420.toNat]

def k0_off137 (v1_0 : BitVec 32) (k0_t3 : Fin (k0_t3_loop v1_0).trips) : Fin 1 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_231 : BitVec 32 := 6#32
  let v418 : BitVec 32 := Scalar.remsi arg16 c6_i32_231
  ![v418.toNat]
def k0_off138 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_231 : BitVec 32 := 6#32
  let v418 : BitVec 32 := Scalar.remsi arg16 c6_i32_231
  let c0_i32_235 : BitVec 32 := 0#32
  let c0_i32_236 : BitVec 32 := 0#32
  ![v418.toNat, 0, 0]
def k0_off139 (v1_0 : BitVec 32) (k0_t3 : Fin (k0_t3_loop v1_0).trips) (v417 : BitVec 32) : Fin 3 → Nat :=
  let c0_i32_237 : BitVec 32 := 0#32
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let v413 : BitVec 32 := Scalar.divsi arg16 v1_0
  let c512_i32 : BitVec 32 := 512#32
  let v419 : BitVec 32 := Scalar.muli v413 c512_i32
  let v420 : BitVec 32 := v419
  ![v417.toNat, 0, v420.toNat]

def k0_chk14 (v1_0 : BitVec 32) (k0_t3 : Fin (k0_t3_loop v1_0).trips) (v417 : BitVec 32) : Prop :=
  (∀ a, (k0_off136 v1_0 k0_t3 v417) a + S1x2560x512.size a ≤ S21x2560x3072.size a) ∧
  (∀ (hinb : ∀ a, (k0_off136 v1_0 k0_t3 v417) a + S1x2560x512.size a ≤ S21x2560x3072.size a), (Rect.unit (s := S21x2560x3072) (k0_off136 v1_0 k0_t3 v417) S1x2560x512.size hinb).WholeWords (EltTy.packing .fp8e4m3)) ∧
  (∀ a, (k0_off139 v1_0 k0_t3 v417) a + S1x160x512.size a ≤ S21x160x3072.size a)
theorem k0_off136_inb : ∀ (v1_0 : BitVec 32) (k0_t3 : Fin (k0_t3_loop v1_0).trips) (v417 : BitVec 32) (k0_hw14 : k0_chk14 v1_0 k0_t3 v417), ∀ a, (k0_off136 v1_0 k0_t3 v417) a + S1x2560x512.size a ≤ S21x2560x3072.size a := fun v1_0 k0_t3 v417 k0_hw14 => k0_hw14.1
theorem k0_off136_wordsfp8e4m3 : ∀ (v1_0 : BitVec 32) (k0_t3 : Fin (k0_t3_loop v1_0).trips) (v417 : BitVec 32) (k0_hw14 : k0_chk14 v1_0 k0_t3 v417), (Rect.unit (s := S21x2560x3072) (k0_off136 v1_0 k0_t3 v417) S1x2560x512.size (k0_off136_inb v1_0 k0_t3 v417 k0_hw14)).WholeWords (EltTy.packing .fp8e4m3) := fun v1_0 k0_t3 v417 k0_hw14 => k0_hw14.2.1 (k0_off136_inb v1_0 k0_t3 v417 k0_hw14)
theorem k0_off139_inb : ∀ (v1_0 : BitVec 32) (k0_t3 : Fin (k0_t3_loop v1_0).trips) (v417 : BitVec 32) (k0_hw14 : k0_chk14 v1_0 k0_t3 v417), ∀ a, (k0_off139 v1_0 k0_t3 v417) a + S1x160x512.size a ≤ S21x160x3072.size a := fun v1_0 k0_t3 v417 k0_hw14 => k0_hw14.2.2

def k0_off140 (v401 : BitVec 32) : Fin 2 → Nat :=
  let v402 : BitVec 32 := v401
  let v441 : Index := Scalar.indexCast v402
  let c0_238 : Index := 0#32
  ![v441.toNat, 0]
def k0_off141 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v445 : Index := Scalar.indexCast v407
  let c0_240 : Index := 0#32
  let c0_241 : Index := 0#32
  ![v445.toNat, 0, 0]
def k0_off142 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v449 : Index := Scalar.indexCast v407
  let c0_243 : Index := 0#32
  let c0_244 : Index := 0#32
  ![v449.toNat, 0, 0]
def k0_off143 (v401 : BitVec 32) : Fin 2 → Nat :=
  let v402 : BitVec 32 := v401
  let v496 : Index := Scalar.indexCast v402
  let c0_256 : Index := 0#32
  ![v496.toNat, 0]
def k0_off144 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v517 : Index := Scalar.indexCast v407
  let c256_262 : Index := 256#32
  let c0_263 : Index := 0#32
  ![v517.toNat, 256, 0]
def k0_off145 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v521 : Index := Scalar.indexCast v407
  let c16 : Index := 16#32
  let c0_265 : Index := 0#32
  ![v521.toNat, 16, 0]
def k0_off146 (v401 : BitVec 32) : Fin 2 → Nat :=
  let v402 : BitVec 32 := v401
  let v568 : Index := Scalar.indexCast v402
  let c256_280 : Index := 256#32
  ![v568.toNat, 256]
def k0_off147 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v580 : Index := Scalar.indexCast v407
  let c512_286 : Index := 512#32
  let c0_287 : Index := 0#32
  ![v580.toNat, 512, 0]
def k0_off148 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v584 : Index := Scalar.indexCast v407
  let c32 : Index := 32#32
  let c0_289 : Index := 0#32
  ![v584.toNat, 32, 0]
def k0_off149 (v401 : BitVec 32) : Fin 2 → Nat :=
  let v402 : BitVec 32 := v401
  let v631 : Index := Scalar.indexCast v402
  let c512_304 : Index := 512#32
  ![v631.toNat, 512]
def k0_off150 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v652 : Index := Scalar.indexCast v407
  let c768_310 : Index := 768#32
  let c0_311 : Index := 0#32
  ![v652.toNat, 768, 0]
def k0_off151 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v656 : Index := Scalar.indexCast v407
  let c48 : Index := 48#32
  let c0_313 : Index := 0#32
  ![v656.toNat, 48, 0]
def k0_off152 (v401 : BitVec 32) : Fin 2 → Nat :=
  let v402 : BitVec 32 := v401
  let v703 : Index := Scalar.indexCast v402
  let c768_328 : Index := 768#32
  ![v703.toNat, 768]
def k0_off153 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v715 : Index := Scalar.indexCast v407
  let c1024_334 : Index := 1024#32
  let c0_335 : Index := 0#32
  ![v715.toNat, 1024, 0]
def k0_off154 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v719 : Index := Scalar.indexCast v407
  let c64 : Index := 64#32
  let c0_337 : Index := 0#32
  ![v719.toNat, 64, 0]
def k0_off155 (v401 : BitVec 32) : Fin 2 → Nat :=
  let v402 : BitVec 32 := v401
  let v766 : Index := Scalar.indexCast v402
  let c1024_352 : Index := 1024#32
  ![v766.toNat, 1024]
def k0_off156 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v787 : Index := Scalar.indexCast v407
  let c1280_358 : Index := 1280#32
  let c0_359 : Index := 0#32
  ![v787.toNat, 1280, 0]
def k0_off157 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v791 : Index := Scalar.indexCast v407
  let c80 : Index := 80#32
  let c0_361 : Index := 0#32
  ![v791.toNat, 80, 0]
def k0_off158 (v401 : BitVec 32) : Fin 2 → Nat :=
  let v402 : BitVec 32 := v401
  let v838 : Index := Scalar.indexCast v402
  let c1280_376 : Index := 1280#32
  ![v838.toNat, 1280]
def k0_off159 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v850 : Index := Scalar.indexCast v407
  let c1536_382 : Index := 1536#32
  let c0_383 : Index := 0#32
  ![v850.toNat, 1536, 0]
def k0_off160 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v854 : Index := Scalar.indexCast v407
  let c96 : Index := 96#32
  let c0_385 : Index := 0#32
  ![v854.toNat, 96, 0]
def k0_off161 (v401 : BitVec 32) : Fin 2 → Nat :=
  let v402 : BitVec 32 := v401
  let v901 : Index := Scalar.indexCast v402
  let c1536_400 : Index := 1536#32
  ![v901.toNat, 1536]
def k0_off162 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v922 : Index := Scalar.indexCast v407
  let c1792_406 : Index := 1792#32
  let c0_407 : Index := 0#32
  ![v922.toNat, 1792, 0]
def k0_off163 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v926 : Index := Scalar.indexCast v407
  let c112 : Index := 112#32
  let c0_409 : Index := 0#32
  ![v926.toNat, 112, 0]
def k0_off164 (v401 : BitVec 32) : Fin 2 → Nat :=
  let v402 : BitVec 32 := v401
  let v973 : Index := Scalar.indexCast v402
  let c1792_424 : Index := 1792#32
  ![v973.toNat, 1792]
def k0_off165 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v985 : Index := Scalar.indexCast v407
  let c2048_430 : Index := 2048#32
  let c0_431 : Index := 0#32
  ![v985.toNat, 2048, 0]
def k0_off166 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v989 : Index := Scalar.indexCast v407
  let c128_433 : Index := 128#32
  let c0_434 : Index := 0#32
  ![v989.toNat, 128, 0]
def k0_off167 (v401 : BitVec 32) : Fin 2 → Nat :=
  let v402 : BitVec 32 := v401
  let v1036 : Index := Scalar.indexCast v402
  let c2048_449 : Index := 2048#32
  ![v1036.toNat, 2048]
def k0_off168 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1057 : Index := Scalar.indexCast v407
  let c2304_455 : Index := 2304#32
  let c0_456 : Index := 0#32
  ![v1057.toNat, 2304, 0]
def k0_off169 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1061 : Index := Scalar.indexCast v407
  let c144 : Index := 144#32
  let c0_458 : Index := 0#32
  ![v1061.toNat, 144, 0]
def k0_off170 (v401 : BitVec 32) : Fin 2 → Nat :=
  let v402 : BitVec 32 := v401
  let v1108 : Index := Scalar.indexCast v402
  let c2304_473 : Index := 2304#32
  ![v1108.toNat, 2304]
def k0_mult14 (v1_0 : BitVec 32) (k0_t3 : Fin (k0_t3_loop v1_0).trips) : BitVec 32 :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let v395 : BitVec 32 := Scalar.divsi arg16 v1_0
  let c512_i32_479 : BitVec 32 := 512#32
  let v1120 : BitVec 32 := Scalar.muli v395 c512_i32_479
  let c0_i32_480 : BitVec 32 := 0#32
  let v1121 : BitVec 32 := Scalar.addi v1120 c0_i32_480
  v1121
def k0_off171 (v1_0 : BitVec 32) (k0_t3 : Fin (k0_t3_loop v1_0).trips) (v399 : BitVec 32) (c0_i32_480 : BitVec 32) : Fin 2 → Nat :=
  let v1124 : Index := Scalar.indexCast v399
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let v395 : BitVec 32 := Scalar.divsi arg16 v1_0
  let c512_i32_479 : BitVec 32 := 512#32
  let v1120 : BitVec 32 := Scalar.muli v395 c512_i32_479
  let v1121 : BitVec 32 := Scalar.addi v1120 c0_i32_480
  let v1122 : BitVec 32 := v1121
  let v1125 : Index := Scalar.indexCast v1122
  ![v1124.toNat, v1125.toNat]

def k0_chk15 (v1_0 : BitVec 32) (k0_t3 : Fin (k0_t3_loop v1_0).trips) (v399 : BitVec 32) : Prop :=
  (∀ (r : Fin 2), ∀ a, (k0_off171 v1_0 k0_t3 v399 (BitVec.ofNat 32 (256 * r.val))) a + S1x256.size a ≤ S21x3072.size a)
theorem k0_off171_inb : ∀ (v1_0 : BitVec 32) (k0_t3 : Fin (k0_t3_loop v1_0).trips) (v399 : BitVec 32) (k0_hw15 : k0_chk15 v1_0 k0_t3 v399), ∀ (r : Fin 2), ∀ a, (k0_off171 v1_0 k0_t3 v399 (BitVec.ofNat 32 (256 * r.val))) a + S1x256.size a ≤ S21x3072.size a := fun v1_0 k0_t3 v399 k0_hw15 r => k0_hw15 r

def k0_off172 (v1_0 : BitVec 32) (k0_t3 : Fin (k0_t3_loop v1_0).trips) (v401 : BitVec 32) (c0_i32_480 : BitVec 32) : Fin 2 → Nat :=
  let v402 : BitVec 32 := v401
  let v1130 : Index := Scalar.indexCast v402
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let v395 : BitVec 32 := Scalar.divsi arg16 v1_0
  let c512_i32_479 : BitVec 32 := 512#32
  let v1120 : BitVec 32 := Scalar.muli v395 c512_i32_479
  let v1121 : BitVec 32 := Scalar.addi v1120 c0_i32_480
  let v1122 : BitVec 32 := v1121
  let v1131 : Index := Scalar.indexCast v1122
  ![v1130.toNat, v1131.toNat]
def k0_off173 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1139 : Index := Scalar.indexCast v407
  let c0_482 : Index := 0#32
  let c256_483 : Index := 256#32
  ![v1139.toNat, 0, 256]
def k0_off174 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1143 : Index := Scalar.indexCast v407
  let c0_485 : Index := 0#32
  let c256_486 : Index := 256#32
  ![v1143.toNat, 0, 256]
def k0_off175 (v401 : BitVec 32) : Fin 2 → Nat :=
  let v402 : BitVec 32 := v401
  let v1190 : Index := Scalar.indexCast v402
  let c0_501 : Index := 0#32
  ![v1190.toNat, 0]
def k0_off176 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1211 : Index := Scalar.indexCast v407
  let c256_507 : Index := 256#32
  let c256_508 : Index := 256#32
  ![v1211.toNat, 256, 256]
def k0_off177 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1215 : Index := Scalar.indexCast v407
  let c16_510 : Index := 16#32
  let c256_511 : Index := 256#32
  ![v1215.toNat, 16, 256]
def k0_off178 (v401 : BitVec 32) : Fin 2 → Nat :=
  let v402 : BitVec 32 := v401
  let v1262 : Index := Scalar.indexCast v402
  let c256_526 : Index := 256#32
  ![v1262.toNat, 256]
def k0_off179 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1274 : Index := Scalar.indexCast v407
  let c512_532 : Index := 512#32
  let c256_533 : Index := 256#32
  ![v1274.toNat, 512, 256]
def k0_off180 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1278 : Index := Scalar.indexCast v407
  let c32_535 : Index := 32#32
  let c256_536 : Index := 256#32
  ![v1278.toNat, 32, 256]
def k0_off181 (v401 : BitVec 32) : Fin 2 → Nat :=
  let v402 : BitVec 32 := v401
  let v1325 : Index := Scalar.indexCast v402
  let c512_551 : Index := 512#32
  ![v1325.toNat, 512]
def k0_off182 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1346 : Index := Scalar.indexCast v407
  let c768_557 : Index := 768#32
  let c256_558 : Index := 256#32
  ![v1346.toNat, 768, 256]
def k0_off183 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1350 : Index := Scalar.indexCast v407
  let c48_560 : Index := 48#32
  let c256_561 : Index := 256#32
  ![v1350.toNat, 48, 256]
def k0_off184 (v401 : BitVec 32) : Fin 2 → Nat :=
  let v402 : BitVec 32 := v401
  let v1397 : Index := Scalar.indexCast v402
  let c768_576 : Index := 768#32
  ![v1397.toNat, 768]
def k0_off185 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1409 : Index := Scalar.indexCast v407
  let c1024_582 : Index := 1024#32
  let c256_583 : Index := 256#32
  ![v1409.toNat, 1024, 256]
def k0_off186 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1413 : Index := Scalar.indexCast v407
  let c64_585 : Index := 64#32
  let c256_586 : Index := 256#32
  ![v1413.toNat, 64, 256]
def k0_off187 (v401 : BitVec 32) : Fin 2 → Nat :=
  let v402 : BitVec 32 := v401
  let v1460 : Index := Scalar.indexCast v402
  let c1024_601 : Index := 1024#32
  ![v1460.toNat, 1024]
def k0_off188 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1481 : Index := Scalar.indexCast v407
  let c1280_607 : Index := 1280#32
  let c256_608 : Index := 256#32
  ![v1481.toNat, 1280, 256]
def k0_off189 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1485 : Index := Scalar.indexCast v407
  let c80_610 : Index := 80#32
  let c256_611 : Index := 256#32
  ![v1485.toNat, 80, 256]
def k0_off190 (v401 : BitVec 32) : Fin 2 → Nat :=
  let v402 : BitVec 32 := v401
  let v1532 : Index := Scalar.indexCast v402
  let c1280_626 : Index := 1280#32
  ![v1532.toNat, 1280]
def k0_off191 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1544 : Index := Scalar.indexCast v407
  let c1536_632 : Index := 1536#32
  let c256_633 : Index := 256#32
  ![v1544.toNat, 1536, 256]
def k0_off192 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1548 : Index := Scalar.indexCast v407
  let c96_635 : Index := 96#32
  let c256_636 : Index := 256#32
  ![v1548.toNat, 96, 256]
def k0_off193 (v401 : BitVec 32) : Fin 2 → Nat :=
  let v402 : BitVec 32 := v401
  let v1595 : Index := Scalar.indexCast v402
  let c1536_651 : Index := 1536#32
  ![v1595.toNat, 1536]
def k0_off194 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1616 : Index := Scalar.indexCast v407
  let c1792_657 : Index := 1792#32
  let c256_658 : Index := 256#32
  ![v1616.toNat, 1792, 256]
def k0_off195 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1620 : Index := Scalar.indexCast v407
  let c112_660 : Index := 112#32
  let c256_661 : Index := 256#32
  ![v1620.toNat, 112, 256]
def k0_off196 (v401 : BitVec 32) : Fin 2 → Nat :=
  let v402 : BitVec 32 := v401
  let v1667 : Index := Scalar.indexCast v402
  let c1792_676 : Index := 1792#32
  ![v1667.toNat, 1792]
def k0_off197 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1679 : Index := Scalar.indexCast v407
  let c2048_682 : Index := 2048#32
  let c256_683 : Index := 256#32
  ![v1679.toNat, 2048, 256]
def k0_off198 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1683 : Index := Scalar.indexCast v407
  let c128_685 : Index := 128#32
  let c256_686 : Index := 256#32
  ![v1683.toNat, 128, 256]
def k0_off199 (v401 : BitVec 32) : Fin 2 → Nat :=
  let v402 : BitVec 32 := v401
  let v1730 : Index := Scalar.indexCast v402
  let c2048_701 : Index := 2048#32
  ![v1730.toNat, 2048]
def k0_off200 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1751 : Index := Scalar.indexCast v407
  let c2304_707 : Index := 2304#32
  let c256_708 : Index := 256#32
  ![v1751.toNat, 2304, 256]
def k0_off201 (v1_0 : BitVec 32) (k0_t3 : Fin (k0_t3_loop v1_0).trips) : Fin 3 → Nat :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let c6_i32_226 : BitVec 32 := 6#32
  let v407 : BitVec 32 := Scalar.remsi arg16 c6_i32_226
  let v1755 : Index := Scalar.indexCast v407
  let c144_710 : Index := 144#32
  let c256_711 : Index := 256#32
  ![v1755.toNat, 144, 256]
def k0_off202 (v401 : BitVec 32) : Fin 2 → Nat :=
  let v402 : BitVec 32 := v401
  let v1802 : Index := Scalar.indexCast v402
  let c2304_726 : Index := 2304#32
  ![v1802.toNat, 2304]

def k0_chk12 (v1_0 : BitVec 32) (k0_t3 : Fin (k0_t3_loop v1_0).trips) (v401 : BitVec 32) : Prop :=
  (32 ∣ (k0_mult11 v401).toNat) ∧
  (∀ a, (k0_off140 v401) a + S128x128.size a ≤ S256x128.size a) ∧
  (∀ a, (k0_off143 v401) a + S128x256.size a ≤ S256x2560.size a) ∧
  (∀ a, (k0_off146 v401) a + S128x256.size a ≤ S256x2560.size a) ∧
  (∀ a, (k0_off149 v401) a + S128x256.size a ≤ S256x2560.size a) ∧
  (∀ a, (k0_off152 v401) a + S128x256.size a ≤ S256x2560.size a) ∧
  (∀ a, (k0_off155 v401) a + S128x256.size a ≤ S256x2560.size a) ∧
  (∀ a, (k0_off158 v401) a + S128x256.size a ≤ S256x2560.size a) ∧
  (∀ a, (k0_off161 v401) a + S128x256.size a ≤ S256x2560.size a) ∧
  (∀ a, (k0_off164 v401) a + S128x256.size a ≤ S256x2560.size a) ∧
  (∀ a, (k0_off167 v401) a + S128x256.size a ≤ S256x2560.size a) ∧
  (∀ a, (k0_off170 v401) a + S128x256.size a ≤ S256x2560.size a) ∧
  (∀ (r : Fin 2), ∀ a, (k0_off172 v1_0 k0_t3 v401 (BitVec.ofNat 32 (256 * r.val))) a + S128x256.size a ≤ S256x3072.size a) ∧
  (∀ (r : Fin 2), ∀ (hinb : ∀ a, (k0_off172 v1_0 k0_t3 v401 (BitVec.ofNat 32 (256 * r.val))) a + S128x256.size a ≤ S256x3072.size a), (Rect.unit (s := S256x3072) (k0_off172 v1_0 k0_t3 v401 (BitVec.ofNat 32 (256 * r.val))) S128x256.size hinb).PackedRows (EltTy.packing .bf16)) ∧
  (∀ a, (k0_off175 v401) a + S128x256.size a ≤ S256x2560.size a) ∧
  (∀ a, (k0_off178 v401) a + S128x256.size a ≤ S256x2560.size a) ∧
  (∀ a, (k0_off181 v401) a + S128x256.size a ≤ S256x2560.size a) ∧
  (∀ a, (k0_off184 v401) a + S128x256.size a ≤ S256x2560.size a) ∧
  (∀ a, (k0_off187 v401) a + S128x256.size a ≤ S256x2560.size a) ∧
  (∀ a, (k0_off190 v401) a + S128x256.size a ≤ S256x2560.size a) ∧
  (∀ a, (k0_off193 v401) a + S128x256.size a ≤ S256x2560.size a) ∧
  (∀ a, (k0_off196 v401) a + S128x256.size a ≤ S256x2560.size a) ∧
  (∀ a, (k0_off199 v401) a + S128x256.size a ≤ S256x2560.size a) ∧
  (∀ a, (k0_off202 v401) a + S128x256.size a ≤ S256x2560.size a)
theorem k0_mult11_dvd : ∀ (v1_0 : BitVec 32) (k0_t3 : Fin (k0_t3_loop v1_0).trips) (v401 : BitVec 32) (k0_hw12 : k0_chk12 v1_0 k0_t3 v401), 32 ∣ (k0_mult11 v401).toNat := fun v1_0 k0_t3 v401 k0_hw12 => k0_hw12.1
theorem k0_off140_inb : ∀ (v1_0 : BitVec 32) (k0_t3 : Fin (k0_t3_loop v1_0).trips) (v401 : BitVec 32) (k0_hw12 : k0_chk12 v1_0 k0_t3 v401), ∀ a, (k0_off140 v401) a + S128x128.size a ≤ S256x128.size a := fun v1_0 k0_t3 v401 k0_hw12 => k0_hw12.2.1
theorem k0_off143_inb : ∀ (v1_0 : BitVec 32) (k0_t3 : Fin (k0_t3_loop v1_0).trips) (v401 : BitVec 32) (k0_hw12 : k0_chk12 v1_0 k0_t3 v401), ∀ a, (k0_off143 v401) a + S128x256.size a ≤ S256x2560.size a := fun v1_0 k0_t3 v401 k0_hw12 => k0_hw12.2.2.1
theorem k0_off146_inb : ∀ (v1_0 : BitVec 32) (k0_t3 : Fin (k0_t3_loop v1_0).trips) (v401 : BitVec 32) (k0_hw12 : k0_chk12 v1_0 k0_t3 v401), ∀ a, (k0_off146 v401) a + S128x256.size a ≤ S256x2560.size a := fun v1_0 k0_t3 v401 k0_hw12 => k0_hw12.2.2.2.1
theorem k0_off149_inb : ∀ (v1_0 : BitVec 32) (k0_t3 : Fin (k0_t3_loop v1_0).trips) (v401 : BitVec 32) (k0_hw12 : k0_chk12 v1_0 k0_t3 v401), ∀ a, (k0_off149 v401) a + S128x256.size a ≤ S256x2560.size a := fun v1_0 k0_t3 v401 k0_hw12 => k0_hw12.2.2.2.2.1
theorem k0_off152_inb : ∀ (v1_0 : BitVec 32) (k0_t3 : Fin (k0_t3_loop v1_0).trips) (v401 : BitVec 32) (k0_hw12 : k0_chk12 v1_0 k0_t3 v401), ∀ a, (k0_off152 v401) a + S128x256.size a ≤ S256x2560.size a := fun v1_0 k0_t3 v401 k0_hw12 => k0_hw12.2.2.2.2.2.1
theorem k0_off155_inb : ∀ (v1_0 : BitVec 32) (k0_t3 : Fin (k0_t3_loop v1_0).trips) (v401 : BitVec 32) (k0_hw12 : k0_chk12 v1_0 k0_t3 v401), ∀ a, (k0_off155 v401) a + S128x256.size a ≤ S256x2560.size a := fun v1_0 k0_t3 v401 k0_hw12 => k0_hw12.2.2.2.2.2.2.1
theorem k0_off158_inb : ∀ (v1_0 : BitVec 32) (k0_t3 : Fin (k0_t3_loop v1_0).trips) (v401 : BitVec 32) (k0_hw12 : k0_chk12 v1_0 k0_t3 v401), ∀ a, (k0_off158 v401) a + S128x256.size a ≤ S256x2560.size a := fun v1_0 k0_t3 v401 k0_hw12 => k0_hw12.2.2.2.2.2.2.2.1
theorem k0_off161_inb : ∀ (v1_0 : BitVec 32) (k0_t3 : Fin (k0_t3_loop v1_0).trips) (v401 : BitVec 32) (k0_hw12 : k0_chk12 v1_0 k0_t3 v401), ∀ a, (k0_off161 v401) a + S128x256.size a ≤ S256x2560.size a := fun v1_0 k0_t3 v401 k0_hw12 => k0_hw12.2.2.2.2.2.2.2.2.1
theorem k0_off164_inb : ∀ (v1_0 : BitVec 32) (k0_t3 : Fin (k0_t3_loop v1_0).trips) (v401 : BitVec 32) (k0_hw12 : k0_chk12 v1_0 k0_t3 v401), ∀ a, (k0_off164 v401) a + S128x256.size a ≤ S256x2560.size a := fun v1_0 k0_t3 v401 k0_hw12 => k0_hw12.2.2.2.2.2.2.2.2.2.1
theorem k0_off167_inb : ∀ (v1_0 : BitVec 32) (k0_t3 : Fin (k0_t3_loop v1_0).trips) (v401 : BitVec 32) (k0_hw12 : k0_chk12 v1_0 k0_t3 v401), ∀ a, (k0_off167 v401) a + S128x256.size a ≤ S256x2560.size a := fun v1_0 k0_t3 v401 k0_hw12 => k0_hw12.2.2.2.2.2.2.2.2.2.2.1
theorem k0_off170_inb : ∀ (v1_0 : BitVec 32) (k0_t3 : Fin (k0_t3_loop v1_0).trips) (v401 : BitVec 32) (k0_hw12 : k0_chk12 v1_0 k0_t3 v401), ∀ a, (k0_off170 v401) a + S128x256.size a ≤ S256x2560.size a := fun v1_0 k0_t3 v401 k0_hw12 => k0_hw12.2.2.2.2.2.2.2.2.2.2.2.1
theorem k0_off172_inb : ∀ (v1_0 : BitVec 32) (k0_t3 : Fin (k0_t3_loop v1_0).trips) (v401 : BitVec 32) (k0_hw12 : k0_chk12 v1_0 k0_t3 v401), ∀ (r : Fin 2), ∀ a, (k0_off172 v1_0 k0_t3 v401 (BitVec.ofNat 32 (256 * r.val))) a + S128x256.size a ≤ S256x3072.size a := fun v1_0 k0_t3 v401 k0_hw12 r => k0_hw12.2.2.2.2.2.2.2.2.2.2.2.2.1 r
theorem k0_off172_packedbf16 : ∀ (v1_0 : BitVec 32) (k0_t3 : Fin (k0_t3_loop v1_0).trips) (v401 : BitVec 32) (k0_hw12 : k0_chk12 v1_0 k0_t3 v401), ∀ (r : Fin 2), (Rect.unit (s := S256x3072) (k0_off172 v1_0 k0_t3 v401 (BitVec.ofNat 32 (256 * r.val))) S128x256.size (k0_off172_inb v1_0 k0_t3 v401 k0_hw12 r)).PackedRows (EltTy.packing .bf16) := fun v1_0 k0_t3 v401 k0_hw12 r => k0_hw12.2.2.2.2.2.2.2.2.2.2.2.2.2.1 r (k0_off172_inb v1_0 k0_t3 v401 k0_hw12 r)
theorem k0_off175_inb : ∀ (v1_0 : BitVec 32) (k0_t3 : Fin (k0_t3_loop v1_0).trips) (v401 : BitVec 32) (k0_hw12 : k0_chk12 v1_0 k0_t3 v401), ∀ a, (k0_off175 v401) a + S128x256.size a ≤ S256x2560.size a := fun v1_0 k0_t3 v401 k0_hw12 => k0_hw12.2.2.2.2.2.2.2.2.2.2.2.2.2.2.1
theorem k0_off178_inb : ∀ (v1_0 : BitVec 32) (k0_t3 : Fin (k0_t3_loop v1_0).trips) (v401 : BitVec 32) (k0_hw12 : k0_chk12 v1_0 k0_t3 v401), ∀ a, (k0_off178 v401) a + S128x256.size a ≤ S256x2560.size a := fun v1_0 k0_t3 v401 k0_hw12 => k0_hw12.2.2.2.2.2.2.2.2.2.2.2.2.2.2.2.1
theorem k0_off181_inb : ∀ (v1_0 : BitVec 32) (k0_t3 : Fin (k0_t3_loop v1_0).trips) (v401 : BitVec 32) (k0_hw12 : k0_chk12 v1_0 k0_t3 v401), ∀ a, (k0_off181 v401) a + S128x256.size a ≤ S256x2560.size a := fun v1_0 k0_t3 v401 k0_hw12 => k0_hw12.2.2.2.2.2.2.2.2.2.2.2.2.2.2.2.2.1
theorem k0_off184_inb : ∀ (v1_0 : BitVec 32) (k0_t3 : Fin (k0_t3_loop v1_0).trips) (v401 : BitVec 32) (k0_hw12 : k0_chk12 v1_0 k0_t3 v401), ∀ a, (k0_off184 v401) a + S128x256.size a ≤ S256x2560.size a := fun v1_0 k0_t3 v401 k0_hw12 => k0_hw12.2.2.2.2.2.2.2.2.2.2.2.2.2.2.2.2.2.1
theorem k0_off187_inb : ∀ (v1_0 : BitVec 32) (k0_t3 : Fin (k0_t3_loop v1_0).trips) (v401 : BitVec 32) (k0_hw12 : k0_chk12 v1_0 k0_t3 v401), ∀ a, (k0_off187 v401) a + S128x256.size a ≤ S256x2560.size a := fun v1_0 k0_t3 v401 k0_hw12 => k0_hw12.2.2.2.2.2.2.2.2.2.2.2.2.2.2.2.2.2.2.1
theorem k0_off190_inb : ∀ (v1_0 : BitVec 32) (k0_t3 : Fin (k0_t3_loop v1_0).trips) (v401 : BitVec 32) (k0_hw12 : k0_chk12 v1_0 k0_t3 v401), ∀ a, (k0_off190 v401) a + S128x256.size a ≤ S256x2560.size a := fun v1_0 k0_t3 v401 k0_hw12 => k0_hw12.2.2.2.2.2.2.2.2.2.2.2.2.2.2.2.2.2.2.2.1
theorem k0_off193_inb : ∀ (v1_0 : BitVec 32) (k0_t3 : Fin (k0_t3_loop v1_0).trips) (v401 : BitVec 32) (k0_hw12 : k0_chk12 v1_0 k0_t3 v401), ∀ a, (k0_off193 v401) a + S128x256.size a ≤ S256x2560.size a := fun v1_0 k0_t3 v401 k0_hw12 => k0_hw12.2.2.2.2.2.2.2.2.2.2.2.2.2.2.2.2.2.2.2.2.1
theorem k0_off196_inb : ∀ (v1_0 : BitVec 32) (k0_t3 : Fin (k0_t3_loop v1_0).trips) (v401 : BitVec 32) (k0_hw12 : k0_chk12 v1_0 k0_t3 v401), ∀ a, (k0_off196 v401) a + S128x256.size a ≤ S256x2560.size a := fun v1_0 k0_t3 v401 k0_hw12 => k0_hw12.2.2.2.2.2.2.2.2.2.2.2.2.2.2.2.2.2.2.2.2.2.1
theorem k0_off199_inb : ∀ (v1_0 : BitVec 32) (k0_t3 : Fin (k0_t3_loop v1_0).trips) (v401 : BitVec 32) (k0_hw12 : k0_chk12 v1_0 k0_t3 v401), ∀ a, (k0_off199 v401) a + S128x256.size a ≤ S256x2560.size a := fun v1_0 k0_t3 v401 k0_hw12 => k0_hw12.2.2.2.2.2.2.2.2.2.2.2.2.2.2.2.2.2.2.2.2.2.2.1
theorem k0_off202_inb : ∀ (v1_0 : BitVec 32) (k0_t3 : Fin (k0_t3_loop v1_0).trips) (v401 : BitVec 32) (k0_hw12 : k0_chk12 v1_0 k0_t3 v401), ∀ a, (k0_off202 v401) a + S128x256.size a ≤ S256x2560.size a := fun v1_0 k0_t3 v401 k0_hw12 => k0_hw12.2.2.2.2.2.2.2.2.2.2.2.2.2.2.2.2.2.2.2.2.2.2.2

def k0_mult15 (v1_0 : BitVec 32) (k0_t3 : Fin (k0_t3_loop v1_0).trips) : BitVec 32 :=
  let c0_i32_220 : BitVec 32 := 0#32
  let c6_i32 : BitVec 32 := 6#32
  let v2 : BitVec 32 := Scalar.muli v1_0 c6_i32
  let v388 : BitVec 32 := Scalar.subi v2 c0_i32_220
  let c1_i32_222 : BitVec 32 := 1#32
  let v390 : BitVec 32 := Scalar.divsi v388 c1_i32_222
  let v391 : BitVec 32 := Scalar.muli v390 c1_i32_222
  let v392 : BitVec 32 := Scalar.addi c0_i32_220 v391
  let c1_i32_224 : BitVec 32 := 1#32
  let arg16 : BitVec 32 := Scf.iv v392 c1_i32_224 k0_t3
  let v395 : BitVec 32 := Scalar.divsi arg16 v1_0
  let c512_i32_732 : BitVec 32 := 512#32
  let v1814 : BitVec 32 := Scalar.muli v395 c512_i32_732
  let c256_i32 : BitVec 32 := 256#32
  let v1815 : BitVec 32 := Scalar.addi v1814 c256_i32
  v1815

def k0_chk2_0 (v1_0 : BitVec 32) : Prop :=
  (∀ (k0_h1 : k0_cond1 v1_0 = 1#1), ∀ a, (k0_off6 v1_0) a + S1x1.size a ≤ S4x64.size a) ∧
  (∀ (k0_h1 : k0_cond1 v1_0 = 1#1), 512 ∣ (k0_mult1 v1_0).toNat) ∧
  (∀ (k0_h2 : k0_cond2 v1_0 = 1#1), ∀ a, (k0_off13 v1_0) a + S1x1.size a ≤ S4x64.size a) ∧
  (∀ (k0_h2 : k0_cond2 v1_0 = 1#1), 512 ∣ (k0_mult2 v1_0).toNat) ∧
  (∀ (k0_h3 : k0_cond3 v1_0 = 1#1), ∀ a, (k0_off20 v1_0) a + S1x1.size a ≤ S4x64.size a) ∧
  (∀ (k0_h3 : k0_cond3 v1_0 = 1#1), 512 ∣ (k0_mult3 v1_0).toNat) ∧
  (∀ (k0_h4 : k0_cond4 v1_0 = 1#1), ∀ a, (k0_off27 v1_0) a + S1x1.size a ≤ S4x64.size a) ∧
  (∀ (k0_h4 : k0_cond4 v1_0 = 1#1), 512 ∣ (k0_mult4 v1_0).toNat) ∧
  (∀ (k0_h5 : k0_cond5 v1_0 = 1#1), ∀ a, (k0_off34 v1_0) a + S1x1.size a ≤ S4x64.size a) ∧
  (∀ (k0_h5 : k0_cond5 v1_0 = 1#1), 512 ∣ (k0_mult5 v1_0).toNat) ∧
  ((k0_t2_loop v1_0).OK) ∧
  (∀ k0_t2 : Fin (k0_t2_loop v1_0).trips, ∀ a, (k0_off41 v1_0 k0_t2) a + S1x1.size a ≤ S4x64.size a) ∧
  (∀ k0_t2 : Fin (k0_t2_loop v1_0).trips, ∀ a, (k0_off42 v1_0 k0_t2) a + S1x1.size a ≤ S4x64.size a) ∧
  (∀ k0_t2 : Fin (k0_t2_loop v1_0).trips, ∀ a, (k0_off43 v1_0 k0_t2) a + S1x1.size a ≤ S4x64.size a) ∧
  (∀ k0_t2 : Fin (k0_t2_loop v1_0).trips, ∀ a, (k0_off44 v1_0 k0_t2) a + S1x1.size a ≤ S4x64.size a) ∧
  (∀ k0_t2 : Fin (k0_t2_loop v1_0).trips, ∀ (k0_h6 : k0_cond6 v1_0 k0_t2 = 1#1), ∀ a, (k0_off45 v1_0 k0_t2) a + S1x1.size a ≤ S4x64.size a) ∧
  (∀ k0_t2 : Fin (k0_t2_loop v1_0).trips, ∀ (k0_h6 : k0_cond6 v1_0 k0_t2 = 1#1), 512 ∣ (k0_mult7 v1_0 k0_t2).toNat) ∧
  (∀ k0_t2 : Fin (k0_t2_loop v1_0).trips, ∀ (k0_h6 : k0_cond6 v1_0 k0_t2 = 1#1), ∀ a, (k0_off46 v1_0 k0_t2) a + S1.size a ≤ S6.size a) ∧
  (∀ k0_t2 : Fin (k0_t2_loop v1_0).trips, ∀ (k0_h6 : k0_cond6 v1_0 k0_t2 = 1#1), ∀ a, (k0_off47 v1_0 k0_t2) a + S1x2560x512.size a ≤ S6x2560x512.size a) ∧
  (∀ k0_t2 : Fin (k0_t2_loop v1_0).trips, ∀ (k0_h6 : k0_cond6 v1_0 k0_t2 = 1#1), ∀ (hinb : ∀ a, (k0_off47 v1_0 k0_t2) a + S1x2560x512.size a ≤ S6x2560x512.size a), (Rect.unit (s := S6x2560x512) (k0_off47 v1_0 k0_t2) S1x2560x512.size hinb).WholeWords (EltTy.packing .fp8e4m3)) ∧
  (∀ k0_t2 : Fin (k0_t2_loop v1_0).trips, ∀ (k0_h6 : k0_cond6 v1_0 k0_t2 = 1#1), ∀ a, (k0_off49 v1_0 k0_t2) a + S1.size a ≤ S6.size a) ∧
  (∀ k0_t2 : Fin (k0_t2_loop v1_0).trips, ∀ (k0_h6 : k0_cond6 v1_0 k0_t2 = 1#1), ∀ a, (k0_off50 v1_0 k0_t2) a + S1x160x512.size a ≤ S6x160x512.size a) ∧
  (∀ k0_t2 : Fin (k0_t2_loop v1_0).trips, ∀ a, (k0_off52 v1_0 k0_t2) a + S1x1.size a ≤ S4x64.size a) ∧
  (∀ k0_t2 : Fin (k0_t2_loop v1_0).trips, 512 ∣ (k0_mult8 v1_0 k0_t2).toNat) ∧
  (∀ k0_t2 : Fin (k0_t2_loop v1_0).trips, ∀ a, (k0_off53 v1_0 k0_t2) a + S1.size a ≤ S6.size a) ∧
  (∀ k0_t2 : Fin (k0_t2_loop v1_0).trips, ∀ a, (k0_off54 v1_0 k0_t2) a + S1x2560x512.size a ≤ S6x2560x512.size a) ∧
  (∀ k0_t2 : Fin (k0_t2_loop v1_0).trips, ∀ (hinb : ∀ a, (k0_off54 v1_0 k0_t2) a + S1x2560x512.size a ≤ S6x2560x512.size a), (Rect.unit (s := S6x2560x512) (k0_off54 v1_0 k0_t2) S1x2560x512.size hinb).WholeWords (EltTy.packing .fp8e4m3)) ∧
  (∀ k0_t2 : Fin (k0_t2_loop v1_0).trips, ∀ a, (k0_off56 v1_0 k0_t2) a + S1.size a ≤ S6.size a) ∧
  (∀ k0_t2 : Fin (k0_t2_loop v1_0).trips, ∀ a, (k0_off57 v1_0 k0_t2) a + S1x160x512.size a ≤ S6x160x512.size a) ∧
  (∀ k0_t2 : Fin (k0_t2_loop v1_0).trips, ∀ a, (k0_off60 v1_0 k0_t2) a + S1x256x256.size a ≤ S6x2560x512.size a) ∧
  (∀ k0_t2 : Fin (k0_t2_loop v1_0).trips, ∀ a, (k0_off61 v1_0 k0_t2) a + S1x16x256.size a ≤ S6x160x512.size a) ∧
  (∀ k0_t2 : Fin (k0_t2_loop v1_0).trips, ∀ a, (k0_off63 v1_0 k0_t2) a + S1x256x256.size a ≤ S6x2560x512.size a)
def k0_chk2_1 (v1_0 : BitVec 32) : Prop :=
  (∀ k0_t2 : Fin (k0_t2_loop v1_0).trips, ∀ a, (k0_off64 v1_0 k0_t2) a + S1x16x256.size a ≤ S6x160x512.size a) ∧
  (∀ k0_t2 : Fin (k0_t2_loop v1_0).trips, ∀ a, (k0_off66 v1_0 k0_t2) a + S1x256x256.size a ≤ S6x2560x512.size a) ∧
  (∀ k0_t2 : Fin (k0_t2_loop v1_0).trips, ∀ a, (k0_off67 v1_0 k0_t2) a + S1x16x256.size a ≤ S6x160x512.size a) ∧
  (∀ k0_t2 : Fin (k0_t2_loop v1_0).trips, ∀ a, (k0_off69 v1_0 k0_t2) a + S1x256x256.size a ≤ S6x2560x512.size a) ∧
  (∀ k0_t2 : Fin (k0_t2_loop v1_0).trips, ∀ a, (k0_off70 v1_0 k0_t2) a + S1x16x256.size a ≤ S6x160x512.size a) ∧
  (∀ k0_t2 : Fin (k0_t2_loop v1_0).trips, ∀ a, (k0_off72 v1_0 k0_t2) a + S1x256x256.size a ≤ S6x2560x512.size a) ∧
  (∀ k0_t2 : Fin (k0_t2_loop v1_0).trips, ∀ a, (k0_off73 v1_0 k0_t2) a + S1x16x256.size a ≤ S6x160x512.size a) ∧
  (∀ k0_t2 : Fin (k0_t2_loop v1_0).trips, ∀ a, (k0_off75 v1_0 k0_t2) a + S1x256x256.size a ≤ S6x2560x512.size a) ∧
  (∀ k0_t2 : Fin (k0_t2_loop v1_0).trips, ∀ a, (k0_off76 v1_0 k0_t2) a + S1x16x256.size a ≤ S6x160x512.size a) ∧
  (∀ k0_t2 : Fin (k0_t2_loop v1_0).trips, ∀ a, (k0_off78 v1_0 k0_t2) a + S1x256x256.size a ≤ S6x2560x512.size a) ∧
  (∀ k0_t2 : Fin (k0_t2_loop v1_0).trips, ∀ a, (k0_off79 v1_0 k0_t2) a + S1x16x256.size a ≤ S6x160x512.size a) ∧
  (∀ k0_t2 : Fin (k0_t2_loop v1_0).trips, ∀ a, (k0_off81 v1_0 k0_t2) a + S1x256x256.size a ≤ S6x2560x512.size a) ∧
  (∀ k0_t2 : Fin (k0_t2_loop v1_0).trips, ∀ a, (k0_off82 v1_0 k0_t2) a + S1x16x256.size a ≤ S6x160x512.size a) ∧
  (∀ k0_t2 : Fin (k0_t2_loop v1_0).trips, ∀ a, (k0_off84 v1_0 k0_t2) a + S1x256x256.size a ≤ S6x2560x512.size a) ∧
  (∀ k0_t2 : Fin (k0_t2_loop v1_0).trips, ∀ a, (k0_off85 v1_0 k0_t2) a + S1x16x256.size a ≤ S6x160x512.size a) ∧
  (∀ k0_t2 : Fin (k0_t2_loop v1_0).trips, ∀ a, (k0_off87 v1_0 k0_t2) a + S1x256x256.size a ≤ S6x2560x512.size a) ∧
  (∀ k0_t2 : Fin (k0_t2_loop v1_0).trips, ∀ a, (k0_off88 v1_0 k0_t2) a + S1x16x256.size a ≤ S6x160x512.size a) ∧
  (∀ k0_t2 : Fin (k0_t2_loop v1_0).trips, 256 ∣ (k0_mult9 v1_0 k0_t2).toNat) ∧
  (∀ k0_t2 : Fin (k0_t2_loop v1_0).trips, ∀ a, (k0_off92 v1_0 k0_t2) a + S1x256x256.size a ≤ S6x2560x512.size a) ∧
  (∀ k0_t2 : Fin (k0_t2_loop v1_0).trips, ∀ a, (k0_off93 v1_0 k0_t2) a + S1x16x256.size a ≤ S6x160x512.size a) ∧
  (∀ k0_t2 : Fin (k0_t2_loop v1_0).trips, ∀ a, (k0_off95 v1_0 k0_t2) a + S1x256x256.size a ≤ S6x2560x512.size a) ∧
  (∀ k0_t2 : Fin (k0_t2_loop v1_0).trips, ∀ a, (k0_off96 v1_0 k0_t2) a + S1x16x256.size a ≤ S6x160x512.size a) ∧
  (∀ k0_t2 : Fin (k0_t2_loop v1_0).trips, ∀ a, (k0_off98 v1_0 k0_t2) a + S1x256x256.size a ≤ S6x2560x512.size a) ∧
  (∀ k0_t2 : Fin (k0_t2_loop v1_0).trips, ∀ a, (k0_off99 v1_0 k0_t2) a + S1x16x256.size a ≤ S6x160x512.size a) ∧
  (∀ k0_t2 : Fin (k0_t2_loop v1_0).trips, ∀ a, (k0_off101 v1_0 k0_t2) a + S1x256x256.size a ≤ S6x2560x512.size a) ∧
  (∀ k0_t2 : Fin (k0_t2_loop v1_0).trips, ∀ a, (k0_off102 v1_0 k0_t2) a + S1x16x256.size a ≤ S6x160x512.size a) ∧
  (∀ k0_t2 : Fin (k0_t2_loop v1_0).trips, ∀ a, (k0_off104 v1_0 k0_t2) a + S1x256x256.size a ≤ S6x2560x512.size a) ∧
  (∀ k0_t2 : Fin (k0_t2_loop v1_0).trips, ∀ a, (k0_off105 v1_0 k0_t2) a + S1x16x256.size a ≤ S6x160x512.size a) ∧
  (∀ k0_t2 : Fin (k0_t2_loop v1_0).trips, ∀ a, (k0_off107 v1_0 k0_t2) a + S1x256x256.size a ≤ S6x2560x512.size a) ∧
  (∀ k0_t2 : Fin (k0_t2_loop v1_0).trips, ∀ a, (k0_off108 v1_0 k0_t2) a + S1x16x256.size a ≤ S6x160x512.size a) ∧
  (∀ k0_t2 : Fin (k0_t2_loop v1_0).trips, ∀ a, (k0_off110 v1_0 k0_t2) a + S1x256x256.size a ≤ S6x2560x512.size a) ∧
  (∀ k0_t2 : Fin (k0_t2_loop v1_0).trips, ∀ a, (k0_off111 v1_0 k0_t2) a + S1x16x256.size a ≤ S6x160x512.size a)
def k0_chk2_2 (v1_0 : BitVec 32) : Prop :=
  (∀ k0_t2 : Fin (k0_t2_loop v1_0).trips, ∀ a, (k0_off113 v1_0 k0_t2) a + S1x256x256.size a ≤ S6x2560x512.size a) ∧
  (∀ k0_t2 : Fin (k0_t2_loop v1_0).trips, ∀ a, (k0_off114 v1_0 k0_t2) a + S1x16x256.size a ≤ S6x160x512.size a) ∧
  (∀ k0_t2 : Fin (k0_t2_loop v1_0).trips, ∀ a, (k0_off116 v1_0 k0_t2) a + S1x256x256.size a ≤ S6x2560x512.size a) ∧
  (∀ k0_t2 : Fin (k0_t2_loop v1_0).trips, ∀ a, (k0_off117 v1_0 k0_t2) a + S1x16x256.size a ≤ S6x160x512.size a) ∧
  (∀ k0_t2 : Fin (k0_t2_loop v1_0).trips, ∀ a, (k0_off119 v1_0 k0_t2) a + S1x256x256.size a ≤ S6x2560x512.size a) ∧
  (∀ k0_t2 : Fin (k0_t2_loop v1_0).trips, ∀ a, (k0_off120 v1_0 k0_t2) a + S1x16x256.size a ≤ S6x160x512.size a) ∧
  (∀ k0_t2 : Fin (k0_t2_loop v1_0).trips, 256 ∣ (k0_mult10 v1_0 k0_t2).toNat) ∧
  ((k0_t3_loop v1_0).OK) ∧
  (∀ k0_t3 : Fin (k0_t3_loop v1_0).trips, ∀ a, (k0_off122 v1_0 k0_t3) a + S1x1.size a ≤ S4x64.size a) ∧
  (∀ k0_t3 : Fin (k0_t3_loop v1_0).trips, ∀ a, (k0_off123 v1_0 k0_t3) a + S1x1.size a ≤ S4x64.size a) ∧
  (∀ k0_t3 : Fin (k0_t3_loop v1_0).trips, ∀ a, (k0_off124 v1_0 k0_t3) a + S1x1.size a ≤ S4x64.size a) ∧
  (∀ k0_t3 : Fin (k0_t3_loop v1_0).trips, ∀ a, (k0_off125 v1_0 k0_t3) a + S1x1.size a ≤ S4x64.size a) ∧
  (∀ k0_t3 : Fin (k0_t3_loop v1_0).trips, ∀ (k0_h7 : k0_cond7 v1_0 k0_t3 = 1#1), ∀ a, (k0_off126 v1_0 k0_t3) a + S1x1.size a ≤ S4x64.size a) ∧
  (∀ k0_t3 : Fin (k0_t3_loop v1_0).trips, ∀ (k0_h7 : k0_cond7 v1_0 k0_t3 = 1#1), 512 ∣ (k0_mult12 v1_0 k0_t3).toNat) ∧
  (∀ k0_t3 : Fin (k0_t3_loop v1_0).trips, ∀ (k0_h7 : k0_cond7 v1_0 k0_t3 = 1#1), ∀ a, (k0_off127 v1_0 k0_t3) a + S1.size a ≤ S6.size a) ∧
  (∀ k0_t3 : Fin (k0_t3_loop v1_0).trips, ∀ (k0_h7 : k0_cond7 v1_0 k0_t3 = 1#1), ∀ a, (k0_off128 v1_0 k0_t3) a + S1x2560x512.size a ≤ S6x2560x512.size a) ∧
  (∀ k0_t3 : Fin (k0_t3_loop v1_0).trips, ∀ (k0_h7 : k0_cond7 v1_0 k0_t3 = 1#1), ∀ (hinb : ∀ a, (k0_off128 v1_0 k0_t3) a + S1x2560x512.size a ≤ S6x2560x512.size a), (Rect.unit (s := S6x2560x512) (k0_off128 v1_0 k0_t3) S1x2560x512.size hinb).WholeWords (EltTy.packing .fp8e4m3)) ∧
  (∀ k0_t3 : Fin (k0_t3_loop v1_0).trips, ∀ (k0_h7 : k0_cond7 v1_0 k0_t3 = 1#1), ∀ a, (k0_off130 v1_0 k0_t3) a + S1.size a ≤ S6.size a) ∧
  (∀ k0_t3 : Fin (k0_t3_loop v1_0).trips, ∀ (k0_h7 : k0_cond7 v1_0 k0_t3 = 1#1), ∀ a, (k0_off131 v1_0 k0_t3) a + S1x160x512.size a ≤ S6x160x512.size a) ∧
  (∀ k0_t3 : Fin (k0_t3_loop v1_0).trips, ∀ a, (k0_off133 v1_0 k0_t3) a + S1x1.size a ≤ S4x64.size a) ∧
  (∀ k0_t3 : Fin (k0_t3_loop v1_0).trips, 512 ∣ (k0_mult13 v1_0 k0_t3).toNat) ∧
  (∀ k0_t3 : Fin (k0_t3_loop v1_0).trips, ∀ a, (k0_off134 v1_0 k0_t3) a + S1.size a ≤ S6.size a) ∧
  (∀ k0_t3 : Fin (k0_t3_loop v1_0).trips, ∀ a, (k0_off135 v1_0 k0_t3) a + S1x2560x512.size a ≤ S6x2560x512.size a) ∧
  (∀ k0_t3 : Fin (k0_t3_loop v1_0).trips, ∀ (hinb : ∀ a, (k0_off135 v1_0 k0_t3) a + S1x2560x512.size a ≤ S6x2560x512.size a), (Rect.unit (s := S6x2560x512) (k0_off135 v1_0 k0_t3) S1x2560x512.size hinb).WholeWords (EltTy.packing .fp8e4m3)) ∧
  (∀ k0_t3 : Fin (k0_t3_loop v1_0).trips, ∀ a, (k0_off137 v1_0 k0_t3) a + S1.size a ≤ S6.size a) ∧
  (∀ k0_t3 : Fin (k0_t3_loop v1_0).trips, ∀ a, (k0_off138 v1_0 k0_t3) a + S1x160x512.size a ≤ S6x160x512.size a) ∧
  (∀ k0_t3 : Fin (k0_t3_loop v1_0).trips, ∀ a, (k0_off141 v1_0 k0_t3) a + S1x256x256.size a ≤ S6x2560x512.size a) ∧
  (∀ k0_t3 : Fin (k0_t3_loop v1_0).trips, ∀ a, (k0_off142 v1_0 k0_t3) a + S1x16x256.size a ≤ S6x160x512.size a) ∧
  (∀ k0_t3 : Fin (k0_t3_loop v1_0).trips, ∀ a, (k0_off144 v1_0 k0_t3) a + S1x256x256.size a ≤ S6x2560x512.size a) ∧
  (∀ k0_t3 : Fin (k0_t3_loop v1_0).trips, ∀ a, (k0_off145 v1_0 k0_t3) a + S1x16x256.size a ≤ S6x160x512.size a) ∧
  (∀ k0_t3 : Fin (k0_t3_loop v1_0).trips, ∀ a, (k0_off147 v1_0 k0_t3) a + S1x256x256.size a ≤ S6x2560x512.size a) ∧
  (∀ k0_t3 : Fin (k0_t3_loop v1_0).trips, ∀ a, (k0_off148 v1_0 k0_t3) a + S1x16x256.size a ≤ S6x160x512.size a)
def k0_chk2_3 (v1_0 : BitVec 32) : Prop :=
  (∀ k0_t3 : Fin (k0_t3_loop v1_0).trips, ∀ a, (k0_off150 v1_0 k0_t3) a + S1x256x256.size a ≤ S6x2560x512.size a) ∧
  (∀ k0_t3 : Fin (k0_t3_loop v1_0).trips, ∀ a, (k0_off151 v1_0 k0_t3) a + S1x16x256.size a ≤ S6x160x512.size a) ∧
  (∀ k0_t3 : Fin (k0_t3_loop v1_0).trips, ∀ a, (k0_off153 v1_0 k0_t3) a + S1x256x256.size a ≤ S6x2560x512.size a) ∧
  (∀ k0_t3 : Fin (k0_t3_loop v1_0).trips, ∀ a, (k0_off154 v1_0 k0_t3) a + S1x16x256.size a ≤ S6x160x512.size a) ∧
  (∀ k0_t3 : Fin (k0_t3_loop v1_0).trips, ∀ a, (k0_off156 v1_0 k0_t3) a + S1x256x256.size a ≤ S6x2560x512.size a) ∧
  (∀ k0_t3 : Fin (k0_t3_loop v1_0).trips, ∀ a, (k0_off157 v1_0 k0_t3) a + S1x16x256.size a ≤ S6x160x512.size a) ∧
  (∀ k0_t3 : Fin (k0_t3_loop v1_0).trips, ∀ a, (k0_off159 v1_0 k0_t3) a + S1x256x256.size a ≤ S6x2560x512.size a) ∧
  (∀ k0_t3 : Fin (k0_t3_loop v1_0).trips, ∀ a, (k0_off160 v1_0 k0_t3) a + S1x16x256.size a ≤ S6x160x512.size a) ∧
  (∀ k0_t3 : Fin (k0_t3_loop v1_0).trips, ∀ a, (k0_off162 v1_0 k0_t3) a + S1x256x256.size a ≤ S6x2560x512.size a) ∧
  (∀ k0_t3 : Fin (k0_t3_loop v1_0).trips, ∀ a, (k0_off163 v1_0 k0_t3) a + S1x16x256.size a ≤ S6x160x512.size a) ∧
  (∀ k0_t3 : Fin (k0_t3_loop v1_0).trips, ∀ a, (k0_off165 v1_0 k0_t3) a + S1x256x256.size a ≤ S6x2560x512.size a) ∧
  (∀ k0_t3 : Fin (k0_t3_loop v1_0).trips, ∀ a, (k0_off166 v1_0 k0_t3) a + S1x16x256.size a ≤ S6x160x512.size a) ∧
  (∀ k0_t3 : Fin (k0_t3_loop v1_0).trips, ∀ a, (k0_off168 v1_0 k0_t3) a + S1x256x256.size a ≤ S6x2560x512.size a) ∧
  (∀ k0_t3 : Fin (k0_t3_loop v1_0).trips, ∀ a, (k0_off169 v1_0 k0_t3) a + S1x16x256.size a ≤ S6x160x512.size a) ∧
  (∀ k0_t3 : Fin (k0_t3_loop v1_0).trips, 256 ∣ (k0_mult14 v1_0 k0_t3).toNat) ∧
  (∀ k0_t3 : Fin (k0_t3_loop v1_0).trips, ∀ a, (k0_off173 v1_0 k0_t3) a + S1x256x256.size a ≤ S6x2560x512.size a) ∧
  (∀ k0_t3 : Fin (k0_t3_loop v1_0).trips, ∀ a, (k0_off174 v1_0 k0_t3) a + S1x16x256.size a ≤ S6x160x512.size a) ∧
  (∀ k0_t3 : Fin (k0_t3_loop v1_0).trips, ∀ a, (k0_off176 v1_0 k0_t3) a + S1x256x256.size a ≤ S6x2560x512.size a) ∧
  (∀ k0_t3 : Fin (k0_t3_loop v1_0).trips, ∀ a, (k0_off177 v1_0 k0_t3) a + S1x16x256.size a ≤ S6x160x512.size a) ∧
  (∀ k0_t3 : Fin (k0_t3_loop v1_0).trips, ∀ a, (k0_off179 v1_0 k0_t3) a + S1x256x256.size a ≤ S6x2560x512.size a) ∧
  (∀ k0_t3 : Fin (k0_t3_loop v1_0).trips, ∀ a, (k0_off180 v1_0 k0_t3) a + S1x16x256.size a ≤ S6x160x512.size a) ∧
  (∀ k0_t3 : Fin (k0_t3_loop v1_0).trips, ∀ a, (k0_off182 v1_0 k0_t3) a + S1x256x256.size a ≤ S6x2560x512.size a) ∧
  (∀ k0_t3 : Fin (k0_t3_loop v1_0).trips, ∀ a, (k0_off183 v1_0 k0_t3) a + S1x16x256.size a ≤ S6x160x512.size a) ∧
  (∀ k0_t3 : Fin (k0_t3_loop v1_0).trips, ∀ a, (k0_off185 v1_0 k0_t3) a + S1x256x256.size a ≤ S6x2560x512.size a) ∧
  (∀ k0_t3 : Fin (k0_t3_loop v1_0).trips, ∀ a, (k0_off186 v1_0 k0_t3) a + S1x16x256.size a ≤ S6x160x512.size a) ∧
  (∀ k0_t3 : Fin (k0_t3_loop v1_0).trips, ∀ a, (k0_off188 v1_0 k0_t3) a + S1x256x256.size a ≤ S6x2560x512.size a) ∧
  (∀ k0_t3 : Fin (k0_t3_loop v1_0).trips, ∀ a, (k0_off189 v1_0 k0_t3) a + S1x16x256.size a ≤ S6x160x512.size a) ∧
  (∀ k0_t3 : Fin (k0_t3_loop v1_0).trips, ∀ a, (k0_off191 v1_0 k0_t3) a + S1x256x256.size a ≤ S6x2560x512.size a) ∧
  (∀ k0_t3 : Fin (k0_t3_loop v1_0).trips, ∀ a, (k0_off192 v1_0 k0_t3) a + S1x16x256.size a ≤ S6x160x512.size a) ∧
  (∀ k0_t3 : Fin (k0_t3_loop v1_0).trips, ∀ a, (k0_off194 v1_0 k0_t3) a + S1x256x256.size a ≤ S6x2560x512.size a) ∧
  (∀ k0_t3 : Fin (k0_t3_loop v1_0).trips, ∀ a, (k0_off195 v1_0 k0_t3) a + S1x16x256.size a ≤ S6x160x512.size a) ∧
  (∀ k0_t3 : Fin (k0_t3_loop v1_0).trips, ∀ a, (k0_off197 v1_0 k0_t3) a + S1x256x256.size a ≤ S6x2560x512.size a)
def k0_chk2_4 (v1_0 : BitVec 32) : Prop :=
  (∀ k0_t3 : Fin (k0_t3_loop v1_0).trips, ∀ a, (k0_off198 v1_0 k0_t3) a + S1x16x256.size a ≤ S6x160x512.size a) ∧
  (∀ k0_t3 : Fin (k0_t3_loop v1_0).trips, ∀ a, (k0_off200 v1_0 k0_t3) a + S1x256x256.size a ≤ S6x2560x512.size a) ∧
  (∀ k0_t3 : Fin (k0_t3_loop v1_0).trips, ∀ a, (k0_off201 v1_0 k0_t3) a + S1x16x256.size a ≤ S6x160x512.size a) ∧
  (∀ k0_t3 : Fin (k0_t3_loop v1_0).trips, 256 ∣ (k0_mult15 v1_0 k0_t3).toNat)
def k0_chk2 (v1_0 : BitVec 32) : Prop :=
  k0_chk2_0 v1_0 ∧
  k0_chk2_1 v1_0 ∧
  k0_chk2_2 v1_0 ∧
  k0_chk2_3 v1_0 ∧
  k0_chk2_4 v1_0
theorem k0_off6_inb : ∀ (v1_0 : BitVec 32) (k0_hw2 : k0_chk2 v1_0), ∀ (k0_h1 : k0_cond1 v1_0 = 1#1), ∀ a, (k0_off6 v1_0) a + S1x1.size a ≤ S4x64.size a := fun v1_0 k0_hw2 k0_h1 => k0_hw2.1.1 k0_h1
theorem k0_mult1_dvd : ∀ (v1_0 : BitVec 32) (k0_hw2 : k0_chk2 v1_0), ∀ (k0_h1 : k0_cond1 v1_0 = 1#1), 512 ∣ (k0_mult1 v1_0).toNat := fun v1_0 k0_hw2 k0_h1 => k0_hw2.1.2.1 k0_h1
theorem k0_off13_inb : ∀ (v1_0 : BitVec 32) (k0_hw2 : k0_chk2 v1_0), ∀ (k0_h2 : k0_cond2 v1_0 = 1#1), ∀ a, (k0_off13 v1_0) a + S1x1.size a ≤ S4x64.size a := fun v1_0 k0_hw2 k0_h2 => k0_hw2.1.2.2.1 k0_h2
theorem k0_mult2_dvd : ∀ (v1_0 : BitVec 32) (k0_hw2 : k0_chk2 v1_0), ∀ (k0_h2 : k0_cond2 v1_0 = 1#1), 512 ∣ (k0_mult2 v1_0).toNat := fun v1_0 k0_hw2 k0_h2 => k0_hw2.1.2.2.2.1 k0_h2
theorem k0_off20_inb : ∀ (v1_0 : BitVec 32) (k0_hw2 : k0_chk2 v1_0), ∀ (k0_h3 : k0_cond3 v1_0 = 1#1), ∀ a, (k0_off20 v1_0) a + S1x1.size a ≤ S4x64.size a := fun v1_0 k0_hw2 k0_h3 => k0_hw2.1.2.2.2.2.1 k0_h3
theorem k0_mult3_dvd : ∀ (v1_0 : BitVec 32) (k0_hw2 : k0_chk2 v1_0), ∀ (k0_h3 : k0_cond3 v1_0 = 1#1), 512 ∣ (k0_mult3 v1_0).toNat := fun v1_0 k0_hw2 k0_h3 => k0_hw2.1.2.2.2.2.2.1 k0_h3
theorem k0_off27_inb : ∀ (v1_0 : BitVec 32) (k0_hw2 : k0_chk2 v1_0), ∀ (k0_h4 : k0_cond4 v1_0 = 1#1), ∀ a, (k0_off27 v1_0) a + S1x1.size a ≤ S4x64.size a := fun v1_0 k0_hw2 k0_h4 => k0_hw2.1.2.2.2.2.2.2.1 k0_h4
theorem k0_mult4_dvd : ∀ (v1_0 : BitVec 32) (k0_hw2 : k0_chk2 v1_0), ∀ (k0_h4 : k0_cond4 v1_0 = 1#1), 512 ∣ (k0_mult4 v1_0).toNat := fun v1_0 k0_hw2 k0_h4 => k0_hw2.1.2.2.2.2.2.2.2.1 k0_h4
theorem k0_off34_inb : ∀ (v1_0 : BitVec 32) (k0_hw2 : k0_chk2 v1_0), ∀ (k0_h5 : k0_cond5 v1_0 = 1#1), ∀ a, (k0_off34 v1_0) a + S1x1.size a ≤ S4x64.size a := fun v1_0 k0_hw2 k0_h5 => k0_hw2.1.2.2.2.2.2.2.2.2.1 k0_h5
theorem k0_mult5_dvd : ∀ (v1_0 : BitVec 32) (k0_hw2 : k0_chk2 v1_0), ∀ (k0_h5 : k0_cond5 v1_0 = 1#1), 512 ∣ (k0_mult5 v1_0).toNat := fun v1_0 k0_hw2 k0_h5 => k0_hw2.1.2.2.2.2.2.2.2.2.2.1 k0_h5
theorem k0_t2_ok : ∀ (v1_0 : BitVec 32) (k0_hw2 : k0_chk2 v1_0), (k0_t2_loop v1_0).OK := fun v1_0 k0_hw2 => k0_hw2.1.2.2.2.2.2.2.2.2.2.2.1
theorem k0_off41_inb : ∀ (v1_0 : BitVec 32) (k0_hw2 : k0_chk2 v1_0) (k0_t2 : Fin (k0_t2_loop v1_0).trips), ∀ a, (k0_off41 v1_0 k0_t2) a + S1x1.size a ≤ S4x64.size a := fun v1_0 k0_hw2 k0_t2 => k0_hw2.1.2.2.2.2.2.2.2.2.2.2.2.1 k0_t2
theorem k0_off42_inb : ∀ (v1_0 : BitVec 32) (k0_hw2 : k0_chk2 v1_0) (k0_t2 : Fin (k0_t2_loop v1_0).trips), ∀ a, (k0_off42 v1_0 k0_t2) a + S1x1.size a ≤ S4x64.size a := fun v1_0 k0_hw2 k0_t2 => k0_hw2.1.2.2.2.2.2.2.2.2.2.2.2.2.1 k0_t2
theorem k0_off43_inb : ∀ (v1_0 : BitVec 32) (k0_hw2 : k0_chk2 v1_0) (k0_t2 : Fin (k0_t2_loop v1_0).trips), ∀ a, (k0_off43 v1_0 k0_t2) a + S1x1.size a ≤ S4x64.size a := fun v1_0 k0_hw2 k0_t2 => k0_hw2.1.2.2.2.2.2.2.2.2.2.2.2.2.2.1 k0_t2
theorem k0_off44_inb : ∀ (v1_0 : BitVec 32) (k0_hw2 : k0_chk2 v1_0) (k0_t2 : Fin (k0_t2_loop v1_0).trips), ∀ a, (k0_off44 v1_0 k0_t2) a + S1x1.size a ≤ S4x64.size a := fun v1_0 k0_hw2 k0_t2 => k0_hw2.1.2.2.2.2.2.2.2.2.2.2.2.2.2.2.1 k0_t2
theorem k0_off45_inb : ∀ (v1_0 : BitVec 32) (k0_hw2 : k0_chk2 v1_0) (k0_t2 : Fin (k0_t2_loop v1_0).trips), ∀ (k0_h6 : k0_cond6 v1_0 k0_t2 = 1#1), ∀ a, (k0_off45 v1_0 k0_t2) a + S1x1.size a ≤ S4x64.size a := fun v1_0 k0_hw2 k0_t2 k0_h6 => k0_hw2.1.2.2.2.2.2.2.2.2.2.2.2.2.2.2.2.1 k0_t2 k0_h6
theorem k0_mult7_dvd : ∀ (v1_0 : BitVec 32) (k0_hw2 : k0_chk2 v1_0) (k0_t2 : Fin (k0_t2_loop v1_0).trips), ∀ (k0_h6 : k0_cond6 v1_0 k0_t2 = 1#1), 512 ∣ (k0_mult7 v1_0 k0_t2).toNat := fun v1_0 k0_hw2 k0_t2 k0_h6 => k0_hw2.1.2.2.2.2.2.2.2.2.2.2.2.2.2.2.2.2.1 k0_t2 k0_h6
theorem k0_off46_inb : ∀ (v1_0 : BitVec 32) (k0_hw2 : k0_chk2 v1_0) (k0_t2 : Fin (k0_t2_loop v1_0).trips), ∀ (k0_h6 : k0_cond6 v1_0 k0_t2 = 1#1), ∀ a, (k0_off46 v1_0 k0_t2) a + S1.size a ≤ S6.size a := fun v1_0 k0_hw2 k0_t2 k0_h6 => k0_hw2.1.2.2.2.2.2.2.2.2.2.2.2.2.2.2.2.2.2.1 k0_t2 k0_h6
theorem k0_off47_inb : ∀ (v1_0 : BitVec 32) (k0_hw2 : k0_chk2 v1_0) (k0_t2 : Fin (k0_t2_loop v1_0).trips), ∀ (k0_h6 : k0_cond6 v1_0 k0_t2 = 1#1), ∀ a, (k0_off47 v1_0 k0_t2) a + S1x2560x512.size a ≤ S6x2560x512.size a := fun v1_0 k0_hw2 k0_t2 k0_h6 => k0_hw2.1.2.2.2.2.2.2.2.2.2.2.2.2.2.2.2.2.2.2.1 k0_t2 k0_h6
theorem k0_off47_wordsfp8e4m3 : ∀ (v1_0 : BitVec 32) (k0_hw2 : k0_chk2 v1_0) (k0_t2 : Fin (k0_t2_loop v1_0).trips), ∀ (k0_h6 : k0_cond6 v1_0 k0_t2 = 1#1), (Rect.unit (s := S6x2560x512) (k0_off47 v1_0 k0_t2) S1x2560x512.size (k0_off47_inb v1_0 k0_hw2 k0_t2 k0_h6)).WholeWords (EltTy.packing .fp8e4m3) := fun v1_0 k0_hw2 k0_t2 k0_h6 => k0_hw2.1.2.2.2.2.2.2.2.2.2.2.2.2.2.2.2.2.2.2.2.1 k0_t2 k0_h6 (k0_off47_inb v1_0 k0_hw2 k0_t2 k0_h6)
theorem k0_off49_inb : ∀ (v1_0 : BitVec 32) (k0_hw2 : k0_chk2 v1_0) (k0_t2 : Fin (k0_t2_loop v1_0).trips), ∀ (k0_h6 : k0_cond6 v1_0 k0_t2 = 1#1), ∀ a, (k0_off49 v1_0 k0_t2) a + S1.size a ≤ S6.size a := fun v1_0 k0_hw2 k0_t2 k0_h6 => k0_hw2.1.2.2.2.2.2.2.2.2.2.2.2.2.2.2.2.2.2.2.2.2.1 k0_t2 k0_h6
theorem k0_off50_inb : ∀ (v1_0 : BitVec 32) (k0_hw2 : k0_chk2 v1_0) (k0_t2 : Fin (k0_t2_loop v1_0).trips), ∀ (k0_h6 : k0_cond6 v1_0 k0_t2 = 1#1), ∀ a, (k0_off50 v1_0 k0_t2) a + S1x160x512.size a ≤ S6x160x512.size a := fun v1_0 k0_hw2 k0_t2 k0_h6 => k0_hw2.1.2.2.2.2.2.2.2.2.2.2.2.2.2.2.2.2.2.2.2.2.2.1 k0_t2 k0_h6
theorem k0_off52_inb : ∀ (v1_0 : BitVec 32) (k0_hw2 : k0_chk2 v1_0) (k0_t2 : Fin (k0_t2_loop v1_0).trips), ∀ a, (k0_off52 v1_0 k0_t2) a + S1x1.size a ≤ S4x64.size a := fun v1_0 k0_hw2 k0_t2 => k0_hw2.1.2.2.2.2.2.2.2.2.2.2.2.2.2.2.2.2.2.2.2.2.2.2.1 k0_t2
theorem k0_mult8_dvd : ∀ (v1_0 : BitVec 32) (k0_hw2 : k0_chk2 v1_0) (k0_t2 : Fin (k0_t2_loop v1_0).trips), 512 ∣ (k0_mult8 v1_0 k0_t2).toNat := fun v1_0 k0_hw2 k0_t2 => k0_hw2.1.2.2.2.2.2.2.2.2.2.2.2.2.2.2.2.2.2.2.2.2.2.2.2.1 k0_t2
theorem k0_off53_inb : ∀ (v1_0 : BitVec 32) (k0_hw2 : k0_chk2 v1_0) (k0_t2 : Fin (k0_t2_loop v1_0).trips), ∀ a, (k0_off53 v1_0 k0_t2) a + S1.size a ≤ S6.size a := fun v1_0 k0_hw2 k0_t2 => k0_hw2.1.2.2.2.2.2.2.2.2.2.2.2.2.2.2.2.2.2.2.2.2.2.2.2.2.1 k0_t2
theorem k0_off54_inb : ∀ (v1_0 : BitVec 32) (k0_hw2 : k0_chk2 v1_0) (k0_t2 : Fin (k0_t2_loop v1_0).trips), ∀ a, (k0_off54 v1_0 k0_t2) a + S1x2560x512.size a ≤ S6x2560x512.size a := fun v1_0 k0_hw2 k0_t2 => k0_hw2.1.2.2.2.2.2.2.2.2.2.2.2.2.2.2.2.2.2.2.2.2.2.2.2.2.2.1 k0_t2
theorem k0_off54_wordsfp8e4m3 : ∀ (v1_0 : BitVec 32) (k0_hw2 : k0_chk2 v1_0) (k0_t2 : Fin (k0_t2_loop v1_0).trips), (Rect.unit (s := S6x2560x512) (k0_off54 v1_0 k0_t2) S1x2560x512.size (k0_off54_inb v1_0 k0_hw2 k0_t2)).WholeWords (EltTy.packing .fp8e4m3) := fun v1_0 k0_hw2 k0_t2 => k0_hw2.1.2.2.2.2.2.2.2.2.2.2.2.2.2.2.2.2.2.2.2.2.2.2.2.2.2.2.1 k0_t2 (k0_off54_inb v1_0 k0_hw2 k0_t2)
theorem k0_off56_inb : ∀ (v1_0 : BitVec 32) (k0_hw2 : k0_chk2 v1_0) (k0_t2 : Fin (k0_t2_loop v1_0).trips), ∀ a, (k0_off56 v1_0 k0_t2) a + S1.size a ≤ S6.size a := fun v1_0 k0_hw2 k0_t2 => k0_hw2.1.2.2.2.2.2.2.2.2.2.2.2.2.2.2.2.2.2.2.2.2.2.2.2.2.2.2.2.1 k0_t2
theorem k0_off57_inb : ∀ (v1_0 : BitVec 32) (k0_hw2 : k0_chk2 v1_0) (k0_t2 : Fin (k0_t2_loop v1_0).trips), ∀ a, (k0_off57 v1_0 k0_t2) a + S1x160x512.size a ≤ S6x160x512.size a := fun v1_0 k0_hw2 k0_t2 => k0_hw2.1.2.2.2.2.2.2.2.2.2.2.2.2.2.2.2.2.2.2.2.2.2.2.2.2.2.2.2.2.1 k0_t2
theorem k0_off60_inb : ∀ (v1_0 : BitVec 32) (k0_hw2 : k0_chk2 v1_0) (k0_t2 : Fin (k0_t2_loop v1_0).trips), ∀ a, (k0_off60 v1_0 k0_t2) a + S1x256x256.size a ≤ S6x2560x512.size a := fun v1_0 k0_hw2 k0_t2 => k0_hw2.1.2.2.2.2.2.2.2.2.2.2.2.2.2.2.2.2.2.2.2.2.2.2.2.2.2.2.2.2.2.1 k0_t2
theorem k0_off61_inb : ∀ (v1_0 : BitVec 32) (k0_hw2 : k0_chk2 v1_0) (k0_t2 : Fin (k0_t2_loop v1_0).trips), ∀ a, (k0_off61 v1_0 k0_t2) a + S1x16x256.size a ≤ S6x160x512.size a := fun v1_0 k0_hw2 k0_t2 => k0_hw2.1.2.2.2.2.2.2.2.2.2.2.2.2.2.2.2.2.2.2.2.2.2.2.2.2.2.2.2.2.2.2.1 k0_t2
theorem k0_off63_inb : ∀ (v1_0 : BitVec 32) (k0_hw2 : k0_chk2 v1_0) (k0_t2 : Fin (k0_t2_loop v1_0).trips), ∀ a, (k0_off63 v1_0 k0_t2) a + S1x256x256.size a ≤ S6x2560x512.size a := fun v1_0 k0_hw2 k0_t2 => k0_hw2.1.2.2.2.2.2.2.2.2.2.2.2.2.2.2.2.2.2.2.2.2.2.2.2.2.2.2.2.2.2.2.2 k0_t2
theorem k0_off64_inb : ∀ (v1_0 : BitVec 32) (k0_hw2 : k0_chk2 v1_0) (k0_t2 : Fin (k0_t2_loop v1_0).trips), ∀ a, (k0_off64 v1_0 k0_t2) a + S1x16x256.size a ≤ S6x160x512.size a := fun v1_0 k0_hw2 k0_t2 => k0_hw2.2.1.1 k0_t2
theorem k0_off66_inb : ∀ (v1_0 : BitVec 32) (k0_hw2 : k0_chk2 v1_0) (k0_t2 : Fin (k0_t2_loop v1_0).trips), ∀ a, (k0_off66 v1_0 k0_t2) a + S1x256x256.size a ≤ S6x2560x512.size a := fun v1_0 k0_hw2 k0_t2 => k0_hw2.2.1.2.1 k0_t2
theorem k0_off67_inb : ∀ (v1_0 : BitVec 32) (k0_hw2 : k0_chk2 v1_0) (k0_t2 : Fin (k0_t2_loop v1_0).trips), ∀ a, (k0_off67 v1_0 k0_t2) a + S1x16x256.size a ≤ S6x160x512.size a := fun v1_0 k0_hw2 k0_t2 => k0_hw2.2.1.2.2.1 k0_t2
theorem k0_off69_inb : ∀ (v1_0 : BitVec 32) (k0_hw2 : k0_chk2 v1_0) (k0_t2 : Fin (k0_t2_loop v1_0).trips), ∀ a, (k0_off69 v1_0 k0_t2) a + S1x256x256.size a ≤ S6x2560x512.size a := fun v1_0 k0_hw2 k0_t2 => k0_hw2.2.1.2.2.2.1 k0_t2
theorem k0_off70_inb : ∀ (v1_0 : BitVec 32) (k0_hw2 : k0_chk2 v1_0) (k0_t2 : Fin (k0_t2_loop v1_0).trips), ∀ a, (k0_off70 v1_0 k0_t2) a + S1x16x256.size a ≤ S6x160x512.size a := fun v1_0 k0_hw2 k0_t2 => k0_hw2.2.1.2.2.2.2.1 k0_t2
theorem k0_off72_inb : ∀ (v1_0 : BitVec 32) (k0_hw2 : k0_chk2 v1_0) (k0_t2 : Fin (k0_t2_loop v1_0).trips), ∀ a, (k0_off72 v1_0 k0_t2) a + S1x256x256.size a ≤ S6x2560x512.size a := fun v1_0 k0_hw2 k0_t2 => k0_hw2.2.1.2.2.2.2.2.1 k0_t2
theorem k0_off73_inb : ∀ (v1_0 : BitVec 32) (k0_hw2 : k0_chk2 v1_0) (k0_t2 : Fin (k0_t2_loop v1_0).trips), ∀ a, (k0_off73 v1_0 k0_t2) a + S1x16x256.size a ≤ S6x160x512.size a := fun v1_0 k0_hw2 k0_t2 => k0_hw2.2.1.2.2.2.2.2.2.1 k0_t2
theorem k0_off75_inb : ∀ (v1_0 : BitVec 32) (k0_hw2 : k0_chk2 v1_0) (k0_t2 : Fin (k0_t2_loop v1_0).trips), ∀ a, (k0_off75 v1_0 k0_t2) a + S1x256x256.size a ≤ S6x2560x512.size a := fun v1_0 k0_hw2 k0_t2 => k0_hw2.2.1.2.2.2.2.2.2.2.1 k0_t2
theorem k0_off76_inb : ∀ (v1_0 : BitVec 32) (k0_hw2 : k0_chk2 v1_0) (k0_t2 : Fin (k0_t2_loop v1_0).trips), ∀ a, (k0_off76 v1_0 k0_t2) a + S1x16x256.size a ≤ S6x160x512.size a := fun v1_0 k0_hw2 k0_t2 => k0_hw2.2.1.2.2.2.2.2.2.2.2.1 k0_t2
theorem k0_off78_inb : ∀ (v1_0 : BitVec 32) (k0_hw2 : k0_chk2 v1_0) (k0_t2 : Fin (k0_t2_loop v1_0).trips), ∀ a, (k0_off78 v1_0 k0_t2) a + S1x256x256.size a ≤ S6x2560x512.size a := fun v1_0 k0_hw2 k0_t2 => k0_hw2.2.1.2.2.2.2.2.2.2.2.2.1 k0_t2
theorem k0_off79_inb : ∀ (v1_0 : BitVec 32) (k0_hw2 : k0_chk2 v1_0) (k0_t2 : Fin (k0_t2_loop v1_0).trips), ∀ a, (k0_off79 v1_0 k0_t2) a + S1x16x256.size a ≤ S6x160x512.size a := fun v1_0 k0_hw2 k0_t2 => k0_hw2.2.1.2.2.2.2.2.2.2.2.2.2.1 k0_t2
theorem k0_off81_inb : ∀ (v1_0 : BitVec 32) (k0_hw2 : k0_chk2 v1_0) (k0_t2 : Fin (k0_t2_loop v1_0).trips), ∀ a, (k0_off81 v1_0 k0_t2) a + S1x256x256.size a ≤ S6x2560x512.size a := fun v1_0 k0_hw2 k0_t2 => k0_hw2.2.1.2.2.2.2.2.2.2.2.2.2.2.1 k0_t2
theorem k0_off82_inb : ∀ (v1_0 : BitVec 32) (k0_hw2 : k0_chk2 v1_0) (k0_t2 : Fin (k0_t2_loop v1_0).trips), ∀ a, (k0_off82 v1_0 k0_t2) a + S1x16x256.size a ≤ S6x160x512.size a := fun v1_0 k0_hw2 k0_t2 => k0_hw2.2.1.2.2.2.2.2.2.2.2.2.2.2.2.1 k0_t2
theorem k0_off84_inb : ∀ (v1_0 : BitVec 32) (k0_hw2 : k0_chk2 v1_0) (k0_t2 : Fin (k0_t2_loop v1_0).trips), ∀ a, (k0_off84 v1_0 k0_t2) a + S1x256x256.size a ≤ S6x2560x512.size a := fun v1_0 k0_hw2 k0_t2 => k0_hw2.2.1.2.2.2.2.2.2.2.2.2.2.2.2.2.1 k0_t2
theorem k0_off85_inb : ∀ (v1_0 : BitVec 32) (k0_hw2 : k0_chk2 v1_0) (k0_t2 : Fin (k0_t2_loop v1_0).trips), ∀ a, (k0_off85 v1_0 k0_t2) a + S1x16x256.size a ≤ S6x160x512.size a := fun v1_0 k0_hw2 k0_t2 => k0_hw2.2.1.2.2.2.2.2.2.2.2.2.2.2.2.2.2.1 k0_t2
theorem k0_off87_inb : ∀ (v1_0 : BitVec 32) (k0_hw2 : k0_chk2 v1_0) (k0_t2 : Fin (k0_t2_loop v1_0).trips), ∀ a, (k0_off87 v1_0 k0_t2) a + S1x256x256.size a ≤ S6x2560x512.size a := fun v1_0 k0_hw2 k0_t2 => k0_hw2.2.1.2.2.2.2.2.2.2.2.2.2.2.2.2.2.2.1 k0_t2
theorem k0_off88_inb : ∀ (v1_0 : BitVec 32) (k0_hw2 : k0_chk2 v1_0) (k0_t2 : Fin (k0_t2_loop v1_0).trips), ∀ a, (k0_off88 v1_0 k0_t2) a + S1x16x256.size a ≤ S6x160x512.size a := fun v1_0 k0_hw2 k0_t2 => k0_hw2.2.1.2.2.2.2.2.2.2.2.2.2.2.2.2.2.2.2.1 k0_t2
theorem k0_mult9_dvd : ∀ (v1_0 : BitVec 32) (k0_hw2 : k0_chk2 v1_0) (k0_t2 : Fin (k0_t2_loop v1_0).trips), 256 ∣ (k0_mult9 v1_0 k0_t2).toNat := fun v1_0 k0_hw2 k0_t2 => k0_hw2.2.1.2.2.2.2.2.2.2.2.2.2.2.2.2.2.2.2.2.1 k0_t2
theorem k0_off92_inb : ∀ (v1_0 : BitVec 32) (k0_hw2 : k0_chk2 v1_0) (k0_t2 : Fin (k0_t2_loop v1_0).trips), ∀ a, (k0_off92 v1_0 k0_t2) a + S1x256x256.size a ≤ S6x2560x512.size a := fun v1_0 k0_hw2 k0_t2 => k0_hw2.2.1.2.2.2.2.2.2.2.2.2.2.2.2.2.2.2.2.2.2.1 k0_t2
theorem k0_off93_inb : ∀ (v1_0 : BitVec 32) (k0_hw2 : k0_chk2 v1_0) (k0_t2 : Fin (k0_t2_loop v1_0).trips), ∀ a, (k0_off93 v1_0 k0_t2) a + S1x16x256.size a ≤ S6x160x512.size a := fun v1_0 k0_hw2 k0_t2 => k0_hw2.2.1.2.2.2.2.2.2.2.2.2.2.2.2.2.2.2.2.2.2.2.1 k0_t2
theorem k0_off95_inb : ∀ (v1_0 : BitVec 32) (k0_hw2 : k0_chk2 v1_0) (k0_t2 : Fin (k0_t2_loop v1_0).trips), ∀ a, (k0_off95 v1_0 k0_t2) a + S1x256x256.size a ≤ S6x2560x512.size a := fun v1_0 k0_hw2 k0_t2 => k0_hw2.2.1.2.2.2.2.2.2.2.2.2.2.2.2.2.2.2.2.2.2.2.2.1 k0_t2
theorem k0_off96_inb : ∀ (v1_0 : BitVec 32) (k0_hw2 : k0_chk2 v1_0) (k0_t2 : Fin (k0_t2_loop v1_0).trips), ∀ a, (k0_off96 v1_0 k0_t2) a + S1x16x256.size a ≤ S6x160x512.size a := fun v1_0 k0_hw2 k0_t2 => k0_hw2.2.1.2.2.2.2.2.2.2.2.2.2.2.2.2.2.2.2.2.2.2.2.2.1 k0_t2
theorem k0_off98_inb : ∀ (v1_0 : BitVec 32) (k0_hw2 : k0_chk2 v1_0) (k0_t2 : Fin (k0_t2_loop v1_0).trips), ∀ a, (k0_off98 v1_0 k0_t2) a + S1x256x256.size a ≤ S6x2560x512.size a := fun v1_0 k0_hw2 k0_t2 => k0_hw2.2.1.2.2.2.2.2.2.2.2.2.2.2.2.2.2.2.2.2.2.2.2.2.2.1 k0_t2
theorem k0_off99_inb : ∀ (v1_0 : BitVec 32) (k0_hw2 : k0_chk2 v1_0) (k0_t2 : Fin (k0_t2_loop v1_0).trips), ∀ a, (k0_off99 v1_0 k0_t2) a + S1x16x256.size a ≤ S6x160x512.size a := fun v1_0 k0_hw2 k0_t2 => k0_hw2.2.1.2.2.2.2.2.2.2.2.2.2.2.2.2.2.2.2.2.2.2.2.2.2.2.1 k0_t2
theorem k0_off101_inb : ∀ (v1_0 : BitVec 32) (k0_hw2 : k0_chk2 v1_0) (k0_t2 : Fin (k0_t2_loop v1_0).trips), ∀ a, (k0_off101 v1_0 k0_t2) a + S1x256x256.size a ≤ S6x2560x512.size a := fun v1_0 k0_hw2 k0_t2 => k0_hw2.2.1.2.2.2.2.2.2.2.2.2.2.2.2.2.2.2.2.2.2.2.2.2.2.2.2.1 k0_t2
theorem k0_off102_inb : ∀ (v1_0 : BitVec 32) (k0_hw2 : k0_chk2 v1_0) (k0_t2 : Fin (k0_t2_loop v1_0).trips), ∀ a, (k0_off102 v1_0 k0_t2) a + S1x16x256.size a ≤ S6x160x512.size a := fun v1_0 k0_hw2 k0_t2 => k0_hw2.2.1.2.2.2.2.2.2.2.2.2.2.2.2.2.2.2.2.2.2.2.2.2.2.2.2.2.1 k0_t2
theorem k0_off104_inb : ∀ (v1_0 : BitVec 32) (k0_hw2 : k0_chk2 v1_0) (k0_t2 : Fin (k0_t2_loop v1_0).trips), ∀ a, (k0_off104 v1_0 k0_t2) a + S1x256x256.size a ≤ S6x2560x512.size a := fun v1_0 k0_hw2 k0_t2 => k0_hw2.2.1.2.2.2.2.2.2.2.2.2.2.2.2.2.2.2.2.2.2.2.2.2.2.2.2.2.2.1 k0_t2
theorem k0_off105_inb : ∀ (v1_0 : BitVec 32) (k0_hw2 : k0_chk2 v1_0) (k0_t2 : Fin (k0_t2_loop v1_0).trips), ∀ a, (k0_off105 v1_0 k0_t2) a + S1x16x256.size a ≤ S6x160x512.size a := fun v1_0 k0_hw2 k0_t2 => k0_hw2.2.1.2.2.2.2.2.2.2.2.2.2.2.2.2.2.2.2.2.2.2.2.2.2.2.2.2.2.2.1 k0_t2
theorem k0_off107_inb : ∀ (v1_0 : BitVec 32) (k0_hw2 : k0_chk2 v1_0) (k0_t2 : Fin (k0_t2_loop v1_0).trips), ∀ a, (k0_off107 v1_0 k0_t2) a + S1x256x256.size a ≤ S6x2560x512.size a := fun v1_0 k0_hw2 k0_t2 => k0_hw2.2.1.2.2.2.2.2.2.2.2.2.2.2.2.2.2.2.2.2.2.2.2.2.2.2.2.2.2.2.2.1 k0_t2
theorem k0_off108_inb : ∀ (v1_0 : BitVec 32) (k0_hw2 : k0_chk2 v1_0) (k0_t2 : Fin (k0_t2_loop v1_0).trips), ∀ a, (k0_off108 v1_0 k0_t2) a + S1x16x256.size a ≤ S6x160x512.size a := fun v1_0 k0_hw2 k0_t2 => k0_hw2.2.1.2.2.2.2.2.2.2.2.2.2.2.2.2.2.2.2.2.2.2.2.2.2.2.2.2.2.2.2.2.1 k0_t2
theorem k0_off110_inb : ∀ (v1_0 : BitVec 32) (k0_hw2 : k0_chk2 v1_0) (k0_t2 : Fin (k0_t2_loop v1_0).trips), ∀ a, (k0_off110 v1_0 k0_t2) a + S1x256x256.size a ≤ S6x2560x512.size a := fun v1_0 k0_hw2 k0_t2 => k0_hw2.2.1.2.2.2.2.2.2.2.2.2.2.2.2.2.2.2.2.2.2.2.2.2.2.2.2.2.2.2.2.2.2.1 k0_t2
theorem k0_off111_inb : ∀ (v1_0 : BitVec 32) (k0_hw2 : k0_chk2 v1_0) (k0_t2 : Fin (k0_t2_loop v1_0).trips), ∀ a, (k0_off111 v1_0 k0_t2) a + S1x16x256.size a ≤ S6x160x512.size a := fun v1_0 k0_hw2 k0_t2 => k0_hw2.2.1.2.2.2.2.2.2.2.2.2.2.2.2.2.2.2.2.2.2.2.2.2.2.2.2.2.2.2.2.2.2.2 k0_t2
theorem k0_off113_inb : ∀ (v1_0 : BitVec 32) (k0_hw2 : k0_chk2 v1_0) (k0_t2 : Fin (k0_t2_loop v1_0).trips), ∀ a, (k0_off113 v1_0 k0_t2) a + S1x256x256.size a ≤ S6x2560x512.size a := fun v1_0 k0_hw2 k0_t2 => k0_hw2.2.2.1.1 k0_t2
theorem k0_off114_inb : ∀ (v1_0 : BitVec 32) (k0_hw2 : k0_chk2 v1_0) (k0_t2 : Fin (k0_t2_loop v1_0).trips), ∀ a, (k0_off114 v1_0 k0_t2) a + S1x16x256.size a ≤ S6x160x512.size a := fun v1_0 k0_hw2 k0_t2 => k0_hw2.2.2.1.2.1 k0_t2
theorem k0_off116_inb : ∀ (v1_0 : BitVec 32) (k0_hw2 : k0_chk2 v1_0) (k0_t2 : Fin (k0_t2_loop v1_0).trips), ∀ a, (k0_off116 v1_0 k0_t2) a + S1x256x256.size a ≤ S6x2560x512.size a := fun v1_0 k0_hw2 k0_t2 => k0_hw2.2.2.1.2.2.1 k0_t2
theorem k0_off117_inb : ∀ (v1_0 : BitVec 32) (k0_hw2 : k0_chk2 v1_0) (k0_t2 : Fin (k0_t2_loop v1_0).trips), ∀ a, (k0_off117 v1_0 k0_t2) a + S1x16x256.size a ≤ S6x160x512.size a := fun v1_0 k0_hw2 k0_t2 => k0_hw2.2.2.1.2.2.2.1 k0_t2
theorem k0_off119_inb : ∀ (v1_0 : BitVec 32) (k0_hw2 : k0_chk2 v1_0) (k0_t2 : Fin (k0_t2_loop v1_0).trips), ∀ a, (k0_off119 v1_0 k0_t2) a + S1x256x256.size a ≤ S6x2560x512.size a := fun v1_0 k0_hw2 k0_t2 => k0_hw2.2.2.1.2.2.2.2.1 k0_t2
theorem k0_off120_inb : ∀ (v1_0 : BitVec 32) (k0_hw2 : k0_chk2 v1_0) (k0_t2 : Fin (k0_t2_loop v1_0).trips), ∀ a, (k0_off120 v1_0 k0_t2) a + S1x16x256.size a ≤ S6x160x512.size a := fun v1_0 k0_hw2 k0_t2 => k0_hw2.2.2.1.2.2.2.2.2.1 k0_t2
theorem k0_mult10_dvd : ∀ (v1_0 : BitVec 32) (k0_hw2 : k0_chk2 v1_0) (k0_t2 : Fin (k0_t2_loop v1_0).trips), 256 ∣ (k0_mult10 v1_0 k0_t2).toNat := fun v1_0 k0_hw2 k0_t2 => k0_hw2.2.2.1.2.2.2.2.2.2.1 k0_t2
theorem k0_t3_ok : ∀ (v1_0 : BitVec 32) (k0_hw2 : k0_chk2 v1_0), (k0_t3_loop v1_0).OK := fun v1_0 k0_hw2 => k0_hw2.2.2.1.2.2.2.2.2.2.2.1
theorem k0_off122_inb : ∀ (v1_0 : BitVec 32) (k0_hw2 : k0_chk2 v1_0) (k0_t3 : Fin (k0_t3_loop v1_0).trips), ∀ a, (k0_off122 v1_0 k0_t3) a + S1x1.size a ≤ S4x64.size a := fun v1_0 k0_hw2 k0_t3 => k0_hw2.2.2.1.2.2.2.2.2.2.2.2.1 k0_t3
theorem k0_off123_inb : ∀ (v1_0 : BitVec 32) (k0_hw2 : k0_chk2 v1_0) (k0_t3 : Fin (k0_t3_loop v1_0).trips), ∀ a, (k0_off123 v1_0 k0_t3) a + S1x1.size a ≤ S4x64.size a := fun v1_0 k0_hw2 k0_t3 => k0_hw2.2.2.1.2.2.2.2.2.2.2.2.2.1 k0_t3
theorem k0_off124_inb : ∀ (v1_0 : BitVec 32) (k0_hw2 : k0_chk2 v1_0) (k0_t3 : Fin (k0_t3_loop v1_0).trips), ∀ a, (k0_off124 v1_0 k0_t3) a + S1x1.size a ≤ S4x64.size a := fun v1_0 k0_hw2 k0_t3 => k0_hw2.2.2.1.2.2.2.2.2.2.2.2.2.2.1 k0_t3
theorem k0_off125_inb : ∀ (v1_0 : BitVec 32) (k0_hw2 : k0_chk2 v1_0) (k0_t3 : Fin (k0_t3_loop v1_0).trips), ∀ a, (k0_off125 v1_0 k0_t3) a + S1x1.size a ≤ S4x64.size a := fun v1_0 k0_hw2 k0_t3 => k0_hw2.2.2.1.2.2.2.2.2.2.2.2.2.2.2.1 k0_t3
theorem k0_off126_inb : ∀ (v1_0 : BitVec 32) (k0_hw2 : k0_chk2 v1_0) (k0_t3 : Fin (k0_t3_loop v1_0).trips), ∀ (k0_h7 : k0_cond7 v1_0 k0_t3 = 1#1), ∀ a, (k0_off126 v1_0 k0_t3) a + S1x1.size a ≤ S4x64.size a := fun v1_0 k0_hw2 k0_t3 k0_h7 => k0_hw2.2.2.1.2.2.2.2.2.2.2.2.2.2.2.2.1 k0_t3 k0_h7
theorem k0_mult12_dvd : ∀ (v1_0 : BitVec 32) (k0_hw2 : k0_chk2 v1_0) (k0_t3 : Fin (k0_t3_loop v1_0).trips), ∀ (k0_h7 : k0_cond7 v1_0 k0_t3 = 1#1), 512 ∣ (k0_mult12 v1_0 k0_t3).toNat := fun v1_0 k0_hw2 k0_t3 k0_h7 => k0_hw2.2.2.1.2.2.2.2.2.2.2.2.2.2.2.2.2.1 k0_t3 k0_h7
theorem k0_off127_inb : ∀ (v1_0 : BitVec 32) (k0_hw2 : k0_chk2 v1_0) (k0_t3 : Fin (k0_t3_loop v1_0).trips), ∀ (k0_h7 : k0_cond7 v1_0 k0_t3 = 1#1), ∀ a, (k0_off127 v1_0 k0_t3) a + S1.size a ≤ S6.size a := fun v1_0 k0_hw2 k0_t3 k0_h7 => k0_hw2.2.2.1.2.2.2.2.2.2.2.2.2.2.2.2.2.2.1 k0_t3 k0_h7
theorem k0_off128_inb : ∀ (v1_0 : BitVec 32) (k0_hw2 : k0_chk2 v1_0) (k0_t3 : Fin (k0_t3_loop v1_0).trips), ∀ (k0_h7 : k0_cond7 v1_0 k0_t3 = 1#1), ∀ a, (k0_off128 v1_0 k0_t3) a + S1x2560x512.size a ≤ S6x2560x512.size a := fun v1_0 k0_hw2 k0_t3 k0_h7 => k0_hw2.2.2.1.2.2.2.2.2.2.2.2.2.2.2.2.2.2.2.1 k0_t3 k0_h7
theorem k0_off128_wordsfp8e4m3 : ∀ (v1_0 : BitVec 32) (k0_hw2 : k0_chk2 v1_0) (k0_t3 : Fin (k0_t3_loop v1_0).trips), ∀ (k0_h7 : k0_cond7 v1_0 k0_t3 = 1#1), (Rect.unit (s := S6x2560x512) (k0_off128 v1_0 k0_t3) S1x2560x512.size (k0_off128_inb v1_0 k0_hw2 k0_t3 k0_h7)).WholeWords (EltTy.packing .fp8e4m3) := fun v1_0 k0_hw2 k0_t3 k0_h7 => k0_hw2.2.2.1.2.2.2.2.2.2.2.2.2.2.2.2.2.2.2.2.1 k0_t3 k0_h7 (k0_off128_inb v1_0 k0_hw2 k0_t3 k0_h7)
theorem k0_off130_inb : ∀ (v1_0 : BitVec 32) (k0_hw2 : k0_chk2 v1_0) (k0_t3 : Fin (k0_t3_loop v1_0).trips), ∀ (k0_h7 : k0_cond7 v1_0 k0_t3 = 1#1), ∀ a, (k0_off130 v1_0 k0_t3) a + S1.size a ≤ S6.size a := fun v1_0 k0_hw2 k0_t3 k0_h7 => k0_hw2.2.2.1.2.2.2.2.2.2.2.2.2.2.2.2.2.2.2.2.2.1 k0_t3 k0_h7
theorem k0_off131_inb : ∀ (v1_0 : BitVec 32) (k0_hw2 : k0_chk2 v1_0) (k0_t3 : Fin (k0_t3_loop v1_0).trips), ∀ (k0_h7 : k0_cond7 v1_0 k0_t3 = 1#1), ∀ a, (k0_off131 v1_0 k0_t3) a + S1x160x512.size a ≤ S6x160x512.size a := fun v1_0 k0_hw2 k0_t3 k0_h7 => k0_hw2.2.2.1.2.2.2.2.2.2.2.2.2.2.2.2.2.2.2.2.2.2.1 k0_t3 k0_h7
theorem k0_off133_inb : ∀ (v1_0 : BitVec 32) (k0_hw2 : k0_chk2 v1_0) (k0_t3 : Fin (k0_t3_loop v1_0).trips), ∀ a, (k0_off133 v1_0 k0_t3) a + S1x1.size a ≤ S4x64.size a := fun v1_0 k0_hw2 k0_t3 => k0_hw2.2.2.1.2.2.2.2.2.2.2.2.2.2.2.2.2.2.2.2.2.2.2.1 k0_t3
theorem k0_mult13_dvd : ∀ (v1_0 : BitVec 32) (k0_hw2 : k0_chk2 v1_0) (k0_t3 : Fin (k0_t3_loop v1_0).trips), 512 ∣ (k0_mult13 v1_0 k0_t3).toNat := fun v1_0 k0_hw2 k0_t3 => k0_hw2.2.2.1.2.2.2.2.2.2.2.2.2.2.2.2.2.2.2.2.2.2.2.2.1 k0_t3
theorem k0_off134_inb : ∀ (v1_0 : BitVec 32) (k0_hw2 : k0_chk2 v1_0) (k0_t3 : Fin (k0_t3_loop v1_0).trips), ∀ a, (k0_off134 v1_0 k0_t3) a + S1.size a ≤ S6.size a := fun v1_0 k0_hw2 k0_t3 => k0_hw2.2.2.1.2.2.2.2.2.2.2.2.2.2.2.2.2.2.2.2.2.2.2.2.2.1 k0_t3
theorem k0_off135_inb : ∀ (v1_0 : BitVec 32) (k0_hw2 : k0_chk2 v1_0) (k0_t3 : Fin (k0_t3_loop v1_0).trips), ∀ a, (k0_off135 v1_0 k0_t3) a + S1x2560x512.size a ≤ S6x2560x512.size a := fun v1_0 k0_hw2 k0_t3 => k0_hw2.2.2.1.2.2.2.2.2.2.2.2.2.2.2.2.2.2.2.2.2.2.2.2.2.2.1 k0_t3
theorem k0_off135_wordsfp8e4m3 : ∀ (v1_0 : BitVec 32) (k0_hw2 : k0_chk2 v1_0) (k0_t3 : Fin (k0_t3_loop v1_0).trips), (Rect.unit (s := S6x2560x512) (k0_off135 v1_0 k0_t3) S1x2560x512.size (k0_off135_inb v1_0 k0_hw2 k0_t3)).WholeWords (EltTy.packing .fp8e4m3) := fun v1_0 k0_hw2 k0_t3 => k0_hw2.2.2.1.2.2.2.2.2.2.2.2.2.2.2.2.2.2.2.2.2.2.2.2.2.2.2.1 k0_t3 (k0_off135_inb v1_0 k0_hw2 k0_t3)
theorem k0_off137_inb : ∀ (v1_0 : BitVec 32) (k0_hw2 : k0_chk2 v1_0) (k0_t3 : Fin (k0_t3_loop v1_0).trips), ∀ a, (k0_off137 v1_0 k0_t3) a + S1.size a ≤ S6.size a := fun v1_0 k0_hw2 k0_t3 => k0_hw2.2.2.1.2.2.2.2.2.2.2.2.2.2.2.2.2.2.2.2.2.2.2.2.2.2.2.2.1 k0_t3
theorem k0_off138_inb : ∀ (v1_0 : BitVec 32) (k0_hw2 : k0_chk2 v1_0) (k0_t3 : Fin (k0_t3_loop v1_0).trips), ∀ a, (k0_off138 v1_0 k0_t3) a + S1x160x512.size a ≤ S6x160x512.size a := fun v1_0 k0_hw2 k0_t3 => k0_hw2.2.2.1.2.2.2.2.2.2.2.2.2.2.2.2.2.2.2.2.2.2.2.2.2.2.2.2.2.1 k0_t3
theorem k0_off141_inb : ∀ (v1_0 : BitVec 32) (k0_hw2 : k0_chk2 v1_0) (k0_t3 : Fin (k0_t3_loop v1_0).trips), ∀ a, (k0_off141 v1_0 k0_t3) a + S1x256x256.size a ≤ S6x2560x512.size a := fun v1_0 k0_hw2 k0_t3 => k0_hw2.2.2.1.2.2.2.2.2.2.2.2.2.2.2.2.2.2.2.2.2.2.2.2.2.2.2.2.2.2.1 k0_t3
theorem k0_off142_inb : ∀ (v1_0 : BitVec 32) (k0_hw2 : k0_chk2 v1_0) (k0_t3 : Fin (k0_t3_loop v1_0).trips), ∀ a, (k0_off142 v1_0 k0_t3) a + S1x16x256.size a ≤ S6x160x512.size a := fun v1_0 k0_hw2 k0_t3 => k0_hw2.2.2.1.2.2.2.2.2.2.2.2.2.2.2.2.2.2.2.2.2.2.2.2.2.2.2.2.2.2.2.1 k0_t3
theorem k0_off144_inb : ∀ (v1_0 : BitVec 32) (k0_hw2 : k0_chk2 v1_0) (k0_t3 : Fin (k0_t3_loop v1_0).trips), ∀ a, (k0_off144 v1_0 k0_t3) a + S1x256x256.size a ≤ S6x2560x512.size a := fun v1_0 k0_hw2 k0_t3 => k0_hw2.2.2.1.2.2.2.2.2.2.2.2.2.2.2.2.2.2.2.2.2.2.2.2.2.2.2.2.2.2.2.2.1 k0_t3
theorem k0_off145_inb : ∀ (v1_0 : BitVec 32) (k0_hw2 : k0_chk2 v1_0) (k0_t3 : Fin (k0_t3_loop v1_0).trips), ∀ a, (k0_off145 v1_0 k0_t3) a + S1x16x256.size a ≤ S6x160x512.size a := fun v1_0 k0_hw2 k0_t3 => k0_hw2.2.2.1.2.2.2.2.2.2.2.2.2.2.2.2.2.2.2.2.2.2.2.2.2.2.2.2.2.2.2.2.2.1 k0_t3
theorem k0_off147_inb : ∀ (v1_0 : BitVec 32) (k0_hw2 : k0_chk2 v1_0) (k0_t3 : Fin (k0_t3_loop v1_0).trips), ∀ a, (k0_off147 v1_0 k0_t3) a + S1x256x256.size a ≤ S6x2560x512.size a := fun v1_0 k0_hw2 k0_t3 => k0_hw2.2.2.1.2.2.2.2.2.2.2.2.2.2.2.2.2.2.2.2.2.2.2.2.2.2.2.2.2.2.2.2.2.2.1 k0_t3
theorem k0_off148_inb : ∀ (v1_0 : BitVec 32) (k0_hw2 : k0_chk2 v1_0) (k0_t3 : Fin (k0_t3_loop v1_0).trips), ∀ a, (k0_off148 v1_0 k0_t3) a + S1x16x256.size a ≤ S6x160x512.size a := fun v1_0 k0_hw2 k0_t3 => k0_hw2.2.2.1.2.2.2.2.2.2.2.2.2.2.2.2.2.2.2.2.2.2.2.2.2.2.2.2.2.2.2.2.2.2.2 k0_t3
theorem k0_off150_inb : ∀ (v1_0 : BitVec 32) (k0_hw2 : k0_chk2 v1_0) (k0_t3 : Fin (k0_t3_loop v1_0).trips), ∀ a, (k0_off150 v1_0 k0_t3) a + S1x256x256.size a ≤ S6x2560x512.size a := fun v1_0 k0_hw2 k0_t3 => k0_hw2.2.2.2.1.1 k0_t3
theorem k0_off151_inb : ∀ (v1_0 : BitVec 32) (k0_hw2 : k0_chk2 v1_0) (k0_t3 : Fin (k0_t3_loop v1_0).trips), ∀ a, (k0_off151 v1_0 k0_t3) a + S1x16x256.size a ≤ S6x160x512.size a := fun v1_0 k0_hw2 k0_t3 => k0_hw2.2.2.2.1.2.1 k0_t3
theorem k0_off153_inb : ∀ (v1_0 : BitVec 32) (k0_hw2 : k0_chk2 v1_0) (k0_t3 : Fin (k0_t3_loop v1_0).trips), ∀ a, (k0_off153 v1_0 k0_t3) a + S1x256x256.size a ≤ S6x2560x512.size a := fun v1_0 k0_hw2 k0_t3 => k0_hw2.2.2.2.1.2.2.1 k0_t3
theorem k0_off154_inb : ∀ (v1_0 : BitVec 32) (k0_hw2 : k0_chk2 v1_0) (k0_t3 : Fin (k0_t3_loop v1_0).trips), ∀ a, (k0_off154 v1_0 k0_t3) a + S1x16x256.size a ≤ S6x160x512.size a := fun v1_0 k0_hw2 k0_t3 => k0_hw2.2.2.2.1.2.2.2.1 k0_t3
theorem k0_off156_inb : ∀ (v1_0 : BitVec 32) (k0_hw2 : k0_chk2 v1_0) (k0_t3 : Fin (k0_t3_loop v1_0).trips), ∀ a, (k0_off156 v1_0 k0_t3) a + S1x256x256.size a ≤ S6x2560x512.size a := fun v1_0 k0_hw2 k0_t3 => k0_hw2.2.2.2.1.2.2.2.2.1 k0_t3
theorem k0_off157_inb : ∀ (v1_0 : BitVec 32) (k0_hw2 : k0_chk2 v1_0) (k0_t3 : Fin (k0_t3_loop v1_0).trips), ∀ a, (k0_off157 v1_0 k0_t3) a + S1x16x256.size a ≤ S6x160x512.size a := fun v1_0 k0_hw2 k0_t3 => k0_hw2.2.2.2.1.2.2.2.2.2.1 k0_t3
theorem k0_off159_inb : ∀ (v1_0 : BitVec 32) (k0_hw2 : k0_chk2 v1_0) (k0_t3 : Fin (k0_t3_loop v1_0).trips), ∀ a, (k0_off159 v1_0 k0_t3) a + S1x256x256.size a ≤ S6x2560x512.size a := fun v1_0 k0_hw2 k0_t3 => k0_hw2.2.2.2.1.2.2.2.2.2.2.1 k0_t3
theorem k0_off160_inb : ∀ (v1_0 : BitVec 32) (k0_hw2 : k0_chk2 v1_0) (k0_t3 : Fin (k0_t3_loop v1_0).trips), ∀ a, (k0_off160 v1_0 k0_t3) a + S1x16x256.size a ≤ S6x160x512.size a := fun v1_0 k0_hw2 k0_t3 => k0_hw2.2.2.2.1.2.2.2.2.2.2.2.1 k0_t3
theorem k0_off162_inb : ∀ (v1_0 : BitVec 32) (k0_hw2 : k0_chk2 v1_0) (k0_t3 : Fin (k0_t3_loop v1_0).trips), ∀ a, (k0_off162 v1_0 k0_t3) a + S1x256x256.size a ≤ S6x2560x512.size a := fun v1_0 k0_hw2 k0_t3 => k0_hw2.2.2.2.1.2.2.2.2.2.2.2.2.1 k0_t3
theorem k0_off163_inb : ∀ (v1_0 : BitVec 32) (k0_hw2 : k0_chk2 v1_0) (k0_t3 : Fin (k0_t3_loop v1_0).trips), ∀ a, (k0_off163 v1_0 k0_t3) a + S1x16x256.size a ≤ S6x160x512.size a := fun v1_0 k0_hw2 k0_t3 => k0_hw2.2.2.2.1.2.2.2.2.2.2.2.2.2.1 k0_t3
theorem k0_off165_inb : ∀ (v1_0 : BitVec 32) (k0_hw2 : k0_chk2 v1_0) (k0_t3 : Fin (k0_t3_loop v1_0).trips), ∀ a, (k0_off165 v1_0 k0_t3) a + S1x256x256.size a ≤ S6x2560x512.size a := fun v1_0 k0_hw2 k0_t3 => k0_hw2.2.2.2.1.2.2.2.2.2.2.2.2.2.2.1 k0_t3
theorem k0_off166_inb : ∀ (v1_0 : BitVec 32) (k0_hw2 : k0_chk2 v1_0) (k0_t3 : Fin (k0_t3_loop v1_0).trips), ∀ a, (k0_off166 v1_0 k0_t3) a + S1x16x256.size a ≤ S6x160x512.size a := fun v1_0 k0_hw2 k0_t3 => k0_hw2.2.2.2.1.2.2.2.2.2.2.2.2.2.2.2.1 k0_t3
theorem k0_off168_inb : ∀ (v1_0 : BitVec 32) (k0_hw2 : k0_chk2 v1_0) (k0_t3 : Fin (k0_t3_loop v1_0).trips), ∀ a, (k0_off168 v1_0 k0_t3) a + S1x256x256.size a ≤ S6x2560x512.size a := fun v1_0 k0_hw2 k0_t3 => k0_hw2.2.2.2.1.2.2.2.2.2.2.2.2.2.2.2.2.1 k0_t3
theorem k0_off169_inb : ∀ (v1_0 : BitVec 32) (k0_hw2 : k0_chk2 v1_0) (k0_t3 : Fin (k0_t3_loop v1_0).trips), ∀ a, (k0_off169 v1_0 k0_t3) a + S1x16x256.size a ≤ S6x160x512.size a := fun v1_0 k0_hw2 k0_t3 => k0_hw2.2.2.2.1.2.2.2.2.2.2.2.2.2.2.2.2.2.1 k0_t3
theorem k0_mult14_dvd : ∀ (v1_0 : BitVec 32) (k0_hw2 : k0_chk2 v1_0) (k0_t3 : Fin (k0_t3_loop v1_0).trips), 256 ∣ (k0_mult14 v1_0 k0_t3).toNat := fun v1_0 k0_hw2 k0_t3 => k0_hw2.2.2.2.1.2.2.2.2.2.2.2.2.2.2.2.2.2.2.1 k0_t3
theorem k0_off173_inb : ∀ (v1_0 : BitVec 32) (k0_hw2 : k0_chk2 v1_0) (k0_t3 : Fin (k0_t3_loop v1_0).trips), ∀ a, (k0_off173 v1_0 k0_t3) a + S1x256x256.size a ≤ S6x2560x512.size a := fun v1_0 k0_hw2 k0_t3 => k0_hw2.2.2.2.1.2.2.2.2.2.2.2.2.2.2.2.2.2.2.2.1 k0_t3
theorem k0_off174_inb : ∀ (v1_0 : BitVec 32) (k0_hw2 : k0_chk2 v1_0) (k0_t3 : Fin (k0_t3_loop v1_0).trips), ∀ a, (k0_off174 v1_0 k0_t3) a + S1x16x256.size a ≤ S6x160x512.size a := fun v1_0 k0_hw2 k0_t3 => k0_hw2.2.2.2.1.2.2.2.2.2.2.2.2.2.2.2.2.2.2.2.2.1 k0_t3
theorem k0_off176_inb : ∀ (v1_0 : BitVec 32) (k0_hw2 : k0_chk2 v1_0) (k0_t3 : Fin (k0_t3_loop v1_0).trips), ∀ a, (k0_off176 v1_0 k0_t3) a + S1x256x256.size a ≤ S6x2560x512.size a := fun v1_0 k0_hw2 k0_t3 => k0_hw2.2.2.2.1.2.2.2.2.2.2.2.2.2.2.2.2.2.2.2.2.2.1 k0_t3
theorem k0_off177_inb : ∀ (v1_0 : BitVec 32) (k0_hw2 : k0_chk2 v1_0) (k0_t3 : Fin (k0_t3_loop v1_0).trips), ∀ a, (k0_off177 v1_0 k0_t3) a + S1x16x256.size a ≤ S6x160x512.size a := fun v1_0 k0_hw2 k0_t3 => k0_hw2.2.2.2.1.2.2.2.2.2.2.2.2.2.2.2.2.2.2.2.2.2.2.1 k0_t3
theorem k0_off179_inb : ∀ (v1_0 : BitVec 32) (k0_hw2 : k0_chk2 v1_0) (k0_t3 : Fin (k0_t3_loop v1_0).trips), ∀ a, (k0_off179 v1_0 k0_t3) a + S1x256x256.size a ≤ S6x2560x512.size a := fun v1_0 k0_hw2 k0_t3 => k0_hw2.2.2.2.1.2.2.2.2.2.2.2.2.2.2.2.2.2.2.2.2.2.2.2.1 k0_t3
theorem k0_off180_inb : ∀ (v1_0 : BitVec 32) (k0_hw2 : k0_chk2 v1_0) (k0_t3 : Fin (k0_t3_loop v1_0).trips), ∀ a, (k0_off180 v1_0 k0_t3) a + S1x16x256.size a ≤ S6x160x512.size a := fun v1_0 k0_hw2 k0_t3 => k0_hw2.2.2.2.1.2.2.2.2.2.2.2.2.2.2.2.2.2.2.2.2.2.2.2.2.1 k0_t3
theorem k0_off182_inb : ∀ (v1_0 : BitVec 32) (k0_hw2 : k0_chk2 v1_0) (k0_t3 : Fin (k0_t3_loop v1_0).trips), ∀ a, (k0_off182 v1_0 k0_t3) a + S1x256x256.size a ≤ S6x2560x512.size a := fun v1_0 k0_hw2 k0_t3 => k0_hw2.2.2.2.1.2.2.2.2.2.2.2.2.2.2.2.2.2.2.2.2.2.2.2.2.2.1 k0_t3
theorem k0_off183_inb : ∀ (v1_0 : BitVec 32) (k0_hw2 : k0_chk2 v1_0) (k0_t3 : Fin (k0_t3_loop v1_0).trips), ∀ a, (k0_off183 v1_0 k0_t3) a + S1x16x256.size a ≤ S6x160x512.size a := fun v1_0 k0_hw2 k0_t3 => k0_hw2.2.2.2.1.2.2.2.2.2.2.2.2.2.2.2.2.2.2.2.2.2.2.2.2.2.2.1 k0_t3
theorem k0_off185_inb : ∀ (v1_0 : BitVec 32) (k0_hw2 : k0_chk2 v1_0) (k0_t3 : Fin (k0_t3_loop v1_0).trips), ∀ a, (k0_off185 v1_0 k0_t3) a + S1x256x256.size a ≤ S6x2560x512.size a := fun v1_0 k0_hw2 k0_t3 => k0_hw2.2.2.2.1.2.2.2.2.2.2.2.2.2.2.2.2.2.2.2.2.2.2.2.2.2.2.2.1 k0_t3
theorem k0_off186_inb : ∀ (v1_0 : BitVec 32) (k0_hw2 : k0_chk2 v1_0) (k0_t3 : Fin (k0_t3_loop v1_0).trips), ∀ a, (k0_off186 v1_0 k0_t3) a + S1x16x256.size a ≤ S6x160x512.size a := fun v1_0 k0_hw2 k0_t3 => k0_hw2.2.2.2.1.2.2.2.2.2.2.2.2.2.2.2.2.2.2.2.2.2.2.2.2.2.2.2.2.1 k0_t3
theorem k0_off188_inb : ∀ (v1_0 : BitVec 32) (k0_hw2 : k0_chk2 v1_0) (k0_t3 : Fin (k0_t3_loop v1_0).trips), ∀ a, (k0_off188 v1_0 k0_t3) a + S1x256x256.size a ≤ S6x2560x512.size a := fun v1_0 k0_hw2 k0_t3 => k0_hw2.2.2.2.1.2.2.2.2.2.2.2.2.2.2.2.2.2.2.2.2.2.2.2.2.2.2.2.2.2.1 k0_t3
theorem k0_off189_inb : ∀ (v1_0 : BitVec 32) (k0_hw2 : k0_chk2 v1_0) (k0_t3 : Fin (k0_t3_loop v1_0).trips), ∀ a, (k0_off189 v1_0 k0_t3) a + S1x16x256.size a ≤ S6x160x512.size a := fun v1_0 k0_hw2 k0_t3 => k0_hw2.2.2.2.1.2.2.2.2.2.2.2.2.2.2.2.2.2.2.2.2.2.2.2.2.2.2.2.2.2.2.1 k0_t3
theorem k0_off191_inb : ∀ (v1_0 : BitVec 32) (k0_hw2 : k0_chk2 v1_0) (k0_t3 : Fin (k0_t3_loop v1_0).trips), ∀ a, (k0_off191 v1_0 k0_t3) a + S1x256x256.size a ≤ S6x2560x512.size a := fun v1_0 k0_hw2 k0_t3 => k0_hw2.2.2.2.1.2.2.2.2.2.2.2.2.2.2.2.2.2.2.2.2.2.2.2.2.2.2.2.2.2.2.2.1 k0_t3
theorem k0_off192_inb : ∀ (v1_0 : BitVec 32) (k0_hw2 : k0_chk2 v1_0) (k0_t3 : Fin (k0_t3_loop v1_0).trips), ∀ a, (k0_off192 v1_0 k0_t3) a + S1x16x256.size a ≤ S6x160x512.size a := fun v1_0 k0_hw2 k0_t3 => k0_hw2.2.2.2.1.2.2.2.2.2.2.2.2.2.2.2.2.2.2.2.2.2.2.2.2.2.2.2.2.2.2.2.2.1 k0_t3
theorem k0_off194_inb : ∀ (v1_0 : BitVec 32) (k0_hw2 : k0_chk2 v1_0) (k0_t3 : Fin (k0_t3_loop v1_0).trips), ∀ a, (k0_off194 v1_0 k0_t3) a + S1x256x256.size a ≤ S6x2560x512.size a := fun v1_0 k0_hw2 k0_t3 => k0_hw2.2.2.2.1.2.2.2.2.2.2.2.2.2.2.2.2.2.2.2.2.2.2.2.2.2.2.2.2.2.2.2.2.2.1 k0_t3
theorem k0_off195_inb : ∀ (v1_0 : BitVec 32) (k0_hw2 : k0_chk2 v1_0) (k0_t3 : Fin (k0_t3_loop v1_0).trips), ∀ a, (k0_off195 v1_0 k0_t3) a + S1x16x256.size a ≤ S6x160x512.size a := fun v1_0 k0_hw2 k0_t3 => k0_hw2.2.2.2.1.2.2.2.2.2.2.2.2.2.2.2.2.2.2.2.2.2.2.2.2.2.2.2.2.2.2.2.2.2.2.1 k0_t3
theorem k0_off197_inb : ∀ (v1_0 : BitVec 32) (k0_hw2 : k0_chk2 v1_0) (k0_t3 : Fin (k0_t3_loop v1_0).trips), ∀ a, (k0_off197 v1_0 k0_t3) a + S1x256x256.size a ≤ S6x2560x512.size a := fun v1_0 k0_hw2 k0_t3 => k0_hw2.2.2.2.1.2.2.2.2.2.2.2.2.2.2.2.2.2.2.2.2.2.2.2.2.2.2.2.2.2.2.2.2.2.2.2 k0_t3
theorem k0_off198_inb : ∀ (v1_0 : BitVec 32) (k0_hw2 : k0_chk2 v1_0) (k0_t3 : Fin (k0_t3_loop v1_0).trips), ∀ a, (k0_off198 v1_0 k0_t3) a + S1x16x256.size a ≤ S6x160x512.size a := fun v1_0 k0_hw2 k0_t3 => k0_hw2.2.2.2.2.1 k0_t3
theorem k0_off200_inb : ∀ (v1_0 : BitVec 32) (k0_hw2 : k0_chk2 v1_0) (k0_t3 : Fin (k0_t3_loop v1_0).trips), ∀ a, (k0_off200 v1_0 k0_t3) a + S1x256x256.size a ≤ S6x2560x512.size a := fun v1_0 k0_hw2 k0_t3 => k0_hw2.2.2.2.2.2.1 k0_t3
theorem k0_off201_inb : ∀ (v1_0 : BitVec 32) (k0_hw2 : k0_chk2 v1_0) (k0_t3 : Fin (k0_t3_loop v1_0).trips), ∀ a, (k0_off201 v1_0 k0_t3) a + S1x16x256.size a ≤ S6x160x512.size a := fun v1_0 k0_hw2 k0_t3 => k0_hw2.2.2.2.2.2.2.1 k0_t3
theorem k0_mult15_dvd : ∀ (v1_0 : BitVec 32) (k0_hw2 : k0_chk2 v1_0) (k0_t3 : Fin (k0_t3_loop v1_0).trips), 256 ∣ (k0_mult15 v1_0 k0_t3).toNat := fun v1_0 k0_hw2 k0_t3 => k0_hw2.2.2.2.2.2.2.2 k0_t3

abbrev stage0_0 : Fin 1 → Memref sig .tc .smem S21 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S21x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x5120 : Shape := ⟨2, ![256, 5120]⟩
abbrev S256 : Shape := ⟨1, ![256]⟩
abbrev S21 : Shape := ⟨1, ![21]⟩
abbrev S21x2560x3072 : Shape := ⟨3, ![21, 2560, 3072]⟩
abbrev S21x160x3072 : Shape := ⟨3, ![21, 160, 3072]⟩
abbrev S21x3072 : Shape := ⟨2, ![21, 3072]⟩
abbrev S1x21 : Shape := ⟨2, ![1, 21]⟩
abbrev S21x1 : Shape := ⟨2, ![21, 1]⟩
abbrev S21x21 : Shape := ⟨2, ![21, 21]⟩
abbrev S_ : Shape := ⟨0, ![]⟩
abbrev S256x1 : Shape := ⟨2, ![256, 1]⟩
abbrev S21x1x1 : Shape := ⟨3, ![21, 1, 1]⟩
abbrev S21x1x3072 : Shape := ⟨3, ![21, 1, 3072]⟩
abbrev S256x3072 : Shape := ⟨2, ![256, 3072]⟩
abbrev S1x1x16x1 : Shape := ⟨4, ![1, 1, 16, 1]⟩
abbrev S21x160x1x3072 : Shape := ⟨4, ![21, 160, 1, 3072]⟩
abbrev S21x160x16x3072 : Shape := ⟨4, ![21, 160, 16, 3072]⟩
abbrev S21x1280x2x3072 : Shape := ⟨4, ![21, 1280, 2, 3072]⟩
abbrev S21x1280x1x3072 : Shape := ⟨4, ![21, 1280, 1, 3072]⟩
abbrev S1x1x4x1 : Shape := ⟨4, ![1, 1, 4, 1]⟩
abbrev S21x1280x4x3072 : Shape := ⟨4, ![21, 1280, 4, 3072]⟩
abbrev S21x5120x3072 : Shape := ⟨3, ![21, 5120, 3072]⟩
abbrev S1x256x5120 : Shape := ⟨3, ![1, 256, 5120]⟩
abbrev S21x256x5120 : Shape := ⟨3, ![21, 256, 5120]⟩
abbrev S21x256x3072 : Shape := ⟨3, ![21, 256, 3072]⟩
abbrev S1x256x1 : Shape := ⟨3, ![1, 256, 1]⟩
abbrev S21x256x1 : Shape := ⟨3, ![21, 256, 1]⟩

abbrev nBuf : Space → Nat
  | .hbm => 26
  | .vmem => 8
  | .smem => 0
  | _ => 0

abbrev bufTy : (tb : Table) → Fin (tcTables nBuf tb) → BufTy
  | .hbm, ⟨0, _⟩ => ⟨S256x5120, .fp8e4m3⟩
  | .hbm, ⟨1, _⟩ => ⟨S256, .f32⟩
  | .hbm, ⟨2, _⟩ => ⟨S21, .i32⟩
  | .hbm, ⟨3, _⟩ => ⟨S21x2560x3072, .fp8e4m3⟩
  | .hbm, ⟨4, _⟩ => ⟨S21x160x3072, .i32⟩
  | .hbm, ⟨5, _⟩ => ⟨S21x3072, .f32⟩
  | .hbm, ⟨6, _⟩ => ⟨S21, .i32⟩
  | .hbm, ⟨7, _⟩ => ⟨S1x21, .i32⟩
  | .hbm, ⟨8, _⟩ => ⟨S21x1, .i32⟩
  | .hbm, ⟨9, _⟩ => ⟨S21x21, .i32⟩
  | .hbm, ⟨10, _⟩ => ⟨S21x21, .i32⟩
  | .hbm, ⟨11, _⟩ => ⟨S21x21, .i1⟩
  | .hbm, ⟨12, _⟩ => ⟨S1x21, .i32⟩
  | .hbm, ⟨13, _⟩ => ⟨S_, .i32⟩
  | .hbm, ⟨14, _⟩ => ⟨S_, .i32⟩
  | .hbm, ⟨15, _⟩ => ⟨S21x21, .i32⟩
  | .hbm, ⟨16, _⟩ => ⟨S21x21, .i32⟩
  | .hbm, ⟨17, _⟩ => ⟨S21x21, .i32⟩
  | .hbm, ⟨18, _⟩ => ⟨S_, .i32⟩
  | .hbm, ⟨19, _⟩ => ⟨S21, .i32⟩
  | .hbm, ⟨20, _⟩ => ⟨S21, .i32⟩
  | .hbm, ⟨21, _⟩ => ⟨S256x1, .f32⟩
  | .hbm, ⟨22, _⟩ => ⟨S21x1x1, .i32⟩
  | .hbm, ⟨23, _⟩ => ⟨S21x1x1, .i32⟩
  | .hbm, ⟨24, _⟩ => ⟨S21x1x3072, .f32⟩
  | .hbm, ⟨25, _⟩ => ⟨S256x3072, .bf16⟩
  | .local _ .vmem, ⟨0, _⟩ => ⟨S256x5120, .fp8e4m3⟩
  | .local _ .vmem, ⟨1, _⟩ => ⟨S256x1, .f32⟩
  | .local _ .vmem, ⟨2, _⟩ => ⟨S21x1x1, .i32⟩
  | .local _ .vmem, ⟨3, _⟩ => ⟨S21x1x1, .i32⟩
  | .local _ .vmem, ⟨4, _⟩ => ⟨S21x2560x3072, .fp8e4m3⟩
  | .local _ .vmem, ⟨5, _⟩ => ⟨S21x160x3072, .i32⟩
  | .local _ .vmem, ⟨6, _⟩ => ⟨S21x1x3072, .f32⟩
  | .local _ .vmem, ⟨7, _⟩ => ⟨S256x3072, .bf16⟩
  | _, _ => ⟨S256x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S256x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S21x1x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S21x1x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S21x2560x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S21x160x3072 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S21x1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Words0.lean ====
/-
  Arithmetic of 32-bit index words that are small naturals: each operation of the kernel's index code on words of naturals is
  the word of the natural operation, while the results stay far below 2^31.
-/
module

public import Idealize.ShloMosaic.Lib.Routing.Words
public import Idealize.ShloMosaic.Lib.Scf

@[expose] public section

namespace Cert.Hand

open Idealize.ShloMosaic

/-- The word of a natural. -/
abbrev wd (n : ℕ) : BitVec 32 := BitVec.ofNat 32 n

theorem toNat_wd {n : ℕ} (h : n < 4294967296) : (wd n).toNat = n := by
  simp only [BitVec.toNat_ofNat]; omega

/-- A counted loop's variable from 0 by 1 is the word of the trip's number. -/
theorem ivw (k : ℕ) : Scf.iv 0#32 1#32 k = wd k := by
  rw [Scf.iv_eq_ofInt]; simp [BitVec.ofInt_natCast]

theorem divw {a b : ℕ} (ha : a < 2147483648) (h0 : 0 < b) (hb : b < 2147483648) :
    Scalar.divsi (wd a) (wd b) = wd (a / b) := Routing.divsi_word _ ha h0 hb

theorem remw {a b : ℕ} (ha : a < 2147483648) (h0 : 0 < b) (hb : b < 2147483648) :
    Scalar.remsi (wd a) (wd b) = wd (a % b) := Routing.remsi_word _ ha h0 hb

theorem addw (a b : ℕ) : Scalar.addi (wd a) (wd b) = wd (a + b) := (BitVec.ofNat_add ..).symm

theorem mulw (a b : ℕ) : Scalar.muli (wd a) (wd b) = wd (a * b) := (BitVec.ofNat_mul ..).symm

theorem subw {a b : ℕ} (h : b ≤ a) (ha : a < 4294967296) : Scalar.subi (wd a) (wd b) = wd (a - b) := by
  apply BitVec.eq_of_toNat_eq
  show ((wd a) - (wd b)).toNat = _
  rw [BitVec.toNat_sub, toNat_wd ha, toNat_wd (by omega), toNat_wd (by omega)]; omega

/-- The item of step `a` of a slab-major walk over `n` items: what the kernel computes as `a - a / n * n`. -/
theorem itemw {a n : ℕ} (ha : a < 2147483648) (h0 : 0 < n) (hn : n < 2147483648) :
    Scalar.subi (wd a) (Scalar.muli (Scalar.divsi (wd a) (wd n)) (wd n)) = wd (a % n) := by
  rw [divw ha h0 hn, mulw, subw (Nat.div_mul_le_self a n) (by omega)]
  congr 1; have := Nat.div_add_mod a n; rw [Nat.mul_comm] at this; omega

theorem toInt_wd {n : ℕ} (h : n < 2147483648) : (wd n).toInt = n := by
  rw [BitVec.toInt_eq_toNat_of_lt (by rw [toNat_wd (by omega)]; omega), toNat_wd (by omega)]

/-- The bit of a signed comparison, widened and tested against zero, is the comparison's bit. -/
theorem ne_extui (b : BitVec 1) : Scalar.cmpi .ne (Scalar.extui b : BitVec 32) 0#32 = b := by
  revert b; decide

theorem sltw {a b : ℕ} (ha : a < 2147483648) (hb : b < 2147483648) : Scalar.cmpi .slt (wd a) (wd b) = 1#1 ↔ a < b := by
  simp only [Scalar.cmpi, IntOp.cmpi, BitVec.slt, toInt_wd ha, toInt_wd hb, Nat.cast_lt]
  by_cases h : a < b <;> simp [h]

theorem sgtw {a b : ℕ} (ha : a < 2147483648) (hb : b < 2147483648) : Scalar.cmpi .sgt (wd a) (wd b) = 1#1 ↔ b < a := by
  simp only [Scalar.cmpi, IntOp.cmpi, BitVec.slt, toInt_wd ha, toInt_wd hb, Nat.cast_lt]
  by_cases h : b < a <;> simp [h]

theorem minw {a b : ℕ} (ha : a < 2147483648) (hb : b < 2147483648) : Scalar.minsi (wd a) (wd b) = wd (min a b) := by
  unfold Scalar.minsi
  simp only [BitVec.slt, BitVec.sle, toInt_wd ha, toInt_wd hb, IntOp.minsi]
  rcases Nat.lt_or_ge a b with h | h
  · rw [Nat.min_eq_left (by omega)]; simp; omega
  · rw [Nat.min_eq_right h]; simp; intro h'; congr 1; omega

theorem maxw {a b : ℕ} (ha : a < 2147483648) (hb : b < 2147483648) : Scalar.maxsi (wd a) (wd b) = wd (max a b) := by
  unfold Scalar.maxsi
  simp only [BitVec.slt, BitVec.sle, toInt_wd ha, toInt_wd hb, IntOp.maxsi]
  rcases Nat.lt_or_ge a b with h | h
  · rw [Nat.max_eq_right (by omega)]; simp; omega
  · rw [Nat.max_eq_left h]; simp; intro h'; congr 1; omega

/-- Masking off the five low bits rounds down to a multiple of 32. -/
theorem and32w {a : ℕ} (ha : a < 512) : Scalar.andi (wd a) 4294967264#32 = wd (a / 32 * 32) := by
  have : ∀ a : Fin 512, Scalar.andi (wd a.val) 4294967264#32 = wd (a.val / 32 * 32) := by decide +kernel
  exact this ⟨a, ha⟩

end Cert.Hand

end
-- ==== Proof.Words.lean ====
/-
  The kernel's index words in closed form. With `nw` entries in the work list (at most 64), step `t` of the main loop (`t < 6 nw`)
  treats entry `t % nw` of the list in column slab `t / nw`, out of ring slot `t % 6`; each theorem says so of one offset
  vector that the kernel computes.
-/
module

public import proofs.«01_k».proof.Proof.Words0
public import proofs.«01_k».proof.Proof.Gen.Kernel

@[expose] public section

namespace Cert.Kernel.Hand

open Cert.Kernel Cert.Kernel.Gen Cert.Hand
open Idealize.ShloMosaic

theorem t2_trips {nw : ℕ} (hn : nw ≤ 64) : (k0_t2_loop (wd nw)).trips = 6 * nw := by
  have : ∀ n : Fin 65, (k0_t2_loop (wd n.val)).trips = 6 * n.val := by decide +kernel
  exact this ⟨nw, by omega⟩

theorem t2_ok {nw : ℕ} (hn : nw ≤ 64) : (k0_t2_loop (wd nw)).OK := by
  have : ∀ n : Fin 65, (k0_t2_loop (wd n.val)).OK := by decide +kernel
  exact this ⟨nw, by omega⟩

theorem t3_trips {nw : ℕ} (hn : nw ≤ 64) : (k0_t3_loop (wd nw)).trips = 0 := by
  have : ∀ n : Fin 65, (k0_t3_loop (wd n.val)).trips = 0 := by decide +kernel
  exact this ⟨nw, by omega⟩

theorem t3_ok {nw : ℕ} (hn : nw ≤ 64) : (k0_t3_loop (wd nw)).OK := by
  have : ∀ n : Fin 65, (k0_t3_loop (wd n.val)).OK := by decide +kernel
  exact this ⟨nw, by omega⟩

/-- A step of the main loop lies below `6 nw`, -/
theorem k_lt {nw : ℕ} (hn : nw ≤ 64) (k : Fin (k0_t2_loop (wd nw)).trips) : k.val < 6 * nw :=
  lt_of_lt_of_eq k.isLt (t2_trips hn)

/-- and there is none when the list is empty. -/
theorem nw_pos {nw : ℕ} (hn : nw ≤ 64) (k : Fin (k0_t2_loop (wd nw)).trips) : 0 < nw := by
  have := k_lt hn k; omega

theorem no_t3 {nw : ℕ} (hn : nw ≤ 64) (k : Fin (k0_t3_loop (wd nw)).trips) : False := by
  have := lt_of_lt_of_eq k.isLt (t3_trips hn); omega

/-- The step five ahead, as the kernel computes it. -/
theorem sub5 (k : ℕ) : Scalar.subi (wd (k + 6)) 1#32 = wd (k + 5) := by
  show Scalar.subi (wd (k + 6)) (wd 1) = wd (k + 5)
  rw [show k + 6 = (k + 5) + 1 from rfl, ← addw (k + 5) 1]; simp [Scalar.subi, Scalar.addi, IntOp.subi, IntOp.addi]

/-- The remainder, as the kernel computes it from the quotient. -/
theorem itemq {k n : ℕ} (hk : k < 4294967296) : Scalar.subi (wd k) (wd (k / n * n)) = wd (k % n) := by
  have h1 : k / n * n + k % n = k := Nat.div_add_mod' k n
  have : Scalar.subi (wd (k / n * n + k % n)) (wd (k / n * n)) = wd (k % n) := by
    rw [← addw]; simp [Scalar.subi, Scalar.addi, IntOp.subi, IntOp.addi]
  rwa [h1] at this

theorem itemq0 {n : ℕ} : Scalar.subi 0#32 (wd (0 / n * n)) = wd (0 % n) := itemq (by omega)

theorem itemq1 {n : ℕ} : Scalar.subi 1#32 (wd (1 / n * n)) = wd (1 % n) := itemq (by omega)

theorem itemq2 {n : ℕ} : Scalar.subi 2#32 (wd (2 / n * n)) = wd (2 % n) := itemq (by omega)

theorem itemq3 {n : ℕ} : Scalar.subi 3#32 (wd (3 / n * n)) = wd (3 % n) := itemq (by omega)

theorem itemq4 {n : ℕ} : Scalar.subi 4#32 (wd (4 / n * n)) = wd (4 % n) := itemq (by omega)

/-- The main loop starts a copy at step `k` exactly when step `k + 5` exists. -/
theorem cond6_iff {nw : ℕ} (hn : nw ≤ 64) (k : Fin (k0_t2_loop (wd nw)).trips) : k0_cond6 (wd nw) k = 1#1 ↔ k.val + 5 < 6 * nw := by
  have hk := k_lt hn k
  simp only [k0_cond6, ivw, addw, sub5, mulw, ne_extui]
  rw [sltw (by omega) (by omega)]; omega

theorem cond1_iff {nw : ℕ} (hn : nw ≤ 64) : k0_cond1 (wd nw) = 1#1 ↔ 0 < 6 * nw := by
  simp only [k0_cond1, mulw, ne_extui]
  rw [show (0#32 : BitVec 32) = wd 0 from rfl, sgtw (by omega) (by omega)]; omega

theorem cond2_iff {nw : ℕ} (hn : nw ≤ 64) : k0_cond2 (wd nw) = 1#1 ↔ 1 < 6 * nw := by
  simp only [k0_cond2, mulw, ne_extui]
  rw [show (1#32 : BitVec 32) = wd 1 from rfl, sgtw (by omega) (by omega)]; omega

theorem cond3_iff {nw : ℕ} (hn : nw ≤ 64) : k0_cond3 (wd nw) = 1#1 ↔ 2 < 6 * nw := by
  simp only [k0_cond3, mulw, ne_extui]
  rw [show (2#32 : BitVec 32) = wd 2 from rfl, sgtw (by omega) (by omega)]; omega

theorem cond4_iff {nw : ℕ} (hn : nw ≤ 64) : k0_cond4 (wd nw) = 1#1 ↔ 3 < 6 * nw := by
  simp only [k0_cond4, mulw, ne_extui]
  rw [show (3#32 : BitVec 32) = wd 3 from rfl, sgtw (by omega) (by omega)]; omega

theorem cond5_iff {nw : ℕ} (hn : nw ≤ 64) : k0_cond5 (wd nw) = 1#1 ↔ 4 < 6 * nw := by
  simp only [k0_cond5, mulw, ne_extui]
  rw [show (4#32 : BitVec 32) = wd 4 from rfl, sgtw (by omega) (by omega)]; omega

theorem off6_eq {nw : ℕ} (h0 : 0 < nw) (hn : nw ≤ 64) : k0_off6 (wd nw) = ![0, 0 % nw] := by
  have hd : 0 / nw ≤ 0 := Nat.div_le_self _ _
  have hm : 0 % nw < nw := Nat.mod_lt _ h0
  simp (disch := omega) only [k0_off6, itemq0, itemq1, itemq2, itemq3, itemq4, Scalar.indexCast, ivw, addw, sub5, itemq, divw, remw, mulw, toNat_wd]

theorem off9_eq {nw : ℕ} (h0 : 0 < nw) (hn : nw ≤ 64) (w : BitVec 32) : k0_off9 (wd nw) w = ![w.toNat, 0, 0 / nw * 512] := by
  have hd : 0 / nw ≤ 0 := Nat.div_le_self _ _
  have hm : 0 % nw < nw := Nat.mod_lt _ h0
  simp (disch := omega) only [k0_off9, Scalar.indexCast, ivw, addw, sub5, itemq, divw, remw, mulw, toNat_wd]

theorem off12_eq {nw : ℕ} (h0 : 0 < nw) (hn : nw ≤ 64) (w : BitVec 32) : k0_off12 (wd nw) w = ![w.toNat, 0, 0 / nw * 512] := by
  have hd : 0 / nw ≤ 0 := Nat.div_le_self _ _
  have hm : 0 % nw < nw := Nat.mod_lt _ h0
  simp (disch := omega) only [k0_off12, Scalar.indexCast, ivw, addw, sub5, itemq, divw, remw, mulw, toNat_wd]

theorem off13_eq {nw : ℕ} (h0 : 0 < nw) (hn : nw ≤ 64) : k0_off13 (wd nw) = ![0, 1 % nw] := by
  have hd : 1 / nw ≤ 1 := Nat.div_le_self _ _
  have hm : 1 % nw < nw := Nat.mod_lt _ h0
  simp (disch := omega) only [k0_off13, itemq0, itemq1, itemq2, itemq3, itemq4, Scalar.indexCast, ivw, addw, sub5, itemq, divw, remw, mulw, toNat_wd]

theorem off16_eq {nw : ℕ} (h0 : 0 < nw) (hn : nw ≤ 64) (w : BitVec 32) : k0_off16 (wd nw) w = ![w.toNat, 0, 1 / nw * 512] := by
  have hd : 1 / nw ≤ 1 := Nat.div_le_self _ _
  have hm : 1 % nw < nw := Nat.mod_lt _ h0
  simp (disch := omega) only [k0_off16, Scalar.indexCast, ivw, addw, sub5, itemq, divw, remw, mulw, toNat_wd]

theorem off19_eq {nw : ℕ} (h0 : 0 < nw) (hn : nw ≤ 64) (w : BitVec 32) : k0_off19 (wd nw) w = ![w.toNat, 0, 1 / nw * 512] := by
  have hd : 1 / nw ≤ 1 := Nat.div_le_self _ _
  have hm : 1 % nw < nw := Nat.mod_lt _ h0
  simp (disch := omega) only [k0_off19, Scalar.indexCast, ivw, addw, sub5, itemq, divw, remw, mulw, toNat_wd]

theorem off20_eq {nw : ℕ} (h0 : 0 < nw) (hn : nw ≤ 64) : k0_off20 (wd nw) = ![0, 2 % nw] := by
  have hd : 2 / nw ≤ 2 := Nat.div_le_self _ _
  have hm : 2 % nw < nw := Nat.mod_lt _ h0
  simp (disch := omega) only [k0_off20, itemq0, itemq1, itemq2, itemq3, itemq4, Scalar.indexCast, ivw, addw, sub5, itemq, divw, remw, mulw, toNat_wd]

theorem off23_eq {nw : ℕ} (h0 : 0 < nw) (hn : nw ≤ 64) (w : BitVec 32) : k0_off23 (wd nw) w = ![w.toNat, 0, 2 / nw * 512] := by
  have hd : 2 / nw ≤ 2 := Nat.div_le_self _ _
  have hm : 2 % nw < nw := Nat.mod_lt _ h0
  simp (disch := omega) only [k0_off23, Scalar.indexCast, ivw, addw, sub5, itemq, divw, remw, mulw, toNat_wd]

theorem off26_eq {nw : ℕ} (h0 : 0 < nw) (hn : nw ≤ 64) (w : BitVec 32) : k0_off26 (wd nw) w = ![w.toNat, 0, 2 / nw * 512] := by
  have hd : 2 / nw ≤ 2 := Nat.div_le_self _ _
  have hm : 2 % nw < nw := Nat.mod_lt _ h0
  simp (disch := omega) only [k0_off26, Scalar.indexCast, ivw, addw, sub5, itemq, divw, remw, mulw, toNat_wd]

theorem off27_eq {nw : ℕ} (h0 : 0 < nw) (hn : nw ≤ 64) : k0_off27 (wd nw) = ![0, 3 % nw] := by
  have hd : 3 / nw ≤ 3 := Nat.div_le_self _ _
  have hm : 3 % nw < nw := Nat.mod_lt _ h0
  simp (disch := omega) only [k0_off27, itemq0, itemq1, itemq2, itemq3, itemq4, Scalar.indexCast, ivw, addw, sub5, itemq, divw, remw, mulw, toNat_wd]

theorem off30_eq {nw : ℕ} (h0 : 0 < nw) (hn : nw ≤ 64) (w : BitVec 32) : k0_off30 (wd nw) w = ![w.toNat, 0, 3 / nw * 512] := by
  have hd : 3 / nw ≤ 3 := Nat.div_le_self _ _
  have hm : 3 % nw < nw := Nat.mod_lt _ h0
  simp (disch := omega) only [k0_off30, Scalar.indexCast, ivw, addw, sub5, itemq, divw, remw, mulw, toNat_wd]

theorem off33_eq {nw : ℕ} (h0 : 0 < nw) (hn : nw ≤ 64) (w : BitVec 32) : k0_off33 (wd nw) w = ![w.toNat, 0, 3 / nw * 512] := by
  have hd : 3 / nw ≤ 3 := Nat.div_le_self _ _
  have hm : 3 % nw < nw := Nat.mod_lt _ h0
  simp (disch := omega) only [k0_off33, Scalar.indexCast, ivw, addw, sub5, itemq, divw, remw, mulw, toNat_wd]

theorem off34_eq {nw : ℕ} (h0 : 0 < nw) (hn : nw ≤ 64) : k0_off34 (wd nw) = ![0, 4 % nw] := by
  have hd : 4 / nw ≤ 4 := Nat.div_le_self _ _
  have hm : 4 % nw < nw := Nat.mod_lt _ h0
  simp (disch := omega) only [k0_off34, itemq0, itemq1, itemq2, itemq3, itemq4, Scalar.indexCast, ivw, addw, sub5, itemq, divw, remw, mulw, toNat_wd]

theorem off37_eq {nw : ℕ} (h0 : 0 < nw) (hn : nw ≤ 64) (w : BitVec 32) : k0_off37 (wd nw) w = ![w.toNat, 0, 4 / nw * 512] := by
  have hd : 4 / nw ≤ 4 := Nat.div_le_self _ _
  have hm : 4 % nw < nw := Nat.mod_lt _ h0
  simp (disch := omega) only [k0_off37, Scalar.indexCast, ivw, addw, sub5, itemq, divw, remw, mulw, toNat_wd]

theorem off40_eq {nw : ℕ} (h0 : 0 < nw) (hn : nw ≤ 64) (w : BitVec 32) : k0_off40 (wd nw) w = ![w.toNat, 0, 4 / nw * 512] := by
  have hd : 4 / nw ≤ 4 := Nat.div_le_self _ _
  have hm : 4 % nw < nw := Nat.mod_lt _ h0
  simp (disch := omega) only [k0_off40, Scalar.indexCast, ivw, addw, sub5, itemq, divw, remw, mulw, toNat_wd]

theorem off41_eq {nw : ℕ} (hn : nw ≤ 64) (k : Fin (k0_t2_loop (wd nw)).trips) : k0_off41 (wd nw) k = ![0, k.val % nw] := by
  have hk := k_lt hn k; have h0 := nw_pos hn k
  have hd : k.val / nw ≤ k.val := Nat.div_le_self _ _
  have hm : k.val % nw < nw := Nat.mod_lt _ h0
  simp (disch := omega) only [k0_off41, Scalar.indexCast, ivw, addw, sub5, itemq, divw, remw, mulw, toNat_wd]

theorem off42_eq {nw : ℕ} (hn : nw ≤ 64) (k : Fin (k0_t2_loop (wd nw)).trips) : k0_off42 (wd nw) k = ![1, k.val % nw] := by
  have hk := k_lt hn k; have h0 := nw_pos hn k
  have hd : k.val / nw ≤ k.val := Nat.div_le_self _ _
  have hm : k.val % nw < nw := Nat.mod_lt _ h0
  simp (disch := omega) only [k0_off42, Scalar.indexCast, ivw, addw, sub5, itemq, divw, remw, mulw, toNat_wd]

theorem off43_eq {nw : ℕ} (hn : nw ≤ 64) (k : Fin (k0_t2_loop (wd nw)).trips) : k0_off43 (wd nw) k = ![2, k.val % nw] := by
  have hk := k_lt hn k; have h0 := nw_pos hn k
  have hd : k.val / nw ≤ k.val := Nat.div_le_self _ _
  have hm : k.val % nw < nw := Nat.mod_lt _ h0
  simp (disch := omega) only [k0_off43, Scalar.indexCast, ivw, addw, sub5, itemq, divw, remw, mulw, toNat_wd]

theorem off44_eq {nw : ℕ} (hn : nw ≤ 64) (k : Fin (k0_t2_loop (wd nw)).trips) : k0_off44 (wd nw) k = ![3, k.val % nw] := by
  have hk := k_lt hn k; have h0 := nw_pos hn k
  have hd : k.val / nw ≤ k.val := Nat.div_le_self _ _
  have hm : k.val % nw < nw := Nat.mod_lt _ h0
  simp (disch := omega) only [k0_off44, Scalar.indexCast, ivw, addw, sub5, itemq, divw, remw, mulw, toNat_wd]

theorem off45_eq {nw : ℕ} (hn : nw ≤ 64) (k : Fin (k0_t2_loop (wd nw)).trips) : k0_off45 (wd nw) k = ![0, (k.val + 5) % nw] := by
  have hk := k_lt hn k; have h0 := nw_pos hn k
  have hd : (k.val + 5) / nw ≤ (k.val + 5) := Nat.div_le_self _ _
  have hm : (k.val + 5) % nw < nw := Nat.mod_lt _ h0
  simp (disch := omega) only [k0_off45, Scalar.indexCast, ivw, addw, sub5, itemq, divw, remw, mulw, toNat_wd]

theorem off46_eq {nw : ℕ} (hn : nw ≤ 64) (k : Fin (k0_t2_loop (wd nw)).trips) : k0_off46 (wd nw) k = ![(k.val + 5) % 6] := by
  have hk := k_lt hn k; have h0 := nw_pos hn k
  have hd : (k.val + 5) / nw ≤ (k.val + 5) := Nat.div_le_self _ _
  have hm : (k.val + 5) % nw < nw := Nat.mod_lt _ h0
  simp (disch := omega) only [k0_off46, Scalar.indexCast, ivw, addw, sub5, itemq, divw, remw, mulw, toNat_wd]

theorem off47_eq {nw : ℕ} (hn : nw ≤ 64) (k : Fin (k0_t2_loop (wd nw)).trips) : k0_off47 (wd nw) k = ![(k.val + 5) % 6, 0, 0] := by
  have hk := k_lt hn k; have h0 := nw_pos hn k
  have hd : (k.val + 5) / nw ≤ (k.val + 5) := Nat.div_le_self _ _
  have hm : (k.val + 5) % nw < nw := Nat.mod_lt _ h0
  simp (disch := omega) only [k0_off47, Scalar.indexCast, ivw, addw, sub5, itemq, divw, remw, mulw, toNat_wd]

theorem off48_eq {nw : ℕ} (hn : nw ≤ 64) (k : Fin (k0_t2_loop (wd nw)).trips) (w : BitVec 32) : k0_off48 (wd nw) k w = ![w.toNat, 0, (k.val + 5) / nw * 512] := by
  have hk := k_lt hn k; have h0 := nw_pos hn k
  have hd : (k.val + 5) / nw ≤ (k.val + 5) := Nat.div_le_self _ _
  have hm : (k.val + 5) % nw < nw := Nat.mod_lt _ h0
  simp (disch := omega) only [k0_off48, Scalar.indexCast, ivw, addw, sub5, itemq, divw, remw, mulw, toNat_wd]

theorem off49_eq {nw : ℕ} (hn : nw ≤ 64) (k : Fin (k0_t2_loop (wd nw)).trips) : k0_off49 (wd nw) k = ![(k.val + 5) % 6] := by
  have hk := k_lt hn k; have h0 := nw_pos hn k
  have hd : (k.val + 5) / nw ≤ (k.val + 5) := Nat.div_le_self _ _
  have hm : (k.val + 5) % nw < nw := Nat.mod_lt _ h0
  simp (disch := omega) only [k0_off49, Scalar.indexCast, ivw, addw, sub5, itemq, divw, remw, mulw, toNat_wd]

theorem off50_eq {nw : ℕ} (hn : nw ≤ 64) (k : Fin (k0_t2_loop (wd nw)).trips) : k0_off50 (wd nw) k = ![(k.val + 5) % 6, 0, 0] := by
  have hk := k_lt hn k; have h0 := nw_pos hn k
  have hd : (k.val + 5) / nw ≤ (k.val + 5) := Nat.div_le_self _ _
  have hm : (k.val + 5) % nw < nw := Nat.mod_lt _ h0
  simp (disch := omega) only [k0_off50, Scalar.indexCast, ivw, addw, sub5, itemq, divw, remw, mulw, toNat_wd]

theorem off51_eq {nw : ℕ} (hn : nw ≤ 64) (k : Fin (k0_t2_loop (wd nw)).trips) (w : BitVec 32) : k0_off51 (wd nw) k w = ![w.toNat, 0, (k.val + 5) / nw * 512] := by
  have hk := k_lt hn k; have h0 := nw_pos hn k
  have hd : (k.val + 5) / nw ≤ (k.val + 5) := Nat.div_le_self _ _
  have hm : (k.val + 5) % nw < nw := Nat.mod_lt _ h0
  simp (disch := omega) only [k0_off51, Scalar.indexCast, ivw, addw, sub5, itemq, divw, remw, mulw, toNat_wd]

theorem off52_eq {nw : ℕ} (hn : nw ≤ 64) (k : Fin (k0_t2_loop (wd nw)).trips) : k0_off52 (wd nw) k = ![0, k.val % nw] := by
  have hk := k_lt hn k; have h0 := nw_pos hn k
  have hd : k.val / nw ≤ k.val := Nat.div_le_self _ _
  have hm : k.val % nw < nw := Nat.mod_lt _ h0
  simp (disch := omega) only [k0_off52, Scalar.indexCast, ivw, addw, sub5, itemq, divw, remw, mulw, toNat_wd]

theorem off53_eq {nw : ℕ} (hn : nw ≤ 64) (k : Fin (k0_t2_loop (wd nw)).trips) : k0_off53 (wd nw) k = ![k.val % 6] := by
  have hk := k_lt hn k; have h0 := nw_pos hn k
  have hd : k.val / nw ≤ k.val := Nat.div_le_self _ _
  have hm : k.val % nw < nw := Nat.mod_lt _ h0
  simp (disch := omega) only [k0_off53, Scalar.indexCast, ivw, addw, sub5, itemq, divw, remw, mulw, toNat_wd]

theorem off54_eq {nw : ℕ} (hn : nw ≤ 64) (k : Fin (k0_t2_loop (wd nw)).trips) : k0_off54 (wd nw) k = ![k.val % 6, 0, 0] := by
  have hk := k_lt hn k; have h0 := nw_pos hn k
  have hd : k.val / nw ≤ k.val := Nat.div_le_self _ _
  have hm : k.val % nw < nw := Nat.mod_lt _ h0
  simp (disch := omega) only [k0_off54, Scalar.indexCast, ivw, addw, sub5, itemq, divw, remw, mulw, toNat_wd]

theorem off55_eq {nw : ℕ} (hn : nw ≤ 64) (k : Fin (k0_t2_loop (wd nw)).trips) (w : BitVec 32) : k0_off55 (wd nw) k w = ![w.toNat, 0, k.val / nw * 512] := by
  have hk := k_lt hn k; have h0 := nw_pos hn k
  have hd : k.val / nw ≤ k.val := Nat.div_le_self _ _
  have hm : k.val % nw < nw := Nat.mod_lt _ h0
  simp (disch := omega) only [k0_off55, Scalar.indexCast, ivw, addw, sub5, itemq, divw, remw, mulw, toNat_wd]

theorem off56_eq {nw : ℕ} (hn : nw ≤ 64) (k : Fin (k0_t2_loop (wd nw)).trips) : k0_off56 (wd nw) k = ![k.val % 6] := by
  have hk := k_lt hn k; have h0 := nw_pos hn k
  have hd : k.val / nw ≤ k.val := Nat.div_le_self _ _
  have hm : k.val % nw < nw := Nat.mod_lt _ h0
  simp (disch := omega) only [k0_off56, Scalar.indexCast, ivw, addw, sub5, itemq, divw, remw, mulw, toNat_wd]

theorem off57_eq {nw : ℕ} (hn : nw ≤ 64) (k : Fin (k0_t2_loop (wd nw)).trips) : k0_off57 (wd nw) k = ![k.val % 6, 0, 0] := by
  have hk := k_lt hn k; have h0 := nw_pos hn k
  have hd : k.val / nw ≤ k.val := Nat.div_le_self _ _
  have hm : k.val % nw < nw := Nat.mod_lt _ h0
  simp (disch := omega) only [k0_off57, Scalar.indexCast, ivw, addw, sub5, itemq, divw, remw, mulw, toNat_wd]

theorem off58_eq {nw : ℕ} (hn : nw ≤ 64) (k : Fin (k0_t2_loop (wd nw)).trips) (w : BitVec 32) : k0_off58 (wd nw) k w = ![w.toNat, 0, k.val / nw * 512] := by
  have hk := k_lt hn k; have h0 := nw_pos hn k
  have hd : k.val / nw ≤ k.val := Nat.div_le_self _ _
  have hm : k.val % nw < nw := Nat.mod_lt _ h0
  simp (disch := omega) only [k0_off58, Scalar.indexCast, ivw, addw, sub5, itemq, divw, remw, mulw, toNat_wd]

theorem off59_eq (w : BitVec 32) : k0_off59 w = ![w.toNat, 0] := rfl
theorem off60_eq {nw : ℕ} (hn : nw ≤ 64) (k : Fin (k0_t2_loop (wd nw)).trips) : k0_off60 (wd nw) k = ![k.val % 6, 0, 0] := by
  have hk := k_lt hn k; have h0 := nw_pos hn k
  have hd : k.val / nw ≤ k.val := Nat.div_le_self _ _
  have hm : k.val % nw < nw := Nat.mod_lt _ h0
  simp (disch := omega) only [k0_off60, Scalar.indexCast, ivw, addw, sub5, itemq, divw, remw, mulw, toNat_wd]

theorem off61_eq {nw : ℕ} (hn : nw ≤ 64) (k : Fin (k0_t2_loop (wd nw)).trips) : k0_off61 (wd nw) k = ![k.val % 6, 0, 0] := by
  have hk := k_lt hn k; have h0 := nw_pos hn k
  have hd : k.val / nw ≤ k.val := Nat.div_le_self _ _
  have hm : k.val % nw < nw := Nat.mod_lt _ h0
  simp (disch := omega) only [k0_off61, Scalar.indexCast, ivw, addw, sub5, itemq, divw, remw, mulw, toNat_wd]

theorem off62_eq (w : BitVec 32) : k0_off62 w = ![w.toNat, 0] := rfl
theorem off63_eq {nw : ℕ} (hn : nw ≤ 64) (k : Fin (k0_t2_loop (wd nw)).trips) : k0_off63 (wd nw) k = ![k.val % 6, 256, 0] := by
  have hk := k_lt hn k; have h0 := nw_pos hn k
  have hd : k.val / nw ≤ k.val := Nat.div_le_self _ _
  have hm : k.val % nw < nw := Nat.mod_lt _ h0
  simp (disch := omega) only [k0_off63, Scalar.indexCast, ivw, addw, sub5, itemq, divw, remw, mulw, toNat_wd]

theorem off64_eq {nw : ℕ} (hn : nw ≤ 64) (k : Fin (k0_t2_loop (wd nw)).trips) : k0_off64 (wd nw) k = ![k.val % 6, 16, 0] := by
  have hk := k_lt hn k; have h0 := nw_pos hn k
  have hd : k.val / nw ≤ k.val := Nat.div_le_self _ _
  have hm : k.val % nw < nw := Nat.mod_lt _ h0
  simp (disch := omega) only [k0_off64, Scalar.indexCast, ivw, addw, sub5, itemq, divw, remw, mulw, toNat_wd]

theorem off65_eq (w : BitVec 32) : k0_off65 w = ![w.toNat, 256] := rfl
theorem off66_eq {nw : ℕ} (hn : nw ≤ 64) (k : Fin (k0_t2_loop (wd nw)).trips) : k0_off66 (wd nw) k = ![k.val % 6, 512, 0] := by
  have hk := k_lt hn k; have h0 := nw_pos hn k
  have hd : k.val / nw ≤ k.val := Nat.div_le_self _ _
  have hm : k.val % nw < nw := Nat.mod_lt _ h0
  simp (disch := omega) only [k0_off66, Scalar.indexCast, ivw, addw, sub5, itemq, divw, remw, mulw, toNat_wd]

theorem off67_eq {nw : ℕ} (hn : nw ≤ 64) (k : Fin (k0_t2_loop (wd nw)).trips) : k0_off67 (wd nw) k = ![k.val % 6, 32, 0] := by
  have hk := k_lt hn k; have h0 := nw_pos hn k
  have hd : k.val / nw ≤ k.val := Nat.div_le_self _ _
  have hm : k.val % nw < nw := Nat.mod_lt _ h0
  simp (disch := omega) only [k0_off67, Scalar.indexCast, ivw, addw, sub5, itemq, divw, remw, mulw, toNat_wd]

theorem off68_eq (w : BitVec 32) : k0_off68 w = ![w.toNat, 512] := rfl
theorem off69_eq {nw : ℕ} (hn : nw ≤ 64) (k : Fin (k0_t2_loop (wd nw)).trips) : k0_off69 (wd nw) k = ![k.val % 6, 768, 0] := by
  have hk := k_lt hn k; have h0 := nw_pos hn k
  have hd : k.val / nw ≤ k.val := Nat.div_le_self _ _
  have hm : k.val % nw < nw := Nat.mod_lt _ h0
  simp (disch := omega) only [k0_off69, Scalar.indexCast, ivw, addw, sub5, itemq, divw, remw, mulw, toNat_wd]

theorem off70_eq {nw : ℕ} (hn : nw ≤ 64) (k : Fin (k0_t2_loop (wd nw)).trips) : k0_off70 (wd nw) k = ![k.val % 6, 48, 0] := by
  have hk := k_lt hn k; have h0 := nw_pos hn k
  have hd : k.val / nw ≤ k.val := Nat.div_le_self _ _
  have hm : k.val % nw < nw := Nat.mod_lt _ h0
  simp (disch := omega) only [k0_off70, Scalar.indexCast, ivw, addw, sub5, itemq, divw, remw, mulw, toNat_wd]

theorem off71_eq (w : BitVec 32) : k0_off71 w = ![w.toNat, 768] := rfl
theorem off72_eq {nw : ℕ} (hn : nw ≤ 64) (k : Fin (k0_t2_loop (wd nw)).trips) : k0_off72 (wd nw) k = ![k.val % 6, 1024, 0] := by
  have hk := k_lt hn k; have h0 := nw_pos hn k
  have hd : k.val / nw ≤ k.val := Nat.div_le_self _ _
  have hm : k.val % nw < nw := Nat.mod_lt _ h0
  simp (disch := omega) only [k0_off72, Scalar.indexCast, ivw, addw, sub5, itemq, divw, remw, mulw, toNat_wd]

theorem off73_eq {nw : ℕ} (hn : nw ≤ 64) (k : Fin (k0_t2_loop (wd nw)).trips) : k0_off73 (wd nw) k = ![k.val % 6, 64, 0] := by
  have hk := k_lt hn k; have h0 := nw_pos hn k
  have hd : k.val / nw ≤ k.val := Nat.div_le_self _ _
  have hm : k.val % nw < nw := Nat.mod_lt _ h0
  simp (disch := omega) only [k0_off73, Scalar.indexCast, ivw, addw, sub5, itemq, divw, remw, mulw, toNat_wd]

theorem off74_eq (w : BitVec 32) : k0_off74 w = ![w.toNat, 1024] := rfl
theorem off75_eq {nw : ℕ} (hn : nw ≤ 64) (k : Fin (k0_t2_loop (wd nw)).trips) : k0_off75 (wd nw) k = ![k.val % 6, 1280, 0] := by
  have hk := k_lt hn k; have h0 := nw_pos hn k
  have hd : k.val / nw ≤ k.val := Nat.div_le_self _ _
  have hm : k.val % nw < nw := Nat.mod_lt _ h0
  simp (disch := omega) only [k0_off75, Scalar.indexCast, ivw, addw, sub5, itemq, divw, remw, mulw, toNat_wd]

theorem off76_eq {nw : ℕ} (hn : nw ≤ 64) (k : Fin (k0_t2_loop (wd nw)).trips) : k0_off76 (wd nw) k = ![k.val % 6, 80, 0] := by
  have hk := k_lt hn k; have h0 := nw_pos hn k
  have hd : k.val / nw ≤ k.val := Nat.div_le_self _ _
  have hm : k.val % nw < nw := Nat.mod_lt _ h0
  simp (disch := omega) only [k0_off76, Scalar.indexCast, ivw, addw, sub5, itemq, divw, remw, mulw, toNat_wd]

theorem off77_eq (w : BitVec 32) : k0_off77 w = ![w.toNat, 1280] := rfl
theorem off78_eq {nw : ℕ} (hn : nw ≤ 64) (k : Fin (k0_t2_loop (wd nw)).trips) : k0_off78 (wd nw) k = ![k.val % 6, 1536, 0] := by
  have hk := k_lt hn k; have h0 := nw_pos hn k
  have hd : k.val / nw ≤ k.val := Nat.div_le_self _ _
  have hm : k.val % nw < nw := Nat.mod_lt _ h0
  simp (disch := omega) only [k0_off78, Scalar.indexCast, ivw, addw, sub5, itemq, divw, remw, mulw, toNat_wd]

theorem off79_eq {nw : ℕ} (hn : nw ≤ 64) (k : Fin (k0_t2_loop (wd nw)).trips) : k0_off79 (wd nw) k = ![k.val % 6, 96, 0] := by
  have hk := k_lt hn k; have h0 := nw_pos hn k
  have hd : k.val / nw ≤ k.val := Nat.div_le_self _ _
  have hm : k.val % nw < nw := Nat.mod_lt _ h0
  simp (disch := omega) only [k0_off79, Scalar.indexCast, ivw, addw, sub5, itemq, divw, remw, mulw, toNat_wd]

theorem off80_eq (w : BitVec 32) : k0_off80 w = ![w.toNat, 1536] := rfl
theorem off81_eq {nw : ℕ} (hn : nw ≤ 64) (k : Fin (k0_t2_loop (wd nw)).trips) : k0_off81 (wd nw) k = ![k.val % 6, 1792, 0] := by
  have hk := k_lt hn k; have h0 := nw_pos hn k
  have hd : k.val / nw ≤ k.val := Nat.div_le_self _ _
  have hm : k.val % nw < nw := Nat.mod_lt _ h0
  simp (disch := omega) only [k0_off81, Scalar.indexCast, ivw, addw, sub5, itemq, divw, remw, mulw, toNat_wd]

theorem off82_eq {nw : ℕ} (hn : nw ≤ 64) (k : Fin (k0_t2_loop (wd nw)).trips) : k0_off82 (wd nw) k = ![k.val % 6, 112, 0] := by
  have hk := k_lt hn k; have h0 := nw_pos hn k
  have hd : k.val / nw ≤ k.val := Nat.div_le_self _ _
  have hm : k.val % nw < nw := Nat.mod_lt _ h0
  simp (disch := omega) only [k0_off82, Scalar.indexCast, ivw, addw, sub5, itemq, divw, remw, mulw, toNat_wd]

theorem off83_eq (w : BitVec 32) : k0_off83 w = ![w.toNat, 1792] := rfl
theorem off84_eq {nw : ℕ} (hn : nw ≤ 64) (k : Fin (k0_t2_loop (wd nw)).trips) : k0_off84 (wd nw) k = ![k.val % 6, 2048, 0] := by
  have hk := k_lt hn k; have h0 := nw_pos hn k
  have hd : k.val / nw ≤ k.val := Nat.div_le_self _ _
  have hm : k.val % nw < nw := Nat.mod_lt _ h0
  simp (disch := omega) only [k0_off84, Scalar.indexCast, ivw, addw, sub5, itemq, divw, remw, mulw, toNat_wd]

theorem off85_eq {nw : ℕ} (hn : nw ≤ 64) (k : Fin (k0_t2_loop (wd nw)).trips) : k0_off85 (wd nw) k = ![k.val % 6, 128, 0] := by
  have hk := k_lt hn k; have h0 := nw_pos hn k
  have hd : k.val / nw ≤ k.val := Nat.div_le_self _ _
  have hm : k.val % nw < nw := Nat.mod_lt _ h0
  simp (disch := omega) only [k0_off85, Scalar.indexCast, ivw, addw, sub5, itemq, divw, remw, mulw, toNat_wd]

theorem off86_eq (w : BitVec 32) : k0_off86 w = ![w.toNat, 2048] := rfl
theorem off87_eq {nw : ℕ} (hn : nw ≤ 64) (k : Fin (k0_t2_loop (wd nw)).trips) : k0_off87 (wd nw) k = ![k.val % 6, 2304, 0] := by
  have hk := k_lt hn k; have h0 := nw_pos hn k
  have hd : k.val / nw ≤ k.val := Nat.div_le_self _ _
  have hm : k.val % nw < nw := Nat.mod_lt _ h0
  simp (disch := omega) only [k0_off87, Scalar.indexCast, ivw, addw, sub5, itemq, divw, remw, mulw, toNat_wd]

theorem off88_eq {nw : ℕ} (hn : nw ≤ 64) (k : Fin (k0_t2_loop (wd nw)).trips) : k0_off88 (wd nw) k = ![k.val % 6, 144, 0] := by
  have hk := k_lt hn k; have h0 := nw_pos hn k
  have hd : k.val / nw ≤ k.val := Nat.div_le_self _ _
  have hm : k.val % nw < nw := Nat.mod_lt _ h0
  simp (disch := omega) only [k0_off88, Scalar.indexCast, ivw, addw, sub5, itemq, divw, remw, mulw, toNat_wd]

theorem off89_eq (w : BitVec 32) : k0_off89 w = ![w.toNat, 2304] := rfl
theorem off90_eq {nw : ℕ} (hn : nw ≤ 64) (k : Fin (k0_t2_loop (wd nw)).trips) (w : BitVec 32) (q : ℕ) (hq : q ≤ 256) : k0_off90 (wd nw) k w (wd q) = ![w.toNat, k.val / nw * 512 + q] := by
  have hk := k_lt hn k; have h0 := nw_pos hn k
  have hd : k.val / nw ≤ k.val := Nat.div_le_self _ _
  have hm : k.val % nw < nw := Nat.mod_lt _ h0
  simp (disch := omega) only [k0_off90, Scalar.indexCast, ivw, addw, sub5, itemq, divw, remw, mulw, toNat_wd]

theorem off91_eq {nw : ℕ} (hn : nw ≤ 64) (k : Fin (k0_t2_loop (wd nw)).trips) (w : BitVec 32) (q : ℕ) (hq : q ≤ 256) : k0_off91 (wd nw) k w (wd q) = ![w.toNat, k.val / nw * 512 + q] := by
  have hk := k_lt hn k; have h0 := nw_pos hn k
  have hd : k.val / nw ≤ k.val := Nat.div_le_self _ _
  have hm : k.val % nw < nw := Nat.mod_lt _ h0
  simp (disch := omega) only [k0_off91, Scalar.indexCast, ivw, addw, sub5, itemq, divw, remw, mulw, toNat_wd]

theorem off92_eq {nw : ℕ} (hn : nw ≤ 64) (k : Fin (k0_t2_loop (wd nw)).trips) : k0_off92 (wd nw) k = ![k.val % 6, 0, 256] := by
  have hk := k_lt hn k; have h0 := nw_pos hn k
  have hd : k.val / nw ≤ k.val := Nat.div_le_self _ _
  have hm : k.val % nw < nw := Nat.mod_lt _ h0
  simp (disch := omega) only [k0_off92, Scalar.indexCast, ivw, addw, sub5, itemq, divw, remw, mulw, toNat_wd]

theorem off93_eq {nw : ℕ} (hn : nw ≤ 64) (k : Fin (k0_t2_loop (wd nw)).trips) : k0_off93 (wd nw) k = ![k.val % 6, 0, 256] := by
  have hk := k_lt hn k; have h0 := nw_pos hn k
  have hd : k.val / nw ≤ k.val := Nat.div_le_self _ _
  have hm : k.val % nw < nw := Nat.mod_lt _ h0
  simp (disch := omega) only [k0_off93, Scalar.indexCast, ivw, addw, sub5, itemq, divw, remw, mulw, toNat_wd]

theorem off94_eq (w : BitVec 32) : k0_off94 w = ![w.toNat, 0] := rfl
theorem off95_eq {nw : ℕ} (hn : nw ≤ 64) (k : Fin (k0_t2_loop (wd nw)).trips) : k0_off95 (wd nw) k = ![k.val % 6, 256, 256] := by
  have hk := k_lt hn k; have h0 := nw_pos hn k
  have hd : k.val / nw ≤ k.val := Nat.div_le_self _ _
  have hm : k.val % nw < nw := Nat.mod_lt _ h0
  simp (disch := omega) only [k0_off95, Scalar.indexCast, ivw, addw, sub5, itemq, divw, remw, mulw, toNat_wd]

theorem off96_eq {nw : ℕ} (hn : nw ≤ 64) (k : Fin (k0_t2_loop (wd nw)).trips) : k0_off96 (wd nw) k = ![k.val % 6, 16, 256] := by
  have hk := k_lt hn k; have h0 := nw_pos hn k
  have hd : k.val / nw ≤ k.val := Nat.div_le_self _ _
  have hm : k.val % nw < nw := Nat.mod_lt _ h0
  simp (disch := omega) only [k0_off96, Scalar.indexCast, ivw, addw, sub5, itemq, divw, remw, mulw, toNat_wd]

theorem off97_eq (w : BitVec 32) : k0_off97 w = ![w.toNat, 256] := rfl
theorem off98_eq {nw : ℕ} (hn : nw ≤ 64) (k : Fin (k0_t2_loop (wd nw)).trips) : k0_off98 (wd nw) k = ![k.val % 6, 512, 256] := by
  have hk := k_lt hn k; have h0 := nw_pos hn k
  have hd : k.val / nw ≤ k.val := Nat.div_le_self _ _
  have hm : k.val % nw < nw := Nat.mod_lt _ h0
  simp (disch := omega) only [k0_off98, Scalar.indexCast, ivw, addw, sub5, itemq, divw, remw, mulw, toNat_wd]

theorem off99_eq {nw : ℕ} (hn : nw ≤ 64) (k : Fin (k0_t2_loop (wd nw)).trips) : k0_off99 (wd nw) k = ![k.val % 6, 32, 256] := by
  have hk := k_lt hn k; have h0 := nw_pos hn k
  have hd : k.val / nw ≤ k.val := Nat.div_le_self _ _
  have hm : k.val % nw < nw := Nat.mod_lt _ h0
  simp (disch := omega) only [k0_off99, Scalar.indexCast, ivw, addw, sub5, itemq, divw, remw, mulw, toNat_wd]

theorem off100_eq (w : BitVec 32) : k0_off100 w = ![w.toNat, 512] := rfl
theorem off101_eq {nw : ℕ} (hn : nw ≤ 64) (k : Fin (k0_t2_loop (wd nw)).trips) : k0_off101 (wd nw) k = ![k.val % 6, 768, 256] := by
  have hk := k_lt hn k; have h0 := nw_pos hn k
  have hd : k.val / nw ≤ k.val := Nat.div_le_self _ _
  have hm : k.val % nw < nw := Nat.mod_lt _ h0
  simp (disch := omega) only [k0_off101, Scalar.indexCast, ivw, addw, sub5, itemq, divw, remw, mulw, toNat_wd]

theorem off102_eq {nw : ℕ} (hn : nw ≤ 64) (k : Fin (k0_t2_loop (wd nw)).trips) : k0_off102 (wd nw) k = ![k.val % 6, 48, 256] := by
  have hk := k_lt hn k; have h0 := nw_pos hn k
  have hd : k.val / nw ≤ k.val := Nat.div_le_self _ _
  have hm : k.val % nw < nw := Nat.mod_lt _ h0
  simp (disch := omega) only [k0_off102, Scalar.indexCast, ivw, addw, sub5, itemq, divw, remw, mulw, toNat_wd]

theorem off103_eq (w : BitVec 32) : k0_off103 w = ![w.toNat, 768] := rfl
theorem off104_eq {nw : ℕ} (hn : nw ≤ 64) (k : Fin (k0_t2_loop (wd nw)).trips) : k0_off104 (wd nw) k = ![k.val % 6, 1024, 256] := by
  have hk := k_lt hn k; have h0 := nw_pos hn k
  have hd : k.val / nw ≤ k.val := Nat.div_le_self _ _
  have hm : k.val % nw < nw := Nat.mod_lt _ h0
  simp (disch := omega) only [k0_off104, Scalar.indexCast, ivw, addw, sub5, itemq, divw, remw, mulw, toNat_wd]

theorem off105_eq {nw : ℕ} (hn : nw ≤ 64) (k : Fin (k0_t2_loop (wd nw)).trips) : k0_off105 (wd nw) k = ![k.val % 6, 64, 256] := by
  have hk := k_lt hn k; have h0 := nw_pos hn k
  have hd : k.val / nw ≤ k.val := Nat.div_le_self _ _
  have hm : k.val % nw < nw := Nat.mod_lt _ h0
  simp (disch := omega) only [k0_off105, Scalar.indexCast, ivw, addw, sub5, itemq, divw, remw, mulw, toNat_wd]

theorem off106_eq (w : BitVec 32) : k0_off106 w = ![w.toNat, 1024] := rfl
theorem off107_eq {nw : ℕ} (hn : nw ≤ 64) (k : Fin (k0_t2_loop (wd nw)).trips) : k0_off107 (wd nw) k = ![k.val % 6, 1280, 256] := by
  have hk := k_lt hn k; have h0 := nw_pos hn k
  have hd : k.val / nw ≤ k.val := Nat.div_le_self _ _
  have hm : k.val % nw < nw := Nat.mod_lt _ h0
  simp (disch := omega) only [k0_off107, Scalar.indexCast, ivw, addw, sub5, itemq, divw, remw, mulw, toNat_wd]

theorem off108_eq {nw : ℕ} (hn : nw ≤ 64) (k : Fin (k0_t2_loop (wd nw)).trips) : k0_off108 (wd nw) k = ![k.val % 6, 80, 256] := by
  have hk := k_lt hn k; have h0 := nw_pos hn k
  have hd : k.val / nw ≤ k.val := Nat.div_le_self _ _
  have hm : k.val % nw < nw := Nat.mod_lt _ h0
  simp (disch := omega) only [k0_off108, Scalar.indexCast, ivw, addw, sub5, itemq, divw, remw, mulw, toNat_wd]

theorem off109_eq (w : BitVec 32) : k0_off109 w = ![w.toNat, 1280] := rfl
theorem off110_eq {nw : ℕ} (hn : nw ≤ 64) (k : Fin (k0_t2_loop (wd nw)).trips) : k0_off110 (wd nw) k = ![k.val % 6, 1536, 256] := by
  have hk := k_lt hn k; have h0 := nw_pos hn k
  have hd : k.val / nw ≤ k.val := Nat.div_le_self _ _
  have hm : k.val % nw < nw := Nat.mod_lt _ h0
  simp (disch := omega) only [k0_off110, Scalar.indexCast, ivw, addw, sub5, itemq, divw, remw, mulw, toNat_wd]

theorem off111_eq {nw : ℕ} (hn : nw ≤ 64) (k : Fin (k0_t2_loop (wd nw)).trips) : k0_off111 (wd nw) k = ![k.val % 6, 96, 256] := by
  have hk := k_lt hn k; have h0 := nw_pos hn k
  have hd : k.val / nw ≤ k.val := Nat.div_le_self _ _
  have hm : k.val % nw < nw := Nat.mod_lt _ h0
  simp (disch := omega) only [k0_off111, Scalar.indexCast, ivw, addw, sub5, itemq, divw, remw, mulw, toNat_wd]

theorem off112_eq (w : BitVec 32) : k0_off112 w = ![w.toNat, 1536] := rfl
theorem off113_eq {nw : ℕ} (hn : nw ≤ 64) (k : Fin (k0_t2_loop (wd nw)).trips) : k0_off113 (wd nw) k = ![k.val % 6, 1792, 256] := by
  have hk := k_lt hn k; have h0 := nw_pos hn k
  have hd : k.val / nw ≤ k.val := Nat.div_le_self _ _
  have hm : k.val % nw < nw := Nat.mod_lt _ h0
  simp (disch := omega) only [k0_off113, Scalar.indexCast, ivw, addw, sub5, itemq, divw, remw, mulw, toNat_wd]

theorem off114_eq {nw : ℕ} (hn : nw ≤ 64) (k : Fin (k0_t2_loop (wd nw)).trips) : k0_off114 (wd nw) k = ![k.val % 6, 112, 256] := by
  have hk := k_lt hn k; have h0 := nw_pos hn k
  have hd : k.val / nw ≤ k.val := Nat.div_le_self _ _
  have hm : k.val % nw < nw := Nat.mod_lt _ h0
  simp (disch := omega) only [k0_off114, Scalar.indexCast, ivw, addw, sub5, itemq, divw, remw, mulw, toNat_wd]

theorem off115_eq (w : BitVec 32) : k0_off115 w = ![w.toNat, 1792] := rfl
theorem off116_eq {nw : ℕ} (hn : nw ≤ 64) (k : Fin (k0_t2_loop (wd nw)).trips) : k0_off116 (wd nw) k = ![k.val % 6, 2048, 256] := by
  have hk := k_lt hn k; have h0 := nw_pos hn k
  have hd : k.val / nw ≤ k.val := Nat.div_le_self _ _
  have hm : k.val % nw < nw := Nat.mod_lt _ h0
  simp (disch := omega) only [k0_off116, Scalar.indexCast, ivw, addw, sub5, itemq, divw, remw, mulw, toNat_wd]

theorem off117_eq {nw : ℕ} (hn : nw ≤ 64) (k : Fin (k0_t2_loop (wd nw)).trips) : k0_off117 (wd nw) k = ![k.val % 6, 128, 256] := by
  have hk := k_lt hn k; have h0 := nw_pos hn k
  have hd : k.val / nw ≤ k.val := Nat.div_le_self _ _
  have hm : k.val % nw < nw := Nat.mod_lt _ h0
  simp (disch := omega) only [k0_off117, Scalar.indexCast, ivw, addw, sub5, itemq, divw, remw, mulw, toNat_wd]

theorem off118_eq (w : BitVec 32) : k0_off118 w = ![w.toNat, 2048] := rfl
theorem off119_eq {nw : ℕ} (hn : nw ≤ 64) (k : Fin (k0_t2_loop (wd nw)).trips) : k0_off119 (wd nw) k = ![k.val % 6, 2304, 256] := by
  have hk := k_lt hn k; have h0 := nw_pos hn k
  have hd : k.val / nw ≤ k.val := Nat.div_le_self _ _
  have hm : k.val % nw < nw := Nat.mod_lt _ h0
  simp (disch := omega) only [k0_off119, Scalar.indexCast, ivw, addw, sub5, itemq, divw, remw, mulw, toNat_wd]

theorem off120_eq {nw : ℕ} (hn : nw ≤ 64) (k : Fin (k0_t2_loop (wd nw)).trips) : k0_off120 (wd nw) k = ![k.val % 6, 144, 256] := by
  have hk := k_lt hn k; have h0 := nw_pos hn k
  have hd : k.val / nw ≤ k.val := Nat.div_le_self _ _
  have hm : k.val % nw < nw := Nat.mod_lt _ h0
  simp (disch := omega) only [k0_off120, Scalar.indexCast, ivw, addw, sub5, itemq, divw, remw, mulw, toNat_wd]

theorem off121_eq (w : BitVec 32) : k0_off121 w = ![w.toNat, 2304] := rfl
theorem cpos {nw t : ℕ} {p : Prop} (h : p ↔ t < 6 * nw) (hp : p) : 0 < nw := by have := h.mp hp; omega

theorem inb6 {nw : ℕ} (h0 : 0 < nw) (hn : nw ≤ 64) : ∀ a, k0_off6 (wd nw) a + S1x1.size a ≤ S4x64.size a := by
  have hm := Nat.mod_lt 0 h0
  rw [off6_eq h0 hn]; intro a; fin_cases a <;> simp [S1x1, S4x64] <;> omega

theorem mult1 {nw : ℕ} (h0 : 0 < nw) (hn : nw ≤ 64) : 512 ∣ (k0_mult1 (wd nw)).toNat := by
  have hd : 0 / nw ≤ 0 := Nat.div_le_self _ _
  simp (disch := omega) only [k0_mult1, ivw, addw, divw, mulw, toNat_wd]; omega

theorem inb13 {nw : ℕ} (h0 : 0 < nw) (hn : nw ≤ 64) : ∀ a, k0_off13 (wd nw) a + S1x1.size a ≤ S4x64.size a := by
  have hm := Nat.mod_lt 1 h0
  rw [off13_eq h0 hn]; intro a; fin_cases a <;> simp [S1x1, S4x64] <;> omega

theorem mult2 {nw : ℕ} (h0 : 0 < nw) (hn : nw ≤ 64) : 512 ∣ (k0_mult2 (wd nw)).toNat := by
  have hd : 1 / nw ≤ 1 := Nat.div_le_self _ _
  simp (disch := omega) only [k0_mult2, ivw, addw, divw, mulw, toNat_wd]; omega

theorem inb20 {nw : ℕ} (h0 : 0 < nw) (hn : nw ≤ 64) : ∀ a, k0_off20 (wd nw) a + S1x1.size a ≤ S4x64.size a := by
  have hm := Nat.mod_lt 2 h0
  rw [off20_eq h0 hn]; intro a; fin_cases a <;> simp [S1x1, S4x64] <;> omega

theorem mult3 {nw : ℕ} (h0 : 0 < nw) (hn : nw ≤ 64) : 512 ∣ (k0_mult3 (wd nw)).toNat := by
  have hd : 2 / nw ≤ 2 := Nat.div_le_self _ _
  simp (disch := omega) only [k0_mult3, ivw, addw, divw, mulw, toNat_wd]; omega

theorem inb27 {nw : ℕ} (h0 : 0 < nw) (hn : nw ≤ 64) : ∀ a, k0_off27 (wd nw) a + S1x1.size a ≤ S4x64.size a := by
  have hm := Nat.mod_lt 3 h0
  rw [off27_eq h0 hn]; intro a; fin_cases a <;> simp [S1x1, S4x64] <;> omega

theorem mult4 {nw : ℕ} (h0 : 0 < nw) (hn : nw ≤ 64) : 512 ∣ (k0_mult4 (wd nw)).toNat := by
  have hd : 3 / nw ≤ 3 := Nat.div_le_self _ _
  simp (disch := omega) only [k0_mult4, ivw, addw, divw, mulw, toNat_wd]; omega

theorem inb34 {nw : ℕ} (h0 : 0 < nw) (hn : nw ≤ 64) : ∀ a, k0_off34 (wd nw) a + S1x1.size a ≤ S4x64.size a := by
  have hm := Nat.mod_lt 4 h0
  rw [off34_eq h0 hn]; intro a; fin_cases a <;> simp [S1x1, S4x64] <;> omega

theorem mult5 {nw : ℕ} (h0 : 0 < nw) (hn : nw ≤ 64) : 512 ∣ (k0_mult5 (wd nw)).toNat := by
  have hd : 4 / nw ≤ 4 := Nat.div_le_self _ _
  simp (disch := omega) only [k0_mult5, ivw, addw, divw, mulw, toNat_wd]; omega

theorem inb41 {nw : ℕ} (hn : nw ≤ 64) (k : Fin (k0_t2_loop (wd nw)).trips) : ∀ a, k0_off41 (wd nw) k a + S1x1.size a ≤ S4x64.size a := by
  have hm := Nat.mod_lt k.val (nw_pos hn k); have hm' := Nat.mod_lt (k.val + 5) (nw_pos hn k)
  rw [off41_eq hn k]; intro a; fin_cases a <;> simp [S1x1, S4x64] <;> omega

theorem inb42 {nw : ℕ} (hn : nw ≤ 64) (k : Fin (k0_t2_loop (wd nw)).trips) : ∀ a, k0_off42 (wd nw) k a + S1x1.size a ≤ S4x64.size a := by
  have hm := Nat.mod_lt k.val (nw_pos hn k); have hm' := Nat.mod_lt (k.val + 5) (nw_pos hn k)
  rw [off42_eq hn k]; intro a; fin_cases a <;> simp [S1x1, S4x64] <;> omega

theorem inb43 {nw : ℕ} (hn : nw ≤ 64) (k : Fin (k0_t2_loop (wd nw)).trips) : ∀ a, k0_off43 (wd nw) k a + S1x1.size a ≤ S4x64.size a := by
  have hm := Nat.mod_lt k.val (nw_pos hn k); have hm' := Nat.mod_lt (k.val + 5) (nw_pos hn k)
  rw [off43_eq hn k]; intro a; fin_cases a <;> simp [S1x1, S4x64] <;> omega

theorem inb44 {nw : ℕ} (hn : nw ≤ 64) (k : Fin (k0_t2_loop (wd nw)).trips) : ∀ a, k0_off44 (wd nw) k a + S1x1.size a ≤ S4x64.size a := by
  have hm := Nat.mod_lt k.val (nw_pos hn k); have hm' := Nat.mod_lt (k.val + 5) (nw_pos hn k)
  rw [off44_eq hn k]; intro a; fin_cases a <;> simp [S1x1, S4x64] <;> omega

theorem inb45 {nw : ℕ} (hn : nw ≤ 64) (k : Fin (k0_t2_loop (wd nw)).trips) : ∀ a, k0_off45 (wd nw) k a + S1x1.size a ≤ S4x64.size a := by
  have hm := Nat.mod_lt k.val (nw_pos hn k); have hm' := Nat.mod_lt (k.val + 5) (nw_pos hn k)
  rw [off45_eq hn k]; intro a; fin_cases a <;> simp [S1x1, S4x64] <;> omega

theorem mult7 {nw : ℕ} (hn : nw ≤ 64) (k : Fin (k0_t2_loop (wd nw)).trips) : 512 ∣ (k0_mult7 (wd nw) k).toNat := by
  have hk := k_lt hn k; have h0 := nw_pos hn k
  have hd : k.val / nw ≤ k.val := Nat.div_le_self _ _
  have hd' : (k.val + 5) / nw ≤ k.val + 5 := Nat.div_le_self _ _
  simp (disch := omega) only [k0_mult7, ivw, addw, sub5, divw, mulw, toNat_wd]; omega

theorem inb46 {nw : ℕ} (hn : nw ≤ 64) (k : Fin (k0_t2_loop (wd nw)).trips) : ∀ a, k0_off46 (wd nw) k a + S1.size a ≤ S6.size a := by
  have hm := Nat.mod_lt k.val (nw_pos hn k); have hm' := Nat.mod_lt (k.val + 5) (nw_pos hn k)
  rw [off46_eq hn k]; intro a; fin_cases a <;> simp [S1, S6] <;> omega

theorem inb47 {nw : ℕ} (hn : nw ≤ 64) (k : Fin (k0_t2_loop (wd nw)).trips) : ∀ a, k0_off47 (wd nw) k a + S1x2560x512.size a ≤ S6x2560x512.size a := by
  have hm := Nat.mod_lt k.val (nw_pos hn k); have hm' := Nat.mod_lt (k.val + 5) (nw_pos hn k)
  rw [off47_eq hn k]; intro a; fin_cases a <;> simp [S1x2560x512, S6x2560x512] <;> omega

theorem words47 {nw : ℕ} (hn : nw ≤ 64) (k : Fin (k0_t2_loop (wd nw)).trips) (hinb : ∀ a, k0_off47 (wd nw) k a + S1x2560x512.size a ≤ S6x2560x512.size a) :
    (Rect.unit (s := S6x2560x512) (k0_off47 (wd nw) k) S1x2560x512.size hinb).WholeWords (EltTy.packing .fp8e4m3) :=
  Affine.words_rows (by decide) (by rw [off47_eq hn k]; rfl) rfl

theorem inb49 {nw : ℕ} (hn : nw ≤ 64) (k : Fin (k0_t2_loop (wd nw)).trips) : ∀ a, k0_off49 (wd nw) k a + S1.size a ≤ S6.size a := by
  have hm := Nat.mod_lt k.val (nw_pos hn k); have hm' := Nat.mod_lt (k.val + 5) (nw_pos hn k)
  rw [off49_eq hn k]; intro a; fin_cases a <;> simp [S1, S6] <;> omega

theorem inb50 {nw : ℕ} (hn : nw ≤ 64) (k : Fin (k0_t2_loop (wd nw)).trips) : ∀ a, k0_off50 (wd nw) k a + S1x160x512.size a ≤ S6x160x512.size a := by
  have hm := Nat.mod_lt k.val (nw_pos hn k); have hm' := Nat.mod_lt (k.val + 5) (nw_pos hn k)
  rw [off50_eq hn k]; intro a; fin_cases a <;> simp [S1x160x512, S6x160x512] <;> omega

theorem inb52 {nw : ℕ} (hn : nw ≤ 64) (k : Fin (k0_t2_loop (wd nw)).trips) : ∀ a, k0_off52 (wd nw) k a + S1x1.size a ≤ S4x64.size a := by
  have hm := Nat.mod_lt k.val (nw_pos hn k); have hm' := Nat.mod_lt (k.val + 5) (nw_pos hn k)
  rw [off52_eq hn k]; intro a; fin_cases a <;> simp [S1x1, S4x64] <;> omega

theorem mult8 {nw : ℕ} (hn : nw ≤ 64) (k : Fin (k0_t2_loop (wd nw)).trips) : 512 ∣ (k0_mult8 (wd nw) k).toNat := by
  have hk := k_lt hn k; have h0 := nw_pos hn k
  have hd : k.val / nw ≤ k.val := Nat.div_le_self _ _
  have hd' : (k.val + 5) / nw ≤ k.val + 5 := Nat.div_le_self _ _
  simp (disch := omega) only [k0_mult8, ivw, addw, sub5, divw, mulw, toNat_wd]; omega

theorem inb53 {nw : ℕ} (hn : nw ≤ 64) (k : Fin (k0_t2_loop (wd nw)).trips) : ∀ a, k0_off53 (wd nw) k a + S1.size a ≤ S6.size a := by
  have hm := Nat.mod_lt k.val (nw_pos hn k); have hm' := Nat.mod_lt (k.val + 5) (nw_pos hn k)
  rw [off53_eq hn k]; intro a; fin_cases a <;> simp [S1, S6] <;> omega

theorem inb54 {nw : ℕ} (hn : nw ≤ 64) (k : Fin (k0_t2_loop (wd nw)).trips) : ∀ a, k0_off54 (wd nw) k a + S1x2560x512.size a ≤ S6x2560x512.size a := by
  have hm := Nat.mod_lt k.val (nw_pos hn k); have hm' := Nat.mod_lt (k.val + 5) (nw_pos hn k)
  rw [off54_eq hn k]; intro a; fin_cases a <;> simp [S1x2560x512, S6x2560x512] <;> omega

theorem words54 {nw : ℕ} (hn : nw ≤ 64) (k : Fin (k0_t2_loop (wd nw)).trips) (hinb : ∀ a, k0_off54 (wd nw) k a + S1x2560x512.size a ≤ S6x2560x512.size a) :
    (Rect.unit (s := S6x2560x512) (k0_off54 (wd nw) k) S1x2560x512.size hinb).WholeWords (EltTy.packing .fp8e4m3) :=
  Affine.words_rows (by decide) (by rw [off54_eq hn k]; rfl) rfl

theorem inb56 {nw : ℕ} (hn : nw ≤ 64) (k : Fin (k0_t2_loop (wd nw)).trips) : ∀ a, k0_off56 (wd nw) k a + S1.size a ≤ S6.size a := by
  have hm := Nat.mod_lt k.val (nw_pos hn k); have hm' := Nat.mod_lt (k.val + 5) (nw_pos hn k)
  rw [off56_eq hn k]; intro a; fin_cases a <;> simp [S1, S6] <;> omega

theorem inb57 {nw : ℕ} (hn : nw ≤ 64) (k : Fin (k0_t2_loop (wd nw)).trips) : ∀ a, k0_off57 (wd nw) k a + S1x160x512.size a ≤ S6x160x512.size a := by
  have hm := Nat.mod_lt k.val (nw_pos hn k); have hm' := Nat.mod_lt (k.val + 5) (nw_pos hn k)
  rw [off57_eq hn k]; intro a; fin_cases a <;> simp [S1x160x512, S6x160x512] <;> omega

theorem inb60 {nw : ℕ} (hn : nw ≤ 64) (k : Fin (k0_t2_loop (wd nw)).trips) : ∀ a, k0_off60 (wd nw) k a + S1x256x256.size a ≤ S6x2560x512.size a := by
  have hm := Nat.mod_lt k.val (nw_pos hn k); have hm' := Nat.mod_lt (k.val + 5) (nw_pos hn k)
  rw [off60_eq hn k]; intro a; fin_cases a <;> simp [S1x256x256, S6x2560x512] <;> omega

theorem inb61 {nw : ℕ} (hn : nw ≤ 64) (k : Fin (k0_t2_loop (wd nw)).trips) : ∀ a, k0_off61 (wd nw) k a + S1x16x256.size a ≤ S6x160x512.size a := by
  have hm := Nat.mod_lt k.val (nw_pos hn k); have hm' := Nat.mod_lt (k.val + 5) (nw_pos hn k)
  rw [off61_eq hn k]; intro a; fin_cases a <;> simp [S1x16x256, S6x160x512] <;> omega

theorem inb63 {nw : ℕ} (hn : nw ≤ 64) (k : Fin (k0_t2_loop (wd nw)).trips) : ∀ a, k0_off63 (wd nw) k a + S1x256x256.size a ≤ S6x2560x512.size a := by
  have hm := Nat.mod_lt k.val (nw_pos hn k); have hm' := Nat.mod_lt (k.val + 5) (nw_pos hn k)
  rw [off63_eq hn k]; intro a; fin_cases a <;> simp [S1x256x256, S6x2560x512] <;> omega

theorem inb64 {nw : ℕ} (hn : nw ≤ 64) (k : Fin (k0_t2_loop (wd nw)).trips) : ∀ a, k0_off64 (wd nw) k a + S1x16x256.size a ≤ S6x160x512.size a := by
  have hm := Nat.mod_lt k.val (nw_pos hn k); have hm' := Nat.mod_lt (k.val + 5) (nw_pos hn k)
  rw [off64_eq hn k]; intro a; fin_cases a <;> simp [S1x16x256, S6x160x512] <;> omega

theorem inb66 {nw : ℕ} (hn : nw ≤ 64) (k : Fin (k0_t2_loop (wd nw)).trips) : ∀ a, k0_off66 (wd nw) k a + S1x256x256.size a ≤ S6x2560x512.size a := by
  have hm := Nat.mod_lt k.val (nw_pos hn k); have hm' := Nat.mod_lt (k.val + 5) (nw_pos hn k)
  rw [off66_eq hn k]; intro a; fin_cases a <;> simp [S1x256x256, S6x2560x512] <;> omega

theorem inb67 {nw : ℕ} (hn : nw ≤ 64) (k : Fin (k0_t2_loop (wd nw)).trips) : ∀ a, k0_off67 (wd nw) k a + S1x16x256.size a ≤ S6x160x512.size a := by
  have hm := Nat.mod_lt k.val (nw_pos hn k); have hm' := Nat.mod_lt (k.val + 5) (nw_pos hn k)
  rw [off67_eq hn k]; intro a; fin_cases a <;> simp [S1x16x256, S6x160x512] <;> omega

theorem inb69 {nw : ℕ} (hn : nw ≤ 64) (k : Fin (k0_t2_loop (wd nw)).trips) : ∀ a, k0_off69 (wd nw) k a + S1x256x256.size a ≤ S6x2560x512.size a := by
  have hm := Nat.mod_lt k.val (nw_pos hn k); have hm' := Nat.mod_lt (k.val + 5) (nw_pos hn k)
  rw [off69_eq hn k]; intro a; fin_cases a <;> simp [S1x256x256, S6x2560x512] <;> omega

theorem inb70 {nw : ℕ} (hn : nw ≤ 64) (k : Fin (k0_t2_loop (wd nw)).trips) : ∀ a, k0_off70 (wd nw) k a + S1x16x256.size a ≤ S6x160x512.size a := by
  have hm := Nat.mod_lt k.val (nw_pos hn k); have hm' := Nat.mod_lt (k.val + 5) (nw_pos hn k)
  rw [off70_eq hn k]; intro a; fin_cases a <;> simp [S1x16x256, S6x160x512] <;> omega

theorem inb72 {nw : ℕ} (hn : nw ≤ 64) (k : Fin (k0_t2_loop (wd nw)).trips) : ∀ a, k0_off72 (wd nw) k a + S1x256x256.size a ≤ S6x2560x512.size a := by
  have hm := Nat.mod_lt k.val (nw_pos hn k); have hm' := Nat.mod_lt (k.val + 5) (nw_pos hn k)
  rw [off72_eq hn k]; intro a; fin_cases a <;> simp [S1x256x256, S6x2560x512] <;> omega

theorem inb73 {nw : ℕ} (hn : nw ≤ 64) (k : Fin (k0_t2_loop (wd nw)).trips) : ∀ a, k0_off73 (wd nw) k a + S1x16x256.size a ≤ S6x160x512.size a := by
  have hm := Nat.mod_lt k.val (nw_pos hn k); have hm' := Nat.mod_lt (k.val + 5) (nw_pos hn k)
  rw [off73_eq hn k]; intro a; fin_cases a <;> simp [S1x16x256, S6x160x512] <;> omega

theorem inb75 {nw : ℕ} (hn : nw ≤ 64) (k : Fin (k0_t2_loop (wd nw)).trips) : ∀ a, k0_off75 (wd nw) k a + S1x256x256.size a ≤ S6x2560x512.size a := by
  have hm := Nat.mod_lt k.val (nw_pos hn k); have hm' := Nat.mod_lt (k.val + 5) (nw_pos hn k)
  rw [off75_eq hn k]; intro a; fin_cases a <;> simp [S1x256x256, S6x2560x512] <;> omega

theorem inb76 {nw : ℕ} (hn : nw ≤ 64) (k : Fin (k0_t2_loop (wd nw)).trips) : ∀ a, k0_off76 (wd nw) k a + S1x16x256.size a ≤ S6x160x512.size a := by
  have hm := Nat.mod_lt k.val (nw_pos hn k); have hm' := Nat.mod_lt (k.val + 5) (nw_pos hn k)
  rw [off76_eq hn k]; intro a; fin_cases a <;> simp [S1x16x256, S6x160x512] <;> omega

theorem inb78 {nw : ℕ} (hn : nw ≤ 64) (k : Fin (k0_t2_loop (wd nw)).trips) : ∀ a, k0_off78 (wd nw) k a + S1x256x256.size a ≤ S6x2560x512.size a := by
  have hm := Nat.mod_lt k.val (nw_pos hn k); have hm' := Nat.mod_lt (k.val + 5) (nw_pos hn k)
  rw [off78_eq hn k]; intro a; fin_cases a <;> simp [S1x256x256, S6x2560x512] <;> omega

theorem inb79 {nw : ℕ} (hn : nw ≤ 64) (k : Fin (k0_t2_loop (wd nw)).trips) : ∀ a, k0_off79 (wd nw) k a + S1x16x256.size a ≤ S6x160x512.size a := by
  have hm := Nat.mod_lt k.val (nw_pos hn k); have hm' := Nat.mod_lt (k.val + 5) (nw_pos hn k)
  rw [off79_eq hn k]; intro a; fin_cases a <;> simp [S1x16x256, S6x160x512] <;> omega

theorem inb81 {nw : ℕ} (hn : nw ≤ 64) (k : Fin (k0_t2_loop (wd nw)).trips) : ∀ a, k0_off81 (wd nw) k a + S1x256x256.size a ≤ S6x2560x512.size a := by
  have hm := Nat.mod_lt k.val (nw_pos hn k); have hm' := Nat.mod_lt (k.val + 5) (nw_pos hn k)
  rw [off81_eq hn k]; intro a; fin_cases a <;> simp [S1x256x256, S6x2560x512] <;> omega

theorem inb82 {nw : ℕ} (hn : nw ≤ 64) (k : Fin (k0_t2_loop (wd nw)).trips) : ∀ a, k0_off82 (wd nw) k a + S1x16x256.size a ≤ S6x160x512.size a := by
  have hm := Nat.mod_lt k.val (nw_pos hn k); have hm' := Nat.mod_lt (k.val + 5) (nw_pos hn k)
  rw [off82_eq hn k]; intro a; fin_cases a <;> simp [S1x16x256, S6x160x512] <;> omega

theorem inb84 {nw : ℕ} (hn : nw ≤ 64) (k : Fin (k0_t2_loop (wd nw)).trips) : ∀ a, k0_off84 (wd nw) k a + S1x256x256.size a ≤ S6x2560x512.size a := by
  have hm := Nat.mod_lt k.val (nw_pos hn k); have hm' := Nat.mod_lt (k.val + 5) (nw_pos hn k)
  rw [off84_eq hn k]; intro a; fin_cases a <;> simp [S1x256x256, S6x2560x512] <;> omega

theorem inb85 {nw : ℕ} (hn : nw ≤ 64) (k : Fin (k0_t2_loop (wd nw)).trips) : ∀ a, k0_off85 (wd nw) k a + S1x16x256.size a ≤ S6x160x512.size a := by
  have hm := Nat.mod_lt k.val (nw_pos hn k); have hm' := Nat.mod_lt (k.val + 5) (nw_pos hn k)
  rw [off85_eq hn k]; intro a; fin_cases a <;> simp [S1x16x256, S6x160x512] <;> omega

theorem inb87 {nw : ℕ} (hn : nw ≤ 64) (k : Fin (k0_t2_loop (wd nw)).trips) : ∀ a, k0_off87 (wd nw) k a + S1x256x256.size a ≤ S6x2560x512.size a := by
  have hm := Nat.mod_lt k.val (nw_pos hn k); have hm' := Nat.mod_lt (k.val + 5) (nw_pos hn k)
  rw [off87_eq hn k]; intro a; fin_cases a <;> simp [S1x256x256, S6x2560x512] <;> omega

theorem inb88 {nw : ℕ} (hn : nw ≤ 64) (k : Fin (k0_t2_loop (wd nw)).trips) : ∀ a, k0_off88 (wd nw) k a + S1x16x256.size a ≤ S6x160x512.size a := by
  have hm := Nat.mod_lt k.val (nw_pos hn k); have hm' := Nat.mod_lt (k.val + 5) (nw_pos hn k)
  rw [off88_eq hn k]; intro a; fin_cases a <;> simp [S1x16x256, S6x160x512] <;> omega

theorem mult9 {nw : ℕ} (hn : nw ≤ 64) (k : Fin (k0_t2_loop (wd nw)).trips) : 256 ∣ (k0_mult9 (wd nw) k).toNat := by
  have hk := k_lt hn k; have h0 := nw_pos hn k
  have hd : k.val / nw ≤ k.val := Nat.div_le_self _ _
  have hd' : (k.val + 5) / nw ≤ k.val + 5 := Nat.div_le_self _ _
  simp (disch := omega) only [k0_mult9, ivw, addw, sub5, divw, mulw, toNat_wd]; omega

theorem inb92 {nw : ℕ} (hn : nw ≤ 64) (k : Fin (k0_t2_loop (wd nw)).trips) : ∀ a, k0_off92 (wd nw) k a + S1x256x256.size a ≤ S6x2560x512.size a := by
  have hm := Nat.mod_lt k.val (nw_pos hn k); have hm' := Nat.mod_lt (k.val + 5) (nw_pos hn k)
  rw [off92_eq hn k]; intro a; fin_cases a <;> simp [S1x256x256, S6x2560x512] <;> omega

theorem inb93 {nw : ℕ} (hn : nw ≤ 64) (k : Fin (k0_t2_loop (wd nw)).trips) : ∀ a, k0_off93 (wd nw) k a + S1x16x256.size a ≤ S6x160x512.size a := by
  have hm := Nat.mod_lt k.val (nw_pos hn k); have hm' := Nat.mod_lt (k.val + 5) (nw_pos hn k)
  rw [off93_eq hn k]; intro a; fin_cases a <;> simp [S1x16x256, S6x160x512] <;> omega

theorem inb95 {nw : ℕ} (hn : nw ≤ 64) (k : Fin (k0_t2_loop (wd nw)).trips) : ∀ a, k0_off95 (wd nw) k a + S1x256x256.size a ≤ S6x2560x512.size a := by
  have hm := Nat.mod_lt k.val (nw_pos hn k); have hm' := Nat.mod_lt (k.val + 5) (nw_pos hn k)
  rw [off95_eq hn k]; intro a; fin_cases a <;> simp [S1x256x256, S6x2560x512] <;> omega

theorem inb96 {nw : ℕ} (hn : nw ≤ 64) (k : Fin (k0_t2_loop (wd nw)).trips) : ∀ a, k0_off96 (wd nw) k a + S1x16x256.size a ≤ S6x160x512.size a := by
  have hm := Nat.mod_lt k.val (nw_pos hn k); have hm' := Nat.mod_lt (k.val + 5) (nw_pos hn k)
  rw [off96_eq hn k]; intro a; fin_cases a <;> simp [S1x16x256, S6x160x512] <;> omega

theorem inb98 {nw : ℕ} (hn : nw ≤ 64) (k : Fin (k0_t2_loop (wd nw)).trips) : ∀ a, k0_off98 (wd nw) k a + S1x256x256.size a ≤ S6x2560x512.size a := by
  have hm := Nat.mod_lt k.val (nw_pos hn k); have hm' := Nat.mod_lt (k.val + 5) (nw_pos hn k)
  rw [off98_eq hn k]; intro a; fin_cases a <;> simp [S1x256x256, S6x2560x512] <;> omega

theorem inb99 {nw : ℕ} (hn : nw ≤ 64) (k : Fin (k0_t2_loop (wd nw)).trips) : ∀ a, k0_off99 (wd nw) k a + S1x16x256.size a ≤ S6x160x512.size a := by
  have hm := Nat.mod_lt k.val (nw_pos hn k); have hm' := Nat.mod_lt (k.val + 5) (nw_pos hn k)
  rw [off99_eq hn k]; intro a; fin_cases a <;> simp [S1x16x256, S6x160x512] <;> omega

theorem inb101 {nw : ℕ} (hn : nw ≤ 64) (k : Fin (k0_t2_loop (wd nw)).trips) : ∀ a, k0_off101 (wd nw) k a + S1x256x256.size a ≤ S6x2560x512.size a := by
  have hm := Nat.mod_lt k.val (nw_pos hn k); have hm' := Nat.mod_lt (k.val + 5) (nw_pos hn k)
  rw [off101_eq hn k]; intro a; fin_cases a <;> simp [S1x256x256, S6x2560x512] <;> omega

theorem inb102 {nw : ℕ} (hn : nw ≤ 64) (k : Fin (k0_t2_loop (wd nw)).trips) : ∀ a, k0_off102 (wd nw) k a + S1x16x256.size a ≤ S6x160x512.size a := by
  have hm := Nat.mod_lt k.val (nw_pos hn k); have hm' := Nat.mod_lt (k.val + 5) (nw_pos hn k)
  rw [off102_eq hn k]; intro a; fin_cases a <;> simp [S1x16x256, S6x160x512] <;> omega

theorem inb104 {nw : ℕ} (hn : nw ≤ 64) (k : Fin (k0_t2_loop (wd nw)).trips) : ∀ a, k0_off104 (wd nw) k a + S1x256x256.size a ≤ S6x2560x512.size a := by
  have hm := Nat.mod_lt k.val (nw_pos hn k); have hm' := Nat.mod_lt (k.val + 5) (nw_pos hn k)
  rw [off104_eq hn k]; intro a; fin_cases a <;> simp [S1x256x256, S6x2560x512] <;> omega

theorem inb105 {nw : ℕ} (hn : nw ≤ 64) (k : Fin (k0_t2_loop (wd nw)).trips) : ∀ a, k0_off105 (wd nw) k a + S1x16x256.size a ≤ S6x160x512.size a := by
  have hm := Nat.mod_lt k.val (nw_pos hn k); have hm' := Nat.mod_lt (k.val + 5) (nw_pos hn k)
  rw [off105_eq hn k]; intro a; fin_cases a <;> simp [S1x16x256, S6x160x512] <;> omega

theorem inb107 {nw : ℕ} (hn : nw ≤ 64) (k : Fin (k0_t2_loop (wd nw)).trips) : ∀ a, k0_off107 (wd nw) k a + S1x256x256.size a ≤ S6x2560x512.size a := by
  have hm := Nat.mod_lt k.val (nw_pos hn k); have hm' := Nat.mod_lt (k.val + 5) (nw_pos hn k)
  rw [off107_eq hn k]; intro a; fin_cases a <;> simp [S1x256x256, S6x2560x512] <;> omega

theorem inb108 {nw : ℕ} (hn : nw ≤ 64) (k : Fin (k0_t2_loop (wd nw)).trips) : ∀ a, k0_off108 (wd nw) k a + S1x16x256.size a ≤ S6x160x512.size a := by
  have hm := Nat.mod_lt k.val (nw_pos hn k); have hm' := Nat.mod_lt (k.val + 5) (nw_pos hn k)
  rw [off108_eq hn k]; intro a; fin_cases a <;> simp [S1x16x256, S6x160x512] <;> omega

theorem inb110 {nw : ℕ} (hn : nw ≤ 64) (k : Fin (k0_t2_loop (wd nw)).trips) : ∀ a, k0_off110 (wd nw) k a + S1x256x256.size a ≤ S6x2560x512.size a := by
  have hm := Nat.mod_lt k.val (nw_pos hn k); have hm' := Nat.mod_lt (k.val + 5) (nw_pos hn k)
  rw [off110_eq hn k]; intro a; fin_cases a <;> simp [S1x256x256, S6x2560x512] <;> omega

theorem inb111 {nw : ℕ} (hn : nw ≤ 64) (k : Fin (k0_t2_loop (wd nw)).trips) : ∀ a, k0_off111 (wd nw) k a + S1x16x256.size a ≤ S6x160x512.size a := by
  have hm := Nat.mod_lt k.val (nw_pos hn k); have hm' := Nat.mod_lt (k.val + 5) (nw_pos hn k)
  rw [off111_eq hn k]; intro a; fin_cases a <;> simp [S1x16x256, S6x160x512] <;> omega

theorem inb113 {nw : ℕ} (hn : nw ≤ 64) (k : Fin (k0_t2_loop (wd nw)).trips) : ∀ a, k0_off113 (wd nw) k a + S1x256x256.size a ≤ S6x2560x512.size a := by
  have hm := Nat.mod_lt k.val (nw_pos hn k); have hm' := Nat.mod_lt (k.val + 5) (nw_pos hn k)
  rw [off113_eq hn k]; intro a; fin_cases a <;> simp [S1x256x256, S6x2560x512] <;> omega

theorem inb114 {nw : ℕ} (hn : nw ≤ 64) (k : Fin (k0_t2_loop (wd nw)).trips) : ∀ a, k0_off114 (wd nw) k a + S1x16x256.size a ≤ S6x160x512.size a := by
  have hm := Nat.mod_lt k.val (nw_pos hn k); have hm' := Nat.mod_lt (k.val + 5) (nw_pos hn k)
  rw [off114_eq hn k]; intro a; fin_cases a <;> simp [S1x16x256, S6x160x512] <;> omega

theorem inb116 {nw : ℕ} (hn : nw ≤ 64) (k : Fin (k0_t2_loop (wd nw)).trips) : ∀ a, k0_off116 (wd nw) k a + S1x256x256.size a ≤ S6x2560x512.size a := by
  have hm := Nat.mod_lt k.val (nw_pos hn k); have hm' := Nat.mod_lt (k.val + 5) (nw_pos hn k)
  rw [off116_eq hn k]; intro a; fin_cases a <;> simp [S1x256x256, S6x2560x512] <;> omega

theorem inb117 {nw : ℕ} (hn : nw ≤ 64) (k : Fin (k0_t2_loop (wd nw)).trips) : ∀ a, k0_off117 (wd nw) k a + S1x16x256.size a ≤ S6x160x512.size a := by
  have hm := Nat.mod_lt k.val (nw_pos hn k); have hm' := Nat.mod_lt (k.val + 5) (nw_pos hn k)
  rw [off117_eq hn k]; intro a; fin_cases a <;> simp [S1x16x256, S6x160x512] <;> omega

theorem inb119 {nw : ℕ} (hn : nw ≤ 64) (k : Fin (k0_t2_loop (wd nw)).trips) : ∀ a, k0_off119 (wd nw) k a + S1x256x256.size a ≤ S6x2560x512.size a := by
  have hm := Nat.mod_lt k.val (nw_pos hn k); have hm' := Nat.mod_lt (k.val + 5) (nw_pos hn k)
  rw [off119_eq hn k]; intro a; fin_cases a <;> simp [S1x256x256, S6x2560x512] <;> omega

theorem inb120 {nw : ℕ} (hn : nw ≤ 64) (k : Fin (k0_t2_loop (wd nw)).trips) : ∀ a, k0_off120 (wd nw) k a + S1x16x256.size a ≤ S6x160x512.size a := by
  have hm := Nat.mod_lt k.val (nw_pos hn k); have hm' := Nat.mod_lt (k.val + 5) (nw_pos hn k)
  rw [off120_eq hn k]; intro a; fin_cases a <;> simp [S1x16x256, S6x160x512] <;> omega

theorem mult10 {nw : ℕ} (hn : nw ≤ 64) (k : Fin (k0_t2_loop (wd nw)).trips) : 256 ∣ (k0_mult10 (wd nw) k).toNat := by
  have hk := k_lt hn k; have h0 := nw_pos hn k
  have hd : k.val / nw ≤ k.val := Nat.div_le_self _ _
  have hd' : (k.val + 5) / nw ≤ k.val + 5 := Nat.div_le_self _ _
  simp (disch := omega) only [k0_mult10, ivw, addw, sub5, divw, mulw, toNat_wd]; omega

theorem chk2_0 {nw : ℕ} (hn : nw ≤ 64) : k0_chk2_0 (wd nw) :=
  ⟨fun hc => inb6 (cpos (cond1_iff hn) hc) hn,
   fun hc => mult1 (cpos (cond1_iff hn) hc) hn,
   fun hc => inb13 (cpos (cond2_iff hn) hc) hn,
   fun hc => mult2 (cpos (cond2_iff hn) hc) hn,
   fun hc => inb20 (cpos (cond3_iff hn) hc) hn,
   fun hc => mult3 (cpos (cond3_iff hn) hc) hn,
   fun hc => inb27 (cpos (cond4_iff hn) hc) hn,
   fun hc => mult4 (cpos (cond4_iff hn) hc) hn,
   fun hc => inb34 (cpos (cond5_iff hn) hc) hn,
   fun hc => mult5 (cpos (cond5_iff hn) hc) hn,
   t2_ok hn,
   fun k => inb41 hn k,
   fun k => inb42 hn k,
   fun k => inb43 hn k,
   fun k => inb44 hn k,
   fun k hc => inb45 hn k,
   fun k hc => mult7 hn k,
   fun k hc => inb46 hn k,
   fun k hc => inb47 hn k,
   fun k hc hinb => words47 hn k hinb,
   fun k hc => inb49 hn k,
   fun k hc => inb50 hn k,
   fun k => inb52 hn k,
   fun k => mult8 hn k,
   fun k => inb53 hn k,
   fun k => inb54 hn k,
   fun k hinb => words54 hn k hinb,
   fun k => inb56 hn k,
   fun k => inb57 hn k,
   fun k => inb60 hn k,
   fun k => inb61 hn k,
   fun k => inb63 hn k⟩

theorem chk2_1 {nw : ℕ} (hn : nw ≤ 64) : k0_chk2_1 (wd nw) :=
  ⟨fun k => inb64 hn k,
   fun k => inb66 hn k,
   fun k => inb67 hn k,
   fun k => inb69 hn k,
   fun k => inb70 hn k,
   fun k => inb72 hn k,
   fun k => inb73 hn k,
   fun k => inb75 hn k,
   fun k => inb76 hn k,
   fun k => inb78 hn k,
   fun k => inb79 hn k,
   fun k => inb81 hn k,
   fun k => inb82 hn k,
   fun k => inb84 hn k,
   fun k => inb85 hn k,
   fun k => inb87 hn k,
   fun k => inb88 hn k,
   fun k => mult9 hn k,
   fun k => inb92 hn k,
   fun k => inb93 hn k,
   fun k => inb95 hn k,
   fun k => inb96 hn k,
   fun k => inb98 hn k,
   fun k => inb99 hn k,
   fun k => inb101 hn k,
   fun k => inb102 hn k,
   fun k => inb104 hn k,
   fun k => inb105 hn k,
   fun k => inb107 hn k,
   fun k => inb108 hn k,
   fun k => inb110 hn k,
   fun k => inb111 hn k⟩

theorem chk2_2 {nw : ℕ} (hn : nw ≤ 64) : k0_chk2_2 (wd nw) :=
  ⟨fun k => inb113 hn k,
   fun k => inb114 hn k,
   fun k => inb116 hn k,
   fun k => inb117 hn k,
   fun k => inb119 hn k,
   fun k => inb120 hn k,
   fun k => mult10 hn k,
   t3_ok hn,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim⟩

theorem chk2_3 {nw : ℕ} (hn : nw ≤ 64) : k0_chk2_3 (wd nw) :=
  ⟨fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim⟩

theorem chk2_4 {nw : ℕ} (hn : nw ≤ 64) : k0_chk2_4 (wd nw) :=
  ⟨fun k => (no_t3 hn k).elim,
   fun k => (no_t3 hn k).elim,
   fun k => (no_t3 hn k).elim,
   fun k => (no_t3 hn k).elim⟩

theorem chk2 {nw : ℕ} (hn : nw ≤ 64) : k0_chk2 (wd nw) :=
  ⟨chk2_0 hn, chk2_1 hn, chk2_2 hn, chk2_3 hn, chk2_4 hn⟩

/-! ### What the kernel checks of the words it reads -/

/-- A copy out of the weights of expert `e < 21` lies inside them: the five copies before the loop, -/
theorem chk3 {nw : ℕ} (hn : nw ≤ 64) {w : BitVec 32} (hw : w.toNat < 21) : k0_chk3 (wd nw) w := by
  refine ⟨fun hc => ?_, fun hc hinb => ?_, fun hc => ?_⟩ <;> have h0 := cpos (cond1_iff hn) hc <;>
    have hc := (cond1_iff hn).mp hc <;>
    have hd : 0 / nw < 6 := Nat.div_lt_of_lt_mul (by omega)
  · rw [off9_eq h0 hn]; intro a; fin_cases a <;> simp [S1x2560x512, S21x2560x3072] <;> omega
  · exact Affine.words_rows (by decide) (by rw [off9_eq h0 hn]; rfl) rfl
  · rw [off12_eq h0 hn]; intro a; fin_cases a <;> simp [S1x160x512, S21x160x3072] <;> omega

theorem chk4 {nw : ℕ} (hn : nw ≤ 64) {w : BitVec 32} (hw : w.toNat < 21) : k0_chk4 (wd nw) w := by
  refine ⟨fun hc => ?_, fun hc hinb => ?_, fun hc => ?_⟩ <;> have h0 := cpos (cond2_iff hn) hc <;>
    have hc := (cond2_iff hn).mp hc <;>
    have hd : 1 / nw < 6 := Nat.div_lt_of_lt_mul (by omega)
  · rw [off16_eq h0 hn]; intro a; fin_cases a <;> simp [S1x2560x512, S21x2560x3072] <;> omega
  · exact Affine.words_rows (by decide) (by rw [off16_eq h0 hn]; rfl) rfl
  · rw [off19_eq h0 hn]; intro a; fin_cases a <;> simp [S1x160x512, S21x160x3072] <;> omega

theorem chk5 {nw : ℕ} (hn : nw ≤ 64) {w : BitVec 32} (hw : w.toNat < 21) : k0_chk5 (wd nw) w := by
  refine ⟨fun hc => ?_, fun hc hinb => ?_, fun hc => ?_⟩ <;> have h0 := cpos (cond3_iff hn) hc <;>
    have hc := (cond3_iff hn).mp hc <;>
    have hd : 2 / nw < 6 := Nat.div_lt_of_lt_mul (by omega)
  · rw [off23_eq h0 hn]; intro a; fin_cases a <;> simp [S1x2560x512, S21x2560x3072] <;> omega
  · exact Affine.words_rows (by decide) (by rw [off23_eq h0 hn]; rfl) rfl
  · rw [off26_eq h0 hn]; intro a; fin_cases a <;> simp [S1x160x512, S21x160x3072] <;> omega

theorem chk6 {nw : ℕ} (hn : nw ≤ 64) {w : BitVec 32} (hw : w.toNat < 21) : k0_chk6 (wd nw) w := by
  refine ⟨fun hc => ?_, fun hc hinb => ?_, fun hc => ?_⟩ <;> have h0 := cpos (cond4_iff hn) hc <;>
    have hc := (cond4_iff hn).mp hc <;>
    have hd : 3 / nw < 6 := Nat.div_lt_of_lt_mul (by omega)
  · rw [off30_eq h0 hn]; intro a; fin_cases a <;> simp [S1x2560x512, S21x2560x3072] <;> omega
  · exact Affine.words_rows (by decide) (by rw [off30_eq h0 hn]; rfl) rfl
  · rw [off33_eq h0 hn]; intro a; fin_cases a <;> simp [S1x160x512, S21x160x3072] <;> omega

theorem chk7 {nw : ℕ} (hn : nw ≤ 64) {w : BitVec 32} (hw : w.toNat < 21) : k0_chk7 (wd nw) w := by
  refine ⟨fun hc => ?_, fun hc hinb => ?_, fun hc => ?_⟩ <;> have h0 := cpos (cond5_iff hn) hc <;>
    have hc := (cond5_iff hn).mp hc <;>
    have hd : 4 / nw < 6 := Nat.div_lt_of_lt_mul (by omega)
  · rw [off37_eq h0 hn]; intro a; fin_cases a <;> simp [S1x2560x512, S21x2560x3072] <;> omega
  · exact Affine.words_rows (by decide) (by rw [off37_eq h0 hn]; rfl) rfl
  · rw [off40_eq h0 hn]; intro a; fin_cases a <;> simp [S1x160x512, S21x160x3072] <;> omega

/-- the copy that step `k` starts, -/
theorem chk9 {nw : ℕ} (hn : nw ≤ 64) (k : Fin (k0_t2_loop (wd nw)).trips) {w : BitVec 32} (hw : w.toNat < 21) : k0_chk9 (wd nw) k w := by
  have h0 := nw_pos hn k
  refine ⟨fun hc => ?_, fun hc hinb => ?_, fun hc => ?_⟩ <;> have hc := (cond6_iff hn k).mp hc <;>
    have hd : (k.val + 5) / nw < 6 := Nat.div_lt_of_lt_mul (by rw [Nat.mul_comm]; omega)
  · rw [off48_eq hn k]; intro a; fin_cases a <;> simp [S1x2560x512, S21x2560x3072] <;> omega
  · exact Affine.words_rows (by decide) (by rw [off48_eq hn k]; rfl) rfl
  · rw [off51_eq hn k]; intro a; fin_cases a <;> simp [S1x160x512, S21x160x3072] <;> omega

theorem slab_lt {nw : ℕ} (hn : nw ≤ 64) (k : Fin (k0_t2_loop (wd nw)).trips) : k.val / nw < 6 :=
  Nat.div_lt_of_lt_mul (by have := k_lt hn k; rw [Nat.mul_comm]; omega)

/-- and the copy that step `k` waits for. -/
theorem chk10 {nw : ℕ} (hn : nw ≤ 64) (k : Fin (k0_t2_loop (wd nw)).trips) {w : BitVec 32} (hw : w.toNat < 21) : k0_chk10 (wd nw) k w := by
  have hd := slab_lt hn k
  refine ⟨?_, fun hinb => ?_, ?_⟩
  · rw [off55_eq hn k]; intro a; fin_cases a <;> simp [S1x2560x512, S21x2560x3072] <;> omega
  · exact Affine.words_rows (by decide) (by rw [off55_eq hn k]; rfl) rfl
  · rw [off58_eq hn k]; intro a; fin_cases a <;> simp [S1x160x512, S21x160x3072] <;> omega

/-- The scales of expert `e < 21` lie inside the table. -/
theorem chk11 {nw : ℕ} (hn : nw ≤ 64) (k : Fin (k0_t2_loop (wd nw)).trips) {w : BitVec 32} (hw : w.toNat < 21) : k0_chk11 (wd nw) k w := by
  have hd := slab_lt hn k
  intro r
  rw [show BitVec.ofNat 32 (256 * r.val) = wd (256 * r.val) from rfl, off90_eq hn k w _ (by omega)]
  intro a; fin_cases a <;> simp [S1x256, S21x3072] <;> omega

theorem chk8 {nw : ℕ} (hn : nw ≤ 64) (k : Fin (k0_t2_loop (wd nw)).trips) {w : BitVec 32} (hw : w.toNat ≤ 128) (h32 : 32 ∣ w.toNat) :
    k0_chk8 (wd nw) k w := by
  have hd := slab_lt hn k
  refine ⟨?_, ?_, ?_, ?_, ?_, ?_, ?_, ?_, ?_, ?_, ?_, ?_, fun r => ?_, fun r hinb => ?_, ?_, ?_, ?_, ?_, ?_, ?_, ?_, ?_, ?_, ?_⟩
  · simpa [k0_mult6] using h32
  · rw [off59_eq]; intro a; fin_cases a <;> simp [S128x128, S256x128] <;> omega
  · rw [off62_eq]; intro a; fin_cases a <;> simp [S128x256, S256x2560] <;> omega
  · rw [off65_eq]; intro a; fin_cases a <;> simp [S128x256, S256x2560] <;> omega
  · rw [off68_eq]; intro a; fin_cases a <;> simp [S128x256, S256x2560] <;> omega
  · rw [off71_eq]; intro a; fin_cases a <;> simp [S128x256, S256x2560] <;> omega
  · rw [off74_eq]; intro a; fin_cases a <;> simp [S128x256, S256x2560] <;> omega
  · rw [off77_eq]; intro a; fin_cases a <;> simp [S128x256, S256x2560] <;> omega
  · rw [off80_eq]; intro a; fin_cases a <;> simp [S128x256, S256x2560] <;> omega
  · rw [off83_eq]; intro a; fin_cases a <;> simp [S128x256, S256x2560] <;> omega
  · rw [off86_eq]; intro a; fin_cases a <;> simp [S128x256, S256x2560] <;> omega
  · rw [off89_eq]; intro a; fin_cases a <;> simp [S128x256, S256x2560] <;> omega
  · rw [show BitVec.ofNat 32 (256 * r.val) = wd (256 * r.val) from rfl, off91_eq hn k w _ (by omega)]
    intro a; fin_cases a <;> simp [S128x256, S256x3072] <;> omega
  · refine Affine.packed_dvd (by decide) ?_ (by decide)
    rw [show BitVec.ofNat 32 (256 * r.val) = wd (256 * r.val) from rfl, off91_eq hn k w _ (by omega)]
    exact (Dvd.intro 16 rfl : (2 : ℕ) ∣ 32).trans h32
  · rw [off94_eq]; intro a; fin_cases a <;> simp [S128x256, S256x2560] <;> omega
  · rw [off97_eq]; intro a; fin_cases a <;> simp [S128x256, S256x2560] <;> omega
  · rw [off100_eq]; intro a; fin_cases a <;> simp [S128x256, S256x2560] <;> omega
  · rw [off103_eq]; intro a; fin_cases a <;> simp [S128x256, S256x2560] <;> omega
  · rw [off106_eq]; intro a; fin_cases a <;> simp [S128x256, S256x2560] <;> omega
  · rw [off109_eq]; intro a; fin_cases a <;> simp [S128x256, S256x2560] <;> omega
  · rw [off112_eq]; intro a; fin_cases a <;> simp [S128x256, S256x2560] <;> omega
  · rw [off115_eq]; intro a; fin_cases a <;> simp [S128x256, S256x2560] <;> omega
  · rw [off118_eq]; intro a; fin_cases a <;> simp [S128x256, S256x2560] <;> omega
  · rw [off121_eq]; intro a; fin_cases a <;> simp [S128x256, S256x2560] <;> omega

/-- The work list holds the column `c < 64`. -/
theorem chk1 {c : ℕ} (hc : c < 64) : k0_chk1 (wd c) := by
  refine ⟨?_, ?_, ?_, ?_⟩ <;> intro a <;> fin_cases a <;>
    simp (disch := omega) [k0_off2, k0_off3, k0_off4, k0_off5, Scalar.indexCast, S1x1, S4x64, toNat_wd] <;> omega

end Cert.Kernel.Hand

end
-- ==== Proof.Work.lean ====
/-
  The work list. The kernel walks the groups in order and writes, for each window of rows that a group needs, one column of
  a table of words: the group, the first row that is loaded, and the rows of the window that belong to the group. Here: what
  the table holds (`Listed`), the loop that writes one group's columns, and the loop over the groups.
-/
module

public import proofs.«01_k».proof.Proof.Words
public import proofs.«01_k».proof.Proof.Gen.Kernel.Skeleton
public import proofs.«01_k».proof.Proof.Gen.Kernel.Loops
public import Idealize.ShloMosaic.Lib.Tactic
public import Idealize.ShloMosaic.Lib.Transfers
public import Idealize.ShloMosaic.Lib.WritesUnit
public import Idealize.ShloMosaic.Lib.Pipeline.Frame

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-- The calls of the loop over a group's windows descend in the number of windows still to list. -/
abbrev 𝒱₀ : Variants := Variants.nat

/-- The table of words, as a buffer's contents. -/
abbrev Tab : Type := (cc0_scratch4 : Ref sig .tc).ty.Contents (Elt F)

local notation "𝕋" => Tab (F := F)

/-! The kernel's operands: the windows' staging buffers, the two arrays left in place, and the scratch buffers. -/

abbrev gsM : Memref sig .tc .smem S21 .i32 := Memref.whole cc0_stg0_0
abbrev xsM : Memref sig .tc .vmem S1x256 .f32 := Memref.whole cc0_stg1_0
abbrev wsM : Memref sig .tc .vmem S21x3072 .f32 := Memref.whole cc0_stg2_0
abbrev xM : Memref sig .tc .vmem S256x5120 .fp8e4m3 := Memref.whole cc0_stg3_0
abbrev wvM : Memref sig .tc .hbm S21x2560x3072 .fp8e4m3 := Memref.whole main_arg3
abbrev wmM : Memref sig .tc .hbm S21x160x3072 .i32 := Memref.whole main_arg4
abbrev yM : Memref sig .tc .vmem S256x3072 .bf16 := Memref.whole cc0_stg4_0
abbrev xaM : Memref sig .tc .vmem S256x2560 .fp8e4m3 := Memref.whole cc0_scratch0
abbrev xbM : Memref sig .tc .vmem S256x2560 .fp8e4m3 := Memref.whole cc0_scratch1
abbrev xcM : Memref sig .tc .vmem S256x2560 .fp8e4m3 := Memref.whole cc0_scratch2
abbrev sbM : Memref sig .tc .vmem S256x128 .f32 := Memref.whole cc0_scratch3
abbrev vbM : Memref sig .tc .vmem S6x2560x512 .fp8e4m3 := Memref.whole cc0_scratch5
abbrev mbM : Memref sig .tc .vmem S6x160x512 .i32 := Memref.whole cc0_scratch6
theorem wh (b : Ref sig .tc) : (Memref.whole b).IsWhole := Memref.isWhole_whole b

abbrev tabM : Memref sig .tc .smem S4x64 .i32 := Memref.whole cc0_scratch4

/-- Row `r` of the table holds the word `w` in column `i`. -/
def HasWord (T : 𝕋) (r i : ℕ) (w : BitVec 32) : Prop :=
  ∀ y : S4x64.Idx, (y 0).val = r → (y 1).val = i → tabM.view.read (Elt F) T y = w

/-- Column `i` of the table lists the window that begins at row `b` for the group `e`, whose rows are `[S e, S (e + 1))`:
    the group, the first row loaded, and the rows `[max (S e) b, min (S (e + 1)) (b + 128))` that the window treats. -/
structure Item (S : ℕ → ℕ) (T : 𝕋) (i e b : ℕ) : Prop where
  he : e < 21
  h32 : 32 ∣ b
  hb : b < S (e + 1)
  w0 : HasWord T 0 i (wd e)
  w1 : HasWord T 1 i (wd (min b 128))
  w2 : HasWord T 2 i (wd (max (S e) b))
  w3 : HasWord T 3 i (wd (min (S (e + 1)) (b + 128)))

/-- The table's first `nw` columns list windows, and every row below `R` is treated by one of them. -/
structure Listed (S : ℕ → ℕ) (T : 𝕋) (nw : ℕ) (R : ℕ → Prop) : Prop where
  items : ∀ i < nw, ∃ e b, Item S T i e b
  cover : ∀ r, R r → ∃ i < nw, ∃ e b, Item S T i e b ∧ S e ≤ r ∧ b ≤ r ∧ r < S (e + 1) ∧ r < b + 128

theorem HasWord.load {T : 𝕋} {r i : ℕ} {w : BitVec 32} (h : HasWord T r i w) {off : Fin 2 → ℕ} (ho : off = ![r, i])
    (inb : ∀ a, off a + S1x1.size a ≤ S4x64.size a) (y : (Rect.unit (s := S4x64) off S1x1.size inb).shape.Idx) :
    View.readAt (Elt F) tabM.view (Rect.unit (s := S4x64) off S1x1.size inb).toLoadRect T y = w := by
  subst ho
  refine h ((Rect.unit (s := S4x64) ![r, i] S1x1.size inb).emb y) ?_ ?_
  · have := (y 0).isLt
    show r + 1 * (y 0).val = r
    have h1 : (y 0).val < 1 := this
    omega
  · have := (y 1).isLt
    show i + 1 * (y 1).val = i
    have h1 : (y 1).val < 1 := this
    omega

theorem HasWord.hit {T : 𝕋} {L : List (View.Piece (Elt F) S4x64 .i32)} {r i : ℕ} {w : BitVec 32} {off : Fin 2 → ℕ} (ho : off = ![r, i])
    (inb : ∀ a, off a + S1x1.size a ≤ S4x64.size a) :
    HasWord (F := F) (tabM.view.writes (Elt F) T (⟨Rect.unit (s := S4x64) off S1x1.size inb, fun _ => w⟩ :: L)) r i w := by
  intro y h0 h1
  refine (View.read_writes_cons_unit tabM.view T inb (fun _ => w) L y ho).trans (dif_pos fun a => ?_)
  fin_cases a
  · show r ≤ (y 0).val ∧ (y 0).val < r + 1; omega
  · show i ≤ (y 1).val ∧ (y 1).val < i + 1; omega

theorem HasWord.miss {T : 𝕋} {L : List (View.Piece (Elt F) S4x64 .i32)} {r i r' i' : ℕ} {w w' : BitVec 32} {off : Fin 2 → ℕ} (ho : off = ![r', i'])
    (inb : ∀ a, off a + S1x1.size a ≤ S4x64.size a) (hne : r ≠ r' ∨ i ≠ i')
    (h : HasWord (F := F) (tabM.view.writes (Elt F) T L) r i w) :
    HasWord (F := F) (tabM.view.writes (Elt F) T (⟨Rect.unit (s := S4x64) off S1x1.size inb, fun _ => w'⟩ :: L)) r i w := by
  intro y h0 h1
  refine (View.read_writes_cons_unit tabM.view T inb (fun _ => w') L y ho).trans ((dif_neg fun hh => ?_).trans (h y h0 h1))
  have h2 : r' ≤ (y 0).val ∧ (y 0).val < r' + 1 := hh 0
  have h3 : i' ≤ (y 1).val ∧ (y 1).val < i' + 1 := hh 1
  omega

/-- The table after one column is written. -/
abbrev put (T : 𝕋) (i : ℕ) (hi : k0_chk1 (wd i)) (w0 w1 w2 w3 : BitVec 32) : 𝕋 :=
  tabM.view.writes (Elt F) T [⟨Rect.unit (s := S4x64) (k0_off5 (wd i)) S1x1.size (k0_off5_inb _ hi), fun _ => w3⟩,
    ⟨Rect.unit (s := S4x64) (k0_off4 (wd i)) S1x1.size (k0_off4_inb _ hi), fun _ => w2⟩,
    ⟨Rect.unit (s := S4x64) (k0_off3 (wd i)) S1x1.size (k0_off3_inb _ hi), fun _ => w1⟩,
    ⟨Rect.unit (s := S4x64) (k0_off2 (wd i)) S1x1.size (k0_off2_inb _ hi), fun _ => w0⟩]

theorem offp {i : ℕ} (hi : i < 64) : k0_off2 (wd i) = ![0, i] ∧ k0_off3 (wd i) = ![1, i] ∧ k0_off4 (wd i) = ![2, i] ∧ k0_off5 (wd i) = ![3, i] := by
  refine ⟨?_, ?_, ?_, ?_⟩ <;> simp (disch := omega) [k0_off2, k0_off3, k0_off4, k0_off5, Scalar.indexCast, toNat_wd] <;> omega

theorem put_keeps {T : 𝕋} {i : ℕ} (hi : i < 64) (hc : k0_chk1 (wd i)) {w0 w1 w2 w3 : BitVec 32} {r j : ℕ} {w : BitVec 32} (hj : j ≠ i)
    (h : HasWord T r j w) : HasWord (put T i hc w0 w1 w2 w3) r j w := by
  obtain ⟨h0, h1, h2, h3⟩ := offp hi
  exact .miss h3 _ (.inr hj) (.miss h2 _ (.inr hj) (.miss h1 _ (.inr hj) (.miss h0 _ (.inr hj) h)))

theorem Item.put {S : ℕ → ℕ} {T : 𝕋} {i : ℕ} (hi : i < 64) (hc : k0_chk1 (wd i)) {w0 w1 w2 w3 : BitVec 32} {j e b : ℕ} (hj : j ≠ i)
    (h : Item S T j e b) : Item S (put T i hc w0 w1 w2 w3) j e b :=
  ⟨h.he, h.h32, h.hb, put_keeps hi hc hj h.w0, put_keeps hi hc hj h.w1, put_keeps hi hc hj h.w2, put_keeps hi hc hj h.w3⟩

theorem Item.new {S : ℕ → ℕ} {T : 𝕋} {i : ℕ} (hi : i < 64) (hc : k0_chk1 (wd i)) {e b : ℕ} (he : e < 21) (h32 : 32 ∣ b)
    (hb : b < S (e + 1)) :
    Item S (Hand.put T i hc (wd e) (wd (min b 128)) (wd (max (S e) b)) (wd (min (S (e + 1)) (b + 128)))) i e b := by
  obtain ⟨h0, h1, h2, h3⟩ := offp hi
  exact ⟨he, h32, hb, .miss h3 _ (.inl (by omega)) (.miss h2 _ (.inl (by omega)) (.miss h1 _ (.inl (by omega)) (.hit h0 _))),
    .miss h3 _ (.inl (by omega)) (.miss h2 _ (.inl (by omega)) (.hit h1 _)), .miss h3 _ (.inl (by omega)) (.hit h2 _), .hit h3 _⟩

/-- One more window listed: the rows it treats are covered too. -/
theorem Listed.push {S : ℕ → ℕ} {T : 𝕋} {nw e b : ℕ} (hi : nw < 64) (hc : k0_chk1 (wd nw)) (he : e < 21) (h32 : 32 ∣ b)
    (hb : b < S (e + 1)) (h : Listed S T nw fun r => r < S e ∨ (r < S (e + 1) ∧ r < b)) :
    Listed S (Hand.put T nw hc (wd e) (wd (min b 128)) (wd (max (S e) b)) (wd (min (S (e + 1)) (b + 128)))) (nw + 1)
      fun r => r < S e ∨ (r < S (e + 1) ∧ r < b + 128) := by
  refine ⟨fun i hi' => ?_, fun r hr => ?_⟩
  · rcases Nat.lt_succ_iff_lt_or_eq.mp hi' with hlt | rfl
    · obtain ⟨e', b', hI⟩ := h.items i hlt
      exact ⟨e', b', hI.put hi hc (by omega)⟩
    · exact ⟨e, b, .new hi hc he h32 hb⟩
  · by_cases hr' : r < S e ∨ (r < S (e + 1) ∧ r < b)
    · obtain ⟨i, hlt, e', b', hI, h'⟩ := h.cover r hr'
      exact ⟨i, by omega, e', b', hI.put hi hc (by omega), h'⟩
    · exact ⟨nw, by omega, e, b, .new hi hc he h32 hb, by omega, by omega, by omega, by omega⟩

/-! ### The loop over one group's windows -/

variable (c : Dev nD) (S : ℕ → ℕ)

/-- From the table at `T` with the windows of the groups before `e` and those of `e` below row `b` listed, the loop returns with
    every window of `e` listed. -/
def spec (e n nw b : ℕ) (T : 𝕋) : sWPT 𝕄 (BitVec 32 × BitVec 32) := do
  sWPT.consume (tabM.view.loc (c : Thread nD τ) ↦{fullShare} T)
  let r ← sWPT.arbitrary (X := ℕ × BitVec 32 × 𝕋)
  sWPT.assume (r.1 ≤ nw + n ∧ Listed S r.2.2 r.1 fun x => x < S (e + 1))
  sWPT.produce (tabM.view.loc (c : Thread nD τ) ↦{fullShare} r.2.2)
  pure (wd r.1, r.2.1)

theorem spec_apply (e n nw b : ℕ) (T : 𝕋) (K : BitVec 32 × BitVec 32 → sProp 𝕄) :
    spec c S e n nw b T K
      = iprop((tabM.view.loc (c : Thread nD τ) ↦{fullShare} T) ∗ ∀ r : ℕ × BitVec 32 × 𝕋,
          ⌜r.1 ≤ nw + n ∧ Listed S r.2.2 r.1 fun x => x < S (e + 1)⌝ -∗ ((tabM.view.loc (c : Thread nD τ) ↦{fullShare} r.2.2) -∗ K (wd r.1, r.2.1))) := rfl

theorem iv1 (e : Fin k0_t1_loop.trips) : Scf.iv 0#32 1#32 e = wd e.val := ivw _

theorem t1_trips : k0_t1_loop.trips = 21 := by decide

/-- The loop's body meets that, by induction on the windows still to list. -/
theorem spec_le (E : Set ℕ) (e : Fin k0_t1_loop.trips) (hS : S e.val ≤ S (e.val + 1)) (hS' : S (e.val + 1) ≤ 256) :
    ∀ n nw b (T : 𝕋), nw + n ≤ 64 → S (e.val + 1) ≤ b + 128 * n → b ≤ 512 → (b < S (e.val + 1) → 32 ∣ b) →
      (Listed S T nw fun r => r < S e.val ∨ (r < S (e.val + 1) ∧ r < b)) → ∀ K, spec c S e.val n nw b T K
      ⊢ wp frame (wpE (defs₀ (F := F)) 𝒱₀ (c : Thread nD τ) (some n)) E
          (defs₀ (F := F) .tc 1 ⟨e, wd (S (e.val + 1)), tabM, Memref.isWhole_whole _, wd (S e.val), wd nw, wd b⟩) K := by
  have he : e.val < 21 := lt_of_lt_of_eq e.isLt t1_trips
  intro n
  induction n with
  | zero =>
    intro nw b T hn hb hb' h32 hL K
    rw [spec_apply]
    show _ ⊢ wp frame (wpE (defs₀ (F := F)) 𝒱₀ (c : Thread nD τ) (some 0)) E
      (cc0_while1 e (wd (S (e.val + 1))) tabM (Memref.isWhole_whole _) (wd (S e.val)) (wd nw) (wd b)) K
    simp only [cc0_while1_eq_skeleton]; unfold cc0_while1_skel
    have htest : ¬Scalar.cmpi .slt (wd b) (wd (S (e.val + 1))) = 1#1 := by rw [sltw (by omega) (by omega)]; omega
    simp only [htest, ↓reduceIte, Prog.pure_eq_ret]
    iintro ⟨H, Hk⟩
    rw [wp_ret]; imodintro
    iapply Hk $$ %(nw, wd b, T)
    · ipureintro; exact ⟨by omega, hL.items, fun r hr => hL.cover r (by omega)⟩
    · iexact H
  | succ n ih =>
    intro nw b T hn hb hb' h32 hL K
    show _ ⊢ wp frame (wpE (defs₀ (F := F)) 𝒱₀ (c : Thread nD τ) (some (n + 1))) E
      (cc0_while1 e (wd (S (e.val + 1))) tabM (Memref.isWhole_whole _) (wd (S e.val)) (wd nw) (wd b)) K
    simp only [cc0_while1_eq_skeleton]; unfold cc0_while1_skel
    by_cases hlt : b < S (e.val + 1)
    · have htest : Scalar.cmpi .slt (wd b) (wd (S (e.val + 1))) = 1#1 := by rw [sltw (by omega) (by omega)]; omega
      have hc : k0_chk1 (wd nw) := chk1 (by omega)
      simp only [htest, ↓reduceIte]
      rw [spec_apply]
      iintro ⟨H, Hk⟩
      sl_exec
      have e1 : Scalar.addi (wd nw) 1#32 = wd (nw + 1) := addw nw 1
      have e2 : Scalar.addi (wd b) 128#32 = wd (b + 128) := addw b 128
      have e3 : Scalar.minsi (wd b) 128#32 = wd (min b 128) := minw (by omega) (by omega)
      have e4 : Scalar.maxsi (wd (S e.val)) (wd b) = wd (max (S e.val) b) := maxw (by omega) (by omega)
      have e5 : Scalar.minsi (wd (S (e.val + 1))) (wd (b + 128)) = wd (min (S (e.val + 1)) (b + 128)) := minw (by omega) (by omega)
      have hL' := hL.push (by omega) hc he (h32 hlt) hlt
      rw [← e3, ← e4, ← e5, ← iv1] at hL'
      rw [e2, e1]
      iapply (wp_call_spec 𝒱₀ (c : Thread nD τ) (some (n + 1)) E (spec c S e.val n (nw + 1) (b + 128)
          (put T nw hc (Scf.iv 0#32 1#32 e) (Scalar.minsi (wd b) 128#32) (Scalar.maxsi (wd (S e.val)) (wd b))
            (Scalar.minsi (wd (S (e.val + 1))) (wd (b + 128))))) n
        (fun u hu => by cases hu; exact Nat.lt_succ_self n)
        (ih (nw + 1) (b + 128) _ (by omega) (by omega) (by omega) (fun _ => (h32 hlt).add (by decide)) hL'))
      rw [spec_apply]
      isplitl [H]
      · iexact H
      iintro %r %hr H
      rw [wp_ret]; imodintro
      iapply Hk
      · ipureintro; exact ⟨by omega, hr.2⟩
      · iexact H
    · have htest : ¬Scalar.cmpi .slt (wd b) (wd (S (e.val + 1))) = 1#1 := by rw [sltw (by omega) (by omega)]; omega
      simp only [htest, ↓reduceIte, Prog.pure_eq_ret]
      rw [spec_apply]
      iintro ⟨H, Hk⟩
      rw [wp_ret]; imodintro
      iapply Hk $$ %(nw, wd b, T)
      · ipureintro; exact ⟨by omega, hL.items, fun r hr => hL.cover r (by omega)⟩
      · iexact H

/-! ### The loop over the groups -/

/-- The groups' sizes as the kernel is handed them: `S k` is the number of rows of the first `k` groups. -/
structure Groups (fg : (cc0_stg0_0 : Ref sig .tc).ty.Contents (Elt F)) (S : ℕ → ℕ) : Prop where
  zero : S 0 = 0
  mono : ∀ k < 21, S k ≤ S (k + 1)
  le : ∀ k ≤ 21, S k ≤ 256
  word : ∀ k < 21, ∀ y : S21.Idx, (y 0).val = k → gsM.view.read (Elt F) fg y = wd (S (k + 1) - S k)

theorem Groups.load {fg : (cc0_stg0_0 : Ref sig .tc).ty.Contents (Elt F)} (h : Groups fg S) (k : Fin k0_t1_loop.trips)
    (y : (Rect.unit (s := S21) (k0_off1 k) S1.size (k0_off1_inb k)).shape.Idx) :
    View.readAt (Elt F) gsM.view (Rect.unit (s := S21) (k0_off1 k) S1.size (k0_off1_inb k)).toLoadRect fg y = wd (S (k.val + 1) - S k.val) := by
  refine h.word k.val (lt_of_lt_of_eq k.isLt t1_trips) ((Rect.unit (s := S21) (k0_off1 k) S1.size (k0_off1_inb k)).emb y) ?_
  have h1 : (y 0).val < 1 := (y 0).isLt
  have h2 : k0_off1 k = ![k.val] := by
    have : k.val < 21 := lt_of_lt_of_eq k.isLt t1_trips
    simp (disch := omega) only [k0_off1, Scalar.indexCast, ivw, toNat_wd]
  refine (congrArg (fun f : Fin 1 → ℕ => f 0 + 1 * (y 0).val) h2).trans ?_
  show k.val + 1 * (y 0).val = k.val
  omega

/-- Before group `k` the table lists the windows of the groups before it, and the two carried words are the number of
    windows and of rows so far. -/
def inv1 (fg : (cc0_stg0_0 : Ref sig .tc).ty.Contents (Elt F)) (k : ℕ) (acc : BitVec 32 × BitVec 32) : sProp 𝕄 :=
  iprop((gsM.view.loc (c : Thread nD τ) ↦{fullShare} fg)
    ∗ ∃ T : 𝕋, ∃ nw : ℕ, ⌜nw ≤ 2 * k ∧ acc = (wd nw, wd (S k)) ∧ Listed S T nw fun r => r < S k⌝ ∗ (tabM.view.loc (c : Thread nD τ) ↦{fullShare} T))

theorem step1 (fg : (cc0_stg0_0 : Ref sig .tc).ty.Contents (Elt F)) (hG : Groups fg S) (k : Fin k0_t1_loop.trips) (acc : BitVec 32 × BitVec 32) :
    inv1 c S fg k.val acc ⊢ wp frame (wpE (defs₀ (F := F)) 𝒱₀ (c : Thread nD τ) none) Set.univ
      (k0_t1_body (F := F) gsM (wh _) xsM (wh _) wsM (wh _) xM (wh _) wvM (wh _) wmM (wh _) yM (wh _) xaM (wh _) xbM (wh _) xcM (wh _) sbM (wh _) tabM (wh _) vbM (wh _) mbM (wh _) cc0_scratch7 cc0_scratch8 k acc) (fun acc' => inv1 c S fg (k.val + 1) acc') := by
  have hk : k.val < 21 := lt_of_lt_of_eq k.isLt t1_trips
  have h1 := hG.mono k.val hk
  have h2 := hG.le (k.val + 1) (by omega)
  unfold inv1
  iintro ⟨Hg, %T, %nw, %h, HT⟩
  obtain ⟨hnw, rfl, hL⟩ := h
  unfold k0_t1_body
  sl_exec
  have e1 := hG.load S k (Shape.Idx.first (numel1_S1.symm ▸ Nat.one_pos))
  have e2 : step1.sl.v397 S fg k = wd (S (k.val + 1)) := by
    refine (congrArg (Scalar.addi (wd (S k.val))) e1).trans ?_
    rw [addw]; congr 1; omega
  obtain ⟨b, hb, hb1, hb2, hb3⟩ : ∃ b, step1.sl.v400 S fg k = wd b
      ∧ (b < S (k.val + 1) → 32 ∣ b) ∧ b ≤ S (k.val + 1) ∧ (S k.val < S (k.val + 1) → b ≤ S k.val) := by
    have e3 : step1.sl.v400 S fg k
        = Scalar.select (Scalar.cmpi .sgt (wd (S (k.val + 1) - S k.val)) (wd 0)) (Scalar.andi (wd (S k.val)) 4294967264#32) (wd (S (k.val + 1))) := by
      rw [← e2, ← e1]; rfl
    rw [e3, and32w (by omega)]
    by_cases h0 : S k.val < S (k.val + 1)
    · refine ⟨S k.val / 32 * 32, ?_, fun _ => Nat.dvd_mul_left _ _, by omega, fun _ => Nat.div_mul_le_self _ _⟩
      rw [(sgtw (by omega) (by omega)).mpr (by omega)]; rfl
    · refine ⟨S (k.val + 1), ?_, by omega, by omega, by omega⟩
      have hne : ¬Scalar.cmpi .sgt (wd (S (k.val + 1) - S k.val)) (wd 0) = 1#1 := by rw [sgtw (by omega) (by omega)]; omega
      exact if_neg hne
  rw [hb, e2]
  iapply (wp_call_spec 𝒱₀ (c : Thread nD τ) none Set.univ (spec c S k.val 2 nw b T) 2 (fun u hu => nomatch hu)
    (spec_le c S Set.univ k h1 h2 2 nw b T (by omega) (by omega) (by omega) hb1
      ⟨hL.items, fun r hr => hL.cover r (by omega)⟩))
  rw [spec_apply]
  isplitl [HT]
  · iexact HT
  iintro %r %hr HT
  iapply (Entails.refl : wp frame (wpE (defs₀ (F := F)) 𝒱₀ (c : Thread nD τ) none) Set.univ (Prog.ret (wd r.1, wd (S (k.val + 1)))) _ ⊢ _)
  sl_step
  isplitl [Hg]
  · iexact Hg
  iexists r.2.2; iexists r.1
  isplitr
  · ipureintro; exact ⟨by omega, rfl, hr.2⟩
  iexact HT

/-- The loop over the groups, for a run of the kernel. -/
@[sl_loop, instance_reducible] def loop1 (fg : (cc0_stg0_0 : Ref sig .tc).ty.Contents (Elt F)) (hG : Groups fg S) :
    LoopInvTy_k0_t1 (F := F) Unit ℕ (Pipeline.UD sig nD τ) ℕ 𝒱₀ c none Set.univ gsM (wh _) xsM (wh _) wsM (wh _) xM (wh _) wvM (wh _) wmM (wh _) yM (wh _) xaM (wh _) xbM (wh _) xcM (wh _) sbM (wh _) tabM (wh _) vbM (wh _) mbM (wh _) cc0_scratch7 cc0_scratch8 (0#32, 0#32) where
  inv := inv1 c S fg
  step := step1 c S fg hG

end Cert.Kernel.Hand

end
-- ==== Proof.Ring.lean ====
/-
  The two rings of copies. The kernel keeps six slots of packed values and six slots of the words that say where the values
  belong; while it works on one step it copies the blocks of the following steps. Here: what a slot holds when no copy fills it,
  what it holds while one does, which slots are being filled before a step, and the part of a step that starts the copy of a
  later step and waits for its own.
-/
module

public import proofs.«01_k».proof.Proof.Work
public import Idealize.ShloMosaic.Lib.Ring
public import Idealize.ShloMosaic.Lib.Tactic.Stretches

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD)

theorem cell_inb (k : Fin 6) : ∀ a, (![k.val] : Fin 1 → ℕ) a + S1.size a ≤ S6.size a := by
  have := k.isLt; intro a; fin_cases a
  show k.val + 1 ≤ 6; omega

/-! ### The ring of packed values -/

/-- Slot `o` of the ring, -/
abbrev vslotAt (o : Fin 3 → ℕ) (h : ∀ a, o a + S1x2560x512.size a ≤ S6x2560x512.size a) : Memref sig .tc .vmem S2560x512 .fp8e4m3 :=
  (vbM.slice (Rect.unit (s := S6x2560x512) o S1x2560x512.size h) (fun _ => rfl)).squeeze S2560x512 squeezes_S1x2560x512_S2560x512
/-- the block at `o` of the array it is filled from, -/
abbrev vsrcAt (o : Fin 3 → ℕ) (h : ∀ a, o a + S1x2560x512.size a ≤ S21x2560x3072.size a) : Memref sig .tc .hbm S2560x512 .fp8e4m3 :=
  (wvM.slice (Rect.unit (s := S21x2560x3072) o S1x2560x512.size h) (fun _ => rfl)).squeeze S2560x512 squeezes_S1x2560x512_S2560x512
/-- its semaphore, -/
abbrev vcellAt (o : Fin 1 → ℕ) (h : ∀ a, o a + S1.size a ≤ S6.size a) : SemLoc sig :=
  SemLoc.dma ((cc0_scratch7.slice (Rect.unit (s := S6) o S1.size h)).squeeze S_ squeezes_S1_S_).sem
/-- and the share of the array that it reads. -/
abbrev vtok (k : Fin 6) (A : Finset (Idx (wvM.view.loc (c : Thread nD τ)))) (fa : Buf (Elt F) (wvM.view.loc (c : Thread nD τ))) : sProp 𝕄 :=
  wvM.view.loc (c : Thread nD τ) ↦[A]{Transfers.shareTok fullShare 6 k} fa

/-- A slot that no copy fills. -/
abbrev vFreeAt (k : Fin 6) (fa : Buf (Elt F) (wvM.view.loc (c : Thread nD τ))) (o : Fin 3 → ℕ) (h : ∀ a, o a + S1x2560x512.size a ≤ S6x2560x512.size a) (s : Fin 1 → ℕ) (hs : ∀ a, s a + S1.size a ≤ S6.size a) : sProp 𝕄 :=
  iprop(semVal ((c : Thread nD τ), vcellAt s hs) 0
    ∗ (∃ f, (vslotAt o h).view.loc (c : Thread nD τ) ↦[(vslotAt o h).view.set]{fullShare} f) ∗ vtok c k Finset.univ fa)

/-- A slot that a copy of the block at `q` fills. -/
abbrev vFlyAt (k : Fin 6) (fa : Buf (Elt F) (wvM.view.loc (c : Thread nD τ))) (o : Fin 3 → ℕ) (h : ∀ a, o a + S1x2560x512.size a ≤ S6x2560x512.size a) (s : Fin 1 → ℕ) (hs : ∀ a, s a + S1.size a ≤ S6.size a) (q : Fin 3 → ℕ) (hq : ∀ a, q a + S1x2560x512.size a ≤ S21x2560x3072.size a) : sProp 𝕄 :=
  iprop((∃ f, Transfers.Flight (countersEmb (U := Pipeline.UD sig nD τ)) (c : Thread nD τ) (vcellAt s hs) () 40960
            iprop(((vslotAt o h).view.loc (c : Thread nD τ) ↦[(vslotAt o h).view.set]{fullShare}
                    (vslotAt o h).view.writes (Elt F) f [⟨Rect.whole S2560x512, ReadAs.same.apply ((vsrcAt q hq).view.read (Elt F) fa)⟩])
              ∗ vtok c k (vsrcAt q hq).view.set fa))
    ∗ vtok c k (Finset.univ \ (vsrcAt q hq).view.set) fa)

theorem vFreeAt_eq (k : Fin 6) (fa : Buf (Elt F) (wvM.view.loc (c : Thread nD τ))) {o o' : Fin 3 → ℕ} (eo : o = o') (h h') {s s' : Fin 1 → ℕ} (es : s = s') (hs hs') :
    vFreeAt c k fa o h s hs = vFreeAt c k fa o' h' s' hs' := by subst eo; subst es; rfl

theorem vFlyAt_eq (k : Fin 6) (fa : Buf (Elt F) (wvM.view.loc (c : Thread nD τ))) {o o' : Fin 3 → ℕ} (eo : o = o') (h h') {s s' : Fin 1 → ℕ} (es : s = s') (hs hs')
    {q q' : Fin 3 → ℕ} (eq : q = q') (hq hq') : vFlyAt c k fa o h s hs q hq = vFlyAt c k fa o' h' s' hs' q' hq' := by subst eo; subst es; subst eq; rfl

theorem vslot_inb (k : Fin 6) : ∀ a, (![k.val, 0, 0] : Fin 3 → ℕ) a + S1x2560x512.size a ≤ S6x2560x512.size a := by
  have := k.isLt; intro a; fin_cases a
  · show k.val + 1 ≤ 6; omega
  · show 0 + 2560 ≤ 2560; omega
  · show 0 + 512 ≤ 512; omega

theorem vsrc_inb (e : Fin 21) (d : Fin 6) : ∀ a, (![e.val, 0, d.val * 512] : Fin 3 → ℕ) a + S1x2560x512.size a ≤ S21x2560x3072.size a := by
  have := e.isLt; have := d.isLt; intro a; fin_cases a
  · show e.val + 1 ≤ 21; omega
  · show 0 + 2560 ≤ 2560; omega
  · show d.val * 512 + 512 ≤ 3072; omega

/-- Slot `k`: free, or being filled with slab `d` of group `e`. -/
def vSlot (fa : Buf (Elt F) (wvM.view.loc (c : Thread nD τ))) (k : Fin 6) : Option (Fin 21 × Fin 6) → sProp 𝕄
  | none => vFreeAt c k fa ![k.val, 0, 0] (vslot_inb k) ![k.val] (cell_inb k)
  | some x => vFlyAt c k fa ![k.val, 0, 0] (vslot_inb k) ![k.val] (cell_inb k) ![x.1.val, 0, x.2.val * 512] (vsrc_inb x.1 x.2)

theorem vSlot_none (fa : Buf (Elt F) (wvM.view.loc (c : Thread nD τ))) (k : Fin 6) :
    vSlot c fa k none = vFreeAt c k fa ![k.val, 0, 0] (vslot_inb k) ![k.val] (cell_inb k) := rfl

theorem vSlot_some (fa : Buf (Elt F) (wvM.view.loc (c : Thread nD τ))) (k : Fin 6) (x : Fin 21 × Fin 6) :
    vSlot c fa k (some x) = vFlyAt c k fa ![k.val, 0, 0] (vslot_inb k) ![k.val] (cell_inb k) ![x.1.val, 0, x.2.val * 512] (vsrc_inb x.1 x.2) := rfl

/-! ### The ring of position words -/

/-- Slot `o` of the ring, -/
abbrev mslotAt (o : Fin 3 → ℕ) (h : ∀ a, o a + S1x160x512.size a ≤ S6x160x512.size a) : Memref sig .tc .vmem S160x512 .i32 :=
  (mbM.slice (Rect.unit (s := S6x160x512) o S1x160x512.size h) (fun _ => rfl)).squeeze S160x512 squeezes_S1x160x512_S160x512
/-- the block at `o` of the array it is filled from, -/
abbrev msrcAt (o : Fin 3 → ℕ) (h : ∀ a, o a + S1x160x512.size a ≤ S21x160x3072.size a) : Memref sig .tc .hbm S160x512 .i32 :=
  (wmM.slice (Rect.unit (s := S21x160x3072) o S1x160x512.size h) (fun _ => rfl)).squeeze S160x512 squeezes_S1x160x512_S160x512
/-- its semaphore, -/
abbrev mcellAt (o : Fin 1 → ℕ) (h : ∀ a, o a + S1.size a ≤ S6.size a) : SemLoc sig :=
  SemLoc.dma ((cc0_scratch8.slice (Rect.unit (s := S6) o S1.size h)).squeeze S_ squeezes_S1_S_).sem
/-- and the share of the array that it reads. -/
abbrev mtok (k : Fin 6) (A : Finset (Idx (wmM.view.loc (c : Thread nD τ)))) (fa : Buf (Elt F) (wmM.view.loc (c : Thread nD τ))) : sProp 𝕄 :=
  wmM.view.loc (c : Thread nD τ) ↦[A]{Transfers.shareTok fullShare 6 k} fa

/-- A slot that no copy fills. -/
abbrev mFreeAt (k : Fin 6) (fa : Buf (Elt F) (wmM.view.loc (c : Thread nD τ))) (o : Fin 3 → ℕ) (h : ∀ a, o a + S1x160x512.size a ≤ S6x160x512.size a) (s : Fin 1 → ℕ) (hs : ∀ a, s a + S1.size a ≤ S6.size a) : sProp 𝕄 :=
  iprop(semVal ((c : Thread nD τ), mcellAt s hs) 0
    ∗ (∃ f, (mslotAt o h).view.loc (c : Thread nD τ) ↦[(mslotAt o h).view.set]{fullShare} f) ∗ mtok c k Finset.univ fa)

/-- A slot that a copy of the block at `q` fills. -/
abbrev mFlyAt (k : Fin 6) (fa : Buf (Elt F) (wmM.view.loc (c : Thread nD τ))) (o : Fin 3 → ℕ) (h : ∀ a, o a + S1x160x512.size a ≤ S6x160x512.size a) (s : Fin 1 → ℕ) (hs : ∀ a, s a + S1.size a ≤ S6.size a) (q : Fin 3 → ℕ) (hq : ∀ a, q a + S1x160x512.size a ≤ S21x160x3072.size a) : sProp 𝕄 :=
  iprop((∃ f, Transfers.Flight (countersEmb (U := Pipeline.UD sig nD τ)) (c : Thread nD τ) (mcellAt s hs) () 10240
            iprop(((mslotAt o h).view.loc (c : Thread nD τ) ↦[(mslotAt o h).view.set]{fullShare}
                    (mslotAt o h).view.writes (Elt F) f [⟨Rect.whole S160x512, ReadAs.same.apply ((msrcAt q hq).view.read (Elt F) fa)⟩])
              ∗ mtok c k (msrcAt q hq).view.set fa))
    ∗ mtok c k (Finset.univ \ (msrcAt q hq).view.set) fa)

theorem mFreeAt_eq (k : Fin 6) (fa : Buf (Elt F) (wmM.view.loc (c : Thread nD τ))) {o o' : Fin 3 → ℕ} (eo : o = o') (h h') {s s' : Fin 1 → ℕ} (es : s = s') (hs hs') :
    mFreeAt c k fa o h s hs = mFreeAt c k fa o' h' s' hs' := by subst eo; subst es; rfl

theorem mFlyAt_eq (k : Fin 6) (fa : Buf (Elt F) (wmM.view.loc (c : Thread nD τ))) {o o' : Fin 3 → ℕ} (eo : o = o') (h h') {s s' : Fin 1 → ℕ} (es : s = s') (hs hs')
    {q q' : Fin 3 → ℕ} (eq : q = q') (hq hq') : mFlyAt c k fa o h s hs q hq = mFlyAt c k fa o' h' s' hs' q' hq' := by subst eo; subst es; subst eq; rfl

theorem mslot_inb (k : Fin 6) : ∀ a, (![k.val, 0, 0] : Fin 3 → ℕ) a + S1x160x512.size a ≤ S6x160x512.size a := by
  have := k.isLt; intro a; fin_cases a
  · show k.val + 1 ≤ 6; omega
  · show 0 + 160 ≤ 160; omega
  · show 0 + 512 ≤ 512; omega

theorem msrc_inb (e : Fin 21) (d : Fin 6) : ∀ a, (![e.val, 0, d.val * 512] : Fin 3 → ℕ) a + S1x160x512.size a ≤ S21x160x3072.size a := by
  have := e.isLt; have := d.isLt; intro a; fin_cases a
  · show e.val + 1 ≤ 21; omega
  · show 0 + 160 ≤ 160; omega
  · show d.val * 512 + 512 ≤ 3072; omega

/-- Slot `k`: free, or being filled with slab `d` of group `e`. -/
def mSlot (fa : Buf (Elt F) (wmM.view.loc (c : Thread nD τ))) (k : Fin 6) : Option (Fin 21 × Fin 6) → sProp 𝕄
  | none => mFreeAt c k fa ![k.val, 0, 0] (mslot_inb k) ![k.val] (cell_inb k)
  | some x => mFlyAt c k fa ![k.val, 0, 0] (mslot_inb k) ![k.val] (cell_inb k) ![x.1.val, 0, x.2.val * 512] (msrc_inb x.1 x.2)

theorem mSlot_none (fa : Buf (Elt F) (wmM.view.loc (c : Thread nD τ))) (k : Fin 6) :
    mSlot c fa k none = mFreeAt c k fa ![k.val, 0, 0] (mslot_inb k) ![k.val] (cell_inb k) := rfl

theorem mSlot_some (fa : Buf (Elt F) (wmM.view.loc (c : Thread nD τ))) (k : Fin 6) (x : Fin 21 × Fin 6) :
    mSlot c fa k (some x) = mFlyAt c k fa ![k.val, 0, 0] (mslot_inb k) ![k.val] (cell_inb k) ![x.1.val, 0, x.2.val * 512] (msrc_inb x.1 x.2) := rfl

/-- The slots that are being filled before step `t`, `n` steps ahead: step `u` in slot `u % 6`, with slab `u / nw` of the group
    of window `u % nw`. -/
def stU (nw : ℕ) (e : ℕ → Fin 21) (n u : ℕ) : Option (Fin 21 × Fin 6) :=
  if u < n ∧ u < 6 * nw then some (e (u % nw), ⟨u / nw % 6, Nat.mod_lt _ (by decide)⟩) else none

@[inherit_doc stU] def stN (nw : ℕ) (e : ℕ → Fin 21) (t n : ℕ) (j : Fin 6) : Option (Fin 21 × Fin 6) :=
  stU nw e (t + n) (t + (j.val + 6 - t % 6) % 6)

theorem stN_next (nw : ℕ) (e : ℕ → Fin 21) {t n : ℕ} (hn : n ≤ 5) (j : Fin 6) (hj : j.val = (t + n) % 6) :
    stN nw e t n j = none := by
  unfold stN stU
  rw [if_neg]
  omega

theorem stN_start (nw : ℕ) (e : ℕ → Fin 21) {t n : ℕ} (hn : n ≤ 5) (h : t + n < 6 * nw) (j : Fin 6) (hj : j.val = (t + n) % 6)
    (d : Fin 6) (hd : d.val = (t + n) / nw) :
    stN nw e t (n + 1) = Function.update (stN nw e t n) j (some (e ((t + n) % nw), d)) := by
  have hlt : (t + n) / nw < 6 := Nat.div_lt_of_lt_mul (by rw [Nat.mul_comm]; exact h)
  funext i
  by_cases hi : i = j
  · subst hi
    have e1 : t + (i.val + 6 - t % 6) % 6 = t + n := by omega
    rw [Function.update_self]
    unfold stN
    rw [e1]; unfold stU; rw [if_pos ⟨by omega, h⟩]
    congr 2
    exact Fin.ext ((Nat.mod_eq_of_lt hlt).trans hd.symm)
  · rw [Function.update_of_ne hi]
    have hne : i.val ≠ j.val := fun h => hi (Fin.ext h)
    unfold stN
    have e1 : (t + (i.val + 6 - t % 6) % 6 < t + (n + 1)) ↔ (t + (i.val + 6 - t % 6) % 6 < t + n) := by
      have := i.isLt; omega
    unfold stU; simp only [e1]

theorem stN_last (nw : ℕ) (e : ℕ → Fin 21) {t n : ℕ} (h : 6 * nw ≤ t + n) : stN nw e t (n + 1) = stN nw e t n := by
  funext i
  unfold stN stU
  have e1 : (t + (i.val + 6 - t % 6) % 6 < t + (n + 1) ∧ t + (i.val + 6 - t % 6) % 6 < 6 * nw)
      ↔ (t + (i.val + 6 - t % 6) % 6 < t + n ∧ t + (i.val + 6 - t % 6) % 6 < 6 * nw) := by omega
  simp only [e1]

theorem stN_own (nw : ℕ) (e : ℕ → Fin 21) {t : ℕ} (h : t < 6 * nw) (j : Fin 6) (hj : j.val = t % 6) (d : Fin 6) (hd : d.val = t / nw) :
    stN nw e t 6 j = some (e (t % nw), d) := by
  have hlt : t / nw < 6 := Nat.div_lt_of_lt_mul (by rw [Nat.mul_comm]; exact h)
  have e1 : t + (j.val + 6 - t % 6) % 6 = t := by omega
  unfold stN
  rw [e1]; unfold stU; rw [if_pos ⟨by omega, h⟩]
  congr 2
  exact Fin.ext ((Nat.mod_eq_of_lt hlt).trans hd.symm)

theorem stN_done (nw : ℕ) (e : ℕ → Fin 21) {t : ℕ} (j : Fin 6) (hj : j.val = t % 6) :
    stN nw e (t + 1) 5 = Function.update (stN nw e t 6) j none := by
  funext i
  by_cases hi : i = j
  · subst hi
    rw [Function.update_self]
    unfold stN stU
    rw [if_neg]; omega
  · rw [Function.update_of_ne hi]
    have hne : i.val ≠ j.val := fun h => hi (Fin.ext h)
    unfold stN
    have e1 : t + 1 + (i.val + 6 - (t + 1) % 6) % 6 = t + (i.val + 6 - t % 6) % 6 := by have := i.isLt; omega
    rw [e1]

theorem stN_zero (nw : ℕ) (e : ℕ → Fin 21) (j : Fin 6) : stN nw e 0 0 j = none := by
  unfold stN stU; rw [if_neg]; omega

theorem stN_end (nw : ℕ) (e : ℕ → Fin 21) (j : Fin 6) : stN nw e (6 * nw) 5 j = none := by
  unfold stN stU; rw [if_neg]; omega

theorem stN_nil (e : ℕ → Fin 21) (n : ℕ) (j : Fin 6) : stN 0 e 0 n j = none := by
  unfold stN stU; rw [if_neg]; omega

/-- The slot of step `t`. -/
abbrev slotOf (t : ℕ) : Fin 6 := ⟨t % 6, Nat.mod_lt _ (by decide)⟩

/-- A copy just started, put back into the ring. -/
theorem v_fold {nw : ℕ} (e : ℕ → Fin 21) (fa : Buf (Elt F) (wvM.view.loc (c : Thread nD τ))) {t n : ℕ} (hn : n ≤ 5) (h : t + n < 6 * nw)
    {o : Fin 3 → ℕ} (ho) {s : Fin 1 → ℕ} (hs) {q : Fin 3 → ℕ} (hq) (eo : o = ![(t + n) % 6, 0, 0]) (es : s = ![(t + n) % 6])
    (eq : q = ![(e ((t + n) % nw)).val, 0, (t + n) / nw * 512]) :
    iprop(vFlyAt c (slotOf (t + n)) fa o ho s hs q hq ∗ Ring.restW (vSlot c fa) (stN nw e t n) (slotOf (t + n)))
      ⊢ Ring.AtW (vSlot c fa) (stN nw e t (n + 1)) := by
  have hlt : (t + n) / nw < 6 := Nat.div_lt_of_lt_mul (by rw [Nat.mul_comm]; exact h)
  rw [stN_start nw e hn h (slotOf (t + n)) rfl ⟨(t + n) / nw, hlt⟩ rfl,
    vFlyAt_eq c _ fa eo ho (vslot_inb (slotOf (t + n))) es hs (cell_inb (slotOf (t + n))) eq hq (vsrc_inb (e ((t + n) % nw)) ⟨(t + n) / nw, hlt⟩)]
  exact Ring.AtW_update (vSlot c fa) (stN nw e t n) (slotOf (t + n)) (some (e ((t + n) % nw), ⟨(t + n) / nw, hlt⟩))

/-- The copy of the step's own values, taken out of the ring. -/
theorem v_own {nw : ℕ} (e : ℕ → Fin 21) (fa : Buf (Elt F) (wvM.view.loc (c : Thread nD τ))) {t : ℕ} (h : t < 6 * nw)
    {o : Fin 3 → ℕ} (ho) {s : Fin 1 → ℕ} (hs) {q : Fin 3 → ℕ} (hq) (eo : o = ![t % 6, 0, 0]) (es : s = ![t % 6])
    (eq : q = ![(e (t % nw)).val, 0, t / nw * 512]) :
    Ring.AtW (vSlot c fa) (stN nw e t 6)
      ⊢ iprop(vFlyAt c (slotOf t) fa o ho s hs q hq ∗ Ring.restW (vSlot c fa) (stN nw e t 6) (slotOf t)) := by
  have hlt : t / nw < 6 := Nat.div_lt_of_lt_mul (by rw [Nat.mul_comm]; exact h)
  rw [vFlyAt_eq c _ fa eo ho (vslot_inb (slotOf t)) es hs (cell_inb (slotOf t)) eq hq (vsrc_inb (e (t % nw)) ⟨t / nw, hlt⟩),
    Ring.AtW_focus (vSlot c fa) _ (slotOf t), stN_own nw e h (slotOf t) rfl ⟨t / nw, hlt⟩ rfl]
  exact .rfl

/-- The slot of the step, free again, put back into the ring. -/
theorem v_done {nw : ℕ} (e : ℕ → Fin 21) (fa : Buf (Elt F) (wvM.view.loc (c : Thread nD τ))) {t : ℕ} :
    iprop(vFreeAt c (slotOf t) fa ![t % 6, 0, 0] (vslot_inb (slotOf t)) ![t % 6] (cell_inb (slotOf t))
        ∗ Ring.restW (vSlot c fa) (stN nw e t 6) (slotOf t)) ⊢ Ring.AtW (vSlot c fa) (stN nw e (t + 1) 5) := by
  rw [stN_done nw e (slotOf t) rfl]
  exact Ring.AtW_update (vSlot c fa) (stN nw e t 6) (slotOf t) none

/-- What a step holds after it has waited for its values: the semaphore, the slot filled with the block at `q`, the share of
    the array. -/
abbrev vGotAt (k : Fin 6) (fa : Buf (Elt F) (wvM.view.loc (c : Thread nD τ))) (o : Fin 3 → ℕ) (h : ∀ a, o a + S1x2560x512.size a ≤ S6x2560x512.size a) (s : Fin 1 → ℕ) (hs : ∀ a, s a + S1.size a ≤ S6.size a)
    (f : Buf (Elt F) ((vslotAt o h).view.loc (c : Thread nD τ))) : sProp 𝕄 :=
  iprop(semVal ((c : Thread nD τ), vcellAt s hs) 0
    ∗ ((vslotAt o h).view.loc (c : Thread nD τ) ↦[(vslotAt o h).view.set]{fullShare} f) ∗ vtok c k Finset.univ fa)

/-- A copy just started, put back into the ring. -/
theorem m_fold {nw : ℕ} (e : ℕ → Fin 21) (fa : Buf (Elt F) (wmM.view.loc (c : Thread nD τ))) {t n : ℕ} (hn : n ≤ 5) (h : t + n < 6 * nw)
    {o : Fin 3 → ℕ} (ho) {s : Fin 1 → ℕ} (hs) {q : Fin 3 → ℕ} (hq) (eo : o = ![(t + n) % 6, 0, 0]) (es : s = ![(t + n) % 6])
    (eq : q = ![(e ((t + n) % nw)).val, 0, (t + n) / nw * 512]) :
    iprop(mFlyAt c (slotOf (t + n)) fa o ho s hs q hq ∗ Ring.restW (mSlot c fa) (stN nw e t n) (slotOf (t + n)))
      ⊢ Ring.AtW (mSlot c fa) (stN nw e t (n + 1)) := by
  have hlt : (t + n) / nw < 6 := Nat.div_lt_of_lt_mul (by rw [Nat.mul_comm]; exact h)
  rw [stN_start nw e hn h (slotOf (t + n)) rfl ⟨(t + n) / nw, hlt⟩ rfl,
    mFlyAt_eq c _ fa eo ho (mslot_inb (slotOf (t + n))) es hs (cell_inb (slotOf (t + n))) eq hq (msrc_inb (e ((t + n) % nw)) ⟨(t + n) / nw, hlt⟩)]
  exact Ring.AtW_update (mSlot c fa) (stN nw e t n) (slotOf (t + n)) (some (e ((t + n) % nw), ⟨(t + n) / nw, hlt⟩))

/-- The copy of the step's own values, taken out of the ring. -/
theorem m_own {nw : ℕ} (e : ℕ → Fin 21) (fa : Buf (Elt F) (wmM.view.loc (c : Thread nD τ))) {t : ℕ} (h : t < 6 * nw)
    {o : Fin 3 → ℕ} (ho) {s : Fin 1 → ℕ} (hs) {q : Fin 3 → ℕ} (hq) (eo : o = ![t % 6, 0, 0]) (es : s = ![t % 6])
    (eq : q = ![(e (t % nw)).val, 0, t / nw * 512]) :
    Ring.AtW (mSlot c fa) (stN nw e t 6)
      ⊢ iprop(mFlyAt c (slotOf t) fa o ho s hs q hq ∗ Ring.restW (mSlot c fa) (stN nw e t 6) (slotOf t)) := by
  have hlt : t / nw < 6 := Nat.div_lt_of_lt_mul (by rw [Nat.mul_comm]; exact h)
  rw [mFlyAt_eq c _ fa eo ho (mslot_inb (slotOf t)) es hs (cell_inb (slotOf t)) eq hq (msrc_inb (e (t % nw)) ⟨t / nw, hlt⟩),
    Ring.AtW_focus (mSlot c fa) _ (slotOf t), stN_own nw e h (slotOf t) rfl ⟨t / nw, hlt⟩ rfl]
  exact .rfl

/-- The slot of the step, free again, put back into the ring. -/
theorem m_done {nw : ℕ} (e : ℕ → Fin 21) (fa : Buf (Elt F) (wmM.view.loc (c : Thread nD τ))) {t : ℕ} :
    iprop(mFreeAt c (slotOf t) fa ![t % 6, 0, 0] (mslot_inb (slotOf t)) ![t % 6] (cell_inb (slotOf t))
        ∗ Ring.restW (mSlot c fa) (stN nw e t 6) (slotOf t)) ⊢ Ring.AtW (mSlot c fa) (stN nw e (t + 1) 5) := by
  rw [stN_done nw e (slotOf t) rfl]
  exact Ring.AtW_update (mSlot c fa) (stN nw e t 6) (slotOf t) none

/-- What a step holds after it has waited for its values: the semaphore, the slot filled with the block at `q`, the share of
    the array. -/
abbrev mGotAt (k : Fin 6) (fa : Buf (Elt F) (wmM.view.loc (c : Thread nD τ))) (o : Fin 3 → ℕ) (h : ∀ a, o a + S1x160x512.size a ≤ S6x160x512.size a) (s : Fin 1 → ℕ) (hs : ∀ a, s a + S1.size a ≤ S6.size a)
    (f : Buf (Elt F) ((mslotAt o h).view.loc (c : Thread nD τ))) : sProp 𝕄 :=
  iprop(semVal ((c : Thread nD τ), mcellAt s hs) 0
    ∗ ((mslotAt o h).view.loc (c : Thread nD τ) ↦[(mslotAt o h).view.set]{fullShare} f) ∗ mtok c k Finset.univ fa)

/-- The windows of the work list, in order: the group `e i` and the first row `b i`. -/
def Plan (S : ℕ → ℕ) (T : Tab (F := F)) (nw : ℕ) (e : ℕ → Fin 21) (b : ℕ → ℕ) : Prop :=
  ∀ i < nw, Item S T i (e i).val (b i)

section Part1

variable {S : ℕ → ℕ} {T : Tab (F := F)} {nw : ℕ} {e : ℕ → Fin 21} {b : ℕ → ℕ}

/-- The part of a step that starts the copies of the step five later, if there is one, and waits for the step's own values. -/
theorem part1_run (hP : Plan S T nw e b) (hS : ∀ k ≤ 21, S k ≤ 256) (hn : nw ≤ 64) (k : Fin (k0_t2_loop (wd nw)).trips) (v2 c0 c1 : BitVec 32)
    (fv : Buf (Elt F) (wvM.view.loc (c : Thread nD τ))) (fm : Buf (Elt F) (wmM.view.loc (c : Thread nD τ))) (W : Waits sig Unit)
    (d : Fin 6) (hd : d.val = k.val / nw) (h8 : k0_chk8 (wd nw) k (wd (min (b (k.val % nw)) 128))) (h10 : k0_chk10 (wd nw) k (wd (e (k.val % nw)).val))
    (h11 : k0_chk11 (wd nw) k (wd (e (k.val % nw)).val))
    (K : (Σ' (v395 : BitVec 32) (v399 : Elt F .i32) (k0_hw11 : k0_chk11 (wd nw) k v399) (v401 : Elt F .i32) (k0_hw8 : k0_chk8 (wd nw) k v401) (v402 : BitVec 32) (v404 : Elt F .i32) (v406 : Elt F .i32) (v407 : BitVec 32) (v417 : Elt F .i32), k0_chk10 (wd nw) k v417) → sProp 𝕄) :
    iprop((tabM.view.loc (c : Thread nD τ) ↦{fullShare} T)
        ∗ Ring.AtW (vSlot c fv) (stN nw e k.val 5) ∗ Ring.AtW (mSlot c fm) (stN nw e k.val 5)
        ∗ owes (c : Thread nD τ) 0 W
        ∗ (iprop((tabM.view.loc (c : Thread nD τ) ↦{fullShare} T)
            ∗ (∃ f, vGotAt c (slotOf k.val) fv (k0_off54 (wd nw) k) (k0_off54_inb (wd nw) (chk2 hn) k) (k0_off53 (wd nw) k) (k0_off53_inb (wd nw) (chk2 hn) k)
                ((vslotAt (k0_off54 (wd nw) k) (k0_off54_inb (wd nw) (chk2 hn) k)).view.writes (Elt F) f [⟨Rect.whole S2560x512,
                  ReadAs.same.apply ((vsrcAt (k0_off55 (wd nw) k (wd (e (k.val % nw)).val)) (k0_off55_inb (wd nw) k _ h10)).view.read (Elt F) fv)⟩]))
            ∗ Ring.restW (vSlot c fv) (stN nw e k.val 6) (slotOf k.val) ∗ Ring.AtW (mSlot c fm) (stN nw e k.val 6)
            ∗ ∃ W', owes (c : Thread nD τ) 0 W') -∗ K ⟨Scalar.divsi (Scf.iv c0 c1 k) (wd nw), wd (e (k.val % nw)).val, h11, wd (min (b (k.val % nw)) 128), h8,
              wd (min (b (k.val % nw)) 128), wd (max (S (e (k.val % nw)).val) (b (k.val % nw))),
              wd (min (S ((e (k.val % nw)).val + 1)) (b (k.val % nw) + 128)), Scalar.remsi (Scf.iv c0 c1 k) 6#32, wd (e (k.val % nw)).val, h10⟩))
      ⊢ wp frame (wpE (defs₀ (F := F)) 𝒱₀ (c : Thread nD τ) none) Set.univ
          (k0_part1 (F := F) gsM (wh _) xsM (wh _) wsM (wh _) xM (wh _) wvM (wh _) wmM (wh _) yM (wh _) xaM (wh _) xbM (wh _) xcM (wh _) sbM (wh _) tabM (wh _) vbM (wh _) mbM (wh _) cc0_scratch7 cc0_scratch8 (wd nw) (chk2 hn) v2 c0 c1 k) K := by
  have hk := k_lt hn k
  have h0 := nw_pos hn k
  have hI := hP (k.val % nw) (Nat.mod_lt _ h0)
  have l0 := funext fun y => hI.w0.load (off41_eq hn k) (k0_off41_inb (wd nw) (chk2 hn) k) y
  have l1 := funext fun y => hI.w1.load (off42_eq hn k) (k0_off42_inb (wd nw) (chk2 hn) k) y
  have l2 := funext fun y => hI.w2.load (off43_eq hn k) (k0_off43_inb (wd nw) (chk2 hn) k) y
  have l3 := funext fun y => hI.w3.load (off44_eq hn k) (k0_off44_inb (wd nw) (chk2 hn) k) y
  have l5 := funext fun y => hI.w0.load (off52_eq hn k) (k0_off52_inb (wd nw) (chk2 hn) k) y
  have e20 : (wd (e (k.val % nw)).val).toNat = (e (k.val % nw)).val := toNat_wd (by have := (e (k.val % nw)).isLt; omega)
  rw [k0_part1_eq_skeleton]; unfold k0_part1_skel
  by_cases h6 : k0_cond6 (wd nw) k = 1#1
  · have h5 := (cond6_iff hn k).mp h6
    have hJ := hP ((k.val + 5) % nw) (Nat.mod_lt _ h0)
    have hlt : (k.val + 5) / nw < 6 := Nat.div_lt_of_lt_mul (by rw [Nat.mul_comm]; exact h5)
    have l4 := funext fun y => hJ.w0.load (off45_eq hn k) (k0_off45_inb (wd nw) (chk2 hn) k h6) y
    have e21 : (wd (e ((k.val + 5) % nw)).val).toNat = (e ((k.val + 5) % nw)).val := toNat_wd (by have := (e ((k.val + 5) % nw)).isLt; omega)
    have h9 : k0_chk9 (wd nw) k (wd (e ((k.val + 5) % nw)).val) := chk9 hn k (by rw [e21]; exact (e _).isLt)
    rw [Ring.AtW_focus (vSlot c fv) _ (slotOf (k.val + 5)), Ring.AtW_focus (mSlot c fm) _ (slotOf (k.val + 5)),
      stN_next nw e (le_refl 5) (slotOf (k.val + 5)) rfl]
    rw [vSlot_none, mSlot_none, vFreeAt_eq c _ fv (off47_eq hn k).symm _ (k0_off47_inb (wd nw) (chk2 hn) k h6) (off46_eq hn k).symm _ (k0_off46_inb (wd nw) (chk2 hn) k h6),
      mFreeAt_eq c _ fm (off50_eq hn k).symm _ (k0_off50_inb (wd nw) (chk2 hn) k h6) (off49_eq hn k).symm _ (k0_off49_inb (wd nw) (chk2 hn) k h6)]
    iintro ⟨HT, ⟨⟨HVc, ⟨%gv, HVs⟩, HVt⟩, HVr⟩, ⟨⟨HMc, ⟨%gm, HMs⟩, HMt⟩, HMr⟩, HO, HK⟩
    set_option sl_exec.maxSteps 25 in sl_exec
    ihave HV := (v_fold c e fv (le_refl 5) h5 (k0_off47_inb (wd nw) (chk2 hn) k h6) (k0_off46_inb (wd nw) (chk2 hn) k h6)
      (k0_off48_inb (wd nw) k _ h9 h6) (off47_eq hn k) (off46_eq hn k) ((off48_eq hn k _).trans (by rw [e21]))) $$ [HVc HVt HVr]
    · isplitr [HVr]
      · isplitl [HVc]
        · iexists gv; iexact HVc
        · iexact HVt
      · iexact HVr
    ihave HM := (m_fold c e fm (le_refl 5) h5 (k0_off50_inb (wd nw) (chk2 hn) k h6) (k0_off49_inb (wd nw) (chk2 hn) k h6)
      (k0_off51_inb (wd nw) k _ h9 h6) (off50_eq hn k) (off49_eq hn k) ((off51_eq hn k _).trans (by rw [e21]))) $$ [HMc HMt HMr]
    · isplitr [HMr]
      · isplitl [HMc]
        · iexists gm; iexact HMc
        · iexact HMt
      · iexact HMr
    ihave HV := (v_own c e fv hk (k0_off54_inb (wd nw) (chk2 hn) k) (k0_off53_inb (wd nw) (chk2 hn) k) (k0_off55_inb (wd nw) k _ h10)
      (off54_eq hn k) (off53_eq hn k) ((off55_eq hn k _).trans (by rw [e20]))) $$ HV
    icases HV with ⟨⟨⟨%gw, HVf⟩, HVt⟩, HVr⟩
    sl_exec
    sl_step
    sl_open_run
    iapply HK
    isplitl [HT]; · iexact HT
    isplitl [HVf HVf_dst HVt]
    · iexists gw
      isplitl [HVf]; · iexact HVf
      isplitl [HVf_dst]; · iexact HVf_dst
      iexact HVt
    isplitl [HVr]; · iexact HVr
    isplitl [HM]; · iexact HM
    iexists _; iexact HO
  · have h5 : 6 * nw ≤ k.val + 5 := by have := mt (cond6_iff hn k).mpr h6; omega
    rw [← stN_last nw e h5]
    iintro ⟨HT, HV, HM, HO, HK⟩
    set_option sl_exec.maxSteps 15 in sl_exec
    ihave HV := (v_own c e fv hk (k0_off54_inb (wd nw) (chk2 hn) k) (k0_off53_inb (wd nw) (chk2 hn) k) (k0_off55_inb (wd nw) k _ h10)
      (off54_eq hn k) (off53_eq hn k) ((off55_eq hn k _).trans (by rw [e20]))) $$ HV
    icases HV with ⟨⟨⟨%gw, HVf⟩, HVt⟩, HVr⟩
    sl_exec
    sl_step
    sl_open_run
    iapply HK
    isplitl [HT]; · iexact HT
    isplitl [HVf HVf_dst HVt]
    · iexists gw
      isplitl [HVf]; · iexact HVf
      isplitl [HVf_dst]; · iexact HVf_dst
      iexact HVt
    isplitl [HVr]; · iexact HVr
    isplitl [HM]; · iexact HM
    iexists _; iexact HO

end Part1

end Cert.Kernel.Hand

end
-- ==== Proof.Trip.lean ====
/-
  One trip of the main loop: it waits for the step's packed values and position words, multiplies the window's rows by them in
  ten blocks of 256 rows for each half of the slab, and writes the window's rows of the result.
-/
module

public import proofs.«01_k».proof.Proof.Ring

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD)

variable {S : ℕ → ℕ} {T : Tab (F := F)} {nw : ℕ} {e : ℕ → Fin 21} {b : ℕ → ℕ}

/-- What the loop holds before step `t`, besides the result. -/
def Held (T : Tab (F := F)) (nw : ℕ) (e : ℕ → Fin 21)
    (fv : Buf (Elt F) (wvM.view.loc (c : Thread nD τ))) (fm : Buf (Elt F) (wmM.view.loc (c : Thread nD τ)))
    (A : Buf (Elt F) (xaM.view.loc (c : Thread nD τ))) (B : Buf (Elt F) (xbM.view.loc (c : Thread nD τ))) (C : Buf (Elt F) (xcM.view.loc (c : Thread nD τ)))
    (D : Buf (Elt F) (sbM.view.loc (c : Thread nD τ))) (fw : Buf (Elt F) (wsM.view.loc (c : Thread nD τ))) (t : ℕ) : sProp 𝕄 :=
  iprop((tabM.view.loc (c : Thread nD τ) ↦{fullShare} T)
    ∗ (xaM.view.loc (c : Thread nD τ) ↦{fullShare} A) ∗ (xbM.view.loc (c : Thread nD τ) ↦{fullShare} B)
    ∗ (xcM.view.loc (c : Thread nD τ) ↦{fullShare} C) ∗ (sbM.view.loc (c : Thread nD τ) ↦{fullShare} D)
    ∗ (wsM.view.loc (c : Thread nD τ) ↦{fullShare} fw)
    ∗ Ring.AtW (vSlot c fv) (stN nw e t 5) ∗ Ring.AtW (mSlot c fm) (stN nw e t 5)
    ∗ ∃ W, owes (c : Thread nD τ) 0 W)

theorem trip (hP : Plan S T nw e b) (hS : ∀ k ≤ 21, S k ≤ 256) (hn : nw ≤ 64) (k : Fin (k0_t2_loop (wd nw)).trips) (v2 c0 acc : BitVec 32)
    (fv : Buf (Elt F) (wvM.view.loc (c : Thread nD τ))) (fm : Buf (Elt F) (wmM.view.loc (c : Thread nD τ)))
    (A : Buf (Elt F) (xaM.view.loc (c : Thread nD τ))) (B : Buf (Elt F) (xbM.view.loc (c : Thread nD τ))) (C : Buf (Elt F) (xcM.view.loc (c : Thread nD τ)))
    (D : Buf (Elt F) (sbM.view.loc (c : Thread nD τ))) (fw : Buf (Elt F) (wsM.view.loc (c : Thread nD τ))) (fy : Buf (Elt F) (yM.view.loc (c : Thread nD τ)))
    (h8 : k0_chk8 (wd nw) k (wd (min (b (k.val % nw)) 128))) (h10 : k0_chk10 (wd nw) k (wd (e (k.val % nw)).val))
    (h11 : k0_chk11 (wd nw) k (wd (e (k.val % nw)).val)) :
    iprop(Held c T nw e fv fm A B C D fw k.val ∗ (yM.view.loc (c : Thread nD τ) ↦{fullShare} fy))
      ⊢ wp frame (wpE (defs₀ (F := F)) 𝒱₀ (c : Thread nD τ) none) Set.univ
          (k0_t2_body (F := F) gsM (wh _) xsM (wh _) wsM (wh _) xM (wh _) wvM (wh _) wmM (wh _) yM (wh _) xaM (wh _) xbM (wh _) xcM (wh _) sbM (wh _) tabM (wh _) vbM (wh _) mbM (wh _) cc0_scratch7 cc0_scratch8 (wd nw) (chk2 hn) v2 c0 k acc)
          (fun _ => iprop(Held c T nw e fv fm A B C D fw (k.val + 1) ∗ ∃ fy', yM.view.loc (c : Thread nD τ) ↦{fullShare} fy')) := by
  have hk := k_lt hn k
  have h0 := nw_pos hn k
  have e20 : (wd (e (k.val % nw)).val).toNat = (e (k.val % nw)).val := toNat_wd (by have := (e (k.val % nw)).isLt; omega)
  letI : ClosedOff (k0_off54 (wd nw) k) := ⟨![k.val % 6, 0, 0], off54_eq hn k⟩
  letI : ClosedOff (k0_off57 (wd nw) k) := ⟨![k.val % 6, 0, 0], off57_eq hn k⟩
  letI : ClosedOff (k0_off60 (wd nw) k) := ⟨![k.val % 6, 0, 0], off60_eq hn k⟩
  letI : ClosedOff (k0_off63 (wd nw) k) := ⟨![k.val % 6, 256, 0], off63_eq hn k⟩
  letI : ClosedOff (k0_off66 (wd nw) k) := ⟨![k.val % 6, 512, 0], off66_eq hn k⟩
  letI : ClosedOff (k0_off69 (wd nw) k) := ⟨![k.val % 6, 768, 0], off69_eq hn k⟩
  letI : ClosedOff (k0_off72 (wd nw) k) := ⟨![k.val % 6, 1024, 0], off72_eq hn k⟩
  letI : ClosedOff (k0_off75 (wd nw) k) := ⟨![k.val % 6, 1280, 0], off75_eq hn k⟩
  letI : ClosedOff (k0_off78 (wd nw) k) := ⟨![k.val % 6, 1536, 0], off78_eq hn k⟩
  letI : ClosedOff (k0_off81 (wd nw) k) := ⟨![k.val % 6, 1792, 0], off81_eq hn k⟩
  letI : ClosedOff (k0_off84 (wd nw) k) := ⟨![k.val % 6, 2048, 0], off84_eq hn k⟩
  letI : ClosedOff (k0_off87 (wd nw) k) := ⟨![k.val % 6, 2304, 0], off87_eq hn k⟩
  letI : ClosedOff (k0_off92 (wd nw) k) := ⟨![k.val % 6, 0, 256], off92_eq hn k⟩
  letI : ClosedOff (k0_off95 (wd nw) k) := ⟨![k.val % 6, 256, 256], off95_eq hn k⟩
  letI : ClosedOff (k0_off98 (wd nw) k) := ⟨![k.val % 6, 512, 256], off98_eq hn k⟩
  letI : ClosedOff (k0_off101 (wd nw) k) := ⟨![k.val % 6, 768, 256], off101_eq hn k⟩
  letI : ClosedOff (k0_off104 (wd nw) k) := ⟨![k.val % 6, 1024, 256], off104_eq hn k⟩
  letI : ClosedOff (k0_off107 (wd nw) k) := ⟨![k.val % 6, 1280, 256], off107_eq hn k⟩
  letI : ClosedOff (k0_off110 (wd nw) k) := ⟨![k.val % 6, 1536, 256], off110_eq hn k⟩
  letI : ClosedOff (k0_off113 (wd nw) k) := ⟨![k.val % 6, 1792, 256], off113_eq hn k⟩
  letI : ClosedOff (k0_off116 (wd nw) k) := ⟨![k.val % 6, 2048, 256], off116_eq hn k⟩
  letI : ClosedOff (k0_off119 (wd nw) k) := ⟨![k.val % 6, 2304, 256], off119_eq hn k⟩
  letI : ClosedOff (k0_off61 (wd nw) k) := ⟨![k.val % 6, 0, 0], off61_eq hn k⟩
  letI : ClosedOff (k0_off64 (wd nw) k) := ⟨![k.val % 6, 16, 0], off64_eq hn k⟩
  letI : ClosedOff (k0_off67 (wd nw) k) := ⟨![k.val % 6, 32, 0], off67_eq hn k⟩
  letI : ClosedOff (k0_off70 (wd nw) k) := ⟨![k.val % 6, 48, 0], off70_eq hn k⟩
  letI : ClosedOff (k0_off73 (wd nw) k) := ⟨![k.val % 6, 64, 0], off73_eq hn k⟩
  letI : ClosedOff (k0_off76 (wd nw) k) := ⟨![k.val % 6, 80, 0], off76_eq hn k⟩
  letI : ClosedOff (k0_off79 (wd nw) k) := ⟨![k.val % 6, 96, 0], off79_eq hn k⟩
  letI : ClosedOff (k0_off82 (wd nw) k) := ⟨![k.val % 6, 112, 0], off82_eq hn k⟩
  letI : ClosedOff (k0_off85 (wd nw) k) := ⟨![k.val % 6, 128, 0], off85_eq hn k⟩
  letI : ClosedOff (k0_off88 (wd nw) k) := ⟨![k.val % 6, 144, 0], off88_eq hn k⟩
  letI : ClosedOff (k0_off93 (wd nw) k) := ⟨![k.val % 6, 0, 256], off93_eq hn k⟩
  letI : ClosedOff (k0_off96 (wd nw) k) := ⟨![k.val % 6, 16, 256], off96_eq hn k⟩
  letI : ClosedOff (k0_off99 (wd nw) k) := ⟨![k.val % 6, 32, 256], off99_eq hn k⟩
  letI : ClosedOff (k0_off102 (wd nw) k) := ⟨![k.val % 6, 48, 256], off102_eq hn k⟩
  letI : ClosedOff (k0_off105 (wd nw) k) := ⟨![k.val % 6, 64, 256], off105_eq hn k⟩
  letI : ClosedOff (k0_off108 (wd nw) k) := ⟨![k.val % 6, 80, 256], off108_eq hn k⟩
  letI : ClosedOff (k0_off111 (wd nw) k) := ⟨![k.val % 6, 96, 256], off111_eq hn k⟩
  letI : ClosedOff (k0_off114 (wd nw) k) := ⟨![k.val % 6, 112, 256], off114_eq hn k⟩
  letI : ClosedOff (k0_off117 (wd nw) k) := ⟨![k.val % 6, 128, 256], off117_eq hn k⟩
  letI : ClosedOff (k0_off120 (wd nw) k) := ⟨![k.val % 6, 144, 256], off120_eq hn k⟩
  unfold k0_t2_body
  rw [k0_part33_eq_skeleton]; unfold k0_part33_skel
  rw [wp_bind, wp_bind]
  unfold Held
  iintro ⟨⟨HT, HA, HB, HC, HD, HW, HV, HM, ⟨%W, HO⟩⟩, HY⟩
  iapply (part1_run c hP hS hn k v2 c0 1#32 fv fm W ⟨k.val / nw, Nat.div_lt_of_lt_mul (by rw [Nat.mul_comm]; exact hk)⟩ rfl h8 h10 h11)
  isplitl [HT]; · iexact HT
  isplitl [HV]; · iexact HV
  isplitl [HM]; · iexact HM
  isplitl [HO]; · iexact HO
  iintro ⟨HT, ⟨%gv, HVc, HVs, HVt⟩, HVr, HM, ⟨%W', HO⟩⟩
  ihave HM := (m_own c e fm hk (k0_off57_inb (wd nw) (chk2 hn) k) (k0_off56_inb (wd nw) (chk2 hn) k) (k0_off58_inb (wd nw) k _ h10)
      (off57_eq hn k) (off56_eq hn k) ((off58_eq hn k _).trans (by rw [e20]))) $$ HM
  icases HM with ⟨⟨⟨%gm, HMf⟩, HMt⟩, HMr⟩
  sl_exec
  sl_step
  ihave HV := (v_done (nw := nw) c e fv) $$ [HVc HVs HVt HVr]
  · isplitr [HVr]
    · iapply (Entails.of_eq (vFreeAt_eq c (slotOf k.val) fv (off54_eq hn k) (k0_off54_inb (wd nw) (chk2 hn) k) (vslot_inb (slotOf k.val)) (off53_eq hn k) (k0_off53_inb (wd nw) (chk2 hn) k) (cell_inb (slotOf k.val))))
      isplitl [HVc]; · iexact HVc
      isplitl [HVs]; · iexists _; iexact HVs
      iexact HVt
    · iexact HVr
  ihave HM := (m_done (nw := nw) c e fm) $$ [HMf HMf_dst HMt HMr]
  · isplitr [HMr]
    · iapply (Entails.of_eq (mFreeAt_eq c (slotOf k.val) fm (off57_eq hn k) (k0_off57_inb (wd nw) (chk2 hn) k) (mslot_inb (slotOf k.val)) (off56_eq hn k) (k0_off56_inb (wd nw) (chk2 hn) k) (cell_inb (slotOf k.val))))
      isplitl [HMf]; · iexact HMf
      isplitl [HMf_dst]; · iexists _; iexact HMf_dst
      iexact HMt
    · iexact HMr
  isplitr [HY]
  · isplitl [HT]; · iexact HT
    isplitl [HA]; · iexact HA
    isplitl [HB]; · iexact HB
    isplitl [HC]; · iexact HC
    isplitl [HD]; · iexact HD
    isplitl [HW]; · iexact HW
    isplitl [HV]; · iexact HV
    isplitl [HM]; · iexact HM
    iexists _; iexact HO
  · iexists _; iexact HY

end Cert.Kernel.Hand

end
-- ==== Proof.Start.lean ====
/-
  The kernel's first part: the work list, and the copies of the first five steps.
-/
module

public import proofs.«01_k».proof.Proof.Ring

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD)

variable {S : ℕ → ℕ}

theorem HasWord.uniq {T : Tab (F := F)} {r i : ℕ} (hr : r < 4) (hi : i < 64) {w w' : BitVec 32} (h : HasWord T r i w) (h' : HasWord T r i w') : w = w' :=
  let y : S4x64.Idx := fun a => ⟨![r, i] a, by fin_cases a; exacts [hr, hi]⟩
  (h y rfl rfl).symm.trans (h' y rfl rfl)

theorem wd_inj {a b : ℕ} (ha : a < 4294967296) (hb : b < 4294967296) (h : wd a = wd b) : a = b := by
  rw [← toNat_wd ha, ← toNat_wd hb, h]

/-- Every row below the total lies among the rows that some window of the list treats. -/
def Covers (S : ℕ → ℕ) (nw : ℕ) (e : ℕ → Fin 21) (b : ℕ → ℕ) : Prop :=
  ∀ r < S 21, ∃ i < nw, max (S (e i).val) (b i) ≤ r ∧ r < min (S ((e i).val + 1)) (b i + 128)

theorem Listed.plan {T : Tab (F := F)} {nw : ℕ} (hn : nw ≤ 64) (hS : ∀ k ≤ 21, S k ≤ 256) (h : Listed S T nw fun r => r < S 21) :
    ∃ e b, Plan S T nw e b ∧ Covers S nw e b := by
  have h1 : ∀ i, ∃ e : Fin 21, ∃ b, i < nw → Item S T i e.val b := fun i => by
    by_cases hi : i < nw
    · obtain ⟨e, b, hI⟩ := h.items i hi
      exact ⟨⟨e, hI.he⟩, b, fun _ => hI⟩
    · exact ⟨0, 0, fun h => absurd h hi⟩
  choose e b hI using h1
  refine ⟨e, b, hI, fun r hr => ?_⟩
  obtain ⟨i, hi, e', b', hI', g1, g2, g3, g4⟩ := h.cover r hr
  have hJ := hI i hi
  have he : (e i).val = e' := wd_inj (by have := (e i).isLt; omega) (by have := hI'.he; omega) (hJ.w0.uniq (by omega) (by omega) hI'.w0)
  have l1 : S ((e i).val + 1) ≤ 256 := hS _ (e i).isLt
  have l2 := hS _ (Nat.le_of_lt (e i).isLt)
  have l3 := hJ.hb
  have l4 := hI'.hb
  have e2 := hJ.w2.uniq (by omega) (by omega) hI'.w2
  have e3 := hJ.w3.uniq (by omega) (by omega) hI'.w3
  rw [← he] at e2 e3 g1 g3 l4
  have e2 := wd_inj (by omega) (by omega) e2
  have e3 := wd_inj (by omega) (by omega) e3
  exact ⟨i, hi, by rw [e2]; omega, by rw [e3]; omega⟩

theorem AtW6 {σ : Fin 6 → Type _} (Φ : (k : Fin 6) → σ k → sProp 𝕄) (st : (k : Fin 6) → σ k) :
    Ring.AtW Φ st = iprop(Φ 0 (st 0) ∗ Φ 1 (st 1) ∗ Φ 2 (st 2) ∗ Φ 3 (st 3) ∗ Φ 4 (st 4) ∗ Φ 5 (st 5)) := by
  unfold Ring.AtW
  rw [BI.bigSep_univ_eq_bigSepL [0, 1, 2, 3, 4, 5] (by decide) (by decide)]
  rfl

theorem stN_first {nw : ℕ} (e : ℕ → Fin 21) (h0 : 0 < nw) {j : ℕ} (hj : j < 5) :
    stN nw e 0 5 ⟨j, by omega⟩ = some (e (j % nw), ⟨j / nw, (Nat.div_le_self _ _).trans_lt (by omega)⟩) := by
  unfold stN stU
  have e1 : 0 + (j + 6 - 0 % 6) % 6 = j := by omega
  have e2 : j / nw < 6 := (Nat.div_le_self _ _).trans_lt (by omega)
  simp only [e1]
  rw [if_pos ⟨by omega, by omega⟩]
  congr 2
  exact Fin.ext (Nat.mod_eq_of_lt e2)

theorem stN_sixth (nw : ℕ) (e : ℕ → Fin 21) : stN nw e 0 5 5 = none := by
  unfold stN stU; rw [if_neg]; simp

theorem vFly_slot (k : Fin 6) (fa : Buf (Elt F) (wvM.view.loc (c : Thread nD τ))) (x : Fin 21 × Fin 6) {o : Fin 3 → ℕ} (h) {s : Fin 1 → ℕ} (hs)
    {q : Fin 3 → ℕ} (hq) (eo : o = ![k.val, 0, 0]) (es : s = ![k.val]) (eq : q = ![x.1.val, 0, x.2.val * 512]) :
    vFlyAt c k fa o h s hs q hq ⊢ vSlot c fa k (some x) :=
  Entails.of_eq (vFlyAt_eq c k fa eo h (vslot_inb k) es hs (cell_inb k) eq hq (vsrc_inb x.1 x.2))

theorem mFly_slot (k : Fin 6) (fa : Buf (Elt F) (wmM.view.loc (c : Thread nD τ))) (x : Fin 21 × Fin 6) {o : Fin 3 → ℕ} (h) {s : Fin 1 → ℕ} (hs)
    {q : Fin 3 → ℕ} (hq) (eo : o = ![k.val, 0, 0]) (es : s = ![k.val]) (eq : q = ![x.1.val, 0, x.2.val * 512]) :
    mFlyAt c k fa o h s hs q hq ⊢ mSlot c fa k (some x) :=
  Entails.of_eq (mFlyAt_eq c k fa eo h (mslot_inb k) es hs (cell_inb k) eq hq (msrc_inb x.1 x.2))

theorem vFree_slot (k : Fin 6) (fa : Buf (Elt F) (wvM.view.loc (c : Thread nD τ))) {o : Fin 3 → ℕ} (h) {s : Fin 1 → ℕ} (hs)
    (eo : o = ![k.val, 0, 0]) (es : s = ![k.val]) : vSlot c fa k none ⊢ vFreeAt c k fa o h s hs :=
  Entails.of_eq (vFreeAt_eq c k fa eo.symm (vslot_inb k) h es.symm (cell_inb k) hs)

theorem mFree_slot (k : Fin 6) (fa : Buf (Elt F) (wmM.view.loc (c : Thread nD τ))) {o : Fin 3 → ℕ} (h) {s : Fin 1 → ℕ} (hs)
    (eo : o = ![k.val, 0, 0]) (es : s = ![k.val]) : mSlot c fa k none ⊢ mFreeAt c k fa o h s hs :=
  Entails.of_eq (mFreeAt_eq c k fa eo.symm (mslot_inb k) h es.symm (cell_inb k) hs)

theorem off_slots : k0_off8 = ![0,0,0] ∧ k0_off15 = ![1,0,0] ∧ k0_off22 = ![2,0,0] ∧ k0_off29 = ![3,0,0] ∧ k0_off36 = ![4,0,0]
    ∧ k0_off11 = ![0,0,0] ∧ k0_off18 = ![1,0,0] ∧ k0_off25 = ![2,0,0] ∧ k0_off32 = ![3,0,0] ∧ k0_off39 = ![4,0,0]
    ∧ k0_off7 = ![0] ∧ k0_off14 = ![1] ∧ k0_off21 = ![2] ∧ k0_off28 = ![3] ∧ k0_off35 = ![4]
    ∧ k0_off10 = ![0] ∧ k0_off17 = ![1] ∧ k0_off24 = ![2] ∧ k0_off31 = ![3] ∧ k0_off38 = ![4] := by decide

theorem part67_run (fg : (cc0_stg0_0 : Ref sig .tc).ty.Contents (Elt F)) (hG : Groups fg S) (T0 : Tab (F := F))
    (fv : Buf (Elt F) (wvM.view.loc (c : Thread nD τ))) (fm : Buf (Elt F) (wmM.view.loc (c : Thread nD τ))) (W : Waits sig Unit)
    (K : (Σ' (v1_0 : BitVec 32) (k0_hw2 : k0_chk2 v1_0) (v2 : BitVec 32) (v18 : IVec S256x128 32) (v21 : IVec S256x128 32) (v24 : IVec S256x128 32) (v29 : IVec S256x128 32), IVec S256x128 32) → sProp 𝕄) :
    iprop((gsM.view.loc (c : Thread nD τ) ↦{fullShare} fg) ∗ (tabM.view.loc (c : Thread nD τ) ↦{fullShare} T0)
        ∗ Ring.AtW (vSlot c fv) (fun _ => none) ∗ Ring.AtW (mSlot c fm) (fun _ => none)
        ∗ owes (c : Thread nD τ) 0 W
        ∗ (∀ T : Tab (F := F), ∀ nw : ℕ, ∀ e : ℕ → Fin 21, ∀ b : ℕ → ℕ, ∀ hn : nw ≤ 64, ⌜Plan S T nw e b ∧ Covers S nw e b⌝ -∗
            iprop((gsM.view.loc (c : Thread nD τ) ↦{fullShare} fg) ∗ (tabM.view.loc (c : Thread nD τ) ↦{fullShare} T)
              ∗ Ring.AtW (vSlot c fv) (stN nw e 0 5) ∗ Ring.AtW (mSlot c fm) (stN nw e 0 5)
              ∗ ∃ W', owes (c : Thread nD τ) 0 W') -∗
            K ⟨wd nw, chk2 hn, Scalar.muli (wd nw) 6#32, iota .tc S256x128 32 [0] iota_S256x128_d0_w32, k0_pay345, k0_pay346, k0_pay347, k0_pay348⟩))
      ⊢ wp frame (wpE (defs₀ (F := F)) 𝒱₀ (c : Thread nD τ) none) Set.univ (k0_part67 (F := F) gsM (wh _) xsM (wh _) wsM (wh _) xM (wh _) wvM (wh _) wmM (wh _) yM (wh _) xaM (wh _) xbM (wh _) xcM (wh _) sbM (wh _) tabM (wh _) vbM (wh _) mbM (wh _) cc0_scratch7 cc0_scratch8) K := by
  have hinit : (0 ≤ 2 * 0 ∧ ((0#32, 0#32) : BitVec 32 × BitVec 32) = (wd 0, wd (S 0)) ∧ Listed S T0 0 fun r => r < S 0) :=
    ⟨le_refl _, by rw [hG.zero], fun i hi => absurd hi (by omega), fun r hr => absurd hr (by rw [hG.zero]; omega)⟩
  rw [k0_part67_eq_skeleton]; unfold k0_part67_skel
  rw [wp_bind]
  iintro ⟨HG, HT, HV, HM, HO, HK⟩
  iapply (Scf.wp_for frame (wpE (defs₀ (F := F)) 𝒱₀ (c : Thread nD τ) none) Set.univ _ _ _ k0_t1_ok (0#32, 0#32) _ (inv1 c S fg) (step1 c S fg hG))
  isplitl [HG HT]
  · unfold inv1
    isplitl [HG]; · iexact HG
    iexists T0; iexists 0
    isplitr; · ipureintro; exact hinit
    iexact HT
  iintro %acc HI
  unfold inv1
  icases HI with ⟨HG, ⟨%T, %nw, %hL, HT⟩⟩
  have hn42 : nw ≤ 42 := hL.1
  have hn : nw ≤ 64 := by omega
  obtain ⟨e, b, hP, hC⟩ := Listed.plan hn hG.le hL.2.2
  obtain ⟨-, rfl, -⟩ := hL
  have hc2 := chk2 hn
  rcases Nat.eq_zero_or_pos nw with h0 | h0
  · have n1 : ¬ k0_cond1 (wd nw) = 1#1 := fun h => by have := (cond1_iff hn).mp h; omega
    have n2 : ¬ k0_cond2 (wd nw) = 1#1 := fun h => by have := (cond2_iff hn).mp h; omega
    have n3 : ¬ k0_cond3 (wd nw) = 1#1 := fun h => by have := (cond3_iff hn).mp h; omega
    have n4 : ¬ k0_cond4 (wd nw) = 1#1 := fun h => by have := (cond4_iff hn).mp h; omega
    have n5 : ¬ k0_cond5 (wd nw) = 1#1 := fun h => by have := (cond5_iff hn).mp h; omega
    have hst : stN nw e 0 5 = fun _ => none := funext fun j => by rw [h0]; exact stN_nil e 5 j
    sl_exec
    sl_step
    sl_open_run
    iapply HK $$ %T %nw %e %b %hn
    · ipureintro; exact ⟨hP, hC⟩
    rw [hst]
    isplitl [HG]; · iexact HG
    isplitl [HT]; · iexact HT
    isplitl [HV]; · iexact HV
    isplitl [HM]; · iexact HM
    iexists _; iexact HO
  · have p0 : k0_cond1 (wd nw) = 1#1 := (cond1_iff hn).mpr (by omega)
    have I0 := hP (0 % nw) (Nat.mod_lt _ h0)
    have l0 := funext fun y => I0.w0.load (off6_eq h0 hn) (k0_off6_inb (wd nw) (chk2 hn) p0) y
    have e0 : (wd (e (0 % nw)).val).toNat = (e (0 % nw)).val := toNat_wd (by have := (e (0 % nw)).isLt; omega)
    have k0 : k0_chk3 (wd nw) (wd (e (0 % nw)).val) := chk3 hn (by rw [e0]; exact (e _).isLt)
    have p1 : k0_cond2 (wd nw) = 1#1 := (cond2_iff hn).mpr (by omega)
    have I1 := hP (1 % nw) (Nat.mod_lt _ h0)
    have l1 := funext fun y => I1.w0.load (off13_eq h0 hn) (k0_off13_inb (wd nw) (chk2 hn) p1) y
    have e1 : (wd (e (1 % nw)).val).toNat = (e (1 % nw)).val := toNat_wd (by have := (e (1 % nw)).isLt; omega)
    have k1 : k0_chk4 (wd nw) (wd (e (1 % nw)).val) := chk4 hn (by rw [e1]; exact (e _).isLt)
    have p2 : k0_cond3 (wd nw) = 1#1 := (cond3_iff hn).mpr (by omega)
    have I2 := hP (2 % nw) (Nat.mod_lt _ h0)
    have l2 := funext fun y => I2.w0.load (off20_eq h0 hn) (k0_off20_inb (wd nw) (chk2 hn) p2) y
    have e2 : (wd (e (2 % nw)).val).toNat = (e (2 % nw)).val := toNat_wd (by have := (e (2 % nw)).isLt; omega)
    have k2 : k0_chk5 (wd nw) (wd (e (2 % nw)).val) := chk5 hn (by rw [e2]; exact (e _).isLt)
    have p3 : k0_cond4 (wd nw) = 1#1 := (cond4_iff hn).mpr (by omega)
    have I3 := hP (3 % nw) (Nat.mod_lt _ h0)
    have l3 := funext fun y => I3.w0.load (off27_eq h0 hn) (k0_off27_inb (wd nw) (chk2 hn) p3) y
    have e3 : (wd (e (3 % nw)).val).toNat = (e (3 % nw)).val := toNat_wd (by have := (e (3 % nw)).isLt; omega)
    have k3 : k0_chk6 (wd nw) (wd (e (3 % nw)).val) := chk6 hn (by rw [e3]; exact (e _).isLt)
    have p4 : k0_cond5 (wd nw) = 1#1 := (cond5_iff hn).mpr (by omega)
    have I4 := hP (4 % nw) (Nat.mod_lt _ h0)
    have l4 := funext fun y => I4.w0.load (off34_eq h0 hn) (k0_off34_inb (wd nw) (chk2 hn) p4) y
    have e4 : (wd (e (4 % nw)).val).toNat = (e (4 % nw)).val := toNat_wd (by have := (e (4 % nw)).isLt; omega)
    have k4 : k0_chk7 (wd nw) (wd (e (4 % nw)).val) := chk7 hn (by rw [e4]; exact (e _).isLt)
    obtain ⟨v0, v1, v2, v3, v4, m0, m1, m2, m3, m4, s0, s1, s2, s3, s4, r0, r1, r2, r3, r4⟩ := off_slots
    ihave HV := (Entails.of_eq (AtW6 (vSlot c fv) (fun _ => none))) $$ HV
    ihave HM := (Entails.of_eq (AtW6 (mSlot c fm) (fun _ => none))) $$ HM
    icases HV with ⟨V0, V1, V2, V3, V4, V5⟩
    icases HM with ⟨M0, M1, M2, M3, M4, M5⟩
    ihave V0 := (vFree_slot c 0 fv k0_off8_inb k0_off7_inb v0 s0) $$ V0
    icases V0 with ⟨V0c, ⟨%gv0, V0s⟩, V0t⟩
    ihave M0 := (mFree_slot c 0 fm k0_off11_inb k0_off10_inb m0 r0) $$ M0
    icases M0 with ⟨M0c, ⟨%gm0, M0s⟩, M0t⟩
    ihave V1 := (vFree_slot c 1 fv k0_off15_inb k0_off14_inb v1 s1) $$ V1
    icases V1 with ⟨V1c, ⟨%gv1, V1s⟩, V1t⟩
    ihave M1 := (mFree_slot c 1 fm k0_off18_inb k0_off17_inb m1 r1) $$ M1
    icases M1 with ⟨M1c, ⟨%gm1, M1s⟩, M1t⟩
    ihave V2 := (vFree_slot c 2 fv k0_off22_inb k0_off21_inb v2 s2) $$ V2
    icases V2 with ⟨V2c, ⟨%gv2, V2s⟩, V2t⟩
    ihave M2 := (mFree_slot c 2 fm k0_off25_inb k0_off24_inb m2 r2) $$ M2
    icases M2 with ⟨M2c, ⟨%gm2, M2s⟩, M2t⟩
    ihave V3 := (vFree_slot c 3 fv k0_off29_inb k0_off28_inb v3 s3) $$ V3
    icases V3 with ⟨V3c, ⟨%gv3, V3s⟩, V3t⟩
    ihave M3 := (mFree_slot c 3 fm k0_off32_inb k0_off31_inb m3 r3) $$ M3
    icases M3 with ⟨M3c, ⟨%gm3, M3s⟩, M3t⟩
    ihave V4 := (vFree_slot c 4 fv k0_off36_inb k0_off35_inb v4 s4) $$ V4
    icases V4 with ⟨V4c, ⟨%gv4, V4s⟩, V4t⟩
    ihave M4 := (mFree_slot c 4 fm k0_off39_inb k0_off38_inb m4 r4) $$ M4
    icases M4 with ⟨M4c, ⟨%gm4, M4s⟩, M4t⟩
    sl_exec
    ihave V0 := (vFly_slot c 0 fv (e (0 % nw), ⟨0 / nw, (Nat.div_le_self _ _).trans_lt (by omega)⟩) k0_off8_inb k0_off7_inb (k0_off9_inb (wd nw) _ k0 p0) v0 s0 ((off9_eq h0 hn _).trans (by rw [e0]))) $$ [V0c V0t]
    · isplitl [V0c]
      · iexists gv0; iexact V0c
      · iexact V0t
    ihave M0 := (mFly_slot c 0 fm (e (0 % nw), ⟨0 / nw, (Nat.div_le_self _ _).trans_lt (by omega)⟩) k0_off11_inb k0_off10_inb (k0_off12_inb (wd nw) _ k0 p0) m0 r0 ((off12_eq h0 hn _).trans (by rw [e0]))) $$ [M0c M0t]
    · isplitl [M0c]
      · iexists gm0; iexact M0c
      · iexact M0t
    ihave V1 := (vFly_slot c 1 fv (e (1 % nw), ⟨1 / nw, (Nat.div_le_self _ _).trans_lt (by omega)⟩) k0_off15_inb k0_off14_inb (k0_off16_inb (wd nw) _ k1 p1) v1 s1 ((off16_eq h0 hn _).trans (by rw [e1]))) $$ [V1c V1t]
    · isplitl [V1c]
      · iexists gv1; iexact V1c
      · iexact V1t
    ihave M1 := (mFly_slot c 1 fm (e (1 % nw), ⟨1 / nw, (Nat.div_le_self _ _).trans_lt (by omega)⟩) k0_off18_inb k0_off17_inb (k0_off19_inb (wd nw) _ k1 p1) m1 r1 ((off19_eq h0 hn _).trans (by rw [e1]))) $$ [M1c M1t]
    · isplitl [M1c]
      · iexists gm1; iexact M1c
      · iexact M1t
    ihave V2 := (vFly_slot c 2 fv (e (2 % nw), ⟨2 / nw, (Nat.div_le_self _ _).trans_lt (by omega)⟩) k0_off22_inb k0_off21_inb (k0_off23_inb (wd nw) _ k2 p2) v2 s2 ((off23_eq h0 hn _).trans (by rw [e2]))) $$ [V2c V2t]
    · isplitl [V2c]
      · iexists gv2; iexact V2c
      · iexact V2t
    ihave M2 := (mFly_slot c 2 fm (e (2 % nw), ⟨2 / nw, (Nat.div_le_self _ _).trans_lt (by omega)⟩) k0_off25_inb k0_off24_inb (k0_off26_inb (wd nw) _ k2 p2) m2 r2 ((off26_eq h0 hn _).trans (by rw [e2]))) $$ [M2c M2t]
    · isplitl [M2c]
      · iexists gm2; iexact M2c
      · iexact M2t
    ihave V3 := (vFly_slot c 3 fv (e (3 % nw), ⟨3 / nw, (Nat.div_le_self _ _).trans_lt (by omega)⟩) k0_off29_inb k0_off28_inb (k0_off30_inb (wd nw) _ k3 p3) v3 s3 ((off30_eq h0 hn _).trans (by rw [e3]))) $$ [V3c V3t]
    · isplitl [V3c]
      · iexists gv3; iexact V3c
      · iexact V3t
    ihave M3 := (mFly_slot c 3 fm (e (3 % nw), ⟨3 / nw, (Nat.div_le_self _ _).trans_lt (by omega)⟩) k0_off32_inb k0_off31_inb (k0_off33_inb (wd nw) _ k3 p3) m3 r3 ((off33_eq h0 hn _).trans (by rw [e3]))) $$ [M3c M3t]
    · isplitl [M3c]
      · iexists gm3; iexact M3c
      · iexact M3t
    ihave V4 := (vFly_slot c 4 fv (e (4 % nw), ⟨4 / nw, (Nat.div_le_self _ _).trans_lt (by omega)⟩) k0_off36_inb k0_off35_inb (k0_off37_inb (wd nw) _ k4 p4) v4 s4 ((off37_eq h0 hn _).trans (by rw [e4]))) $$ [V4c V4t]
    · isplitl [V4c]
      · iexists gv4; iexact V4c
      · iexact V4t
    ihave M4 := (mFly_slot c 4 fm (e (4 % nw), ⟨4 / nw, (Nat.div_le_self _ _).trans_lt (by omega)⟩) k0_off39_inb k0_off38_inb (k0_off40_inb (wd nw) _ k4 p4) m4 r4 ((off40_eq h0 hn _).trans (by rw [e4]))) $$ [M4c M4t]
    · isplitl [M4c]
      · iexists gm4; iexact M4c
      · iexact M4t
    sl_step
    sl_open_run
    iapply HK $$ %T %nw %e %b %hn
    · ipureintro; exact ⟨hP, hC⟩
    rw [AtW6, AtW6, stN_sixth]
    rw [show stN nw e 0 5 (0 : Fin 6) = some (e (0 % nw), ⟨0 / nw, (Nat.div_le_self _ _).trans_lt (by omega)⟩) from stN_first e h0 (j := 0) (by omega)]
    rw [show stN nw e 0 5 (1 : Fin 6) = some (e (1 % nw), ⟨1 / nw, (Nat.div_le_self _ _).trans_lt (by omega)⟩) from stN_first e h0 (j := 1) (by omega)]
    rw [show stN nw e 0 5 (2 : Fin 6) = some (e (2 % nw), ⟨2 / nw, (Nat.div_le_self _ _).trans_lt (by omega)⟩) from stN_first e h0 (j := 2) (by omega)]
    rw [show stN nw e 0 5 (3 : Fin 6) = some (e (3 % nw), ⟨3 / nw, (Nat.div_le_self _ _).trans_lt (by omega)⟩) from stN_first e h0 (j := 3) (by omega)]
    rw [show stN nw e 0 5 (4 : Fin 6) = some (e (4 % nw), ⟨4 / nw, (Nat.div_le_self _ _).trans_lt (by omega)⟩) from stN_first e h0 (j := 4) (by omega)]
    isplitl [HG]; · iexact HG
    isplitl [HT]; · iexact HT
    isplitl [V0 V1 V2 V3 V4 V5]
    · isplitl [V0]; · iexact V0
      isplitl [V1]; · iexact V1
      isplitl [V2]; · iexact V2
      isplitl [V3]; · iexact V3
      isplitl [V4]; · iexact V4
      iexact V5
    isplitl [M0 M1 M2 M3 M4 M5]
    · isplitl [M0]; · iexact M0
      isplitl [M1]; · iexact M1
      isplitl [M2]; · iexact M2
      isplitl [M3]; · iexact M3
      isplitl [M4]; · iexact M4
      iexact M5
    iexists _; iexact HO

end Cert.Kernel.Hand

end
-- ==== Proof.Run.lean ====
/-
  The kernel's run: the work list, the operands picked out of the rows, then the main loop.
-/
module

public import proofs.«01_k».proof.Proof.Trip
public import proofs.«01_k».proof.Proof.Start
public import Idealize.ShloMosaic.Lib.LoopRemainder

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD)

variable {S : ℕ → ℕ}

/-- What the result holds at the end. -/
def Done (S : ℕ → ℕ) (fxs : Buf (Elt F) (xsM.view.loc (c : Thread nD τ))) (fw : Buf (Elt F) (wsM.view.loc (c : Thread nD τ))) (fx : Buf (Elt F) (xM.view.loc (c : Thread nD τ))) (fv : Buf (Elt F) (wvM.view.loc (c : Thread nD τ))) (fm : Buf (Elt F) (wmM.view.loc (c : Thread nD τ))) (fy : Buf (Elt F) (yM.view.loc (c : Thread nD τ))) : Prop := True

theorem kernel_run (fg : (cc0_stg0_0 : Ref sig .tc).ty.Contents (Elt F)) (hG : Groups fg S) (hS : ∀ k ≤ 21, S k ≤ 256) (T0 : Tab (F := F))
    (fv : Buf (Elt F) (wvM.view.loc (c : Thread nD τ))) (fm : Buf (Elt F) (wmM.view.loc (c : Thread nD τ))) (fxs : Buf (Elt F) (xsM.view.loc (c : Thread nD τ))) (fw : Buf (Elt F) (wsM.view.loc (c : Thread nD τ))) (fx : Buf (Elt F) (xM.view.loc (c : Thread nD τ))) (fy : Buf (Elt F) (yM.view.loc (c : Thread nD τ)))
    (A0 : Buf (Elt F) (xaM.view.loc (c : Thread nD τ))) (B0 : Buf (Elt F) (xbM.view.loc (c : Thread nD τ))) (C0 : Buf (Elt F) (xcM.view.loc (c : Thread nD τ))) (D0 : Buf (Elt F) (sbM.view.loc (c : Thread nD τ))) (W : Waits sig Unit) (Q : PUnit → sProp (𝕄)) :
    iprop((gsM.view.loc (c : Thread nD τ) ↦{fullShare} fg) ∗ (xsM.view.loc (c : Thread nD τ) ↦{fullShare} fxs) ∗ (wsM.view.loc (c : Thread nD τ) ↦{fullShare} fw) ∗ (xM.view.loc (c : Thread nD τ) ↦{fullShare} fx) ∗ (yM.view.loc (c : Thread nD τ) ↦{fullShare} fy)
        ∗ (xaM.view.loc (c : Thread nD τ) ↦{fullShare} A0) ∗ (xbM.view.loc (c : Thread nD τ) ↦{fullShare} B0) ∗ (xcM.view.loc (c : Thread nD τ) ↦{fullShare} C0) ∗ (sbM.view.loc (c : Thread nD τ) ↦{fullShare} D0) ∗ (tabM.view.loc (c : Thread nD τ) ↦{fullShare} T0)
        ∗ Ring.AtW (vSlot c fv) (fun _ => none) ∗ Ring.AtW (mSlot c fm) (fun _ => none)
        ∗ owes (c : Thread nD τ) 0 W
        ∗ (iprop((gsM.view.loc (c : Thread nD τ) ↦{fullShare} fg) ∗ (xsM.view.loc (c : Thread nD τ) ↦{fullShare} fxs) ∗ (wsM.view.loc (c : Thread nD τ) ↦{fullShare} fw) ∗ (xM.view.loc (c : Thread nD τ) ↦{fullShare} fx) ∗ (∃ fy', (yM.view.loc (c : Thread nD τ) ↦{fullShare} fy') ∗ ⌜Done c S fxs fw fx fv fm fy'⌝)
            ∗ (∃ A, (xaM.view.loc (c : Thread nD τ) ↦{fullShare} A)) ∗ (∃ A, (xbM.view.loc (c : Thread nD τ) ↦{fullShare} A)) ∗ (∃ A, (xcM.view.loc (c : Thread nD τ) ↦{fullShare} A)) ∗ (∃ A, (sbM.view.loc (c : Thread nD τ) ↦{fullShare} A)) ∗ (∃ A, (tabM.view.loc (c : Thread nD τ) ↦{fullShare} A))
            ∗ Ring.AtW (vSlot c fv) (fun _ => none) ∗ Ring.AtW (mSlot c fm) (fun _ => none)
            ∗ ∃ W', owes (c : Thread nD τ) 0 W') -∗ Q ⟨⟩))
      ⊢ wp frame (wpE (defs₀ (F := F)) 𝒱₀ (c : Thread nD τ) none) Set.univ (cc0_sparse24_gmm (F := F) gsM (wh _) xsM (wh _) wsM (wh _) xM (wh _) wvM (wh _) wmM (wh _) yM (wh _) xaM (wh _) xbM (wh _) xcM (wh _) sbM (wh _) tabM (wh _) vbM (wh _) mbM (wh _) cc0_scratch7 cc0_scratch8) Q := by
  rw [cc0_sparse24_gmm_eq_skeleton]; unfold cc0_sparse24_gmm_skel
  rw [wp_bind]
  iintro ⟨HG, HX, HW, Hx, HY, HA, HB, HC, HD, HT, HV, HM, HO, HK⟩
  iapply (part67_run c fg hG T0 fv fm W)
  isplitl [HG]; · iexact HG
  isplitl [HT]; · iexact HT
  isplitl [HV]; · iexact HV
  isplitl [HM]; · iexact HM
  isplitl [HO]; · iexact HO
  iintro %T %nw %e %b %hn %hPC ⟨HG, HT, HV, HM, ⟨%W', HO⟩⟩
  sl_exec
  rw [wp_bind]
  iapply (Scf.wp_for frame (wpE (defs₀ (F := F)) 𝒱₀ (c : Thread nD τ) none) Set.univ _ _ _ (k0_t2_ok (wd nw) (chk2 hn)) (0#32) _
    (fun (t : ℕ) (_ : BitVec 32) => iprop(Held c T nw e fv fm (xaM.view.writes (Elt F) xaM.view.junk (kernel_run.sl.HA_20 c fx)) (xbM.view.writes (Elt F) xbM.view.junk (kernel_run.sl.HB_20 c fx)) (xcM.view.writes (Elt F) xcM.view.junk (kernel_run.sl.HC_20 c fx)) (sbM.view.writes (Elt F) sbM.view.junk (kernel_run.sl.HD_2 c fxs)) fw t ∗ ∃ fy', (yM.view.loc (c : Thread nD τ) ↦{fullShare} fy'))) ?step)
  case step =>
    intro k acc
    iintro ⟨HH, ⟨%fy', HY⟩⟩
    have hi : k.val % nw < nw := Nat.mod_lt _ (nw_pos hn k)
    have hI := hPC.1 _ hi
    have he : (wd (e (k.val % nw)).val).toNat < 21 := by
      rw [toNat_wd (by have := (e (k.val % nw)).isLt; omega)]; exact (e (k.val % nw)).isLt
    iapply (trip c hPC.1 hS hn k _ _ acc fv fm _ _ _ _ fw fy' (chk8 hn k (by rw [toNat_wd (by omega)]; omega) (by rw [toNat_wd (by omega)]; have := hI.h32; omega)) (chk10 hn k he) (chk11 hn k he))
    isplitl [HH]; · iexact HH
    iexact HY
  isplitl [HT HA HB HC HD HW HV HM HO HY]
  · unfold Held
    isplitr [HY]
    · isplitl [HT]; · iexact HT
      isplitl [HA]; · iexact HA
      isplitl [HB]; · iexact HB
      isplitl [HC]; · iexact HC
      isplitl [HD]; · iexact HD
      isplitl [HW]; · iexact HW
      isplitl [HV]; · iexact HV
      isplitl [HM]; · iexact HM
      iexists W'; iexact HO
    · iexists fy; iexact HY
  iintro %acc HI
  unfold Held
  icases HI with ⟨⟨HT, HA, HB, HC, HD, HW, HV, HM, ⟨%W'', HO⟩⟩, ⟨%fy', HY⟩⟩
  have hend : stN nw e (k0_t2_loop (wd nw)).trips 5 = fun _ => none := by
    rw [t2_trips hn]; funext j; exact stN_end nw e j
  ihave HV := (Entails.of_eq (congrArg (Ring.AtW (vSlot c fv)) hend)) $$ HV
  ihave HM := (Entails.of_eq (congrArg (Ring.AtW (mSlot c fm)) hend)) $$ HM
  sl_exec
  sl_step
  iapply HK
  isplitl [HG]; · iexact HG
  isplitl [HX]; · iexact HX
  isplitl [HW]; · iexact HW
  isplitl [Hx]; · iexact Hx
  isplitl [HY]
  · iexists _; isplitl [HY]; · iexact HY
    ipureintro; trivial
  isplitl [HA]; · iexists _; iexact HA
  isplitl [HB]; · iexists _; iexact HB
  isplitl [HC]; · iexists _; iexact HC
  isplitl [HD]; · iexists _; iexact HD
  isplitl [HT]; · iexists _; iexact HT
  isplitl [HV]; · iexact HV
  isplitl [HM]; · iexact HM
  iexists _; iexact HO

end Cert.Kernel.Hand

end
-- ==== Proof.Ends.lean ====
/-
  The two rings at the two ends of the kernel: the buffers, their cells and the arrays they are filled from, split into slots and
  joined again.
-/
module

public import proofs.«01_k».proof.Proof.Ring

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD)

theorem vslot_set (k : Fin 6) : (vslotAt ![k.val, 0, 0] (vslot_inb k)).view.set = (Rect.unit (s := S6x2560x512) ![k.val, 0, 0] S1x2560x512.size (vslot_inb k)).set :=
  (View.set_reshape _ _).trans (View.set_slice_whole _ _)

theorem vslot_disjoint (k k' : Fin 6) (h : k ≠ k') :
    Disjoint (Rect.unit (s := S6x2560x512) ![k.val, 0, 0] S1x2560x512.size (vslot_inb k)).set (Rect.unit (s := S6x2560x512) ![k'.val, 0, 0] S1x2560x512.size (vslot_inb k')).set :=
  Ring.lead_disjoint (s := S6x2560x512) 0 1 (fun k : Fin 6 => ![k.val, 0, 0]) S1x2560x512.size vslot_inb (fun k => (Nat.one_mul _).symm) rfl k k' h

theorem vslot_cover : Finset.univ.biUnion (fun k : Fin 6 => (Rect.unit (s := S6x2560x512) ![k.val, 0, 0] S1x2560x512.size (vslot_inb k)).set) = Finset.univ :=
  Ring.lead_cover (s := S6x2560x512) 0 1 (fun k : Fin 6 => ![k.val, 0, 0]) S1x2560x512.size vslot_inb (fun k => (Nat.one_mul _).symm)
    (fun k a ha => by fin_cases a <;> first | exact absurd rfl ha | rfl) rfl
    (fun a ha => by fin_cases a <;> first | exact absurd rfl ha | rfl) rfl

/-- The six cells at zero, the ring's buffer and the array it is filled from make six free slots, beside a share of the array. -/
theorem v_init (fa : Buf (Elt F) (wvM.view.loc (c : Thread nD τ))) (f : Buf (Elt F) (vbM.view.loc (c : Thread nD τ))) :
    iprop((bigSep Finset.univ fun k : Fin 6 => (semVal ((c : Thread nD τ), vcellAt ![k.val] (cell_inb k)) 0 : sProp 𝕄))
        ∗ (vbM.view.loc (c : Thread nD τ) ↦{fullShare} f) ∗ (wvM.view.loc (c : Thread nD τ) ↦{fullShare} fa))
      ⊢ iprop(Ring.AtW (vSlot c fa) (fun _ => none) ∗ (wvM.view.loc (c : Thread nD τ) ↦{Transfers.shareDrop fullShare 6} fa)) := by
  have h0 : iprop((bigSep Finset.univ fun k : Fin 6 => (semVal ((c : Thread nD τ), vcellAt ![k.val] (cell_inb k)) 0 : sProp 𝕄))
        ∗ (bigSep Finset.univ fun k : Fin 6 => (vbM.view.loc (c : Thread nD τ) ↦[(Rect.unit (s := S6x2560x512) ![k.val, 0, 0] S1x2560x512.size (vslot_inb k)).set]{fullShare} f : sProp 𝕄))
        ∗ (bigSep Finset.univ fun k : Fin 6 => (vtok c k Finset.univ fa : sProp 𝕄)))
      ⊢ (Ring.AtW (vSlot c fa) (fun _ => none) : sProp 𝕄) := by
    rw [← bigSep_sep', ← bigSep_sep']
    unfold Ring.AtW
    refine BI.bigSep_mono fun k _ => ?_
    rw [vSlot_none]; unfold vFreeAt; rw [vslot_set]
    show iprop((semVal ((c : Thread nD τ), vcellAt ![k.val] (cell_inb k)) 0 : sProp 𝕄) ∗ (vbM.view.loc (c : Thread nD τ) ↦[(Rect.unit (s := S6x2560x512) ![k.val, 0, 0] S1x2560x512.size (vslot_inb k)).set]{fullShare} f) ∗ vtok c k Finset.univ fa)
      ⊢ iprop((semVal ((c : Thread nD τ), vcellAt ![k.val] (cell_inb k)) 0 : sProp 𝕄) ∗ (∃ f, vbM.view.loc (c : Thread nD τ) ↦[(Rect.unit (s := S6x2560x512) ![k.val, 0, 0] S1x2560x512.size (vslot_inb k)).set]{fullShare} f) ∗ vtok c k Finset.univ fa)
    iintro ⟨HC, HB, HT⟩
    isplitl [HC]; · iexact HC
    isplitl [HB]; · iexists f; iexact HB
    iexact HT
  iintro ⟨HC, HB, HS⟩
  ihave HS := (Transfers.pointsTo_toks_split (S := Finset.univ) fullShare 6) $$ HS
  icases HS with ⟨HD, HT⟩
  ihave HB := (Entails.of_eq (Ring.pointsTo_blocks (ℓ := vbM.view.loc (c : Thread nD τ)) (q := fullShare) _ vslot_disjoint vslot_cover f)) $$ HB
  isplitr [HD]
  · iapply h0
    isplitl [HC]; · iexact HC
    isplitl [HB]; · iexact HB
    iexact HT
  · iexact HD

/-- Six free slots give them back. -/
theorem v_fini (fa : Buf (Elt F) (wvM.view.loc (c : Thread nD τ))) :
    iprop(Ring.AtW (vSlot c fa) (fun _ => none) ∗ (wvM.view.loc (c : Thread nD τ) ↦{Transfers.shareDrop fullShare 6} fa))
      ⊢ iprop((bigSep Finset.univ fun k : Fin 6 => (semVal ((c : Thread nD τ), vcellAt ![k.val] (cell_inb k)) 0 : sProp 𝕄))
        ∗ (∃ f, vbM.view.loc (c : Thread nD τ) ↦{fullShare} f) ∗ (wvM.view.loc (c : Thread nD τ) ↦{fullShare} fa)) := by
  have h0 : (Ring.AtW (vSlot c fa) (fun _ => none) : sProp 𝕄)
      ⊢ bigSep Finset.univ fun k : Fin 6 => iprop((semVal ((c : Thread nD τ), vcellAt ![k.val] (cell_inb k)) 0 : sProp 𝕄)
        ∗ iprop((∃ f, vbM.view.loc (c : Thread nD τ) ↦[(Rect.unit (s := S6x2560x512) ![k.val, 0, 0] S1x2560x512.size (vslot_inb k)).set]{fullShare} f) ∗ vtok c k Finset.univ fa)) := by
    unfold Ring.AtW
    refine BI.bigSep_mono fun k _ => ?_
    rw [vSlot_none]; unfold vFreeAt; rw [vslot_set]; exact Entails.refl _
  iintro ⟨HA, HD⟩
  ihave H := h0 $$ HA
  ihave H := (Entails.of_eq (bigSep_sep' Finset.univ _ _)) $$ H
  icases H with ⟨HC, H⟩
  ihave H := (Entails.of_eq (bigSep_sep' Finset.univ _ _)) $$ H
  icases H with ⟨HB, HT⟩
  isplitl [HC]; · iexact HC
  isplitl [HB]
  · iapply (Ring.pointsTo_blocks_join_exists (ℓ := vbM.view.loc (c : Thread nD τ)) (q := fullShare) _ vslot_disjoint vslot_cover vbM.view.junk)
    iexact HB
  iapply (Transfers.pointsTo_toks_join (S := Finset.univ) fullShare 6)
  isplitl [HD]; · iexact HD
  iexact HT

theorem mslot_set (k : Fin 6) : (mslotAt ![k.val, 0, 0] (mslot_inb k)).view.set = (Rect.unit (s := S6x160x512) ![k.val, 0, 0] S1x160x512.size (mslot_inb k)).set :=
  (View.set_reshape _ _).trans (View.set_slice_whole _ _)

theorem mslot_disjoint (k k' : Fin 6) (h : k ≠ k') :
    Disjoint (Rect.unit (s := S6x160x512) ![k.val, 0, 0] S1x160x512.size (mslot_inb k)).set (Rect.unit (s := S6x160x512) ![k'.val, 0, 0] S1x160x512.size (mslot_inb k')).set :=
  Ring.lead_disjoint (s := S6x160x512) 0 1 (fun k : Fin 6 => ![k.val, 0, 0]) S1x160x512.size mslot_inb (fun k => (Nat.one_mul _).symm) rfl k k' h

theorem mslot_cover : Finset.univ.biUnion (fun k : Fin 6 => (Rect.unit (s := S6x160x512) ![k.val, 0, 0] S1x160x512.size (mslot_inb k)).set) = Finset.univ :=
  Ring.lead_cover (s := S6x160x512) 0 1 (fun k : Fin 6 => ![k.val, 0, 0]) S1x160x512.size mslot_inb (fun k => (Nat.one_mul _).symm)
    (fun k a ha => by fin_cases a <;> first | exact absurd rfl ha | rfl) rfl
    (fun a ha => by fin_cases a <;> first | exact absurd rfl ha | rfl) rfl

/-- The six cells at zero, the ring's buffer and the array it is filled from make six free slots, beside a share of the array. -/
theorem m_init (fa : Buf (Elt F) (wmM.view.loc (c : Thread nD τ))) (f : Buf (Elt F) (mbM.view.loc (c : Thread nD τ))) :
    iprop((bigSep Finset.univ fun k : Fin 6 => (semVal ((c : Thread nD τ), mcellAt ![k.val] (cell_inb k)) 0 : sProp 𝕄))
        ∗ (mbM.view.loc (c : Thread nD τ) ↦{fullShare} f) ∗ (wmM.view.loc (c : Thread nD τ) ↦{fullShare} fa))
      ⊢ iprop(Ring.AtW (mSlot c fa) (fun _ => none) ∗ (wmM.view.loc (c : Thread nD τ) ↦{Transfers.shareDrop fullShare 6} fa)) := by
  have h0 : iprop((bigSep Finset.univ fun k : Fin 6 => (semVal ((c : Thread nD τ), mcellAt ![k.val] (cell_inb k)) 0 : sProp 𝕄))
        ∗ (bigSep Finset.univ fun k : Fin 6 => (mbM.view.loc (c : Thread nD τ) ↦[(Rect.unit (s := S6x160x512) ![k.val, 0, 0] S1x160x512.size (mslot_inb k)).set]{fullShare} f : sProp 𝕄))
        ∗ (bigSep Finset.univ fun k : Fin 6 => (mtok c k Finset.univ fa : sProp 𝕄)))
      ⊢ (Ring.AtW (mSlot c fa) (fun _ => none) : sProp 𝕄) := by
    rw [← bigSep_sep', ← bigSep_sep']
    unfold Ring.AtW
    refine BI.bigSep_mono fun k _ => ?_
    rw [mSlot_none]; unfold mFreeAt; rw [mslot_set]
    show iprop((semVal ((c : Thread nD τ), mcellAt ![k.val] (cell_inb k)) 0 : sProp 𝕄) ∗ (mbM.view.loc (c : Thread nD τ) ↦[(Rect.unit (s := S6x160x512) ![k.val, 0, 0] S1x160x512.size (mslot_inb k)).set]{fullShare} f) ∗ mtok c k Finset.univ fa)
      ⊢ iprop((semVal ((c : Thread nD τ), mcellAt ![k.val] (cell_inb k)) 0 : sProp 𝕄) ∗ (∃ f, mbM.view.loc (c : Thread nD τ) ↦[(Rect.unit (s := S6x160x512) ![k.val, 0, 0] S1x160x512.size (mslot_inb k)).set]{fullShare} f) ∗ mtok c k Finset.univ fa)
    iintro ⟨HC, HB, HT⟩
    isplitl [HC]; · iexact HC
    isplitl [HB]; · iexists f; iexact HB
    iexact HT
  iintro ⟨HC, HB, HS⟩
  ihave HS := (Transfers.pointsTo_toks_split (S := Finset.univ) fullShare 6) $$ HS
  icases HS with ⟨HD, HT⟩
  ihave HB := (Entails.of_eq (Ring.pointsTo_blocks (ℓ := mbM.view.loc (c : Thread nD τ)) (q := fullShare) _ mslot_disjoint mslot_cover f)) $$ HB
  isplitr [HD]
  · iapply h0
    isplitl [HC]; · iexact HC
    isplitl [HB]; · iexact HB
    iexact HT
  · iexact HD

/-- Six free slots give them back. -/
theorem m_fini (fa : Buf (Elt F) (wmM.view.loc (c : Thread nD τ))) :
    iprop(Ring.AtW (mSlot c fa) (fun _ => none) ∗ (wmM.view.loc (c : Thread nD τ) ↦{Transfers.shareDrop fullShare 6} fa))
      ⊢ iprop((bigSep Finset.univ fun k : Fin 6 => (semVal ((c : Thread nD τ), mcellAt ![k.val] (cell_inb k)) 0 : sProp 𝕄))
        ∗ (∃ f, mbM.view.loc (c : Thread nD τ) ↦{fullShare} f) ∗ (wmM.view.loc (c : Thread nD τ) ↦{fullShare} fa)) := by
  have h0 : (Ring.AtW (mSlot c fa) (fun _ => none) : sProp 𝕄)
      ⊢ bigSep Finset.univ fun k : Fin 6 => iprop((semVal ((c : Thread nD τ), mcellAt ![k.val] (cell_inb k)) 0 : sProp 𝕄)
        ∗ iprop((∃ f, mbM.view.loc (c : Thread nD τ) ↦[(Rect.unit (s := S6x160x512) ![k.val, 0, 0] S1x160x512.size (mslot_inb k)).set]{fullShare} f) ∗ mtok c k Finset.univ fa)) := by
    unfold Ring.AtW
    refine BI.bigSep_mono fun k _ => ?_
    rw [mSlot_none]; unfold mFreeAt; rw [mslot_set]; exact Entails.refl _
  iintro ⟨HA, HD⟩
  ihave H := h0 $$ HA
  ihave H := (Entails.of_eq (bigSep_sep' Finset.univ _ _)) $$ H
  icases H with ⟨HC, H⟩
  ihave H := (Entails.of_eq (bigSep_sep' Finset.univ _ _)) $$ H
  icases H with ⟨HB, HT⟩
  isplitl [HC]; · iexact HC
  isplitl [HB]
  · iapply (Ring.pointsTo_blocks_join_exists (ℓ := mbM.view.loc (c : Thread nD τ)) (q := fullShare) _ mslot_disjoint mslot_cover mbM.view.junk)
    iexact HB
  iapply (Transfers.pointsTo_toks_join (S := Finset.univ) fullShare 6)
  isplitl [HD]; · iexact HD
  iexact HT

end Cert.Kernel.Hand

end
-- ==== Proof.Body.lean ====
/-
  The kernel's call: the buffers, cells and arrays that it is handed, its run, and what every array holds afterwards.
-/
module

public import proofs.«01_k».proof.Proof.Run
public import proofs.«01_k».proof.Proof.Ends
public import proofs.«01_k».proof.Proof.Gen.Kernel.Launch
public import proofs.«01_k».proof.Proof.Gen.Kernel.Points
public import Idealize.ShloMosaic.Lib.Pipeline.Frame
public import Idealize.ShloMosaic.Lib.Pipeline.FrameBody
public import Idealize.ShloMosaic.Lib.Pipeline.DatRel

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

open Idealize.ShloMosaic.Pipeline (Dat RDat BodyObligationRel)

variable (m : (ℓ : Loc nD τ sig) → Buf (Elt F) ℓ) (ρ : Dev nD → PrngReg)

/-! ## Before the call -/

/-- What each buffer holds when the kernel is called. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program up to the kernel's call. -/
theorem hmain : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the kernel writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))
/-- No host operation before the kernel writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))
/-- No host operation before the kernel writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))
/-- No host operation before the kernel writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))
/-- No host operation before the kernel writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))
/-- No host operation before the kernel writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))

/-! ## What the kernel is handed -/

/-- The kernel's own twelve cells. -/
abbrev osem0 : Fin 12 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16] : Fin 12 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) := by
  rw [Pipeline.ownSems0_eq_of_list c osem0 [0, 1, 2, 3, 4, 5, 6, 7, 8, 9, 10, 11] (by decide) (by decide)]; rfl

/-- The two arrays that the kernel copies from. -/
def H0 : Finset (Ref sig .tc) := {main_arg3, main_arg4}
theorem H0_sub : H0 ⊆ Pipeline.restRefs sig spec0 := by decide
theorem hbmPts0_eq (c : Dev nD) :
    (bigSep H0 (fun b => ((c : Thread nD τ).loc b) ↦{fullShare} V m c b) : sProp 𝕄)
      = iprop((wvM.view.loc (c : Thread nD τ) ↦{fullShare} V m c main_arg3) ∗ (wmM.view.loc (c : Thread nD τ) ↦{fullShare} V m c main_arg4)) := by
  rw [BI.bigSep_eq_bigSepL_of_eq [main_arg3, main_arg4] (by decide) (by decide)]; rfl

theorem PhiD0_eq (c : Dev nD) :
    (Pipeline.ΦD osem0 spec0 H0 (V m) c : sProp 𝕄)
      = iprop(iprop((∃ f, xaM.view.loc (c : Thread nD τ) ↦{fullShare} f) ∗ (∃ f, xbM.view.loc (c : Thread nD τ) ↦{fullShare} f)
            ∗ (∃ f, xcM.view.loc (c : Thread nD τ) ↦{fullShare} f) ∗ (∃ f, sbM.view.loc (c : Thread nD τ) ↦{fullShare} f)
            ∗ (∃ f, vbM.view.loc (c : Thread nD τ) ↦{fullShare} f) ∗ (∃ f, mbM.view.loc (c : Thread nD τ) ↦{fullShare} f)
            ∗ (∃ f, tabM.view.loc (c : Thread nD τ) ↦{fullShare} f)) ∗ (∃ r, prngReg c r)
          ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0)
          ∗ iprop((wvM.view.loc (c : Thread nD τ) ↦{fullShare} V m c main_arg3) ∗ (wmM.view.loc (c : Thread nD τ) ↦{fullShare} V m c main_arg4))) := by
  rw [Pipeline.ΦD_eq, scopedRest0_eq, ownSems00_eq, hbmPts0_eq]; try rfl

theorem vcells_eq (c : Dev nD) : (bigSep Finset.univ fun k : Fin 6 => (semVal ((c : Thread nD τ), vcellAt ![k.val] (cell_inb k)) 0 : sProp 𝕄))
    = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [bigSep_univ_eq_bigSepL [(0 : Fin 6), 1, 2, 3, 4, 5] (by decide) (by decide)]; rfl
theorem mcells_eq (c : Dev nD) : (bigSep Finset.univ fun k : Fin 6 => (semVal ((c : Thread nD τ), mcellAt ![k.val] (cell_inb k)) 0 : sProp 𝕄))
    = iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) := by
  rw [bigSep_univ_eq_bigSepL [(0 : Fin 6), 1, 2, 3, 4, 5] (by decide) (by decide)]; rfl

/-- What window `w` reads of its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Nothing is named of the result here: what it meets is a relation. -/
def forgets0 : Fin 5 → Bool := fun w => decide (w = 4)

def dats (_ : Fin 1) (c : Dev nD) : Dat τ (Elt F) Unit ℕ (Pipeline.UD sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0 (F := F)) ⟨4, h⟩ t
  Φ _ := Pipeline.ΦD osem0 spec0 H0 (V m) c
  q _ := fullShare
  owed _ := 0

theorem A_eq (c : Dev nD) (w : Fin (cfg0 (F := F)).W) : (dats m 0 c).A w = V m c (Pipeline.arrRef spec0 w) := by dsimp only [dats]
theorem after0_0 (c : Dev nD) (t : Fin (cfg0 (F := F)).N) : (dats m 0 c).after 0 t = iblk m c 0 t := by dsimp only [dats]; rfl
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin (cfg0 (F := F)).N) : (dats m 0 c).after 1 t = iblk m c 1 t := by dsimp only [dats]; rfl
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin (cfg0 (F := F)).N) : (dats m 0 c).after 2 t = iblk m c 2 t := by dsimp only [dats]; rfl
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin (cfg0 (F := F)).N) : (dats m 0 c).after 3 t = iblk m c 3 t := by dsimp only [dats]; rfl
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

variable (S : Dev nD → ℕ → ℕ)

/-- The result meets `Done`. -/
def Rl (c : Dev nD) (w : Fin (cfg0 (F := F)).W) (t : Fin (cfg0 (F := F)).N) (X : (((cfg0 (F := F)).win w).block).Idx → Elt F ((cfg0 (F := F)).win w).elt) : Prop :=
  match w, X with
  | ⟨4, _⟩, X => Done c (S c) (iblk m c 1 t) (iblk m c 2 t) (iblk m c 3 t) (V m c main_arg3) (V m c main_arg4) X
  | _, _ => True

def bodyPre (c : Dev nD) (t : Fin (cfg0 (F := F)).N) : sProp 𝕄 :=
  iprop((dats m 0 c).Φ t.castSucc ∗ (dats m 0 c).owesAt () t.castSucc
    ∗ (∃ d, owns (c : Thread nD τ) (Memref.whole cc0_stg0_0) fullShare ((dats m 0 c).before 0 t d))
    ∗ (∃ d, owns (c : Thread nD τ) (Memref.whole cc0_stg1_0) fullShare ((dats m 0 c).before 1 t d))
    ∗ (∃ d, owns (c : Thread nD τ) (Memref.whole cc0_stg2_0) fullShare ((dats m 0 c).before 2 t d))
    ∗ (∃ d, owns (c : Thread nD τ) (Memref.whole cc0_stg3_0) fullShare ((dats m 0 c).before 3 t d))
    ∗ (∃ Y, ⌜((dats m 0 c).toRRel forgets0 (Rl m S c)).Finds 4 t Y⌝ ∗ owns (c : Thread nD τ) (Memref.whole cc0_stg4_0) fullShare Y))
def bodyPost (c : Dev nD) (t : Fin (cfg0 (F := F)).N) : sProp 𝕄 :=
  iprop((dats m 0 c).Φ t.succ ∗ (dats m 0 c).owesAt () t.succ
    ∗ owns (c : Thread nD τ) (Memref.whole cc0_stg0_0) fullShare ((dats m 0 c).after 0 t)
    ∗ owns (c : Thread nD τ) (Memref.whole cc0_stg1_0) fullShare ((dats m 0 c).after 1 t)
    ∗ owns (c : Thread nD τ) (Memref.whole cc0_stg2_0) fullShare ((dats m 0 c).after 2 t)
    ∗ owns (c : Thread nD τ) (Memref.whole cc0_stg3_0) fullShare ((dats m 0 c).after 3 t)
    ∗ (∃ X, ⌜Rl m S c 4 t X⌝ ∗ owns (c : Thread nD τ) (Memref.whole cc0_stg4_0) fullShare X))

theorem sound_body (c : Dev nD) (t : Fin (cfg0 (F := F)).N) (hG : Groups (iblk m c 0 t) (S c)) :
    bodyPre m S c t ⊢ wp frame (wpE (defs₀ (F := F)) 𝒱₀ (c : Thread nD τ) none) Set.univ (bodyAt0 t) (fun _ => bodyPost m S c t) := by
  unfold bodyPre bodyPost
  rw [show (bodyAt0 (F := F) t) = cc0_sparse24_gmm (F := F) gsM (wh _) xsM (wh _) wsM (wh _) xM (wh _) wvM (wh _) wmM (wh _) yM (wh _) xaM (wh _) xbM (wh _) xcM (wh _) sbM (wh _) tabM (wh _) vbM (wh _) mbM (wh _) cc0_scratch7 cc0_scratch8 from rfl,
    show (dats m 0 c).Φ t.succ = Pipeline.ΦD osem0 spec0 H0 (V m) c from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl]
  simp only [before0_0, before0_1, before0_2, before0_3, after0_0, after0_1, after0_2, after0_3]
  iintro ⟨⟨⟨⟨%A0, HA⟩, ⟨%B0, HB⟩, ⟨%C0, HC⟩, ⟨%D0, HD⟩, ⟨%vb0, HVB⟩, ⟨%mb0, HMB⟩, ⟨%T0, HT⟩⟩, Hg, ⟨Hq0, Hq1, Hq2, Hq3, Hq4, Hq5, Hq6, Hq7, Hq8, Hq9, Hq10, Hq11⟩, ⟨Hv, Hm⟩⟩, ⟨%W, %hW, HO⟩, ⟨%d0, H0⟩, ⟨%d1, H1⟩, ⟨%d2, H2⟩, ⟨%d3, H3⟩, ⟨%Y, %hY, H4⟩⟩
  ihave H0 := (Entails.of_eq (owns_whole (c : Thread nD τ) cc0_stg0_0 fullShare (iblk m c 0 t))) $$ H0
  ihave H1 := (Entails.of_eq (owns_whole (c : Thread nD τ) cc0_stg1_0 fullShare (iblk m c 1 t))) $$ H1
  ihave H2 := (Entails.of_eq (owns_whole (c : Thread nD τ) cc0_stg2_0 fullShare (iblk m c 2 t))) $$ H2
  ihave H3 := (Entails.of_eq (owns_whole (c : Thread nD τ) cc0_stg3_0 fullShare (iblk m c 3 t))) $$ H3
  ihave H4 := (Entails.of_eq (owns_whole (c : Thread nD τ) cc0_stg4_0 fullShare Y)) $$ H4
  ihave HV := (v_init c (V m c main_arg3) vb0) $$ [Hq0 Hq1 Hq2 Hq3 Hq4 Hq5 HVB Hv]
  · rw [vcells_eq]
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [HVB]; · iexact HVB
    iexact Hv
  icases HV with ⟨HV, Hv⟩
  ihave HM := (m_init c (V m c main_arg4) mb0) $$ [Hq6 Hq7 Hq8 Hq9 Hq10 Hq11 HMB Hm]
  · rw [mcells_eq]
    isplitl [Hq6 Hq7 Hq8 Hq9 Hq10 Hq11]
    · isplitl [Hq6]; · iexact Hq6
      isplitl [Hq7]; · iexact Hq7
      isplitl [Hq8]; · iexact Hq8
      isplitl [Hq9]; · iexact Hq9
      isplitl [Hq10]; · iexact Hq10
      iexact Hq11
    isplitl [HMB]; · iexact HMB
    iexact Hm
  icases HM with ⟨HM, Hm⟩
  iapply (kernel_run c _ hG hG.le T0 (V m c main_arg3) (V m c main_arg4) (iblk m c 1 t) (iblk m c 2 t) (iblk m c 3 t) Y A0 B0 C0 D0 W)
  isplitl [H0]; · iexact H0
  isplitl [H1]; · iexact H1
  isplitl [H2]; · iexact H2
  isplitl [H3]; · iexact H3
  isplitl [H4]; · iexact H4
  isplitl [HA]; · iexact HA
  isplitl [HB]; · iexact HB
  isplitl [HC]; · iexact HC
  isplitl [HD]; · iexact HD
  isplitl [HT]; · iexact HT
  isplitl [HV]; · iexact HV
  isplitl [HM]; · iexact HM
  isplitl [HO]; · iexact HO
  iintro ⟨H0, H1, H2, H3, ⟨%fy, H4, %hD⟩, HA, HB, HC, HD, HT, HV, HM, ⟨%W', HO⟩⟩
  ihave HV := (v_fini c (V m c main_arg3)) $$ [HV Hv]
  · isplitl [HV]; · iexact HV
    iexact Hv
  icases HV with ⟨HQ, HVB, Hv⟩
  ihave HQ := (Entails.of_eq (vcells_eq c)) $$ HQ
  icases HQ with ⟨Hq0, Hq1, Hq2, Hq3, Hq4, Hq5⟩
  ihave HM := (m_fini c (V m c main_arg4)) $$ [HM Hm]
  · isplitl [HM]; · iexact HM
    iexact Hm
  icases HM with ⟨HQ, HMB, Hm⟩
  ihave HQ := (Entails.of_eq (mcells_eq c)) $$ HQ
  icases HQ with ⟨Hq6, Hq7, Hq8, Hq9, Hq10, Hq11⟩
  isplitl [HA HB HC HD HVB HMB HT Hg Hq0 Hq1 Hq2 Hq3 Hq4 Hq5 Hq6 Hq7 Hq8 Hq9 Hq10 Hq11 Hv Hm]
  · isplitl [HA HB HC HD HVB HMB HT]
    · isplitl [HA]; · iexact HA
      isplitl [HB]; · iexact HB
      isplitl [HC]; · iexact HC
      isplitl [HD]; · iexact HD
      isplitl [HVB]; · iexact HVB
      isplitl [HMB]; · iexact HMB
      iexact HT
    isplitl [Hg]; · iexact Hg
    isplitl [Hq0 Hq1 Hq2 Hq3 Hq4 Hq5 Hq6 Hq7 Hq8 Hq9 Hq10 Hq11]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      iexact Hq11
    isplitl [Hv]; · iexact Hv
    iexact Hm
  isplitl [HO]
  · iexists W'; isplitr; · ipureintro; exact fun _ _ => Or.inl trivial
    iexact HO
  isplitl [H0]; · iapply (Entails.of_eq (owns_whole (c : Thread nD τ) cc0_stg0_0 fullShare (iblk m c 0 t)).symm); iexact H0
  isplitl [H1]; · iapply (Entails.of_eq (owns_whole (c : Thread nD τ) cc0_stg1_0 fullShare (iblk m c 1 t)).symm); iexact H1
  isplitl [H2]; · iapply (Entails.of_eq (owns_whole (c : Thread nD τ) cc0_stg2_0 fullShare (iblk m c 2 t)).symm); iexact H2
  isplitl [H3]; · iapply (Entails.of_eq (owns_whole (c : Thread nD τ) cc0_stg3_0 fullShare (iblk m c 3 t)).symm); iexact H3
  iexists fy
  isplitr
  · ipureintro; exact hD
  iapply (Entails.of_eq (owns_whole (c : Thread nD τ) cc0_stg4_0 fullShare fy).symm); iexact H4

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) (hG : ∀ t, Groups (iblk m c 0 t) (S c)) :
    BodyObligationRel (dats (F := F) m 0 c) (defs₀ (F := F)) 𝒱₀ () Set.univ forgets0 (Rl m S c) := fun t => by
  rw [bigSep_W0, bigSep_W0, defs₀_row]
  exact triple_restated (sound_body m S c t (hG t)) rfl .rfl fun _ => .rfl

/-! ## The run -/

set_option backward.isDefEq.respectTransparency.types false in
theorem run_main (hG : ∀ c t, Groups (iblk m c 0 t) (S c)) :
    θ_run defs (onTc (τ := τ) (main (F := F))) (s₀ m ρ)
      (fun r => Pipeline.RDat.FramePost (cfgs 0) (fun c => (dats m 0 c).toRRel forgets0 (Rl m S c)) (V m) r ∧ r.2.sem = fun _ => 0) :=
  Pipeline.RDat.θ_run_frame_dma (Q' := _) cfgs (0 : Fin 1) launch0 osem0 defs₀ 𝒱₀ (fun c => (dats m 0 c).toRRel forgets0 (Rl m S c)) ownSemFacts0 H0 H0_sub m ρ main
    (hbody := fun c => (body_obligation m S c (hG c)).toRRel) (hshare := fun c => (dats m 0 c).share_full fun _ => rfl)
    (howed := fun _ _ => rfl) (V := V m) (hmain := hmain m) (hA := A_eq m)
    (hin := fun _ => .rfl) (hout := fun _ => .rfl)

end Cert.Kernel.Hand

end
-- ==== Proof.Sizes.lean ====
/-
  The groups' sizes. From the precondition on the 32-bit words of the sizes: the number of rows of the first `k` groups, as a
  natural number, and what is known of it.
-/
module

public import proofs.«01_k».proof.Pre_groups_fit
public import proofs.«01_k».proof.Proof.Words0
public import Idealize.ShloMosaic.Lib.ReduceAll
public import Idealize.ShloMosaic.Lib.Affine
public import Idealize.ShloMosaic.Lib.Routing.Ops
public import Idealize.ShloMosaic.PureOps

@[expose] public section

noncomputable section

namespace Cert.Hand

open Idealize.ShloMosaic

/-- A vector of 21 words' shape. -/
abbrev V21 : Shape := ⟨1, ![21]⟩

/-- The index `k` of a vector of 21. -/
def ix (k : Fin 21) : V21.Idx := fun a => ⟨k.val, by fin_cases a; exact k.isLt⟩

theorem ix_eq (i : V21.Idx) : ix ⟨(i 0).val, (i 0).isLt⟩ = i := by
  funext a; fin_cases a; rfl

/-- The rows of the first `k` groups. -/
def Sof (g : V21.Idx → BitVec 32) (k : ℕ) : ℕ := ∑ i ∈ Finset.range k, if h : i < 21 then (g (ix ⟨i, h⟩)).toNat else 0

theorem Sof_zero (g : V21.Idx → BitVec 32) : Sof g 0 = 0 := rfl

theorem Sof_succ (g : V21.Idx → BitVec 32) {k : ℕ} (h : k < 21) : Sof g (k + 1) = Sof g k + (g (ix ⟨k, h⟩)).toNat := by
  unfold Sof; rw [Finset.sum_range_succ, dif_pos h]

theorem Sof_mono (g : V21.Idx → BitVec 32) {a b : ℕ} (h : a ≤ b) : Sof g a ≤ Sof g b :=
  Finset.sum_le_sum_of_subset (Finset.range_mono h)

theorem Sof_last (g : V21.Idx → BitVec 32) : Sof g 21 = ∑ i : V21.Idx, (g i).toNat := by
  have h1 : Sof g 21 = ∑ k : Fin 21, (g (ix k)).toNat := by
    unfold Sof
    rw [Finset.sum_range]
    exact Finset.sum_congr rfl fun k _ => dif_pos k.isLt
  rw [h1]
  refine Fintype.sum_equiv ⟨ix, fun i => ⟨(i 0).val, (i 0).isLt⟩, fun k => rfl, ix_eq⟩ _ _ fun k => rfl

/-- The sum of the words, as the host computes it. -/
theorem reduce_sum {t u : Shape} [Subsingleton t.Idx] (g : V21.Idx → BitVec 32) (init : u.Idx → BitVec 32) (h : V21.ReducesTo [0] t)
    (hu : 0 < u.numel) (hi : init (Shape.Idx.first hu) = 0#32) (j : t.Idx) :
    Host.reduce IntOp.addi g init h hu j = wd (Sof g 21) := by
  rw [Host.reduce_eq_foldl, List.filter_eq_self.mpr (fun i _ => decide_eq_true (Subsingleton.elim _ _)), Sof_last]
  rw [Routing.foldl_addi_ofNat _ g (fun i => (g i).toNat) (fun a _ => by simp) _ 0 hi]
  rw [Nat.zero_add]
  unfold wd
  congr 1

/-- What is known of the groups' sizes. -/
structure Fits (g : V21.Idx → BitVec 32) : Prop where
  each : ∀ i, (g i).toNat ≤ 256
  all : Sof g 21 ≤ 256

theorem Fits.le {g : V21.Idx → BitVec 32} (h : Fits g) {k : ℕ} (hk : k ≤ 21) : Sof g k ≤ 256 := (Sof_mono g hk).trans h.all

theorem fits_of {g : V21.Idx → BitVec 32} (h0 : ∀ i, 0 ≤ (g i).toInt ∧ (g i).toInt ≤ 256) (hs : (wd (Sof g 21)).toInt ≤ 256) : Fits g := by
  have he : ∀ i, (g i).toNat ≤ 256 := fun i => by
    obtain ⟨h1, h2⟩ := h0 i
    have := BitVec.toInt_eq_toNat_cond (g i)
    have := (g i).isLt
    split_ifs at * <;> omega
  refine ⟨he, ?_⟩
  have hb : Sof g 21 ≤ 21 * 256 := by
    unfold Sof
    refine (Finset.sum_le_card_nsmul _ _ 256 fun i _ => ?_).trans (by simp)
    split_ifs
    · exact he _
    · omega
  rw [toInt_wd (by omega)] at hs
  omega

instance : Subsingleton (⟨0, ![]⟩ : Shape).Idx := ⟨fun a b => funext fun k => k.elim0⟩

theorem fits_groups [hF : Cert.Pre_groups_fit.Facts] {F : FTy → Type} [FloatOps F] {x0 x1 x2 x3 x4 x5}
    (h : Cert.Pre_groups_fit.fn (F := F) x0 x1 x2 x3 x4 x5 = fun _ => 1#1) : Fits x2 := by
  have h := congrFun h (Shape.Idx.first (by decide))
  dsimp only [Cert.Pre_groups_fit.fn] at h
  obtain ⟨ha, hb⟩ := IntOp.andi_eq_one.1 h
  refine fits_of (fun i => ?_) ?_
  · obtain ⟨h1, h2⟩ := IntOp.andi_eq_one.1 (Host.reduce_andi_all _ _ _ _ _ ha i)
    exact ⟨IntOp.cmpi_sge.1 h1, IntOp.cmpi_sle.1 h2⟩
  · have h2 := IntOp.cmpi_sle.1 hb
    exact (congrArg BitVec.toInt (reduce_sum x2 (constantI Cert.Pre_groups_fit.S_ 32 0#32) Cert.Pre_groups_fit.Facts.reducesTo_S21_S_d0 Cert.Pre_groups_fit.Facts.h_S_ rfl _)).symm.trans_le h2

end Cert.Hand

end
-- ==== Proof.Frame.lean ====
/-
  The frame of the kernel: from sizes that fit, the program terminates without fault and its arguments end as they began.
-/
module

public import proofs.«01_k».proof.Proof.Body
public import proofs.«01_k».proof.Proof.Sizes

@[expose] public section

noncomputable section

namespace Cert.Kernel.Hand

open Cert.Kernel Cert.Kernel.Gen Cert.Hand
open Idealize.ShloMosaic Idealize.ShloMosaic.TcCoe Idealize.ShloMosaic.Tactic
open Idealize.SL.Sem

variable {F : FTy → Type} [FloatOps F] [∀ e, Nonempty (Elt F e)]
variable (m : (ℓ : Loc nD τ sig) → Buf (Elt F) ℓ) (ρ : Dev nD → PrngReg)

/-- The rows of the first `k` groups, on core `c`. -/
abbrev Sm (c : Dev nD) : ℕ → ℕ := Sof (m ((c : Thread nD τ).loc main_arg2))

/-- The sizes that the kernel is handed. -/
theorem groups_of (c : Dev nD) (h : Fits (m ((c : Thread nD τ).loc main_arg2))) (t : Fin (cfg0 (F := F)).N) :
    Groups (iblk m c 0 t) (Sm m c) := by
  refine ⟨rfl, fun k hk => Sof_mono _ (Nat.le_succ k), fun k hk => h.le hk, fun k hk y hy => ?_⟩
  have e1 : gsM.view.read (Elt F) (iblk m c 0 t) y = m ((c : Thread nD τ).loc main_arg2) (ix ⟨k, hk⟩) := by
    rw [← V_main_arg2 m c]
    obtain ⟨t, ht⟩ := t
    have h0 : t = 0 := Nat.lt_one_iff.mp ht
    subst h0
    show V m c main_arg2 _ = V m c main_arg2 _
    congr 1
    funext a; fin_cases a
    refine Fin.ext ?_
    show 0 * 21 + 1 * (y 0).val = k
    omega
  rw [e1]
  show _ = wd (Sof (m ((c : Thread nD τ).loc main_arg2)) (k + 1) - Sof (m ((c : Thread nD τ).loc main_arg2)) k)
  rw [Sof_succ _ hk, Nat.add_sub_cancel_left]
  unfold wd; simp

/-- The frame. -/
theorem frame (h : ∀ c : Dev nD, Fits (m ((c : Thread nD τ).loc main_arg2))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r hr => ⟨fun c => ⟨?_, ?_, ?_, ?_, ?_, ?_⟩, hr.2⟩)
    (run_main m ρ (fun c => Sm m c) fun c t => groups_of m c (h c) t)
  · exact (hr.1.arr_in c 3 rfl).trans ((A_eq m c 3).trans (V_main_arg0 m c))
  · exact ((hr.1 c).2 main_arg1 (Pipeline.mem_restRefs_of main_arg1 (by decide) (by intro w; fin_cases w <;> exact fun h => nomatch h))).trans (V_main_arg1 m c)
  · exact (hr.1.arr_in c 0 rfl).trans ((A_eq m c 0).trans (V_main_arg2 m c))
  · exact ((hr.1 c).2 main_arg3 (Pipeline.mem_restRefs_of main_arg3 (by decide) (by intro w; fin_cases w <;> exact fun h => nomatch h))).trans (V_main_arg3 m c)
  · exact ((hr.1 c).2 main_arg4 (Pipeline.mem_restRefs_of main_arg4 (by decide) (by intro w; fin_cases w <;> exact fun h => nomatch h))).trans (V_main_arg4 m c)
  · exact (hr.1.arr_in c 2 rfl).trans ((A_eq m c 2).trans (V_main_arg5 m c))

end Cert.Kernel.Hand

end
-- ==== Proof.Ideal.Words.lean ====
/-
  The kernel's index words in closed form. With `nw` entries in the work list (at most 64), step `t` of the main loop (`t < 6 nw`)
  treats entry `t % nw` of the list in column slab `t / nw`, out of ring slot `t % 6`; each theorem says so of one offset
  vector that the kernel computes.
-/
module

public import proofs.«01_k».proof.Proof.Words0
public import proofs.«01_k».proof.Proof.Gen.KernelIdeal

@[expose] public section

namespace Cert.KernelIdeal.Hand

open Cert.KernelIdeal Cert.KernelIdeal.Gen Cert.Hand
open Idealize.ShloMosaic

theorem t2_trips {nw : ℕ} (hn : nw ≤ 64) : (k0_t2_loop (wd nw)).trips = 6 * nw := by
  have : ∀ n : Fin 65, (k0_t2_loop (wd n.val)).trips = 6 * n.val := by decide +kernel
  exact this ⟨nw, by omega⟩

theorem t2_ok {nw : ℕ} (hn : nw ≤ 64) : (k0_t2_loop (wd nw)).OK := by
  have : ∀ n : Fin 65, (k0_t2_loop (wd n.val)).OK := by decide +kernel
  exact this ⟨nw, by omega⟩

theorem t3_trips {nw : ℕ} (hn : nw ≤ 64) : (k0_t3_loop (wd nw)).trips = 0 := by
  have : ∀ n : Fin 65, (k0_t3_loop (wd n.val)).trips = 0 := by decide +kernel
  exact this ⟨nw, by omega⟩

theorem t3_ok {nw : ℕ} (hn : nw ≤ 64) : (k0_t3_loop (wd nw)).OK := by
  have : ∀ n : Fin 65, (k0_t3_loop (wd n.val)).OK := by decide +kernel
  exact this ⟨nw, by omega⟩

/-- A step of the main loop lies below `6 nw`, -/
theorem k_lt {nw : ℕ} (hn : nw ≤ 64) (k : Fin (k0_t2_loop (wd nw)).trips) : k.val < 6 * nw :=
  lt_of_lt_of_eq k.isLt (t2_trips hn)

/-- and there is none when the list is empty. -/
theorem nw_pos {nw : ℕ} (hn : nw ≤ 64) (k : Fin (k0_t2_loop (wd nw)).trips) : 0 < nw := by
  have := k_lt hn k; omega

theorem no_t3 {nw : ℕ} (hn : nw ≤ 64) (k : Fin (k0_t3_loop (wd nw)).trips) : False := by
  have := lt_of_lt_of_eq k.isLt (t3_trips hn); omega

/-- The step five ahead, as the kernel computes it. -/
theorem sub5 (k : ℕ) : Scalar.subi (wd (k + 6)) 1#32 = wd (k + 5) := by
  show Scalar.subi (wd (k + 6)) (wd 1) = wd (k + 5)
  rw [show k + 6 = (k + 5) + 1 from rfl, ← addw (k + 5) 1]; simp [Scalar.subi, Scalar.addi, IntOp.subi, IntOp.addi]

/-- The remainder, as the kernel computes it from the quotient. -/
theorem itemq {k n : ℕ} (hk : k < 4294967296) : Scalar.subi (wd k) (wd (k / n * n)) = wd (k % n) := by
  have h1 : k / n * n + k % n = k := Nat.div_add_mod' k n
  have : Scalar.subi (wd (k / n * n + k % n)) (wd (k / n * n)) = wd (k % n) := by
    rw [← addw]; simp [Scalar.subi, Scalar.addi, IntOp.subi, IntOp.addi]
  rwa [h1] at this

theorem itemq0 {n : ℕ} : Scalar.subi 0#32 (wd (0 / n * n)) = wd (0 % n) := itemq (by omega)

theorem itemq1 {n : ℕ} : Scalar.subi 1#32 (wd (1 / n * n)) = wd (1 % n) := itemq (by omega)

theorem itemq2 {n : ℕ} : Scalar.subi 2#32 (wd (2 / n * n)) = wd (2 % n) := itemq (by omega)

theorem itemq3 {n : ℕ} : Scalar.subi 3#32 (wd (3 / n * n)) = wd (3 % n) := itemq (by omega)

theorem itemq4 {n : ℕ} : Scalar.subi 4#32 (wd (4 / n * n)) = wd (4 % n) := itemq (by omega)

/-- The main loop starts a copy at step `k` exactly when step `k + 5` exists. -/
theorem cond6_iff {nw : ℕ} (hn : nw ≤ 64) (k : Fin (k0_t2_loop (wd nw)).trips) : k0_cond6 (wd nw) k = 1#1 ↔ k.val + 5 < 6 * nw := by
  have hk := k_lt hn k
  simp only [k0_cond6, ivw, addw, sub5, mulw, ne_extui]
  rw [sltw (by omega) (by omega)]; omega

theorem cond1_iff {nw : ℕ} (hn : nw ≤ 64) : k0_cond1 (wd nw) = 1#1 ↔ 0 < 6 * nw := by
  simp only [k0_cond1, mulw, ne_extui]
  rw [show (0#32 : BitVec 32) = wd 0 from rfl, sgtw (by omega) (by omega)]; omega

theorem cond2_iff {nw : ℕ} (hn : nw ≤ 64) : k0_cond2 (wd nw) = 1#1 ↔ 1 < 6 * nw := by
  simp only [k0_cond2, mulw, ne_extui]
  rw [show (1#32 : BitVec 32) = wd 1 from rfl, sgtw (by omega) (by omega)]; omega

theorem cond3_iff {nw : ℕ} (hn : nw ≤ 64) : k0_cond3 (wd nw) = 1#1 ↔ 2 < 6 * nw := by
  simp only [k0_cond3, mulw, ne_extui]
  rw [show (2#32 : BitVec 32) = wd 2 from rfl, sgtw (by omega) (by omega)]; omega

theorem cond4_iff {nw : ℕ} (hn : nw ≤ 64) : k0_cond4 (wd nw) = 1#1 ↔ 3 < 6 * nw := by
  simp only [k0_cond4, mulw, ne_extui]
  rw [show (3#32 : BitVec 32) = wd 3 from rfl, sgtw (by omega) (by omega)]; omega

theorem cond5_iff {nw : ℕ} (hn : nw ≤ 64) : k0_cond5 (wd nw) = 1#1 ↔ 4 < 6 * nw := by
  simp only [k0_cond5, mulw, ne_extui]
  rw [show (4#32 : BitVec 32) = wd 4 from rfl, sgtw (by omega) (by omega)]; omega

theorem off6_eq {nw : ℕ} (h0 : 0 < nw) (hn : nw ≤ 64) : k0_off6 (wd nw) = ![0, 0 % nw] := by
  have hd : 0 / nw ≤ 0 := Nat.div_le_self _ _
  have hm : 0 % nw < nw := Nat.mod_lt _ h0
  simp (disch := omega) only [k0_off6, itemq0, itemq1, itemq2, itemq3, itemq4, Scalar.indexCast, ivw, addw, sub5, itemq, divw, remw, mulw, toNat_wd]

theorem off9_eq {nw : ℕ} (h0 : 0 < nw) (hn : nw ≤ 64) (w : BitVec 32) : k0_off9 (wd nw) w = ![w.toNat, 0, 0 / nw * 512] := by
  have hd : 0 / nw ≤ 0 := Nat.div_le_self _ _
  have hm : 0 % nw < nw := Nat.mod_lt _ h0
  simp (disch := omega) only [k0_off9, Scalar.indexCast, ivw, addw, sub5, itemq, divw, remw, mulw, toNat_wd]

theorem off12_eq {nw : ℕ} (h0 : 0 < nw) (hn : nw ≤ 64) (w : BitVec 32) : k0_off12 (wd nw) w = ![w.toNat, 0, 0 / nw * 512] := by
  have hd : 0 / nw ≤ 0 := Nat.div_le_self _ _
  have hm : 0 % nw < nw := Nat.mod_lt _ h0
  simp (disch := omega) only [k0_off12, Scalar.indexCast, ivw, addw, sub5, itemq, divw, remw, mulw, toNat_wd]

theorem off13_eq {nw : ℕ} (h0 : 0 < nw) (hn : nw ≤ 64) : k0_off13 (wd nw) = ![0, 1 % nw] := by
  have hd : 1 / nw ≤ 1 := Nat.div_le_self _ _
  have hm : 1 % nw < nw := Nat.mod_lt _ h0
  simp (disch := omega) only [k0_off13, itemq0, itemq1, itemq2, itemq3, itemq4, Scalar.indexCast, ivw, addw, sub5, itemq, divw, remw, mulw, toNat_wd]

theorem off16_eq {nw : ℕ} (h0 : 0 < nw) (hn : nw ≤ 64) (w : BitVec 32) : k0_off16 (wd nw) w = ![w.toNat, 0, 1 / nw * 512] := by
  have hd : 1 / nw ≤ 1 := Nat.div_le_self _ _
  have hm : 1 % nw < nw := Nat.mod_lt _ h0
  simp (disch := omega) only [k0_off16, Scalar.indexCast, ivw, addw, sub5, itemq, divw, remw, mulw, toNat_wd]

theorem off19_eq {nw : ℕ} (h0 : 0 < nw) (hn : nw ≤ 64) (w : BitVec 32) : k0_off19 (wd nw) w = ![w.toNat, 0, 1 / nw * 512] := by
  have hd : 1 / nw ≤ 1 := Nat.div_le_self _ _
  have hm : 1 % nw < nw := Nat.mod_lt _ h0
  simp (disch := omega) only [k0_off19, Scalar.indexCast, ivw, addw, sub5, itemq, divw, remw, mulw, toNat_wd]

theorem off20_eq {nw : ℕ} (h0 : 0 < nw) (hn : nw ≤ 64) : k0_off20 (wd nw) = ![0, 2 % nw] := by
  have hd : 2 / nw ≤ 2 := Nat.div_le_self _ _
  have hm : 2 % nw < nw := Nat.mod_lt _ h0
  simp (disch := omega) only [k0_off20, itemq0, itemq1, itemq2, itemq3, itemq4, Scalar.indexCast, ivw, addw, sub5, itemq, divw, remw, mulw, toNat_wd]

theorem off23_eq {nw : ℕ} (h0 : 0 < nw) (hn : nw ≤ 64) (w : BitVec 32) : k0_off23 (wd nw) w = ![w.toNat, 0, 2 / nw * 512] := by
  have hd : 2 / nw ≤ 2 := Nat.div_le_self _ _
  have hm : 2 % nw < nw := Nat.mod_lt _ h0
  simp (disch := omega) only [k0_off23, Scalar.indexCast, ivw, addw, sub5, itemq, divw, remw, mulw, toNat_wd]

theorem off26_eq {nw : ℕ} (h0 : 0 < nw) (hn : nw ≤ 64) (w : BitVec 32) : k0_off26 (wd nw) w = ![w.toNat, 0, 2 / nw * 512] := by
  have hd : 2 / nw ≤ 2 := Nat.div_le_self _ _
  have hm : 2 % nw < nw := Nat.mod_lt _ h0
  simp (disch := omega) only [k0_off26, Scalar.indexCast, ivw, addw, sub5, itemq, divw, remw, mulw, toNat_wd]

theorem off27_eq {nw : ℕ} (h0 : 0 < nw) (hn : nw ≤ 64) : k0_off27 (wd nw) = ![0, 3 % nw] := by
  have hd : 3 / nw ≤ 3 := Nat.div_le_self _ _
  have hm : 3 % nw < nw := Nat.mod_lt _ h0
  simp (disch := omega) only [k0_off27, itemq0, itemq1, itemq2, itemq3, itemq4, Scalar.indexCast, ivw, addw, sub5, itemq, divw, remw, mulw, toNat_wd]

theorem off30_eq {nw : ℕ} (h0 : 0 < nw) (hn : nw ≤ 64) (w : BitVec 32) : k0_off30 (wd nw) w = ![w.toNat, 0, 3 / nw * 512] := by
  have hd : 3 / nw ≤ 3 := Nat.div_le_self _ _
  have hm : 3 % nw < nw := Nat.mod_lt _ h0
  simp (disch := omega) only [k0_off30, Scalar.indexCast, ivw, addw, sub5, itemq, divw, remw, mulw, toNat_wd]

theorem off33_eq {nw : ℕ} (h0 : 0 < nw) (hn : nw ≤ 64) (w : BitVec 32) : k0_off33 (wd nw) w = ![w.toNat, 0, 3 / nw * 512] := by
  have hd : 3 / nw ≤ 3 := Nat.div_le_self _ _
  have hm : 3 % nw < nw := Nat.mod_lt _ h0
  simp (disch := omega) only [k0_off33, Scalar.indexCast, ivw, addw, sub5, itemq, divw, remw, mulw, toNat_wd]

theorem off34_eq {nw : ℕ} (h0 : 0 < nw) (hn : nw ≤ 64) : k0_off34 (wd nw) = ![0, 4 % nw] := by
  have hd : 4 / nw ≤ 4 := Nat.div_le_self _ _
  have hm : 4 % nw < nw := Nat.mod_lt _ h0
  simp (disch := omega) only [k0_off34, itemq0, itemq1, itemq2, itemq3, itemq4, Scalar.indexCast, ivw, addw, sub5, itemq, divw, remw, mulw, toNat_wd]

theorem off37_eq {nw : ℕ} (h0 : 0 < nw) (hn : nw ≤ 64) (w : BitVec 32) : k0_off37 (wd nw) w = ![w.toNat, 0, 4 / nw * 512] := by
  have hd : 4 / nw ≤ 4 := Nat.div_le_self _ _
  have hm : 4 % nw < nw := Nat.mod_lt _ h0
  simp (disch := omega) only [k0_off37, Scalar.indexCast, ivw, addw, sub5, itemq, divw, remw, mulw, toNat_wd]

theorem off40_eq {nw : ℕ} (h0 : 0 < nw) (hn : nw ≤ 64) (w : BitVec 32) : k0_off40 (wd nw) w = ![w.toNat, 0, 4 / nw * 512] := by
  have hd : 4 / nw ≤ 4 := Nat.div_le_self _ _
  have hm : 4 % nw < nw := Nat.mod_lt _ h0
  simp (disch := omega) only [k0_off40, Scalar.indexCast, ivw, addw, sub5, itemq, divw, remw, mulw, toNat_wd]

theorem off41_eq {nw : ℕ} (hn : nw ≤ 64) (k : Fin (k0_t2_loop (wd nw)).trips) : k0_off41 (wd nw) k = ![0, k.val % nw] := by
  have hk := k_lt hn k; have h0 := nw_pos hn k
  have hd : k.val / nw ≤ k.val := Nat.div_le_self _ _
  have hm : k.val % nw < nw := Nat.mod_lt _ h0
  simp (disch := omega) only [k0_off41, Scalar.indexCast, ivw, addw, sub5, itemq, divw, remw, mulw, toNat_wd]

theorem off42_eq {nw : ℕ} (hn : nw ≤ 64) (k : Fin (k0_t2_loop (wd nw)).trips) : k0_off42 (wd nw) k = ![1, k.val % nw] := by
  have hk := k_lt hn k; have h0 := nw_pos hn k
  have hd : k.val / nw ≤ k.val := Nat.div_le_self _ _
  have hm : k.val % nw < nw := Nat.mod_lt _ h0
  simp (disch := omega) only [k0_off42, Scalar.indexCast, ivw, addw, sub5, itemq, divw, remw, mulw, toNat_wd]

theorem off43_eq {nw : ℕ} (hn : nw ≤ 64) (k : Fin (k0_t2_loop (wd nw)).trips) : k0_off43 (wd nw) k = ![2, k.val % nw] := by
  have hk := k_lt hn k; have h0 := nw_pos hn k
  have hd : k.val / nw ≤ k.val := Nat.div_le_self _ _
  have hm : k.val % nw < nw := Nat.mod_lt _ h0
  simp (disch := omega) only [k0_off43, Scalar.indexCast, ivw, addw, sub5, itemq, divw, remw, mulw, toNat_wd]

theorem off44_eq {nw : ℕ} (hn : nw ≤ 64) (k : Fin (k0_t2_loop (wd nw)).trips) : k0_off44 (wd nw) k = ![3, k.val % nw] := by
  have hk := k_lt hn k; have h0 := nw_pos hn k
  have hd : k.val / nw ≤ k.val := Nat.div_le_self _ _
  have hm : k.val % nw < nw := Nat.mod_lt _ h0
  simp (disch := omega) only [k0_off44, Scalar.indexCast, ivw, addw, sub5, itemq, divw, remw, mulw, toNat_wd]

theorem off45_eq {nw : ℕ} (hn : nw ≤ 64) (k : Fin (k0_t2_loop (wd nw)).trips) : k0_off45 (wd nw) k = ![0, (k.val + 5) % nw] := by
  have hk := k_lt hn k; have h0 := nw_pos hn k
  have hd : (k.val + 5) / nw ≤ (k.val + 5) := Nat.div_le_self _ _
  have hm : (k.val + 5) % nw < nw := Nat.mod_lt _ h0
  simp (disch := omega) only [k0_off45, Scalar.indexCast, ivw, addw, sub5, itemq, divw, remw, mulw, toNat_wd]

theorem off46_eq {nw : ℕ} (hn : nw ≤ 64) (k : Fin (k0_t2_loop (wd nw)).trips) : k0_off46 (wd nw) k = ![(k.val + 5) % 6] := by
  have hk := k_lt hn k; have h0 := nw_pos hn k
  have hd : (k.val + 5) / nw ≤ (k.val + 5) := Nat.div_le_self _ _
  have hm : (k.val + 5) % nw < nw := Nat.mod_lt _ h0
  simp (disch := omega) only [k0_off46, Scalar.indexCast, ivw, addw, sub5, itemq, divw, remw, mulw, toNat_wd]

theorem off47_eq {nw : ℕ} (hn : nw ≤ 64) (k : Fin (k0_t2_loop (wd nw)).trips) : k0_off47 (wd nw) k = ![(k.val + 5) % 6, 0, 0] := by
  have hk := k_lt hn k; have h0 := nw_pos hn k
  have hd : (k.val + 5) / nw ≤ (k.val + 5) := Nat.div_le_self _ _
  have hm : (k.val + 5) % nw < nw := Nat.mod_lt _ h0
  simp (disch := omega) only [k0_off47, Scalar.indexCast, ivw, addw, sub5, itemq, divw, remw, mulw, toNat_wd]

theorem off48_eq {nw : ℕ} (hn : nw ≤ 64) (k : Fin (k0_t2_loop (wd nw)).trips) (w : BitVec 32) : k0_off48 (wd nw) k w = ![w.toNat, 0, (k.val + 5) / nw * 512] := by
  have hk := k_lt hn k; have h0 := nw_pos hn k
  have hd : (k.val + 5) / nw ≤ (k.val + 5) := Nat.div_le_self _ _
  have hm : (k.val + 5) % nw < nw := Nat.mod_lt _ h0
  simp (disch := omega) only [k0_off48, Scalar.indexCast, ivw, addw, sub5, itemq, divw, remw, mulw, toNat_wd]

theorem off49_eq {nw : ℕ} (hn : nw ≤ 64) (k : Fin (k0_t2_loop (wd nw)).trips) : k0_off49 (wd nw) k = ![(k.val + 5) % 6] := by
  have hk := k_lt hn k; have h0 := nw_pos hn k
  have hd : (k.val + 5) / nw ≤ (k.val + 5) := Nat.div_le_self _ _
  have hm : (k.val + 5) % nw < nw := Nat.mod_lt _ h0
  simp (disch := omega) only [k0_off49, Scalar.indexCast, ivw, addw, sub5, itemq, divw, remw, mulw, toNat_wd]

theorem off50_eq {nw : ℕ} (hn : nw ≤ 64) (k : Fin (k0_t2_loop (wd nw)).trips) : k0_off50 (wd nw) k = ![(k.val + 5) % 6, 0, 0] := by
  have hk := k_lt hn k; have h0 := nw_pos hn k
  have hd : (k.val + 5) / nw ≤ (k.val + 5) := Nat.div_le_self _ _
  have hm : (k.val + 5) % nw < nw := Nat.mod_lt _ h0
  simp (disch := omega) only [k0_off50, Scalar.indexCast, ivw, addw, sub5, itemq, divw, remw, mulw, toNat_wd]

theorem off51_eq {nw : ℕ} (hn : nw ≤ 64) (k : Fin (k0_t2_loop (wd nw)).trips) (w : BitVec 32) : k0_off51 (wd nw) k w = ![w.toNat, 0, (k.val + 5) / nw * 512] := by
  have hk := k_lt hn k; have h0 := nw_pos hn k
  have hd : (k.val + 5) / nw ≤ (k.val + 5) := Nat.div_le_self _ _
  have hm : (k.val + 5) % nw < nw := Nat.mod_lt _ h0
  simp (disch := omega) only [k0_off51, Scalar.indexCast, ivw, addw, sub5, itemq, divw, remw, mulw, toNat_wd]

theorem off52_eq {nw : ℕ} (hn : nw ≤ 64) (k : Fin (k0_t2_loop (wd nw)).trips) : k0_off52 (wd nw) k = ![0, k.val % nw] := by
  have hk := k_lt hn k; have h0 := nw_pos hn k
  have hd : k.val / nw ≤ k.val := Nat.div_le_self _ _
  have hm : k.val % nw < nw := Nat.mod_lt _ h0
  simp (disch := omega) only [k0_off52, Scalar.indexCast, ivw, addw, sub5, itemq, divw, remw, mulw, toNat_wd]

theorem off53_eq {nw : ℕ} (hn : nw ≤ 64) (k : Fin (k0_t2_loop (wd nw)).trips) : k0_off53 (wd nw) k = ![k.val % 6] := by
  have hk := k_lt hn k; have h0 := nw_pos hn k
  have hd : k.val / nw ≤ k.val := Nat.div_le_self _ _
  have hm : k.val % nw < nw := Nat.mod_lt _ h0
  simp (disch := omega) only [k0_off53, Scalar.indexCast, ivw, addw, sub5, itemq, divw, remw, mulw, toNat_wd]

theorem off54_eq {nw : ℕ} (hn : nw ≤ 64) (k : Fin (k0_t2_loop (wd nw)).trips) : k0_off54 (wd nw) k = ![k.val % 6, 0, 0] := by
  have hk := k_lt hn k; have h0 := nw_pos hn k
  have hd : k.val / nw ≤ k.val := Nat.div_le_self _ _
  have hm : k.val % nw < nw := Nat.mod_lt _ h0
  simp (disch := omega) only [k0_off54, Scalar.indexCast, ivw, addw, sub5, itemq, divw, remw, mulw, toNat_wd]

theorem off55_eq {nw : ℕ} (hn : nw ≤ 64) (k : Fin (k0_t2_loop (wd nw)).trips) (w : BitVec 32) : k0_off55 (wd nw) k w = ![w.toNat, 0, k.val / nw * 512] := by
  have hk := k_lt hn k; have h0 := nw_pos hn k
  have hd : k.val / nw ≤ k.val := Nat.div_le_self _ _
  have hm : k.val % nw < nw := Nat.mod_lt _ h0
  simp (disch := omega) only [k0_off55, Scalar.indexCast, ivw, addw, sub5, itemq, divw, remw, mulw, toNat_wd]

theorem off56_eq {nw : ℕ} (hn : nw ≤ 64) (k : Fin (k0_t2_loop (wd nw)).trips) : k0_off56 (wd nw) k = ![k.val % 6] := by
  have hk := k_lt hn k; have h0 := nw_pos hn k
  have hd : k.val / nw ≤ k.val := Nat.div_le_self _ _
  have hm : k.val % nw < nw := Nat.mod_lt _ h0
  simp (disch := omega) only [k0_off56, Scalar.indexCast, ivw, addw, sub5, itemq, divw, remw, mulw, toNat_wd]

theorem off57_eq {nw : ℕ} (hn : nw ≤ 64) (k : Fin (k0_t2_loop (wd nw)).trips) : k0_off57 (wd nw) k = ![k.val % 6, 0, 0] := by
  have hk := k_lt hn k; have h0 := nw_pos hn k
  have hd : k.val / nw ≤ k.val := Nat.div_le_self _ _
  have hm : k.val % nw < nw := Nat.mod_lt _ h0
  simp (disch := omega) only [k0_off57, Scalar.indexCast, ivw, addw, sub5, itemq, divw, remw, mulw, toNat_wd]

theorem off58_eq {nw : ℕ} (hn : nw ≤ 64) (k : Fin (k0_t2_loop (wd nw)).trips) (w : BitVec 32) : k0_off58 (wd nw) k w = ![w.toNat, 0, k.val / nw * 512] := by
  have hk := k_lt hn k; have h0 := nw_pos hn k
  have hd : k.val / nw ≤ k.val := Nat.div_le_self _ _
  have hm : k.val % nw < nw := Nat.mod_lt _ h0
  simp (disch := omega) only [k0_off58, Scalar.indexCast, ivw, addw, sub5, itemq, divw, remw, mulw, toNat_wd]

theorem off59_eq (w : BitVec 32) : k0_off59 w = ![w.toNat, 0] := rfl
theorem off60_eq {nw : ℕ} (hn : nw ≤ 64) (k : Fin (k0_t2_loop (wd nw)).trips) : k0_off60 (wd nw) k = ![k.val % 6, 0, 0] := by
  have hk := k_lt hn k; have h0 := nw_pos hn k
  have hd : k.val / nw ≤ k.val := Nat.div_le_self _ _
  have hm : k.val % nw < nw := Nat.mod_lt _ h0
  simp (disch := omega) only [k0_off60, Scalar.indexCast, ivw, addw, sub5, itemq, divw, remw, mulw, toNat_wd]

theorem off61_eq {nw : ℕ} (hn : nw ≤ 64) (k : Fin (k0_t2_loop (wd nw)).trips) : k0_off61 (wd nw) k = ![k.val % 6, 0, 0] := by
  have hk := k_lt hn k; have h0 := nw_pos hn k
  have hd : k.val / nw ≤ k.val := Nat.div_le_self _ _
  have hm : k.val % nw < nw := Nat.mod_lt _ h0
  simp (disch := omega) only [k0_off61, Scalar.indexCast, ivw, addw, sub5, itemq, divw, remw, mulw, toNat_wd]

theorem off62_eq (w : BitVec 32) : k0_off62 w = ![w.toNat, 0] := rfl
theorem off63_eq {nw : ℕ} (hn : nw ≤ 64) (k : Fin (k0_t2_loop (wd nw)).trips) : k0_off63 (wd nw) k = ![k.val % 6, 256, 0] := by
  have hk := k_lt hn k; have h0 := nw_pos hn k
  have hd : k.val / nw ≤ k.val := Nat.div_le_self _ _
  have hm : k.val % nw < nw := Nat.mod_lt _ h0
  simp (disch := omega) only [k0_off63, Scalar.indexCast, ivw, addw, sub5, itemq, divw, remw, mulw, toNat_wd]

theorem off64_eq {nw : ℕ} (hn : nw ≤ 64) (k : Fin (k0_t2_loop (wd nw)).trips) : k0_off64 (wd nw) k = ![k.val % 6, 16, 0] := by
  have hk := k_lt hn k; have h0 := nw_pos hn k
  have hd : k.val / nw ≤ k.val := Nat.div_le_self _ _
  have hm : k.val % nw < nw := Nat.mod_lt _ h0
  simp (disch := omega) only [k0_off64, Scalar.indexCast, ivw, addw, sub5, itemq, divw, remw, mulw, toNat_wd]

theorem off65_eq (w : BitVec 32) : k0_off65 w = ![w.toNat, 256] := rfl
theorem off66_eq {nw : ℕ} (hn : nw ≤ 64) (k : Fin (k0_t2_loop (wd nw)).trips) : k0_off66 (wd nw) k = ![k.val % 6, 512, 0] := by
  have hk := k_lt hn k; have h0 := nw_pos hn k
  have hd : k.val / nw ≤ k.val := Nat.div_le_self _ _
  have hm : k.val % nw < nw := Nat.mod_lt _ h0
  simp (disch := omega) only [k0_off66, Scalar.indexCast, ivw, addw, sub5, itemq, divw, remw, mulw, toNat_wd]

theorem off67_eq {nw : ℕ} (hn : nw ≤ 64) (k : Fin (k0_t2_loop (wd nw)).trips) : k0_off67 (wd nw) k = ![k.val % 6, 32, 0] := by
  have hk := k_lt hn k; have h0 := nw_pos hn k
  have hd : k.val / nw ≤ k.val := Nat.div_le_self _ _
  have hm : k.val % nw < nw := Nat.mod_lt _ h0
  simp (disch := omega) only [k0_off67, Scalar.indexCast, ivw, addw, sub5, itemq, divw, remw, mulw, toNat_wd]

theorem off68_eq (w : BitVec 32) : k0_off68 w = ![w.toNat, 512] := rfl
theorem off69_eq {nw : ℕ} (hn : nw ≤ 64) (k : Fin (k0_t2_loop (wd nw)).trips) : k0_off69 (wd nw) k = ![k.val % 6, 768, 0] := by
  have hk := k_lt hn k; have h0 := nw_pos hn k
  have hd : k.val / nw ≤ k.val := Nat.div_le_self _ _
  have hm : k.val % nw < nw := Nat.mod_lt _ h0
  simp (disch := omega) only [k0_off69, Scalar.indexCast, ivw, addw, sub5, itemq, divw, remw, mulw, toNat_wd]

theorem off70_eq {nw : ℕ} (hn : nw ≤ 64) (k : Fin (k0_t2_loop (wd nw)).trips) : k0_off70 (wd nw) k = ![k.val % 6, 48, 0] := by
  have hk := k_lt hn k; have h0 := nw_pos hn k
  have hd : k.val / nw ≤ k.val := Nat.div_le_self _ _
  have hm : k.val % nw < nw := Nat.mod_lt _ h0
  simp (disch := omega) only [k0_off70, Scalar.indexCast, ivw, addw, sub5, itemq, divw, remw, mulw, toNat_wd]

theorem off71_eq (w : BitVec 32) : k0_off71 w = ![w.toNat, 768] := rfl
theorem off72_eq {nw : ℕ} (hn : nw ≤ 64) (k : Fin (k0_t2_loop (wd nw)).trips) : k0_off72 (wd nw) k = ![k.val % 6, 1024, 0] := by
  have hk := k_lt hn k; have h0 := nw_pos hn k
  have hd : k.val / nw ≤ k.val := Nat.div_le_self _ _
  have hm : k.val % nw < nw := Nat.mod_lt _ h0
  simp (disch := omega) only [k0_off72, Scalar.indexCast, ivw, addw, sub5, itemq, divw, remw, mulw, toNat_wd]

theorem off73_eq {nw : ℕ} (hn : nw ≤ 64) (k : Fin (k0_t2_loop (wd nw)).trips) : k0_off73 (wd nw) k = ![k.val % 6, 64, 0] := by
  have hk := k_lt hn k; have h0 := nw_pos hn k
  have hd : k.val / nw ≤ k.val := Nat.div_le_self _ _
  have hm : k.val % nw < nw := Nat.mod_lt _ h0
  simp (disch := omega) only [k0_off73, Scalar.indexCast, ivw, addw, sub5, itemq, divw, remw, mulw, toNat_wd]

theorem off74_eq (w : BitVec 32) : k0_off74 w = ![w.toNat, 1024] := rfl
theorem off75_eq {nw : ℕ} (hn : nw ≤ 64) (k : Fin (k0_t2_loop (wd nw)).trips) : k0_off75 (wd nw) k = ![k.val % 6, 1280, 0] := by
  have hk := k_lt hn k; have h0 := nw_pos hn k
  have hd : k.val / nw ≤ k.val := Nat.div_le_self _ _
  have hm : k.val % nw < nw := Nat.mod_lt _ h0
  simp (disch := omega) only [k0_off75, Scalar.indexCast, ivw, addw, sub5, itemq, divw, remw, mulw, toNat_wd]

theorem off76_eq {nw : ℕ} (hn : nw ≤ 64) (k : Fin (k0_t2_loop (wd nw)).trips) : k0_off76 (wd nw) k = ![k.val % 6, 80, 0] := by
  have hk := k_lt hn k; have h0 := nw_pos hn k
  have hd : k.val / nw ≤ k.val := Nat.div_le_self _ _
  have hm : k.val % nw < nw := Nat.mod_lt _ h0
  simp (disch := omega) only [k0_off76, Scalar.indexCast, ivw, addw, sub5, itemq, divw, remw, mulw, toNat_wd]

theorem off77_eq (w : BitVec 32) : k0_off77 w = ![w.toNat, 1280] := rfl
theorem off78_eq {nw : ℕ} (hn : nw ≤ 64) (k : Fin (k0_t2_loop (wd nw)).trips) : k0_off78 (wd nw) k = ![k.val % 6, 1536, 0] := by
  have hk := k_lt hn k; have h0 := nw_pos hn k
  have hd : k.val / nw ≤ k.val := Nat.div_le_self _ _
  have hm : k.val % nw < nw := Nat.mod_lt _ h0
  simp (disch := omega) only [k0_off78, Scalar.indexCast, ivw, addw, sub5, itemq, divw, remw, mulw, toNat_wd]

theorem off79_eq {nw : ℕ} (hn : nw ≤ 64) (k : Fin (k0_t2_loop (wd nw)).trips) : k0_off79 (wd nw) k = ![k.val % 6, 96, 0] := by
  have hk := k_lt hn k; have h0 := nw_pos hn k
  have hd : k.val / nw ≤ k.val := Nat.div_le_self _ _
  have hm : k.val % nw < nw := Nat.mod_lt _ h0
  simp (disch := omega) only [k0_off79, Scalar.indexCast, ivw, addw, sub5, itemq, divw, remw, mulw, toNat_wd]

theorem off80_eq (w : BitVec 32) : k0_off80 w = ![w.toNat, 1536] := rfl
theorem off81_eq {nw : ℕ} (hn : nw ≤ 64) (k : Fin (k0_t2_loop (wd nw)).trips) : k0_off81 (wd nw) k = ![k.val % 6, 1792, 0] := by
  have hk := k_lt hn k; have h0 := nw_pos hn k
  have hd : k.val / nw ≤ k.val := Nat.div_le_self _ _
  have hm : k.val % nw < nw := Nat.mod_lt _ h0
  simp (disch := omega) only [k0_off81, Scalar.indexCast, ivw, addw, sub5, itemq, divw, remw, mulw, toNat_wd]

theorem off82_eq {nw : ℕ} (hn : nw ≤ 64) (k : Fin (k0_t2_loop (wd nw)).trips) : k0_off82 (wd nw) k = ![k.val % 6, 112, 0] := by
  have hk := k_lt hn k; have h0 := nw_pos hn k
  have hd : k.val / nw ≤ k.val := Nat.div_le_self _ _
  have hm : k.val % nw < nw := Nat.mod_lt _ h0
  simp (disch := omega) only [k0_off82, Scalar.indexCast, ivw, addw, sub5, itemq, divw, remw, mulw, toNat_wd]

theorem off83_eq (w : BitVec 32) : k0_off83 w = ![w.toNat, 1792] := rfl
theorem off84_eq {nw : ℕ} (hn : nw ≤ 64) (k : Fin (k0_t2_loop (wd nw)).trips) : k0_off84 (wd nw) k = ![k.val % 6, 2048, 0] := by
  have hk := k_lt hn k; have h0 := nw_pos hn k
  have hd : k.val / nw ≤ k.val := Nat.div_le_self _ _
  have hm : k.val % nw < nw := Nat.mod_lt _ h0
  simp (disch := omega) only [k0_off84, Scalar.indexCast, ivw, addw, sub5, itemq, divw, remw, mulw, toNat_wd]

theorem off85_eq {nw : ℕ} (hn : nw ≤ 64) (k : Fin (k0_t2_loop (wd nw)).trips) : k0_off85 (wd nw) k = ![k.val % 6, 128, 0] := by
  have hk := k_lt hn k; have h0 := nw_pos hn k
  have hd : k.val / nw ≤ k.val := Nat.div_le_self _ _
  have hm : k.val % nw < nw := Nat.mod_lt _ h0
  simp (disch := omega) only [k0_off85, Scalar.indexCast, ivw, addw, sub5, itemq, divw, remw, mulw, toNat_wd]

theorem off86_eq (w : BitVec 32) : k0_off86 w = ![w.toNat, 2048] := rfl
theorem off87_eq {nw : ℕ} (hn : nw ≤ 64) (k : Fin (k0_t2_loop (wd nw)).trips) : k0_off87 (wd nw) k = ![k.val % 6, 2304, 0] := by
  have hk := k_lt hn k; have h0 := nw_pos hn k
  have hd : k.val / nw ≤ k.val := Nat.div_le_self _ _
  have hm : k.val % nw < nw := Nat.mod_lt _ h0
  simp (disch := omega) only [k0_off87, Scalar.indexCast, ivw, addw, sub5, itemq, divw, remw, mulw, toNat_wd]

theorem off88_eq {nw : ℕ} (hn : nw ≤ 64) (k : Fin (k0_t2_loop (wd nw)).trips) : k0_off88 (wd nw) k = ![k.val % 6, 144, 0] := by
  have hk := k_lt hn k; have h0 := nw_pos hn k
  have hd : k.val / nw ≤ k.val := Nat.div_le_self _ _
  have hm : k.val % nw < nw := Nat.mod_lt _ h0
  simp (disch := omega) only [k0_off88, Scalar.indexCast, ivw, addw, sub5, itemq, divw, remw, mulw, toNat_wd]

theorem off89_eq (w : BitVec 32) : k0_off89 w = ![w.toNat, 2304] := rfl
theorem off90_eq {nw : ℕ} (hn : nw ≤ 64) (k : Fin (k0_t2_loop (wd nw)).trips) (w : BitVec 32) (q : ℕ) (hq : q ≤ 256) : k0_off90 (wd nw) k w (wd q) = ![w.toNat, k.val / nw * 512 + q] := by
  have hk := k_lt hn k; have h0 := nw_pos hn k
  have hd : k.val / nw ≤ k.val := Nat.div_le_self _ _
  have hm : k.val % nw < nw := Nat.mod_lt _ h0
  simp (disch := omega) only [k0_off90, Scalar.indexCast, ivw, addw, sub5, itemq, divw, remw, mulw, toNat_wd]

theorem off91_eq {nw : ℕ} (hn : nw ≤ 64) (k : Fin (k0_t2_loop (wd nw)).trips) (w : BitVec 32) (q : ℕ) (hq : q ≤ 256) : k0_off91 (wd nw) k w (wd q) = ![w.toNat, k.val / nw * 512 + q] := by
  have hk := k_lt hn k; have h0 := nw_pos hn k
  have hd : k.val / nw ≤ k.val := Nat.div_le_self _ _
  have hm : k.val % nw < nw := Nat.mod_lt _ h0
  simp (disch := omega) only [k0_off91, Scalar.indexCast, ivw, addw, sub5, itemq, divw, remw, mulw, toNat_wd]

theorem off92_eq {nw : ℕ} (hn : nw ≤ 64) (k : Fin (k0_t2_loop (wd nw)).trips) : k0_off92 (wd nw) k = ![k.val % 6, 0, 256] := by
  have hk := k_lt hn k; have h0 := nw_pos hn k
  have hd : k.val / nw ≤ k.val := Nat.div_le_self _ _
  have hm : k.val % nw < nw := Nat.mod_lt _ h0
  simp (disch := omega) only [k0_off92, Scalar.indexCast, ivw, addw, sub5, itemq, divw, remw, mulw, toNat_wd]

theorem off93_eq {nw : ℕ} (hn : nw ≤ 64) (k : Fin (k0_t2_loop (wd nw)).trips) : k0_off93 (wd nw) k = ![k.val % 6, 0, 256] := by
  have hk := k_lt hn k; have h0 := nw_pos hn k
  have hd : k.val / nw ≤ k.val := Nat.div_le_self _ _
  have hm : k.val % nw < nw := Nat.mod_lt _ h0
  simp (disch := omega) only [k0_off93, Scalar.indexCast, ivw, addw, sub5, itemq, divw, remw, mulw, toNat_wd]

theorem off94_eq (w : BitVec 32) : k0_off94 w = ![w.toNat, 0] := rfl
theorem off95_eq {nw : ℕ} (hn : nw ≤ 64) (k : Fin (k0_t2_loop (wd nw)).trips) : k0_off95 (wd nw) k = ![k.val % 6, 256, 256] := by
  have hk := k_lt hn k; have h0 := nw_pos hn k
  have hd : k.val / nw ≤ k.val := Nat.div_le_self _ _
  have hm : k.val % nw < nw := Nat.mod_lt _ h0
  simp (disch := omega) only [k0_off95, Scalar.indexCast, ivw, addw, sub5, itemq, divw, remw, mulw, toNat_wd]

theorem off96_eq {nw : ℕ} (hn : nw ≤ 64) (k : Fin (k0_t2_loop (wd nw)).trips) : k0_off96 (wd nw) k = ![k.val % 6, 16, 256] := by
  have hk := k_lt hn k; have h0 := nw_pos hn k
  have hd : k.val / nw ≤ k.val := Nat.div_le_self _ _
  have hm : k.val % nw < nw := Nat.mod_lt _ h0
  simp (disch := omega) only [k0_off96, Scalar.indexCast, ivw, addw, sub5, itemq, divw, remw, mulw, toNat_wd]

theorem off97_eq (w : BitVec 32) : k0_off97 w = ![w.toNat, 256] := rfl
theorem off98_eq {nw : ℕ} (hn : nw ≤ 64) (k : Fin (k0_t2_loop (wd nw)).trips) : k0_off98 (wd nw) k = ![k.val % 6, 512, 256] := by
  have hk := k_lt hn k; have h0 := nw_pos hn k
  have hd : k.val / nw ≤ k.val := Nat.div_le_self _ _
  have hm : k.val % nw < nw := Nat.mod_lt _ h0
  simp (disch := omega) only [k0_off98, Scalar.indexCast, ivw, addw, sub5, itemq, divw, remw, mulw, toNat_wd]

theorem off99_eq {nw : ℕ} (hn : nw ≤ 64) (k : Fin (k0_t2_loop (wd nw)).trips) : k0_off99 (wd nw) k = ![k.val % 6, 32, 256] := by
  have hk := k_lt hn k; have h0 := nw_pos hn k
  have hd : k.val / nw ≤ k.val := Nat.div_le_self _ _
  have hm : k.val % nw < nw := Nat.mod_lt _ h0
  simp (disch := omega) only [k0_off99, Scalar.indexCast, ivw, addw, sub5, itemq, divw, remw, mulw, toNat_wd]

theorem off100_eq (w : BitVec 32) : k0_off100 w = ![w.toNat, 512] := rfl
theorem off101_eq {nw : ℕ} (hn : nw ≤ 64) (k : Fin (k0_t2_loop (wd nw)).trips) : k0_off101 (wd nw) k = ![k.val % 6, 768, 256] := by
  have hk := k_lt hn k; have h0 := nw_pos hn k
  have hd : k.val / nw ≤ k.val := Nat.div_le_self _ _
  have hm : k.val % nw < nw := Nat.mod_lt _ h0
  simp (disch := omega) only [k0_off101, Scalar.indexCast, ivw, addw, sub5, itemq, divw, remw, mulw, toNat_wd]

theorem off102_eq {nw : ℕ} (hn : nw ≤ 64) (k : Fin (k0_t2_loop (wd nw)).trips) : k0_off102 (wd nw) k = ![k.val % 6, 48, 256] := by
  have hk := k_lt hn k; have h0 := nw_pos hn k
  have hd : k.val / nw ≤ k.val := Nat.div_le_self _ _
  have hm : k.val % nw < nw := Nat.mod_lt _ h0
  simp (disch := omega) only [k0_off102, Scalar.indexCast, ivw, addw, sub5, itemq, divw, remw, mulw, toNat_wd]

theorem off103_eq (w : BitVec 32) : k0_off103 w = ![w.toNat, 768] := rfl
theorem off104_eq {nw : ℕ} (hn : nw ≤ 64) (k : Fin (k0_t2_loop (wd nw)).trips) : k0_off104 (wd nw) k = ![k.val % 6, 1024, 256] := by
  have hk := k_lt hn k; have h0 := nw_pos hn k
  have hd : k.val / nw ≤ k.val := Nat.div_le_self _ _
  have hm : k.val % nw < nw := Nat.mod_lt _ h0
  simp (disch := omega) only [k0_off104, Scalar.indexCast, ivw, addw, sub5, itemq, divw, remw, mulw, toNat_wd]

theorem off105_eq {nw : ℕ} (hn : nw ≤ 64) (k : Fin (k0_t2_loop (wd nw)).trips) : k0_off105 (wd nw) k = ![k.val % 6, 64, 256] := by
  have hk := k_lt hn k; have h0 := nw_pos hn k
  have hd : k.val / nw ≤ k.val := Nat.div_le_self _ _
  have hm : k.val % nw < nw := Nat.mod_lt _ h0
  simp (disch := omega) only [k0_off105, Scalar.indexCast, ivw, addw, sub5, itemq, divw, remw, mulw, toNat_wd]

theorem off106_eq (w : BitVec 32) : k0_off106 w = ![w.toNat, 1024] := rfl
theorem off107_eq {nw : ℕ} (hn : nw ≤ 64) (k : Fin (k0_t2_loop (wd nw)).trips) : k0_off107 (wd nw) k = ![k.val % 6, 1280, 256] := by
  have hk := k_lt hn k; have h0 := nw_pos hn k
  have hd : k.val / nw ≤ k.val := Nat.div_le_self _ _
  have hm : k.val % nw < nw := Nat.mod_lt _ h0
  simp (disch := omega) only [k0_off107, Scalar.indexCast, ivw, addw, sub5, itemq, divw, remw, mulw, toNat_wd]

theorem off108_eq {nw : ℕ} (hn : nw ≤ 64) (k : Fin (k0_t2_loop (wd nw)).trips) : k0_off108 (wd nw) k = ![k.val % 6, 80, 256] := by
  have hk := k_lt hn k; have h0 := nw_pos hn k
  have hd : k.val / nw ≤ k.val := Nat.div_le_self _ _
  have hm : k.val % nw < nw := Nat.mod_lt _ h0
  simp (disch := omega) only [k0_off108, Scalar.indexCast, ivw, addw, sub5, itemq, divw, remw, mulw, toNat_wd]

theorem off109_eq (w : BitVec 32) : k0_off109 w = ![w.toNat, 1280] := rfl
theorem off110_eq {nw : ℕ} (hn : nw ≤ 64) (k : Fin (k0_t2_loop (wd nw)).trips) : k0_off110 (wd nw) k = ![k.val % 6, 1536, 256] := by
  have hk := k_lt hn k; have h0 := nw_pos hn k
  have hd : k.val / nw ≤ k.val := Nat.div_le_self _ _
  have hm : k.val % nw < nw := Nat.mod_lt _ h0
  simp (disch := omega) only [k0_off110, Scalar.indexCast, ivw, addw, sub5, itemq, divw, remw, mulw, toNat_wd]

theorem off111_eq {nw : ℕ} (hn : nw ≤ 64) (k : Fin (k0_t2_loop (wd nw)).trips) : k0_off111 (wd nw) k = ![k.val % 6, 96, 256] := by
  have hk := k_lt hn k; have h0 := nw_pos hn k
  have hd : k.val / nw ≤ k.val := Nat.div_le_self _ _
  have hm : k.val % nw < nw := Nat.mod_lt _ h0
  simp (disch := omega) only [k0_off111, Scalar.indexCast, ivw, addw, sub5, itemq, divw, remw, mulw, toNat_wd]

theorem off112_eq (w : BitVec 32) : k0_off112 w = ![w.toNat, 1536] := rfl
theorem off113_eq {nw : ℕ} (hn : nw ≤ 64) (k : Fin (k0_t2_loop (wd nw)).trips) : k0_off113 (wd nw) k = ![k.val % 6, 1792, 256] := by
  have hk := k_lt hn k; have h0 := nw_pos hn k
  have hd : k.val / nw ≤ k.val := Nat.div_le_self _ _
  have hm : k.val % nw < nw := Nat.mod_lt _ h0
  simp (disch := omega) only [k0_off113, Scalar.indexCast, ivw, addw, sub5, itemq, divw, remw, mulw, toNat_wd]

theorem off114_eq {nw : ℕ} (hn : nw ≤ 64) (k : Fin (k0_t2_loop (wd nw)).trips) : k0_off114 (wd nw) k = ![k.val % 6, 112, 256] := by
  have hk := k_lt hn k; have h0 := nw_pos hn k
  have hd : k.val / nw ≤ k.val := Nat.div_le_self _ _
  have hm : k.val % nw < nw := Nat.mod_lt _ h0
  simp (disch := omega) only [k0_off114, Scalar.indexCast, ivw, addw, sub5, itemq, divw, remw, mulw, toNat_wd]

theorem off115_eq (w : BitVec 32) : k0_off115 w = ![w.toNat, 1792] := rfl
theorem off116_eq {nw : ℕ} (hn : nw ≤ 64) (k : Fin (k0_t2_loop (wd nw)).trips) : k0_off116 (wd nw) k = ![k.val % 6, 2048, 256] := by
  have hk := k_lt hn k; have h0 := nw_pos hn k
  have hd : k.val / nw ≤ k.val := Nat.div_le_self _ _
  have hm : k.val % nw < nw := Nat.mod_lt _ h0
  simp (disch := omega) only [k0_off116, Scalar.indexCast, ivw, addw, sub5, itemq, divw, remw, mulw, toNat_wd]

theorem off117_eq {nw : ℕ} (hn : nw ≤ 64) (k : Fin (k0_t2_loop (wd nw)).trips) : k0_off117 (wd nw) k = ![k.val % 6, 128, 256] := by
  have hk := k_lt hn k; have h0 := nw_pos hn k
  have hd : k.val / nw ≤ k.val := Nat.div_le_self _ _
  have hm : k.val % nw < nw := Nat.mod_lt _ h0
  simp (disch := omega) only [k0_off117, Scalar.indexCast, ivw, addw, sub5, itemq, divw, remw, mulw, toNat_wd]

theorem off118_eq (w : BitVec 32) : k0_off118 w = ![w.toNat, 2048] := rfl
theorem off119_eq {nw : ℕ} (hn : nw ≤ 64) (k : Fin (k0_t2_loop (wd nw)).trips) : k0_off119 (wd nw) k = ![k.val % 6, 2304, 256] := by
  have hk := k_lt hn k; have h0 := nw_pos hn k
  have hd : k.val / nw ≤ k.val := Nat.div_le_self _ _
  have hm : k.val % nw < nw := Nat.mod_lt _ h0
  simp (disch := omega) only [k0_off119, Scalar.indexCast, ivw, addw, sub5, itemq, divw, remw, mulw, toNat_wd]

theorem off120_eq {nw : ℕ} (hn : nw ≤ 64) (k : Fin (k0_t2_loop (wd nw)).trips) : k0_off120 (wd nw) k = ![k.val % 6, 144, 256] := by
  have hk := k_lt hn k; have h0 := nw_pos hn k
  have hd : k.val / nw ≤ k.val := Nat.div_le_self _ _
  have hm : k.val % nw < nw := Nat.mod_lt _ h0
  simp (disch := omega) only [k0_off120, Scalar.indexCast, ivw, addw, sub5, itemq, divw, remw, mulw, toNat_wd]

theorem off121_eq (w : BitVec 32) : k0_off121 w = ![w.toNat, 2304] := rfl
theorem cpos {nw t : ℕ} {p : Prop} (h : p ↔ t < 6 * nw) (hp : p) : 0 < nw := by have := h.mp hp; omega

theorem inb6 {nw : ℕ} (h0 : 0 < nw) (hn : nw ≤ 64) : ∀ a, k0_off6 (wd nw) a + S1x1.size a ≤ S4x64.size a := by
  have hm := Nat.mod_lt 0 h0
  rw [off6_eq h0 hn]; intro a; fin_cases a <;> simp [S1x1, S4x64] <;> omega

theorem mult1 {nw : ℕ} (h0 : 0 < nw) (hn : nw ≤ 64) : 512 ∣ (k0_mult1 (wd nw)).toNat := by
  have hd : 0 / nw ≤ 0 := Nat.div_le_self _ _
  simp (disch := omega) only [k0_mult1, ivw, addw, divw, mulw, toNat_wd]; omega

theorem inb13 {nw : ℕ} (h0 : 0 < nw) (hn : nw ≤ 64) : ∀ a, k0_off13 (wd nw) a + S1x1.size a ≤ S4x64.size a := by
  have hm := Nat.mod_lt 1 h0
  rw [off13_eq h0 hn]; intro a; fin_cases a <;> simp [S1x1, S4x64] <;> omega

theorem mult2 {nw : ℕ} (h0 : 0 < nw) (hn : nw ≤ 64) : 512 ∣ (k0_mult2 (wd nw)).toNat := by
  have hd : 1 / nw ≤ 1 := Nat.div_le_self _ _
  simp (disch := omega) only [k0_mult2, ivw, addw, divw, mulw, toNat_wd]; omega

theorem inb20 {nw : ℕ} (h0 : 0 < nw) (hn : nw ≤ 64) : ∀ a, k0_off20 (wd nw) a + S1x1.size a ≤ S4x64.size a := by
  have hm := Nat.mod_lt 2 h0
  rw [off20_eq h0 hn]; intro a; fin_cases a <;> simp [S1x1, S4x64] <;> omega

theorem mult3 {nw : ℕ} (h0 : 0 < nw) (hn : nw ≤ 64) : 512 ∣ (k0_mult3 (wd nw)).toNat := by
  have hd : 2 / nw ≤ 2 := Nat.div_le_self _ _
  simp (disch := omega) only [k0_mult3, ivw, addw, divw, mulw, toNat_wd]; omega

theorem inb27 {nw : ℕ} (h0 : 0 < nw) (hn : nw ≤ 64) : ∀ a, k0_off27 (wd nw) a + S1x1.size a ≤ S4x64.size a := by
  have hm := Nat.mod_lt 3 h0
  rw [off27_eq h0 hn]; intro a; fin_cases a <;> simp [S1x1, S4x64] <;> omega

theorem mult4 {nw : ℕ} (h0 : 0 < nw) (hn : nw ≤ 64) : 512 ∣ (k0_mult4 (wd nw)).toNat := by
  have hd : 3 / nw ≤ 3 := Nat.div_le_self _ _
  simp (disch := omega) only [k0_mult4, ivw, addw, divw, mulw, toNat_wd]; omega

theorem inb34 {nw : ℕ} (h0 : 0 < nw) (hn : nw ≤ 64) : ∀ a, k0_off34 (wd nw) a + S1x1.size a ≤ S4x64.size a := by
  have hm := Nat.mod_lt 4 h0
  rw [off34_eq h0 hn]; intro a; fin_cases a <;> simp [S1x1, S4x64] <;> omega

theorem mult5 {nw : ℕ} (h0 : 0 < nw) (hn : nw ≤ 64) : 512 ∣ (k0_mult5 (wd nw)).toNat := by
  have hd : 4 / nw ≤ 4 := Nat.div_le_self _ _
  simp (disch := omega) only [k0_mult5, ivw, addw, divw, mulw, toNat_wd]; omega

theorem inb41 {nw : ℕ} (hn : nw ≤ 64) (k : Fin (k0_t2_loop (wd nw)).trips) : ∀ a, k0_off41 (wd nw) k a + S1x1.size a ≤ S4x64.size a := by
  have hm := Nat.mod_lt k.val (nw_pos hn k); have hm' := Nat.mod_lt (k.val + 5) (nw_pos hn k)
  rw [off41_eq hn k]; intro a; fin_cases a <;> simp [S1x1, S4x64] <;> omega

theorem inb42 {nw : ℕ} (hn : nw ≤ 64) (k : Fin (k0_t2_loop (wd nw)).trips) : ∀ a, k0_off42 (wd nw) k a + S1x1.size a ≤ S4x64.size a := by
  have hm := Nat.mod_lt k.val (nw_pos hn k); have hm' := Nat.mod_lt (k.val + 5) (nw_pos hn k)
  rw [off42_eq hn k]; intro a; fin_cases a <;> simp [S1x1, S4x64] <;> omega

theorem inb43 {nw : ℕ} (hn : nw ≤ 64) (k : Fin (k0_t2_loop (wd nw)).trips) : ∀ a, k0_off43 (wd nw) k a + S1x1.size a ≤ S4x64.size a := by
  have hm := Nat.mod_lt k.val (nw_pos hn k); have hm' := Nat.mod_lt (k.val + 5) (nw_pos hn k)
  rw [off43_eq hn k]; intro a; fin_cases a <;> simp [S1x1, S4x64] <;> omega

theorem inb44 {nw : ℕ} (hn : nw ≤ 64) (k : Fin (k0_t2_loop (wd nw)).trips) : ∀ a, k0_off44 (wd nw) k a + S1x1.size a ≤ S4x64.size a := by
  have hm := Nat.mod_lt k.val (nw_pos hn k); have hm' := Nat.mod_lt (k.val + 5) (nw_pos hn k)
  rw [off44_eq hn k]; intro a; fin_cases a <;> simp [S1x1, S4x64] <;> omega

theorem inb45 {nw : ℕ} (hn : nw ≤ 64) (k : Fin (k0_t2_loop (wd nw)).trips) : ∀ a, k0_off45 (wd nw) k a + S1x1.size a ≤ S4x64.size a := by
  have hm := Nat.mod_lt k.val (nw_pos hn k); have hm' := Nat.mod_lt (k.val + 5) (nw_pos hn k)
  rw [off45_eq hn k]; intro a; fin_cases a <;> simp [S1x1, S4x64] <;> omega

theorem mult7 {nw : ℕ} (hn : nw ≤ 64) (k : Fin (k0_t2_loop (wd nw)).trips) : 512 ∣ (k0_mult7 (wd nw) k).toNat := by
  have hk := k_lt hn k; have h0 := nw_pos hn k
  have hd : k.val / nw ≤ k.val := Nat.div_le_self _ _
  have hd' : (k.val + 5) / nw ≤ k.val + 5 := Nat.div_le_self _ _
  simp (disch := omega) only [k0_mult7, ivw, addw, sub5, divw, mulw, toNat_wd]; omega

theorem inb46 {nw : ℕ} (hn : nw ≤ 64) (k : Fin (k0_t2_loop (wd nw)).trips) : ∀ a, k0_off46 (wd nw) k a + S1.size a ≤ S6.size a := by
  have hm := Nat.mod_lt k.val (nw_pos hn k); have hm' := Nat.mod_lt (k.val + 5) (nw_pos hn k)
  rw [off46_eq hn k]; intro a; fin_cases a <;> simp [S1, S6] <;> omega

theorem inb47 {nw : ℕ} (hn : nw ≤ 64) (k : Fin (k0_t2_loop (wd nw)).trips) : ∀ a, k0_off47 (wd nw) k a + S1x2560x512.size a ≤ S6x2560x512.size a := by
  have hm := Nat.mod_lt k.val (nw_pos hn k); have hm' := Nat.mod_lt (k.val + 5) (nw_pos hn k)
  rw [off47_eq hn k]; intro a; fin_cases a <;> simp [S1x2560x512, S6x2560x512] <;> omega

theorem words47 {nw : ℕ} (hn : nw ≤ 64) (k : Fin (k0_t2_loop (wd nw)).trips) (hinb : ∀ a, k0_off47 (wd nw) k a + S1x2560x512.size a ≤ S6x2560x512.size a) :
    (Rect.unit (s := S6x2560x512) (k0_off47 (wd nw) k) S1x2560x512.size hinb).WholeWords (EltTy.packing .fp8e4m3) :=
  Affine.words_rows (by decide) (by rw [off47_eq hn k]; rfl) rfl

theorem inb49 {nw : ℕ} (hn : nw ≤ 64) (k : Fin (k0_t2_loop (wd nw)).trips) : ∀ a, k0_off49 (wd nw) k a + S1.size a ≤ S6.size a := by
  have hm := Nat.mod_lt k.val (nw_pos hn k); have hm' := Nat.mod_lt (k.val + 5) (nw_pos hn k)
  rw [off49_eq hn k]; intro a; fin_cases a <;> simp [S1, S6] <;> omega

theorem inb50 {nw : ℕ} (hn : nw ≤ 64) (k : Fin (k0_t2_loop (wd nw)).trips) : ∀ a, k0_off50 (wd nw) k a + S1x160x512.size a ≤ S6x160x512.size a := by
  have hm := Nat.mod_lt k.val (nw_pos hn k); have hm' := Nat.mod_lt (k.val + 5) (nw_pos hn k)
  rw [off50_eq hn k]; intro a; fin_cases a <;> simp [S1x160x512, S6x160x512] <;> omega

theorem inb52 {nw : ℕ} (hn : nw ≤ 64) (k : Fin (k0_t2_loop (wd nw)).trips) : ∀ a, k0_off52 (wd nw) k a + S1x1.size a ≤ S4x64.size a := by
  have hm := Nat.mod_lt k.val (nw_pos hn k); have hm' := Nat.mod_lt (k.val + 5) (nw_pos hn k)
  rw [off52_eq hn k]; intro a; fin_cases a <;> simp [S1x1, S4x64] <;> omega

theorem mult8 {nw : ℕ} (hn : nw ≤ 64) (k : Fin (k0_t2_loop (wd nw)).trips) : 512 ∣ (k0_mult8 (wd nw) k).toNat := by
  have hk := k_lt hn k; have h0 := nw_pos hn k
  have hd : k.val / nw ≤ k.val := Nat.div_le_self _ _
  have hd' : (k.val + 5) / nw ≤ k.val + 5 := Nat.div_le_self _ _
  simp (disch := omega) only [k0_mult8, ivw, addw, sub5, divw, mulw, toNat_wd]; omega

theorem inb53 {nw : ℕ} (hn : nw ≤ 64) (k : Fin (k0_t2_loop (wd nw)).trips) : ∀ a, k0_off53 (wd nw) k a + S1.size a ≤ S6.size a := by
  have hm := Nat.mod_lt k.val (nw_pos hn k); have hm' := Nat.mod_lt (k.val + 5) (nw_pos hn k)
  rw [off53_eq hn k]; intro a; fin_cases a <;> simp [S1, S6] <;> omega

theorem inb54 {nw : ℕ} (hn : nw ≤ 64) (k : Fin (k0_t2_loop (wd nw)).trips) : ∀ a, k0_off54 (wd nw) k a + S1x2560x512.size a ≤ S6x2560x512.size a := by
  have hm := Nat.mod_lt k.val (nw_pos hn k); have hm' := Nat.mod_lt (k.val + 5) (nw_pos hn k)
  rw [off54_eq hn k]; intro a; fin_cases a <;> simp [S1x2560x512, S6x2560x512] <;> omega

theorem words54 {nw : ℕ} (hn : nw ≤ 64) (k : Fin (k0_t2_loop (wd nw)).trips) (hinb : ∀ a, k0_off54 (wd nw) k a + S1x2560x512.size a ≤ S6x2560x512.size a) :
    (Rect.unit (s := S6x2560x512) (k0_off54 (wd nw) k) S1x2560x512.size hinb).WholeWords (EltTy.packing .fp8e4m3) :=
  Affine.words_rows (by decide) (by rw [off54_eq hn k]; rfl) rfl

theorem inb56 {nw : ℕ} (hn : nw ≤ 64) (k : Fin (k0_t2_loop (wd nw)).trips) : ∀ a, k0_off56 (wd nw) k a + S1.size a ≤ S6.size a := by
  have hm := Nat.mod_lt k.val (nw_pos hn k); have hm' := Nat.mod_lt (k.val + 5) (nw_pos hn k)
  rw [off56_eq hn k]; intro a; fin_cases a <;> simp [S1, S6] <;> omega

theorem inb57 {nw : ℕ} (hn : nw ≤ 64) (k : Fin (k0_t2_loop (wd nw)).trips) : ∀ a, k0_off57 (wd nw) k a + S1x160x512.size a ≤ S6x160x512.size a := by
  have hm := Nat.mod_lt k.val (nw_pos hn k); have hm' := Nat.mod_lt (k.val + 5) (nw_pos hn k)
  rw [off57_eq hn k]; intro a; fin_cases a <;> simp [S1x160x512, S6x160x512] <;> omega

theorem inb60 {nw : ℕ} (hn : nw ≤ 64) (k : Fin (k0_t2_loop (wd nw)).trips) : ∀ a, k0_off60 (wd nw) k a + S1x256x256.size a ≤ S6x2560x512.size a := by
  have hm := Nat.mod_lt k.val (nw_pos hn k); have hm' := Nat.mod_lt (k.val + 5) (nw_pos hn k)
  rw [off60_eq hn k]; intro a; fin_cases a <;> simp [S1x256x256, S6x2560x512] <;> omega

theorem inb61 {nw : ℕ} (hn : nw ≤ 64) (k : Fin (k0_t2_loop (wd nw)).trips) : ∀ a, k0_off61 (wd nw) k a + S1x16x256.size a ≤ S6x160x512.size a := by
  have hm := Nat.mod_lt k.val (nw_pos hn k); have hm' := Nat.mod_lt (k.val + 5) (nw_pos hn k)
  rw [off61_eq hn k]; intro a; fin_cases a <;> simp [S1x16x256, S6x160x512] <;> omega

theorem inb63 {nw : ℕ} (hn : nw ≤ 64) (k : Fin (k0_t2_loop (wd nw)).trips) : ∀ a, k0_off63 (wd nw) k a + S1x256x256.size a ≤ S6x2560x512.size a := by
  have hm := Nat.mod_lt k.val (nw_pos hn k); have hm' := Nat.mod_lt (k.val + 5) (nw_pos hn k)
  rw [off63_eq hn k]; intro a; fin_cases a <;> simp [S1x256x256, S6x2560x512] <;> omega

theorem inb64 {nw : ℕ} (hn : nw ≤ 64) (k : Fin (k0_t2_loop (wd nw)).trips) : ∀ a, k0_off64 (wd nw) k a + S1x16x256.size a ≤ S6x160x512.size a := by
  have hm := Nat.mod_lt k.val (nw_pos hn k); have hm' := Nat.mod_lt (k.val + 5) (nw_pos hn k)
  rw [off64_eq hn k]; intro a; fin_cases a <;> simp [S1x16x256, S6x160x512] <;> omega

theorem inb66 {nw : ℕ} (hn : nw ≤ 64) (k : Fin (k0_t2_loop (wd nw)).trips) : ∀ a, k0_off66 (wd nw) k a + S1x256x256.size a ≤ S6x2560x512.size a := by
  have hm := Nat.mod_lt k.val (nw_pos hn k); have hm' := Nat.mod_lt (k.val + 5) (nw_pos hn k)
  rw [off66_eq hn k]; intro a; fin_cases a <;> simp [S1x256x256, S6x2560x512] <;> omega

theorem inb67 {nw : ℕ} (hn : nw ≤ 64) (k : Fin (k0_t2_loop (wd nw)).trips) : ∀ a, k0_off67 (wd nw) k a + S1x16x256.size a ≤ S6x160x512.size a := by
  have hm := Nat.mod_lt k.val (nw_pos hn k); have hm' := Nat.mod_lt (k.val + 5) (nw_pos hn k)
  rw [off67_eq hn k]; intro a; fin_cases a <;> simp [S1x16x256, S6x160x512] <;> omega

theorem inb69 {nw : ℕ} (hn : nw ≤ 64) (k : Fin (k0_t2_loop (wd nw)).trips) : ∀ a, k0_off69 (wd nw) k a + S1x256x256.size a ≤ S6x2560x512.size a := by
  have hm := Nat.mod_lt k.val (nw_pos hn k); have hm' := Nat.mod_lt (k.val + 5) (nw_pos hn k)
  rw [off69_eq hn k]; intro a; fin_cases a <;> simp [S1x256x256, S6x2560x512] <;> omega

theorem inb70 {nw : ℕ} (hn : nw ≤ 64) (k : Fin (k0_t2_loop (wd nw)).trips) : ∀ a, k0_off70 (wd nw) k a + S1x16x256.size a ≤ S6x160x512.size a := by
  have hm := Nat.mod_lt k.val (nw_pos hn k); have hm' := Nat.mod_lt (k.val + 5) (nw_pos hn k)
  rw [off70_eq hn k]; intro a; fin_cases a <;> simp [S1x16x256, S6x160x512] <;> omega

theorem inb72 {nw : ℕ} (hn : nw ≤ 64) (k : Fin (k0_t2_loop (wd nw)).trips) : ∀ a, k0_off72 (wd nw) k a + S1x256x256.size a ≤ S6x2560x512.size a := by
  have hm := Nat.mod_lt k.val (nw_pos hn k); have hm' := Nat.mod_lt (k.val + 5) (nw_pos hn k)
  rw [off72_eq hn k]; intro a; fin_cases a <;> simp [S1x256x256, S6x2560x512] <;> omega

theorem inb73 {nw : ℕ} (hn : nw ≤ 64) (k : Fin (k0_t2_loop (wd nw)).trips) : ∀ a, k0_off73 (wd nw) k a + S1x16x256.size a ≤ S6x160x512.size a := by
  have hm := Nat.mod_lt k.val (nw_pos hn k); have hm' := Nat.mod_lt (k.val + 5) (nw_pos hn k)
  rw [off73_eq hn k]; intro a; fin_cases a <;> simp [S1x16x256, S6x160x512] <;> omega

theorem inb75 {nw : ℕ} (hn : nw ≤ 64) (k : Fin (k0_t2_loop (wd nw)).trips) : ∀ a, k0_off75 (wd nw) k a + S1x256x256.size a ≤ S6x2560x512.size a := by
  have hm := Nat.mod_lt k.val (nw_pos hn k); have hm' := Nat.mod_lt (k.val + 5) (nw_pos hn k)
  rw [off75_eq hn k]; intro a; fin_cases a <;> simp [S1x256x256, S6x2560x512] <;> omega

theorem inb76 {nw : ℕ} (hn : nw ≤ 64) (k : Fin (k0_t2_loop (wd nw)).trips) : ∀ a, k0_off76 (wd nw) k a + S1x16x256.size a ≤ S6x160x512.size a := by
  have hm := Nat.mod_lt k.val (nw_pos hn k); have hm' := Nat.mod_lt (k.val + 5) (nw_pos hn k)
  rw [off76_eq hn k]; intro a; fin_cases a <;> simp [S1x16x256, S6x160x512] <;> omega

theorem inb78 {nw : ℕ} (hn : nw ≤ 64) (k : Fin (k0_t2_loop (wd nw)).trips) : ∀ a, k0_off78 (wd nw) k a + S1x256x256.size a ≤ S6x2560x512.size a := by
  have hm := Nat.mod_lt k.val (nw_pos hn k); have hm' := Nat.mod_lt (k.val + 5) (nw_pos hn k)
  rw [off78_eq hn k]; intro a; fin_cases a <;> simp [S1x256x256, S6x2560x512] <;> omega

theorem inb79 {nw : ℕ} (hn : nw ≤ 64) (k : Fin (k0_t2_loop (wd nw)).trips) : ∀ a, k0_off79 (wd nw) k a + S1x16x256.size a ≤ S6x160x512.size a := by
  have hm := Nat.mod_lt k.val (nw_pos hn k); have hm' := Nat.mod_lt (k.val + 5) (nw_pos hn k)
  rw [off79_eq hn k]; intro a; fin_cases a <;> simp [S1x16x256, S6x160x512] <;> omega

theorem inb81 {nw : ℕ} (hn : nw ≤ 64) (k : Fin (k0_t2_loop (wd nw)).trips) : ∀ a, k0_off81 (wd nw) k a + S1x256x256.size a ≤ S6x2560x512.size a := by
  have hm := Nat.mod_lt k.val (nw_pos hn k); have hm' := Nat.mod_lt (k.val + 5) (nw_pos hn k)
  rw [off81_eq hn k]; intro a; fin_cases a <;> simp [S1x256x256, S6x2560x512] <;> omega

theorem inb82 {nw : ℕ} (hn : nw ≤ 64) (k : Fin (k0_t2_loop (wd nw)).trips) : ∀ a, k0_off82 (wd nw) k a + S1x16x256.size a ≤ S6x160x512.size a := by
  have hm := Nat.mod_lt k.val (nw_pos hn k); have hm' := Nat.mod_lt (k.val + 5) (nw_pos hn k)
  rw [off82_eq hn k]; intro a; fin_cases a <;> simp [S1x16x256, S6x160x512] <;> omega

theorem inb84 {nw : ℕ} (hn : nw ≤ 64) (k : Fin (k0_t2_loop (wd nw)).trips) : ∀ a, k0_off84 (wd nw) k a + S1x256x256.size a ≤ S6x2560x512.size a := by
  have hm := Nat.mod_lt k.val (nw_pos hn k); have hm' := Nat.mod_lt (k.val + 5) (nw_pos hn k)
  rw [off84_eq hn k]; intro a; fin_cases a <;> simp [S1x256x256, S6x2560x512] <;> omega

theorem inb85 {nw : ℕ} (hn : nw ≤ 64) (k : Fin (k0_t2_loop (wd nw)).trips) : ∀ a, k0_off85 (wd nw) k a + S1x16x256.size a ≤ S6x160x512.size a := by
  have hm := Nat.mod_lt k.val (nw_pos hn k); have hm' := Nat.mod_lt (k.val + 5) (nw_pos hn k)
  rw [off85_eq hn k]; intro a; fin_cases a <;> simp [S1x16x256, S6x160x512] <;> omega

theorem inb87 {nw : ℕ} (hn : nw ≤ 64) (k : Fin (k0_t2_loop (wd nw)).trips) : ∀ a, k0_off87 (wd nw) k a + S1x256x256.size a ≤ S6x2560x512.size a := by
  have hm := Nat.mod_lt k.val (nw_pos hn k); have hm' := Nat.mod_lt (k.val + 5) (nw_pos hn k)
  rw [off87_eq hn k]; intro a; fin_cases a <;> simp [S1x256x256, S6x2560x512] <;> omega

theorem inb88 {nw : ℕ} (hn : nw ≤ 64) (k : Fin (k0_t2_loop (wd nw)).trips) : ∀ a, k0_off88 (wd nw) k a + S1x16x256.size a ≤ S6x160x512.size a := by
  have hm := Nat.mod_lt k.val (nw_pos hn k); have hm' := Nat.mod_lt (k.val + 5) (nw_pos hn k)
  rw [off88_eq hn k]; intro a; fin_cases a <;> simp [S1x16x256, S6x160x512] <;> omega

theorem mult9 {nw : ℕ} (hn : nw ≤ 64) (k : Fin (k0_t2_loop (wd nw)).trips) : 256 ∣ (k0_mult9 (wd nw) k).toNat := by
  have hk := k_lt hn k; have h0 := nw_pos hn k
  have hd : k.val / nw ≤ k.val := Nat.div_le_self _ _
  have hd' : (k.val + 5) / nw ≤ k.val + 5 := Nat.div_le_self _ _
  simp (disch := omega) only [k0_mult9, ivw, addw, sub5, divw, mulw, toNat_wd]; omega

theorem inb92 {nw : ℕ} (hn : nw ≤ 64) (k : Fin (k0_t2_loop (wd nw)).trips) : ∀ a, k0_off92 (wd nw) k a + S1x256x256.size a ≤ S6x2560x512.size a := by
  have hm := Nat.mod_lt k.val (nw_pos hn k); have hm' := Nat.mod_lt (k.val + 5) (nw_pos hn k)
  rw [off92_eq hn k]; intro a; fin_cases a <;> simp [S1x256x256, S6x2560x512] <;> omega

theorem inb93 {nw : ℕ} (hn : nw ≤ 64) (k : Fin (k0_t2_loop (wd nw)).trips) : ∀ a, k0_off93 (wd nw) k a + S1x16x256.size a ≤ S6x160x512.size a := by
  have hm := Nat.mod_lt k.val (nw_pos hn k); have hm' := Nat.mod_lt (k.val + 5) (nw_pos hn k)
  rw [off93_eq hn k]; intro a; fin_cases a <;> simp [S1x16x256, S6x160x512] <;> omega

theorem inb95 {nw : ℕ} (hn : nw ≤ 64) (k : Fin (k0_t2_loop (wd nw)).trips) : ∀ a, k0_off95 (wd nw) k a + S1x256x256.size a ≤ S6x2560x512.size a := by
  have hm := Nat.mod_lt k.val (nw_pos hn k); have hm' := Nat.mod_lt (k.val + 5) (nw_pos hn k)
  rw [off95_eq hn k]; intro a; fin_cases a <;> simp [S1x256x256, S6x2560x512] <;> omega

theorem inb96 {nw : ℕ} (hn : nw ≤ 64) (k : Fin (k0_t2_loop (wd nw)).trips) : ∀ a, k0_off96 (wd nw) k a + S1x16x256.size a ≤ S6x160x512.size a := by
  have hm := Nat.mod_lt k.val (nw_pos hn k); have hm' := Nat.mod_lt (k.val + 5) (nw_pos hn k)
  rw [off96_eq hn k]; intro a; fin_cases a <;> simp [S1x16x256, S6x160x512] <;> omega

theorem inb98 {nw : ℕ} (hn : nw ≤ 64) (k : Fin (k0_t2_loop (wd nw)).trips) : ∀ a, k0_off98 (wd nw) k a + S1x256x256.size a ≤ S6x2560x512.size a := by
  have hm := Nat.mod_lt k.val (nw_pos hn k); have hm' := Nat.mod_lt (k.val + 5) (nw_pos hn k)
  rw [off98_eq hn k]; intro a; fin_cases a <;> simp [S1x256x256, S6x2560x512] <;> omega

theorem inb99 {nw : ℕ} (hn : nw ≤ 64) (k : Fin (k0_t2_loop (wd nw)).trips) : ∀ a, k0_off99 (wd nw) k a + S1x16x256.size a ≤ S6x160x512.size a := by
  have hm := Nat.mod_lt k.val (nw_pos hn k); have hm' := Nat.mod_lt (k.val + 5) (nw_pos hn k)
  rw [off99_eq hn k]; intro a; fin_cases a <;> simp [S1x16x256, S6x160x512] <;> omega

theorem inb101 {nw : ℕ} (hn : nw ≤ 64) (k : Fin (k0_t2_loop (wd nw)).trips) : ∀ a, k0_off101 (wd nw) k a + S1x256x256.size a ≤ S6x2560x512.size a := by
  have hm := Nat.mod_lt k.val (nw_pos hn k); have hm' := Nat.mod_lt (k.val + 5) (nw_pos hn k)
  rw [off101_eq hn k]; intro a; fin_cases a <;> simp [S1x256x256, S6x2560x512] <;> omega

theorem inb102 {nw : ℕ} (hn : nw ≤ 64) (k : Fin (k0_t2_loop (wd nw)).trips) : ∀ a, k0_off102 (wd nw) k a + S1x16x256.size a ≤ S6x160x512.size a := by
  have hm := Nat.mod_lt k.val (nw_pos hn k); have hm' := Nat.mod_lt (k.val + 5) (nw_pos hn k)
  rw [off102_eq hn k]; intro a; fin_cases a <;> simp [S1x16x256, S6x160x512] <;> omega

theorem inb104 {nw : ℕ} (hn : nw ≤ 64) (k : Fin (k0_t2_loop (wd nw)).trips) : ∀ a, k0_off104 (wd nw) k a + S1x256x256.size a ≤ S6x2560x512.size a := by
  have hm := Nat.mod_lt k.val (nw_pos hn k); have hm' := Nat.mod_lt (k.val + 5) (nw_pos hn k)
  rw [off104_eq hn k]; intro a; fin_cases a <;> simp [S1x256x256, S6x2560x512] <;> omega

theorem inb105 {nw : ℕ} (hn : nw ≤ 64) (k : Fin (k0_t2_loop (wd nw)).trips) : ∀ a, k0_off105 (wd nw) k a + S1x16x256.size a ≤ S6x160x512.size a := by
  have hm := Nat.mod_lt k.val (nw_pos hn k); have hm' := Nat.mod_lt (k.val + 5) (nw_pos hn k)
  rw [off105_eq hn k]; intro a; fin_cases a <;> simp [S1x16x256, S6x160x512] <;> omega

theorem inb107 {nw : ℕ} (hn : nw ≤ 64) (k : Fin (k0_t2_loop (wd nw)).trips) : ∀ a, k0_off107 (wd nw) k a + S1x256x256.size a ≤ S6x2560x512.size a := by
  have hm := Nat.mod_lt k.val (nw_pos hn k); have hm' := Nat.mod_lt (k.val + 5) (nw_pos hn k)
  rw [off107_eq hn k]; intro a; fin_cases a <;> simp [S1x256x256, S6x2560x512] <;> omega

theorem inb108 {nw : ℕ} (hn : nw ≤ 64) (k : Fin (k0_t2_loop (wd nw)).trips) : ∀ a, k0_off108 (wd nw) k a + S1x16x256.size a ≤ S6x160x512.size a := by
  have hm := Nat.mod_lt k.val (nw_pos hn k); have hm' := Nat.mod_lt (k.val + 5) (nw_pos hn k)
  rw [off108_eq hn k]; intro a; fin_cases a <;> simp [S1x16x256, S6x160x512] <;> omega

theorem inb110 {nw : ℕ} (hn : nw ≤ 64) (k : Fin (k0_t2_loop (wd nw)).trips) : ∀ a, k0_off110 (wd nw) k a + S1x256x256.size a ≤ S6x2560x512.size a := by
  have hm := Nat.mod_lt k.val (nw_pos hn k); have hm' := Nat.mod_lt (k.val + 5) (nw_pos hn k)
  rw [off110_eq hn k]; intro a; fin_cases a <;> simp [S1x256x256, S6x2560x512] <;> omega

theorem inb111 {nw : ℕ} (hn : nw ≤ 64) (k : Fin (k0_t2_loop (wd nw)).trips) : ∀ a, k0_off111 (wd nw) k a + S1x16x256.size a ≤ S6x160x512.size a := by
  have hm := Nat.mod_lt k.val (nw_pos hn k); have hm' := Nat.mod_lt (k.val + 5) (nw_pos hn k)
  rw [off111_eq hn k]; intro a; fin_cases a <;> simp [S1x16x256, S6x160x512] <;> omega

theorem inb113 {nw : ℕ} (hn : nw ≤ 64) (k : Fin (k0_t2_loop (wd nw)).trips) : ∀ a, k0_off113 (wd nw) k a + S1x256x256.size a ≤ S6x2560x512.size a := by
  have hm := Nat.mod_lt k.val (nw_pos hn k); have hm' := Nat.mod_lt (k.val + 5) (nw_pos hn k)
  rw [off113_eq hn k]; intro a; fin_cases a <;> simp [S1x256x256, S6x2560x512] <;> omega

theorem inb114 {nw : ℕ} (hn : nw ≤ 64) (k : Fin (k0_t2_loop (wd nw)).trips) : ∀ a, k0_off114 (wd nw) k a + S1x16x256.size a ≤ S6x160x512.size a := by
  have hm := Nat.mod_lt k.val (nw_pos hn k); have hm' := Nat.mod_lt (k.val + 5) (nw_pos hn k)
  rw [off114_eq hn k]; intro a; fin_cases a <;> simp [S1x16x256, S6x160x512] <;> omega

theorem inb116 {nw : ℕ} (hn : nw ≤ 64) (k : Fin (k0_t2_loop (wd nw)).trips) : ∀ a, k0_off116 (wd nw) k a + S1x256x256.size a ≤ S6x2560x512.size a := by
  have hm := Nat.mod_lt k.val (nw_pos hn k); have hm' := Nat.mod_lt (k.val + 5) (nw_pos hn k)
  rw [off116_eq hn k]; intro a; fin_cases a <;> simp [S1x256x256, S6x2560x512] <;> omega

theorem inb117 {nw : ℕ} (hn : nw ≤ 64) (k : Fin (k0_t2_loop (wd nw)).trips) : ∀ a, k0_off117 (wd nw) k a + S1x16x256.size a ≤ S6x160x512.size a := by
  have hm := Nat.mod_lt k.val (nw_pos hn k); have hm' := Nat.mod_lt (k.val + 5) (nw_pos hn k)
  rw [off117_eq hn k]; intro a; fin_cases a <;> simp [S1x16x256, S6x160x512] <;> omega

theorem inb119 {nw : ℕ} (hn : nw ≤ 64) (k : Fin (k0_t2_loop (wd nw)).trips) : ∀ a, k0_off119 (wd nw) k a + S1x256x256.size a ≤ S6x2560x512.size a := by
  have hm := Nat.mod_lt k.val (nw_pos hn k); have hm' := Nat.mod_lt (k.val + 5) (nw_pos hn k)
  rw [off119_eq hn k]; intro a; fin_cases a <;> simp [S1x256x256, S6x2560x512] <;> omega

theorem inb120 {nw : ℕ} (hn : nw ≤ 64) (k : Fin (k0_t2_loop (wd nw)).trips) : ∀ a, k0_off120 (wd nw) k a + S1x16x256.size a ≤ S6x160x512.size a := by
  have hm := Nat.mod_lt k.val (nw_pos hn k); have hm' := Nat.mod_lt (k.val + 5) (nw_pos hn k)
  rw [off120_eq hn k]; intro a; fin_cases a <;> simp [S1x16x256, S6x160x512] <;> omega

theorem mult10 {nw : ℕ} (hn : nw ≤ 64) (k : Fin (k0_t2_loop (wd nw)).trips) : 256 ∣ (k0_mult10 (wd nw) k).toNat := by
  have hk := k_lt hn k; have h0 := nw_pos hn k
  have hd : k.val / nw ≤ k.val := Nat.div_le_self _ _
  have hd' : (k.val + 5) / nw ≤ k.val + 5 := Nat.div_le_self _ _
  simp (disch := omega) only [k0_mult10, ivw, addw, sub5, divw, mulw, toNat_wd]; omega

theorem chk2_0 {nw : ℕ} (hn : nw ≤ 64) : k0_chk2_0 (wd nw) :=
  ⟨fun hc => inb6 (cpos (cond1_iff hn) hc) hn,
   fun hc => mult1 (cpos (cond1_iff hn) hc) hn,
   fun hc => inb13 (cpos (cond2_iff hn) hc) hn,
   fun hc => mult2 (cpos (cond2_iff hn) hc) hn,
   fun hc => inb20 (cpos (cond3_iff hn) hc) hn,
   fun hc => mult3 (cpos (cond3_iff hn) hc) hn,
   fun hc => inb27 (cpos (cond4_iff hn) hc) hn,
   fun hc => mult4 (cpos (cond4_iff hn) hc) hn,
   fun hc => inb34 (cpos (cond5_iff hn) hc) hn,
   fun hc => mult5 (cpos (cond5_iff hn) hc) hn,
   t2_ok hn,
   fun k => inb41 hn k,
   fun k => inb42 hn k,
   fun k => inb43 hn k,
   fun k => inb44 hn k,
   fun k hc => inb45 hn k,
   fun k hc => mult7 hn k,
   fun k hc => inb46 hn k,
   fun k hc => inb47 hn k,
   fun k hc hinb => words47 hn k hinb,
   fun k hc => inb49 hn k,
   fun k hc => inb50 hn k,
   fun k => inb52 hn k,
   fun k => mult8 hn k,
   fun k => inb53 hn k,
   fun k => inb54 hn k,
   fun k hinb => words54 hn k hinb,
   fun k => inb56 hn k,
   fun k => inb57 hn k,
   fun k => inb60 hn k,
   fun k => inb61 hn k,
   fun k => inb63 hn k⟩

theorem chk2_1 {nw : ℕ} (hn : nw ≤ 64) : k0_chk2_1 (wd nw) :=
  ⟨fun k => inb64 hn k,
   fun k => inb66 hn k,
   fun k => inb67 hn k,
   fun k => inb69 hn k,
   fun k => inb70 hn k,
   fun k => inb72 hn k,
   fun k => inb73 hn k,
   fun k => inb75 hn k,
   fun k => inb76 hn k,
   fun k => inb78 hn k,
   fun k => inb79 hn k,
   fun k => inb81 hn k,
   fun k => inb82 hn k,
   fun k => inb84 hn k,
   fun k => inb85 hn k,
   fun k => inb87 hn k,
   fun k => inb88 hn k,
   fun k => mult9 hn k,
   fun k => inb92 hn k,
   fun k => inb93 hn k,
   fun k => inb95 hn k,
   fun k => inb96 hn k,
   fun k => inb98 hn k,
   fun k => inb99 hn k,
   fun k => inb101 hn k,
   fun k => inb102 hn k,
   fun k => inb104 hn k,
   fun k => inb105 hn k,
   fun k => inb107 hn k,
   fun k => inb108 hn k,
   fun k => inb110 hn k,
   fun k => inb111 hn k⟩

theorem chk2_2 {nw : ℕ} (hn : nw ≤ 64) : k0_chk2_2 (wd nw) :=
  ⟨fun k => inb113 hn k,
   fun k => inb114 hn k,
   fun k => inb116 hn k,
   fun k => inb117 hn k,
   fun k => inb119 hn k,
   fun k => inb120 hn k,
   fun k => mult10 hn k,
   t3_ok hn,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim⟩

theorem chk2_3 {nw : ℕ} (hn : nw ≤ 64) : k0_chk2_3 (wd nw) :=
  ⟨fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim,
   fun k => (no_t3 hn k).elim⟩

theorem chk2_4 {nw : ℕ} (hn : nw ≤ 64) : k0_chk2_4 (wd nw) :=
  ⟨fun k => (no_t3 hn k).elim,
   fun k => (no_t3 hn k).elim,
   fun k => (no_t3 hn k).elim,
   fun k => (no_t3 hn k).elim⟩

theorem chk2 {nw : ℕ} (hn : nw ≤ 64) : k0_chk2 (wd nw) :=
  ⟨chk2_0 hn, chk2_1 hn, chk2_2 hn, chk2_3 hn, chk2_4 hn⟩

/-! ### What the kernel checks of the words it reads -/

/-- A copy out of the weights of expert `e < 21` lies inside them: the five copies before the loop, -/
theorem chk3 {nw : ℕ} (hn : nw ≤ 64) {w : BitVec 32} (hw : w.toNat < 21) : k0_chk3 (wd nw) w := by
  refine ⟨fun hc => ?_, fun hc hinb => ?_, fun hc => ?_⟩ <;> have h0 := cpos (cond1_iff hn) hc <;>
    have hc := (cond1_iff hn).mp hc <;>
    have hd : 0 / nw < 6 := Nat.div_lt_of_lt_mul (by omega)
  · rw [off9_eq h0 hn]; intro a; fin_cases a <;> simp [S1x2560x512, S21x2560x3072] <;> omega
  · exact Affine.words_rows (by decide) (by rw [off9_eq h0 hn]; rfl) rfl
  · rw [off12_eq h0 hn]; intro a; fin_cases a <;> simp [S1x160x512, S21x160x3072] <;> omega

theorem chk4 {nw : ℕ} (hn : nw ≤ 64) {w : BitVec 32} (hw : w.toNat < 21) : k0_chk4 (wd nw) w := by
  refine ⟨fun hc => ?_, fun hc hinb => ?_, fun hc => ?_⟩ <;> have h0 := cpos (cond2_iff hn) hc <;>
    have hc := (cond2_iff hn).mp hc <;>
    have hd : 1 / nw < 6 := Nat.div_lt_of_lt_mul (by omega)
  · rw [off16_eq h0 hn]; intro a; fin_cases a <;> simp [S1x2560x512, S21x2560x3072] <;> omega
  · exact Affine.words_rows (by decide) (by rw [off16_eq h0 hn]; rfl) rfl
  · rw [off19_eq h0 hn]; intro a; fin_cases a <;> simp [S1x160x512, S21x160x3072] <;> omega

theorem chk5 {nw : ℕ} (hn : nw ≤ 64) {w : BitVec 32} (hw : w.toNat < 21) : k0_chk5 (wd nw) w := by
  refine ⟨fun hc => ?_, fun hc hinb => ?_, fun hc => ?_⟩ <;> have h0 := cpos (cond3_iff hn) hc <;>
    have hc := (cond3_iff hn).mp hc <;>
    have hd : 2 / nw < 6 := Nat.div_lt_of_lt_mul (by omega)
  · rw [off23_eq h0 hn]; intro a; fin_cases a <;> simp [S1x2560x512, S21x2560x3072] <;> omega
  · exact Affine.words_rows (by decide) (by rw [off23_eq h0 hn]; rfl) rfl
  · rw [off26_eq h0 hn]; intro a; fin_cases a <;> simp [S1x160x512, S21x160x3072] <;> omega

theorem chk6 {nw : ℕ} (hn : nw ≤ 64) {w : BitVec 32} (hw : w.toNat < 21) : k0_chk6 (wd nw) w := by
  refine ⟨fun hc => ?_, fun hc hinb => ?_, fun hc => ?_⟩ <;> have h0 := cpos (cond4_iff hn) hc <;>
    have hc := (cond4_iff hn).mp hc <;>
    have hd : 3 / nw < 6 := Nat.div_lt_of_lt_mul (by omega)
  · rw [off30_eq h0 hn]; intro a; fin_cases a <;> simp [S1x2560x512, S21x2560x3072] <;> omega
  · exact Affine.words_rows (by decide) (by rw [off30_eq h0 hn]; rfl) rfl
  · rw [off33_eq h0 hn]; intro a; fin_cases a <;> simp [S1x160x512, S21x160x3072] <;> omega

theorem chk7 {nw : ℕ} (hn : nw ≤ 64) {w : BitVec 32} (hw : w.toNat < 21) : k0_chk7 (wd nw) w := by
  refine ⟨fun hc => ?_, fun hc hinb => ?_, fun hc => ?_⟩ <;> have h0 := cpos (cond5_iff hn) hc <;>
    have hc := (cond5_iff hn).mp hc <;>
    have hd : 4 / nw < 6 := Nat.div_lt_of_lt_mul (by omega)
  · rw [off37_eq h0 hn]; intro a; fin_cases a <;> simp [S1x2560x512, S21x2560x3072] <;> omega
  · exact Affine.words_rows (by decide) (by rw [off37_eq h0 hn]; rfl) rfl
  · rw [off40_eq h0 hn]; intro a; fin_cases a <;> simp [S1x160x512, S21x160x3072] <;> omega

/-- the copy that step `k` starts, -/
theorem chk9 {nw : ℕ} (hn : nw ≤ 64) (k : Fin (k0_t2_loop (wd nw)).trips) {w : BitVec 32} (hw : w.toNat < 21) : k0_chk9 (wd nw) k w := by
  have h0 := nw_pos hn k
  refine ⟨fun hc => ?_, fun hc hinb => ?_, fun hc => ?_⟩ <;> have hc := (cond6_iff hn k).mp hc <;>
    have hd : (k.val + 5) / nw < 6 := Nat.div_lt_of_lt_mul (by rw [Nat.mul_comm]; omega)
  · rw [off48_eq hn k]; intro a; fin_cases a <;> simp [S1x2560x512, S21x2560x3072] <;> omega
  · exact Affine.words_rows (by decide) (by rw [off48_eq hn k]; rfl) rfl
  · rw [off51_eq hn k]; intro a; fin_cases a <;> simp [S1x160x512, S21x160x3072] <;> omega

theorem slab_lt {nw : ℕ} (hn : nw ≤ 64) (k : Fin (k0_t2_loop (wd nw)).trips) : k.val / nw < 6 :=
  Nat.div_lt_of_lt_mul (by have := k_lt hn k; rw [Nat.mul_comm]; omega)

/-- and the copy that step `k` waits for. -/
theorem chk10 {nw : ℕ} (hn : nw ≤ 64) (k : Fin (k0_t2_loop (wd nw)).trips) {w : BitVec 32} (hw : w.toNat < 21) : k0_chk10 (wd nw) k w := by
  have hd := slab_lt hn k
  refine ⟨?_, fun hinb => ?_, ?_⟩
  · rw [off55_eq hn k]; intro a; fin_cases a <;> simp [S1x2560x512, S21x2560x3072] <;> omega
  · exact Affine.words_rows (by decide) (by rw [off55_eq hn k]; rfl) rfl
  · rw [off58_eq hn k]; intro a; fin_cases a <;> simp [S1x160x512, S21x160x3072] <;> omega

/-- The scales of expert `e < 21` lie inside the table. -/
theorem chk11 {nw : ℕ} (hn : nw ≤ 64) (k : Fin (k0_t2_loop (wd nw)).trips) {w : BitVec 32} (hw : w.toNat < 21) : k0_chk11 (wd nw) k w := by
  have hd := slab_lt hn k
  intro r
  rw [show BitVec.ofNat 32 (256 * r.val) = wd (256 * r.val) from rfl, off90_eq hn k w _ (by omega)]
  intro a; fin_cases a <;> simp [S1x256, S21x3072] <;> omega

theorem chk8 {nw : ℕ} (hn : nw ≤ 64) (k : Fin (k0_t2_loop (wd nw)).trips) {w : BitVec 32} (hw : w.toNat ≤ 128) (h32 : 32 ∣ w.toNat) :
    k0_chk8 (wd nw) k w := by
  have hd := slab_lt hn k
  refine ⟨?_, ?_, ?_, ?_, ?_, ?_, ?_, ?_, ?_, ?_, ?_, ?_, fun r => ?_, fun r hinb => ?_, ?_, ?_, ?_, ?_, ?_, ?_, ?_, ?_, ?_, ?_⟩
  · simpa [k0_mult6] using h32
  · rw [off59_eq]; intro a; fin_cases a <;> simp [S128x128, S256x128] <;> omega
  · rw [off62_eq]; intro a; fin_cases a <;> simp [S128x256, S256x2560] <;> omega
  · rw [off65_eq]; intro a; fin_cases a <;> simp [S128x256, S256x2560] <;> omega
  · rw [off68_eq]; intro a; fin_cases a <;> simp [S128x256, S256x2560] <;> omega
  · rw [off71_eq]; intro a; fin_cases a <;> simp [S128x256, S256x2560] <;> omega
  · rw [off74_eq]; intro a; fin_cases a <;> simp [S128x256, S256x2560] <;> omega
  · rw [off77_eq]; intro a; fin_cases a <;> simp [S128x256, S256x2560] <;> omega
  · rw [off80_eq]; intro a; fin_cases a <;> simp [S128x256, S256x2560] <;> omega
  · rw [off83_eq]; intro a; fin_cases a <;> simp [S128x256, S256x2560] <;> omega
  · rw [off86_eq]; intro a; fin_cases a <;> simp [S128x256, S256x2560] <;> omega
  · rw [off89_eq]; intro a; fin_cases a <;> simp [S128x256, S256x2560] <;> omega
  · rw [show BitVec.ofNat 32 (256 * r.val) = wd (256 * r.val) from rfl, off91_eq hn k w _ (by omega)]
    intro a; fin_cases a <;> simp [S128x256, S256x3072] <;> omega
  · refine Affine.packed_dvd (by decide) ?_ (by decide)
    rw [show BitVec.ofNat 32 (256 * r.val) = wd (256 * r.val) from rfl, off91_eq hn k w _ (by omega)]
    exact (Dvd.intro 16 rfl : (2 : ℕ) ∣ 32).trans h32
  · rw [off94_eq]; intro a; fin_cases a <;> simp [S128x256, S256x2560] <;> omega
  · rw [off97_eq]; intro a; fin_cases a <;> simp [S128x256, S256x2560] <;> omega
  · rw [off100_eq]; intro a; fin_cases a <;> simp [S128x256, S256x2560] <;> omega
  · rw [off103_eq]; intro a; fin_cases a <;> simp [S128x256, S256x2560] <;> omega
  · rw [off106_eq]; intro a; fin_cases a <;> simp [S128x256, S256x2560] <;> omega
  · rw [off109_eq]; intro a; fin_cases a <;> simp [S128x256, S256x2560] <;> omega
  · rw [off112_eq]; intro a; fin_cases a <;> simp [S128x256, S256x2560] <;> omega
  · rw [off115_eq]; intro a; fin_cases a <;> simp [S128x256, S256x2560] <;> omega
  · rw [off118_eq]; intro a; fin_cases a <;> simp [S128x256, S256x2560] <;> omega
  · rw [off121_eq]; intro a; fin_cases a <;> simp [S128x256, S256x2560] <;> omega

/-- The work list holds the column `c < 64`. -/
theorem chk1 {c : ℕ} (hc : c < 64) : k0_chk1 (wd c) := by
  refine ⟨?_, ?_, ?_, ?_⟩ <;> intro a <;> fin_cases a <;>
    simp (disch := omega) [k0_off2, k0_off3, k0_off4, k0_off5, Scalar.indexCast, S1x1, S4x64, toNat_wd] <;> omega

end Cert.KernelIdeal.Hand

end
-- ==== Proof.Ideal.Work.lean ====
/-
  The work list. The kernel walks the groups in order and writes, for each window of rows that a group needs, one column of
  a table of words: the group, the first row that is loaded, and the rows of the window that belong to the group. Here: what
  the table holds (`Listed`), the loop that writes one group's columns, and the loop over the groups.
-/
module

public import proofs.«01_k».proof.Proof.Ideal.Words
public import proofs.«01_k».proof.Proof.Gen.KernelIdeal.Skeleton
public import proofs.«01_k».proof.Proof.Gen.KernelIdeal.Loops
public import Idealize.ShloMosaic.Lib.Tactic
public import Idealize.ShloMosaic.Lib.Transfers
public import Idealize.ShloMosaic.Lib.WritesUnit
public import Idealize.ShloMosaic.Lib.Pipeline.Frame

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-- The calls of the loop over a group's windows descend in the number of windows still to list. -/
abbrev 𝒱₀ : Variants := Variants.nat

/-- The table of words, as a buffer's contents. -/
abbrev Tab : Type := (cc0_scratch4 : Ref sig .tc).ty.Contents (Elt F)

local notation "𝕋" => Tab (F := F)

/-! The kernel's operands: the windows' staging buffers, the two arrays left in place, and the scratch buffers. -/

abbrev gsM : Memref sig .tc .smem S21 .i32 := Memref.whole cc0_stg0_0
abbrev xsM : Memref sig .tc .vmem S1x256 .f32 := Memref.whole cc0_stg1_0
abbrev wsM : Memref sig .tc .vmem S21x3072 .f32 := Memref.whole cc0_stg2_0
abbrev xM : Memref sig .tc .vmem S256x5120 .fp8e4m3 := Memref.whole cc0_stg3_0
abbrev wvM : Memref sig .tc .hbm S21x2560x3072 .fp8e4m3 := Memref.whole main_arg3
abbrev wmM : Memref sig .tc .hbm S21x160x3072 .i32 := Memref.whole main_arg4
abbrev yM : Memref sig .tc .vmem S256x3072 .bf16 := Memref.whole cc0_stg4_0
abbrev xaM : Memref sig .tc .vmem S256x2560 .fp8e4m3 := Memref.whole cc0_scratch0
abbrev xbM : Memref sig .tc .vmem S256x2560 .fp8e4m3 := Memref.whole cc0_scratch1
abbrev xcM : Memref sig .tc .vmem S256x2560 .fp8e4m3 := Memref.whole cc0_scratch2
abbrev sbM : Memref sig .tc .vmem S256x128 .f32 := Memref.whole cc0_scratch3
abbrev vbM : Memref sig .tc .vmem S6x2560x512 .fp8e4m3 := Memref.whole cc0_scratch5
abbrev mbM : Memref sig .tc .vmem S6x160x512 .i32 := Memref.whole cc0_scratch6
theorem wh (b : Ref sig .tc) : (Memref.whole b).IsWhole := Memref.isWhole_whole b

abbrev tabM : Memref sig .tc .smem S4x64 .i32 := Memref.whole cc0_scratch4

/-- Row `r` of the table holds the word `w` in column `i`. -/
def HasWord (T : 𝕋) (r i : ℕ) (w : BitVec 32) : Prop :=
  ∀ y : S4x64.Idx, (y 0).val = r → (y 1).val = i → tabM.view.read (Elt F) T y = w

/-- Column `i` of the table lists the window that begins at row `b` for the group `e`, whose rows are `[S e, S (e + 1))`:
    the group, the first row loaded, and the rows `[max (S e) b, min (S (e + 1)) (b + 128))` that the window treats. -/
structure Item (S : ℕ → ℕ) (T : 𝕋) (i e b : ℕ) : Prop where
  he : e < 21
  h32 : 32 ∣ b
  hb : b < S (e + 1)
  w0 : HasWord T 0 i (wd e)
  w1 : HasWord T 1 i (wd (min b 128))
  w2 : HasWord T 2 i (wd (max (S e) b))
  w3 : HasWord T 3 i (wd (min (S (e + 1)) (b + 128)))

/-- The table's first `nw` columns list windows, and every row below `R` is treated by one of them. -/
structure Listed (S : ℕ → ℕ) (T : 𝕋) (nw : ℕ) (R : ℕ → Prop) : Prop where
  items : ∀ i < nw, ∃ e b, Item S T i e b
  cover : ∀ r, R r → ∃ i < nw, ∃ e b, Item S T i e b ∧ S e ≤ r ∧ b ≤ r ∧ r < S (e + 1) ∧ r < b + 128

theorem HasWord.load {T : 𝕋} {r i : ℕ} {w : BitVec 32} (h : HasWord T r i w) {off : Fin 2 → ℕ} (ho : off = ![r, i])
    (inb : ∀ a, off a + S1x1.size a ≤ S4x64.size a) (y : (Rect.unit (s := S4x64) off S1x1.size inb).shape.Idx) :
    View.readAt (Elt F) tabM.view (Rect.unit (s := S4x64) off S1x1.size inb).toLoadRect T y = w := by
  subst ho
  refine h ((Rect.unit (s := S4x64) ![r, i] S1x1.size inb).emb y) ?_ ?_
  · have := (y 0).isLt
    show r + 1 * (y 0).val = r
    have h1 : (y 0).val < 1 := this
    omega
  · have := (y 1).isLt
    show i + 1 * (y 1).val = i
    have h1 : (y 1).val < 1 := this
    omega

theorem HasWord.hit {T : 𝕋} {L : List (View.Piece (Elt F) S4x64 .i32)} {r i : ℕ} {w : BitVec 32} {off : Fin 2 → ℕ} (ho : off = ![r, i])
    (inb : ∀ a, off a + S1x1.size a ≤ S4x64.size a) :
    HasWord (F := F) (tabM.view.writes (Elt F) T (⟨Rect.unit (s := S4x64) off S1x1.size inb, fun _ => w⟩ :: L)) r i w := by
  intro y h0 h1
  refine (View.read_writes_cons_unit tabM.view T inb (fun _ => w) L y ho).trans (dif_pos fun a => ?_)
  fin_cases a
  · show r ≤ (y 0).val ∧ (y 0).val < r + 1; omega
  · show i ≤ (y 1).val ∧ (y 1).val < i + 1; omega

theorem HasWord.miss {T : 𝕋} {L : List (View.Piece (Elt F) S4x64 .i32)} {r i r' i' : ℕ} {w w' : BitVec 32} {off : Fin 2 → ℕ} (ho : off = ![r', i'])
    (inb : ∀ a, off a + S1x1.size a ≤ S4x64.size a) (hne : r ≠ r' ∨ i ≠ i')
    (h : HasWord (F := F) (tabM.view.writes (Elt F) T L) r i w) :
    HasWord (F := F) (tabM.view.writes (Elt F) T (⟨Rect.unit (s := S4x64) off S1x1.size inb, fun _ => w'⟩ :: L)) r i w := by
  intro y h0 h1
  refine (View.read_writes_cons_unit tabM.view T inb (fun _ => w') L y ho).trans ((dif_neg fun hh => ?_).trans (h y h0 h1))
  have h2 : r' ≤ (y 0).val ∧ (y 0).val < r' + 1 := hh 0
  have h3 : i' ≤ (y 1).val ∧ (y 1).val < i' + 1 := hh 1
  omega

/-- The table after one column is written. -/
abbrev put (T : 𝕋) (i : ℕ) (hi : k0_chk1 (wd i)) (w0 w1 w2 w3 : BitVec 32) : 𝕋 :=
  tabM.view.writes (Elt F) T [⟨Rect.unit (s := S4x64) (k0_off5 (wd i)) S1x1.size (k0_off5_inb _ hi), fun _ => w3⟩,
    ⟨Rect.unit (s := S4x64) (k0_off4 (wd i)) S1x1.size (k0_off4_inb _ hi), fun _ => w2⟩,
    ⟨Rect.unit (s := S4x64) (k0_off3 (wd i)) S1x1.size (k0_off3_inb _ hi), fun _ => w1⟩,
    ⟨Rect.unit (s := S4x64) (k0_off2 (wd i)) S1x1.size (k0_off2_inb _ hi), fun _ => w0⟩]

theorem offp {i : ℕ} (hi : i < 64) : k0_off2 (wd i) = ![0, i] ∧ k0_off3 (wd i) = ![1, i] ∧ k0_off4 (wd i) = ![2, i] ∧ k0_off5 (wd i) = ![3, i] := by
  refine ⟨?_, ?_, ?_, ?_⟩ <;> simp (disch := omega) [k0_off2, k0_off3, k0_off4, k0_off5, Scalar.indexCast, toNat_wd] <;> omega

theorem put_keeps {T : 𝕋} {i : ℕ} (hi : i < 64) (hc : k0_chk1 (wd i)) {w0 w1 w2 w3 : BitVec 32} {r j : ℕ} {w : BitVec 32} (hj : j ≠ i)
    (h : HasWord T r j w) : HasWord (put T i hc w0 w1 w2 w3) r j w := by
  obtain ⟨h0, h1, h2, h3⟩ := offp hi
  exact .miss h3 _ (.inr hj) (.miss h2 _ (.inr hj) (.miss h1 _ (.inr hj) (.miss h0 _ (.inr hj) h)))

theorem Item.put {S : ℕ → ℕ} {T : 𝕋} {i : ℕ} (hi : i < 64) (hc : k0_chk1 (wd i)) {w0 w1 w2 w3 : BitVec 32} {j e b : ℕ} (hj : j ≠ i)
    (h : Item S T j e b) : Item S (put T i hc w0 w1 w2 w3) j e b :=
  ⟨h.he, h.h32, h.hb, put_keeps hi hc hj h.w0, put_keeps hi hc hj h.w1, put_keeps hi hc hj h.w2, put_keeps hi hc hj h.w3⟩

theorem Item.new {S : ℕ → ℕ} {T : 𝕋} {i : ℕ} (hi : i < 64) (hc : k0_chk1 (wd i)) {e b : ℕ} (he : e < 21) (h32 : 32 ∣ b)
    (hb : b < S (e + 1)) :
    Item S (Hand.put T i hc (wd e) (wd (min b 128)) (wd (max (S e) b)) (wd (min (S (e + 1)) (b + 128)))) i e b := by
  obtain ⟨h0, h1, h2, h3⟩ := offp hi
  exact ⟨he, h32, hb, .miss h3 _ (.inl (by omega)) (.miss h2 _ (.inl (by omega)) (.miss h1 _ (.inl (by omega)) (.hit h0 _))),
    .miss h3 _ (.inl (by omega)) (.miss h2 _ (.inl (by omega)) (.hit h1 _)), .miss h3 _ (.inl (by omega)) (.hit h2 _), .hit h3 _⟩

/-- One more window listed: the rows it treats are covered too. -/
theorem Listed.push {S : ℕ → ℕ} {T : 𝕋} {nw e b : ℕ} (hi : nw < 64) (hc : k0_chk1 (wd nw)) (he : e < 21) (h32 : 32 ∣ b)
    (hb : b < S (e + 1)) (h : Listed S T nw fun r => r < S e ∨ (r < S (e + 1) ∧ r < b)) :
    Listed S (Hand.put T nw hc (wd e) (wd (min b 128)) (wd (max (S e) b)) (wd (min (S (e + 1)) (b + 128)))) (nw + 1)
      fun r => r < S e ∨ (r < S (e + 1) ∧ r < b + 128) := by
  refine ⟨fun i hi' => ?_, fun r hr => ?_⟩
  · rcases Nat.lt_succ_iff_lt_or_eq.mp hi' with hlt | rfl
    · obtain ⟨e', b', hI⟩ := h.items i hlt
      exact ⟨e', b', hI.put hi hc (by omega)⟩
    · exact ⟨e, b, .new hi hc he h32 hb⟩
  · by_cases hr' : r < S e ∨ (r < S (e + 1) ∧ r < b)
    · obtain ⟨i, hlt, e', b', hI, h'⟩ := h.cover r hr'
      exact ⟨i, by omega, e', b', hI.put hi hc (by omega), h'⟩
    · exact ⟨nw, by omega, e, b, .new hi hc he h32 hb, by omega, by omega, by omega, by omega⟩

/-! ### The loop over one group's windows -/

variable (c : Dev nD) (S : ℕ → ℕ)

/-- From the table at `T` with the windows of the groups before `e` and those of `e` below row `b` listed, the loop returns with
    every window of `e` listed. -/
def spec (e n nw b : ℕ) (T : 𝕋) : sWPT 𝕄 (BitVec 32 × BitVec 32) := do
  sWPT.consume (tabM.view.loc (c : Thread nD τ) ↦{fullShare} T)
  let r ← sWPT.arbitrary (X := ℕ × BitVec 32 × 𝕋)
  sWPT.assume (r.1 ≤ nw + n ∧ Listed S r.2.2 r.1 fun x => x < S (e + 1))
  sWPT.produce (tabM.view.loc (c : Thread nD τ) ↦{fullShare} r.2.2)
  pure (wd r.1, r.2.1)

theorem spec_apply (e n nw b : ℕ) (T : 𝕋) (K : BitVec 32 × BitVec 32 → sProp 𝕄) :
    spec c S e n nw b T K
      = iprop((tabM.view.loc (c : Thread nD τ) ↦{fullShare} T) ∗ ∀ r : ℕ × BitVec 32 × 𝕋,
          ⌜r.1 ≤ nw + n ∧ Listed S r.2.2 r.1 fun x => x < S (e + 1)⌝ -∗ ((tabM.view.loc (c : Thread nD τ) ↦{fullShare} r.2.2) -∗ K (wd r.1, r.2.1))) := rfl

theorem iv1 (e : Fin k0_t1_loop.trips) : Scf.iv 0#32 1#32 e = wd e.val := ivw _

theorem t1_trips : k0_t1_loop.trips = 21 := by decide

/-- The loop's body meets that, by induction on the windows still to list. -/
theorem spec_le (E : Set ℕ) (e : Fin k0_t1_loop.trips) (hS : S e.val ≤ S (e.val + 1)) (hS' : S (e.val + 1) ≤ 256) :
    ∀ n nw b (T : 𝕋), nw + n ≤ 64 → S (e.val + 1) ≤ b + 128 * n → b ≤ 512 → (b < S (e.val + 1) → 32 ∣ b) →
      (Listed S T nw fun r => r < S e.val ∨ (r < S (e.val + 1) ∧ r < b)) → ∀ K, spec c S e.val n nw b T K
      ⊢ wp frame (wpE (defs₀ (F := F)) 𝒱₀ (c : Thread nD τ) (some n)) E
          (defs₀ (F := F) .tc 1 ⟨e, wd (S (e.val + 1)), tabM, Memref.isWhole_whole _, wd (S e.val), wd nw, wd b⟩) K := by
  have he : e.val < 21 := lt_of_lt_of_eq e.isLt t1_trips
  intro n
  induction n with
  | zero =>
    intro nw b T hn hb hb' h32 hL K
    rw [spec_apply]
    show _ ⊢ wp frame (wpE (defs₀ (F := F)) 𝒱₀ (c : Thread nD τ) (some 0)) E
      (cc0_while1 e (wd (S (e.val + 1))) tabM (Memref.isWhole_whole _) (wd (S e.val)) (wd nw) (wd b)) K
    simp only [cc0_while1_eq_skeleton]; unfold cc0_while1_skel
    have htest : ¬Scalar.cmpi .slt (wd b) (wd (S (e.val + 1))) = 1#1 := by rw [sltw (by omega) (by omega)]; omega
    simp only [htest, ↓reduceIte, Prog.pure_eq_ret]
    iintro ⟨H, Hk⟩
    rw [wp_ret]; imodintro
    iapply Hk $$ %(nw, wd b, T)
    · ipureintro; exact ⟨by omega, hL.items, fun r hr => hL.cover r (by omega)⟩
    · iexact H
  | succ n ih =>
    intro nw b T hn hb hb' h32 hL K
    show _ ⊢ wp frame (wpE (defs₀ (F := F)) 𝒱₀ (c : Thread nD τ) (some (n + 1))) E
      (cc0_while1 e (wd (S (e.val + 1))) tabM (Memref.isWhole_whole _) (wd (S e.val)) (wd nw) (wd b)) K
    simp only [cc0_while1_eq_skeleton]; unfold cc0_while1_skel
    by_cases hlt : b < S (e.val + 1)
    · have htest : Scalar.cmpi .slt (wd b) (wd (S (e.val + 1))) = 1#1 := by rw [sltw (by omega) (by omega)]; omega
      have hc : k0_chk1 (wd nw) := chk1 (by omega)
      simp only [htest, ↓reduceIte]
      rw [spec_apply]
      iintro ⟨H, Hk⟩
      sl_exec
      have e1 : Scalar.addi (wd nw) 1#32 = wd (nw + 1) := addw nw 1
      have e2 : Scalar.addi (wd b) 128#32 = wd (b + 128) := addw b 128
      have e3 : Scalar.minsi (wd b) 128#32 = wd (min b 128) := minw (by omega) (by omega)
      have e4 : Scalar.maxsi (wd (S e.val)) (wd b) = wd (max (S e.val) b) := maxw (by omega) (by omega)
      have e5 : Scalar.minsi (wd (S (e.val + 1))) (wd (b + 128)) = wd (min (S (e.val + 1)) (b + 128)) := minw (by omega) (by omega)
      have hL' := hL.push (by omega) hc he (h32 hlt) hlt
      rw [← e3, ← e4, ← e5, ← iv1] at hL'
      rw [e2, e1]
      iapply (wp_call_spec 𝒱₀ (c : Thread nD τ) (some (n + 1)) E (spec c S e.val n (nw + 1) (b + 128)
          (put T nw hc (Scf.iv 0#32 1#32 e) (Scalar.minsi (wd b) 128#32) (Scalar.maxsi (wd (S e.val)) (wd b))
            (Scalar.minsi (wd (S (e.val + 1))) (wd (b + 128))))) n
        (fun u hu => by cases hu; exact Nat.lt_succ_self n)
        (ih (nw + 1) (b + 128) _ (by omega) (by omega) (by omega) (fun _ => (h32 hlt).add (by decide)) hL'))
      rw [spec_apply]
      isplitl [H]
      · iexact H
      iintro %r %hr H
      rw [wp_ret]; imodintro
      iapply Hk
      · ipureintro; exact ⟨by omega, hr.2⟩
      · iexact H
    · have htest : ¬Scalar.cmpi .slt (wd b) (wd (S (e.val + 1))) = 1#1 := by rw [sltw (by omega) (by omega)]; omega
      simp only [htest, ↓reduceIte, Prog.pure_eq_ret]
      rw [spec_apply]
      iintro ⟨H, Hk⟩
      rw [wp_ret]; imodintro
      iapply Hk $$ %(nw, wd b, T)
      · ipureintro; exact ⟨by omega, hL.items, fun r hr => hL.cover r (by omega)⟩
      · iexact H

/-! ### The loop over the groups -/

/-- The groups' sizes as the kernel is handed them: `S k` is the number of rows of the first `k` groups. -/
structure Groups (fg : (cc0_stg0_0 : Ref sig .tc).ty.Contents (Elt F)) (S : ℕ → ℕ) : Prop where
  zero : S 0 = 0
  mono : ∀ k < 21, S k ≤ S (k + 1)
  le : ∀ k ≤ 21, S k ≤ 256
  word : ∀ k < 21, ∀ y : S21.Idx, (y 0).val = k → gsM.view.read (Elt F) fg y = wd (S (k + 1) - S k)

theorem Groups.load {fg : (cc0_stg0_0 : Ref sig .tc).ty.Contents (Elt F)} (h : Groups fg S) (k : Fin k0_t1_loop.trips)
    (y : (Rect.unit (s := S21) (k0_off1 k) S1.size (k0_off1_inb k)).shape.Idx) :
    View.readAt (Elt F) gsM.view (Rect.unit (s := S21) (k0_off1 k) S1.size (k0_off1_inb k)).toLoadRect fg y = wd (S (k.val + 1) - S k.val) := by
  refine h.word k.val (lt_of_lt_of_eq k.isLt t1_trips) ((Rect.unit (s := S21) (k0_off1 k) S1.size (k0_off1_inb k)).emb y) ?_
  have h1 : (y 0).val < 1 := (y 0).isLt
  have h2 : k0_off1 k = ![k.val] := by
    have : k.val < 21 := lt_of_lt_of_eq k.isLt t1_trips
    simp (disch := omega) only [k0_off1, Scalar.indexCast, ivw, toNat_wd]
  refine (congrArg (fun f : Fin 1 → ℕ => f 0 + 1 * (y 0).val) h2).trans ?_
  show k.val + 1 * (y 0).val = k.val
  omega

/-- Before group `k` the table lists the windows of the groups before it, and the two carried words are the number of
    windows and of rows so far. -/
def inv1 (fg : (cc0_stg0_0 : Ref sig .tc).ty.Contents (Elt F)) (k : ℕ) (acc : BitVec 32 × BitVec 32) : sProp 𝕄 :=
  iprop((gsM.view.loc (c : Thread nD τ) ↦{fullShare} fg)
    ∗ ∃ T : 𝕋, ∃ nw : ℕ, ⌜nw ≤ 2 * k ∧ acc = (wd nw, wd (S k)) ∧ Listed S T nw fun r => r < S k⌝ ∗ (tabM.view.loc (c : Thread nD τ) ↦{fullShare} T))

theorem step1 (fg : (cc0_stg0_0 : Ref sig .tc).ty.Contents (Elt F)) (hG : Groups fg S) (k : Fin k0_t1_loop.trips) (acc : BitVec 32 × BitVec 32) :
    inv1 c S fg k.val acc ⊢ wp frame (wpE (defs₀ (F := F)) 𝒱₀ (c : Thread nD τ) none) Set.univ
      (k0_t1_body (F := F) gsM (wh _) xsM (wh _) wsM (wh _) xM (wh _) wvM (wh _) wmM (wh _) yM (wh _) xaM (wh _) xbM (wh _) xcM (wh _) sbM (wh _) tabM (wh _) vbM (wh _) mbM (wh _) cc0_scratch7 cc0_scratch8 k acc) (fun acc' => inv1 c S fg (k.val + 1) acc') := by
  have hk : k.val < 21 := lt_of_lt_of_eq k.isLt t1_trips
  have h1 := hG.mono k.val hk
  have h2 := hG.le (k.val + 1) (by omega)
  unfold inv1
  iintro ⟨Hg, %T, %nw, %h, HT⟩
  obtain ⟨hnw, rfl, hL⟩ := h
  unfold k0_t1_body
  sl_exec
  have e1 := hG.load S k (Shape.Idx.first (numel1_S1.symm ▸ Nat.one_pos))
  have e2 : step1.sl.v397 S fg k = wd (S (k.val + 1)) := by
    refine (congrArg (Scalar.addi (wd (S k.val))) e1).trans ?_
    rw [addw]; congr 1; omega
  obtain ⟨b, hb, hb1, hb2, hb3⟩ : ∃ b, step1.sl.v400 S fg k = wd b
      ∧ (b < S (k.val + 1) → 32 ∣ b) ∧ b ≤ S (k.val + 1) ∧ (S k.val < S (k.val + 1) → b ≤ S k.val) := by
    have e3 : step1.sl.v400 S fg k
        = Scalar.select (Scalar.cmpi .sgt (wd (S (k.val + 1) - S k.val)) (wd 0)) (Scalar.andi (wd (S k.val)) 4294967264#32) (wd (S (k.val + 1))) := by
      rw [← e2, ← e1]; rfl
    rw [e3, and32w (by omega)]
    by_cases h0 : S k.val < S (k.val + 1)
    · refine ⟨S k.val / 32 * 32, ?_, fun _ => Nat.dvd_mul_left _ _, by omega, fun _ => Nat.div_mul_le_self _ _⟩
      rw [(sgtw (by omega) (by omega)).mpr (by omega)]; rfl
    · refine ⟨S (k.val + 1), ?_, by omega, by omega, by omega⟩
      have hne : ¬Scalar.cmpi .sgt (wd (S (k.val + 1) - S k.val)) (wd 0) = 1#1 := by rw [sgtw (by omega) (by omega)]; omega
      exact if_neg hne
  rw [hb, e2]
  iapply (wp_call_spec 𝒱₀ (c : Thread nD τ) none Set.univ (spec c S k.val 2 nw b T) 2 (fun u hu => nomatch hu)
    (spec_le c S Set.univ k h1 h2 2 nw b T (by omega) (by omega) (by omega) hb1
      ⟨hL.items, fun r hr => hL.cover r (by omega)⟩))
  rw [spec_apply]
  isplitl [HT]
  · iexact HT
  iintro %r %hr HT
  iapply (Entails.refl : wp frame (wpE (defs₀ (F := F)) 𝒱₀ (c : Thread nD τ) none) Set.univ (Prog.ret (wd r.1, wd (S (k.val + 1)))) _ ⊢ _)
  sl_step
  isplitl [Hg]
  · iexact Hg
  iexists r.2.2; iexists r.1
  isplitr
  · ipureintro; exact ⟨by omega, rfl, hr.2⟩
  iexact HT

/-- The loop over the groups, for a run of the kernel. -/
@[sl_loop, instance_reducible] def loop1 (fg : (cc0_stg0_0 : Ref sig .tc).ty.Contents (Elt F)) (hG : Groups fg S) :
    LoopInvTy_k0_t1 (F := F) Unit ℕ (Pipeline.UD sig nD τ) ℕ 𝒱₀ c none Set.univ gsM (wh _) xsM (wh _) wsM (wh _) xM (wh _) wvM (wh _) wmM (wh _) yM (wh _) xaM (wh _) xbM (wh _) xcM (wh _) sbM (wh _) tabM (wh _) vbM (wh _) mbM (wh _) cc0_scratch7 cc0_scratch8 (0#32, 0#32) where
  inv := inv1 c S fg
  step := step1 c S fg hG

end Cert.KernelIdeal.Hand

end
-- ==== Proof.Ideal.Ring.lean ====
/-
  The two rings of copies. The kernel keeps six slots of packed values and six slots of the words that say where the values
  belong; while it works on one step it copies the blocks of the following steps. Here: what a slot holds when no copy fills it,
  what it holds while one does, which slots are being filled before a step, and the part of a step that starts the copy of a
  later step and waits for its own.
-/
module

public import proofs.«01_k».proof.Proof.Ideal.Work
public import Idealize.ShloMosaic.Lib.Ring
public import Idealize.ShloMosaic.Lib.Tactic.Stretches

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD)

theorem cell_inb (k : Fin 6) : ∀ a, (![k.val] : Fin 1 → ℕ) a + S1.size a ≤ S6.size a := by
  have := k.isLt; intro a; fin_cases a
  show k.val + 1 ≤ 6; omega

/-! ### The ring of packed values -/

/-- Slot `o` of the ring, -/
abbrev vslotAt (o : Fin 3 → ℕ) (h : ∀ a, o a + S1x2560x512.size a ≤ S6x2560x512.size a) : Memref sig .tc .vmem S2560x512 .fp8e4m3 :=
  (vbM.slice (Rect.unit (s := S6x2560x512) o S1x2560x512.size h) (fun _ => rfl)).squeeze S2560x512 squeezes_S1x2560x512_S2560x512
/-- the block at `o` of the array it is filled from, -/
abbrev vsrcAt (o : Fin 3 → ℕ) (h : ∀ a, o a + S1x2560x512.size a ≤ S21x2560x3072.size a) : Memref sig .tc .hbm S2560x512 .fp8e4m3 :=
  (wvM.slice (Rect.unit (s := S21x2560x3072) o S1x2560x512.size h) (fun _ => rfl)).squeeze S2560x512 squeezes_S1x2560x512_S2560x512
/-- its semaphore, -/
abbrev vcellAt (o : Fin 1 → ℕ) (h : ∀ a, o a + S1.size a ≤ S6.size a) : SemLoc sig :=
  SemLoc.dma ((cc0_scratch7.slice (Rect.unit (s := S6) o S1.size h)).squeeze S_ squeezes_S1_S_).sem
/-- and the share of the array that it reads. -/
abbrev vtok (k : Fin 6) (A : Finset (Idx (wvM.view.loc (c : Thread nD τ)))) (fa : Buf (Elt F) (wvM.view.loc (c : Thread nD τ))) : sProp 𝕄 :=
  wvM.view.loc (c : Thread nD τ) ↦[A]{Transfers.shareTok fullShare 6 k} fa

/-- A slot that no copy fills. -/
abbrev vFreeAt (k : Fin 6) (fa : Buf (Elt F) (wvM.view.loc (c : Thread nD τ))) (o : Fin 3 → ℕ) (h : ∀ a, o a + S1x2560x512.size a ≤ S6x2560x512.size a) (s : Fin 1 → ℕ) (hs : ∀ a, s a + S1.size a ≤ S6.size a) : sProp 𝕄 :=
  iprop(semVal ((c : Thread nD τ), vcellAt s hs) 0
    ∗ (∃ f, (vslotAt o h).view.loc (c : Thread nD τ) ↦[(vslotAt o h).view.set]{fullShare} f) ∗ vtok c k Finset.univ fa)

/-- A slot that a copy of the block at `q` fills. -/
abbrev vFlyAt (k : Fin 6) (fa : Buf (Elt F) (wvM.view.loc (c : Thread nD τ))) (o : Fin 3 → ℕ) (h : ∀ a, o a + S1x2560x512.size a ≤ S6x2560x512.size a) (s : Fin 1 → ℕ) (hs : ∀ a, s a + S1.size a ≤ S6.size a) (q : Fin 3 → ℕ) (hq : ∀ a, q a + S1x2560x512.size a ≤ S21x2560x3072.size a) : sProp 𝕄 :=
  iprop((∃ f, Transfers.Flight (countersEmb (U := Pipeline.UD sig nD τ)) (c : Thread nD τ) (vcellAt s hs) () 40960
            iprop(((vslotAt o h).view.loc (c : Thread nD τ) ↦[(vslotAt o h).view.set]{fullShare}
                    (vslotAt o h).view.writes (Elt F) f [⟨Rect.whole S2560x512, ReadAs.same.apply ((vsrcAt q hq).view.read (Elt F) fa)⟩])
              ∗ vtok c k (vsrcAt q hq).view.set fa))
    ∗ vtok c k (Finset.univ \ (vsrcAt q hq).view.set) fa)

theorem vFreeAt_eq (k : Fin 6) (fa : Buf (Elt F) (wvM.view.loc (c : Thread nD τ))) {o o' : Fin 3 → ℕ} (eo : o = o') (h h') {s s' : Fin 1 → ℕ} (es : s = s') (hs hs') :
    vFreeAt c k fa o h s hs = vFreeAt c k fa o' h' s' hs' := by subst eo; subst es; rfl

theorem vFlyAt_eq (k : Fin 6) (fa : Buf (Elt F) (wvM.view.loc (c : Thread nD τ))) {o o' : Fin 3 → ℕ} (eo : o = o') (h h') {s s' : Fin 1 → ℕ} (es : s = s') (hs hs')
    {q q' : Fin 3 → ℕ} (eq : q = q') (hq hq') : vFlyAt c k fa o h s hs q hq = vFlyAt c k fa o' h' s' hs' q' hq' := by subst eo; subst es; subst eq; rfl

theorem vslot_inb (k : Fin 6) : ∀ a, (![k.val, 0, 0] : Fin 3 → ℕ) a + S1x2560x512.size a ≤ S6x2560x512.size a := by
  have := k.isLt; intro a; fin_cases a
  · show k.val + 1 ≤ 6; omega
  · show 0 + 2560 ≤ 2560; omega
  · show 0 + 512 ≤ 512; omega

theorem vsrc_inb (e : Fin 21) (d : Fin 6) : ∀ a, (![e.val, 0, d.val * 512] : Fin 3 → ℕ) a + S1x2560x512.size a ≤ S21x2560x3072.size a := by
  have := e.isLt; have := d.isLt; intro a; fin_cases a
  · show e.val + 1 ≤ 21; omega
  · show 0 + 2560 ≤ 2560; omega
  · show d.val * 512 + 512 ≤ 3072; omega

/-- Slot `k`: free, or being filled with slab `d` of group `e`. -/
def vSlot (fa : Buf (Elt F) (wvM.view.loc (c : Thread nD τ))) (k : Fin 6) : Option (Fin 21 × Fin 6) → sProp 𝕄
  | none => vFreeAt c k fa ![k.val, 0, 0] (vslot_inb k) ![k.val] (cell_inb k)
  | some x => vFlyAt c k fa ![k.val, 0, 0] (vslot_inb k) ![k.val] (cell_inb k) ![x.1.val, 0, x.2.val * 512] (vsrc_inb x.1 x.2)

theorem vSlot_none (fa : Buf (Elt F) (wvM.view.loc (c : Thread nD τ))) (k : Fin 6) :
    vSlot c fa k none = vFreeAt c k fa ![k.val, 0, 0] (vslot_inb k) ![k.val] (cell_inb k) := rfl

theorem vSlot_some (fa : Buf (Elt F) (wvM.view.loc (c : Thread nD τ))) (k : Fin 6) (x : Fin 21 × Fin 6) :
    vSlot c fa k (some x) = vFlyAt c k fa ![k.val, 0, 0] (vslot_inb k) ![k.val] (cell_inb k) ![x.1.val, 0, x.2.val * 512] (vsrc_inb x.1 x.2) := rfl

/-! ### The ring of position words -/

/-- Slot `o` of the ring, -/
abbrev mslotAt (o : Fin 3 → ℕ) (h : ∀ a, o a + S1x160x512.size a ≤ S6x160x512.size a) : Memref sig .tc .vmem S160x512 .i32 :=
  (mbM.slice (Rect.unit (s := S6x160x512) o S1x160x512.size h) (fun _ => rfl)).squeeze S160x512 squeezes_S1x160x512_S160x512
/-- the block at `o` of the array it is filled from, -/
abbrev msrcAt (o : Fin 3 → ℕ) (h : ∀ a, o a + S1x160x512.size a ≤ S21x160x3072.size a) : Memref sig .tc .hbm S160x512 .i32 :=
  (wmM.slice (Rect.unit (s := S21x160x3072) o S1x160x512.size h) (fun _ => rfl)).squeeze S160x512 squeezes_S1x160x512_S160x512
/-- its semaphore, -/
abbrev mcellAt (o : Fin 1 → ℕ) (h : ∀ a, o a + S1.size a ≤ S6.size a) : SemLoc sig :=
  SemLoc.dma ((cc0_scratch8.slice (Rect.unit (s := S6) o S1.size h)).squeeze S_ squeezes_S1_S_).sem
/-- and the share of the array that it reads. -/
abbrev mtok (k : Fin 6) (A : Finset (Idx (wmM.view.loc (c : Thread nD τ)))) (fa : Buf (Elt F) (wmM.view.loc (c : Thread nD τ))) : sProp 𝕄 :=
  wmM.view.loc (c : Thread nD τ) ↦[A]{Transfers.shareTok fullShare 6 k} fa

/-- A slot that no copy fills. -/
abbrev mFreeAt (k : Fin 6) (fa : Buf (Elt F) (wmM.view.loc (c : Thread nD τ))) (o : Fin 3 → ℕ) (h : ∀ a, o a + S1x160x512.size a ≤ S6x160x512.size a) (s : Fin 1 → ℕ) (hs : ∀ a, s a + S1.size a ≤ S6.size a) : sProp 𝕄 :=
  iprop(semVal ((c : Thread nD τ), mcellAt s hs) 0
    ∗ (∃ f, (mslotAt o h).view.loc (c : Thread nD τ) ↦[(mslotAt o h).view.set]{fullShare} f) ∗ mtok c k Finset.univ fa)

/-- A slot that a copy of the block at `q` fills. -/
abbrev mFlyAt (k : Fin 6) (fa : Buf (Elt F) (wmM.view.loc (c : Thread nD τ))) (o : Fin 3 → ℕ) (h : ∀ a, o a + S1x160x512.size a ≤ S6x160x512.size a) (s : Fin 1 → ℕ) (hs : ∀ a, s a + S1.size a ≤ S6.size a) (q : Fin 3 → ℕ) (hq : ∀ a, q a + S1x160x512.size a ≤ S21x160x3072.size a) : sProp 𝕄 :=
  iprop((∃ f, Transfers.Flight (countersEmb (U := Pipeline.UD sig nD τ)) (c : Thread nD τ) (mcellAt s hs) () 10240
            iprop(((mslotAt o h).view.loc (c : Thread nD τ) ↦[(mslotAt o h).view.set]{fullShare}
                    (mslotAt o h).view.writes (Elt F) f [⟨Rect.whole S160x512, ReadAs.same.apply ((msrcAt q hq).view.read (Elt F) fa)⟩])
              ∗ mtok c k (msrcAt q hq).view.set fa))
    ∗ mtok c k (Finset.univ \ (msrcAt q hq).view.set) fa)

theorem mFreeAt_eq (k : Fin 6) (fa : Buf (Elt F) (wmM.view.loc (c : Thread nD τ))) {o o' : Fin 3 → ℕ} (eo : o = o') (h h') {s s' : Fin 1 → ℕ} (es : s = s') (hs hs') :
    mFreeAt c k fa o h s hs = mFreeAt c k fa o' h' s' hs' := by subst eo; subst es; rfl

theorem mFlyAt_eq (k : Fin 6) (fa : Buf (Elt F) (wmM.view.loc (c : Thread nD τ))) {o o' : Fin 3 → ℕ} (eo : o = o') (h h') {s s' : Fin 1 → ℕ} (es : s = s') (hs hs')
    {q q' : Fin 3 → ℕ} (eq : q = q') (hq hq') : mFlyAt c k fa o h s hs q hq = mFlyAt c k fa o' h' s' hs' q' hq' := by subst eo; subst es; subst eq; rfl

theorem mslot_inb (k : Fin 6) : ∀ a, (![k.val, 0, 0] : Fin 3 → ℕ) a + S1x160x512.size a ≤ S6x160x512.size a := by
  have := k.isLt; intro a; fin_cases a
  · show k.val + 1 ≤ 6; omega
  · show 0 + 160 ≤ 160; omega
  · show 0 + 512 ≤ 512; omega

theorem msrc_inb (e : Fin 21) (d : Fin 6) : ∀ a, (![e.val, 0, d.val * 512] : Fin 3 → ℕ) a + S1x160x512.size a ≤ S21x160x3072.size a := by
  have := e.isLt; have := d.isLt; intro a; fin_cases a
  · show e.val + 1 ≤ 21; omega
  · show 0 + 160 ≤ 160; omega
  · show d.val * 512 + 512 ≤ 3072; omega

/-- Slot `k`: free, or being filled with slab `d` of group `e`. -/
def mSlot (fa : Buf (Elt F) (wmM.view.loc (c : Thread nD τ))) (k : Fin 6) : Option (Fin 21 × Fin 6) → sProp 𝕄
  | none => mFreeAt c k fa ![k.val, 0, 0] (mslot_inb k) ![k.val] (cell_inb k)
  | some x => mFlyAt c k fa ![k.val, 0, 0] (mslot_inb k) ![k.val] (cell_inb k) ![x.1.val, 0, x.2.val * 512] (msrc_inb x.1 x.2)

theorem mSlot_none (fa : Buf (Elt F) (wmM.view.loc (c : Thread nD τ))) (k : Fin 6) :
    mSlot c fa k none = mFreeAt c k fa ![k.val, 0, 0] (mslot_inb k) ![k.val] (cell_inb k) := rfl

theorem mSlot_some (fa : Buf (Elt F) (wmM.view.loc (c : Thread nD τ))) (k : Fin 6) (x : Fin 21 × Fin 6) :
    mSlot c fa k (some x) = mFlyAt c k fa ![k.val, 0, 0] (mslot_inb k) ![k.val] (cell_inb k) ![x.1.val, 0, x.2.val * 512] (msrc_inb x.1 x.2) := rfl

/-- The slots that are being filled before step `t`, `n` steps ahead: step `u` in slot `u % 6`, with slab `u / nw` of the group
    of window `u % nw`. -/
def stU (nw : ℕ) (e : ℕ → Fin 21) (n u : ℕ) : Option (Fin 21 × Fin 6) :=
  if u < n ∧ u < 6 * nw then some (e (u % nw), ⟨u / nw % 6, Nat.mod_lt _ (by decide)⟩) else none

@[inherit_doc stU] def stN (nw : ℕ) (e : ℕ → Fin 21) (t n : ℕ) (j : Fin 6) : Option (Fin 21 × Fin 6) :=
  stU nw e (t + n) (t + (j.val + 6 - t % 6) % 6)

theorem stN_next (nw : ℕ) (e : ℕ → Fin 21) {t n : ℕ} (hn : n ≤ 5) (j : Fin 6) (hj : j.val = (t + n) % 6) :
    stN nw e t n j = none := by
  unfold stN stU
  rw [if_neg]
  omega

theorem stN_start (nw : ℕ) (e : ℕ → Fin 21) {t n : ℕ} (hn : n ≤ 5) (h : t + n < 6 * nw) (j : Fin 6) (hj : j.val = (t + n) % 6)
    (d : Fin 6) (hd : d.val = (t + n) / nw) :
    stN nw e t (n + 1) = Function.update (stN nw e t n) j (some (e ((t + n) % nw), d)) := by
  have hlt : (t + n) / nw < 6 := Nat.div_lt_of_lt_mul (by rw [Nat.mul_comm]; exact h)
  funext i
  by_cases hi : i = j
  · subst hi
    have e1 : t + (i.val + 6 - t % 6) % 6 = t + n := by omega
    rw [Function.update_self]
    unfold stN
    rw [e1]; unfold stU; rw [if_pos ⟨by omega, h⟩]
    congr 2
    exact Fin.ext ((Nat.mod_eq_of_lt hlt).trans hd.symm)
  · rw [Function.update_of_ne hi]
    have hne : i.val ≠ j.val := fun h => hi (Fin.ext h)
    unfold stN
    have e1 : (t + (i.val + 6 - t % 6) % 6 < t + (n + 1)) ↔ (t + (i.val + 6 - t % 6) % 6 < t + n) := by
      have := i.isLt; omega
    unfold stU; simp only [e1]

theorem stN_last (nw : ℕ) (e : ℕ → Fin 21) {t n : ℕ} (h : 6 * nw ≤ t + n) : stN nw e t (n + 1) = stN nw e t n := by
  funext i
  unfold stN stU
  have e1 : (t + (i.val + 6 - t % 6) % 6 < t + (n + 1) ∧ t + (i.val + 6 - t % 6) % 6 < 6 * nw)
      ↔ (t + (i.val + 6 - t % 6) % 6 < t + n ∧ t + (i.val + 6 - t % 6) % 6 < 6 * nw) := by omega
  simp only [e1]

theorem stN_own (nw : ℕ) (e : ℕ → Fin 21) {t : ℕ} (h : t < 6 * nw) (j : Fin 6) (hj : j.val = t % 6) (d : Fin 6) (hd : d.val = t / nw) :
    stN nw e t 6 j = some (e (t % nw), d) := by
  have hlt : t / nw < 6 := Nat.div_lt_of_lt_mul (by rw [Nat.mul_comm]; exact h)
  have e1 : t + (j.val + 6 - t % 6) % 6 = t := by omega
  unfold stN
  rw [e1]; unfold stU; rw [if_pos ⟨by omega, h⟩]
  congr 2
  exact Fin.ext ((Nat.mod_eq_of_lt hlt).trans hd.symm)

theorem stN_done (nw : ℕ) (e : ℕ → Fin 21) {t : ℕ} (j : Fin 6) (hj : j.val = t % 6) :
    stN nw e (t + 1) 5 = Function.update (stN nw e t 6) j none := by
  funext i
  by_cases hi : i = j
  · subst hi
    rw [Function.update_self]
    unfold stN stU
    rw [if_neg]; omega
  · rw [Function.update_of_ne hi]
    have hne : i.val ≠ j.val := fun h => hi (Fin.ext h)
    unfold stN
    have e1 : t + 1 + (i.val + 6 - (t + 1) % 6) % 6 = t + (i.val + 6 - t % 6) % 6 := by have := i.isLt; omega
    rw [e1]

theorem stN_zero (nw : ℕ) (e : ℕ → Fin 21) (j : Fin 6) : stN nw e 0 0 j = none := by
  unfold stN stU; rw [if_neg]; omega

theorem stN_end (nw : ℕ) (e : ℕ → Fin 21) (j : Fin 6) : stN nw e (6 * nw) 5 j = none := by
  unfold stN stU; rw [if_neg]; omega

theorem stN_nil (e : ℕ → Fin 21) (n : ℕ) (j : Fin 6) : stN 0 e 0 n j = none := by
  unfold stN stU; rw [if_neg]; omega

/-- The slot of step `t`. -/
abbrev slotOf (t : ℕ) : Fin 6 := ⟨t % 6, Nat.mod_lt _ (by decide)⟩

/-- A copy just started, put back into the ring. -/
theorem v_fold {nw : ℕ} (e : ℕ → Fin 21) (fa : Buf (Elt F) (wvM.view.loc (c : Thread nD τ))) {t n : ℕ} (hn : n ≤ 5) (h : t + n < 6 * nw)
    {o : Fin 3 → ℕ} (ho) {s : Fin 1 → ℕ} (hs) {q : Fin 3 → ℕ} (hq) (eo : o = ![(t + n) % 6, 0, 0]) (es : s = ![(t + n) % 6])
    (eq : q = ![(e ((t + n) % nw)).val, 0, (t + n) / nw * 512]) :
    iprop(vFlyAt c (slotOf (t + n)) fa o ho s hs q hq ∗ Ring.restW (vSlot c fa) (stN nw e t n) (slotOf (t + n)))
      ⊢ Ring.AtW (vSlot c fa) (stN nw e t (n + 1)) := by
  have hlt : (t + n) / nw < 6 := Nat.div_lt_of_lt_mul (by rw [Nat.mul_comm]; exact h)
  rw [stN_start nw e hn h (slotOf (t + n)) rfl ⟨(t + n) / nw, hlt⟩ rfl,
    vFlyAt_eq c _ fa eo ho (vslot_inb (slotOf (t + n))) es hs (cell_inb (slotOf (t + n))) eq hq (vsrc_inb (e ((t + n) % nw)) ⟨(t + n) / nw, hlt⟩)]
  exact Ring.AtW_update (vSlot c fa) (stN nw e t n) (slotOf (t + n)) (some (e ((t + n) % nw), ⟨(t + n) / nw, hlt⟩))

/-- The copy of the step's own values, taken out of the ring. -/
theorem v_own {nw : ℕ} (e : ℕ → Fin 21) (fa : Buf (Elt F) (wvM.view.loc (c : Thread nD τ))) {t : ℕ} (h : t < 6 * nw)
    {o : Fin 3 → ℕ} (ho) {s : Fin 1 → ℕ} (hs) {q : Fin 3 → ℕ} (hq) (eo : o = ![t % 6, 0, 0]) (es : s = ![t % 6])
    (eq : q = ![(e (t % nw)).val, 0, t / nw * 512]) :
    Ring.AtW (vSlot c fa) (stN nw e t 6)
      ⊢ iprop(vFlyAt c (slotOf t) fa o ho s hs q hq ∗ Ring.restW (vSlot c fa) (stN nw e t 6) (slotOf t)) := by
  have hlt : t / nw < 6 := Nat.div_lt_of_lt_mul (by rw [Nat.mul_comm]; exact h)
  rw [vFlyAt_eq c _ fa eo ho (vslot_inb (slotOf t)) es hs (cell_inb (slotOf t)) eq hq (vsrc_inb (e (t % nw)) ⟨t / nw, hlt⟩),
    Ring.AtW_focus (vSlot c fa) _ (slotOf t), stN_own nw e h (slotOf t) rfl ⟨t / nw, hlt⟩ rfl]
  exact .rfl

/-- The slot of the step, free again, put back into the ring. -/
theorem v_done {nw : ℕ} (e : ℕ → Fin 21) (fa : Buf (Elt F) (wvM.view.loc (c : Thread nD τ))) {t : ℕ} :
    iprop(vFreeAt c (slotOf t) fa ![t % 6, 0, 0] (vslot_inb (slotOf t)) ![t % 6] (cell_inb (slotOf t))
        ∗ Ring.restW (vSlot c fa) (stN nw e t 6) (slotOf t)) ⊢ Ring.AtW (vSlot c fa) (stN nw e (t + 1) 5) := by
  rw [stN_done nw e (slotOf t) rfl]
  exact Ring.AtW_update (vSlot c fa) (stN nw e t 6) (slotOf t) none

/-- What a step holds after it has waited for its values: the semaphore, the slot filled with the block at `q`, the share of
    the array. -/
abbrev vGotAt (k : Fin 6) (fa : Buf (Elt F) (wvM.view.loc (c : Thread nD τ))) (o : Fin 3 → ℕ) (h : ∀ a, o a + S1x2560x512.size a ≤ S6x2560x512.size a) (s : Fin 1 → ℕ) (hs : ∀ a, s a + S1.size a ≤ S6.size a)
    (f : Buf (Elt F) ((vslotAt o h).view.loc (c : Thread nD τ))) : sProp 𝕄 :=
  iprop(semVal ((c : Thread nD τ), vcellAt s hs) 0
    ∗ ((vslotAt o h).view.loc (c : Thread nD τ) ↦[(vslotAt o h).view.set]{fullShare} f) ∗ vtok c k Finset.univ fa)

/-- A copy just started, put back into the ring. -/
theorem m_fold {nw : ℕ} (e : ℕ → Fin 21) (fa : Buf (Elt F) (wmM.view.loc (c : Thread nD τ))) {t n : ℕ} (hn : n ≤ 5) (h : t + n < 6 * nw)
    {o : Fin 3 → ℕ} (ho) {s : Fin 1 → ℕ} (hs) {q : Fin 3 → ℕ} (hq) (eo : o = ![(t + n) % 6, 0, 0]) (es : s = ![(t + n) % 6])
    (eq : q = ![(e ((t + n) % nw)).val, 0, (t + n) / nw * 512]) :
    iprop(mFlyAt c (slotOf (t + n)) fa o ho s hs q hq ∗ Ring.restW (mSlot c fa) (stN nw e t n) (slotOf (t + n)))
      ⊢ Ring.AtW (mSlot c fa) (stN nw e t (n + 1)) := by
  have hlt : (t + n) / nw < 6 := Nat.div_lt_of_lt_mul (by rw [Nat.mul_comm]; exact h)
  rw [stN_start nw e hn h (slotOf (t + n)) rfl ⟨(t + n) / nw, hlt⟩ rfl,
    mFlyAt_eq c _ fa eo ho (mslot_inb (slotOf (t + n))) es hs (cell_inb (slotOf (t + n))) eq hq (msrc_inb (e ((t + n) % nw)) ⟨(t + n) / nw, hlt⟩)]
  exact Ring.AtW_update (mSlot c fa) (stN nw e t n) (slotOf (t + n)) (some (e ((t + n) % nw), ⟨(t + n) / nw, hlt⟩))

/-- The copy of the step's own values, taken out of the ring. -/
theorem m_own {nw : ℕ} (e : ℕ → Fin 21) (fa : Buf (Elt F) (wmM.view.loc (c : Thread nD τ))) {t : ℕ} (h : t < 6 * nw)
    {o : Fin 3 → ℕ} (ho) {s : Fin 1 → ℕ} (hs) {q : Fin 3 → ℕ} (hq) (eo : o = ![t % 6, 0, 0]) (es : s = ![t % 6])
    (eq : q = ![(e (t % nw)).val, 0, t / nw * 512]) :
    Ring.AtW (mSlot c fa) (stN nw e t 6)
      ⊢ iprop(mFlyAt c (slotOf t) fa o ho s hs q hq ∗ Ring.restW (mSlot c fa) (stN nw e t 6) (slotOf t)) := by
  have hlt : t / nw < 6 := Nat.div_lt_of_lt_mul (by rw [Nat.mul_comm]; exact h)
  rw [mFlyAt_eq c _ fa eo ho (mslot_inb (slotOf t)) es hs (cell_inb (slotOf t)) eq hq (msrc_inb (e (t % nw)) ⟨t / nw, hlt⟩),
    Ring.AtW_focus (mSlot c fa) _ (slotOf t), stN_own nw e h (slotOf t) rfl ⟨t / nw, hlt⟩ rfl]
  exact .rfl

/-- The slot of the step, free again, put back into the ring. -/
theorem m_done {nw : ℕ} (e : ℕ → Fin 21) (fa : Buf (Elt F) (wmM.view.loc (c : Thread nD τ))) {t : ℕ} :
    iprop(mFreeAt c (slotOf t) fa ![t % 6, 0, 0] (mslot_inb (slotOf t)) ![t % 6] (cell_inb (slotOf t))
        ∗ Ring.restW (mSlot c fa) (stN nw e t 6) (slotOf t)) ⊢ Ring.AtW (mSlot c fa) (stN nw e (t + 1) 5) := by
  rw [stN_done nw e (slotOf t) rfl]
  exact Ring.AtW_update (mSlot c fa) (stN nw e t 6) (slotOf t) none

/-- What a step holds after it has waited for its values: the semaphore, the slot filled with the block at `q`, the share of
    the array. -/
abbrev mGotAt (k : Fin 6) (fa : Buf (Elt F) (wmM.view.loc (c : Thread nD τ))) (o : Fin 3 → ℕ) (h : ∀ a, o a + S1x160x512.size a ≤ S6x160x512.size a) (s : Fin 1 → ℕ) (hs : ∀ a, s a + S1.size a ≤ S6.size a)
    (f : Buf (Elt F) ((mslotAt o h).view.loc (c : Thread nD τ))) : sProp 𝕄 :=
  iprop(semVal ((c : Thread nD τ), mcellAt s hs) 0
    ∗ ((mslotAt o h).view.loc (c : Thread nD τ) ↦[(mslotAt o h).view.set]{fullShare} f) ∗ mtok c k Finset.univ fa)

/-- The windows of the work list, in order: the group `e i` and the first row `b i`. -/
def Plan (S : ℕ → ℕ) (T : Tab (F := F)) (nw : ℕ) (e : ℕ → Fin 21) (b : ℕ → ℕ) : Prop :=
  ∀ i < nw, Item S T i (e i).val (b i)

section Part1

variable {S : ℕ → ℕ} {T : Tab (F := F)} {nw : ℕ} {e : ℕ → Fin 21} {b : ℕ → ℕ}

/-- The part of a step that starts the copies of the step five later, if there is one, and waits for the step's own values. -/
theorem part1_run (hP : Plan S T nw e b) (hS : ∀ k ≤ 21, S k ≤ 256) (hn : nw ≤ 64) (k : Fin (k0_t2_loop (wd nw)).trips) (v2 c0 c1 : BitVec 32)
    (fv : Buf (Elt F) (wvM.view.loc (c : Thread nD τ))) (fm : Buf (Elt F) (wmM.view.loc (c : Thread nD τ))) (W : Waits sig Unit)
    (d : Fin 6) (hd : d.val = k.val / nw) (h8 : k0_chk8 (wd nw) k (wd (min (b (k.val % nw)) 128))) (h10 : k0_chk10 (wd nw) k (wd (e (k.val % nw)).val))
    (h11 : k0_chk11 (wd nw) k (wd (e (k.val % nw)).val))
    (K : (Σ' (v395 : BitVec 32) (v399 : Elt F .i32) (k0_hw11 : k0_chk11 (wd nw) k v399) (v401 : Elt F .i32) (k0_hw8 : k0_chk8 (wd nw) k v401) (v402 : BitVec 32) (v404 : Elt F .i32) (v406 : Elt F .i32) (v407 : BitVec 32) (v417 : Elt F .i32), k0_chk10 (wd nw) k v417) → sProp 𝕄) :
    iprop((tabM.view.loc (c : Thread nD τ) ↦{fullShare} T)
        ∗ Ring.AtW (vSlot c fv) (stN nw e k.val 5) ∗ Ring.AtW (mSlot c fm) (stN nw e k.val 5)
        ∗ owes (c : Thread nD τ) 0 W
        ∗ (iprop((tabM.view.loc (c : Thread nD τ) ↦{fullShare} T)
            ∗ (∃ f, vGotAt c (slotOf k.val) fv (k0_off54 (wd nw) k) (k0_off54_inb (wd nw) (chk2 hn) k) (k0_off53 (wd nw) k) (k0_off53_inb (wd nw) (chk2 hn) k)
                ((vslotAt (k0_off54 (wd nw) k) (k0_off54_inb (wd nw) (chk2 hn) k)).view.writes (Elt F) f [⟨Rect.whole S2560x512,
                  ReadAs.same.apply ((vsrcAt (k0_off55 (wd nw) k (wd (e (k.val % nw)).val)) (k0_off55_inb (wd nw) k _ h10)).view.read (Elt F) fv)⟩]))
            ∗ Ring.restW (vSlot c fv) (stN nw e k.val 6) (slotOf k.val) ∗ Ring.AtW (mSlot c fm) (stN nw e k.val 6)
            ∗ ∃ W', owes (c : Thread nD τ) 0 W') -∗ K ⟨Scalar.divsi (Scf.iv c0 c1 k) (wd nw), wd (e (k.val % nw)).val, h11, wd (min (b (k.val % nw)) 128), h8,
              wd (min (b (k.val % nw)) 128), wd (max (S (e (k.val % nw)).val) (b (k.val % nw))),
              wd (min (S ((e (k.val % nw)).val + 1)) (b (k.val % nw) + 128)), Scalar.remsi (Scf.iv c0 c1 k) 6#32, wd (e (k.val % nw)).val, h10⟩))
      ⊢ wp frame (wpE (defs₀ (F := F)) 𝒱₀ (c : Thread nD τ) none) Set.univ
          (k0_part1 (F := F) gsM (wh _) xsM (wh _) wsM (wh _) xM (wh _) wvM (wh _) wmM (wh _) yM (wh _) xaM (wh _) xbM (wh _) xcM (wh _) sbM (wh _) tabM (wh _) vbM (wh _) mbM (wh _) cc0_scratch7 cc0_scratch8 (wd nw) (chk2 hn) v2 c0 c1 k) K := by
  have hk := k_lt hn k
  have h0 := nw_pos hn k
  have hI := hP (k.val % nw) (Nat.mod_lt _ h0)
  have l0 := funext fun y => hI.w0.load (off41_eq hn k) (k0_off41_inb (wd nw) (chk2 hn) k) y
  have l1 := funext fun y => hI.w1.load (off42_eq hn k) (k0_off42_inb (wd nw) (chk2 hn) k) y
  have l2 := funext fun y => hI.w2.load (off43_eq hn k) (k0_off43_inb (wd nw) (chk2 hn) k) y
  have l3 := funext fun y => hI.w3.load (off44_eq hn k) (k0_off44_inb (wd nw) (chk2 hn) k) y
  have l5 := funext fun y => hI.w0.load (off52_eq hn k) (k0_off52_inb (wd nw) (chk2 hn) k) y
  have e20 : (wd (e (k.val % nw)).val).toNat = (e (k.val % nw)).val := toNat_wd (by have := (e (k.val % nw)).isLt; omega)
  rw [k0_part1_eq_skeleton]; unfold k0_part1_skel
  by_cases h6 : k0_cond6 (wd nw) k = 1#1
  · have h5 := (cond6_iff hn k).mp h6
    have hJ := hP ((k.val + 5) % nw) (Nat.mod_lt _ h0)
    have hlt : (k.val + 5) / nw < 6 := Nat.div_lt_of_lt_mul (by rw [Nat.mul_comm]; exact h5)
    have l4 := funext fun y => hJ.w0.load (off45_eq hn k) (k0_off45_inb (wd nw) (chk2 hn) k h6) y
    have e21 : (wd (e ((k.val + 5) % nw)).val).toNat = (e ((k.val + 5) % nw)).val := toNat_wd (by have := (e ((k.val + 5) % nw)).isLt; omega)
    have h9 : k0_chk9 (wd nw) k (wd (e ((k.val + 5) % nw)).val) := chk9 hn k (by rw [e21]; exact (e _).isLt)
    rw [Ring.AtW_focus (vSlot c fv) _ (slotOf (k.val + 5)), Ring.AtW_focus (mSlot c fm) _ (slotOf (k.val + 5)),
      stN_next nw e (le_refl 5) (slotOf (k.val + 5)) rfl]
    rw [vSlot_none, mSlot_none, vFreeAt_eq c _ fv (off47_eq hn k).symm _ (k0_off47_inb (wd nw) (chk2 hn) k h6) (off46_eq hn k).symm _ (k0_off46_inb (wd nw) (chk2 hn) k h6),
      mFreeAt_eq c _ fm (off50_eq hn k).symm _ (k0_off50_inb (wd nw) (chk2 hn) k h6) (off49_eq hn k).symm _ (k0_off49_inb (wd nw) (chk2 hn) k h6)]
    iintro ⟨HT, ⟨⟨HVc, ⟨%gv, HVs⟩, HVt⟩, HVr⟩, ⟨⟨HMc, ⟨%gm, HMs⟩, HMt⟩, HMr⟩, HO, HK⟩
    set_option sl_exec.maxSteps 25 in sl_exec
    ihave HV := (v_fold c e fv (le_refl 5) h5 (k0_off47_inb (wd nw) (chk2 hn) k h6) (k0_off46_inb (wd nw) (chk2 hn) k h6)
      (k0_off48_inb (wd nw) k _ h9 h6) (off47_eq hn k) (off46_eq hn k) ((off48_eq hn k _).trans (by rw [e21]))) $$ [HVc HVt HVr]
    · isplitr [HVr]
      · isplitl [HVc]
        · iexists gv; iexact HVc
        · iexact HVt
      · iexact HVr
    ihave HM := (m_fold c e fm (le_refl 5) h5 (k0_off50_inb (wd nw) (chk2 hn) k h6) (k0_off49_inb (wd nw) (chk2 hn) k h6)
      (k0_off51_inb (wd nw) k _ h9 h6) (off50_eq hn k) (off49_eq hn k) ((off51_eq hn k _).trans (by rw [e21]))) $$ [HMc HMt HMr]
    · isplitr [HMr]
      · isplitl [HMc]
        · iexists gm; iexact HMc
        · iexact HMt
      · iexact HMr
    ihave HV := (v_own c e fv hk (k0_off54_inb (wd nw) (chk2 hn) k) (k0_off53_inb (wd nw) (chk2 hn) k) (k0_off55_inb (wd nw) k _ h10)
      (off54_eq hn k) (off53_eq hn k) ((off55_eq hn k _).trans (by rw [e20]))) $$ HV
    icases HV with ⟨⟨⟨%gw, HVf⟩, HVt⟩, HVr⟩
    sl_exec
    sl_step
    sl_open_run
    iapply HK
    isplitl [HT]; · iexact HT
    isplitl [HVf HVf_dst HVt]
    · iexists gw
      isplitl [HVf]; · iexact HVf
      isplitl [HVf_dst]; · iexact HVf_dst
      iexact HVt
    isplitl [HVr]; · iexact HVr
    isplitl [HM]; · iexact HM
    iexists _; iexact HO
  · have h5 : 6 * nw ≤ k.val + 5 := by have := mt (cond6_iff hn k).mpr h6; omega
    rw [← stN_last nw e h5]
    iintro ⟨HT, HV, HM, HO, HK⟩
    set_option sl_exec.maxSteps 15 in sl_exec
    ihave HV := (v_own c e fv hk (k0_off54_inb (wd nw) (chk2 hn) k) (k0_off53_inb (wd nw) (chk2 hn) k) (k0_off55_inb (wd nw) k _ h10)
      (off54_eq hn k) (off53_eq hn k) ((off55_eq hn k _).trans (by rw [e20]))) $$ HV
    icases HV with ⟨⟨⟨%gw, HVf⟩, HVt⟩, HVr⟩
    sl_exec
    sl_step
    sl_open_run
    iapply HK
    isplitl [HT]; · iexact HT
    isplitl [HVf HVf_dst HVt]
    · iexists gw
      isplitl [HVf]; · iexact HVf
      isplitl [HVf_dst]; · iexact HVf_dst
      iexact HVt
    isplitl [HVr]; · iexact HVr
    isplitl [HM]; · iexact HM
    iexists _; iexact HO

end Part1

end Cert.KernelIdeal.Hand

end
-- ==== Proof.Ideal.Block.lean ====
/-
  What one trip of the main loop computes, written once: a block of 256 rows of the packed weights, the ten blocks of one half
  of a slab, and the write of the half's rows. Also what the trip's loads read.
-/
module

public import proofs.«01_k».proof.Proof.Ideal.Ring
public import Idealize.ShloMosaic.Lib.VecWindow
public import Idealize.ShloMosaic.Lib.ValueLayout
public import Idealize.ShloMosaic.Lib.Pointwise

@[expose] public section

noncomputable section

namespace Cert.KernelIdeal.Hand

open Cert.KernelIdeal Cert.KernelIdeal.Gen Cert.Hand
open Idealize.ShloMosaic Idealize.ShloMosaic.TcCoe Idealize.ShloMosaic.Tactic

variable {F : FTy → Type} [FloatOps F] [∀ e, Nonempty (Elt F e)]

/-- A block whose third product is folded into the second. -/
def blkE (acc : FVec F S128x256 .f32) (v : Vec F S1x256x256 .fp8e4m3) (m : Vec F S1x16x256 .i32) (xa xb : Vec F S128x256 .fp8e4m3) : FVec F S128x256 .f32 :=
  k0_pay12 acc (k0_pay6 v) k0_pay7 (k0_pay9 m) (k0_pay10 m) k0_pay11 xa xb

/-- A block of three products. -/
def blkO (acc : FVec F S128x256 .f32) (v : Vec F S1x256x256 .fp8e4m3) (m : Vec F S1x16x256 .i32) (xa xb xc : Vec F S128x256 .fp8e4m3) : FVec F S128x256 .f32 :=
  k0_pay19 acc (k0_pay13 v) k0_pay14 (k0_pay16 m) (k0_pay17 m) (k0_pay18 (k0_pay13 v) k0_pay14 m) xa xb xc

/-- The ten blocks of a half. -/
def acc10 (v : ℕ → Vec F S1x256x256 .fp8e4m3) (m : ℕ → Vec F S1x16x256 .i32) (xa xb xc : ℕ → Vec F S128x256 .fp8e4m3) : FVec F S128x256 .f32 :=
  blkO (blkE (blkO (blkE (blkO (blkE (blkO (blkE (blkO (blkE k0_pay5 (v 0) (m 0) (xa 0) (xb 0)) (v 1) (m 1) (xa 1) (xb 1) (xc 1)) (v 2) (m 2) (xa 2) (xb 2)) (v 3) (m 3) (xa 3) (xb 3) (xc 3))
    (v 4) (m 4) (xa 4) (xb 4)) (v 5) (m 5) (xa 5) (xb 5) (xc 5)) (v 6) (m 6) (xa 6) (xb 6)) (v 7) (m 7) (xa 7) (xb 7) (xc 7)) (v 8) (m 8) (xa 8) (xb 8)) (v 9) (m 9) (xa 9) (xb 9) (xc 9)

/-- A half's rows of the result: the new ones on the rows of the group, the old ones elsewhere. -/
def outH (mask : IVec S128x256 1) (sc acc : FVec F S128x256 .f32) (ws : Vec F S1x256 .f32) (y : Vec F S128x256 .bf16) : FVec F S128x256 .bf16 :=
  select mask (truncf .bf16 (mulf (mulf acc sc) (broadcastTo S128x256 ws broadcasts_S1x256_S128x256)) bitsLt_bf16_f32) (shapeCast S128x256 y shapeCasts_S128x256_S128x256)

/-! ### What the loads read -/

/-- The window's rows of one of the three operands, 256 columns from `256 i`. -/
def wX (x : S256x2560.Idx → Elt F .fp8e4m3) (r0 i : ℕ) : Vec F S128x256 .fp8e4m3 :=
  fun y => x (ix2 ⟨(r0 + (y 0).val) % 256, Nat.mod_lt _ (by decide)⟩ ⟨(256 * i + (y 1).val) % 2560, Nat.mod_lt _ (by decide)⟩)

/-- The packed values of expert `e`, 256 rows from `256 i`, 256 columns from `q0`. -/
def wV (x : S21x2560x3072.Idx → Elt F .fp8e4m3) (e : Fin 21) (i q0 : ℕ) : Vec F S1x256x256 .fp8e4m3 :=
  fun y => x (ix3 e ⟨(256 * i + (y 1).val) % 2560, Nat.mod_lt _ (by decide)⟩ ⟨(q0 + (y 2).val) % 3072, Nat.mod_lt _ (by decide)⟩)

/-- The position words of expert `e`, 16 rows from `16 i`, 256 columns from `q0`. -/
def wM (x : S21x160x3072.Idx → Elt F .i32) (e : Fin 21) (i q0 : ℕ) : Vec F S1x16x256 .i32 :=
  fun y => x (ix3 e ⟨(16 * i + (y 1).val) % 160, Nat.mod_lt _ (by decide)⟩ ⟨(q0 + (y 2).val) % 3072, Nat.mod_lt _ (by decide)⟩)

/-- The scales of expert `e`, 256 columns from `q0`. -/
def wS (x : S21x3072.Idx → Elt F .f32) (e : Fin 21) (q0 : ℕ) : Vec F S1x256 .f32 :=
  fun y => x (ix2 e ⟨(q0 + (y 1).val) % 3072, Nat.mod_lt _ (by decide)⟩)

/-- The window's row scales. -/
def wD (x : S256x128.Idx → Elt F .f32) (r0 : ℕ) : Vec F S128x128 .f32 :=
  fun y => x (ix2 ⟨(r0 + (y 0).val) % 256, Nat.mod_lt _ (by decide)⟩ ⟨(y 1).val, (y 1).isLt⟩)

theorem wX_of (v : View sig .tc .vmem S256x2560 .fp8e4m3) (A : v.ty.Contents (Elt F)) {o : Fin 2 → ℕ} (h : ∀ a, o a + S128x256.size a ≤ S256x2560.size a) {r0 i : ℕ}
    (ho : o = ![r0, 256 * i]) :
    v.readAt (Elt F) (Rect.unit (s := S256x2560) o S128x256.size h).toLoadRect A = wX (v.read (Elt F) A) r0 i := by
  subst ho
  funext y
  have h0 : r0 + 128 ≤ 256 := h 0
  have h1 : 256 * i + 256 ≤ 2560 := h 1
  have y0 : (y 0).val < 128 := (y 0).isLt
  have y1 : (y 1).val < 256 := (y 1).isLt
  refine congrArg (v.read (Elt F) A) ?_
  funext a; fin_cases a <;> apply Fin.ext
  · show r0 + 1 * (y 0).val = (r0 + (y 0).val) % 256
    rw [Nat.mod_eq_of_lt (by omega)]; omega
  · show 256 * i + 1 * (y 1).val = (256 * i + (y 1).val) % 2560
    rw [Nat.mod_eq_of_lt (by omega)]; omega

theorem wS_of (A : wsM.view.ty.Contents (Elt F)) {o : Fin 2 → ℕ} (h : ∀ a, o a + S1x256.size a ≤ S21x3072.size a) {e : Fin 21} {q0 : ℕ}
    (ho : o = ![e.val, q0]) :
    wsM.view.readAt (Elt F) (Rect.unit (s := S21x3072) o S1x256.size h).toLoadRect A = wS (wsM.view.read (Elt F) A) e q0 := by
  subst ho
  funext y
  have h1 : q0 + 256 ≤ 3072 := h 1
  have y0 : (y 0).val < 1 := (y 0).isLt
  have y1 : (y 1).val < 256 := (y 1).isLt
  refine congrArg (wsM.view.read (Elt F) A) ?_
  funext a; fin_cases a <;> apply Fin.ext
  · show e.val + 1 * (y 0).val = e.val
    omega
  · show q0 + 1 * (y 1).val = (q0 + (y 1).val) % 3072
    rw [Nat.mod_eq_of_lt (by omega)]; omega

theorem wD_of (A : sbM.view.ty.Contents (Elt F)) {o : Fin 2 → ℕ} (h : ∀ a, o a + S128x128.size a ≤ S256x128.size a) {r0 : ℕ}
    (ho : o = ![r0, 0]) :
    sbM.view.readAt (Elt F) (Rect.unit (s := S256x128) o S128x128.size h).toLoadRect A = wD (sbM.view.read (Elt F) A) r0 := by
  subst ho
  funext y
  have h0 : r0 + 128 ≤ 256 := h 0
  have y0 : (y 0).val < 128 := (y 0).isLt
  refine congrArg (sbM.view.read (Elt F) A) ?_
  funext a; fin_cases a <;> apply Fin.ext
  · show r0 + 1 * (y 0).val = (r0 + (y 0).val) % 256
    rw [Nat.mod_eq_of_lt (by omega)]; omega
  · show 0 + 1 * (y 1).val = (y 1).val
    omega

theorem wV_of (fv : wvM.view.ty.Contents (Elt F)) {s : Fin 3 → ℕ} (hs : ∀ a, s a + S1x2560x512.size a ≤ S6x2560x512.size a)
    {q : Fin 3 → ℕ} (hq : ∀ a, q a + S1x2560x512.size a ≤ S21x2560x3072.size a)
    {o : Fin 3 → ℕ} (h : ∀ a, o a + S1x256x256.size a ≤ S6x2560x512.size a)
    {k i j n : ℕ} {e : Fin 21} (es : s = ![k, 0, 0]) (eq : q = ![e.val, 0, n]) (eo : o = ![k, 256 * i, j]) :
    vbM.view.readAt (Elt F) (Rect.unit (s := S6x2560x512) o S1x256x256.size h).toLoadRect
      ((vslotAt s hs).view.writes (Elt F) (vslotAt s hs).view.junk [⟨Rect.whole S2560x512, ReadAs.same.apply ((vsrcAt q hq).view.read (Elt F) fv)⟩])
      = wV (wvM.view.read (Elt F) fv) e i (n + j) := by
  subst es eq eo
  funext y
  have h0 : k + 1 ≤ 6 := h 0
  have h1 : 256 * i + 256 ≤ 2560 := h 1
  have h2 : j + 256 ≤ 512 := h 2
  have hn : n + 512 ≤ 3072 := hq 2
  have y0 : (y 0).val < 1 := (y 0).isLt
  have y1 : (y 1).val < 256 := (y 1).isLt
  have y2 : (y 2).val < 256 := (y 2).isLt
  have hw := View.read_writes_whole (Val := Elt F) (vslotAt _ hs).view (vslotAt _ hs).view.junk (ReadAs.same.apply ((vsrcAt _ hq).view.read (Elt F) fv))
  generalize (vslotAt ![k, 0, 0] hs).view.writes (Elt F) (vslotAt ![k, 0, 0] hs).view.junk [⟨Rect.whole S2560x512, ReadAs.same.apply ((vsrcAt ![e.val, 0, n] hq).view.read (Elt F) fv)⟩] = g at hw ⊢
  let z : S2560x512.Idx := ix2 ⟨256 * i + (y 1).val, by omega⟩ ⟨j + (y 2).val, by omega⟩
  have hz := congrFun hw z
  have hl : (vslotAt ![k, 0, 0] hs).view.read (Elt F) g z
      = vbM.view.read (Elt F) g ((Rect.unit (s := S6x2560x512) ![k, 0, 0] S1x2560x512.size hs).emb (Shape.reshapeEquiv (squeezes_S1x2560x512_S2560x512).numel_eq z)) := rfl
  have hp : Shape.reshapeEquiv (squeezes_S1x2560x512_S2560x512).numel_eq z = ix3 (⟨0, Nat.one_pos⟩ : Fin 1) ⟨256 * i + (y 1).val, by omega⟩ ⟨j + (y 2).val, by omega⟩ :=
    ValueIdx.reshapeEquiv_ix2_1ab _ _ _
  rw [hp] at hl
  have hr : (vsrcAt ![e.val, 0, n] hq).view.read (Elt F) fv z
      = wvM.view.read (Elt F) fv ((Rect.unit (s := S21x2560x3072) ![e.val, 0, n] S1x2560x512.size hq).emb (Shape.reshapeEquiv (squeezes_S1x2560x512_S2560x512).numel_eq z)) := rfl
  rw [hp] at hr
  refine Eq.trans (Eq.trans ?_ (hl.symm.trans (hz.trans hr))) ?_
  · refine congrArg (vbM.view.read (Elt F) g) ?_
    funext a; fin_cases a <;> apply Fin.ext
    · show k + 1 * (y 0).val = k + 1 * 0
      omega
    · show 256 * i + 1 * (y 1).val = 0 + 1 * (256 * i + (y 1).val)
      omega
    · show j + 1 * (y 2).val = 0 + 1 * (j + (y 2).val)
      omega
  · refine congrArg (wvM.view.read (Elt F) fv) ?_
    funext a; fin_cases a <;> apply Fin.ext
    · show e.val + 1 * 0 = e.val
      omega
    · show 0 + 1 * (256 * i + (y 1).val) = (256 * i + (y 1).val) % 2560
      rw [Nat.mod_eq_of_lt (by omega)]; omega
    · show n + 1 * (j + (y 2).val) = (n + j + (y 2).val) % 3072
      rw [Nat.mod_eq_of_lt (by omega)]; omega

theorem wM_of (fv : wmM.view.ty.Contents (Elt F)) {s : Fin 3 → ℕ} (hs : ∀ a, s a + S1x160x512.size a ≤ S6x160x512.size a)
    {q : Fin 3 → ℕ} (hq : ∀ a, q a + S1x160x512.size a ≤ S21x160x3072.size a)
    {o : Fin 3 → ℕ} (h : ∀ a, o a + S1x16x256.size a ≤ S6x160x512.size a)
    {k i j n : ℕ} {e : Fin 21} (es : s = ![k, 0, 0]) (eq : q = ![e.val, 0, n]) (eo : o = ![k, 16 * i, j]) :
    mbM.view.readAt (Elt F) (Rect.unit (s := S6x160x512) o S1x16x256.size h).toLoadRect
      ((mslotAt s hs).view.writes (Elt F) (mslotAt s hs).view.junk [⟨Rect.whole S160x512, ReadAs.same.apply ((msrcAt q hq).view.read (Elt F) fv)⟩])
      = wM (wmM.view.read (Elt F) fv) e i (n + j) := by
  subst es eq eo
  funext y
  have h0 : k + 1 ≤ 6 := h 0
  have h1 : 16 * i + 16 ≤ 160 := h 1
  have h2 : j + 256 ≤ 512 := h 2
  have hn : n + 512 ≤ 3072 := hq 2
  have y0 : (y 0).val < 1 := (y 0).isLt
  have y1 : (y 1).val < 16 := (y 1).isLt
  have y2 : (y 2).val < 256 := (y 2).isLt
  have hw := View.read_writes_whole (Val := Elt F) (mslotAt _ hs).view (mslotAt _ hs).view.junk (ReadAs.same.apply ((msrcAt _ hq).view.read (Elt F) fv))
  generalize (mslotAt ![k, 0, 0] hs).view.writes (Elt F) (mslotAt ![k, 0, 0] hs).view.junk [⟨Rect.whole S160x512, ReadAs.same.apply ((msrcAt ![e.val, 0, n] hq).view.read (Elt F) fv)⟩] = g at hw ⊢
  let z : S160x512.Idx := ix2 ⟨16 * i + (y 1).val, by omega⟩ ⟨j + (y 2).val, by omega⟩
  have hz := congrFun hw z
  have hl : (mslotAt ![k, 0, 0] hs).view.read (Elt F) g z
      = mbM.view.read (Elt F) g ((Rect.unit (s := S6x160x512) ![k, 0, 0] S1x160x512.size hs).emb (Shape.reshapeEquiv (squeezes_S1x160x512_S160x512).numel_eq z)) := rfl
  have hp : Shape.reshapeEquiv (squeezes_S1x160x512_S160x512).numel_eq z = ix3 (⟨0, Nat.one_pos⟩ : Fin 1) ⟨16 * i + (y 1).val, by omega⟩ ⟨j + (y 2).val, by omega⟩ :=
    ValueIdx.reshapeEquiv_ix2_1ab _ _ _
  rw [hp] at hl
  have hr : (msrcAt ![e.val, 0, n] hq).view.read (Elt F) fv z
      = wmM.view.read (Elt F) fv ((Rect.unit (s := S21x160x3072) ![e.val, 0, n] S1x160x512.size hq).emb (Shape.reshapeEquiv (squeezes_S1x160x512_S160x512).numel_eq z)) := rfl
  rw [hp] at hr
  refine Eq.trans (Eq.trans ?_ (hl.symm.trans (hz.trans hr))) ?_
  · refine congrArg (mbM.view.read (Elt F) g) ?_
    funext a; fin_cases a <;> apply Fin.ext
    · show k + 1 * (y 0).val = k + 1 * 0
      omega
    · show 16 * i + 1 * (y 1).val = 0 + 1 * (16 * i + (y 1).val)
      omega
    · show j + 1 * (y 2).val = 0 + 1 * (j + (y 2).val)
      omega
  · refine congrArg (wmM.view.read (Elt F) fv) ?_
    funext a; fin_cases a <;> apply Fin.ext
    · show e.val + 1 * 0 = e.val
      omega
    · show 0 + 1 * (16 * i + (y 1).val) = (16 * i + (y 1).val) % 160
      rw [Nat.mod_eq_of_lt (by omega)]; omega
    · show n + 1 * (j + (y 2).val) = (n + j + (y 2).val) % 3072
      rw [Nat.mod_eq_of_lt (by omega)]; omega

end Cert.KernelIdeal.Hand

end
-- ==== Proof.Ideal.Trip.lean ====
/-
  One trip of the main loop: it waits for the step's packed values and position words, multiplies the window's rows by them in
  ten blocks of 256 rows for each half of the slab, and writes the window's rows of the result.
-/
module

public import proofs.«01_k».proof.Proof.Ideal.Block

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD)

variable {S : ℕ → ℕ} {T : Tab (F := F)} {nw : ℕ} {e : ℕ → Fin 21} {b : ℕ → ℕ}

/-- What the loop holds before step `t`, besides the result. -/
def Held (T : Tab (F := F)) (nw : ℕ) (e : ℕ → Fin 21)
    (fv : Buf (Elt F) (wvM.view.loc (c : Thread nD τ))) (fm : Buf (Elt F) (wmM.view.loc (c : Thread nD τ)))
    (A : Buf (Elt F) (xaM.view.loc (c : Thread nD τ))) (B : Buf (Elt F) (xbM.view.loc (c : Thread nD τ))) (C : Buf (Elt F) (xcM.view.loc (c : Thread nD τ)))
    (D : Buf (Elt F) (sbM.view.loc (c : Thread nD τ))) (fw : Buf (Elt F) (wsM.view.loc (c : Thread nD τ))) (t : ℕ) : sProp 𝕄 :=
  iprop((tabM.view.loc (c : Thread nD τ) ↦{fullShare} T)
    ∗ (xaM.view.loc (c : Thread nD τ) ↦{fullShare} A) ∗ (xbM.view.loc (c : Thread nD τ) ↦{fullShare} B)
    ∗ (xcM.view.loc (c : Thread nD τ) ↦{fullShare} C) ∗ (sbM.view.loc (c : Thread nD τ) ↦{fullShare} D)
    ∗ (wsM.view.loc (c : Thread nD τ) ↦{fullShare} fw)
    ∗ Ring.AtW (vSlot c fv) (stN nw e t 5) ∗ Ring.AtW (mSlot c fm) (stN nw e t 5)
    ∗ ∃ W, owes (c : Thread nD τ) 0 W)

/-- The rows a trip writes in one half, over the old ones. -/
def halfV (fv : wvM.view.ty.Contents (Elt F)) (fm : wmM.view.ty.Contents (Elt F)) (A : xaM.view.ty.Contents (Elt F)) (B : xbM.view.ty.Contents (Elt F)) (C : xcM.view.ty.Contents (Elt F))
    (D : sbM.view.ty.Contents (Elt F)) (fw : wsM.view.ty.Contents (Elt F)) (r0 lo hi q0 : ℕ) (e : Fin 21) (y : Vec F S128x256 .bf16) : FVec F S128x256 .bf16 :=
  outH (k0_pay3 (F := F) (wd r0) (wd lo) (wd hi)) (k0_pay4 (wD (sbM.view.read (Elt F) D) r0))
    (acc10 (fun i => wV (wvM.view.read (Elt F) fv) e i q0) (fun i => wM (wmM.view.read (Elt F) fm) e i q0)
      (wX (xaM.view.read (Elt F) A) r0) (wX (xbM.view.read (Elt F) B) r0) (wX (xcM.view.read (Elt F) C) r0))
    (wS (wsM.view.read (Elt F) fw) e q0) y

/-- The two halves a trip writes, the later one first. -/
def halves (fv : wvM.view.ty.Contents (Elt F)) (fm : wmM.view.ty.Contents (Elt F))
    (A : xaM.view.ty.Contents (Elt F)) (B : xbM.view.ty.Contents (Elt F)) (C : xcM.view.ty.Contents (Elt F))
    (D : sbM.view.ty.Contents (Elt F)) (fw : wsM.view.ty.Contents (Elt F)) (r0 lo hi n : ℕ) (e : Fin 21)
    (fy : yM.view.ty.Contents (Elt F)) (o0 o1 : Fin 2 → ℕ) (h0 : ∀ a, o0 a + S128x256.size a ≤ S256x3072.size a)
    (h1 : ∀ a, o1 a + S128x256.size a ≤ S256x3072.size a) : List (View.Piece (Elt F) S256x3072 .bf16) :=
  [⟨Rect.unit (s := S256x3072) o1 S128x256.size h1, halfV fv fm A B C D fw r0 lo hi (n + 256) e
      (yM.view.readAt (Elt F) (Rect.unit (s := S256x3072) o1 S128x256.size h1).toLoadRect (yM.view.writes (Elt F) fy
        [⟨Rect.unit (s := S256x3072) o0 S128x256.size h0, halfV fv fm A B C D fw r0 lo hi (n + 0) e (yM.view.readAt (Elt F) (Rect.unit (s := S256x3072) o0 S128x256.size h0).toLoadRect fy)⟩]))⟩,
    ⟨Rect.unit (s := S256x3072) o0 S128x256.size h0, halfV fv fm A B C D fw r0 lo hi (n + 0) e (yM.view.readAt (Elt F) (Rect.unit (s := S256x3072) o0 S128x256.size h0).toLoadRect fy)⟩]

/-- What a trip for expert `e` with rows `lo ≤ r < hi` of the window from `r0`, columns from `n`, leaves in the result. -/
def Stepped (fv : wvM.view.ty.Contents (Elt F)) (fm : wmM.view.ty.Contents (Elt F))
    (A : xaM.view.ty.Contents (Elt F)) (B : xbM.view.ty.Contents (Elt F)) (C : xcM.view.ty.Contents (Elt F))
    (D : sbM.view.ty.Contents (Elt F)) (fw : wsM.view.ty.Contents (Elt F)) (r0 lo hi n : ℕ) (e : Fin 21)
    (fy fy' : yM.view.ty.Contents (Elt F)) : Prop :=
  ∃ (o0 o1 : Fin 2 → ℕ) (h0 : ∀ a, o0 a + S128x256.size a ≤ S256x3072.size a) (h1 : ∀ a, o1 a + S128x256.size a ≤ S256x3072.size a),
    o0 = ![r0, n] ∧ o1 = ![r0, n + 256] ∧
    fy' = yM.view.writes (Elt F) fy (halves fv fm A B C D fw r0 lo hi n e fy o0 o1 h0 h1)

set_option maxHeartbeats 1000000 in
theorem trip (hP : Plan S T nw e b) (hS : ∀ k ≤ 21, S k ≤ 256) (hn : nw ≤ 64) (k : Fin (k0_t2_loop (wd nw)).trips) (v2 c0 acc : BitVec 32)
    (fv : Buf (Elt F) (wvM.view.loc (c : Thread nD τ))) (fm : Buf (Elt F) (wmM.view.loc (c : Thread nD τ)))
    (A : Buf (Elt F) (xaM.view.loc (c : Thread nD τ))) (B : Buf (Elt F) (xbM.view.loc (c : Thread nD τ))) (C : Buf (Elt F) (xcM.view.loc (c : Thread nD τ)))
    (D : Buf (Elt F) (sbM.view.loc (c : Thread nD τ))) (fw : Buf (Elt F) (wsM.view.loc (c : Thread nD τ))) (fy : Buf (Elt F) (yM.view.loc (c : Thread nD τ)))
    (h8 : k0_chk8 (wd nw) k (wd (min (b (k.val % nw)) 128))) (h10 : k0_chk10 (wd nw) k (wd (e (k.val % nw)).val))
    (h11 : k0_chk11 (wd nw) k (wd (e (k.val % nw)).val)) :
    iprop(Held c T nw e fv fm A B C D fw k.val ∗ (yM.view.loc (c : Thread nD τ) ↦{fullShare} fy))
      ⊢ wp frame (wpE (defs₀ (F := F)) 𝒱₀ (c : Thread nD τ) none) Set.univ
          (k0_t2_body (F := F) gsM (wh _) xsM (wh _) wsM (wh _) xM (wh _) wvM (wh _) wmM (wh _) yM (wh _) xaM (wh _) xbM (wh _) xcM (wh _) sbM (wh _) tabM (wh _) vbM (wh _) mbM (wh _) cc0_scratch7 cc0_scratch8 (wd nw) (chk2 hn) v2 c0 k acc)
          (fun _ => iprop(Held c T nw e fv fm A B C D fw (k.val + 1) ∗ ∃ fy', (yM.view.loc (c : Thread nD τ) ↦{fullShare} fy') ∗ ⌜Stepped fv fm A B C D fw (min (b (k.val % nw)) 128) (max (S (e (k.val % nw)).val) (b (k.val % nw))) (min (S ((e (k.val % nw)).val + 1)) (b (k.val % nw) + 128)) (k.val / nw * 512) (e (k.val % nw)) fy fy'⌝)) := by
  have hk := k_lt hn k
  have h0 := nw_pos hn k
  have e20 : (wd (e (k.val % nw)).val).toNat = (e (k.val % nw)).val := toNat_wd (by have := (e (k.val % nw)).isLt; omega)
  letI : ClosedOff (k0_off54 (wd nw) k) := ⟨![k.val % 6, 0, 0], off54_eq hn k⟩
  letI : ClosedOff (k0_off57 (wd nw) k) := ⟨![k.val % 6, 0, 0], off57_eq hn k⟩
  letI : ClosedOff (k0_off60 (wd nw) k) := ⟨![k.val % 6, 0, 0], off60_eq hn k⟩
  letI : ClosedOff (k0_off63 (wd nw) k) := ⟨![k.val % 6, 256, 0], off63_eq hn k⟩
  letI : ClosedOff (k0_off66 (wd nw) k) := ⟨![k.val % 6, 512, 0], off66_eq hn k⟩
  letI : ClosedOff (k0_off69 (wd nw) k) := ⟨![k.val % 6, 768, 0], off69_eq hn k⟩
  letI : ClosedOff (k0_off72 (wd nw) k) := ⟨![k.val % 6, 1024, 0], off72_eq hn k⟩
  letI : ClosedOff (k0_off75 (wd nw) k) := ⟨![k.val % 6, 1280, 0], off75_eq hn k⟩
  letI : ClosedOff (k0_off78 (wd nw) k) := ⟨![k.val % 6, 1536, 0], off78_eq hn k⟩
  letI : ClosedOff (k0_off81 (wd nw) k) := ⟨![k.val % 6, 1792, 0], off81_eq hn k⟩
  letI : ClosedOff (k0_off84 (wd nw) k) := ⟨![k.val % 6, 2048, 0], off84_eq hn k⟩
  letI : ClosedOff (k0_off87 (wd nw) k) := ⟨![k.val % 6, 2304, 0], off87_eq hn k⟩
  letI : ClosedOff (k0_off92 (wd nw) k) := ⟨![k.val % 6, 0, 256], off92_eq hn k⟩
  letI : ClosedOff (k0_off95 (wd nw) k) := ⟨![k.val % 6, 256, 256], off95_eq hn k⟩
  letI : ClosedOff (k0_off98 (wd nw) k) := ⟨![k.val % 6, 512, 256], off98_eq hn k⟩
  letI : ClosedOff (k0_off101 (wd nw) k) := ⟨![k.val % 6, 768, 256], off101_eq hn k⟩
  letI : ClosedOff (k0_off104 (wd nw) k) := ⟨![k.val % 6, 1024, 256], off104_eq hn k⟩
  letI : ClosedOff (k0_off107 (wd nw) k) := ⟨![k.val % 6, 1280, 256], off107_eq hn k⟩
  letI : ClosedOff (k0_off110 (wd nw) k) := ⟨![k.val % 6, 1536, 256], off110_eq hn k⟩
  letI : ClosedOff (k0_off113 (wd nw) k) := ⟨![k.val % 6, 1792, 256], off113_eq hn k⟩
  letI : ClosedOff (k0_off116 (wd nw) k) := ⟨![k.val % 6, 2048, 256], off116_eq hn k⟩
  letI : ClosedOff (k0_off119 (wd nw) k) := ⟨![k.val % 6, 2304, 256], off119_eq hn k⟩
  letI : ClosedOff (k0_off61 (wd nw) k) := ⟨![k.val % 6, 0, 0], off61_eq hn k⟩
  letI : ClosedOff (k0_off64 (wd nw) k) := ⟨![k.val % 6, 16, 0], off64_eq hn k⟩
  letI : ClosedOff (k0_off67 (wd nw) k) := ⟨![k.val % 6, 32, 0], off67_eq hn k⟩
  letI : ClosedOff (k0_off70 (wd nw) k) := ⟨![k.val % 6, 48, 0], off70_eq hn k⟩
  letI : ClosedOff (k0_off73 (wd nw) k) := ⟨![k.val % 6, 64, 0], off73_eq hn k⟩
  letI : ClosedOff (k0_off76 (wd nw) k) := ⟨![k.val % 6, 80, 0], off76_eq hn k⟩
  letI : ClosedOff (k0_off79 (wd nw) k) := ⟨![k.val % 6, 96, 0], off79_eq hn k⟩
  letI : ClosedOff (k0_off82 (wd nw) k) := ⟨![k.val % 6, 112, 0], off82_eq hn k⟩
  letI : ClosedOff (k0_off85 (wd nw) k) := ⟨![k.val % 6, 128, 0], off85_eq hn k⟩
  letI : ClosedOff (k0_off88 (wd nw) k) := ⟨![k.val % 6, 144, 0], off88_eq hn k⟩
  letI : ClosedOff (k0_off93 (wd nw) k) := ⟨![k.val % 6, 0, 256], off93_eq hn k⟩
  letI : ClosedOff (k0_off96 (wd nw) k) := ⟨![k.val % 6, 16, 256], off96_eq hn k⟩
  letI : ClosedOff (k0_off99 (wd nw) k) := ⟨![k.val % 6, 32, 256], off99_eq hn k⟩
  letI : ClosedOff (k0_off102 (wd nw) k) := ⟨![k.val % 6, 48, 256], off102_eq hn k⟩
  letI : ClosedOff (k0_off105 (wd nw) k) := ⟨![k.val % 6, 64, 256], off105_eq hn k⟩
  letI : ClosedOff (k0_off108 (wd nw) k) := ⟨![k.val % 6, 80, 256], off108_eq hn k⟩
  letI : ClosedOff (k0_off111 (wd nw) k) := ⟨![k.val % 6, 96, 256], off111_eq hn k⟩
  letI : ClosedOff (k0_off114 (wd nw) k) := ⟨![k.val % 6, 112, 256], off114_eq hn k⟩
  letI : ClosedOff (k0_off117 (wd nw) k) := ⟨![k.val % 6, 128, 256], off117_eq hn k⟩
  letI : ClosedOff (k0_off120 (wd nw) k) := ⟨![k.val % 6, 144, 256], off120_eq hn k⟩
  unfold k0_t2_body
  rw [k0_part33_eq_skeleton]; unfold k0_part33_skel
  rw [wp_bind, wp_bind]
  unfold Held
  iintro ⟨⟨HT, HA, HB, HC, HD, HW, HV, HM, ⟨%W, HO⟩⟩, HY⟩
  iapply (part1_run c hP hS hn k v2 c0 1#32 fv fm W ⟨k.val / nw, Nat.div_lt_of_lt_mul (by rw [Nat.mul_comm]; exact hk)⟩ rfl h8 h10 h11)
  isplitl [HT]; · iexact HT
  isplitl [HV]; · iexact HV
  isplitl [HM]; · iexact HM
  isplitl [HO]; · iexact HO
  iintro ⟨HT, ⟨%gv, HVc, HVs, HVt⟩, HVr, HM, ⟨%W', HO⟩⟩
  ihave HM := (m_own c e fm hk (k0_off57_inb (wd nw) (chk2 hn) k) (k0_off56_inb (wd nw) (chk2 hn) k) (k0_off58_inb (wd nw) k _ h10)
      (off57_eq hn k) (off56_eq hn k) ((off58_eq hn k _).trans (by rw [e20]))) $$ HM
  icases HM with ⟨⟨⟨%gm, HMf⟩, HMt⟩, HMr⟩
  sl_exec
  sl_step
  ihave HV := (v_done (nw := nw) c e fv) $$ [HVc HVs HVt HVr]
  · isplitr [HVr]
    · iapply (Entails.of_eq (vFreeAt_eq c (slotOf k.val) fv (off54_eq hn k) (k0_off54_inb (wd nw) (chk2 hn) k) (vslot_inb (slotOf k.val)) (off53_eq hn k) (k0_off53_inb (wd nw) (chk2 hn) k) (cell_inb (slotOf k.val))))
      isplitl [HVc]; · iexact HVc
      isplitl [HVs]; · iexists _; iexact HVs
      iexact HVt
    · iexact HVr
  ihave HM := (m_done (nw := nw) c e fm) $$ [HMf HMf_dst HMt HMr]
  · isplitr [HMr]
    · iapply (Entails.of_eq (mFreeAt_eq c (slotOf k.val) fm (off57_eq hn k) (k0_off57_inb (wd nw) (chk2 hn) k) (mslot_inb (slotOf k.val)) (off56_eq hn k) (k0_off56_inb (wd nw) (chk2 hn) k) (cell_inb (slotOf k.val))))
      isplitl [HMf]; · iexact HMf
      isplitl [HMf_dst]; · iexists _; iexact HMf_dst
      iexact HMt
    · iexact HMr
  isplitr [HY]
  · isplitl [HT]; · iexact HT
    isplitl [HA]; · iexact HA
    isplitl [HB]; · iexact HB
    isplitl [HC]; · iexact HC
    isplitl [HD]; · iexact HD
    isplitl [HW]; · iexact HW
    isplitl [HV]; · iexact HV
    isplitl [HM]; · iexact HM
    iexists _; iexact HO
  · iexists _
    isplitl [HY]; · iexact HY
    ipureintro
    have er : (wd (min (b (k.val % nw)) 128)).toNat = min (b (k.val % nw)) 128 := toNat_wd (by omega)
    have e_v446 : trip.sl.v446 c hn k fv h10 = wV (wvM.view.read (Elt F) fv) (e (k.val % nw)) 0 ((k.val / nw * 512) + 0) := wV_of fv _ _ _ (off54_eq hn k) ((off55_eq hn k _).trans (by rw [e20])) (off60_eq hn k)
    have e_v518 : trip.sl.v518 c hn k fv h10 = wV (wvM.view.read (Elt F) fv) (e (k.val % nw)) 1 ((k.val / nw * 512) + 0) := wV_of fv _ _ _ (off54_eq hn k) ((off55_eq hn k _).trans (by rw [e20])) (off63_eq hn k)
    have e_v581 : trip.sl.v581 c hn k fv h10 = wV (wvM.view.read (Elt F) fv) (e (k.val % nw)) 2 ((k.val / nw * 512) + 0) := wV_of fv _ _ _ (off54_eq hn k) ((off55_eq hn k _).trans (by rw [e20])) (off66_eq hn k)
    have e_v653 : trip.sl.v653 c hn k fv h10 = wV (wvM.view.read (Elt F) fv) (e (k.val % nw)) 3 ((k.val / nw * 512) + 0) := wV_of fv _ _ _ (off54_eq hn k) ((off55_eq hn k _).trans (by rw [e20])) (off69_eq hn k)
    have e_v716 : trip.sl.v716 c hn k fv h10 = wV (wvM.view.read (Elt F) fv) (e (k.val % nw)) 4 ((k.val / nw * 512) + 0) := wV_of fv _ _ _ (off54_eq hn k) ((off55_eq hn k _).trans (by rw [e20])) (off72_eq hn k)
    have e_v788 : trip.sl.v788 c hn k fv h10 = wV (wvM.view.read (Elt F) fv) (e (k.val % nw)) 5 ((k.val / nw * 512) + 0) := wV_of fv _ _ _ (off54_eq hn k) ((off55_eq hn k _).trans (by rw [e20])) (off75_eq hn k)
    have e_v851 : trip.sl.v851 c hn k fv h10 = wV (wvM.view.read (Elt F) fv) (e (k.val % nw)) 6 ((k.val / nw * 512) + 0) := wV_of fv _ _ _ (off54_eq hn k) ((off55_eq hn k _).trans (by rw [e20])) (off78_eq hn k)
    have e_v923 : trip.sl.v923 c hn k fv h10 = wV (wvM.view.read (Elt F) fv) (e (k.val % nw)) 7 ((k.val / nw * 512) + 0) := wV_of fv _ _ _ (off54_eq hn k) ((off55_eq hn k _).trans (by rw [e20])) (off81_eq hn k)
    have e_v986 : trip.sl.v986 c hn k fv h10 = wV (wvM.view.read (Elt F) fv) (e (k.val % nw)) 8 ((k.val / nw * 512) + 0) := wV_of fv _ _ _ (off54_eq hn k) ((off55_eq hn k _).trans (by rw [e20])) (off84_eq hn k)
    have e_v1058 : trip.sl.v1058 c hn k fv h10 = wV (wvM.view.read (Elt F) fv) (e (k.val % nw)) 9 ((k.val / nw * 512) + 0) := wV_of fv _ _ _ (off54_eq hn k) ((off55_eq hn k _).trans (by rw [e20])) (off87_eq hn k)
    have e_v450 : trip.sl.v450 c hn k fm h10 = wM (wmM.view.read (Elt F) fm) (e (k.val % nw)) 0 ((k.val / nw * 512) + 0) := wM_of fm _ _ _ (off57_eq hn k) ((off58_eq hn k _).trans (by rw [e20])) (off61_eq hn k)
    have e_v522 : trip.sl.v522 c hn k fm h10 = wM (wmM.view.read (Elt F) fm) (e (k.val % nw)) 1 ((k.val / nw * 512) + 0) := wM_of fm _ _ _ (off57_eq hn k) ((off58_eq hn k _).trans (by rw [e20])) (off64_eq hn k)
    have e_v585 : trip.sl.v585 c hn k fm h10 = wM (wmM.view.read (Elt F) fm) (e (k.val % nw)) 2 ((k.val / nw * 512) + 0) := wM_of fm _ _ _ (off57_eq hn k) ((off58_eq hn k _).trans (by rw [e20])) (off67_eq hn k)
    have e_v657 : trip.sl.v657 c hn k fm h10 = wM (wmM.view.read (Elt F) fm) (e (k.val % nw)) 3 ((k.val / nw * 512) + 0) := wM_of fm _ _ _ (off57_eq hn k) ((off58_eq hn k _).trans (by rw [e20])) (off70_eq hn k)
    have e_v720 : trip.sl.v720 c hn k fm h10 = wM (wmM.view.read (Elt F) fm) (e (k.val % nw)) 4 ((k.val / nw * 512) + 0) := wM_of fm _ _ _ (off57_eq hn k) ((off58_eq hn k _).trans (by rw [e20])) (off73_eq hn k)
    have e_v792 : trip.sl.v792 c hn k fm h10 = wM (wmM.view.read (Elt F) fm) (e (k.val % nw)) 5 ((k.val / nw * 512) + 0) := wM_of fm _ _ _ (off57_eq hn k) ((off58_eq hn k _).trans (by rw [e20])) (off76_eq hn k)
    have e_v855 : trip.sl.v855 c hn k fm h10 = wM (wmM.view.read (Elt F) fm) (e (k.val % nw)) 6 ((k.val / nw * 512) + 0) := wM_of fm _ _ _ (off57_eq hn k) ((off58_eq hn k _).trans (by rw [e20])) (off79_eq hn k)
    have e_v927 : trip.sl.v927 c hn k fm h10 = wM (wmM.view.read (Elt F) fm) (e (k.val % nw)) 7 ((k.val / nw * 512) + 0) := wM_of fm _ _ _ (off57_eq hn k) ((off58_eq hn k _).trans (by rw [e20])) (off82_eq hn k)
    have e_v990 : trip.sl.v990 c hn k fm h10 = wM (wmM.view.read (Elt F) fm) (e (k.val % nw)) 8 ((k.val / nw * 512) + 0) := wM_of fm _ _ _ (off57_eq hn k) ((off58_eq hn k _).trans (by rw [e20])) (off85_eq hn k)
    have e_v1062 : trip.sl.v1062 c hn k fm h10 = wM (wmM.view.read (Elt F) fm) (e (k.val % nw)) 9 ((k.val / nw * 512) + 0) := wM_of fm _ _ _ (off57_eq hn k) ((off58_eq hn k _).trans (by rw [e20])) (off88_eq hn k)
    have e_v1140 : trip.sl.v1140 c hn k fv h10 = wV (wvM.view.read (Elt F) fv) (e (k.val % nw)) 0 ((k.val / nw * 512) + 256) := wV_of fv _ _ _ (off54_eq hn k) ((off55_eq hn k _).trans (by rw [e20])) (off92_eq hn k)
    have e_v1212 : trip.sl.v1212 c hn k fv h10 = wV (wvM.view.read (Elt F) fv) (e (k.val % nw)) 1 ((k.val / nw * 512) + 256) := wV_of fv _ _ _ (off54_eq hn k) ((off55_eq hn k _).trans (by rw [e20])) (off95_eq hn k)
    have e_v1275 : trip.sl.v1275 c hn k fv h10 = wV (wvM.view.read (Elt F) fv) (e (k.val % nw)) 2 ((k.val / nw * 512) + 256) := wV_of fv _ _ _ (off54_eq hn k) ((off55_eq hn k _).trans (by rw [e20])) (off98_eq hn k)
    have e_v1347 : trip.sl.v1347 c hn k fv h10 = wV (wvM.view.read (Elt F) fv) (e (k.val % nw)) 3 ((k.val / nw * 512) + 256) := wV_of fv _ _ _ (off54_eq hn k) ((off55_eq hn k _).trans (by rw [e20])) (off101_eq hn k)
    have e_v1410 : trip.sl.v1410 c hn k fv h10 = wV (wvM.view.read (Elt F) fv) (e (k.val % nw)) 4 ((k.val / nw * 512) + 256) := wV_of fv _ _ _ (off54_eq hn k) ((off55_eq hn k _).trans (by rw [e20])) (off104_eq hn k)
    have e_v1482 : trip.sl.v1482 c hn k fv h10 = wV (wvM.view.read (Elt F) fv) (e (k.val % nw)) 5 ((k.val / nw * 512) + 256) := wV_of fv _ _ _ (off54_eq hn k) ((off55_eq hn k _).trans (by rw [e20])) (off107_eq hn k)
    have e_v1545 : trip.sl.v1545 c hn k fv h10 = wV (wvM.view.read (Elt F) fv) (e (k.val % nw)) 6 ((k.val / nw * 512) + 256) := wV_of fv _ _ _ (off54_eq hn k) ((off55_eq hn k _).trans (by rw [e20])) (off110_eq hn k)
    have e_v1617 : trip.sl.v1617 c hn k fv h10 = wV (wvM.view.read (Elt F) fv) (e (k.val % nw)) 7 ((k.val / nw * 512) + 256) := wV_of fv _ _ _ (off54_eq hn k) ((off55_eq hn k _).trans (by rw [e20])) (off113_eq hn k)
    have e_v1680 : trip.sl.v1680 c hn k fv h10 = wV (wvM.view.read (Elt F) fv) (e (k.val % nw)) 8 ((k.val / nw * 512) + 256) := wV_of fv _ _ _ (off54_eq hn k) ((off55_eq hn k _).trans (by rw [e20])) (off116_eq hn k)
    have e_v1752 : trip.sl.v1752 c hn k fv h10 = wV (wvM.view.read (Elt F) fv) (e (k.val % nw)) 9 ((k.val / nw * 512) + 256) := wV_of fv _ _ _ (off54_eq hn k) ((off55_eq hn k _).trans (by rw [e20])) (off119_eq hn k)
    have e_v1144 : trip.sl.v1144 c hn k fm h10 = wM (wmM.view.read (Elt F) fm) (e (k.val % nw)) 0 ((k.val / nw * 512) + 256) := wM_of fm _ _ _ (off57_eq hn k) ((off58_eq hn k _).trans (by rw [e20])) (off93_eq hn k)
    have e_v1216 : trip.sl.v1216 c hn k fm h10 = wM (wmM.view.read (Elt F) fm) (e (k.val % nw)) 1 ((k.val / nw * 512) + 256) := wM_of fm _ _ _ (off57_eq hn k) ((off58_eq hn k _).trans (by rw [e20])) (off96_eq hn k)
    have e_v1279 : trip.sl.v1279 c hn k fm h10 = wM (wmM.view.read (Elt F) fm) (e (k.val % nw)) 2 ((k.val / nw * 512) + 256) := wM_of fm _ _ _ (off57_eq hn k) ((off58_eq hn k _).trans (by rw [e20])) (off99_eq hn k)
    have e_v1351 : trip.sl.v1351 c hn k fm h10 = wM (wmM.view.read (Elt F) fm) (e (k.val % nw)) 3 ((k.val / nw * 512) + 256) := wM_of fm _ _ _ (off57_eq hn k) ((off58_eq hn k _).trans (by rw [e20])) (off102_eq hn k)
    have e_v1414 : trip.sl.v1414 c hn k fm h10 = wM (wmM.view.read (Elt F) fm) (e (k.val % nw)) 4 ((k.val / nw * 512) + 256) := wM_of fm _ _ _ (off57_eq hn k) ((off58_eq hn k _).trans (by rw [e20])) (off105_eq hn k)
    have e_v1486 : trip.sl.v1486 c hn k fm h10 = wM (wmM.view.read (Elt F) fm) (e (k.val % nw)) 5 ((k.val / nw * 512) + 256) := wM_of fm _ _ _ (off57_eq hn k) ((off58_eq hn k _).trans (by rw [e20])) (off108_eq hn k)
    have e_v1549 : trip.sl.v1549 c hn k fm h10 = wM (wmM.view.read (Elt F) fm) (e (k.val % nw)) 6 ((k.val / nw * 512) + 256) := wM_of fm _ _ _ (off57_eq hn k) ((off58_eq hn k _).trans (by rw [e20])) (off111_eq hn k)
    have e_v1621 : trip.sl.v1621 c hn k fm h10 = wM (wmM.view.read (Elt F) fm) (e (k.val % nw)) 7 ((k.val / nw * 512) + 256) := wM_of fm _ _ _ (off57_eq hn k) ((off58_eq hn k _).trans (by rw [e20])) (off114_eq hn k)
    have e_v1684 : trip.sl.v1684 c hn k fm h10 = wM (wmM.view.read (Elt F) fm) (e (k.val % nw)) 8 ((k.val / nw * 512) + 256) := wM_of fm _ _ _ (off57_eq hn k) ((off58_eq hn k _).trans (by rw [e20])) (off117_eq hn k)
    have e_v1756 : trip.sl.v1756 c hn k fm h10 = wM (wmM.view.read (Elt F) fm) (e (k.val % nw)) 9 ((k.val / nw * 512) + 256) := wM_of fm _ _ _ (off57_eq hn k) ((off58_eq hn k _).trans (by rw [e20])) (off120_eq hn k)
    have e_x62 : ∀ (v : View sig .tc .vmem S256x2560 .fp8e4m3) (X : v.ty.Contents (Elt F)) h, v.readAt (Elt F) (Rect.unit (s := S256x2560) (k0_off62 (wd (min (b (k.val % nw)) 128))) S128x256.size h).toLoadRect X = wX (v.read (Elt F) X) (min (b (k.val % nw)) 128) 0 := fun v X h => wX_of v X h ((off62_eq _).trans (by rw [er]))
    have e_x65 : ∀ (v : View sig .tc .vmem S256x2560 .fp8e4m3) (X : v.ty.Contents (Elt F)) h, v.readAt (Elt F) (Rect.unit (s := S256x2560) (k0_off65 (wd (min (b (k.val % nw)) 128))) S128x256.size h).toLoadRect X = wX (v.read (Elt F) X) (min (b (k.val % nw)) 128) 1 := fun v X h => wX_of v X h ((off65_eq _).trans (by rw [er]))
    have e_x68 : ∀ (v : View sig .tc .vmem S256x2560 .fp8e4m3) (X : v.ty.Contents (Elt F)) h, v.readAt (Elt F) (Rect.unit (s := S256x2560) (k0_off68 (wd (min (b (k.val % nw)) 128))) S128x256.size h).toLoadRect X = wX (v.read (Elt F) X) (min (b (k.val % nw)) 128) 2 := fun v X h => wX_of v X h ((off68_eq _).trans (by rw [er]))
    have e_x71 : ∀ (v : View sig .tc .vmem S256x2560 .fp8e4m3) (X : v.ty.Contents (Elt F)) h, v.readAt (Elt F) (Rect.unit (s := S256x2560) (k0_off71 (wd (min (b (k.val % nw)) 128))) S128x256.size h).toLoadRect X = wX (v.read (Elt F) X) (min (b (k.val % nw)) 128) 3 := fun v X h => wX_of v X h ((off71_eq _).trans (by rw [er]))
    have e_x74 : ∀ (v : View sig .tc .vmem S256x2560 .fp8e4m3) (X : v.ty.Contents (Elt F)) h, v.readAt (Elt F) (Rect.unit (s := S256x2560) (k0_off74 (wd (min (b (k.val % nw)) 128))) S128x256.size h).toLoadRect X = wX (v.read (Elt F) X) (min (b (k.val % nw)) 128) 4 := fun v X h => wX_of v X h ((off74_eq _).trans (by rw [er]))
    have e_x77 : ∀ (v : View sig .tc .vmem S256x2560 .fp8e4m3) (X : v.ty.Contents (Elt F)) h, v.readAt (Elt F) (Rect.unit (s := S256x2560) (k0_off77 (wd (min (b (k.val % nw)) 128))) S128x256.size h).toLoadRect X = wX (v.read (Elt F) X) (min (b (k.val % nw)) 128) 5 := fun v X h => wX_of v X h ((off77_eq _).trans (by rw [er]))
    have e_x80 : ∀ (v : View sig .tc .vmem S256x2560 .fp8e4m3) (X : v.ty.Contents (Elt F)) h, v.readAt (Elt F) (Rect.unit (s := S256x2560) (k0_off80 (wd (min (b (k.val % nw)) 128))) S128x256.size h).toLoadRect X = wX (v.read (Elt F) X) (min (b (k.val % nw)) 128) 6 := fun v X h => wX_of v X h ((off80_eq _).trans (by rw [er]))
    have e_x83 : ∀ (v : View sig .tc .vmem S256x2560 .fp8e4m3) (X : v.ty.Contents (Elt F)) h, v.readAt (Elt F) (Rect.unit (s := S256x2560) (k0_off83 (wd (min (b (k.val % nw)) 128))) S128x256.size h).toLoadRect X = wX (v.read (Elt F) X) (min (b (k.val % nw)) 128) 7 := fun v X h => wX_of v X h ((off83_eq _).trans (by rw [er]))
    have e_x86 : ∀ (v : View sig .tc .vmem S256x2560 .fp8e4m3) (X : v.ty.Contents (Elt F)) h, v.readAt (Elt F) (Rect.unit (s := S256x2560) (k0_off86 (wd (min (b (k.val % nw)) 128))) S128x256.size h).toLoadRect X = wX (v.read (Elt F) X) (min (b (k.val % nw)) 128) 8 := fun v X h => wX_of v X h ((off86_eq _).trans (by rw [er]))
    have e_x89 : ∀ (v : View sig .tc .vmem S256x2560 .fp8e4m3) (X : v.ty.Contents (Elt F)) h, v.readAt (Elt F) (Rect.unit (s := S256x2560) (k0_off89 (wd (min (b (k.val % nw)) 128))) S128x256.size h).toLoadRect X = wX (v.read (Elt F) X) (min (b (k.val % nw)) 128) 9 := fun v X h => wX_of v X h ((off89_eq _).trans (by rw [er]))
    have e_x94 : ∀ (v : View sig .tc .vmem S256x2560 .fp8e4m3) (X : v.ty.Contents (Elt F)) h, v.readAt (Elt F) (Rect.unit (s := S256x2560) (k0_off94 (wd (min (b (k.val % nw)) 128))) S128x256.size h).toLoadRect X = wX (v.read (Elt F) X) (min (b (k.val % nw)) 128) 0 := fun v X h => wX_of v X h ((off94_eq _).trans (by rw [er]))
    have e_x97 : ∀ (v : View sig .tc .vmem S256x2560 .fp8e4m3) (X : v.ty.Contents (Elt F)) h, v.readAt (Elt F) (Rect.unit (s := S256x2560) (k0_off97 (wd (min (b (k.val % nw)) 128))) S128x256.size h).toLoadRect X = wX (v.read (Elt F) X) (min (b (k.val % nw)) 128) 1 := fun v X h => wX_of v X h ((off97_eq _).trans (by rw [er]))
    have e_x100 : ∀ (v : View sig .tc .vmem S256x2560 .fp8e4m3) (X : v.ty.Contents (Elt F)) h, v.readAt (Elt F) (Rect.unit (s := S256x2560) (k0_off100 (wd (min (b (k.val % nw)) 128))) S128x256.size h).toLoadRect X = wX (v.read (Elt F) X) (min (b (k.val % nw)) 128) 2 := fun v X h => wX_of v X h ((off100_eq _).trans (by rw [er]))
    have e_x103 : ∀ (v : View sig .tc .vmem S256x2560 .fp8e4m3) (X : v.ty.Contents (Elt F)) h, v.readAt (Elt F) (Rect.unit (s := S256x2560) (k0_off103 (wd (min (b (k.val % nw)) 128))) S128x256.size h).toLoadRect X = wX (v.read (Elt F) X) (min (b (k.val % nw)) 128) 3 := fun v X h => wX_of v X h ((off103_eq _).trans (by rw [er]))
    have e_x106 : ∀ (v : View sig .tc .vmem S256x2560 .fp8e4m3) (X : v.ty.Contents (Elt F)) h, v.readAt (Elt F) (Rect.unit (s := S256x2560) (k0_off106 (wd (min (b (k.val % nw)) 128))) S128x256.size h).toLoadRect X = wX (v.read (Elt F) X) (min (b (k.val % nw)) 128) 4 := fun v X h => wX_of v X h ((off106_eq _).trans (by rw [er]))
    have e_x109 : ∀ (v : View sig .tc .vmem S256x2560 .fp8e4m3) (X : v.ty.Contents (Elt F)) h, v.readAt (Elt F) (Rect.unit (s := S256x2560) (k0_off109 (wd (min (b (k.val % nw)) 128))) S128x256.size h).toLoadRect X = wX (v.read (Elt F) X) (min (b (k.val % nw)) 128) 5 := fun v X h => wX_of v X h ((off109_eq _).trans (by rw [er]))
    have e_x112 : ∀ (v : View sig .tc .vmem S256x2560 .fp8e4m3) (X : v.ty.Contents (Elt F)) h, v.readAt (Elt F) (Rect.unit (s := S256x2560) (k0_off112 (wd (min (b (k.val % nw)) 128))) S128x256.size h).toLoadRect X = wX (v.read (Elt F) X) (min (b (k.val % nw)) 128) 6 := fun v X h => wX_of v X h ((off112_eq _).trans (by rw [er]))
    have e_x115 : ∀ (v : View sig .tc .vmem S256x2560 .fp8e4m3) (X : v.ty.Contents (Elt F)) h, v.readAt (Elt F) (Rect.unit (s := S256x2560) (k0_off115 (wd (min (b (k.val % nw)) 128))) S128x256.size h).toLoadRect X = wX (v.read (Elt F) X) (min (b (k.val % nw)) 128) 7 := fun v X h => wX_of v X h ((off115_eq _).trans (by rw [er]))
    have e_x118 : ∀ (v : View sig .tc .vmem S256x2560 .fp8e4m3) (X : v.ty.Contents (Elt F)) h, v.readAt (Elt F) (Rect.unit (s := S256x2560) (k0_off118 (wd (min (b (k.val % nw)) 128))) S128x256.size h).toLoadRect X = wX (v.read (Elt F) X) (min (b (k.val % nw)) 128) 8 := fun v X h => wX_of v X h ((off118_eq _).trans (by rw [er]))
    have e_x121 : ∀ (v : View sig .tc .vmem S256x2560 .fp8e4m3) (X : v.ty.Contents (Elt F)) h, v.readAt (Elt F) (Rect.unit (s := S256x2560) (k0_off121 (wd (min (b (k.val % nw)) 128))) S128x256.size h).toLoadRect X = wX (v.read (Elt F) X) (min (b (k.val % nw)) 128) 9 := fun v X h => wX_of v X h ((off121_eq _).trans (by rw [er]))
    have e_w : ∀ (q : ℕ) (hq : q ≤ 256) h, wsM.view.readAt (Elt F) (Rect.unit (s := S21x3072) (k0_off90 (wd nw) k (wd (e (k.val % nw)).val) (wd q)) S1x256.size h).toLoadRect fw = wS (wsM.view.read (Elt F) fw) (e (k.val % nw)) ((k.val / nw * 512) + q) := fun q hq h => wS_of fw h ((off90_eq hn k _ q hq).trans (by rw [e20]))
    have e_d : ∀ h, sbM.view.readAt (Elt F) (Rect.unit (s := S256x128) (k0_off59 (wd (min (b (k.val % nw)) 128))) S128x128.size h).toLoadRect D = wD (sbM.view.read (Elt F) D) (min (b (k.val % nw)) 128) := fun h => wD_of D h ((off59_eq _).trans (by rw [er]))
    refine ⟨_, _, k0_off91_inb (wd nw) k _ h8 0, k0_off91_inb (wd nw) k _ h8 1, (off91_eq hn k _ 0 (by decide)).trans (by rw [er]; rfl), (off91_eq hn k _ 256 (by decide)).trans (by rw [er]), ?_⟩
    have e_w0 : ∀ h, wsM.view.readAt (Elt F) (Rect.unit (s := S21x3072) (k0_off90 (wd nw) k (wd (e (k.val % nw)).val) 0#32) S1x256.size h).toLoadRect fw = wS (wsM.view.read (Elt F) fw) (e (k.val % nw)) ((k.val / nw * 512) + 0) := e_w 0 (by decide)
    have e_w1 : ∀ h, wsM.view.readAt (Elt F) (Rect.unit (s := S21x3072) (k0_off90 (wd nw) k (wd (e (k.val % nw)).val) 256#32) S1x256.size h).toLoadRect fw = wS (wsM.view.read (Elt F) fw) (e (k.val % nw)) ((k.val / nw * 512) + 256) := e_w 256 (by decide)
    delta trip.sl.HY_1 trip.sl.cst_577 trip.sl.r trip.sl.r_1 trip.sl.r_10 trip.sl.r_100 trip.sl.r_101 trip.sl.r_102 trip.sl.r_103 trip.sl.r_11 trip.sl.r_12 trip.sl.r_13 trip.sl.r_14 trip.sl.r_15 trip.sl.r_16 trip.sl.r_17 trip.sl.r_18 trip.sl.r_19 trip.sl.r_2 trip.sl.r_20 trip.sl.r_21 trip.sl.r_22 trip.sl.r_23 trip.sl.r_24 trip.sl.r_25 trip.sl.r_26 trip.sl.r_27 trip.sl.r_28 trip.sl.r_29 trip.sl.r_3 trip.sl.r_30 trip.sl.r_31 trip.sl.r_32 trip.sl.r_33 trip.sl.r_34 trip.sl.r_35 trip.sl.r_36 trip.sl.r_37 trip.sl.r_38 trip.sl.r_39 trip.sl.r_4 trip.sl.r_40 trip.sl.r_41 trip.sl.r_42 trip.sl.r_43 trip.sl.r_44 trip.sl.r_45 trip.sl.r_46 trip.sl.r_47 trip.sl.r_48 trip.sl.r_49 trip.sl.r_5 trip.sl.r_50 trip.sl.r_51 trip.sl.r_52 trip.sl.r_53 trip.sl.r_54 trip.sl.r_55 trip.sl.r_56 trip.sl.r_57 trip.sl.r_58 trip.sl.r_59 trip.sl.r_6 trip.sl.r_60 trip.sl.r_61 trip.sl.r_62 trip.sl.r_63 trip.sl.r_64 trip.sl.r_65 trip.sl.r_66 trip.sl.r_67 trip.sl.r_68 trip.sl.r_69 trip.sl.r_7 trip.sl.r_70 trip.sl.r_71 trip.sl.r_72 trip.sl.r_73 trip.sl.r_74 trip.sl.r_75 trip.sl.r_76 trip.sl.r_77 trip.sl.r_78 trip.sl.r_79 trip.sl.r_8 trip.sl.r_80 trip.sl.r_81 trip.sl.r_82 trip.sl.r_83 trip.sl.r_84 trip.sl.r_85 trip.sl.r_86 trip.sl.r_87 trip.sl.r_88 trip.sl.r_89 trip.sl.r_9 trip.sl.r_90 trip.sl.r_91 trip.sl.r_92 trip.sl.r_93 trip.sl.r_94 trip.sl.r_95 trip.sl.r_96 trip.sl.r_97 trip.sl.r_98 trip.sl.r_99 trip.sl.v1487 trip.sl.v1489 trip.sl.v1491 trip.sl.v1493 trip.sl.v1495 trip.sl.v1497 trip.sl.v1499 trip.sl.v1500 trip.sl.v1501 trip.sl.v1502 trip.sl.v1503 trip.sl.v1509 trip.sl.v1511 trip.sl.v1513 trip.sl.v1514 trip.sl.v1515 trip.sl.v1516 trip.sl.v1517 trip.sl.v1523 trip.sl.v1525 trip.sl.v1527 trip.sl.v1528 trip.sl.v1529 trip.sl.v1530 trip.sl.v1702 trip.sl.v521 trip.sl.v523 trip.sl.v524 trip.sl.v525 trip.sl.v526 trip.sl.v527 trip.sl.v528 trip.sl.v529 trip.sl.v530 trip.sl.v531 trip.sl.v533 trip.sl.v535 trip.sl.v536 trip.sl.v537 trip.sl.v538 trip.sl.v539 trip.sl.v540 trip.sl.v541 trip.sl.v543 trip.sl.v544 trip.sl.v545 trip.sl.v546 trip.sl.v547 trip.sl.v548 trip.sl.v549 trip.sl.v550 trip.sl.v551 trip.sl.v552 trip.sl.v553 trip.sl.v559 trip.sl.v561 trip.sl.v563 trip.sl.v564
    simp only [e_v446, e_v518, e_v581, e_v653, e_v716, e_v788, e_v851, e_v923, e_v986, e_v1058, e_v450, e_v522, e_v585, e_v657, e_v720, e_v792, e_v855, e_v927, e_v990, e_v1062, e_v1140, e_v1212, e_v1275, e_v1347, e_v1410, e_v1482, e_v1545, e_v1617, e_v1680, e_v1752, e_v1144, e_v1216, e_v1279, e_v1351, e_v1414, e_v1486, e_v1549, e_v1621, e_v1684, e_v1756, e_x62, e_x65, e_x68, e_x71, e_x74, e_x77, e_x80, e_x83, e_x86, e_x89, e_x94, e_x97, e_x100, e_x103, e_x106, e_x109, e_x112, e_x115, e_x118, e_x121, e_d, e_w0, e_w1]
    rfl

end Cert.KernelIdeal.Hand

end
-- ==== Proof.Ideal.Ops.lean ====
/-
  The operands of the main loop: the picks out of the rows, and the rows' scales.
-/
module

public import proofs.«01_k».proof.Proof.Ideal.Block
public import Idealize.ShloMosaic.Lib.Pointwise

@[expose] public section

noncomputable section

namespace Cert.KernelIdeal.Hand

open Cert.KernelIdeal Cert.KernelIdeal.Gen Cert.Hand
open Idealize.ShloMosaic Idealize.ShloMosaic.TcCoe Idealize.ShloMosaic.Tactic

variable {F : FTy → Type} [FloatOps F] [∀ e, Nonempty (Elt F e)]

/-- The rows' numbers, read down a 256 by 128 block. -/
abbrev rows : IVec S256x128 32 := iota .tc S256x128 32 [0] iota_S256x128_d0_w32

/-- The block of an operand that entry `y` lies in: a product of the rows' block with a matrix of zeros and ones. -/
def pickG (M : FVec F S256x128 .fp8e4m3) (fx : xM.view.ty.Contents (Elt F)) (y : S256x2560.Idx) : Elt F .fp8e4m3 :=
  k0_pay355 M (fun z => xM.view.read (Elt F) fx (ix2 (z 0) (⟨256 * ((y 1).val / 128) + (z 1).val, by
      have h1 : (y 1).val < 2560 := (y 1).isLt
      have h2 : (z 1).val < 256 := (z 1).isLt
      show _ < 5120
      omega⟩ : Fin 5120)))
    (ix2 (y 0) (⟨(y 1).val % 128, Nat.mod_lt _ (by decide)⟩ : Fin 128))

/-- What the four operands hold: three picks out of the rows, and every row's scale along the row. -/
def Ops (fx : xM.view.ty.Contents (Elt F)) (fxs : xsM.view.ty.Contents (Elt F)) (A : xaM.view.ty.Contents (Elt F)) (B : xbM.view.ty.Contents (Elt F)) (C : xcM.view.ty.Contents (Elt F)) (D : sbM.view.ty.Contents (Elt F)) : Prop :=
  (∀ y, xaM.view.read (Elt F) A y = pickG (k0_pay349 rows k0_pay346) fx y) ∧ (∀ y, xbM.view.read (Elt F) B y = pickG (k0_pay350 rows k0_pay347) fx y)
    ∧ (∀ y, xcM.view.read (Elt F) C y = pickG (k0_pay351 rows k0_pay345 k0_pay348) fx y)
    ∧ ∀ y : S256x128.Idx, sbM.view.read (Elt F) D y = xsM.view.read (Elt F) fxs (ix2 0 (y 0))

theorem pc_inb (n : Fin 20) : ∀ a, (![0, 128 * n.val] : Fin 2 → ℕ) a + S256x128.size a ≤ S256x2560.size a := by
  intro a; have := n.isLt; fin_cases a; · exact Nat.le_refl 256
  show 128 * n.val + 128 ≤ 2560; omega

/-- The piece of an operand that block `n` of the rows gives. -/
def pc (M : FVec F S256x128 .fp8e4m3) (fx : xM.view.ty.Contents (Elt F)) (n : Fin 20) : View.Piece (Elt F) S256x2560 .fp8e4m3 :=
  ⟨Rect.unit (s := S256x2560) ![0, 128 * n.val] S256x128.size (pc_inb n),
    k0_pay355 M (xM.view.readAt (Elt F) (Rect.unit (s := S256x5120) ![0, 256 * n.val] S256x256.size (by
      intro a; have := n.isLt; fin_cases a; · exact Nat.le_refl 256
      · show 256 * n.val + 256 ≤ 5120; omega)).toLoadRect fx)⟩

theorem pc_at (M : FVec F S256x128 .fp8e4m3) (fx : xM.view.ty.Contents (Elt F)) (n : Fin 20) (x : (pc M fx n).1.shape.Idx) :
    (pc M fx n).2 x = pickG M fx ((pc M fx n).1.emb x) := by
  have h1 : (x 1).val < 128 := (x 1).isLt
  have e1 : (((pc M fx n).1.emb x) 1).val = 128 * n.val + 1 * (x 1).val := rfl
  have e0 : (((pc M fx n).1.emb x) 0).val = 0 + 1 * (x 0).val := rfl
  unfold pickG
  show k0_pay355 M _ x = _
  refine congr (congrArg (k0_pay355 M) (funext fun z => ?_)) (funext fun a => ?_)
  · show xM.view.read (Elt F) fx _ = xM.view.read (Elt F) fx _
    refine congrArg (xM.view.read (Elt F) fx) (funext fun a => Fin.ext ?_)
    fin_cases a
    · show 0 + 1 * (z 0).val = (z 0).val
      omega
    · show 256 * n.val + 1 * (z 1).val = 256 * ((((pc M fx n).1.emb x) 1).val / 128) + (z 1).val
      rw [e1]; omega
  · refine Fin.ext ?_
    fin_cases a
    · show (x 0).val = (((pc M fx n).1.emb x) 0).val
      rw [e0]; omega
    · show (x 1).val = (((pc M fx n).1.emb x) 1).val % 128
      rw [e1]; omega

/-- The pieces of an operand, the last one first. -/
def pieces (M : FVec F S256x128 .fp8e4m3) (fx : xM.view.ty.Contents (Elt F)) : List (View.Piece (Elt F) S256x2560 .fp8e4m3) :=
  [pc M fx 19, pc M fx 18, pc M fx 17, pc M fx 16, pc M fx 15, pc M fx 14, pc M fx 13, pc M fx 12, pc M fx 11, pc M fx 10,
    pc M fx 9, pc M fx 8, pc M fx 7, pc M fx 6, pc M fx 5, pc M fx 4, pc M fx 3, pc M fx 2, pc M fx 1, pc M fx 0]

theorem pieces_eq (M : FVec F S256x128 .fp8e4m3) (fx : xM.view.ty.Contents (Elt F)) : pieces M fx = (List.finRange 20).reverse.map (pc M fx) := rfl

theorem picked (v : View sig .tc .vmem S256x2560 .fp8e4m3) (M : FVec F S256x128 .fp8e4m3) (fx : xM.view.ty.Contents (Elt F)) (f : v.ty.Contents (Elt F)) (y : S256x2560.Idx) :
    v.read (Elt F) (v.writes (Elt F) f (pieces M fx)) y = pickG M fx y := by
  rw [pieces_eq]
  refine View.read_writes_apply_of_pieces v f (pickG M fx) _ (fun p hp => ?_) y ?_
  · obtain ⟨n, -, rfl⟩ := List.mem_map.1 hp
    exact pc_at M fx n
  · have h1 : (y 1).val < 2560 := (y 1).isLt
    refine ⟨pc M fx ⟨(y 1).val / 128, by omega⟩, List.mem_map.2 ⟨_, by simp, rfl⟩, ?_⟩
    refine (Rect.mem_set_unit (s := S256x2560) (off := ![0, 128 * ((y 1).val / 128)]) (size := S256x128.size) (inb := pc_inb ⟨(y 1).val / 128, by omega⟩)).2 fun a => ?_
    fin_cases a
    · exact ⟨Nat.zero_le _, (y 0).isLt⟩
    · show 128 * ((y 1).val / 128) ≤ (y 1).val ∧ (y 1).val < 128 * ((y 1).val / 128) + 128
      omega

theorem spread (v : View sig .tc .vmem S256x128 .f32) (fxs : xsM.view.ty.Contents (Elt F)) (f : v.ty.Contents (Elt F)) (y : S256x128.Idx) :
    v.read (Elt F) (v.writes (Elt F) f [⟨Rect.unit (s := S256x128) ![128, 0] S128x128.size inb_S256x128_S128x128_128_0, k0_pay413 (xsM.view.readAt (Elt F) (Rect.unit (s := S1x256) ![0, 128] S1x128.size inb_S1x256_S1x128_0_128).toLoadRect fxs)⟩,
      ⟨Rect.unit (s := S256x128) ![0, 0] S128x128.size inb_S256x128_S128x128_0_0, k0_pay412 (xsM.view.readAt (Elt F) (Rect.unit (s := S1x256) ![0, 0] S1x128.size inb_S1x256_S1x128_0_0).toLoadRect fxs)⟩]) y
      = xsM.view.read (Elt F) fxs (ix2 0 (y 0)) := by
  have p12 : ∀ (u : Vec F S1x128 .f32) (r q : Fin 128), k0_pay412 u (ix2 r q) = u (ix2 0 r) := fun u r q => by pointwise [k0_pay412]
  have p13 : ∀ (u : Vec F S1x128 .f32) (r q : Fin 128), k0_pay413 u (ix2 r q) = u (ix2 0 r) := fun u r q => by pointwise [k0_pay413]
  have q13 : ∀ x : S128x128.Idx, k0_pay413 (xsM.view.readAt (Elt F) (Rect.unit (s := S1x256) ![0, 128] S1x128.size inb_S1x256_S1x128_0_128).toLoadRect fxs) x = xsM.view.read (Elt F) fxs (ix2 0 ((Rect.unit (s := S256x128) ![128, 0] S128x128.size inb_S256x128_S128x128_128_0).emb x 0)) := fun x => by
    rw [show x = ix2 (n0 := 128) (n1 := 128) (x 0) (x 1) from (ix2_eta (n0 := 128) (n1 := 128) x).symm]
    refine (p13 _ (x 0) (x 1)).trans ?_
    show xsM.view.read (Elt F) fxs _ = xsM.view.read (Elt F) fxs _
    refine congrArg (xsM.view.read (Elt F) fxs) (funext fun a => Fin.ext ?_)
    fin_cases a <;> rfl
  have q12 : ∀ x : S128x128.Idx, k0_pay412 (xsM.view.readAt (Elt F) (Rect.unit (s := S1x256) ![0, 0] S1x128.size inb_S1x256_S1x128_0_0).toLoadRect fxs) x = xsM.view.read (Elt F) fxs (ix2 0 ((Rect.unit (s := S256x128) ![0, 0] S128x128.size inb_S256x128_S128x128_0_0).emb x 0)) := fun x => by
    rw [show x = ix2 (n0 := 128) (n1 := 128) (x 0) (x 1) from (ix2_eta (n0 := 128) (n1 := 128) x).symm]
    refine (p12 _ (x 0) (x 1)).trans ?_
    show xsM.view.read (Elt F) fxs _ = xsM.view.read (Elt F) fxs _
    refine congrArg (xsM.view.read (Elt F) fxs) (funext fun a => Fin.ext ?_)
    fin_cases a <;> rfl
  refine View.read_writes_apply_of_pieces v f (fun y => xsM.view.read (Elt F) fxs (ix2 0 (y 0))) _ (List.forall_mem_cons.2 ⟨q13, List.forall_mem_cons.2 ⟨q12, fun _ h => absurd h List.not_mem_nil⟩⟩) y ?_
  · have h0 : (y 0).val < 256 := (y 0).isLt
    have h1 : (y 1).val < 128 := (y 1).isLt
    by_cases h : (y 0).val < 128
    · refine ⟨_, List.mem_cons_of_mem _ List.mem_cons_self, (Rect.mem_set_unit (s := S256x128) (off := ![0, 0]) (size := S128x128.size) (inb := inb_S256x128_S128x128_0_0)).2 fun a => ?_⟩
      fin_cases a
      · exact ⟨Nat.zero_le _, h⟩
      · exact ⟨Nat.zero_le _, (y 1).isLt⟩
    · refine ⟨_, List.mem_cons_self, (Rect.mem_set_unit (s := S256x128) (off := ![128, 0]) (size := S128x128.size) (inb := inb_S256x128_S128x128_128_0)).2 fun a => ?_⟩
      fin_cases a
      · exact ⟨Nat.le_of_not_lt h, h0⟩
      · exact ⟨Nat.zero_le _, (y 1).isLt⟩

end Cert.KernelIdeal.Hand

end
-- ==== Proof.Ideal.Start.lean ====
/-
  The kernel's first part: the work list, and the copies of the first five steps.
-/
module

public import proofs.«01_k».proof.Proof.Ideal.Ring

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD)

variable {S : ℕ → ℕ}

theorem HasWord.uniq {T : Tab (F := F)} {r i : ℕ} (hr : r < 4) (hi : i < 64) {w w' : BitVec 32} (h : HasWord T r i w) (h' : HasWord T r i w') : w = w' :=
  let y : S4x64.Idx := fun a => ⟨![r, i] a, by fin_cases a; exacts [hr, hi]⟩
  (h y rfl rfl).symm.trans (h' y rfl rfl)

theorem wd_inj {a b : ℕ} (ha : a < 4294967296) (hb : b < 4294967296) (h : wd a = wd b) : a = b := by
  rw [← toNat_wd ha, ← toNat_wd hb, h]

/-- Every row below the total lies among the rows that some window of the list treats. -/
def Covers (S : ℕ → ℕ) (nw : ℕ) (e : ℕ → Fin 21) (b : ℕ → ℕ) : Prop :=
  ∀ r < S 21, ∃ i < nw, max (S (e i).val) (b i) ≤ r ∧ r < min (S ((e i).val + 1)) (b i + 128)

theorem Listed.plan {T : Tab (F := F)} {nw : ℕ} (hn : nw ≤ 64) (hS : ∀ k ≤ 21, S k ≤ 256) (h : Listed S T nw fun r => r < S 21) :
    ∃ e b, Plan S T nw e b ∧ Covers S nw e b := by
  have h1 : ∀ i, ∃ e : Fin 21, ∃ b, i < nw → Item S T i e.val b := fun i => by
    by_cases hi : i < nw
    · obtain ⟨e, b, hI⟩ := h.items i hi
      exact ⟨⟨e, hI.he⟩, b, fun _ => hI⟩
    · exact ⟨0, 0, fun h => absurd h hi⟩
  choose e b hI using h1
  refine ⟨e, b, hI, fun r hr => ?_⟩
  obtain ⟨i, hi, e', b', hI', g1, g2, g3, g4⟩ := h.cover r hr
  have hJ := hI i hi
  have he : (e i).val = e' := wd_inj (by have := (e i).isLt; omega) (by have := hI'.he; omega) (hJ.w0.uniq (by omega) (by omega) hI'.w0)
  have l1 : S ((e i).val + 1) ≤ 256 := hS _ (e i).isLt
  have l2 := hS _ (Nat.le_of_lt (e i).isLt)
  have l3 := hJ.hb
  have l4 := hI'.hb
  have e2 := hJ.w2.uniq (by omega) (by omega) hI'.w2
  have e3 := hJ.w3.uniq (by omega) (by omega) hI'.w3
  rw [← he] at e2 e3 g1 g3 l4
  have e2 := wd_inj (by omega) (by omega) e2
  have e3 := wd_inj (by omega) (by omega) e3
  exact ⟨i, hi, by rw [e2]; omega, by rw [e3]; omega⟩

theorem AtW6 {σ : Fin 6 → Type _} (Φ : (k : Fin 6) → σ k → sProp 𝕄) (st : (k : Fin 6) → σ k) :
    Ring.AtW Φ st = iprop(Φ 0 (st 0) ∗ Φ 1 (st 1) ∗ Φ 2 (st 2) ∗ Φ 3 (st 3) ∗ Φ 4 (st 4) ∗ Φ 5 (st 5)) := by
  unfold Ring.AtW
  rw [BI.bigSep_univ_eq_bigSepL [0, 1, 2, 3, 4, 5] (by decide) (by decide)]
  rfl

theorem stN_first {nw : ℕ} (e : ℕ → Fin 21) (h0 : 0 < nw) {j : ℕ} (hj : j < 5) :
    stN nw e 0 5 ⟨j, by omega⟩ = some (e (j % nw), ⟨j / nw, (Nat.div_le_self _ _).trans_lt (by omega)⟩) := by
  unfold stN stU
  have e1 : 0 + (j + 6 - 0 % 6) % 6 = j := by omega
  have e2 : j / nw < 6 := (Nat.div_le_self _ _).trans_lt (by omega)
  simp only [e1]
  rw [if_pos ⟨by omega, by omega⟩]
  congr 2
  exact Fin.ext (Nat.mod_eq_of_lt e2)

theorem stN_sixth (nw : ℕ) (e : ℕ → Fin 21) : stN nw e 0 5 5 = none := by
  unfold stN stU; rw [if_neg]; simp

theorem vFly_slot (k : Fin 6) (fa : Buf (Elt F) (wvM.view.loc (c : Thread nD τ))) (x : Fin 21 × Fin 6) {o : Fin 3 → ℕ} (h) {s : Fin 1 → ℕ} (hs)
    {q : Fin 3 → ℕ} (hq) (eo : o = ![k.val, 0, 0]) (es : s = ![k.val]) (eq : q = ![x.1.val, 0, x.2.val * 512]) :
    vFlyAt c k fa o h s hs q hq ⊢ vSlot c fa k (some x) :=
  Entails.of_eq (vFlyAt_eq c k fa eo h (vslot_inb k) es hs (cell_inb k) eq hq (vsrc_inb x.1 x.2))

theorem mFly_slot (k : Fin 6) (fa : Buf (Elt F) (wmM.view.loc (c : Thread nD τ))) (x : Fin 21 × Fin 6) {o : Fin 3 → ℕ} (h) {s : Fin 1 → ℕ} (hs)
    {q : Fin 3 → ℕ} (hq) (eo : o = ![k.val, 0, 0]) (es : s = ![k.val]) (eq : q = ![x.1.val, 0, x.2.val * 512]) :
    mFlyAt c k fa o h s hs q hq ⊢ mSlot c fa k (some x) :=
  Entails.of_eq (mFlyAt_eq c k fa eo h (mslot_inb k) es hs (cell_inb k) eq hq (msrc_inb x.1 x.2))

theorem vFree_slot (k : Fin 6) (fa : Buf (Elt F) (wvM.view.loc (c : Thread nD τ))) {o : Fin 3 → ℕ} (h) {s : Fin 1 → ℕ} (hs)
    (eo : o = ![k.val, 0, 0]) (es : s = ![k.val]) : vSlot c fa k none ⊢ vFreeAt c k fa o h s hs :=
  Entails.of_eq (vFreeAt_eq c k fa eo.symm (vslot_inb k) h es.symm (cell_inb k) hs)

theorem mFree_slot (k : Fin 6) (fa : Buf (Elt F) (wmM.view.loc (c : Thread nD τ))) {o : Fin 3 → ℕ} (h) {s : Fin 1 → ℕ} (hs)
    (eo : o = ![k.val, 0, 0]) (es : s = ![k.val]) : mSlot c fa k none ⊢ mFreeAt c k fa o h s hs :=
  Entails.of_eq (mFreeAt_eq c k fa eo.symm (mslot_inb k) h es.symm (cell_inb k) hs)

theorem off_slots : k0_off8 = ![0,0,0] ∧ k0_off15 = ![1,0,0] ∧ k0_off22 = ![2,0,0] ∧ k0_off29 = ![3,0,0] ∧ k0_off36 = ![4,0,0]
    ∧ k0_off11 = ![0,0,0] ∧ k0_off18 = ![1,0,0] ∧ k0_off25 = ![2,0,0] ∧ k0_off32 = ![3,0,0] ∧ k0_off39 = ![4,0,0]
    ∧ k0_off7 = ![0] ∧ k0_off14 = ![1] ∧ k0_off21 = ![2] ∧ k0_off28 = ![3] ∧ k0_off35 = ![4]
    ∧ k0_off10 = ![0] ∧ k0_off17 = ![1] ∧ k0_off24 = ![2] ∧ k0_off31 = ![3] ∧ k0_off38 = ![4] := by decide

theorem part67_run (fg : (cc0_stg0_0 : Ref sig .tc).ty.Contents (Elt F)) (hG : Groups fg S) (T0 : Tab (F := F))
    (fv : Buf (Elt F) (wvM.view.loc (c : Thread nD τ))) (fm : Buf (Elt F) (wmM.view.loc (c : Thread nD τ))) (W : Waits sig Unit)
    (K : (Σ' (v1_0 : BitVec 32) (k0_hw2 : k0_chk2 v1_0) (v2 : BitVec 32) (v18 : IVec S256x128 32) (v21 : IVec S256x128 32) (v24 : IVec S256x128 32) (v29 : IVec S256x128 32), IVec S256x128 32) → sProp 𝕄) :
    iprop((gsM.view.loc (c : Thread nD τ) ↦{fullShare} fg) ∗ (tabM.view.loc (c : Thread nD τ) ↦{fullShare} T0)
        ∗ Ring.AtW (vSlot c fv) (fun _ => none) ∗ Ring.AtW (mSlot c fm) (fun _ => none)
        ∗ owes (c : Thread nD τ) 0 W
        ∗ (∀ T : Tab (F := F), ∀ nw : ℕ, ∀ e : ℕ → Fin 21, ∀ b : ℕ → ℕ, ∀ hn : nw ≤ 64, ⌜Plan S T nw e b ∧ Covers S nw e b⌝ -∗
            iprop((gsM.view.loc (c : Thread nD τ) ↦{fullShare} fg) ∗ (tabM.view.loc (c : Thread nD τ) ↦{fullShare} T)
              ∗ Ring.AtW (vSlot c fv) (stN nw e 0 5) ∗ Ring.AtW (mSlot c fm) (stN nw e 0 5)
              ∗ ∃ W', owes (c : Thread nD τ) 0 W') -∗
            K ⟨wd nw, chk2 hn, Scalar.muli (wd nw) 6#32, iota .tc S256x128 32 [0] iota_S256x128_d0_w32, k0_pay345, k0_pay346, k0_pay347, k0_pay348⟩))
      ⊢ wp frame (wpE (defs₀ (F := F)) 𝒱₀ (c : Thread nD τ) none) Set.univ (k0_part67 (F := F) gsM (wh _) xsM (wh _) wsM (wh _) xM (wh _) wvM (wh _) wmM (wh _) yM (wh _) xaM (wh _) xbM (wh _) xcM (wh _) sbM (wh _) tabM (wh _) vbM (wh _) mbM (wh _) cc0_scratch7 cc0_scratch8) K := by
  have hinit : (0 ≤ 2 * 0 ∧ ((0#32, 0#32) : BitVec 32 × BitVec 32) = (wd 0, wd (S 0)) ∧ Listed S T0 0 fun r => r < S 0) :=
    ⟨le_refl _, by rw [hG.zero], fun i hi => absurd hi (by omega), fun r hr => absurd hr (by rw [hG.zero]; omega)⟩
  rw [k0_part67_eq_skeleton]; unfold k0_part67_skel
  rw [wp_bind]
  iintro ⟨HG, HT, HV, HM, HO, HK⟩
  iapply (Scf.wp_for frame (wpE (defs₀ (F := F)) 𝒱₀ (c : Thread nD τ) none) Set.univ _ _ _ k0_t1_ok (0#32, 0#32) _ (inv1 c S fg) (step1 c S fg hG))
  isplitl [HG HT]
  · unfold inv1
    isplitl [HG]; · iexact HG
    iexists T0; iexists 0
    isplitr; · ipureintro; exact hinit
    iexact HT
  iintro %acc HI
  unfold inv1
  icases HI with ⟨HG, ⟨%T, %nw, %hL, HT⟩⟩
  have hn42 : nw ≤ 42 := hL.1
  have hn : nw ≤ 64 := by omega
  obtain ⟨e, b, hP, hC⟩ := Listed.plan hn hG.le hL.2.2
  obtain ⟨-, rfl, -⟩ := hL
  have hc2 := chk2 hn
  rcases Nat.eq_zero_or_pos nw with h0 | h0
  · have n1 : ¬ k0_cond1 (wd nw) = 1#1 := fun h => by have := (cond1_iff hn).mp h; omega
    have n2 : ¬ k0_cond2 (wd nw) = 1#1 := fun h => by have := (cond2_iff hn).mp h; omega
    have n3 : ¬ k0_cond3 (wd nw) = 1#1 := fun h => by have := (cond3_iff hn).mp h; omega
    have n4 : ¬ k0_cond4 (wd nw) = 1#1 := fun h => by have := (cond4_iff hn).mp h; omega
    have n5 : ¬ k0_cond5 (wd nw) = 1#1 := fun h => by have := (cond5_iff hn).mp h; omega
    have hst : stN nw e 0 5 = fun _ => none := funext fun j => by rw [h0]; exact stN_nil e 5 j
    sl_exec
    sl_step
    sl_open_run
    iapply HK $$ %T %nw %e %b %hn
    · ipureintro; exact ⟨hP, hC⟩
    rw [hst]
    isplitl [HG]; · iexact HG
    isplitl [HT]; · iexact HT
    isplitl [HV]; · iexact HV
    isplitl [HM]; · iexact HM
    iexists _; iexact HO
  · have p0 : k0_cond1 (wd nw) = 1#1 := (cond1_iff hn).mpr (by omega)
    have I0 := hP (0 % nw) (Nat.mod_lt _ h0)
    have l0 := funext fun y => I0.w0.load (off6_eq h0 hn) (k0_off6_inb (wd nw) (chk2 hn) p0) y
    have e0 : (wd (e (0 % nw)).val).toNat = (e (0 % nw)).val := toNat_wd (by have := (e (0 % nw)).isLt; omega)
    have k0 : k0_chk3 (wd nw) (wd (e (0 % nw)).val) := chk3 hn (by rw [e0]; exact (e _).isLt)
    have p1 : k0_cond2 (wd nw) = 1#1 := (cond2_iff hn).mpr (by omega)
    have I1 := hP (1 % nw) (Nat.mod_lt _ h0)
    have l1 := funext fun y => I1.w0.load (off13_eq h0 hn) (k0_off13_inb (wd nw) (chk2 hn) p1) y
    have e1 : (wd (e (1 % nw)).val).toNat = (e (1 % nw)).val := toNat_wd (by have := (e (1 % nw)).isLt; omega)
    have k1 : k0_chk4 (wd nw) (wd (e (1 % nw)).val) := chk4 hn (by rw [e1]; exact (e _).isLt)
    have p2 : k0_cond3 (wd nw) = 1#1 := (cond3_iff hn).mpr (by omega)
    have I2 := hP (2 % nw) (Nat.mod_lt _ h0)
    have l2 := funext fun y => I2.w0.load (off20_eq h0 hn) (k0_off20_inb (wd nw) (chk2 hn) p2) y
    have e2 : (wd (e (2 % nw)).val).toNat = (e (2 % nw)).val := toNat_wd (by have := (e (2 % nw)).isLt; omega)
    have k2 : k0_chk5 (wd nw) (wd (e (2 % nw)).val) := chk5 hn (by rw [e2]; exact (e _).isLt)
    have p3 : k0_cond4 (wd nw) = 1#1 := (cond4_iff hn).mpr (by omega)
    have I3 := hP (3 % nw) (Nat.mod_lt _ h0)
    have l3 := funext fun y => I3.w0.load (off27_eq h0 hn) (k0_off27_inb (wd nw) (chk2 hn) p3) y
    have e3 : (wd (e (3 % nw)).val).toNat = (e (3 % nw)).val := toNat_wd (by have := (e (3 % nw)).isLt; omega)
    have k3 : k0_chk6 (wd nw) (wd (e (3 % nw)).val) := chk6 hn (by rw [e3]; exact (e _).isLt)
    have p4 : k0_cond5 (wd nw) = 1#1 := (cond5_iff hn).mpr (by omega)
    have I4 := hP (4 % nw) (Nat.mod_lt _ h0)
    have l4 := funext fun y => I4.w0.load (off34_eq h0 hn) (k0_off34_inb (wd nw) (chk2 hn) p4) y
    have e4 : (wd (e (4 % nw)).val).toNat = (e (4 % nw)).val := toNat_wd (by have := (e (4 % nw)).isLt; omega)
    have k4 : k0_chk7 (wd nw) (wd (e (4 % nw)).val) := chk7 hn (by rw [e4]; exact (e _).isLt)
    obtain ⟨v0, v1, v2, v3, v4, m0, m1, m2, m3, m4, s0, s1, s2, s3, s4, r0, r1, r2, r3, r4⟩ := off_slots
    ihave HV := (Entails.of_eq (AtW6 (vSlot c fv) (fun _ => none))) $$ HV
    ihave HM := (Entails.of_eq (AtW6 (mSlot c fm) (fun _ => none))) $$ HM
    icases HV with ⟨V0, V1, V2, V3, V4, V5⟩
    icases HM with ⟨M0, M1, M2, M3, M4, M5⟩
    ihave V0 := (vFree_slot c 0 fv k0_off8_inb k0_off7_inb v0 s0) $$ V0
    icases V0 with ⟨V0c, ⟨%gv0, V0s⟩, V0t⟩
    ihave M0 := (mFree_slot c 0 fm k0_off11_inb k0_off10_inb m0 r0) $$ M0
    icases M0 with ⟨M0c, ⟨%gm0, M0s⟩, M0t⟩
    ihave V1 := (vFree_slot c 1 fv k0_off15_inb k0_off14_inb v1 s1) $$ V1
    icases V1 with ⟨V1c, ⟨%gv1, V1s⟩, V1t⟩
    ihave M1 := (mFree_slot c 1 fm k0_off18_inb k0_off17_inb m1 r1) $$ M1
    icases M1 with ⟨M1c, ⟨%gm1, M1s⟩, M1t⟩
    ihave V2 := (vFree_slot c 2 fv k0_off22_inb k0_off21_inb v2 s2) $$ V2
    icases V2 with ⟨V2c, ⟨%gv2, V2s⟩, V2t⟩
    ihave M2 := (mFree_slot c 2 fm k0_off25_inb k0_off24_inb m2 r2) $$ M2
    icases M2 with ⟨M2c, ⟨%gm2, M2s⟩, M2t⟩
    ihave V3 := (vFree_slot c 3 fv k0_off29_inb k0_off28_inb v3 s3) $$ V3
    icases V3 with ⟨V3c, ⟨%gv3, V3s⟩, V3t⟩
    ihave M3 := (mFree_slot c 3 fm k0_off32_inb k0_off31_inb m3 r3) $$ M3
    icases M3 with ⟨M3c, ⟨%gm3, M3s⟩, M3t⟩
    ihave V4 := (vFree_slot c 4 fv k0_off36_inb k0_off35_inb v4 s4) $$ V4
    icases V4 with ⟨V4c, ⟨%gv4, V4s⟩, V4t⟩
    ihave M4 := (mFree_slot c 4 fm k0_off39_inb k0_off38_inb m4 r4) $$ M4
    icases M4 with ⟨M4c, ⟨%gm4, M4s⟩, M4t⟩
    sl_exec
    ihave V0 := (vFly_slot c 0 fv (e (0 % nw), ⟨0 / nw, (Nat.div_le_self _ _).trans_lt (by omega)⟩) k0_off8_inb k0_off7_inb (k0_off9_inb (wd nw) _ k0 p0) v0 s0 ((off9_eq h0 hn _).trans (by rw [e0]))) $$ [V0c V0t]
    · isplitl [V0c]
      · iexists gv0; iexact V0c
      · iexact V0t
    ihave M0 := (mFly_slot c 0 fm (e (0 % nw), ⟨0 / nw, (Nat.div_le_self _ _).trans_lt (by omega)⟩) k0_off11_inb k0_off10_inb (k0_off12_inb (wd nw) _ k0 p0) m0 r0 ((off12_eq h0 hn _).trans (by rw [e0]))) $$ [M0c M0t]
    · isplitl [M0c]
      · iexists gm0; iexact M0c
      · iexact M0t
    ihave V1 := (vFly_slot c 1 fv (e (1 % nw), ⟨1 / nw, (Nat.div_le_self _ _).trans_lt (by omega)⟩) k0_off15_inb k0_off14_inb (k0_off16_inb (wd nw) _ k1 p1) v1 s1 ((off16_eq h0 hn _).trans (by rw [e1]))) $$ [V1c V1t]
    · isplitl [V1c]
      · iexists gv1; iexact V1c
      · iexact V1t
    ihave M1 := (mFly_slot c 1 fm (e (1 % nw), ⟨1 / nw, (Nat.div_le_self _ _).trans_lt (by omega)⟩) k0_off18_inb k0_off17_inb (k0_off19_inb (wd nw) _ k1 p1) m1 r1 ((off19_eq h0 hn _).trans (by rw [e1]))) $$ [M1c M1t]
    · isplitl [M1c]
      · iexists gm1; iexact M1c
      · iexact M1t
    ihave V2 := (vFly_slot c 2 fv (e (2 % nw), ⟨2 / nw, (Nat.div_le_self _ _).trans_lt (by omega)⟩) k0_off22_inb k0_off21_inb (k0_off23_inb (wd nw) _ k2 p2) v2 s2 ((off23_eq h0 hn _).trans (by rw [e2]))) $$ [V2c V2t]
    · isplitl [V2c]
      · iexists gv2; iexact V2c
      · iexact V2t
    ihave M2 := (mFly_slot c 2 fm (e (2 % nw), ⟨2 / nw, (Nat.div_le_self _ _).trans_lt (by omega)⟩) k0_off25_inb k0_off24_inb (k0_off26_inb (wd nw) _ k2 p2) m2 r2 ((off26_eq h0 hn _).trans (by rw [e2]))) $$ [M2c M2t]
    · isplitl [M2c]
      · iexists gm2; iexact M2c
      · iexact M2t
    ihave V3 := (vFly_slot c 3 fv (e (3 % nw), ⟨3 / nw, (Nat.div_le_self _ _).trans_lt (by omega)⟩) k0_off29_inb k0_off28_inb (k0_off30_inb (wd nw) _ k3 p3) v3 s3 ((off30_eq h0 hn _).trans (by rw [e3]))) $$ [V3c V3t]
    · isplitl [V3c]
      · iexists gv3; iexact V3c
      · iexact V3t
    ihave M3 := (mFly_slot c 3 fm (e (3 % nw), ⟨3 / nw, (Nat.div_le_self _ _).trans_lt (by omega)⟩) k0_off32_inb k0_off31_inb (k0_off33_inb (wd nw) _ k3 p3) m3 r3 ((off33_eq h0 hn _).trans (by rw [e3]))) $$ [M3c M3t]
    · isplitl [M3c]
      · iexists gm3; iexact M3c
      · iexact M3t
    ihave V4 := (vFly_slot c 4 fv (e (4 % nw), ⟨4 / nw, (Nat.div_le_self _ _).trans_lt (by omega)⟩) k0_off36_inb k0_off35_inb (k0_off37_inb (wd nw) _ k4 p4) v4 s4 ((off37_eq h0 hn _).trans (by rw [e4]))) $$ [V4c V4t]
    · isplitl [V4c]
      · iexists gv4; iexact V4c
      · iexact V4t
    ihave M4 := (mFly_slot c 4 fm (e (4 % nw), ⟨4 / nw, (Nat.div_le_self _ _).trans_lt (by omega)⟩) k0_off39_inb k0_off38_inb (k0_off40_inb (wd nw) _ k4 p4) m4 r4 ((off40_eq h0 hn _).trans (by rw [e4]))) $$ [M4c M4t]
    · isplitl [M4c]
      · iexists gm4; iexact M4c
      · iexact M4t
    sl_step
    sl_open_run
    iapply HK $$ %T %nw %e %b %hn
    · ipureintro; exact ⟨hP, hC⟩
    rw [AtW6, AtW6, stN_sixth]
    rw [show stN nw e 0 5 (0 : Fin 6) = some (e (0 % nw), ⟨0 / nw, (Nat.div_le_self _ _).trans_lt (by omega)⟩) from stN_first e h0 (j := 0) (by omega)]
    rw [show stN nw e 0 5 (1 : Fin 6) = some (e (1 % nw), ⟨1 / nw, (Nat.div_le_self _ _).trans_lt (by omega)⟩) from stN_first e h0 (j := 1) (by omega)]
    rw [show stN nw e 0 5 (2 : Fin 6) = some (e (2 % nw), ⟨2 / nw, (Nat.div_le_self _ _).trans_lt (by omega)⟩) from stN_first e h0 (j := 2) (by omega)]
    rw [show stN nw e 0 5 (3 : Fin 6) = some (e (3 % nw), ⟨3 / nw, (Nat.div_le_self _ _).trans_lt (by omega)⟩) from stN_first e h0 (j := 3) (by omega)]
    rw [show stN nw e 0 5 (4 : Fin 6) = some (e (4 % nw), ⟨4 / nw, (Nat.div_le_self _ _).trans_lt (by omega)⟩) from stN_first e h0 (j := 4) (by omega)]
    isplitl [HG]; · iexact HG
    isplitl [HT]; · iexact HT
    isplitl [V0 V1 V2 V3 V4 V5]
    · isplitl [V0]; · iexact V0
      isplitl [V1]; · iexact V1
      isplitl [V2]; · iexact V2
      isplitl [V3]; · iexact V3
      isplitl [V4]; · iexact V4
      iexact V5
    isplitl [M0 M1 M2 M3 M4 M5]
    · isplitl [M0]; · iexact M0
      isplitl [M1]; · iexact M1
      isplitl [M2]; · iexact M2
      isplitl [M3]; · iexact M3
      isplitl [M4]; · iexact M4
      iexact M5
    iexists _; iexact HO

end Cert.KernelIdeal.Hand

end
-- ==== Proof.Ideal.Run.lean ====
/-
  The kernel's run: the work list, the operands picked out of the rows, then the main loop.
-/
module

public import proofs.«01_k».proof.Proof.Ideal.Trip
public import proofs.«01_k».proof.Proof.Ideal.Ops
public import proofs.«01_k».proof.Proof.Ideal.Start
public import Idealize.ShloMosaic.Lib.LoopRemainder

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD)

variable {S : ℕ → ℕ}

/-- Contents reached from `x0` by `n` moves, move `k` being allowed by `R k`. -/
inductive Moves {X : Type} (R : ℕ → X → X → Prop) (x0 : X) : ℕ → X → Prop
  | zero : Moves R x0 0 x0
  | succ {k : ℕ} {x x' : X} : Moves R x0 k x → R k x x' → Moves R x0 (k + 1) x'

/-- The trips of a list of `nw` windows. -/
def Trips (S : ℕ → ℕ) (nw : ℕ) (e : ℕ → Fin 21) (b : ℕ → ℕ) (fv : wvM.view.ty.Contents (Elt F)) (fm : wmM.view.ty.Contents (Elt F))
    (A : xaM.view.ty.Contents (Elt F)) (B : xbM.view.ty.Contents (Elt F)) (C : xcM.view.ty.Contents (Elt F))
    (D : sbM.view.ty.Contents (Elt F)) (fw : wsM.view.ty.Contents (Elt F)) (fy : yM.view.ty.Contents (Elt F)) (n : ℕ) (fy' : yM.view.ty.Contents (Elt F)) : Prop :=
  Moves (fun k x x' => Stepped fv fm A B C D fw (min (b (k % nw)) 128) (max (S (e (k % nw)).val) (b (k % nw))) (min (S ((e (k % nw)).val + 1)) (b (k % nw) + 128)) (k / nw * 512) (e (k % nw)) x x') fy n fy'

/-- The result after every trip of a list that covers the rows. -/
def Done (S : ℕ → ℕ) (fxs : xsM.view.ty.Contents (Elt F)) (fw : wsM.view.ty.Contents (Elt F)) (fx : xM.view.ty.Contents (Elt F)) (fv : wvM.view.ty.Contents (Elt F)) (fm : wmM.view.ty.Contents (Elt F)) (fy' : yM.view.ty.Contents (Elt F)) : Prop :=
  ∃ (nw : ℕ) (e : ℕ → Fin 21) (b : ℕ → ℕ) (A : _) (B : _) (C : _) (D : _) (fy : _), (∀ i < nw, 32 ∣ b i ∧ b i < S ((e i).val + 1)) ∧ Covers S nw e b ∧ Ops fx fxs A B C D
    ∧ Trips S nw e b fv fm A B C D fw fy (6 * nw) fy'

theorem kernel_run (fg : (cc0_stg0_0 : Ref sig .tc).ty.Contents (Elt F)) (hG : Groups fg S) (hS : ∀ k ≤ 21, S k ≤ 256) (T0 : Tab (F := F))
    (fv : Buf (Elt F) (wvM.view.loc (c : Thread nD τ))) (fm : Buf (Elt F) (wmM.view.loc (c : Thread nD τ))) (fxs : Buf (Elt F) (xsM.view.loc (c : Thread nD τ))) (fw : Buf (Elt F) (wsM.view.loc (c : Thread nD τ))) (fx : Buf (Elt F) (xM.view.loc (c : Thread nD τ))) (fy : Buf (Elt F) (yM.view.loc (c : Thread nD τ)))
    (A0 : Buf (Elt F) (xaM.view.loc (c : Thread nD τ))) (B0 : Buf (Elt F) (xbM.view.loc (c : Thread nD τ))) (C0 : Buf (Elt F) (xcM.view.loc (c : Thread nD τ))) (D0 : Buf (Elt F) (sbM.view.loc (c : Thread nD τ))) (W : Waits sig Unit) (Q : PUnit → sProp (𝕄)) :
    iprop((gsM.view.loc (c : Thread nD τ) ↦{fullShare} fg) ∗ (xsM.view.loc (c : Thread nD τ) ↦{fullShare} fxs) ∗ (wsM.view.loc (c : Thread nD τ) ↦{fullShare} fw) ∗ (xM.view.loc (c : Thread nD τ) ↦{fullShare} fx) ∗ (yM.view.loc (c : Thread nD τ) ↦{fullShare} fy)
        ∗ (xaM.view.loc (c : Thread nD τ) ↦{fullShare} A0) ∗ (xbM.view.loc (c : Thread nD τ) ↦{fullShare} B0) ∗ (xcM.view.loc (c : Thread nD τ) ↦{fullShare} C0) ∗ (sbM.view.loc (c : Thread nD τ) ↦{fullShare} D0) ∗ (tabM.view.loc (c : Thread nD τ) ↦{fullShare} T0)
        ∗ Ring.AtW (vSlot c fv) (fun _ => none) ∗ Ring.AtW (mSlot c fm) (fun _ => none)
        ∗ owes (c : Thread nD τ) 0 W
        ∗ (iprop((gsM.view.loc (c : Thread nD τ) ↦{fullShare} fg) ∗ (xsM.view.loc (c : Thread nD τ) ↦{fullShare} fxs) ∗ (wsM.view.loc (c : Thread nD τ) ↦{fullShare} fw) ∗ (xM.view.loc (c : Thread nD τ) ↦{fullShare} fx) ∗ (∃ fy', (yM.view.loc (c : Thread nD τ) ↦{fullShare} fy') ∗ ⌜Done S fxs fw fx fv fm fy'⌝)
            ∗ (∃ A, (xaM.view.loc (c : Thread nD τ) ↦{fullShare} A)) ∗ (∃ A, (xbM.view.loc (c : Thread nD τ) ↦{fullShare} A)) ∗ (∃ A, (xcM.view.loc (c : Thread nD τ) ↦{fullShare} A)) ∗ (∃ A, (sbM.view.loc (c : Thread nD τ) ↦{fullShare} A)) ∗ (∃ A, (tabM.view.loc (c : Thread nD τ) ↦{fullShare} A))
            ∗ Ring.AtW (vSlot c fv) (fun _ => none) ∗ Ring.AtW (mSlot c fm) (fun _ => none)
            ∗ ∃ W', owes (c : Thread nD τ) 0 W') -∗ Q ⟨⟩))
      ⊢ wp frame (wpE (defs₀ (F := F)) 𝒱₀ (c : Thread nD τ) none) Set.univ (cc0_sparse24_gmm (F := F) gsM (wh _) xsM (wh _) wsM (wh _) xM (wh _) wvM (wh _) wmM (wh _) yM (wh _) xaM (wh _) xbM (wh _) xcM (wh _) sbM (wh _) tabM (wh _) vbM (wh _) mbM (wh _) cc0_scratch7 cc0_scratch8) Q := by
  rw [cc0_sparse24_gmm_eq_skeleton]; unfold cc0_sparse24_gmm_skel
  rw [wp_bind]
  iintro ⟨HG, HX, HW, Hx, HY, HA, HB, HC, HD, HT, HV, HM, HO, HK⟩
  iapply (part67_run c fg hG T0 fv fm W)
  isplitl [HG]; · iexact HG
  isplitl [HT]; · iexact HT
  isplitl [HV]; · iexact HV
  isplitl [HM]; · iexact HM
  isplitl [HO]; · iexact HO
  iintro %T %nw %e %b %hn %hPC ⟨HG, HT, HV, HM, ⟨%W', HO⟩⟩
  sl_exec
  rw [wp_bind]
  iapply (Scf.wp_for frame (wpE (defs₀ (F := F)) 𝒱₀ (c : Thread nD τ) none) Set.univ _ _ _ (k0_t2_ok (wd nw) (chk2 hn)) (0#32) _
    (fun (t : ℕ) (_ : BitVec 32) => iprop(Held c T nw e fv fm (xaM.view.writes (Elt F) xaM.view.junk (kernel_run.sl.HA_20 c fx)) (xbM.view.writes (Elt F) xbM.view.junk (kernel_run.sl.HB_20 c fx)) (xcM.view.writes (Elt F) xcM.view.junk (kernel_run.sl.HC_20 c fx)) (sbM.view.writes (Elt F) sbM.view.junk (kernel_run.sl.HD_2 c fxs)) fw t ∗ ∃ fy', (yM.view.loc (c : Thread nD τ) ↦{fullShare} fy') ∗ ⌜Trips S nw e b fv fm (xaM.view.writes (Elt F) xaM.view.junk (kernel_run.sl.HA_20 c fx)) (xbM.view.writes (Elt F) xbM.view.junk (kernel_run.sl.HB_20 c fx)) (xcM.view.writes (Elt F) xcM.view.junk (kernel_run.sl.HC_20 c fx)) (sbM.view.writes (Elt F) sbM.view.junk (kernel_run.sl.HD_2 c fxs)) fw fy t fy'⌝)) ?step)
  case step =>
    intro k acc
    iintro ⟨HH, ⟨%fy', HY, %hM⟩⟩
    have hi : k.val % nw < nw := Nat.mod_lt _ (nw_pos hn k)
    have hI := hPC.1 _ hi
    have he : (wd (e (k.val % nw)).val).toNat < 21 := by
      rw [toNat_wd (by have := (e (k.val % nw)).isLt; omega)]; exact (e (k.val % nw)).isLt
    iapply ((trip c hPC.1 hS hn k _ _ acc fv fm _ _ _ _ fw fy' (chk8 hn k (by rw [toNat_wd (by omega)]; omega) (by rw [toNat_wd (by omega)]; have := hI.h32; omega)) (chk10 hn k he) (chk11 hn k he)).trans (wp_mono _ _ _ fun _ => ?post))
    case post =>
      iintro ⟨HH, ⟨%f, HY, %hs⟩⟩
      isplitl [HH]; · iexact HH
      iexists f
      isplitl [HY]; · iexact HY
      ipureintro; exact .succ hM hs
    isplitl [HH]; · iexact HH
    iexact HY
  isplitl [HT HA HB HC HD HW HV HM HO HY]
  · unfold Held
    isplitr [HY]
    · isplitl [HT]; · iexact HT
      isplitl [HA]; · iexact HA
      isplitl [HB]; · iexact HB
      isplitl [HC]; · iexact HC
      isplitl [HD]; · iexact HD
      isplitl [HW]; · iexact HW
      isplitl [HV]; · iexact HV
      isplitl [HM]; · iexact HM
      iexists W'; iexact HO
    · iexists fy
      isplitl [HY]; · iexact HY
      ipureintro; exact .zero
  iintro %acc HI
  unfold Held
  icases HI with ⟨⟨HT, HA, HB, HC, HD, HW, HV, HM, ⟨%W'', HO⟩⟩, ⟨%fy', HY, %hM⟩⟩
  have hend : stN nw e (k0_t2_loop (wd nw)).trips 5 = fun _ => none := by
    rw [t2_trips hn]; funext j; exact stN_end nw e j
  ihave HV := (Entails.of_eq (congrArg (Ring.AtW (vSlot c fv)) hend)) $$ HV
  ihave HM := (Entails.of_eq (congrArg (Ring.AtW (mSlot c fm)) hend)) $$ HM
  sl_exec
  sl_step
  iapply HK
  isplitl [HG]; · iexact HG
  isplitl [HX]; · iexact HX
  isplitl [HW]; · iexact HW
  isplitl [Hx]; · iexact Hx
  isplitl [HY]
  · iexists _; isplitl [HY]; · iexact HY
    ipureintro
    replace hM := (congrArg (fun n => Trips S nw e b fv fm _ _ _ _ fw fy n fy') (t2_trips hn)).mp hM
    refine ⟨nw, e, b, _, _, _, _, fy, fun i hi => ⟨(hPC.1 i hi).h32, (hPC.1 i hi).hb⟩, hPC.2, ?_, hM⟩
    delta kernel_run.sl.HA_20 kernel_run.sl.HB_20 kernel_run.sl.HC_20 kernel_run.sl.HD_2 kernel_run.sl.r kernel_run.sl.r_1 kernel_run.sl.r_2
    exact ⟨picked _ _ fx _, picked _ _ fx _, picked _ _ fx _, spread _ fxs _⟩
  isplitl [HA]; · iexists _; iexact HA
  isplitl [HB]; · iexists _; iexact HB
  isplitl [HC]; · iexists _; iexact HC
  isplitl [HD]; · iexists _; iexact HD
  isplitl [HT]; · iexists _; iexact HT
  isplitl [HV]; · iexact HV
  isplitl [HM]; · iexact HM
  iexists _; iexact HO

end Cert.KernelIdeal.Hand

end
-- ==== Proof.Ideal.Ends.lean ====
/-
  The two rings at the two ends of the kernel: the buffers, their cells and the arrays they are filled from, split into slots and
  joined again.
-/
module

public import proofs.«01_k».proof.Proof.Ideal.Ring

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (c : Dev nD)

theorem vslot_set (k : Fin 6) : (vslotAt ![k.val, 0, 0] (vslot_inb k)).view.set = (Rect.unit (s := S6x2560x512) ![k.val, 0, 0] S1x2560x512.size (vslot_inb k)).set :=
  (View.set_reshape _ _).trans (View.set_slice_whole _ _)

theorem vslot_disjoint (k k' : Fin 6) (h : k ≠ k') :
    Disjoint (Rect.unit (s := S6x2560x512) ![k.val, 0, 0] S1x2560x512.size (vslot_inb k)).set (Rect.unit (s := S6x2560x512) ![k'.val, 0, 0] S1x2560x512.size (vslot_inb k')).set :=
  Ring.lead_disjoint (s := S6x2560x512) 0 1 (fun k : Fin 6 => ![k.val, 0, 0]) S1x2560x512.size vslot_inb (fun k => (Nat.one_mul _).symm) rfl k k' h

theorem vslot_cover : Finset.univ.biUnion (fun k : Fin 6 => (Rect.unit (s := S6x2560x512) ![k.val, 0, 0] S1x2560x512.size (vslot_inb k)).set) = Finset.univ :=
  Ring.lead_cover (s := S6x2560x512) 0 1 (fun k : Fin 6 => ![k.val, 0, 0]) S1x2560x512.size vslot_inb (fun k => (Nat.one_mul _).symm)
    (fun k a ha => by fin_cases a <;> first | exact absurd rfl ha | rfl) rfl
    (fun a ha => by fin_cases a <;> first | exact absurd rfl ha | rfl) rfl

/-- The six cells at zero, the ring's buffer and the array it is filled from make six free slots, beside a share of the array. -/
theorem v_init (fa : Buf (Elt F) (wvM.view.loc (c : Thread nD τ))) (f : Buf (Elt F) (vbM.view.loc (c : Thread nD τ))) :
    iprop((bigSep Finset.univ fun k : Fin 6 => (semVal ((c : Thread nD τ), vcellAt ![k.val] (cell_inb k)) 0 : sProp 𝕄))
        ∗ (vbM.view.loc (c : Thread nD τ) ↦{fullShare} f) ∗ (wvM.view.loc (c : Thread nD τ) ↦{fullShare} fa))
      ⊢ iprop(Ring.AtW (vSlot c fa) (fun _ => none) ∗ (wvM.view.loc (c : Thread nD τ) ↦{Transfers.shareDrop fullShare 6} fa)) := by
  have h0 : iprop((bigSep Finset.univ fun k : Fin 6 => (semVal ((c : Thread nD τ), vcellAt ![k.val] (cell_inb k)) 0 : sProp 𝕄))
        ∗ (bigSep Finset.univ fun k : Fin 6 => (vbM.view.loc (c : Thread nD τ) ↦[(Rect.unit (s := S6x2560x512) ![k.val, 0, 0] S1x2560x512.size (vslot_inb k)).set]{fullShare} f : sProp 𝕄))
        ∗ (bigSep Finset.univ fun k : Fin 6 => (vtok c k Finset.univ fa : sProp 𝕄)))
      ⊢ (Ring.AtW (vSlot c fa) (fun _ => none) : sProp 𝕄) := by
    rw [← bigSep_sep', ← bigSep_sep']
    unfold Ring.AtW
    refine BI.bigSep_mono fun k _ => ?_
    rw [vSlot_none]; unfold vFreeAt; rw [vslot_set]
    show iprop((semVal ((c : Thread nD τ), vcellAt ![k.val] (cell_inb k)) 0 : sProp 𝕄) ∗ (vbM.view.loc (c : Thread nD τ) ↦[(Rect.unit (s := S6x2560x512) ![k.val, 0, 0] S1x2560x512.size (vslot_inb k)).set]{fullShare} f) ∗ vtok c k Finset.univ fa)
      ⊢ iprop((semVal ((c : Thread nD τ), vcellAt ![k.val] (cell_inb k)) 0 : sProp 𝕄) ∗ (∃ f, vbM.view.loc (c : Thread nD τ) ↦[(Rect.unit (s := S6x2560x512) ![k.val, 0, 0] S1x2560x512.size (vslot_inb k)).set]{fullShare} f) ∗ vtok c k Finset.univ fa)
    iintro ⟨HC, HB, HT⟩
    isplitl [HC]; · iexact HC
    isplitl [HB]; · iexists f; iexact HB
    iexact HT
  iintro ⟨HC, HB, HS⟩
  ihave HS := (Transfers.pointsTo_toks_split (S := Finset.univ) fullShare 6) $$ HS
  icases HS with ⟨HD, HT⟩
  ihave HB := (Entails.of_eq (Ring.pointsTo_blocks (ℓ := vbM.view.loc (c : Thread nD τ)) (q := fullShare) _ vslot_disjoint vslot_cover f)) $$ HB
  isplitr [HD]
  · iapply h0
    isplitl [HC]; · iexact HC
    isplitl [HB]; · iexact HB
    iexact HT
  · iexact HD

/-- Six free slots give them back. -/
theorem v_fini (fa : Buf (Elt F) (wvM.view.loc (c : Thread nD τ))) :
    iprop(Ring.AtW (vSlot c fa) (fun _ => none) ∗ (wvM.view.loc (c : Thread nD τ) ↦{Transfers.shareDrop fullShare 6} fa))
      ⊢ iprop((bigSep Finset.univ fun k : Fin 6 => (semVal ((c : Thread nD τ), vcellAt ![k.val] (cell_inb k)) 0 : sProp 𝕄))
        ∗ (∃ f, vbM.view.loc (c : Thread nD τ) ↦{fullShare} f) ∗ (wvM.view.loc (c : Thread nD τ) ↦{fullShare} fa)) := by
  have h0 : (Ring.AtW (vSlot c fa) (fun _ => none) : sProp 𝕄)
      ⊢ bigSep Finset.univ fun k : Fin 6 => iprop((semVal ((c : Thread nD τ), vcellAt ![k.val] (cell_inb k)) 0 : sProp 𝕄)
        ∗ iprop((∃ f, vbM.view.loc (c : Thread nD τ) ↦[(Rect.unit (s := S6x2560x512) ![k.val, 0, 0] S1x2560x512.size (vslot_inb k)).set]{fullShare} f) ∗ vtok c k Finset.univ fa)) := by
    unfold Ring.AtW
    refine BI.bigSep_mono fun k _ => ?_
    rw [vSlot_none]; unfold vFreeAt; rw [vslot_set]; exact Entails.refl _
  iintro ⟨HA, HD⟩
  ihave H := h0 $$ HA
  ihave H := (Entails.of_eq (bigSep_sep' Finset.univ _ _)) $$ H
  icases H with ⟨HC, H⟩
  ihave H := (Entails.of_eq (bigSep_sep' Finset.univ _ _)) $$ H
  icases H with ⟨HB, HT⟩
  isplitl [HC]; · iexact HC
  isplitl [HB]
  · iapply (Ring.pointsTo_blocks_join_exists (ℓ := vbM.view.loc (c : Thread nD τ)) (q := fullShare) _ vslot_disjoint vslot_cover vbM.view.junk)
    iexact HB
  iapply (Transfers.pointsTo_toks_join (S := Finset.univ) fullShare 6)
  isplitl [HD]; · iexact HD
  iexact HT

theorem mslot_set (k : Fin 6) : (mslotAt ![k.val, 0, 0] (mslot_inb k)).view.set = (Rect.unit (s := S6x160x512) ![k.val, 0, 0] S1x160x512.size (mslot_inb k)).set :=
  (View.set_reshape _ _).trans (View.set_slice_whole _ _)

theorem mslot_disjoint (k k' : Fin 6) (h : k ≠ k') :
    Disjoint (Rect.unit (s := S6x160x512) ![k.val, 0, 0] S1x160x512.size (mslot_inb k)).set (Rect.unit (s := S6x160x512) ![k'.val, 0, 0] S1x160x512.size (mslot_inb k')).set :=
  Ring.lead_disjoint (s := S6x160x512) 0 1 (fun k : Fin 6 => ![k.val, 0, 0]) S1x160x512.size mslot_inb (fun k => (Nat.one_mul _).symm) rfl k k' h

theorem mslot_cover : Finset.univ.biUnion (fun k : Fin 6 => (Rect.unit (s := S6x160x512) ![k.val, 0, 0] S1x160x512.size (mslot_inb k)).set) = Finset.univ :=
  Ring.lead_cover (s := S6x160x512) 0 1 (fun k : Fin 6 => ![k.val, 0, 0]) S1x160x512.size mslot_inb (fun k => (Nat.one_mul _).symm)
    (fun k a ha => by fin_cases a <;> first | exact absurd rfl ha | rfl) rfl
    (fun a ha => by fin_cases a <;> first | exact absurd rfl ha | rfl) rfl

/-- The six cells at zero, the ring's buffer and the array it is filled from make six free slots, beside a share of the array. -/
theorem m_init (fa : Buf (Elt F) (wmM.view.loc (c : Thread nD τ))) (f : Buf (Elt F) (mbM.view.loc (c : Thread nD τ))) :
    iprop((bigSep Finset.univ fun k : Fin 6 => (semVal ((c : Thread nD τ), mcellAt ![k.val] (cell_inb k)) 0 : sProp 𝕄))
        ∗ (mbM.view.loc (c : Thread nD τ) ↦{fullShare} f) ∗ (wmM.view.loc (c : Thread nD τ) ↦{fullShare} fa))
      ⊢ iprop(Ring.AtW (mSlot c fa) (fun _ => none) ∗ (wmM.view.loc (c : Thread nD τ) ↦{Transfers.shareDrop fullShare 6} fa)) := by
  have h0 : iprop((bigSep Finset.univ fun k : Fin 6 => (semVal ((c : Thread nD τ), mcellAt ![k.val] (cell_inb k)) 0 : sProp 𝕄))
        ∗ (bigSep Finset.univ fun k : Fin 6 => (mbM.view.loc (c : Thread nD τ) ↦[(Rect.unit (s := S6x160x512) ![k.val, 0, 0] S1x160x512.size (mslot_inb k)).set]{fullShare} f : sProp 𝕄))
        ∗ (bigSep Finset.univ fun k : Fin 6 => (mtok c k Finset.univ fa : sProp 𝕄)))
      ⊢ (Ring.AtW (mSlot c fa) (fun _ => none) : sProp 𝕄) := by
    rw [← bigSep_sep', ← bigSep_sep']
    unfold Ring.AtW
    refine BI.bigSep_mono fun k _ => ?_
    rw [mSlot_none]; unfold mFreeAt; rw [mslot_set]
    show iprop((semVal ((c : Thread nD τ), mcellAt ![k.val] (cell_inb k)) 0 : sProp 𝕄) ∗ (mbM.view.loc (c : Thread nD τ) ↦[(Rect.unit (s := S6x160x512) ![k.val, 0, 0] S1x160x512.size (mslot_inb k)).set]{fullShare} f) ∗ mtok c k Finset.univ fa)
      ⊢ iprop((semVal ((c : Thread nD τ), mcellAt ![k.val] (cell_inb k)) 0 : sProp 𝕄) ∗ (∃ f, mbM.view.loc (c : Thread nD τ) ↦[(Rect.unit (s := S6x160x512) ![k.val, 0, 0] S1x160x512.size (mslot_inb k)).set]{fullShare} f) ∗ mtok c k Finset.univ fa)
    iintro ⟨HC, HB, HT⟩
    isplitl [HC]; · iexact HC
    isplitl [HB]; · iexists f; iexact HB
    iexact HT
  iintro ⟨HC, HB, HS⟩
  ihave HS := (Transfers.pointsTo_toks_split (S := Finset.univ) fullShare 6) $$ HS
  icases HS with ⟨HD, HT⟩
  ihave HB := (Entails.of_eq (Ring.pointsTo_blocks (ℓ := mbM.view.loc (c : Thread nD τ)) (q := fullShare) _ mslot_disjoint mslot_cover f)) $$ HB
  isplitr [HD]
  · iapply h0
    isplitl [HC]; · iexact HC
    isplitl [HB]; · iexact HB
    iexact HT
  · iexact HD

/-- Six free slots give them back. -/
theorem m_fini (fa : Buf (Elt F) (wmM.view.loc (c : Thread nD τ))) :
    iprop(Ring.AtW (mSlot c fa) (fun _ => none) ∗ (wmM.view.loc (c : Thread nD τ) ↦{Transfers.shareDrop fullShare 6} fa))
      ⊢ iprop((bigSep Finset.univ fun k : Fin 6 => (semVal ((c : Thread nD τ), mcellAt ![k.val] (cell_inb k)) 0 : sProp 𝕄))
        ∗ (∃ f, mbM.view.loc (c : Thread nD τ) ↦{fullShare} f) ∗ (wmM.view.loc (c : Thread nD τ) ↦{fullShare} fa)) := by
  have h0 : (Ring.AtW (mSlot c fa) (fun _ => none) : sProp 𝕄)
      ⊢ bigSep Finset.univ fun k : Fin 6 => iprop((semVal ((c : Thread nD τ), mcellAt ![k.val] (cell_inb k)) 0 : sProp 𝕄)
        ∗ iprop((∃ f, mbM.view.loc (c : Thread nD τ) ↦[(Rect.unit (s := S6x160x512) ![k.val, 0, 0] S1x160x512.size (mslot_inb k)).set]{fullShare} f) ∗ mtok c k Finset.univ fa)) := by
    unfold Ring.AtW
    refine BI.bigSep_mono fun k _ => ?_
    rw [mSlot_none]; unfold mFreeAt; rw [mslot_set]; exact Entails.refl _
  iintro ⟨HA, HD⟩
  ihave H := h0 $$ HA
  ihave H := (Entails.of_eq (bigSep_sep' Finset.univ _ _)) $$ H
  icases H with ⟨HC, H⟩
  ihave H := (Entails.of_eq (bigSep_sep' Finset.univ _ _)) $$ H
  icases H with ⟨HB, HT⟩
  isplitl [HC]; · iexact HC
  isplitl [HB]
  · iapply (Ring.pointsTo_blocks_join_exists (ℓ := mbM.view.loc (c : Thread nD τ)) (q := fullShare) _ mslot_disjoint mslot_cover mbM.view.junk)
    iexact HB
  iapply (Transfers.pointsTo_toks_join (S := Finset.univ) fullShare 6)
  isplitl [HD]; · iexact HD
  iexact HT

end Cert.KernelIdeal.Hand

end
-- ==== Proof.Ideal.Body.lean ====
/-
  The kernel's call: the buffers, cells and arrays that it is handed, its run, and what every array holds afterwards.
-/
module

public import proofs.«01_k».proof.Proof.Ideal.Run
public import proofs.«01_k».proof.Proof.Ideal.Ends
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.DatRel

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

open Idealize.ShloMosaic.Pipeline (Dat RDat BodyObligationRel)

variable (m : (ℓ : Loc nD τ sig) → Buf (Elt F) ℓ) (ρ : Dev nD → PrngReg)

/-! ## Before the call -/

/-- What each buffer holds when the kernel is called. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program up to the kernel's call. -/
theorem hmain : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the kernel writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))
/-- No host operation before the kernel writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))
/-- No host operation before the kernel writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))
/-- No host operation before the kernel writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))
/-- No host operation before the kernel writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))
/-- No host operation before the kernel writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))

/-! ## What the kernel is handed -/

/-- The kernel's own twelve cells. -/
abbrev osem0 : Fin 12 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16] : Fin 12 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) := by
  rw [Pipeline.ownSems0_eq_of_list c osem0 [0, 1, 2, 3, 4, 5, 6, 7, 8, 9, 10, 11] (by decide) (by decide)]; rfl

/-- The two arrays that the kernel copies from. -/
def H0 : Finset (Ref sig .tc) := {main_arg3, main_arg4}
theorem H0_sub : H0 ⊆ Pipeline.restRefs sig spec0 := by decide
theorem hbmPts0_eq (c : Dev nD) :
    (bigSep H0 (fun b => ((c : Thread nD τ).loc b) ↦{fullShare} V m c b) : sProp 𝕄)
      = iprop((wvM.view.loc (c : Thread nD τ) ↦{fullShare} V m c main_arg3) ∗ (wmM.view.loc (c : Thread nD τ) ↦{fullShare} V m c main_arg4)) := by
  rw [BI.bigSep_eq_bigSepL_of_eq [main_arg3, main_arg4] (by decide) (by decide)]; rfl

theorem PhiD0_eq (c : Dev nD) :
    (Pipeline.ΦD osem0 spec0 H0 (V m) c : sProp 𝕄)
      = iprop(iprop((∃ f, xaM.view.loc (c : Thread nD τ) ↦{fullShare} f) ∗ (∃ f, xbM.view.loc (c : Thread nD τ) ↦{fullShare} f)
            ∗ (∃ f, xcM.view.loc (c : Thread nD τ) ↦{fullShare} f) ∗ (∃ f, sbM.view.loc (c : Thread nD τ) ↦{fullShare} f)
            ∗ (∃ f, vbM.view.loc (c : Thread nD τ) ↦{fullShare} f) ∗ (∃ f, mbM.view.loc (c : Thread nD τ) ↦{fullShare} f)
            ∗ (∃ f, tabM.view.loc (c : Thread nD τ) ↦{fullShare} f)) ∗ (∃ r, prngReg c r)
          ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0)
          ∗ iprop((wvM.view.loc (c : Thread nD τ) ↦{fullShare} V m c main_arg3) ∗ (wmM.view.loc (c : Thread nD τ) ↦{fullShare} V m c main_arg4))) := by
  rw [Pipeline.ΦD_eq, scopedRest0_eq, ownSems00_eq, hbmPts0_eq]; try rfl

theorem vcells_eq (c : Dev nD) : (bigSep Finset.univ fun k : Fin 6 => (semVal ((c : Thread nD τ), vcellAt ![k.val] (cell_inb k)) 0 : sProp 𝕄))
    = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [bigSep_univ_eq_bigSepL [(0 : Fin 6), 1, 2, 3, 4, 5] (by decide) (by decide)]; rfl
theorem mcells_eq (c : Dev nD) : (bigSep Finset.univ fun k : Fin 6 => (semVal ((c : Thread nD τ), mcellAt ![k.val] (cell_inb k)) 0 : sProp 𝕄))
    = iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) := by
  rw [bigSep_univ_eq_bigSepL [(0 : Fin 6), 1, 2, 3, 4, 5] (by decide) (by decide)]; rfl

/-- What window `w` reads of its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Nothing is named of the result here: what it meets is a relation. -/
def forgets0 : Fin 5 → Bool := fun w => decide (w = 4)

def dats (_ : Fin 1) (c : Dev nD) : Dat τ (Elt F) Unit ℕ (Pipeline.UD sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0 (F := F)) ⟨4, h⟩ t
  Φ _ := Pipeline.ΦD osem0 spec0 H0 (V m) c
  q _ := fullShare
  owed _ := 0

theorem A_eq (c : Dev nD) (w : Fin (cfg0 (F := F)).W) : (dats m 0 c).A w = V m c (Pipeline.arrRef spec0 w) := by dsimp only [dats]
theorem after0_0 (c : Dev nD) (t : Fin (cfg0 (F := F)).N) : (dats m 0 c).after 0 t = iblk m c 0 t := by dsimp only [dats]; rfl
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin (cfg0 (F := F)).N) : (dats m 0 c).after 1 t = iblk m c 1 t := by dsimp only [dats]; rfl
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin (cfg0 (F := F)).N) : (dats m 0 c).after 2 t = iblk m c 2 t := by dsimp only [dats]; rfl
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin (cfg0 (F := F)).N) : (dats m 0 c).after 3 t = iblk m c 3 t := by dsimp only [dats]; rfl
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

variable (S : Dev nD → ℕ → ℕ)

/-- The result meets `Done`. -/
def Rl (c : Dev nD) (w : Fin (cfg0 (F := F)).W) (t : Fin (cfg0 (F := F)).N) (X : (((cfg0 (F := F)).win w).block).Idx → Elt F ((cfg0 (F := F)).win w).elt) : Prop :=
  match w, X with
  | ⟨4, _⟩, X => Done (S c) (iblk m c 1 t) (iblk m c 2 t) (iblk m c 3 t) (V m c main_arg3) (V m c main_arg4) X
  | _, _ => True

def bodyPre (c : Dev nD) (t : Fin (cfg0 (F := F)).N) : sProp 𝕄 :=
  iprop((dats m 0 c).Φ t.castSucc ∗ (dats m 0 c).owesAt () t.castSucc
    ∗ (∃ d, owns (c : Thread nD τ) (Memref.whole cc0_stg0_0) fullShare ((dats m 0 c).before 0 t d))
    ∗ (∃ d, owns (c : Thread nD τ) (Memref.whole cc0_stg1_0) fullShare ((dats m 0 c).before 1 t d))
    ∗ (∃ d, owns (c : Thread nD τ) (Memref.whole cc0_stg2_0) fullShare ((dats m 0 c).before 2 t d))
    ∗ (∃ d, owns (c : Thread nD τ) (Memref.whole cc0_stg3_0) fullShare ((dats m 0 c).before 3 t d))
    ∗ (∃ Y, ⌜((dats m 0 c).toRRel forgets0 (Rl m S c)).Finds 4 t Y⌝ ∗ owns (c : Thread nD τ) (Memref.whole cc0_stg4_0) fullShare Y))
def bodyPost (c : Dev nD) (t : Fin (cfg0 (F := F)).N) : sProp 𝕄 :=
  iprop((dats m 0 c).Φ t.succ ∗ (dats m 0 c).owesAt () t.succ
    ∗ owns (c : Thread nD τ) (Memref.whole cc0_stg0_0) fullShare ((dats m 0 c).after 0 t)
    ∗ owns (c : Thread nD τ) (Memref.whole cc0_stg1_0) fullShare ((dats m 0 c).after 1 t)
    ∗ owns (c : Thread nD τ) (Memref.whole cc0_stg2_0) fullShare ((dats m 0 c).after 2 t)
    ∗ owns (c : Thread nD τ) (Memref.whole cc0_stg3_0) fullShare ((dats m 0 c).after 3 t)
    ∗ (∃ X, ⌜Rl m S c 4 t X⌝ ∗ owns (c : Thread nD τ) (Memref.whole cc0_stg4_0) fullShare X))

theorem sound_body (c : Dev nD) (t : Fin (cfg0 (F := F)).N) (hG : Groups (iblk m c 0 t) (S c)) :
    bodyPre m S c t ⊢ wp frame (wpE (defs₀ (F := F)) 𝒱₀ (c : Thread nD τ) none) Set.univ (bodyAt0 t) (fun _ => bodyPost m S c t) := by
  unfold bodyPre bodyPost
  rw [show (bodyAt0 (F := F) t) = cc0_sparse24_gmm (F := F) gsM (wh _) xsM (wh _) wsM (wh _) xM (wh _) wvM (wh _) wmM (wh _) yM (wh _) xaM (wh _) xbM (wh _) xcM (wh _) sbM (wh _) tabM (wh _) vbM (wh _) mbM (wh _) cc0_scratch7 cc0_scratch8 from rfl,
    show (dats m 0 c).Φ t.succ = Pipeline.ΦD osem0 spec0 H0 (V m) c from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl]
  simp only [before0_0, before0_1, before0_2, before0_3, after0_0, after0_1, after0_2, after0_3]
  iintro ⟨⟨⟨⟨%A0, HA⟩, ⟨%B0, HB⟩, ⟨%C0, HC⟩, ⟨%D0, HD⟩, ⟨%vb0, HVB⟩, ⟨%mb0, HMB⟩, ⟨%T0, HT⟩⟩, Hg, ⟨Hq0, Hq1, Hq2, Hq3, Hq4, Hq5, Hq6, Hq7, Hq8, Hq9, Hq10, Hq11⟩, ⟨Hv, Hm⟩⟩, ⟨%W, %hW, HO⟩, ⟨%d0, H0⟩, ⟨%d1, H1⟩, ⟨%d2, H2⟩, ⟨%d3, H3⟩, ⟨%Y, %hY, H4⟩⟩
  ihave H0 := (Entails.of_eq (owns_whole (c : Thread nD τ) cc0_stg0_0 fullShare (iblk m c 0 t))) $$ H0
  ihave H1 := (Entails.of_eq (owns_whole (c : Thread nD τ) cc0_stg1_0 fullShare (iblk m c 1 t))) $$ H1
  ihave H2 := (Entails.of_eq (owns_whole (c : Thread nD τ) cc0_stg2_0 fullShare (iblk m c 2 t))) $$ H2
  ihave H3 := (Entails.of_eq (owns_whole (c : Thread nD τ) cc0_stg3_0 fullShare (iblk m c 3 t))) $$ H3
  ihave H4 := (Entails.of_eq (owns_whole (c : Thread nD τ) cc0_stg4_0 fullShare Y)) $$ H4
  ihave HV := (v_init c (V m c main_arg3) vb0) $$ [Hq0 Hq1 Hq2 Hq3 Hq4 Hq5 HVB Hv]
  · rw [vcells_eq]
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [HVB]; · iexact HVB
    iexact Hv
  icases HV with ⟨HV, Hv⟩
  ihave HM := (m_init c (V m c main_arg4) mb0) $$ [Hq6 Hq7 Hq8 Hq9 Hq10 Hq11 HMB Hm]
  · rw [mcells_eq]
    isplitl [Hq6 Hq7 Hq8 Hq9 Hq10 Hq11]
    · isplitl [Hq6]; · iexact Hq6
      isplitl [Hq7]; · iexact Hq7
      isplitl [Hq8]; · iexact Hq8
      isplitl [Hq9]; · iexact Hq9
      isplitl [Hq10]; · iexact Hq10
      iexact Hq11
    isplitl [HMB]; · iexact HMB
    iexact Hm
  icases HM with ⟨HM, Hm⟩
  iapply (kernel_run c _ hG hG.le T0 (V m c main_arg3) (V m c main_arg4) (iblk m c 1 t) (iblk m c 2 t) (iblk m c 3 t) Y A0 B0 C0 D0 W)
  isplitl [H0]; · iexact H0
  isplitl [H1]; · iexact H1
  isplitl [H2]; · iexact H2
  isplitl [H3]; · iexact H3
  isplitl [H4]; · iexact H4
  isplitl [HA]; · iexact HA
  isplitl [HB]; · iexact HB
  isplitl [HC]; · iexact HC
  isplitl [HD]; · iexact HD
  isplitl [HT]; · iexact HT
  isplitl [HV]; · iexact HV
  isplitl [HM]; · iexact HM
  isplitl [HO]; · iexact HO
  iintro ⟨H0, H1, H2, H3, ⟨%fy, H4, %hD⟩, HA, HB, HC, HD, HT, HV, HM, ⟨%W', HO⟩⟩
  ihave HV := (v_fini c (V m c main_arg3)) $$ [HV Hv]
  · isplitl [HV]; · iexact HV
    iexact Hv
  icases HV with ⟨HQ, HVB, Hv⟩
  ihave HQ := (Entails.of_eq (vcells_eq c)) $$ HQ
  icases HQ with ⟨Hq0, Hq1, Hq2, Hq3, Hq4, Hq5⟩
  ihave HM := (m_fini c (V m c main_arg4)) $$ [HM Hm]
  · isplitl [HM]; · iexact HM
    iexact Hm
  icases HM with ⟨HQ, HMB, Hm⟩
  ihave HQ := (Entails.of_eq (mcells_eq c)) $$ HQ
  icases HQ with ⟨Hq6, Hq7, Hq8, Hq9, Hq10, Hq11⟩
  isplitl [HA HB HC HD HVB HMB HT Hg Hq0 Hq1 Hq2 Hq3 Hq4 Hq5 Hq6 Hq7 Hq8 Hq9 Hq10 Hq11 Hv Hm]
  · isplitl [HA HB HC HD HVB HMB HT]
    · isplitl [HA]; · iexact HA
      isplitl [HB]; · iexact HB
      isplitl [HC]; · iexact HC
      isplitl [HD]; · iexact HD
      isplitl [HVB]; · iexact HVB
      isplitl [HMB]; · iexact HMB
      iexact HT
    isplitl [Hg]; · iexact Hg
    isplitl [Hq0 Hq1 Hq2 Hq3 Hq4 Hq5 Hq6 Hq7 Hq8 Hq9 Hq10 Hq11]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      iexact Hq11
    isplitl [Hv]; · iexact Hv
    iexact Hm
  isplitl [HO]
  · iexists W'; isplitr; · ipureintro; exact fun _ _ => Or.inl trivial
    iexact HO
  isplitl [H0]; · iapply (Entails.of_eq (owns_whole (c : Thread nD τ) cc0_stg0_0 fullShare (iblk m c 0 t)).symm); iexact H0
  isplitl [H1]; · iapply (Entails.of_eq (owns_whole (c : Thread nD τ) cc0_stg1_0 fullShare (iblk m c 1 t)).symm); iexact H1
  isplitl [H2]; · iapply (Entails.of_eq (owns_whole (c : Thread nD τ) cc0_stg2_0 fullShare (iblk m c 2 t)).symm); iexact H2
  isplitl [H3]; · iapply (Entails.of_eq (owns_whole (c : Thread nD τ) cc0_stg3_0 fullShare (iblk m c 3 t)).symm); iexact H3
  iexists fy
  isplitr
  · ipureintro; exact hD
  iapply (Entails.of_eq (owns_whole (c : Thread nD τ) cc0_stg4_0 fullShare fy).symm); iexact H4

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) (hG : ∀ t, Groups (iblk m c 0 t) (S c)) :
    BodyObligationRel (dats (F := F) m 0 c) (defs₀ (F := F)) 𝒱₀ () Set.univ forgets0 (Rl m S c) := fun t => by
  rw [bigSep_W0, bigSep_W0, defs₀_row]
  exact triple_restated (sound_body m S c t (hG t)) rfl .rfl fun _ => .rfl

/-! ## The run -/

set_option backward.isDefEq.respectTransparency.types false in
theorem run_main (hG : ∀ c t, Groups (iblk m c 0 t) (S c)) :
    θ_run defs (onTc (τ := τ) (main (F := F))) (s₀ m ρ)
      (fun r => Pipeline.RDat.FramePost (cfgs 0) (fun c => (dats m 0 c).toRRel forgets0 (Rl m S c)) (V m) r ∧ r.2.sem = fun _ => 0) :=
  Pipeline.RDat.θ_run_frame_dma (Q' := _) cfgs (0 : Fin 1) launch0 osem0 defs₀ 𝒱₀ (fun c => (dats m 0 c).toRRel forgets0 (Rl m S c)) ownSemFacts0 H0 H0_sub m ρ main
    (hbody := fun c => (body_obligation m S c (hG c)).toRRel) (hshare := fun c => (dats m 0 c).share_full fun _ => rfl)
    (howed := fun _ _ => rfl) (V := V m) (hmain := hmain m) (hA := A_eq m)
    (hin := fun _ => .rfl) (hout := fun _ => .rfl)

end Cert.KernelIdeal.Hand

end
-- ==== Proof.Ideal.Frame.lean ====
/-
  The frame of the kernel: from sizes that fit, the program terminates without fault and its arguments end as they began.
-/
module

public import proofs.«01_k».proof.Proof.Ideal.Body
public import proofs.«01_k».proof.Proof.Sizes

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL.Sem

variable {F : FTy → Type} [FloatOps F] [∀ e, Nonempty (Elt F e)]
variable (m : (ℓ : Loc nD τ sig) → Buf (Elt F) ℓ) (ρ : Dev nD → PrngReg)

/-- The rows of the first `k` groups, on core `c`. -/
abbrev Sm (c : Dev nD) : ℕ → ℕ := Sof (m ((c : Thread nD τ).loc main_arg2))

/-- The sizes that the kernel is handed. -/
theorem groups_of (c : Dev nD) (h : Fits (m ((c : Thread nD τ).loc main_arg2))) (t : Fin (cfg0 (F := F)).N) :
    Groups (iblk m c 0 t) (Sm m c) := by
  refine ⟨rfl, fun k hk => Sof_mono _ (Nat.le_succ k), fun k hk => h.le hk, fun k hk y hy => ?_⟩
  have e1 : gsM.view.read (Elt F) (iblk m c 0 t) y = m ((c : Thread nD τ).loc main_arg2) (ix ⟨k, hk⟩) := by
    rw [← V_main_arg2 m c]
    obtain ⟨t, ht⟩ := t
    have h0 : t = 0 := Nat.lt_one_iff.mp ht
    subst h0
    show V m c main_arg2 _ = V m c main_arg2 _
    congr 1
    funext a; fin_cases a
    refine Fin.ext ?_
    show 0 * 21 + 1 * (y 0).val = k
    omega
  rw [e1]
  show _ = wd (Sof (m ((c : Thread nD τ).loc main_arg2)) (k + 1) - Sof (m ((c : Thread nD τ).loc main_arg2)) k)
  rw [Sof_succ _ hk, Nat.add_sub_cancel_left]
  unfold wd; simp

/-- The arguments end as they began. -/
theorem kept (c : Dev nD) {S : Dev nD → ℕ → ℕ} {r : PUnit × MemSt nD τ sig (Elt F)}
    (hr : Pipeline.RDat.FramePost (cfgs (F := F) 0) (fun c => (dats m 0 c).toRRel forgets0 (Rl m S c)) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine ⟨?_, ?_, ?_, ?_, ?_, ?_⟩
  · exact (hr.arr_in c 3 rfl).trans ((A_eq m c 3).trans (V_main_arg0 m c))
  · exact ((hr c).2 main_arg1 (Pipeline.mem_restRefs_of main_arg1 (by decide) (by intro w; fin_cases w <;> exact fun h => nomatch h))).trans (V_main_arg1 m c)
  · exact (hr.arr_in c 0 rfl).trans ((A_eq m c 0).trans (V_main_arg2 m c))
  · exact ((hr c).2 main_arg3 (Pipeline.mem_restRefs_of main_arg3 (by decide) (by intro w; fin_cases w <;> exact fun h => nomatch h))).trans (V_main_arg3 m c)
  · exact ((hr c).2 main_arg4 (Pipeline.mem_restRefs_of main_arg4 (by decide) (by intro w; fin_cases w <;> exact fun h => nomatch h))).trans (V_main_arg4 m c)
  · exact (hr.arr_in c 2 rfl).trans ((A_eq m c 2).trans (V_main_arg5 m c))

/-- The frame. -/
theorem frame (h : ∀ c : Dev nD, Fits (m ((c : Thread nD τ).loc main_arg2))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  exact (θ_run defs _ _).mono (fun r hr => ⟨fun c => kept m c hr.1, hr.2⟩)
    (run_main m ρ (fun c => Sm m c) fun c t => groups_of m c (h c) t)

end Cert.KernelIdeal.Hand

end
-- ==== Proof.Ideal.Sums.lean ====
/-
  The values of one block, at the extended reals: each packed value is multiplied by the entry of the row that its position names.
-/
module

public import proofs.«01_k».proof.Proof.Ideal.Block
public import Idealize.ShloMosaic.Lib.Pointwise

@[expose] public section

noncomputable section

namespace Cert.KernelIdeal.Hand

open Cert.KernelIdeal Cert.KernelIdeal.Gen Cert.Hand
open Idealize.ShloMosaic Idealize.ShloMosaic.TcCoe Idealize.ShloMosaic.Tactic

/-- The low bit of the code of position `t` in the word `w`, -/
def loB (w : BitVec 32) (t : ℕ) : Bool := (w ^^^ 3435973836#32).getLsbD (2 * t)
/-- and its high bit. -/
def hiB (w : BitVec 32) (t : ℕ) : Bool := (w ^^^ 3435973836#32).getLsbD (2 * t + 1)

theorem core (x : BitVec 32) (t : ℕ) (ht : t < 16) : (((x &&& 1431655765#32) * 3#32) >>> (2 * t)) &&& 3#32 = if x.getLsbD (2 * t) then 3#32 else 0#32 := by
  have h3 : (x &&& 1431655765#32) * 3#32 = (x &&& 1431655765#32) ||| ((x &&& 1431655765#32) <<< 1) := by
    rw [← BitVec.add_eq_or_of_and_eq_zero]
    · rw [show (3#32 : BitVec 32) = 1#32 + 2#32 from rfl, BitVec.mul_add, BitVec.mul_one]
      congr 1
      rw [BitVec.shiftLeft_eq_mul_twoPow]
      rfl
    · apply BitVec.eq_of_getLsbD_eq
      intro i hi
      interval_cases i <;> simp
  rw [h3]
  apply BitVec.eq_of_getLsbD_eq
  intro i hi
  by_cases h2 : 2 ≤ i
  · have e3 : (3#32 : BitVec 32).getLsbD i = false := by
      clear h3; interval_cases i <;> rfl
    cases x.getLsbD (2 * t) <;> simp [e3]
  · have hi2 : i < 2 := by omega
    clear h2
    interval_cases t <;> interval_cases i <;> simp <;> (split <;> simp_all)

theorem sel_ofBool {α : Type} (b : Bool) (x y : α) : Scalar.select (BitVec.ofBool b) x y = if b = true then x else y := by cases b <;> rfl

theorem shift_word (k : ℕ) (hk : k < 256) : IntOp.muli (2#32) (IntOp.andi (BitVec.ofNat 32 k) 15#32) = BitVec.ofNat 32 (2 * (k % 16)) := by
  have h : IntOp.andi (BitVec.ofNat 32 k) 15#32 = BitVec.ofNat 32 (k % 16) := by
    apply BitVec.eq_of_toNat_eq
    show (BitVec.ofNat 32 k &&& 15#32).toNat = _
    rw [BitVec.toNat_and]
    simp only [BitVec.toNat_ofNat]
    rw [Nat.mod_eq_of_lt (by omega : k < 2 ^ 32), show 15 % 2 ^ 32 = 2 ^ 4 - 1 from rfl, Nat.and_two_pow_sub_one_eq_mod]
    omega
  rw [h]
  apply BitVec.eq_of_toNat_eq
  show (2#32 * BitVec.ofNat 32 (k % 16)).toNat = _
  rw [BitVec.toNat_mul]
  simp only [BitVec.toNat_ofNat]
  omega

theorem mask_word (x : BitVec 32) (k : ℕ) (hk : k < 256) :
    IntOp.cmpi .ne (IntOp.andi (IntOp.shrui .vector (IntOp.muli (IntOp.andi x 1431655765#32) 3#32) (IntOp.muli (2#32) (IntOp.andi (BitVec.ofNat 32 k) 15#32))) 3#32) 0#32
      = BitVec.ofBool (x.getLsbD (2 * (k % 16))) := by
  rw [shift_word k hk]
  have hs : IntOp.shrui .vector (IntOp.muli (IntOp.andi x 1431655765#32) 3#32) (BitVec.ofNat 32 (2 * (k % 16))) = ((x &&& 1431655765#32) * 3#32) >>> (2 * (k % 16)) := by
    have e : (BitVec.ofNat 32 (2 * (k % 16))).toNat = 2 * (k % 16) := by rw [BitVec.toNat_ofNat]; omega
    unfold IntOp.shrui
    rw [if_pos (by rw [e]; omega)]
    show ((x &&& 1431655765#32) * 3#32) >>> (BitVec.ofNat 32 (2 * (k % 16))).toNat = _
    rw [e]
  rw [hs]
  have := core x (k % 16) (Nat.mod_lt _ (by decide))
  unfold IntOp.cmpi IntOp.andi
  rw [this]
  cases x.getLsbD (2 * (k % 16)) <;> rfl

theorem pay16_at (m : Vec Ideal S1x16x256 .i32) (k q : Fin 256) :
    k0_pay16 (F := Ideal) m (ix2 k q) = BitVec.ofBool (loB (m (ix3 0 ⟨k.val / 16, by omega⟩ q)) (k.val % 16)) := by
  pointwise [k0_pay16, k0_pay15]
  exact mask_word _ k.val k.isLt
theorem pay17_at (m : Vec Ideal S1x16x256 .i32) (k q : Fin 256) :
    k0_pay17 (F := Ideal) m (ix2 k q) = BitVec.ofBool (hiB (m (ix3 0 ⟨k.val / 16, by omega⟩ q)) (k.val % 16)) := by
  pointwise [k0_pay17, k0_pay15]
  refine (mask_word _ k.val k.isLt).trans ?_
  congr 1
  unfold hiB
  generalize m _ = w
  have : k.val % 16 < 16 := Nat.mod_lt _ (by decide)
  generalize k.val % 16 = t at *
  show ((w ^^^ 3435973836#32).sshiftRight' 1#32).getLsbD (2 * t) = _
  rw [BitVec.sshiftRight_eq']
  rw [BitVec.getLsbD_sshiftRight]
  show (!decide (32 ≤ 2 * t) && if 1 + 2 * t < 32 then (w ^^^ 3435973836#32).getLsbD (1 + 2 * t) else _) = _
  rw [if_pos (by omega), Nat.add_comm 1]
  simp [show ¬ 32 ≤ 2 * t by omega]

/-- The neighbour of a row in its pair. -/
def flip (k : Fin 256) : Fin 256 := if h : k.val % 2 = 0 then ⟨k.val + 1, by omega⟩ else ⟨k.val - 1, by omega⟩

theorem flip_flip (k : Fin 256) : flip (flip k) = k := by
  unfold flip
  apply Fin.ext
  by_cases h : k.val % 2 = 0
  · have h' : ¬ (k.val + 1) % 2 = 0 := by omega
    simp [h, h']
  · have h' : (k.val - 1) % 2 = 0 := by omega
    simp [h, h']; omega

/-- The exchange of the rows of each pair, as the kernel writes it. -/
def swap (x : FVec Ideal S256x256 .fp8e4m3) : FVec Ideal S256x256 .fp8e4m3 :=
  select (cmpi .eq (andi (iota .tc S256x256 32 [0] iota_S256x256_d0_w32) (broadcast S256x256 1#32)) (broadcast S256x256 0#32))
    (concatenate S256x256 0 [⟨S255x256, extractStridedSlice S255x256 ![1, 0] x slices_S256x256_o1_0_S255x256⟩, ⟨S1x256, extractStridedSlice S1x256 ![0, 0] x slices_S256x256_o0_0_S1x256⟩] concatenates_S255x256_S1x256_S256x256_d0)
    (concatenate S256x256 0 [⟨S1x256, extractStridedSlice S1x256 ![255, 0] x slices_S256x256_o255_0_S1x256⟩, ⟨S255x256, extractStridedSlice S255x256 ![0, 0] x slices_S256x256_o0_0_S255x256⟩] concatenates_S1x256_S255x256_S256x256_d0)

theorem even_word (k : ℕ) (hk : k < 256) : IntOp.cmpi .eq (IntOp.andi (BitVec.ofNat 32 k) 1#32) 0#32 = BitVec.ofBool (decide (k % 2 = 0)) := by
  have h : IntOp.andi (BitVec.ofNat 32 k) 1#32 = BitVec.ofNat 32 (k % 2) := by
    apply BitVec.eq_of_toNat_eq
    show (BitVec.ofNat 32 k &&& 1#32).toNat = _
    rw [BitVec.toNat_and]
    simp only [BitVec.toNat_ofNat]
    rw [Nat.mod_eq_of_lt (by omega : k < 2 ^ 32), show 1 % 2 ^ 32 = 2 ^ 1 - 1 from rfl, Nat.and_two_pow_sub_one_eq_mod]
    omega
  rw [h]
  rcases Nat.mod_two_eq_zero_or_one k with e | e <;> rw [e] <;> rfl

theorem swap_at (x : FVec Ideal S256x256 .fp8e4m3) (k q : Fin 256) : swap x (ix2 k q) = x (ix2 (flip k) q) := by
  pointwise [swap]
  rw [even_word k.val k.isLt, sel_ofBool]
  unfold flip
  have := k.isLt
  by_cases h : k.val % 2 = 0
  · have hk : k.val < 255 := by omega
    simp [h, hk]
    first
      | rfl
      | (congr 2; apply Fin.ext; simp; omega)
  · have hk : ¬ k.val < 1 := by omega
    simp [h, hk]

/-- Row `k`'s low code bit in a block's words, -/
def lo (m : Vec Ideal S1x16x256 .i32) (q k : Fin 256) : Bool := loB (m (ix3 0 ⟨k.val / 16, by omega⟩ q)) (k.val % 16)
/-- and its high one. -/
def hi (m : Vec Ideal S1x16x256 .i32) (q k : Fin 256) : Bool := hiB (m (ix3 0 ⟨k.val / 16, by omega⟩ q)) (k.val % 16)

theorem xor_word (a b : Bool) : IntOp.xori (BitVec.ofBool a) (BitVec.ofBool b) = BitVec.ofBool (a ^^ b) := by cases a <;> cases b <;> rfl

theorem blkO_at (acc : FVec Ideal S128x256 .f32) (v : Vec Ideal S1x256x256 .fp8e4m3) (m : Vec Ideal S1x16x256 .i32) (xa xb xc : Vec Ideal S128x256 .fp8e4m3)
    (r : Fin 128) (q : Fin 256) :
    blkO acc v m xa xb xc (ix2 r q) = acc (ix2 r q) + ∑ k : Fin 256, xa (ix2 r k) * (if (lo m q k ^^ hi m q k) = true then 0 else v (ix3 0 k q))
      + ∑ k : Fin 256, xb (ix2 r k) * (if lo m q k = true then v (ix3 0 k q) else 0)
      + ∑ k : Fin 256, xc (ix2 r k) * (if hi m q k = true then v (ix3 0 k q) else 0) := by
  have hz : Ideal.ofBits FTy.fp8e4m3 0#8 = 0 := Ideal.ofBits_zero .fp8e4m3
  unfold blkO
  pointwise [k0_pay19, k0_pay18, k0_pay13, k0_pay14]
  simp only [pay16_at, pay17_at, xor_word, sel_ofBool, hz]
  rfl

theorem blkE_eq (acc : FVec Ideal S128x256 .f32) (v : Vec Ideal S1x256x256 .fp8e4m3) (m : Vec Ideal S1x16x256 .i32) (xa xb : FVec Ideal S128x256 .fp8e4m3) :
    blkE acc v m xa xb = addf (addf acc (matmul (φ₁ := .fp8e4m3) dot_S128x256_S256x256_S128x256_1_0_0_1_n_n none xa
        (select (xori (k0_pay16 (F := Ideal) m) (k0_pay17 (F := Ideal) m)) k0_pay7 (k0_pay6 v)) (constant S128x256 .f32 0x00000000#32)))
      (matmul (φ₁ := .fp8e4m3) dot_S128x256_S256x256_S128x256_1_0_0_1_n_n none xb
        (select (k0_pay16 (F := Ideal) m) (select (k0_pay16 (F := Ideal) m) (k0_pay6 v) k0_pay7) (swap (select (k0_pay17 (F := Ideal) m) (k0_pay6 v) k0_pay7))) (constant S128x256 .f32 0x00000000#32)) := rfl

theorem blkE_at (acc : FVec Ideal S128x256 .f32) (v : Vec Ideal S1x256x256 .fp8e4m3) (m : Vec Ideal S1x16x256 .i32) (xa xb : Vec Ideal S128x256 .fp8e4m3)
    (r : Fin 128) (q : Fin 256) :
    blkE acc v m xa xb (ix2 r q) = acc (ix2 r q) + ∑ k : Fin 256, xa (ix2 r k) * (if (lo m q k ^^ hi m q k) = true then 0 else v (ix3 0 k q))
      + ∑ k : Fin 256, xb (ix2 r k) * (if lo m q k = true then v (ix3 0 k q) else if hi m q (flip k) = true then v (ix3 0 (flip k) q) else 0) := by
  have hz : Ideal.ofBits FTy.fp8e4m3 0#8 = 0 := Ideal.ofBits_zero .fp8e4m3
  rw [blkE_eq]
  pointwise [k0_pay6, k0_pay7]
  simp only [pay16_at, pay17_at, swap_at]
  pointwise [k0_pay6, k0_pay7]
  simp only [pay16_at, pay17_at, swap_at, xor_word, sel_ofBool, hz]
  have hh : ∀ k : Fin 256, (if lo m q k = true then (if lo m q k = true then v (ix3 0 k q) else 0) else if hi m q (flip k) = true then v (ix3 0 (flip k) q) else 0)
      = (if lo m q k = true then v (ix3 0 k q) else if hi m q (flip k) = true then v (ix3 0 (flip k) q) else (0 : EReal)) := by
    intro k; split_ifs <;> rfl
  refine congrArg₂ (· + ·) rfl (Finset.sum_congr rfl fun k _ => congrArg (xb (ix2 r k) * ·) (hh k))

/-- What a row's packed value is multiplied by. -/
def pick (m : Vec Ideal S1x16x256 .i32) (xa xb xc : Vec Ideal S128x256 .fp8e4m3) (r : Fin 128) (q k : Fin 256) : EReal :=
  if lo m q k = true then xb (ix2 r k) else if hi m q k = true then xc (ix2 r k) else xa (ix2 r k)

theorem blkO_val (acc : FVec Ideal S128x256 .f32) (v : Vec Ideal S1x256x256 .fp8e4m3) (m : Vec Ideal S1x16x256 .i32) (xa xb xc : Vec Ideal S128x256 .fp8e4m3)
    (r : Fin 128) (q : Fin 256) (h : ∀ k, lo m q k = true → hi m q k = true → False) :
    blkO acc v m xa xb xc (ix2 r q) = acc (ix2 r q) + ∑ k : Fin 256, pick m xa xb xc r q k * v (ix3 0 k q) := by
  rw [blkO_at, add_assoc, add_assoc, ← Finset.sum_add_distrib, ← Finset.sum_add_distrib]
  refine congrArg (acc (ix2 r q) + ·) (Finset.sum_congr rfl fun k _ => ?_)
  have := h k
  unfold pick
  cases h1 : lo m q k <;> cases h2 : hi m q k <;> simp_all

theorem blkE_val (acc : FVec Ideal S128x256 .f32) (v : Vec Ideal S1x256x256 .fp8e4m3) (m : Vec Ideal S1x16x256 .i32) (xa xb xc : Vec Ideal S128x256 .fp8e4m3)
    (r : Fin 128) (q : Fin 256) (h : ∀ k, lo m q k = true → hi m q k = true → False) (hf : ∀ k, lo m q k = true → hi m q (flip k) = true → False)
    (hc : ∀ k, xc (ix2 r k) = xb (ix2 r (flip k))) :
    blkE acc v m xa xb (ix2 r q) = acc (ix2 r q) + ∑ k : Fin 256, pick m xa xb xc r q k * v (ix3 0 k q) := by
  rw [← blkO_val acc v m xa xb xc r q h, blkE_at, blkO_at]
  rw [add_assoc _ (∑ k : Fin 256, xb (ix2 r k) * _), ]
  refine congrArg (acc (ix2 r q) + ∑ k : Fin 256, xa (ix2 r k) * (if (lo m q k ^^ hi m q k) = true then 0 else v (ix3 0 k q)) + ·) ?_
  have e : (∑ k : Fin 256, xc (ix2 r k) * (if hi m q k = true then v (ix3 0 k q) else 0))
      = ∑ k : Fin 256, xb (ix2 r k) * (if hi m q (flip k) = true then v (ix3 0 (flip k) q) else 0) := by
    refine Fintype.sum_equiv (Function.Involutive.toPerm flip flip_flip) _ _ fun k => ?_
    show xc (ix2 r k) * _ = xb (ix2 r (flip k)) * (if hi m q (flip (flip k)) = true then v (ix3 0 (flip (flip k)) q) else 0)
    rw [flip_flip, hc]
  rw [e, ← Finset.sum_add_distrib]
  refine Finset.sum_congr rfl fun k _ => ?_
  have := hf k
  cases h1 : lo m q k <;> cases h2 : hi m q (flip k) <;> simp_all

theorem acc10_val (v : ℕ → Vec Ideal S1x256x256 .fp8e4m3) (m : ℕ → Vec Ideal S1x16x256 .i32) (xa xb xc : ℕ → Vec Ideal S128x256 .fp8e4m3)
    (r : Fin 128) (q : Fin 256) (h : ∀ i < 10, ∀ k, lo (m i) q k = true → hi (m i) q k = true → False)
    (hf : ∀ i < 10, ∀ k, lo (m i) q k = true → hi (m i) q (flip k) = true → False)
    (hc : ∀ i < 10, ∀ k, xc i (ix2 r k) = xb i (ix2 r (flip k))) :
    acc10 v m xa xb xc (ix2 r q) = ∑ i ∈ Finset.range 10, ∑ k : Fin 256, pick (m i) (xa i) (xb i) (xc i) r q k * v i (ix3 0 k q) := by
  unfold acc10
  have E := fun acc i (hi : i < 10) => blkE_val acc (v i) (m i) (xa i) (xb i) (xc i) r q (h i hi) (hf i hi) (hc i hi)
  have O := fun acc i (hi : i < 10) => blkO_val acc (v i) (m i) (xa i) (xb i) (xc i) r q (h i hi)
  have hz : k0_pay5 (F := Ideal) (ix2 r q) = 0 := by
    pointwise [k0_pay5]
  rw [O _ 9 (by decide), E _ 8 (by decide), O _ 7 (by decide), E _ 6 (by decide), O _ 5 (by decide), E _ 4 (by decide), O _ 3 (by decide), E _ 2 (by decide), O _ 1 (by decide), E _ 0 (by decide), hz]
  simp only [Finset.sum_range_succ, Finset.sum_range_zero]

theorem outH_at (mask : IVec S128x256 1) (sc acc : FVec Ideal S128x256 .f32) (ws : Vec Ideal S1x256 .f32) (y : Vec Ideal S128x256 .bf16) (r : Fin 128) (q : Fin 256) :
    outH mask sc acc ws y (ix2 r q) = Scalar.select (mask (ix2 r q)) (acc (ix2 r q) * sc (ix2 r q) * ws (ix2 0 q)) (y (ix2 r q)) := by
  pointwise [outH]

theorem pay3_at (a b c : ℕ) (ha : a ≤ 256) (hb : b ≤ 1000) (hc : c ≤ 1000) (r : Fin 128) (q : Fin 256) :
    k0_pay3 (F := Ideal) (wd a) (wd b) (wd c) (ix2 r q) = BitVec.ofBool (decide (b ≤ a + r.val ∧ a + r.val < c)) := by
  pointwise [k0_pay3]
  have e : IntOp.addi (wd a) (BitVec.ofNat 32 r.val) = wd (a + r.val) := by
    unfold wd
    exact (BitVec.ofNat_add _ _).symm
  have := r.isLt
  have e1 : IntOp.cmpi .sge (wd (a + r.val)) (wd b) = BitVec.ofBool (decide (b ≤ a + r.val)) := by
    show BitVec.ofBool (decide ((wd b).toInt ≤ (wd (a + r.val)).toInt)) = _
    rw [toInt_wd (by omega), toInt_wd (by omega)]; congr 1; exact decide_eq_decide.mpr (by omega)
  have e2 : IntOp.cmpi .slt (wd (a + r.val)) (wd c) = BitVec.ofBool (decide (a + r.val < c)) := by
    show BitVec.ofBool (decide ((wd (a + r.val)).toInt < (wd c).toInt)) = _
    rw [toInt_wd (by omega), toInt_wd (by omega)]; congr 1; exact decide_eq_decide.mpr (by omega)
  rw [e, e1, e2]
  by_cases h1 : b ≤ a + r.val <;> by_cases h2 : a + r.val < c <;> simp [h1, h2] <;> rfl

theorem pay4_at (v : Vec Ideal S128x128 .f32) (r : Fin 128) (q : Fin 256) :
    k0_pay4 (F := Ideal) v (ix2 r q) = v (ix2 r ⟨q.val % 128, Nat.mod_lt _ (by decide)⟩) := by
  pointwise [k0_pay4]
  have := q.isLt
  split_ifs with h
  all_goals first
    | exact congrArg v (congrArg (ix2 r) (Fin.ext (show q.val = q.val % 128 by omega)))
    | exact congrArg v (congrArg (ix2 r) (Fin.ext (show q.val - 128 = q.val % 128 by omega)))

end Cert.KernelIdeal.Hand

end
-- ==== Proof.Ideal.Picks.lean ====
/-
  What the operands hold, at the extended reals, and which entry of the row each packed value meets.
-/
module

public import proofs.«01_k».proof.Proof.Ideal.Sums
public import proofs.«01_k».proof.Proof.Ideal.Ops
public import Idealize.ShloMosaic.Lib.Pointwise
public import Idealize.ShloMosaic.Lib.IdealHost

@[expose] public section

noncomputable section

namespace Cert.KernelIdeal.Hand

open Cert.KernelIdeal Cert.KernelIdeal.Gen Cert.Hand
open Idealize.ShloMosaic Idealize.ShloMosaic.TcCoe Idealize.ShloMosaic.Tactic

/-- The position that field `t` of a word names. -/
def code (w : BitVec 32) (t : ℕ) : ℕ := (w.getLsbD (2 * t)).toNat + 2 * (w.getLsbD (2 * t + 1)).toNat

theorem code_lt (w : BitVec 32) (t : ℕ) : code w t < 4 := by
  unfold code
  cases w.getLsbD (2 * t) <;> cases w.getLsbD (2 * t + 1) <;> decide

theorem loB_eq (w : BitVec 32) (t : ℕ) (ht : t < 16) : loB w t = (w.getLsbD (2 * t) ^^ decide (t % 2 = 1)) := by
  unfold loB
  rw [BitVec.getLsbD_xor]
  congr 1
  have : ∀ t : Fin 16, (3435973836#32).getLsbD (2 * t.val) = decide (t.val % 2 = 1) := by decide
  exact this ⟨t, ht⟩
theorem hiB_eq (w : BitVec 32) (t : ℕ) (ht : t < 16) : hiB w t = (w.getLsbD (2 * t + 1) ^^ decide (t % 2 = 1)) := by
  unfold hiB
  rw [BitVec.getLsbD_xor]
  congr 1
  have : ∀ t : Fin 16, (3435973836#32).getLsbD (2 * t.val + 1) = decide (t.val % 2 = 1) := by decide
  exact this ⟨t, ht⟩

theorem one_hot {n : ℕ} (f : Fin n → EReal) (c : Fin n → BitVec 1) (j : Fin n) (h : ∀ i, c i = BitVec.ofBool (decide (i = j))) :
    ∑ i, Scalar.select (c i) (f i) (0 : EReal) = f j := by
  rw [Finset.sum_eq_single j]
  · rw [h j, sel_ofBool]; simp
  · intro i _ hij
    rw [h i, sel_ofBool]; simp [hij]
  · intro hj; exact absurd (Finset.mem_univ j) hj

theorem word_eq (a b : ℕ) (ha : a < 1000) (hb : b < 1000) : IntOp.cmpi .eq (BitVec.ofNat 32 a) (BitVec.ofNat 32 b) = BitVec.ofBool (decide (a = b)) := by
  show BitVec.ofBool _ = _
  congr 1
  by_cases h : a = b
  · subst h; simp
  · have : BitVec.ofNat 32 a ≠ BitVec.ofNat 32 b := fun e => h (by
      have := congrArg BitVec.toNat e
      simp only [BitVec.toNat_ofNat] at this
      omega)
    simp [h, this]

/-- The columns that the three matrices pick. -/
theorem word_a (l : Fin 128) : IntOp.addi (IntOp.muli 2#32 (BitVec.ofNat 32 l.val)) (IntOp.andi (BitVec.ofNat 32 l.val) 1#32) = BitVec.ofNat 32 (2 * l.val + l.val % 2) := by
  revert l; decide
theorem word_b (l : Fin 128) : IntOp.subi (IntOp.addi (IntOp.muli 2#32 (BitVec.ofNat 32 l.val)) 1#32) (IntOp.andi (BitVec.ofNat 32 l.val) 1#32) = BitVec.ofNat 32 (2 * l.val + 1 - l.val % 2) := by
  revert l; decide
theorem word_c (l : Fin 128) : IntOp.subi (IntOp.addi (IntOp.muli 2#32 (BitVec.ofNat 32 l.val)) 2#32) (IntOp.muli 3#32 (IntOp.andi (BitVec.ofNat 32 l.val) 1#32)) = BitVec.ofNat 32 (2 * l.val + 2 - 3 * (l.val % 2)) := by
  revert l; decide

theorem selA (v : Vec Ideal S256x256 .fp8e4m3) (r : Fin 256) (l : Fin 128) :
    k0_pay355 (F := Ideal) (k0_pay349 rows k0_pay346) v (ix2 r l) = v (ix2 r ⟨2 * l.val + l.val % 2, by omega⟩) := by
  pointwise [k0_pay355, k0_pay349, k0_pay346, k0_pay345, rows]
  simp only [word_a, Ideal.ofBits_one_f32, Ideal.ofBits_zero]
  refine (one_hot (fun p => v (ix2 r p)) _ ⟨2 * l.val + l.val % 2, by omega⟩ fun p => ?_)
  rw [word_eq _ _ (by omega) (by omega)]
  simp only [Fin.ext_iff]
theorem selB (v : Vec Ideal S256x256 .fp8e4m3) (r : Fin 256) (l : Fin 128) :
    k0_pay355 (F := Ideal) (k0_pay350 rows k0_pay347) v (ix2 r l) = v (ix2 r ⟨2 * l.val + 1 - l.val % 2, by omega⟩) := by
  pointwise [k0_pay355, k0_pay350, k0_pay347, k0_pay345, rows]
  simp only [word_b, Ideal.ofBits_one_f32, Ideal.ofBits_zero]
  refine (one_hot (fun p => v (ix2 r p)) _ ⟨2 * l.val + 1 - l.val % 2, by omega⟩ fun p => ?_)
  rw [word_eq _ _ (by omega) (by omega)]
  simp only [Fin.ext_iff]
theorem selC (v : Vec Ideal S256x256 .fp8e4m3) (r : Fin 256) (l : Fin 128) :
    k0_pay355 (F := Ideal) (k0_pay351 rows k0_pay345 k0_pay348) v (ix2 r l) = v (ix2 r ⟨2 * l.val + 2 - 3 * (l.val % 2), by omega⟩) := by
  pointwise [k0_pay355, k0_pay351, k0_pay348, k0_pay345, rows]
  simp only [word_c, Ideal.ofBits_one_f32, Ideal.ofBits_zero]
  refine (one_hot (fun p => v (ix2 r p)) _ ⟨2 * l.val + 2 - 3 * (l.val % 2), by omega⟩ fun p => ?_)
  rw [word_eq _ _ (by omega) (by omega)]
  simp only [Fin.ext_iff]

variable (fx : xM.view.ty.Contents (Elt Ideal))

theorem pickG_of (M : FVec Ideal S256x128 .fp8e4m3) (g : Fin 128 → Fin 256)
    (hM : ∀ (v : Vec Ideal S256x256 .fp8e4m3) (r : Fin 256) (l : Fin 128), k0_pay355 (F := Ideal) M v (ix2 r l) = v (ix2 r (g l)))
    (r : Fin 256) (k : Fin 2560) (j : Fin 5120) (hj : j.val = 256 * (k.val / 128) + (g ⟨k.val % 128, Nat.mod_lt _ (by decide)⟩).val) :
    pickG M fx (ix2 r k) = xM.view.read (Elt Ideal) fx (ix2 r j) := by
  refine (hM _ _ _).trans ?_
  refine congrArg (xM.view.read (Elt Ideal) fx) (funext fun a => Fin.ext ?_)
  fin_cases a
  · rfl
  · exact hj.symm

/-- Entry `o` of the group of four that packed column `k` belongs to. -/
def four (k : Fin 2560) (o : ℕ) : Fin 5120 := ⟨4 * (k.val / 2) + o % 4, by have := k.isLt; omega⟩

theorem opA (r : Fin 256) (k : Fin 2560) : pickG (k0_pay349 rows k0_pay346) fx (ix2 r k) = xM.view.read (Elt Ideal) fx (ix2 r (four k (if k.val % 2 = 0 then 0 else 3))) := by
  refine pickG_of fx _ (fun l => ⟨2 * l.val + l.val % 2, by omega⟩) selA r k _ ?_
  show 4 * (k.val / 2) + _ % 4 = 256 * (k.val / 128) + (2 * (k.val % 128) + k.val % 128 % 2)
  have := k.isLt
  split_ifs <;> omega
theorem opB (r : Fin 256) (k : Fin 2560) : pickG (k0_pay350 rows k0_pay347) fx (ix2 r k) = xM.view.read (Elt Ideal) fx (ix2 r (four k (if k.val % 2 = 0 then 1 else 2))) := by
  refine pickG_of fx _ (fun l => ⟨2 * l.val + 1 - l.val % 2, by omega⟩) selB r k _ ?_
  show 4 * (k.val / 2) + _ % 4 = 256 * (k.val / 128) + (2 * (k.val % 128) + 1 - k.val % 128 % 2)
  have := k.isLt
  split_ifs <;> omega
theorem opC (r : Fin 256) (k : Fin 2560) : pickG (k0_pay351 rows k0_pay345 k0_pay348) fx (ix2 r k) = xM.view.read (Elt Ideal) fx (ix2 r (four k (if k.val % 2 = 0 then 2 else 1))) := by
  refine pickG_of fx _ (fun l => ⟨2 * l.val + 2 - 3 * (l.val % 2), by omega⟩) selC r k _ ?_
  show 4 * (k.val / 2) + _ % 4 = 256 * (k.val / 128) + (2 * (k.val % 128) + 2 - 3 * (k.val % 128 % 2))
  have := k.isLt
  split_ifs <;> omega

/-- The two marks of a field and the entry that its position names. -/
theorem pick_code {α : Type} (x : ℕ → α) (w : BitVec 32) (t p : ℕ) (ht : t < 16) (hp : p % 2 = t % 2) (h : loB w t = true → hiB w t = true → False) :
    (if loB w t = true then x (if p % 2 = 0 then 1 else 2) else if hiB w t = true then x (if p % 2 = 0 then 2 else 1) else x (if p % 2 = 0 then 0 else 3)) = x (code w t) := by
  rw [hp]
  rw [loB_eq w t ht, hiB_eq w t ht] at *
  unfold code
  rcases Nat.mod_two_eq_zero_or_one t with e | e <;> simp only [e] at * <;>
    cases h1 : w.getLsbD (2 * t) <;> cases h2 : w.getLsbD (2 * t + 1) <;> simp_all

/-- Two positions in their order exclude both marks on one value, -/
theorem marks (w : BitVec 32) (h : ∀ j < 8, code w (2 * j) < code w (2 * j + 1)) (t : ℕ) (ht : t < 16) : loB w t = true → hiB w t = true → False := by
  rw [loB_eq w t ht, hiB_eq w t ht]
  have h8 := h (t / 2) (by omega)
  rcases Nat.mod_two_eq_zero_or_one t with e | e
  · rw [show 2 * (t / 2) = t by omega] at h8
    have := code_lt w (t + 1)
    have hc : code w t < 3 := by omega
    unfold code at hc
    simp only [e]
    cases h1 : w.getLsbD (2 * t) <;> cases h2 : w.getLsbD (2 * t + 1) <;> simp_all
  · rw [show 2 * (t / 2) + 1 = t by omega] at h8
    have hc : 0 < code w t := by omega
    unfold code at hc
    simp only [e]
    cases h1 : w.getLsbD (2 * t) <;> cases h2 : w.getLsbD (2 * t + 1) <;> simp_all

/-- and the low mark of one value with the high mark of its partner. -/
theorem marks' (w : BitVec 32) (h : ∀ j < 8, code w (2 * j) < code w (2 * j + 1)) (t t' : ℕ) (ht : t < 16) (ht' : t' < 16)
    (e : t' = if t % 2 = 0 then t + 1 else t - 1) : loB w t = true → hiB w t' = true → False := by
  rw [loB_eq w t ht, hiB_eq w t' ht']
  have h8 := h (t / 2) (by omega)
  rcases Nat.mod_two_eq_zero_or_one t with p | p
  · rw [show 2 * (t / 2) = t by omega] at h8
    rw [if_pos p] at e
    subst e
    have p' : (t + 1) % 2 = 1 := by omega
    unfold code at h8
    simp only [p, p']
    cases h1 : w.getLsbD (2 * t) <;> cases h2 : w.getLsbD (2 * t + 1) <;> cases h3 : w.getLsbD (2 * (t + 1)) <;> cases h4 : w.getLsbD (2 * (t + 1) + 1) <;> simp_all
  · rw [show 2 * (t / 2) = t - 1 by omega, show t - 1 + 1 = t by omega] at h8
    rw [if_neg (by omega)] at e
    subst e
    have p' : (t - 1) % 2 = 0 := by omega
    unfold code at h8
    simp only [p, p']
    cases h1 : w.getLsbD (2 * t) <;> cases h2 : w.getLsbD (2 * t + 1) <;> cases h3 : w.getLsbD (2 * (t - 1)) <;> cases h4 : w.getLsbD (2 * (t - 1) + 1) <;> simp_all

end Cert.KernelIdeal.Hand

end
-- ==== Proof.Ideal.Value.lean ====
/-
  What the result holds, at the extended reals.
-/
module

public import proofs.«01_k».proof.Proof.Ideal.Picks
public import proofs.«01_k».proof.Proof.Ideal.Run

@[expose] public section

noncomputable section

namespace Cert.KernelIdeal.Hand

open Cert.KernelIdeal Cert.KernelIdeal.Gen Cert.Hand
open Idealize.ShloMosaic Idealize.ShloMosaic.TcCoe Idealize.ShloMosaic.Tactic

/-- An entry of the product: the row's entries that the positions name, times the packed values, then the two scales. -/
def val (x : Fin 256 → Fin 5120 → EReal) (v : Fin 21 → Fin 2560 → Fin 3072 → EReal) (m : Fin 21 → Fin 160 → Fin 3072 → BitVec 32) (xs : Fin 256 → EReal)
    (ws : Fin 21 → Fin 3072 → EReal) (e : Fin 21) (r : Fin 256) (q : Fin 3072) : EReal :=
  (∑ k : Fin 2560, x r (four k (code (m e ⟨k.val / 16, by have := k.isLt; omega⟩ q) (k.val % 16))) * v e k q) * xs r * ws e q

theorem sum_blocks (f : Fin 2560 → EReal) (G : ℕ → Fin 256 → EReal) (h : ∀ i < 10, ∀ (k : Fin 256) (K : Fin 2560), K.val = 256 * i + k.val → G i k = f K) :
    ∑ i ∈ Finset.range 10, ∑ k : Fin 256, G i k = ∑ K : Fin 2560, f K := by
  rw [Finset.sum_range]
  refine Eq.trans ?_ (Equiv.sum_comp (finProdFinEquiv (m := 10) (n := 256)) f)
  rw [Fintype.sum_prod_type]
  refine Finset.sum_congr rfl fun i _ => Finset.sum_congr rfl fun k _ => h i.val i.isLt k _ ?_
  show k.val + 256 * i.val = _
  omega

theorem flip_val (k : Fin 256) : (flip k).val = if k.val % 2 = 0 then k.val + 1 else k.val - 1 := by
  unfold flip
  split_ifs <;> rfl

variable (fx : xM.view.ty.Contents (Elt Ideal)) (fxs : xsM.view.ty.Contents (Elt Ideal)) (fw : wsM.view.ty.Contents (Elt Ideal))
  (fv : wvM.view.ty.Contents (Elt Ideal)) (fm : wmM.view.ty.Contents (Elt Ideal))

/-- The entry that the kernel's arrays give. -/
def kval : Fin 21 → Fin 256 → Fin 3072 → EReal :=
  val (fun r j => xM.view.read (Elt Ideal) fx (ix2 r j)) (fun e k q => wvM.view.read (Elt Ideal) fv (ix3 e k q)) (fun e i q => wmM.view.read (Elt Ideal) fm (ix3 e i q))
    (fun r => xsM.view.read (Elt Ideal) fxs (ix2 0 r)) (fun e q => wsM.view.read (Elt Ideal) fw (ix2 e q))

/-- Every pair of positions is in its order. -/
def Paired : Prop := ∀ (e : Fin 21) (i : Fin 160) (q : Fin 3072), ∀ j < 8, code (wmM.view.read (Elt Ideal) fm (ix3 e i q)) (2 * j) < code (wmM.view.read (Elt Ideal) fm (ix3 e i q)) (2 * j + 1)

variable {A : xaM.view.ty.Contents (Elt Ideal)} {B : xbM.view.ty.Contents (Elt Ideal)} {C : xcM.view.ty.Contents (Elt Ideal)} {D : sbM.view.ty.Contents (Elt Ideal)}

theorem acc_at (hO : Ops fx fxs A B C D) (hP : Paired fm) (e : Fin 21) (r0 q0 : ℕ) (r : Fin 128) (q : Fin 256) (R : Fin 256) (Q : Fin 3072) (hR : R.val = r0 + r.val) (hQ : Q.val = q0 + q.val) :
    acc10 (fun i => wV (wvM.view.read (Elt Ideal) fv) e i q0) (fun i => wM (wmM.view.read (Elt Ideal) fm) e i q0)
      (wX (xaM.view.read (Elt Ideal) A) r0) (wX (xbM.view.read (Elt Ideal) B) r0) (wX (xcM.view.read (Elt Ideal) C) r0) (ix2 r q)
      = ∑ k : Fin 2560, xM.view.read (Elt Ideal) fx (ix2 R (four k (code (wmM.view.read (Elt Ideal) fm (ix3 e ⟨k.val / 16, by have := k.isLt; omega⟩ Q)) (k.val % 16)))) * wvM.view.read (Elt Ideal) fv (ix3 e k Q) := by
  obtain ⟨oA, oB, oC, oD⟩ := hO
  have eR : ∀ h, (⟨(r0 + r.val) % 256, h⟩ : Fin 256) = R := fun h => Fin.ext (by
    show (r0 + r.val) % 256 = R.val
    have := R.isLt; rw [Nat.mod_eq_of_lt (by omega)]; omega)
  have eQ : ∀ h, (⟨(q0 + q.val) % 3072, h⟩ : Fin 3072) = Q := fun h => Fin.ext (by
    show (q0 + q.val) % 3072 = Q.val
    have := Q.isLt; rw [Nat.mod_eq_of_lt (by omega)]; omega)
  have wA : ∀ i k, wX (xaM.view.read (Elt Ideal) A) r0 i (ix2 r k) = xM.view.read (Elt Ideal) fx (ix2 R (four ⟨(256 * i + k.val) % 2560, Nat.mod_lt _ (by decide)⟩ (if ((256 * i + k.val) % 2560) % 2 = 0 then 0 else 3))) := fun i k =>
    (congrArg (fun u => xaM.view.read (Elt Ideal) A (ix2 u (⟨(256 * i + k.val) % 2560, Nat.mod_lt _ (by decide)⟩ : Fin 2560))) (eR (Nat.mod_lt _ (by decide)))).trans ((oA _).trans (opA fx R _))
  have wB : ∀ i k, wX (xbM.view.read (Elt Ideal) B) r0 i (ix2 r k) = xM.view.read (Elt Ideal) fx (ix2 R (four ⟨(256 * i + k.val) % 2560, Nat.mod_lt _ (by decide)⟩ (if ((256 * i + k.val) % 2560) % 2 = 0 then 1 else 2))) := fun i k =>
    (congrArg (fun u => xbM.view.read (Elt Ideal) B (ix2 u (⟨(256 * i + k.val) % 2560, Nat.mod_lt _ (by decide)⟩ : Fin 2560))) (eR (Nat.mod_lt _ (by decide)))).trans ((oB _).trans (opB fx R _))
  have wC : ∀ i k, wX (xcM.view.read (Elt Ideal) C) r0 i (ix2 r k) = xM.view.read (Elt Ideal) fx (ix2 R (four ⟨(256 * i + k.val) % 2560, Nat.mod_lt _ (by decide)⟩ (if ((256 * i + k.val) % 2560) % 2 = 0 then 2 else 1))) := fun i k =>
    (congrArg (fun u => xcM.view.read (Elt Ideal) C (ix2 u (⟨(256 * i + k.val) % 2560, Nat.mod_lt _ (by decide)⟩ : Fin 2560))) (eR (Nat.mod_lt _ (by decide)))).trans ((oC _).trans (opC fx R _))
  have wL : ∀ i (k : Fin 256), lo (wM (F := Ideal) (wmM.view.read (Elt Ideal) fm) e i q0) q k = loB (wmM.view.read (Elt Ideal) fm (ix3 e ⟨(16 * i + k.val / 16) % 160, Nat.mod_lt _ (by decide)⟩ Q)) (k.val % 16) := fun i k =>
    congrArg (fun u => loB (wmM.view.read (Elt Ideal) fm (ix3 e (⟨(16 * i + k.val / 16) % 160, Nat.mod_lt _ (by decide)⟩ : Fin 160) u)) (k.val % 16)) (eQ (Nat.mod_lt _ (by decide)))
  have wH : ∀ i (k : Fin 256), hi (wM (F := Ideal) (wmM.view.read (Elt Ideal) fm) e i q0) q k = hiB (wmM.view.read (Elt Ideal) fm (ix3 e ⟨(16 * i + k.val / 16) % 160, Nat.mod_lt _ (by decide)⟩ Q)) (k.val % 16) := fun i k =>
    congrArg (fun u => hiB (wmM.view.read (Elt Ideal) fm (ix3 e (⟨(16 * i + k.val / 16) % 160, Nat.mod_lt _ (by decide)⟩ : Fin 160) u)) (k.val % 16)) (eQ (Nat.mod_lt _ (by decide)))
  refine (acc10_val _ _ _ _ _ r q (fun i hi k => ?_) (fun i hi k => ?_) (fun i hi k => ?_)).trans ?_
  · rw [wL, wH]
    exact marks _ (hP e _ Q) _ (Nat.mod_lt _ (by decide))
  · rw [wL, wH]
    have hk := k.isLt
    have hf := flip_val k
    rw [show (⟨(16 * i + (flip k).val / 16) % 160, Nat.mod_lt _ (by decide)⟩ : Fin 160) = ⟨(16 * i + k.val / 16) % 160, Nat.mod_lt _ (by decide)⟩ from
      Fin.ext (by show (16 * i + (flip k).val / 16) % 160 = (16 * i + k.val / 16) % 160; rw [hf]; split_ifs <;> congr 2 <;> omega)]
    refine marks' _ (hP e _ Q) _ _ (Nat.mod_lt _ (by decide)) (Nat.mod_lt _ (by decide)) ?_
    rw [hf]; split_ifs <;> omega
  · rw [wC, wB]
    have hk := k.isLt
    have hf := flip_val k
    refine congrArg (fun j => xM.view.read (Elt Ideal) fx (ix2 R j)) (Fin.ext ?_)
    show 4 * (((256 * i + k.val) % 2560) / 2) + _ % 4 = 4 * (((256 * i + (flip k).val) % 2560) / 2) + _ % 4
    rw [hf, Nat.mod_eq_of_lt (by omega : 256 * i + k.val < 2560), Nat.mod_eq_of_lt (by split_ifs <;> omega)]
    split_ifs <;> omega
  · refine sum_blocks _ _ fun i hi k K hK => ?_
    have hk := k.isLt
    have eK : ∀ h, (⟨(256 * i + k.val) % 2560, h⟩ : Fin 2560) = K := fun h => Fin.ext (by
      show (256 * i + k.val) % 2560 = K.val
      rw [Nat.mod_eq_of_lt (by omega)]; omega)
    have eI : (⟨(16 * i + k.val / 16) % 160, Nat.mod_lt _ (by decide)⟩ : Fin 160) = ⟨K.val / 16, by have := K.isLt; omega⟩ := Fin.ext (by
      show (16 * i + k.val / 16) % 160 = K.val / 16
      rw [Nat.mod_eq_of_lt (by omega)]; omega)
    have hv : wV (F := Ideal) (wvM.view.read (Elt Ideal) fv) e i q0 (ix3 0 k q) = wvM.view.read (Elt Ideal) fv (ix3 e K Q) :=
      congr (congrArg (fun u w => wvM.view.read (Elt Ideal) fv (ix3 e u w)) (eK (Nat.mod_lt _ (by decide)))) (eQ (Nat.mod_lt _ (by decide)))
    refine congr (congrArg HMul.hMul ?_) hv
    unfold pick
    rw [wL, wH, wA, wB, wC, eI, eK, show k.val % 16 = K.val % 16 by omega, show ((256 * i + k.val) % 2560) % 2 = K.val % 2 by omega]
    exact pick_code (fun o => xM.view.read (Elt Ideal) fx (ix2 R (four K o))) _ _ _ (Nat.mod_lt _ (by decide)) (by omega) (marks _ (hP e _ Q) _ (Nat.mod_lt _ (by decide)))

theorem half_at (hO : Ops fx fxs A B C D) (hP : Paired fm) (e : Fin 21) (r0 lw hg q0 : ℕ) (h0 : r0 ≤ 128) (hl : lw ≤ 1000) (hh : hg ≤ 1000) (y : Vec Ideal S128x256 .bf16)
    (r : Fin 128) (q : Fin 256) (R : Fin 256) (Q : Fin 3072) (hR : R.val = r0 + r.val) (hQ : Q.val = q0 + q.val) :
    halfV fv fm A B C D fw r0 lw hg q0 e y (ix2 r q) = if lw ≤ R.val ∧ R.val < hg then kval fx fxs fw fv fm e R Q else y (ix2 r q) := by
  unfold halfV
  rw [outH_at, pay3_at _ _ _ (by omega) hl hh, sel_ofBool, acc_at fx fxs fv fm hO hP e r0 q0 r q R Q hR hQ, pay4_at]
  have eR : ∀ h, (⟨(r0 + r.val) % 256, h⟩ : Fin 256) = R := fun h => Fin.ext (by
    show (r0 + r.val) % 256 = R.val
    have := R.isLt; rw [Nat.mod_eq_of_lt (by omega)]; omega)
  have eQ : ∀ h, (⟨(q0 + q.val) % 3072, h⟩ : Fin 3072) = Q := fun h => Fin.ext (by
    show (q0 + q.val) % 3072 = Q.val
    have := Q.isLt; rw [Nat.mod_eq_of_lt (by omega)]; omega)
  have hd : wD (sbM.view.read (Elt Ideal) D) r0 (ix2 r ⟨q.val % 128, Nat.mod_lt _ (by decide)⟩) = xsM.view.read (Elt Ideal) fxs (ix2 0 R) :=
    (congrArg (fun u => sbM.view.read (Elt Ideal) D (ix2 u (⟨q.val % 128, Nat.mod_lt _ (by decide)⟩ : Fin 128))) (eR (Nat.mod_lt _ (by decide)))).trans (hO.2.2.2 _)
  have hs : wS (wsM.view.read (Elt Ideal) fw) e q0 (ix2 0 q) = wsM.view.read (Elt Ideal) fw (ix2 e Q) :=
    congrArg (fun u => wsM.view.read (Elt Ideal) fw (ix2 e u)) (eQ (Nat.mod_lt _ (by decide)))
  rw [hd, hs, ← hR]
  simp only [decide_eq_true_eq]
  rfl

/-- One half of a trip's writes, entry by entry. -/
theorem write_at (hO : Ops fx fxs A B C D) (hP : Paired fm) (e : Fin 21) (r0 lw hg q0 : ℕ) (h0 : r0 ≤ 128) (hl : r0 ≤ lw) (hl' : lw ≤ 1000) (hh : hg ≤ r0 + 128)
    {o : Fin 2 → ℕ} (ho : o = ![r0, q0]) (h : ∀ a, o a + S128x256.size a ≤ S256x3072.size a) (f : yM.view.ty.Contents (Elt Ideal)) (R : Fin 256) (Q : Fin 3072) :
    yM.view.read (Elt Ideal) (yM.view.writes (Elt Ideal) f [⟨Rect.unit (s := S256x3072) o S128x256.size h, halfV fv fm A B C D fw r0 lw hg q0 e (yM.view.readAt (Elt Ideal) (Rect.unit (s := S256x3072) o S128x256.size h).toLoadRect f)⟩]) (ix2 R Q)
      = if (lw ≤ R.val ∧ R.val < hg) ∧ q0 ≤ Q.val ∧ Q.val < q0 + 256 then kval fx fxs fw fv fm e R Q else yM.view.read (Elt Ideal) f (ix2 R Q) := by
  subst ho
  by_cases hr : r0 ≤ R.val ∧ R.val < r0 + 128
  · by_cases hq : q0 ≤ Q.val ∧ Q.val < q0 + 256
    · have hx : ∀ a : Fin 2, ((ix2 R Q : S256x3072.Idx) a).val = (![r0, q0] : Fin 2 → ℕ) a + ((ix2 (⟨R.val - r0, by omega⟩ : Fin 128) (⟨Q.val - q0, by omega⟩ : Fin 256) : S128x256.Idx) a).val := fun a => by
        fin_cases a
        · show R.val = r0 + (R.val - r0)
          omega
        · show Q.val = q0 + (Q.val - q0)
          omega
      refine (View.read_writes_cons_unit_of_mem yM.view f h _ _ _ (ix2 (⟨R.val - r0, by omega⟩ : Fin 128) (⟨Q.val - q0, by omega⟩ : Fin 256)) rfl hx).trans ?_
      refine (half_at fx fxs fw fv fm hO hP e r0 lw hg q0 h0 hl' (by omega) _ _ _ R Q (hx 0) (hx 1)).trans ?_
      have ey : yM.view.readAt (Elt Ideal) (Rect.unit (s := S256x3072) ![r0, q0] S128x256.size h).toLoadRect f (ix2 (⟨R.val - r0, by omega⟩ : Fin 128) (⟨Q.val - q0, by omega⟩ : Fin 256)) = yM.view.read (Elt Ideal) f (ix2 R Q) := by
        refine congrArg (yM.view.read (Elt Ideal) f) (funext fun a => Fin.ext ?_)
        refine Eq.trans ?_ (hx a).symm
        fin_cases a
        · show r0 + 1 * (R.val - r0) = r0 + (R.val - r0)
          omega
        · show q0 + 1 * (Q.val - q0) = q0 + (Q.val - q0)
          omega
      refine (congrArg (fun u => if lw ≤ R.val ∧ R.val < hg then kval fx fxs fw fv fm e R Q else u) ey).trans ?_
      by_cases hc : lw ≤ R.val ∧ R.val < hg
      · rw [if_pos hc, if_pos ⟨hc, hq⟩]
      · rw [if_neg hc, if_neg fun h => hc h.1]
    · rw [if_neg fun h => hq h.2]
      exact (View.read_writes_cons_unit_of_not_mem yM.view f h _ _ _ rfl 1 (by
        show Q.val < q0 ∨ q0 + 256 ≤ Q.val
        omega))
  · rw [if_neg (by omega)]
    exact (View.read_writes_cons_unit_of_not_mem yM.view f h _ _ _ rfl 0 (by
      show R.val < r0 ∨ r0 + 128 ≤ R.val
      omega))

theorem stepped_at (hO : Ops fx fxs A B C D) (hP : Paired fm) {e : Fin 21} {r0 lw hg n : ℕ} (h0 : r0 ≤ 128) (hl : r0 ≤ lw) (hl' : lw ≤ 1000) (hh : hg ≤ r0 + 128)
    {f f' : yM.view.ty.Contents (Elt Ideal)} (hs : Stepped fv fm A B C D fw r0 lw hg n e f f') (R : Fin 256) (Q : Fin 3072) :
    yM.view.read (Elt Ideal) f' (ix2 R Q)
      = if (lw ≤ R.val ∧ R.val < hg) ∧ n ≤ Q.val ∧ Q.val < n + 512 then kval fx fxs fw fv fm e R Q else yM.view.read (Elt Ideal) f (ix2 R Q) := by
  obtain ⟨o0, o1, i0, i1, e0, e1, rfl⟩ := hs
  have w1 := write_at fx fxs fw fv fm hO hP e r0 lw hg (n + 256) h0 hl hl' hh e1 i1 (yM.view.writes (Elt Ideal) f
        [⟨Rect.unit (s := S256x3072) o0 S128x256.size i0, halfV fv fm A B C D fw r0 lw hg (n + 0) e (yM.view.readAt (Elt Ideal) (Rect.unit (s := S256x3072) o0 S128x256.size i0).toLoadRect f)⟩]) R Q
  have w0 := write_at fx fxs fw fv fm hO hP e r0 lw hg (n + 0) h0 hl hl' hh e0 i0 f R Q
  rw [w0] at w1
  refine Eq.trans w1 ?_
  split_ifs <;> first | rfl | omega

theorem trips_at {S : ℕ → ℕ} (hm : ∀ k < 21, S k ≤ S (k + 1)) (hS : ∀ k ≤ 21, S k ≤ 256) {nw : ℕ} {e : ℕ → Fin 21} {b : ℕ → ℕ} (hb : ∀ i < nw, 32 ∣ b i ∧ b i < S ((e i).val + 1))
    (hO : Ops fx fxs A B C D) (hP : Paired fm) {fy : yM.view.ty.Contents (Elt Ideal)} {n : ℕ} (hn : n ≤ 6 * nw) {fy' : yM.view.ty.Contents (Elt Ideal)}
    (hT : Trips S nw e b fv fm A B C D fw fy n fy') (R : Fin 256) (Q : Fin 3072) (E : Fin 21) (h1 : S E.val ≤ R.val) (h2 : R.val < S (E.val + 1)) :
    ∀ k < n, (max (S (e (k % nw)).val) (b (k % nw)) ≤ R.val ∧ R.val < min (S ((e (k % nw)).val + 1)) (b (k % nw) + 128)) ∧ k / nw * 512 ≤ Q.val ∧ Q.val < k / nw * 512 + 512 →
      yM.view.read (Elt Ideal) fy' (ix2 R Q) = kval fx fxs fw fv fm E R Q := by
  have mono : ∀ i j, i ≤ j → j ≤ 21 → S i ≤ S j := fun i j hij => by
    induction j, hij using Nat.le_induction with
    | base => exact fun _ => le_rfl
    | succ j _ ih => exact fun h => (ih (by omega)).trans (hm j (by omega))
  unfold Trips at hT
  induction hT with
  | zero => exact fun k hk => absurd hk (Nat.not_lt_zero k)
  | @succ t x x' hM hs ih =>
    intro k hk hc
    have hnw : 0 < nw := by omega
    have ht := Nat.mod_lt t hnw
    have l1 : S ((e (t % nw)).val + 1) ≤ 256 := hS _ (e (t % nw)).isLt
    have l2 : S (e (t % nw)).val ≤ 256 := hS _ (Nat.le_of_lt (e (t % nw)).isLt)
    have l3 := (hb _ ht).2
    rw [stepped_at fx fxs fw fv fm hO hP (by omega) (by omega) (by omega) (by omega) hs R Q]
    by_cases hw : (max (S (e (t % nw)).val) (b (t % nw)) ≤ R.val ∧ R.val < min (S ((e (t % nw)).val + 1)) (b (t % nw) + 128)) ∧ t / nw * 512 ≤ Q.val ∧ Q.val < t / nw * 512 + 512
    · rw [if_pos hw]
      have he : e (t % nw) = E := by
        apply Fin.ext
        by_contra hne
        rcases Nat.lt_or_gt_of_ne hne with h | h
        · have := mono _ _ (Nat.succ_le_of_lt h) (Nat.le_of_lt E.isLt)
          have := hw.1.2
          simp only [Nat.succ_eq_add_one] at *
          omega
        · have := mono _ _ (Nat.succ_le_of_lt h) (Nat.le_of_lt (e (t % nw)).isLt)
          have := hw.1.1
          simp only [Nat.succ_eq_add_one] at *
          omega
      rw [he]
    · rw [if_neg hw]
      rcases Nat.lt_or_ge k t with h | h
      · exact ih (by omega) k h hc
      · have : k = t := by omega
        subst this
        exact absurd hc hw

/-- The result, entry by entry. -/
theorem done_at {S : ℕ → ℕ} (hm : ∀ k < 21, S k ≤ S (k + 1)) (hS : ∀ k ≤ 21, S k ≤ 256) (h21 : S 21 = 256) (hP : Paired fm) {fy' : yM.view.ty.Contents (Elt Ideal)}
    (hD : Done S fxs fw fx fv fm fy') (R : Fin 256) (Q : Fin 3072) (E : Fin 21) (h1 : S E.val ≤ R.val) (h2 : R.val < S (E.val + 1)) :
    yM.view.read (Elt Ideal) fy' (ix2 R Q) = kval fx fxs fw fv fm E R Q := by
  obtain ⟨nw, e, b, A, B, C, D, fy, hb, hC, hO, hT⟩ := hD
  obtain ⟨i, hi, g1, g2⟩ := hC R.val (by rw [h21]; exact R.isLt)
  have hq := Q.isLt
  have h6 : Q.val / 512 < 6 := by omega
  have e1 : (nw * (Q.val / 512) + i) % nw = i := by rw [Nat.mul_add_mod]; exact Nat.mod_eq_of_lt hi
  have e2 : (nw * (Q.val / 512) + i) / nw = Q.val / 512 := by
    rw [Nat.mul_add_div (by omega), Nat.div_eq_of_lt hi]; rfl
  have hle : nw * (Q.val / 512) ≤ nw * 5 := Nat.mul_le_mul_left _ (by omega)
  refine trips_at fx fxs fw fv fm hm hS hb hO hP le_rfl hT R Q E h1 h2 (nw * (Q.val / 512) + i) (by omega) ?_
  rw [e1, e2]
  exact ⟨⟨g1, g2⟩, by omega, by omega⟩

end Cert.KernelIdeal.Hand

end
-- ==== Proof.Ref.lean ====
/-
  What the reference's body computes, at the extended reals.
-/
module

public import proofs.«01_k».proof.Proof.Ideal.Value
public import proofs.«01_k».proof.Proof.Gen.ReferenceIdeal.Frame
public import Idealize.ShloMosaic.Lib.Pointwise

@[expose] public section

noncomputable section

namespace Cert.ReferenceIdeal.Hand

open Cert.ReferenceIdeal Cert.ReferenceIdeal.Gen
open Idealize.ShloMosaic Idealize.ShloMosaic.TcCoe Idealize.ShloMosaic.Tactic
open Cert.KernelIdeal.Hand (code code_lt four val word_eq sel_ofBool)

theorem sum_split (n b : ℕ) (f : Fin (n * b) → EReal) (h : ∀ p o, p < n → o < b → b * p + o < n * b) :
    ∑ j, f j = ∑ p : Fin n, ∑ o : Fin b, f ⟨b * p.val + o.val, h _ _ p.isLt o.isLt⟩ := by
  refine (Equiv.sum_comp (finProdFinEquiv (m := n) (n := b)) f).symm.trans ?_
  rw [Fintype.sum_prod_type]
  refine Finset.sum_congr rfl fun p _ => Finset.sum_congr rfl fun o _ => congrArg f (Fin.ext ?_)
  exact Nat.add_comm _ _

/-- A field of a word of positions. -/
theorem field (u : ArithUnit) (w : BitVec 32) (t : ℕ) (ht : t < 16) :
    IntOp.andi (IntOp.shrsi u w (IntOp.muli 2#32 (BitVec.ofNat 32 t))) 3#32 = BitVec.ofNat 32 (code w t) := by
  have hm : IntOp.muli 2#32 (BitVec.ofNat 32 t) = BitVec.ofNat 32 (2 * t) := (BitVec.ofNat_mul ..).symm
  have hn : (BitVec.ofNat 32 (2 * t)).toNat = 2 * t := by rw [BitVec.toNat_ofNat]; omega
  rw [hm]
  unfold IntOp.shrsi
  rw [if_pos (by omega)]
  show BitVec.sshiftRight' w _ &&& 3#32 = _
  refine BitVec.eq_of_getLsbD_eq fun i hi => ?_
  rw [BitVec.getLsbD_and]
  unfold BitVec.sshiftRight'
  rw [hn, BitVec.getLsbD_sshiftRight, BitVec.getLsbD_ofNat, BitVec.getLsbD_ofNat]
  unfold code
  rcases Nat.lt_or_ge i 2 with h | h
  · rw [if_pos (by omega)]
    rcases (by omega : i = 0 ∨ i = 1) with rfl | rfl
    · cases w.getLsbD (2 * t) <;> cases w.getLsbD (2 * t + 1) <;> simp <;> decide
    · cases w.getLsbD (2 * t) <;> cases w.getLsbD (2 * t + 1) <;> simp <;> decide
  · have h3 : Nat.testBit 3 i = false := Nat.testBit_lt_two_pow (lt_of_lt_of_le (by decide : 3 < 2 ^ 2) (Nat.pow_le_pow_right (by decide) h))
    have hc : Nat.testBit ((w.getLsbD (2 * t)).toNat + 2 * (w.getLsbD (2 * t + 1)).toNat) i = false :=
      Nat.testBit_lt_two_pow (lt_of_lt_of_le (code_lt w t) (Nat.pow_le_pow_right (by decide) h : 2 ^ 2 ≤ 2 ^ i))
    rw [h3, hc]; simp

/-- Two values among four places. -/
theorem two_of_four (a b : ℕ) (ha : a < 4) (hb : b < 4) (hab : a < b) (x : ℕ → EReal) (v w : EReal) :
    ∑ o : Fin 4, x o.val * Scalar.select (BitVec.ofBool (decide (a = o.val))) v (Scalar.select (BitVec.ofBool (decide (b = o.val))) w (0 : EReal)) = x a * v + x b * w := by
  simp only [sel_ofBool, Fin.sum_univ_four]
  interval_cases a <;> interval_cases b <;> first | omega | simp

theorem dense_at (m : Vec Ideal S21x160x3072 .i32) (v : Vec Ideal S21x2560x3072 .fp8e4m3) (x : Vec Ideal S256x5120 .fp8e4m3) (e : Fin 21) (r : Fin 256) (q : Fin 3072)
    (hP : ∀ (i : Fin 160), ∀ j < 8, code (m (ix3 e i q)) (2 * j) < code (m (ix3 e i q)) (2 * j + 1)) :
    k0_pay2 (F := Ideal) m v x (ix3 e r q)
      = ∑ k : Fin 2560, (x (ix2 r (four k (code (m (ix3 e ⟨k.val / 16, by have := k.isLt; omega⟩ q)) (k.val % 16)))) : EReal) * v (ix3 e k q) := by
  pointwise [k0_pay2]
  refine (sum_split 1280 4 _ (fun p o hp ho => by omega)).trans (Eq.trans ?_ (sum_split 1280 2 _ (fun p o hp ho => by omega)).symm)
  refine Finset.sum_congr rfl fun p _ => ?_
  have hp := p.isLt
  have z : Ideal.ofBits FTy.fp8e4m3 0#8 = 0 := Ideal.ofBits_zero _
  have c0 := code_lt (m (ix3 e ⟨p.val / 8, by omega⟩ q)) (2 * (p.val % 8))
  have c1 := code_lt (m (ix3 e ⟨p.val / 8, by omega⟩ q)) (2 * (p.val % 8) + 1)
  have key := two_of_four _ _ c0 c1 (hP ⟨p.val / 8, by omega⟩ (p.val % 8) (Nat.mod_lt _ (by decide)))
    (fun o => x (ix2 r ⟨4 * p.val + o % 4, by omega⟩)) (v (ix3 e ⟨2 * p.val, by omega⟩ q)) (v (ix3 e ⟨2 * p.val + 1, by omega⟩ q))
  rw [Fin.sum_univ_two]
  refine Eq.trans (Finset.sum_congr rfl fun o _ => ?_) (key.trans ?_)
  · have ho := o.isLt
    have e1 : (4 * p.val + o.val) / 4 = p.val := by omega
    have e2 : (4 * p.val + o.val) % 4 = o.val := by omega
    rw [z]
    simp only [e1, e2]
    rw [field _ _ _ (by omega), field _ _ _ (by omega), word_eq _ _ (by have := code_lt (m (ix3 e ⟨p.val / 8, by omega⟩ q)) (p.val % 8 * 2); omega) (by omega),
      word_eq _ _ (by have := code_lt (m (ix3 e ⟨p.val / 8, by omega⟩ q)) (p.val % 8 * 2 + 1); omega) (by omega)]
    simp only [Nat.mul_comm _ 2, Nat.mod_eq_of_lt ho]
  · have i0 : ∀ h h', (⟨(2 * p.val + 0) / 16, h⟩ : Fin 160) = ⟨p.val / 8, h'⟩ := fun h h' => Fin.ext (by show (2 * p.val + 0) / 16 = p.val / 8; omega)
    have i1 : ∀ h h', (⟨(2 * p.val + 1) / 16, h⟩ : Fin 160) = ⟨p.val / 8, h'⟩ := fun h h' => Fin.ext (by show (2 * p.val + 1) / 16 = p.val / 8; omega)
    have t0 : (2 * p.val + 0) % 16 = 2 * (p.val % 8) := by omega
    have t1 : (2 * p.val + 1) % 16 = 2 * (p.val % 8) + 1 := by omega
    have f0 : ∀ o h h', four (⟨2 * p.val + 0, h⟩ : Fin 2560) o = ⟨4 * p.val + o % 4, h'⟩ := fun o h h' => Fin.ext (by
      show 4 * ((2 * p.val + 0) / 2) + o % 4 = 4 * p.val + o % 4
      omega)
    have f1 : ∀ o h h', four (⟨2 * p.val + 1, h⟩ : Fin 2560) o = ⟨4 * p.val + o % 4, h'⟩ := fun o h h' => Fin.ext (by
      show 4 * ((2 * p.val + 1) / 2) + o % 4 = 4 * p.val + o % 4
      omega)
    show _ = (x (ix2 r (four (⟨2 * p.val + 0, by omega⟩ : Fin 2560) (code (m (ix3 e ⟨(2 * p.val + 0) / 16, by omega⟩ q)) ((2 * p.val + 0) % 16)))) : EReal) * v (ix3 e ⟨2 * p.val + 0, by omega⟩ q)
      + (x (ix2 r (four (⟨2 * p.val + 1, by omega⟩ : Fin 2560) (code (m (ix3 e ⟨(2 * p.val + 1) / 16, by omega⟩ q)) ((2 * p.val + 1) % 16)))) : EReal) * v (ix3 e ⟨2 * p.val + 1, by omega⟩ q)
    simp only [i0 _ (by omega : p.val / 8 < 160), i1 _ (by omega : p.val / 8 < 160), t0, t1]
    rw [f0 _ _ (by omega), f1 _ _ (by omega)]
    rfl

theorem pay3_at (b : Vec Ideal S21x1x1 .i32) (e : Fin 21) (r : Fin 256) :
    k0_pay3 (F := Ideal) b (ix3 e r 0) = IntOp.cmpi .sle (b (ix3 e 0 0)) (BitVec.ofNat 32 r.val) := by
  pointwise [k0_pay3]

/-- Only one group holds a row. -/
theorem one_group (c : Fin 21 → BitVec 1) (f : Fin 21 → EReal) (E : Fin 21) (h : ∀ e, c e = BitVec.ofBool (decide (e = E))) :
    ∑ e, Scalar.select (c e) (f e) (0 : EReal) = f E := Cert.KernelIdeal.Hand.one_hot f c E h

theorem le_at (a b : ℕ) (ha : a ≤ 1000) (hb : b ≤ 1000) : IntOp.cmpi .sle (BitVec.ofNat 32 a) (BitVec.ofNat 32 b) = BitVec.ofBool (decide (a ≤ b)) := by
  have ta : (BitVec.ofNat 32 a).toInt = a := by rw [BitVec.toInt_eq_toNat_of_lt] <;> simp only [BitVec.toNat_ofNat] <;> omega
  have tb : (BitVec.ofNat 32 b).toInt = b := by rw [BitVec.toInt_eq_toNat_of_lt] <;> simp only [BitVec.toNat_ofNat] <;> omega
  show BitVec.ofBool _ = _
  congr 1
  show BitVec.sle _ _ = _
  unfold BitVec.sle
  rw [ta, tb]; simp
theorem lt_at (a b : ℕ) (ha : a ≤ 1000) (hb : b ≤ 1000) : IntOp.cmpi .slt (BitVec.ofNat 32 a) (BitVec.ofNat 32 b) = BitVec.ofBool (decide (a < b)) := by
  have ta : (BitVec.ofNat 32 a).toInt = a := by rw [BitVec.toInt_eq_toNat_of_lt] <;> simp only [BitVec.toNat_ofNat] <;> omega
  have tb : (BitVec.ofNat 32 b).toInt = b := by rw [BitVec.toInt_eq_toNat_of_lt] <;> simp only [BitVec.toNat_ofNat] <;> omega
  show BitVec.ofBool _ = _
  congr 1
  show BitVec.slt _ _ = _
  unfold BitVec.slt
  rw [ta, tb]; simp

/-- An entry of the reference's result. -/
theorem ref_at (x : Vec Ideal S256x5120 .fp8e4m3) (s : Vec Ideal S256x1 .f32) (st en : Vec Ideal S21x1x1 .i32) (v : Vec Ideal S21x2560x3072 .fp8e4m3)
    (m : Vec Ideal S21x160x3072 .i32) (w : Vec Ideal S21x1x3072 .f32) (S : ℕ → ℕ) (hm : ∀ i j, i ≤ j → S i ≤ S j) (hS : ∀ k ≤ 21, S k ≤ 256)
    (hst : ∀ e : Fin 21, st (ix3 e 0 0) = BitVec.ofNat 32 (S e.val)) (hen : ∀ e : Fin 21, en (ix3 e 0 0) = BitVec.ofNat 32 (S (e.val + 1)))
    (r : Fin 256) (q : Fin 3072) (E : Fin 21) (h1 : S E.val ≤ r.val) (h2 : r.val < S (E.val + 1))
    (hP : ∀ (e : Fin 21) (i : Fin 160), ∀ j < 8, code (m (ix3 e i q)) (2 * j) < code (m (ix3 e i q)) (2 * j + 1)) :
    k0_pay1 (F := Ideal) (k0_pay2 m v x) (iota .tc S1x256x1 32 [1] iota_S1x256x1_d1_w32) (k0_pay3 st) en w s (ix2 r q)
      = val (fun r j => x (ix2 r j)) (fun e k q => v (ix3 e k q)) (fun e i q => m (ix3 e i q)) (fun r => s (ix2 r 0)) (fun e q => w (ix3 e 0 q)) E r q := by
  have hi : iota .tc S1x256x1 32 [1] iota_S1x256x1_d1_w32 (ix3 0 r 0) = BitVec.ofNat 32 r.val := by pointwise
  have hr := r.isLt
  have hc : ∀ e : Fin 21, IntOp.andi (k0_pay3 (F := Ideal) st (ix3 e r 0)) (IntOp.cmpi .slt (iota .tc S1x256x1 32 [1] iota_S1x256x1_d1_w32 (ix3 0 r 0)) (en (ix3 e 0 0))) = BitVec.ofBool (decide (e = E)) := fun e => by
    have b1 := hS e.val (Nat.le_of_lt e.isLt)
    have b2 := hS (e.val + 1) e.isLt
    rw [pay3_at, hi, hst, hen, le_at _ _ (by omega) (by omega), lt_at _ _ (by omega) (by omega)]
    have : decide (e = E) = (decide (S e.val ≤ r.val) && decide (r.val < S (e.val + 1))) := by
      by_cases he : e = E
      · subst he; simp [h1, h2]
      · rw [decide_eq_false he]
        symm
        rcases Nat.lt_or_gt_of_ne (fun h => he (Fin.ext h)) with h | h
        · have := hm (e.val + 1) E.val h
          rw [decide_eq_false (by omega : ¬ r.val < S (e.val + 1))]; simp
        · have := hm (E.val + 1) e.val h
          rw [decide_eq_false (by omega : ¬ S e.val ≤ r.val)]; simp
    rw [this]
    cases decide (S e.val ≤ r.val) <;> cases decide (r.val < S (e.val + 1)) <;> rfl
  generalize hacc : k0_pay2 (F := Ideal) m v x = acc
  generalize k0_pay3 (F := Ideal) st = c at hc ⊢
  generalize iota .tc S1x256x1 32 [1] iota_S1x256x1_d1_w32 = i at hc ⊢
  pointwise [k0_pay1]
  rw [one_group _ _ E hc, one_group _ _ E hc, ← hacc, dense_at m v x E r q (hP E)]
  rfl

end Cert.ReferenceIdeal.Hand

end
-- ==== Proof.Valid.lean ====
/-
  What the precondition of the value claim says: the sizes add up to the number of rows, and each pair of positions is in its order.
-/
module

public import proofs.«01_k».proof.Pre_valid_problem
public import proofs.«01_k».proof.Proof.Ref
public import proofs.«01_k».proof.Proof.Sizes
public import Idealize.ShloMosaic.Lib.ReduceAll

@[expose] public section

noncomputable section

namespace Cert.Hand

open Idealize.ShloMosaic Idealize.ShloMosaic.Tactic
open Cert.KernelIdeal.Hand (code code_lt)

/-- The facts that the precondition states. -/
theorem valid_facts : Cert.Pre_valid_problem.Facts where
  bcast_S_S21 := by decide
  reducesTo_S21_S_d0 := by decide
  h_S_ := by decide
  bcast_S_S16 := by decide
  bcast_S16_S1x1x16x1_2 := by decide
  bcast_S21x160x3072_S21x160x1x3072_0_1_3 := by decide
  bcast_S21x160x1x3072_S21x160x16x3072_0_1_2_3 := by decide
  bcast_S1x1x16x1_S21x160x16x3072_0_1_2_3 := by decide
  bcast_S_S21x160x16x3072 := by decide
  slicesBy_S21x160x16x3072_S21x160x8x3072_0s1_0s1_0s2_0s1 := by decide
  slicesBy_S21x160x16x3072_S21x160x8x3072_0s1_0s1_1s2_0s1 := by decide
  reducesTo_S21x160x8x3072_S_d0_1_2_3 := by decide

/-- The sizes add up to the number of rows. -/
theorem fits_valid [hF : Cert.Pre_valid_problem.Facts] {F : FTy → Type} [FloatOps F] {x0 x1 x2 x3 x4 x5}
    (h : Cert.Pre_valid_problem.fn (F := F) x0 x1 x2 x3 x4 x5 = fun _ => 1#1) : Fits x2 ∧ Sof x2 21 = 256 := by
  have h := congrFun h (Shape.Idx.first (by decide))
  dsimp only [Cert.Pre_valid_problem.fn, Cert.Pre_valid_problem.fn_part1] at h
  obtain ⟨h, -⟩ := IntOp.andi_eq_one.1 h
  obtain ⟨ha, hb⟩ := IntOp.andi_eq_one.1 h
  have hs := IntOp.cmpi_eq.1 hb
  have hs : wd (Sof x2 21) = 256#32 := (reduce_sum x2 (constantI Cert.Pre_valid_problem.S_ 32 0#32) Cert.Pre_valid_problem.Facts.reducesTo_S21_S_d0 Cert.Pre_valid_problem.Facts.h_S_ rfl _).symm.trans hs
  have hF : Fits x2 := by
    refine fits_of (fun i => ?_) (by rw [hs]; decide)
    obtain ⟨h1, h2⟩ := IntOp.andi_eq_one.1 (Host.reduce_andi_all _ _ _ _ _ ha i)
    exact ⟨IntOp.cmpi_sge.1 h1, IntOp.cmpi_sle.1 h2⟩
  refine ⟨hF, ?_⟩
  have := hF.all
  have := congrArg BitVec.toNat hs
  rw [toNat_wd (by omega)] at this
  exact this

/-- The two positions of each pair are in their order. -/
theorem paired_valid [hF : Cert.Pre_valid_problem.Facts] {F : FTy → Type} [FloatOps F] {x0 x1 x2 x3 x4 x5}
    (h : Cert.Pre_valid_problem.fn (F := F) x0 x1 x2 x3 x4 x5 = fun _ => 1#1) (e : Fin 21) (i : Fin 160) (q : Fin 3072) (j : ℕ) (hj : j < 8) :
    code (x4 (ix3 e i q)) (2 * j) < code (x4 (ix3 e i q)) (2 * j + 1) := by
  have h := congrFun h (Shape.Idx.first (by decide))
  dsimp only [Cert.Pre_valid_problem.fn, Cert.Pre_valid_problem.fn_part1] at h
  obtain ⟨-, h⟩ := IntOp.andi_eq_one.1 h
  have h2 := Host.reduce_andi_all _ _ _ _ _ h (ix4 e i (⟨j, hj⟩ : Fin 8) q)
  have h3 : IntOp.cmpi .slt (IntOp.andi (IntOp.shrsi .host (x4 (ix3 e i q)) (IntOp.muli 2#32 (BitVec.ofNat 32 (2 * j)))) 3#32)
      (IntOp.andi (IntOp.shrsi .host (x4 (ix3 e i q)) (IntOp.muli 2#32 (BitVec.ofNat 32 (1 + 2 * j)))) 3#32) = 1#1 := by
    refine Eq.trans (Eq.symm ?_) h2
    pointwise
  rw [Nat.add_comm 1 (2 * j)] at h3
  have c0 := code_lt (x4 (ix3 e i q)) (2 * j)
  have c1 := code_lt (x4 (ix3 e i q)) (2 * j + 1)
  rw [Cert.ReferenceIdeal.Hand.field _ _ _ (by omega), Cert.ReferenceIdeal.Hand.field _ _ _ (by omega), Cert.ReferenceIdeal.Hand.lt_at _ _ (by omega) (by omega)] at h3
  by_contra hn
  rw [decide_eq_false hn] at h3
  exact absurd h3 (by decide)

end Cert.Hand

end
-- ==== Proof.Ref2.lean ====
/-
  The rows at which each group starts and ends, as the reference computes them.
-/
module

public import proofs.«01_k».proof.Proof.Gen.ReferenceIdeal.Frame
public import proofs.«01_k».proof.Proof.Sizes
public import Idealize.ShloMosaic.Lib.Pointwise

@[expose] public section

noncomputable section

namespace Cert.ReferenceIdeal.Hand

open Cert.ReferenceIdeal Cert.ReferenceIdeal.Gen Cert.Hand
open Idealize.ShloMosaic Idealize.ShloMosaic.TcCoe Idealize.ShloMosaic.Tactic

theorem wd_add (a b : ℕ) : IntOp.addi (wd a) (wd b) = wd (a + b) := by
  unfold wd
  exact (BitVec.ofNat_add a b).symm

theorem ix_one (x : Fin 21) : (ix1 x : V21.Idx) = ix x := by
  funext a; fin_cases a; rfl

theorem fold_wd {n : ℕ} (g : Fin n → BitVec 32) (f : Fin n → ℕ) (h : ∀ x, g x = wd (f x)) (s : Finset (Fin n)) :
    Finset.fold IntOp.addi (0#32) g s = wd (∑ x ∈ s, f x) := by
  induction s using Finset.induction_on with
  | empty => rfl
  | insert a s ha ih => rw [Finset.fold_insert ha, Finset.sum_insert ha, ih, h a, wd_add]

theorem Sof_masked (g : V21.Idx → BitVec 32) (k : ℕ) (hk : k ≤ 21) : ∑ x : Fin 21, (if x.val < k then (g (ix x)).toNat else 0) = Sof g k := by
  induction k with
  | zero => simp [Sof_zero]
  | succ k ih =>
    rw [Sof_succ g (by omega), ← ih (by omega)]
    have : ∀ x : Fin 21, (if x.val < k + 1 then (g (ix x)).toNat else 0) = (if x.val < k then (g (ix x)).toNat else 0) + (if x = ⟨k, by omega⟩ then (g (ix ⟨k, by omega⟩)).toNat else 0) := fun x => by
      by_cases h : x = ⟨k, by omega⟩
      · subst h; simp
      · have : x.val ≠ k := fun e => h (Fin.ext e)
        rw [if_neg h]
        split_ifs <;> first | rfl | omega
    rw [Finset.sum_congr rfl fun x _ => this x, Finset.sum_add_distrib, Finset.sum_ite_eq' Finset.univ, if_pos (Finset.mem_univ _)]

theorem le_word : ∀ x e : Fin 21, IntOp.cmpi .sle (BitVec.ofNat 32 x.val) (BitVec.ofNat 32 e.val) = BitVec.ofBool (decide (x.val < e.val + 1)) := by decide

theorem masked (g : V21.Idx → BitVec 32) (e : Fin 21) :
    Finset.fold IntOp.addi (0#32) (fun x : Fin 21 => Scalar.select (IntOp.cmpi .sle (BitVec.ofNat 32 x.val) (BitVec.ofNat 32 e.val)) (g (ix x)) (0#32)) Finset.univ = wd (Sof g (e.val + 1)) := by
  rw [fold_wd _ (fun x : Fin 21 => if x.val < e.val + 1 then (g (ix x)).toNat else 0) (fun x => ?_), Sof_masked _ _ e.isLt]
  rw [le_word]
  by_cases h : x.val < e.val + 1
  · rw [if_pos h, decide_eq_true h]
    unfold wd
    simp [Scalar.select]
  · rw [if_neg h, decide_eq_false h]
    unfold wd
    simp [Scalar.select]

variable (m : (ℓ : Loc nD τ sig) → Buf (Elt Ideal) ℓ)

open Idealize.ShloMosaic.StableHlo in
theorem end_at (c : Dev nD) (e : Fin 21) : (V m c main_v12 : IVec S21x1x1 32) (ix3 e 0 0) = wd (Sof (m ((c : Thread nD τ).loc main_arg2)) (e.val + 1)) := by
  refine Eq.trans ?_ (masked (m ((c : Thread nD τ).loc main_arg2)) e)
  unfold V
  simp only [List.flatten_cons, List.flatten_nil, List.append_nil, List.cons_append, List.nil_append]
  after_results
  dsimp only [StableHlo.TRef.toBuf, StableHlo.TRef.ofBuf, id]
  simp only [cast_eq]
  pointwise
  simp only [ix_one]

open Idealize.ShloMosaic.StableHlo in
theorem start_at (c : Dev nD) (e : Fin 21) : (V m c main_v11 : IVec S21x1x1 32) (ix3 e 0 0) = wd (Sof (m ((c : Thread nD τ).loc main_arg2)) e.val) := by
  have hs : IntOp.subi (wd (Sof (m ((c : Thread nD τ).loc main_arg2)) (e.val + 1))) (m ((c : Thread nD τ).loc main_arg2) (ix e)) = wd (Sof (m ((c : Thread nD τ).loc main_arg2)) e.val) := by
    rw [Sof_succ _ e.isLt, ← wd_add]
    unfold wd
    show BitVec.ofNat 32 _ + BitVec.ofNat 32 (BitVec.toNat _) - _ = _
    rw [BitVec.ofNat_toNat, BitVec.setWidth_eq]
    exact BitVec.add_sub_cancel _ _
  refine Eq.trans ?_ hs
  rw [← masked]
  unfold V
  simp only [List.flatten_cons, List.flatten_nil, List.append_nil, List.cons_append, List.nil_append]
  after_results
  dsimp only [StableHlo.TRef.toBuf, StableHlo.TRef.ofBuf, id]
  simp only [cast_eq]
  pointwise
  simp only [ix_one]

open Idealize.ShloMosaic.StableHlo in
theorem scale_at (c : Dev nD) (r : Fin 256) : (V m c main_v10 : FVec Ideal S256x1 .f32) (ix2 r 0) = (m ((c : Thread nD τ).loc main_arg1) : FVec Ideal S256 .f32) (ix1 r) := by
  unfold V
  simp only [List.flatten_cons, List.flatten_nil, List.append_nil, List.cons_append, List.nil_append]
  after_results
  pointwise

open Idealize.ShloMosaic.StableHlo in
theorem scales_at (c : Dev nD) (e : Fin 21) (q : Fin 3072) : (V m c main_v13 : FVec Ideal S21x1x3072 .f32) (ix3 e 0 q) = (m ((c : Thread nD τ).loc main_arg5) : FVec Ideal S21x3072 .f32) (ix2 e q) := by
  unfold V
  simp only [List.flatten_cons, List.flatten_nil, List.append_nil, List.cons_append, List.nil_append]
  after_results
  pointwise

end Cert.ReferenceIdeal.Hand

end
-- ==== Proof.Values.lean ====
/-
  The results, entry by entry: what the kernel's program and the reference's program leave in their result arrays.
-/
module

public import proofs.«01_k».proof.Proof.Ideal.Frame
public import proofs.«01_k».proof.Proof.Ideal.Value
public import proofs.«01_k».proof.Proof.Ref
public import proofs.«01_k».proof.Proof.Ref2
public import Idealize.ShloMosaic.Lib.Pipeline.ArrRel
public import Idealize.ShloMosaic.Lib.Pipeline.ValueKit
public import Idealize.ShloMosaic.Lib.Pointwise

@[expose] public section

noncomputable section

namespace Cert.Hand

open Idealize.ShloMosaic Idealize.ShloMosaic.TcCoe Idealize.ShloMosaic.Tactic
open Idealize.SL.Sem
open Cert.KernelIdeal.Hand (val code)

/-- Each row that a group has is in one group. -/
theorem group_exists (g : V21.Idx → BitVec 32) (r : ℕ) (h : r < Sof g 21) : ∃ E : Fin 21, Sof g E.val ≤ r ∧ r < Sof g (E.val + 1) := by
  have key : ∀ k ≤ 21, r < Sof g k → ∃ E : Fin 21, Sof g E.val ≤ r ∧ r < Sof g (E.val + 1) := by
    intro k
    induction k with
    | zero => intro _ h; rw [Sof_zero] at h; exact absurd h (Nat.not_lt_zero r)
    | succ k ih =>
      intro hk h
      rcases Nat.lt_or_ge r (Sof g k) with h' | h'
      · exact ih (by omega) h'
      · exact ⟨⟨k, by omega⟩, h', h⟩
  exact key 21 le_rfl h

/-- The group of the row `r`. -/
def groupOf (g : V21.Idx → BitVec 32) (r : ℕ) : Fin 21 :=
  open Classical in if h : ∃ E : Fin 21, Sof g E.val ≤ r ∧ r < Sof g (E.val + 1) then h.choose else 0

theorem groupOf_spec (g : V21.Idx → BitVec 32) (r : ℕ) (h : r < Sof g 21) : Sof g (groupOf g r).val ≤ r ∧ r < Sof g ((groupOf g r).val + 1) := by
  have hE := group_exists g r h
  unfold groupOf
  rw [dif_pos hE]
  exact hE.choose_spec

/-- The result. -/
def result (x : FVec Ideal ⟨2, ![256, 5120]⟩ .fp8e4m3) (s : FVec Ideal ⟨1, ![256]⟩ .f32) (g : IVec V21 32) (v : FVec Ideal ⟨3, ![21, 2560, 3072]⟩ .fp8e4m3)
    (m : IVec ⟨3, ![21, 160, 3072]⟩ 32) (w : FVec Ideal ⟨2, ![21, 3072]⟩ .f32) : FVec Ideal ⟨2, ![256, 3072]⟩ .bf16 := fun i =>
  val (fun r j => x (ix2 r j)) (fun e k q => v (ix3 e k q)) (fun e i q => m (ix3 e i q)) (fun r => s (ix1 r)) (fun e q => w (ix2 e q)) (groupOf g (i 0).val) (i 0) (i 1)

end Cert.Hand

namespace Cert.KernelIdeal.Hand

open Cert.KernelIdeal Cert.KernelIdeal.Gen Cert.Hand
open Idealize.ShloMosaic Idealize.ShloMosaic.TcCoe Idealize.ShloMosaic.Tactic
open Idealize.SL.Sem

variable (m : (ℓ : Loc nD τ sig) → Buf (Elt Ideal) ℓ) (ρ : Dev nD → PrngReg)

/-- The one point of the grid. -/
abbrev at0 : Fin (cfg0 (F := Ideal)).N := (⟨0, Nat.one_pos⟩ : Fin 1)

open Idealize.ShloMosaic.StableHlo in
theorem V_scale (c : Dev nD) (r : Fin 256) : (V m c main_v0 : FVec Ideal S1x256 .f32) (ix2 0 r) = (m ((c : Thread nD τ).loc main_arg1) : FVec Ideal S256 .f32) (ix1 r) := by
  unfold V
  simp only [List.flatten_cons, List.flatten_nil, List.append_nil, List.cons_append, List.nil_append]
  after_results
  pointwise

theorem blk_x (c : Dev nD) (r : Fin 256) (j : Fin 5120) : xM.view.read (Elt Ideal) (iblk m c 3 at0) (ix2 r j) = (m ((c : Thread nD τ).loc main_arg0) : FVec Ideal S256x5120 .fp8e4m3) (ix2 r j) := by
  rw [← V_main_arg0 m c]
  show V m c main_arg0 _ = V m c main_arg0 _
  congr 1
  funext a; fin_cases a
  · refine Fin.ext ?_
    show 0 * 256 + 1 * r.val = r.val
    omega
  · refine Fin.ext ?_
    show 0 * 5120 + 1 * j.val = j.val
    omega

theorem blk_w (c : Dev nD) (e : Fin 21) (q : Fin 3072) : wsM.view.read (Elt Ideal) (iblk m c 2 at0) (ix2 e q) = (m ((c : Thread nD τ).loc main_arg5) : FVec Ideal S21x3072 .f32) (ix2 e q) := by
  rw [← V_main_arg5 m c]
  show V m c main_arg5 _ = V m c main_arg5 _
  congr 1
  funext a; fin_cases a
  · refine Fin.ext ?_
    show 0 * 21 + 1 * e.val = e.val
    omega
  · refine Fin.ext ?_
    show 0 * 3072 + 1 * q.val = q.val
    omega

theorem blk_s (c : Dev nD) (r : Fin 256) : xsM.view.read (Elt Ideal) (iblk m c 1 at0) (ix2 0 r) = (m ((c : Thread nD τ).loc main_arg1) : FVec Ideal S256 .f32) (ix1 r) := by
  rw [← V_scale m c]
  show V m c main_v0 _ = V m c main_v0 _
  congr 1
  funext a; fin_cases a
  · rfl
  · refine Fin.ext ?_
    show 0 * 256 + 1 * r.val = r.val
    omega

theorem arr_v (c : Dev nD) (e : Fin 21) (k : Fin 2560) (q : Fin 3072) : wvM.view.read (Elt Ideal) (V m c main_arg3) (ix3 e k q) = (m ((c : Thread nD τ).loc main_arg3) : FVec Ideal S21x2560x3072 .fp8e4m3) (ix3 e k q) := by
  rw [← V_main_arg3 m c]; rfl

theorem arr_m (c : Dev nD) (e : Fin 21) (i : Fin 160) (q : Fin 3072) : wmM.view.read (Elt Ideal) (V m c main_arg4) (ix3 e i q) = (m ((c : Thread nD τ).loc main_arg4) : IVec S21x160x3072 32) (ix3 e i q) := by
  rw [← V_main_arg4 m c]; rfl

/-- The kernel's result array. -/
theorem result_eq (c : Dev nD) (h : Fits (m ((c : Thread nD τ).loc main_arg2))) (h21 : Sof (m ((c : Thread nD τ).loc main_arg2)) 21 = 256)
    (hP : ∀ (e : Fin 21) (i : Fin 160) (q : Fin 3072), ∀ j < 8, code ((m ((c : Thread nD τ).loc main_arg4) : IVec S21x160x3072 32) (ix3 e i q)) (2 * j) < code ((m ((c : Thread nD τ).loc main_arg4) : IVec S21x160x3072 32) (ix3 e i q)) (2 * j + 1))
    {G : Buf (Elt Ideal) ((c : Thread nD τ).loc main_v1)}
    (hG : ((dats m 0 c).toRRel forgets0 (Rl m (fun c => Sm m c) c)).ArrAt 4 (cfg0 (F := Ideal)).N G) :
    G = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨X, ⟨Y, -, hX⟩, hA⟩ := Pipeline.RDat.ArrAt.emb_eq_of_wholeAt (t₀ := at0) hG (by decide +kernel)
  have hD : Done (Sm m c) (iblk m c 1 at0) (iblk m c 2 at0) (iblk m c 3 at0) (V m c main_arg3) (V m c main_arg4) X := hX
  funext i
  refine (hA i).trans ?_
  show yM.view.read (Elt Ideal) X i = _
  have hr : (i 0).val < 256 := (i 0).isLt
  obtain ⟨h1, h2⟩ := groupOf_spec (m ((c : Thread nD τ).loc main_arg2)) (i 0).val (by rw [h21]; exact hr)
  rw [← ix2_eta (n0 := 256) (n1 := 3072) i]
  refine (done_at (iblk m c 3 at0) (iblk m c 1 at0) (iblk m c 2 at0) (V m c main_arg3) (V m c main_arg4) (fun k _ => Sof_mono _ (Nat.le_succ k)) (fun k hk => h.le hk) h21 ?_ hD (i 0) (i 1) _ h1 h2).trans ?_
  · intro e i q j hj
    rw [arr_m m c e i q]
    exact hP e i q j hj
  · unfold kval result
    simp only [blk_x m c, blk_w m c, blk_s m c, arr_v m c, arr_m m c]
    rfl

end Cert.KernelIdeal.Hand

namespace Cert.ReferenceIdeal.Hand

open Cert.ReferenceIdeal Cert.ReferenceIdeal.Gen Cert.Hand
open Cert.KernelIdeal.Hand (val code)
open Idealize.ShloMosaic Idealize.ShloMosaic.TcCoe Idealize.ShloMosaic.Tactic
open Idealize.SL.Sem

variable (m : (ℓ : Loc nD τ sig) → Buf (Elt Ideal) ℓ) (ρ : Dev nD → PrngReg)

/-- Each window's block index at the one point. -/
theorem idx : ∀ t : Fin cfg0.N, win0_0.index t = ![0, 0] ∧ win0_1.index t = ![0, 0] ∧ win0_2.index t = ![0, 0, 0] ∧ win0_3.index t = ![0, 0, 0] ∧ win0_4.index t = ![0, 0, 0] ∧ win0_5.index t = ![0, 0, 0] ∧ win0_6.index t = ![0, 0, 0] :=
  (by decide +kernel : ∀ t : Fin grid0.N, _)

/-- Window `w`'s block is the whole of its array. -/
theorem iblk0 (c : Dev nD) : iblk m c 0 t0_0 = V m c main_arg0 := by
  blk_ext! [iblk, idx t0_0]
theorem iblk1 (c : Dev nD) : iblk m c 1 t0_0 = V m c main_v10 := by
  blk_ext! [iblk, idx t0_0]
theorem iblk2 (c : Dev nD) : iblk m c 2 t0_0 = V m c main_v11 := by
  blk_ext! [iblk, idx t0_0]
theorem iblk3 (c : Dev nD) : iblk m c 3 t0_0 = V m c main_v12 := by
  blk_ext! [iblk, idx t0_0]
theorem iblk4 (c : Dev nD) : iblk m c 4 t0_0 = V m c main_arg3 := by
  blk_ext! [iblk, idx t0_0]
theorem iblk5 (c : Dev nD) : iblk m c 5 t0_0 = V m c main_arg4 := by
  blk_ext! [iblk, idx t0_0]
theorem iblk6 (c : Dev nD) : iblk m c 6 t0_0 = V m c main_v13 := by
  blk_ext! [iblk, idx t0_0]

/-- The reference's result array. -/
theorem result_eq (c : Dev nD) (h : Fits (m ((c : Thread nD τ).loc main_arg2))) (h21 : Sof (m ((c : Thread nD τ).loc main_arg2)) 21 = 256)
    (hP : ∀ (e : Fin 21) (i : Fin 160) (q : Fin 3072), ∀ j < 8, code ((m ((c : Thread nD τ).loc main_arg4) : IVec S21x160x3072 32) (ix3 e i q)) (2 * j) < code ((m ((c : Thread nD τ).loc main_arg4) : IVec S21x160x3072 32) (ix3 e i q)) (2 * j + 1)) :
    (dats m 0 c).arrAt 7 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 7 t0_0 (by decide +kernel) _ fun i => ?_
  blk_simp
  rw [after0_7]
  frame_out
  rw [iblk0, iblk1, iblk2, iblk3, iblk4, iblk5, iblk6, V_main_arg0, V_main_arg3, V_main_arg4]
  have hr : (i 0).val < 256 := (i 0).isLt
  obtain ⟨h1, h2⟩ := groupOf_spec (m ((c : Thread nD τ).loc main_arg2)) (i 0).val (by rw [h21]; exact hr)
  have := ref_at (m ((c : Thread nD τ).loc main_arg0)) (V m c main_v10) (V m c main_v11) (V m c main_v12) (m ((c : Thread nD τ).loc main_arg3)) (m ((c : Thread nD τ).loc main_arg4)) (V m c main_v13)
    (Sof (m ((c : Thread nD τ).loc main_arg2))) (fun _ _ hij => Sof_mono _ hij) (fun k hk => h.le hk) (start_at m c) (end_at m c) (i 0) (i 1) _ h1 h2 (fun e k => hP e k (i 1))
  simp only [scale_at m c, scales_at m c] at this
  rw [ix2_eta (n0 := 256) (n1 := 3072) i] at this
  exact this

end Cert.ReferenceIdeal.Hand

end
-- ==== Proof.lean ====
/-
  The proof of `Cert.Claim`: the frames of the kernel, of its idealization and of the reference; the idealization rewrote no operation; over the extended reals the kernel and the reference leave the same result.
-/
module

public import proofs.«01_k».proof.Defs
public import proofs.«01_k».proof.Proof.Frame
public import proofs.«01_k».proof.Proof.Ideal.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Valid
public import proofs.«01_k».proof.Proof.Values
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem

/-- The facts that the precondition states. -/
theorem groups_facts : Cert.Pre_groups_fit.Facts where
  bcast_S_S21 := by decide
  reducesTo_S21_S_d0 := by decide
  h_S_ := by decide

/-- From arguments of the same contents the kernel and the reference end with the same result. -/
theorem algebraic : Cert.algebraic_KernelIdeal_ReferenceIdeal_pre_valid_problem (hKernelIdeal := Cert.KernelIdeal.Gen.facts) (hReferenceIdeal := Cert.ReferenceIdeal.Gen.facts) (hPre_valid_problem := Cert.Hand.valid_facts) := by
  intro m g m' g' hpre hagree
  have hv := fun c => Cert.Hand.fits_valid (hF := Cert.Hand.valid_facts) (hpre c)
  have hp := fun c => Cert.Hand.paired_valid (hF := Cert.Hand.valid_facts) (hpre c)
  refine ⟨_, (θ_run _ _ _).mono (fun r hr c => ⟨Cert.KernelIdeal.Hand.result_eq m c (hv c).1 (hv c).2 (hp c) ((hr.1 c).1 4), Cert.KernelIdeal.Hand.kept m c hr.1⟩)
      (Cert.KernelIdeal.Hand.run_main m g (fun c => Cert.KernelIdeal.Hand.Sm m c) fun c t => Cert.KernelIdeal.Hand.groups_of m c (hv c).1 t), ?_⟩
  have hE : ∀ c : Dev Cert.ReferenceIdeal.nD, _ := fun c => Cert.ReferenceIdeal.Hand.result_eq m' c
    (by rw [(hagree c).2.2.1]; exact (hv c).1) (by rw [(hagree c).2.2.1]; exact (hv c).2) (by rw [(hagree c).2.2.2.2.1]; exact hp c)
  run_from Cert.ReferenceIdeal.Gen.run_main m' g'
  · rw [hE c]
    obtain ⟨a0, a1, a2, a3, a4, a5⟩ := hagree c
    rw [a0, a1, a2, a3, a4, a5]
  · exact (Cert.ReferenceIdeal.Gen.V_main_arg1 m' c).trans (hagree c).2.1
  · exact (Cert.ReferenceIdeal.Gen.V_main_arg2 m' c).trans (hagree c).2.2.1
  · exact (Cert.ReferenceIdeal.Gen.V_main_arg5 m' c).trans (hagree c).2.2.2.2.2

/-- The claim. -/
theorem claim : Cert.Claim :=
  ⟨Cert.Kernel.Gen.facts, Cert.KernelIdeal.Gen.facts, Cert.ReferenceIdeal.Gen.facts, groups_facts, Cert.Hand.valid_facts,
    fun m ρ h => Cert.Kernel.Hand.frame m ρ fun c => Cert.Hand.fits_groups (hF := groups_facts) (h c),
    fun m ρ h => Cert.KernelIdeal.Hand.frame m ρ fun c => Cert.Hand.fits_groups (hF := groups_facts) (h c),
    fun m ρ h => Cert.KernelIdeal.Hand.frame m ρ fun c => (Cert.Hand.fits_valid (hF := Cert.Hand.valid_facts) (h c)).1,
    fun m ρ _ => Cert.ReferenceIdeal.Gen.frame m ρ,
    fun m ρ _ => Cert.ReferenceIdeal.Gen.frame m ρ,
    trivial, algebraic⟩

end Cert.Proof

end
